-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3)
      ∧ r.2.mem ((c.tc : Thread Cert.Kernel38.nD Cert.Kernel38.τ).loc Cert.Kernel38.main_arg4) = m ((c.tc : Thread Cert.Kernel38.nD Cert.Kernel38.τ).loc Cert.Kernel38.main_arg4))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
      ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3)
      ∧ r.2.mem ((c.tc : Thread Cert.Reference38Ideal.nD Cert.Reference38Ideal.τ).loc Cert.Reference38Ideal.main_arg4) = m ((c.tc : Thread Cert.Reference38Ideal.nD Cert.Reference38Ideal.τ).loc Cert.Reference38Ideal.main_arg4))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v132) = v1 c
          ∧ r.2.mem ((c.tc : Thread Cert.ReferenceIdeal.nD Cert.ReferenceIdeal.τ).loc Cert.ReferenceIdeal.main_v133) = v2 c
          ∧ r.2.mem ((c.tc : Thread Cert.ReferenceIdeal.nD Cert.ReferenceIdeal.τ).loc Cert.ReferenceIdeal.main_v76) = v3 c
          ∧ r.2.mem ((c.tc : Thread Cert.ReferenceIdeal.nD Cert.ReferenceIdeal.τ).loc Cert.ReferenceIdeal.main_v135) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v14) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_v6) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v36) = v0 c
          ∧ r.2.mem ((c.tc : Thread Cert.Reference17Ideal.nD Cert.Reference17Ideal.τ).loc Cert.Reference17Ideal.main_v37) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v36) = v0 c
          ∧ r.2.mem ((c.tc : Thread Cert.Reference18Ideal.nD Cert.Reference18Ideal.τ).loc Cert.Reference18Ideal.main_v37) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v31) = v0 c
          ∧ r.2.mem ((c.tc : Thread Cert.Reference19Ideal.nD Cert.Reference19Ideal.τ).loc Cert.Reference19Ideal.main_v32) = v1 c
          ∧ r.2.mem ((c.tc : Thread Cert.Reference19Ideal.nD Cert.Reference19Ideal.τ).loc Cert.Reference19Ideal.main_v33) = v2 c
          ∧ r.2.mem ((c.tc : Thread Cert.Reference19Ideal.nD Cert.Reference19Ideal.τ).loc Cert.Reference19Ideal.main_v36) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v1_1)) (v2 : (c : Dev Cert.Kernel20Ideal.nD) → Buf (Elt Ideal) ((c.tc : Thread Cert.Kernel20Ideal.nD Cert.Kernel20Ideal.τ).loc Cert.Kernel20Ideal.main_v1_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_v1_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v47) = v0 c
          ∧ r.2.mem ((c.tc : Thread Cert.Reference20Ideal.nD Cert.Reference20Ideal.τ).loc Cert.Reference20Ideal.main_v50) = v1 c
          ∧ r.2.mem ((c.tc : Thread Cert.Reference20Ideal.nD Cert.Reference20Ideal.τ).loc Cert.Reference20Ideal.main_v51) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v13) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v13) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v17) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v19) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v3) = v0 c
          ∧ r.2.mem ((c.tc : Thread Cert.Reference25Ideal.nD Cert.Reference25Ideal.τ).loc Cert.Reference25Ideal.main_v5) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v4_0)) (v1 : (c : Dev Cert.Kernel26Ideal.nD) → Buf (Elt Ideal) ((c.tc : Thread Cert.Kernel26Ideal.nD Cert.Kernel26Ideal.τ).loc Cert.Kernel26Ideal.main_v4_1)) (v2 : (c : Dev Cert.Kernel26Ideal.nD) → Buf (Elt Ideal) ((c.tc : Thread Cert.Kernel26Ideal.nD Cert.Kernel26Ideal.τ).loc Cert.Kernel26Ideal.main_v4_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v4_0) = v0 c
          ∧ r.2.mem ((c.tc : Thread Cert.Kernel26Ideal.nD Cert.Kernel26Ideal.τ).loc Cert.Kernel26Ideal.main_v4_1) = v1 c
          ∧ r.2.mem ((c.tc : Thread Cert.Kernel26Ideal.nD Cert.Kernel26Ideal.τ).loc Cert.Kernel26Ideal.main_v4_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v24) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v26) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v4_0)) (v1 : (c : Dev Cert.Kernel27Ideal.nD) → Buf (Elt Ideal) ((c.tc : Thread Cert.Kernel27Ideal.nD Cert.Kernel27Ideal.τ).loc Cert.Kernel27Ideal.main_v4_1)) (v2 : (c : Dev Cert.Kernel27Ideal.nD) → Buf (Elt Ideal) ((c.tc : Thread Cert.Kernel27Ideal.nD Cert.Kernel27Ideal.τ).loc Cert.Kernel27Ideal.main_v4_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v4_0) = v0 c
          ∧ r.2.mem ((c.tc : Thread Cert.Kernel27Ideal.nD Cert.Kernel27Ideal.τ).loc Cert.Kernel27Ideal.main_v4_1) = v1 c
          ∧ r.2.mem ((c.tc : Thread Cert.Kernel27Ideal.nD Cert.Kernel27Ideal.τ).loc Cert.Kernel27Ideal.main_v4_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v24) = v0 c
          ∧ r.2.mem ((c.tc : Thread Cert.Reference27Ideal.nD Cert.Reference27Ideal.τ).loc Cert.Reference27Ideal.main_v25) = v1 c
          ∧ r.2.mem ((c.tc : Thread Cert.Reference27Ideal.nD Cert.Reference27Ideal.τ).loc Cert.Reference27Ideal.main_v26) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v4_0)) (v1 : (c : Dev Cert.Kernel28Ideal.nD) → Buf (Elt Ideal) ((c.tc : Thread Cert.Kernel28Ideal.nD Cert.Kernel28Ideal.τ).loc Cert.Kernel28Ideal.main_v4_1)) (v2 : (c : Dev Cert.Kernel28Ideal.nD) → Buf (Elt Ideal) ((c.tc : Thread Cert.Kernel28Ideal.nD Cert.Kernel28Ideal.τ).loc Cert.Kernel28Ideal.main_v4_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v4_0) = v0 c
          ∧ r.2.mem ((c.tc : Thread Cert.Kernel28Ideal.nD Cert.Kernel28Ideal.τ).loc Cert.Kernel28Ideal.main_v4_1) = v1 c
          ∧ r.2.mem ((c.tc : Thread Cert.Kernel28Ideal.nD Cert.Kernel28Ideal.τ).loc Cert.Kernel28Ideal.main_v4_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v24) = v0 c
          ∧ r.2.mem ((c.tc : Thread Cert.Reference28Ideal.nD Cert.Reference28Ideal.τ).loc Cert.Reference28Ideal.main_v25) = v1 c
          ∧ r.2.mem ((c.tc : Thread Cert.Reference28Ideal.nD Cert.Reference28Ideal.τ).loc Cert.Reference28Ideal.main_v26) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v4_0)) (v1 : (c : Dev Cert.Kernel29Ideal.nD) → Buf (Elt Ideal) ((c.tc : Thread Cert.Kernel29Ideal.nD Cert.Kernel29Ideal.τ).loc Cert.Kernel29Ideal.main_v4_1)) (v2 : (c : Dev Cert.Kernel29Ideal.nD) → Buf (Elt Ideal) ((c.tc : Thread Cert.Kernel29Ideal.nD Cert.Kernel29Ideal.τ).loc Cert.Kernel29Ideal.main_v4_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v4_0) = v0 c
          ∧ r.2.mem ((c.tc : Thread Cert.Kernel29Ideal.nD Cert.Kernel29Ideal.τ).loc Cert.Kernel29Ideal.main_v4_1) = v1 c
          ∧ r.2.mem ((c.tc : Thread Cert.Kernel29Ideal.nD Cert.Kernel29Ideal.τ).loc Cert.Kernel29Ideal.main_v4_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v24) = v0 c
          ∧ r.2.mem ((c.tc : Thread Cert.Reference29Ideal.nD Cert.Reference29Ideal.τ).loc Cert.Reference29Ideal.main_v25) = v1 c
          ∧ r.2.mem ((c.tc : Thread Cert.Reference29Ideal.nD Cert.Reference29Ideal.τ).loc Cert.Reference29Ideal.main_v26) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v4_0)) (v1 : (c : Dev Cert.Kernel30Ideal.nD) → Buf (Elt Ideal) ((c.tc : Thread Cert.Kernel30Ideal.nD Cert.Kernel30Ideal.τ).loc Cert.Kernel30Ideal.main_v4_1)) (v2 : (c : Dev Cert.Kernel30Ideal.nD) → Buf (Elt Ideal) ((c.tc : Thread Cert.Kernel30Ideal.nD Cert.Kernel30Ideal.τ).loc Cert.Kernel30Ideal.main_v4_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v4_0) = v0 c
          ∧ r.2.mem ((c.tc : Thread Cert.Kernel30Ideal.nD Cert.Kernel30Ideal.τ).loc Cert.Kernel30Ideal.main_v4_1) = v1 c
          ∧ r.2.mem ((c.tc : Thread Cert.Kernel30Ideal.nD Cert.Kernel30Ideal.τ).loc Cert.Kernel30Ideal.main_v4_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v24) = v0 c
          ∧ r.2.mem ((c.tc : Thread Cert.Reference30Ideal.nD Cert.Reference30Ideal.τ).loc Cert.Reference30Ideal.main_v25) = v1 c
          ∧ r.2.mem ((c.tc : Thread Cert.Reference30Ideal.nD Cert.Reference30Ideal.τ).loc Cert.Reference30Ideal.main_v26) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v23) = v0 c
          ∧ r.2.mem ((c.tc : Thread Cert.Reference31Ideal.nD Cert.Reference31Ideal.τ).loc Cert.Reference31Ideal.main_v4) = v1 c
          ∧ r.2.mem ((c.tc : Thread Cert.Reference31Ideal.nD Cert.Reference31Ideal.τ).loc Cert.Reference31Ideal.main_v10) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v23) = v0 c
          ∧ r.2.mem ((c.tc : Thread Cert.Reference32Ideal.nD Cert.Reference32Ideal.τ).loc Cert.Reference32Ideal.main_v4) = v1 c
          ∧ r.2.mem ((c.tc : Thread Cert.Reference32Ideal.nD Cert.Reference32Ideal.τ).loc Cert.Reference32Ideal.main_v10) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v4_0)) (v1 : (c : Dev Cert.Kernel33Ideal.nD) → Buf (Elt Ideal) ((c.tc : Thread Cert.Kernel33Ideal.nD Cert.Kernel33Ideal.τ).loc Cert.Kernel33Ideal.main_v4_1)) (v2 : (c : Dev Cert.Kernel33Ideal.nD) → Buf (Elt Ideal) ((c.tc : Thread Cert.Kernel33Ideal.nD Cert.Kernel33Ideal.τ).loc Cert.Kernel33Ideal.main_v4_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v4_0) = v0 c
          ∧ r.2.mem ((c.tc : Thread Cert.Kernel33Ideal.nD Cert.Kernel33Ideal.τ).loc Cert.Kernel33Ideal.main_v4_1) = v1 c
          ∧ r.2.mem ((c.tc : Thread Cert.Kernel33Ideal.nD Cert.Kernel33Ideal.τ).loc Cert.Kernel33Ideal.main_v4_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v24) = v0 c
          ∧ r.2.mem ((c.tc : Thread Cert.Reference33Ideal.nD Cert.Reference33Ideal.τ).loc Cert.Reference33Ideal.main_v25) = v1 c
          ∧ r.2.mem ((c.tc : Thread Cert.Reference33Ideal.nD Cert.Reference33Ideal.τ).loc Cert.Reference33Ideal.main_v26) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v4_0)) (v1 : (c : Dev Cert.Kernel34Ideal.nD) → Buf (Elt Ideal) ((c.tc : Thread Cert.Kernel34Ideal.nD Cert.Kernel34Ideal.τ).loc Cert.Kernel34Ideal.main_v4_1)) (v2 : (c : Dev Cert.Kernel34Ideal.nD) → Buf (Elt Ideal) ((c.tc : Thread Cert.Kernel34Ideal.nD Cert.Kernel34Ideal.τ).loc Cert.Kernel34Ideal.main_v4_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v4_0) = v0 c
          ∧ r.2.mem ((c.tc : Thread Cert.Kernel34Ideal.nD Cert.Kernel34Ideal.τ).loc Cert.Kernel34Ideal.main_v4_1) = v1 c
          ∧ r.2.mem ((c.tc : Thread Cert.Kernel34Ideal.nD Cert.Kernel34Ideal.τ).loc Cert.Kernel34Ideal.main_v4_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v24) = v0 c
          ∧ r.2.mem ((c.tc : Thread Cert.Reference34Ideal.nD Cert.Reference34Ideal.τ).loc Cert.Reference34Ideal.main_v25) = v1 c
          ∧ r.2.mem ((c.tc : Thread Cert.Reference34Ideal.nD Cert.Reference34Ideal.τ).loc Cert.Reference34Ideal.main_v26) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v4_0)) (v1 : (c : Dev Cert.Kernel35Ideal.nD) → Buf (Elt Ideal) ((c.tc : Thread Cert.Kernel35Ideal.nD Cert.Kernel35Ideal.τ).loc Cert.Kernel35Ideal.main_v4_1)) (v2 : (c : Dev Cert.Kernel35Ideal.nD) → Buf (Elt Ideal) ((c.tc : Thread Cert.Kernel35Ideal.nD Cert.Kernel35Ideal.τ).loc Cert.Kernel35Ideal.main_v4_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v4_0) = v0 c
          ∧ r.2.mem ((c.tc : Thread Cert.Kernel35Ideal.nD Cert.Kernel35Ideal.τ).loc Cert.Kernel35Ideal.main_v4_1) = v1 c
          ∧ r.2.mem ((c.tc : Thread Cert.Kernel35Ideal.nD Cert.Kernel35Ideal.τ).loc Cert.Kernel35Ideal.main_v4_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v24) = v0 c
          ∧ r.2.mem ((c.tc : Thread Cert.Reference35Ideal.nD Cert.Reference35Ideal.τ).loc Cert.Reference35Ideal.main_v25) = v1 c
          ∧ r.2.mem ((c.tc : Thread Cert.Reference35Ideal.nD Cert.Reference35Ideal.τ).loc Cert.Reference35Ideal.main_v26) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v23) = v0 c
          ∧ r.2.mem ((c.tc : Thread Cert.Reference36Ideal.nD Cert.Reference36Ideal.τ).loc Cert.Reference36Ideal.main_v4) = v1 c
          ∧ r.2.mem ((c.tc : Thread Cert.Reference36Ideal.nD Cert.Reference36Ideal.τ).loc Cert.Reference36Ideal.main_v10) = v2 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v23) = v0 c
          ∧ r.2.mem ((c.tc : Thread Cert.Reference37Ideal.nD Cert.Reference37Ideal.τ).loc Cert.Reference37Ideal.main_v4) = v1 c
          ∧ r.2.mem ((c.tc : Thread Cert.Reference37Ideal.nD Cert.Reference37Ideal.τ).loc Cert.Reference37Ideal.main_v10) = v2 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)
      ∧ m' ((c.tc : Thread Cert.Reference38Ideal.nD Cert.Reference38Ideal.τ).loc Cert.Reference38Ideal.main_arg4) = m ((c.tc : Thread Cert.Kernel38Ideal.nD Cert.Kernel38Ideal.τ).loc Cert.Kernel38Ideal.main_arg4)) →
    ∃ (v0 : (c : Dev Cert.Kernel38Ideal.nD) → Buf (Elt Ideal) ((c.tc : Thread Cert.Kernel38Ideal.nD Cert.Kernel38Ideal.τ).loc Cert.Kernel38Ideal.main_v4)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v4) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
          ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v54) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3)
          ∧ r.2.mem ((c.tc : Thread Cert.Reference38Ideal.nD Cert.Reference38Ideal.τ).loc Cert.Reference38Ideal.main_arg4) = m' ((c.tc : Thread Cert.Reference38Ideal.nD Cert.Reference38Ideal.τ).loc Cert.Reference38Ideal.main_arg4))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v4_0)) (v1 : (c : Dev Cert.Kernel39Ideal.nD) → Buf (Elt Ideal) ((c.tc : Thread Cert.Kernel39Ideal.nD Cert.Kernel39Ideal.τ).loc Cert.Kernel39Ideal.main_v4_1)) (v2 : (c : Dev Cert.Kernel39Ideal.nD) → Buf (Elt Ideal) ((c.tc : Thread Cert.Kernel39Ideal.nD Cert.Kernel39Ideal.τ).loc Cert.Kernel39Ideal.main_v4_2)) (v3 : (c : Dev Cert.Kernel39Ideal.nD) → Buf (Elt Ideal) ((c.tc : Thread Cert.Kernel39Ideal.nD Cert.Kernel39Ideal.τ).loc Cert.Kernel39Ideal.main_v4_3)) (v4 : (c : Dev Cert.Kernel39Ideal.nD) → Buf (Elt Ideal) ((c.tc : Thread Cert.Kernel39Ideal.nD Cert.Kernel39Ideal.τ).loc Cert.Kernel39Ideal.main_v4_4)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v4_0) = v0 c
          ∧ r.2.mem ((c.tc : Thread Cert.Kernel39Ideal.nD Cert.Kernel39Ideal.τ).loc Cert.Kernel39Ideal.main_v4_1) = v1 c
          ∧ r.2.mem ((c.tc : Thread Cert.Kernel39Ideal.nD Cert.Kernel39Ideal.τ).loc Cert.Kernel39Ideal.main_v4_2) = v2 c
          ∧ r.2.mem ((c.tc : Thread Cert.Kernel39Ideal.nD Cert.Kernel39Ideal.τ).loc Cert.Kernel39Ideal.main_v4_3) = v3 c
          ∧ r.2.mem ((c.tc : Thread Cert.Kernel39Ideal.nD Cert.Kernel39Ideal.τ).loc Cert.Kernel39Ideal.main_v4_4) = v4 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v41) = v0 c
          ∧ r.2.mem ((c.tc : Thread Cert.Reference39Ideal.nD Cert.Reference39Ideal.τ).loc Cert.Reference39Ideal.main_v52) = v1 c
          ∧ r.2.mem ((c.tc : Thread Cert.Reference39Ideal.nD Cert.Reference39Ideal.τ).loc Cert.Reference39Ideal.main_v70) = v2 c
          ∧ r.2.mem ((c.tc : Thread Cert.Reference39Ideal.nD Cert.Reference39Ideal.τ).loc Cert.Reference39Ideal.main_v73) = v3 c
          ∧ r.2.mem ((c.tc : Thread Cert.Reference39Ideal.nD Cert.Reference39Ideal.τ).loc Cert.Reference39Ideal.main_v76) = v4 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)) →
    ∃ (v0 : (c : Dev Cert.Kernel40Ideal.nD) → Buf (Elt Ideal) ((c.tc : Thread Cert.Kernel40Ideal.nD Cert.Kernel40Ideal.τ).loc Cert.Kernel40Ideal.main_v8)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v8) = v0 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v1) = v0 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
-- ==== Kernel.lean ====
abbrev S8192x8192 : Shape := ⟨2, ![8192, 8192]⟩
abbrev S512 : Shape := ⟨1, ![512]⟩
abbrev S8x128x128 : Shape := ⟨3, ![8, 128, 128]⟩
abbrev S8x128 : Shape := ⟨2, ![8, 128]⟩
abbrev S8192x512 : Shape := ⟨2, ![8192, 512]⟩
abbrev S1x512 : Shape := ⟨2, ![1, 512]⟩
abbrev S128x8 : Shape := ⟨2, ![128, 8]⟩
abbrev S_ : Shape := ⟨0, ![]⟩
abbrev S128x128 : Shape := ⟨2, ![128, 128]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S128x512 : Shape := ⟨2, ![128, 512]⟩
abbrev S1x128x128 : Shape := ⟨3, ![1, 128, 128]⟩
abbrev S256x128 : Shape := ⟨2, ![256, 128]⟩
abbrev S256x384 : Shape := ⟨2, ![256, 384]⟩
abbrev S256x256 : Shape := ⟨2, ![256, 256]⟩
abbrev S7x128x128 : Shape := ⟨3, ![7, 128, 128]⟩
abbrev S6x128x128 : Shape := ⟨3, ![6, 128, 128]⟩
abbrev S5x128x128 : Shape := ⟨3, ![5, 128, 128]⟩
abbrev S2x128x128 : Shape := ⟨3, ![2, 128, 128]⟩
abbrev S4x128x128 : Shape := ⟨3, ![4, 128, 128]⟩
abbrev S3x128x128 : Shape := ⟨3, ![3, 128, 128]⟩

abbrev nBuf : Space → Nat
  | .hbm => 18
  | .vmem => 14
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S512, .f32⟩
  | .hbm, ⟨3, _⟩ => ⟨S512, .f32⟩
  | .hbm, ⟨4, _⟩ => ⟨S8x128x128, .f32⟩
  | .hbm, ⟨5, _⟩ => ⟨S8x128, .f32⟩
  | .hbm, ⟨6, _⟩ => ⟨S8192x512, .f32⟩
  | .hbm, ⟨7, _⟩ => ⟨S1x512, .f32⟩
  | .hbm, ⟨8, _⟩ => ⟨S1x512, .f32⟩
  | .hbm, ⟨9, _⟩ => ⟨S128x8, .f32⟩
  | .hbm, ⟨10, _⟩ => ⟨S_, .i32⟩
  | .hbm, ⟨11, _⟩ => ⟨S_, .f32⟩
  | .hbm, ⟨12, _⟩ => ⟨S128x128, .f32⟩
  | .hbm, ⟨13, _⟩ => ⟨S8192x8192, .f32⟩
  | .hbm, ⟨14, _⟩ => ⟨S1x512, .f32⟩
  | .hbm, ⟨15, _⟩ => ⟨S1x512, .f32⟩
  | .hbm, ⟨16, _⟩ => ⟨S8x128x128, .f32⟩
  | .hbm, ⟨17, _⟩ => ⟨S128x128, .f32⟩
  | .local _ .vmem, ⟨0, _⟩ => ⟨S256x1024, .f32⟩
  | .local _ .vmem, ⟨1, _⟩ => ⟨S256x1024, .f32⟩
  | .local _ .vmem, ⟨2, _⟩ => ⟨S1x512, .f32⟩
  | .local _ .vmem, ⟨3, _⟩ => ⟨S1x512, .f32⟩
  | .local _ .vmem, ⟨4, _⟩ => ⟨S8x128x128, .f32⟩
  | .local _ .vmem, ⟨5, _⟩ => ⟨S128x128, .f32⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S1x512, .f32⟩
  | .local _ .vmem, ⟨11, _⟩ => ⟨S1x512, .f32⟩
  | .local _ .vmem, ⟨12, _⟩ => ⟨S8x128x128, .f32⟩
  | .local _ .vmem, ⟨13, _⟩ => ⟨S128x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x8192 : Shape := ⟨2, ![8192, 8192]⟩
abbrev S512 : Shape := ⟨1, ![512]⟩
abbrev S8x128x128 : Shape := ⟨3, ![8, 128, 128]⟩
abbrev S8x128 : Shape := ⟨2, ![8, 128]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S64x128x8x64 : Shape := ⟨4, ![64, 128, 8, 64]⟩
abbrev S128x128 : Shape := ⟨2, ![128, 128]⟩
abbrev S1x128x128 : Shape := ⟨3, ![1, 128, 128]⟩
abbrev S8x64x64x128 : Shape := ⟨4, ![8, 64, 64, 128]⟩
abbrev S128x8 : Shape := ⟨2, ![128, 8]⟩
abbrev S128x8x1 : Shape := ⟨3, ![128, 8, 1]⟩
abbrev S1x128x8x1 : Shape := ⟨4, ![1, 128, 8, 1]⟩
abbrev S8192x2048 : Shape := ⟨2, ![8192, 2048]⟩
abbrev S8192x5120 : Shape := ⟨2, ![8192, 5120]⟩

abbrev nBuf : Space → Nat
  | .hbm => 193
  | .vmem => 0
  | .smem => 0
  | _ => 0

abbrev hbmTy0_0 (i : Nat) : BufTy := match i % 128 with
  | 0 => ⟨S8192x8192, .f32⟩
  | 1 => ⟨S8192x8192, .f32⟩
  | 2 => ⟨S512, .f32⟩
  | 3 => ⟨S512, .f32⟩
  | 4 => ⟨S8x128x128, .f32⟩
  | 5 => ⟨S8x128, .f32⟩
  | 6 => ⟨S8192x512, .f32⟩
  | 7 => ⟨S8192x512, .f32⟩
  | 8 => ⟨S8192x512, .f32⟩
  | 9 => ⟨S_, .f32⟩
  | 10 => ⟨S8192x512, .f32⟩
  | 11 => ⟨S8192x512, .f32⟩
  | 12 => ⟨S_, .f32⟩
  | 13 => ⟨S8192x512, .f32⟩
  | 14 => ⟨S8192x512, .f32⟩
  | 15 => ⟨S8192x512, .f32⟩
  | 16 => ⟨S8192x512, .f32⟩
  | 17 => ⟨S8192x512, .f32⟩
  | 18 => ⟨S8192x512, .f32⟩
  | 19 => ⟨S_, .f32⟩
  | 20 => ⟨S8192x512, .f32⟩
  | 21 => ⟨S8192x512, .f32⟩
  | 22 => ⟨S8192x512, .f32⟩
  | 23 => ⟨S_, .f32⟩
  | 24 => ⟨S8192x512, .f32⟩
  | 25 => ⟨S8192x512, .f32⟩
  | 26 => ⟨S_, .f32⟩
  | 27 => ⟨S8192x512, .f32⟩
  | 28 => ⟨S8192x512, .f32⟩
  | 29 => ⟨S8192x512, .f32⟩
  | 30 => ⟨S8192x512, .f32⟩
  | 31 => ⟨S8192x512, .f32⟩
  | 32 => ⟨S8192x512, .f32⟩
  | 33 => ⟨S_, .f32⟩
  | 34 => ⟨S8192x512, .f32⟩
  | 35 => ⟨S8192x512, .f32⟩
  | 36 => ⟨S8192x512, .f32⟩
  | 37 => ⟨S_, .f32⟩
  | 38 => ⟨S8192, .f32⟩
  | 39 => ⟨S8192x1, .f32⟩
  | 40 => ⟨S_, .f32⟩
  | 41 => ⟨S8192x1, .f32⟩
  | 42 => ⟨S8192x1, .f32⟩
  | 43 => ⟨S8192x512, .f32⟩
  | 44 => ⟨S8192x512, .f32⟩
  | 45 => ⟨S8192x512, .f32⟩
  | 46 => ⟨S_, .f32⟩
  | 47 => ⟨S8192, .f32⟩
  | 48 => ⟨S8192x1, .f32⟩
  | 49 => ⟨S_, .f32⟩
  | 50 => ⟨S8192x1, .f32⟩
  | 51 => ⟨S8192x1, .f32⟩
  | 52 => ⟨S_, .f32⟩
  | 53 => ⟨S8192x1, .f32⟩
  | 54 => ⟨S8192x1, .f32⟩
  | 55 => ⟨S8192x1, .f32⟩
  | 56 => ⟨S8192x1, .f32⟩
  | 57 => ⟨S_, .f32⟩
  | 58 => ⟨S8192x1, .f32⟩
  | 59 => ⟨S8192x1, .f32⟩
  | 60 => ⟨S8192x512, .f32⟩
  | 61 => ⟨S8192x512, .f32⟩
  | 62 => ⟨S1x512, .f32⟩
  | 63 => ⟨S8192x512, .f32⟩
  | 64 => ⟨S8192x512, .f32⟩
  | 65 => ⟨S1x512, .f32⟩
  | 66 => ⟨S8192x512, .f32⟩
  | 67 => ⟨S8192x512, .f32⟩
  | 68 => ⟨S64x128x8x64, .f32⟩
  | 69 => ⟨S_, .i1⟩
  | 70 => ⟨S128x128, .i1⟩
  | 71 => ⟨S128x128, .i32⟩
  | 72 => ⟨S_, .i32⟩
  | 73 => ⟨S128x128, .i32⟩
  | 74 => ⟨S128x128, .i32⟩
  | 75 => ⟨S128x128, .i32⟩
  | 76 => ⟨S128x128, .i1⟩
  | 77 => ⟨S_, .i1⟩
  | 78 => ⟨S128x128, .i1⟩
  | 79 => ⟨S128x128, .i1⟩
  | 80 => ⟨S1x128x128, .i1⟩
  | 81 => ⟨S_, .i32⟩
  | 82 => ⟨S_, .f32⟩
  | 83 => ⟨S8x128x128, .i1⟩
  | 84 => ⟨S8x128x128, .f32⟩
  | 85 => ⟨S8x128x128, .f32⟩
  | 86 => ⟨S_, .f32⟩
  | 87 => ⟨S8x128x128, .f32⟩
  | 88 => ⟨S8x64x64x128, .f32⟩
  | 89 => ⟨S64x128x8x64, .f32⟩
  | 90 => ⟨S128x8, .f32⟩
  | 91 => ⟨S128x8x1, .f32⟩
  | 92 => ⟨S1x128x8x1, .f32⟩
  | 93 => ⟨S64x128x8x64, .f32⟩
  | 94 => ⟨S64x128x8x64, .f32⟩
  | 95 => ⟨S8192x512, .f32⟩
  | 96 => ⟨S8192x512, .f32⟩
  | 97 => ⟨S8192x512, .f32⟩
  | 98 => ⟨S8192x512, .f32⟩
  | 99 => ⟨S64x128x8x64, .f32⟩
  | 100 => ⟨S_, .f32⟩
  | 101 => ⟨S128x8, .f32⟩
  | 102 => ⟨S1x128x8x1, .f32⟩
  | 103 => ⟨S_, .f32⟩
  | 104 => ⟨S128x8, .f32⟩
  | 105 => ⟨S128x8x1, .f32⟩
  | 106 => ⟨S_, .f32⟩
  | 107 => ⟨S128x8, .f32⟩
  | 108 => ⟨S8x128, .f32⟩
  | 109 => ⟨S8x64x64x128, .f32⟩
  | 110 => ⟨S8x128x128, .f32⟩
  | 111 => ⟨S8x64x64x128, .f32⟩
  | 112 => ⟨S64x128x8x64, .f32⟩
  | 113 => ⟨S_, .f32⟩
  | 114 => ⟨S8x128x128, .f32⟩
  | 115 => ⟨S8x128x128, .f32⟩
  | 116 => ⟨S8192x512, .f32⟩
  | 117 => ⟨S_, .f32⟩
  | 118 => ⟨S512, .f32⟩
  | 119 => ⟨S1x512, .f32⟩
  | 120 => ⟨S_, .f32⟩
  | 121 => ⟨S512, .f32⟩
  | 122 => ⟨S8192x512, .f32⟩
  | 123 => ⟨S_, .f32⟩
  | 124 => ⟨S512, .f32⟩
  | 125 => ⟨S1x512, .f32⟩
  | 126 => ⟨S8192x512, .f32⟩
  | 127 => ⟨S8192x512, .f32⟩
  | _ => ⟨S8192x8192, .f32⟩

abbrev hbmTy0_1 (i : Nat) : BufTy := match i % 128 with
  | 0 => ⟨S_, .f32⟩
  | 1 => ⟨S512, .f32⟩
  | 2 => ⟨S8192x512, .f32⟩
  | 3 => ⟨S_, .f32⟩
  | 4 => ⟨S8192, .f32⟩
  | 5 => ⟨S8192x1, .f32⟩
  | 6 => ⟨S8192x512, .f32⟩
  | 7 => ⟨S8192x512, .f32⟩
  | 8 => ⟨S8192x1, .f32⟩
  | 9 => ⟨S_, .f32⟩
  | 10 => ⟨S8192x1, .f32⟩
  | 11 => ⟨S8192x1, .f32⟩
  | 12 => ⟨S_, .f32⟩
  | 13 => ⟨S8192, .f32⟩
  | 14 => ⟨S8192x512, .f32⟩
  | 15 => ⟨S8192x512, .f32⟩
  | 16 => ⟨S8192x512, .f32⟩
  | 17 => ⟨S8192x512, .f32⟩
  | 18 => ⟨S8192x512, .f32⟩
  | 19 => ⟨S8192x512, .f32⟩
  | 20 => ⟨S_, .f32⟩
  | 21 => ⟨S8192, .f32⟩
  | 22 => ⟨S8192x1, .f32⟩
  | 23 => ⟨S_, .f32⟩
  | 24 => ⟨S8192x1, .f32⟩
  | 25 => ⟨S8192x1, .f32⟩
  | 26 => ⟨S_, .f32⟩
  | 27 => ⟨S8192, .f32⟩
  | 28 => ⟨S8192x512, .f32⟩
  | 29 => ⟨S8192x512, .f32⟩
  | 30 => ⟨S8192x512, .f32⟩
  | 31 => ⟨S8192x512, .f32⟩
  | 32 => ⟨S_, .f32⟩
  | 33 => ⟨S8192x512, .f32⟩
  | 34 => ⟨S8192x512, .f32⟩
  | 35 => ⟨S8192x512, .f32⟩
  | 36 => ⟨S_, .f32⟩
  | 37 => ⟨S8192x512, .f32⟩
  | 38 => ⟨S8192x512, .f32⟩
  | 39 => ⟨S_, .f32⟩
  | 40 => ⟨S8192x512, .f32⟩
  | 41 => ⟨S8192x512, .f32⟩
  | 42 => ⟨S8192x512, .f32⟩
  | 43 => ⟨S8192x512, .f32⟩
  | 44 => ⟨S8192x512, .f32⟩
  | 45 => ⟨S_, .f32⟩
  | 46 => ⟨S8192x512, .f32⟩
  | 47 => ⟨S8192x512, .f32⟩
  | 48 => ⟨S8192x512, .f32⟩
  | 49 => ⟨S_, .f32⟩
  | 50 => ⟨S8192x512, .f32⟩
  | 51 => ⟨S8192x512, .f32⟩
  | 52 => ⟨S_, .f32⟩
  | 53 => ⟨S8192x512, .f32⟩
  | 54 => ⟨S8192x512, .f32⟩
  | 55 => ⟨S8192x512, .f32⟩
  | 56 => ⟨S8192x2048, .f32⟩
  | 57 => ⟨S8192x5120, .f32⟩
  | 58 => ⟨S8192x8192, .f32⟩
  | 59 => ⟨S1x512, .f32⟩
  | 60 => ⟨S1x512, .f32⟩
  | 61 => ⟨S128x8, .f32⟩
  | 62 => ⟨S_, .i32⟩
  | 63 => ⟨S_, .f32⟩
  | 64 => ⟨S128x128, .f32⟩
  | _ => ⟨S8192x8192, .f32⟩

abbrev hbmTy (i : Nat) : BufTy := match i / 128 with
  | 0 => hbmTy0_0 i
  | 1 => hbmTy0_1 i
  | _ => ⟨S8192x8192, .f32⟩

abbrev bufTy : (tb : Table) → Fin (tcTables nBuf tb) → BufTy
  | .hbm, ⟨i, _⟩ => hbmTy i
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c : Ref sig .tc := ⟨.hbm, 69, rfl⟩
abbrev main_v50 : Ref sig .tc := ⟨.hbm, 70, rfl⟩
abbrev main_call0_v0 : Ref sig .tc := ⟨.hbm, 71, rfl⟩
abbrev main_call0_c : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_c_0 : Ref sig .tc := ⟨.hbm, 77, rfl⟩
abbrev main_call0_v5 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_call1_v0 : Ref sig .tc := ⟨.hbm, 82, rfl⟩
abbrev main_v53_1 : Ref sig .tc := ⟨.hbm, 83, rfl⟩
abbrev main_call1_v2 : Ref sig .tc := ⟨.hbm, 84, rfl⟩
abbrev main_v53_0 : Ref sig .tc := ⟨.hbm, 85, rfl⟩
abbrev main_call1_cst : Ref sig .tc := ⟨.hbm, 86, rfl⟩
abbrev main_v53_2 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_12 : Ref sig .tc := ⟨.hbm, 100, rfl⟩
abbrev main_v66 : Ref sig .tc := ⟨.hbm, 101, rfl⟩
abbrev main_v67 : Ref sig .tc := ⟨.hbm, 102, rfl⟩
abbrev main_cst_13 : Ref sig .tc := ⟨.hbm, 103, rfl⟩
abbrev main_v68 : Ref sig .tc := ⟨.hbm, 104, rfl⟩
abbrev main_v69 : Ref sig .tc := ⟨.hbm, 105, rfl⟩
abbrev main_cst_14 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_call2_cst : Ref sig .tc := ⟨.hbm, 113, rfl⟩
abbrev main_call2_v0 : Ref sig .tc := ⟨.hbm, 114, rfl⟩
abbrev main_v76 : Ref sig .tc := ⟨.hbm, 115, rfl⟩
abbrev main_v77 : Ref sig .tc := ⟨.hbm, 116, rfl⟩
abbrev main_cst_15 : Ref sig .tc := ⟨.hbm, 117, rfl⟩
abbrev main_v78 : Ref sig .tc := ⟨.hbm, 118, rfl⟩
abbrev main_v79 : Ref sig .tc := ⟨.hbm, 119, rfl⟩
abbrev main_cst_16 : Ref sig .tc := ⟨.hbm, 120, rfl⟩
abbrev main_v80 : Ref sig .tc := ⟨.hbm, 121, rfl⟩
abbrev main_v81 : Ref sig .tc := ⟨.hbm, 122, rfl⟩
abbrev main_cst_17 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_18 : Ref sig .tc := ⟨.hbm, 128, rfl⟩
abbrev main_v86 : Ref sig .tc := ⟨.hbm, 129, rfl⟩
abbrev main_v87 : Ref sig .tc := ⟨.hbm, 130, rfl⟩
abbrev main_cst_19 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_20 : Ref sig .tc := ⟨.hbm, 137, rfl⟩
abbrev main_v93 : Ref sig .tc := ⟨.hbm, 138, rfl⟩
abbrev main_v94 : Ref sig .tc := ⟨.hbm, 139, rfl⟩
abbrev main_cst_21 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_cst_22 : Ref sig .tc := ⟨.hbm, 148, rfl⟩
abbrev main_v102 : Ref sig .tc := ⟨.hbm, 149, rfl⟩
abbrev main_v103 : Ref sig .tc := ⟨.hbm, 150, rfl⟩
abbrev main_cst_23 : Ref sig .tc := ⟨.hbm, 151, rfl⟩
abbrev main_v104 : Ref sig .tc := ⟨.hbm, 152, rfl⟩
abbrev main_v105 : Ref sig .tc := ⟨.hbm, 153, rfl⟩
abbrev main_cst_24 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_cst_25 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_cst_26 : Ref sig .tc := ⟨.hbm, 164, rfl⟩
abbrev main_v114 : Ref sig .tc := ⟨.hbm, 165, rfl⟩
abbrev main_v115 : Ref sig .tc := ⟨.hbm, 166, rfl⟩
abbrev main_cst_27 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_cst_28 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_cst_29 : Ref sig .tc := ⟨.hbm, 177, rfl⟩
abbrev main_v124 : Ref sig .tc := ⟨.hbm, 178, rfl⟩
abbrev main_v125 : Ref sig .tc := ⟨.hbm, 179, rfl⟩
abbrev main_cst_30 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_c_31 : Ref sig .tc := ⟨.hbm, 190, rfl⟩
abbrev main_call3_v0 : Ref sig .tc := ⟨.hbm, 191, rfl⟩
abbrev main_v135 : Ref sig .tc := ⟨.hbm, 192, rfl⟩

abbrev nD : Nat := 1
abbrev τ : Topo := Topo.v7x

variable {F : FTy → Type} [FloatOps F]
-- ==== Kernel2.lean ====
abbrev S8192x1024 : Shape := ⟨2, ![8192, 1024]⟩
abbrev S8192x8192 : Shape := ⟨2, ![8192, 8192]⟩
abbrev S1024x8192 : Shape := ⟨2, ![1024, 8192]⟩
abbrev S1x8192 : Shape := ⟨2, ![1, 8192]⟩
abbrev S1024x1024 : Shape := ⟨2, ![1024, 1024]⟩
abbrev S1024x2048 : Shape := ⟨2, ![1024, 2048]⟩
abbrev S1x2048 : Shape := ⟨2, ![1, 2048]⟩
abbrev S2048 : Shape := ⟨1, ![2048]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S8192x8192, .f32⟩
  | .hbm, ⟨2, _⟩ => ⟨S1024x8192, .bf16⟩
  | .hbm, ⟨3, _⟩ => ⟨S1x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .f32⟩
  | .local _ .vmem, ⟨3, _⟩ => ⟨S1024x2048, .f32⟩
  | .local _ .vmem, ⟨4, _⟩ => ⟨S1024x2048, .bf16⟩
  | .local _ .vmem, ⟨5, _⟩ => ⟨S1024x2048, .bf16⟩
  | .local _ .vmem, ⟨6, _⟩ => ⟨S1x2048, .f32⟩
  | .local _ .vmem, ⟨7, _⟩ => ⟨S1x2048, .f32⟩
  | .local _ .vmem, ⟨8, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c0_i32_7 : BitVec 32 := 0#32
  let v13 : BitVec 1 := Scalar.cmpi .eq arg1 c0_i32_7
  let arg2 : BitVec 32 := BitVec.ofNat 32 (i 2).val
  let c0_i32_8 : BitVec 32 := 0#32
  let v14 : BitVec 1 := Scalar.cmpi .eq arg2 c0_i32_8
  let v15 : BitVec 1 := Scalar.andi v13 v14
  let v16 : BitVec 32 := Scalar.extui v15
  let c0_i32_9 : BitVec 32 := 0#32
  let v17 : BitVec 1 := Scalar.cmpi .ne v16 c0_i32_9
  v17

def k0_cond5 (i : grid0.Coords) : BitVec 1 :=
  let arg1 : BitVec 32 := BitVec.ofNat 32 (i 1).val
  let c0_i32_10 : BitVec 32 := 0#32
  let v18 : BitVec 1 := Scalar.cmpi .eq arg1 c0_i32_10
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference2Ideal.lean ====
abbrev S8192x1024 : Shape := ⟨2, ![8192, 1024]⟩
abbrev S8192x8192 : Shape := ⟨2, ![8192, 8192]⟩
abbrev S_ : Shape := ⟨0, ![]⟩
abbrev S1024x8192 : Shape := ⟨2, ![1024, 8192]⟩
abbrev S8192 : Shape := ⟨1, ![8192]⟩
abbrev S1x8192 : Shape := ⟨2, ![1, 8192]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x8192, .f32⟩
  | .hbm, ⟨2, _⟩ => ⟨S_, .f32⟩
  | .hbm, ⟨3, _⟩ => ⟨S1024x8192, .f32⟩
  | .hbm, ⟨4, _⟩ => ⟨S_, .f32⟩
  | .hbm, ⟨5, _⟩ => ⟨S8192, .f32⟩
  | .hbm, ⟨6, _⟩ => ⟨S8192x1024, .f32⟩
  | .hbm, ⟨7, _⟩ => ⟨S8192x8192, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S1x8192, .f32⟩
  | .hbm, ⟨15, _⟩ => ⟨S_, .f32⟩
  | .hbm, ⟨16, _⟩ => ⟨S8192, .f32⟩
  | .hbm, ⟨17, _⟩ => ⟨S8192x1024, .f32⟩
  | .hbm, ⟨18, _⟩ => ⟨S1024x8192, .f32⟩
  | .hbm, ⟨19, _⟩ => ⟨S1024x8192, .bf16⟩
  | .hbm, ⟨20, _⟩ => ⟨S1x8192, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel3.lean ====
abbrev S8192x8192 : Shape := ⟨2, ![8192, 8192]⟩
abbrev S1024x8192 : Shape := ⟨2, ![1024, 8192]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S1024x8192, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x8192 : Shape := ⟨2, ![8192, 8192]⟩
abbrev S1024x8192 : Shape := ⟨2, ![1024, 8192]⟩
abbrev S_ : Shape := ⟨0, ![]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S1024x8192, .bf16⟩
  | .hbm, ⟨2, _⟩ => ⟨S_, .f32⟩
  | .hbm, ⟨3, _⟩ => ⟨S8192x1024, .f32⟩
  | .hbm, ⟨4, _⟩ => ⟨S1024x8192, .f32⟩
  | .hbm, ⟨5, _⟩ => ⟨S8192x8192, .f32⟩
  | .hbm, ⟨6, _⟩ => ⟨S8192x1024, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8192x4096 : Shape := ⟨2, ![8192, 4096]⟩
abbrev S8192x1024 : Shape := ⟨2, ![8192, 1024]⟩
abbrev S4096x1024 : Shape := ⟨2, ![4096, 1024]⟩
abbrev S_ : Shape := ⟨0, ![]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 8
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S8192x1024, .bf16⟩
  | .hbm, ⟨2, _⟩ => ⟨S4096x1024, .bf16⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S8192x4096 : Shape := ⟨2, ![8192, 4096]⟩
abbrev S8192x1024 : Shape := ⟨2, ![8192, 1024]⟩
abbrev S4096x1024 : Shape := ⟨2, ![4096, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .bf16⟩
  | .hbm, ⟨2, _⟩ => ⟨S4096x1024, .bf16⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S4096x1024, .f32⟩
  | .hbm, ⟨16, _⟩ => ⟨S8192x1024, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel5.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x1024, .bf16⟩
  | .hbm, ⟨2, _⟩ => ⟨S_, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x1024, .f32⟩
  | .hbm, ⟨9, _⟩ => ⟨S8192x1024, .f32⟩
  | .hbm, ⟨10, _⟩ => ⟨S1024x4096, .f32⟩
  | .hbm, ⟨11, _⟩ => ⟨S4096x1024, .f32⟩
  | .hbm, ⟨12, _⟩ => ⟨S4096x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel6.lean ====
abbrev S8192x4096 : Shape := ⟨2, ![8192, 4096]⟩
abbrev S1024x4096 : Shape := ⟨2, ![1024, 4096]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x4096 : Shape := ⟨2, ![8192, 4096]⟩
abbrev S1024x4096 : Shape := ⟨2, ![1024, 4096]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S_, .f32⟩
  | .hbm, ⟨3, _⟩ => ⟨S8192x1024, .f32⟩
  | .hbm, ⟨4, _⟩ => ⟨S1024x4096, .f32⟩
  | .hbm, ⟨5, _⟩ => ⟨S8192x4096, .f32⟩
  | .hbm, ⟨6, _⟩ => ⟨S8192x4096, .f32⟩
  | .hbm, ⟨7, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x1024 : Shape := ⟨2, ![8192, 1024]⟩
abbrev S8192x4096 : Shape := ⟨2, ![8192, 4096]⟩
abbrev S1024x4096 : Shape := ⟨2, ![1024, 4096]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S_, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x1024 : Shape := ⟨2, ![8192, 1024]⟩
abbrev S1024x8192 : Shape := ⟨2, ![1024, 8192]⟩
abbrev S8192 : Shape := ⟨1, ![8192]⟩
abbrev S1x8192 : Shape := ⟨2, ![1, 8192]⟩
abbrev S8192x8192 : Shape := ⟨2, ![8192, 8192]⟩
abbrev S1024x1024 : Shape := ⟨2, ![1024, 1024]⟩
abbrev S1024x2048 : Shape := ⟨2, ![1024, 2048]⟩
abbrev S1x2048 : Shape := ⟨2, ![1, 2048]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S1024x8192, .bf16⟩
  | .hbm, ⟨2, _⟩ => ⟨S8192, .f32⟩
  | .hbm, ⟨3, _⟩ => ⟨S1x8192, .f32⟩
  | .hbm, ⟨4, _⟩ => ⟨S8192x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S8192x1024 : Shape := ⟨2, ![8192, 1024]⟩
abbrev S1024x8192 : Shape := ⟨2, ![1024, 8192]⟩
abbrev S8192 : Shape := ⟨1, ![8192]⟩
abbrev S8192x8192 : Shape := ⟨2, ![8192, 8192]⟩
abbrev S1x8192 : Shape := ⟨2, ![1, 8192]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x8192, .bf16⟩
  | .hbm, ⟨2, _⟩ => ⟨S8192, .f32⟩
  | .hbm, ⟨3, _⟩ => ⟨S8192x1024, .f32⟩
  | .hbm, ⟨4, _⟩ => ⟨S1024x8192, .f32⟩
  | .hbm, ⟨5, _⟩ => ⟨S8192x8192, .f32⟩
  | .hbm, ⟨6, _⟩ => ⟨S1x8192, .f32⟩
  | .hbm, ⟨7, _⟩ => ⟨S8192x8192, .f32⟩
  | .hbm, ⟨8, _⟩ => ⟨S8192x8192, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩
abbrev S1024x2048 : Shape := ⟨2, ![1024, 2048]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .bf16⟩
  | .hbm, ⟨9, _⟩ => ⟨S8192x4096, .f32⟩
  | .hbm, ⟨10, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel14.lean ====
abbrev S8192x4096 : Shape := ⟨2, ![8192, 4096]⟩
abbrev S4096x1024 : Shape := ⟨2, ![4096, 1024]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x4096 : Shape := ⟨2, ![8192, 4096]⟩
abbrev S4096x1024 : Shape := ⟨2, ![4096, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x4096, .f32⟩
  | .hbm, ⟨3, _⟩ => ⟨S4096x1024, .f32⟩
  | .hbm, ⟨4, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x512, .f32⟩
  | .hbm, ⟨3, _⟩ => ⟨S512x1024, .f32⟩
  | .hbm, ⟨4, _⟩ => ⟨S8192x1024, .f32⟩
  | .hbm, ⟨5, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .bf16⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference17Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .bf16⟩
  | .hbm, ⟨49, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel18.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference18Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel19.lean ====
abbrev S8192x1024 : Shape := ⟨2, ![8192, 1024]⟩
abbrev S8192x8192 : Shape := ⟨2, ![8192, 8192]⟩
abbrev S256x1024 : Shape := ⟨2, ![256, 1024]⟩
abbrev S256x3072 : Shape := ⟨2, ![256, 3072]⟩
abbrev S256x2048 : Shape := ⟨2, ![256, 2048]⟩

abbrev nBuf : Space → Nat
  | .hbm => 10
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x8192, .f32⟩
  | .hbm, ⟨4, _⟩ => ⟨S8192x8192, .f32⟩
  | .hbm, ⟨5, _⟩ => ⟨S8192x1024, .f32⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x8192, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x3072, .f32⟩
  | .local _ .vmem, ⟨7, _⟩ => ⟨S256x3072, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x3072, .f32⟩
  | .local _ .vmem, ⟨17, _⟩ => ⟨S256x3072, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference19Ideal.lean ====
abbrev S8192x1024 : Shape := ⟨2, ![8192, 1024]⟩
abbrev S8192x8192 : Shape := ⟨2, ![8192, 8192]⟩
abbrev S8192x3072 : Shape := ⟨2, ![8192, 3072]⟩
abbrev S8192x3x1024 : Shape := ⟨3, ![8192, 3, 1024]⟩
abbrev S_ : Shape := ⟨0, ![]⟩
abbrev S8192x1x1024 : Shape := ⟨3, ![8192, 1, 1024]⟩
abbrev S8192x2048 : Shape := ⟨2, ![8192, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x8192, .f32⟩
  | .hbm, ⟨4, _⟩ => ⟨S8192x8192, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x3072, .f32⟩
  | .hbm, ⟨10, _⟩ => ⟨S8192x3x1024, .f32⟩
  | .hbm, ⟨11, _⟩ => ⟨S8192x3x1024, .f32⟩
  | .hbm, ⟨12, _⟩ => ⟨S8192x3x1024, .f32⟩
  | .hbm, ⟨13, _⟩ => ⟨S_, .f32⟩
  | .hbm, ⟨14, _⟩ => ⟨S8192x3x1024, .f32⟩
  | .hbm, ⟨15, _⟩ => ⟨S8192x3x1024, .f32⟩
  | .hbm, ⟨16, _⟩ => ⟨S_, .f32⟩
  | .hbm, ⟨17, _⟩ => ⟨S8192x3x1024, .f32⟩
  | .hbm, ⟨18, _⟩ => ⟨S8192x3x1024, .f32⟩
  | .hbm, ⟨19, _⟩ => ⟨S_, .f32⟩
  | .hbm, ⟨20, _⟩ => ⟨S8192x3x1024, .f32⟩
  | .hbm, ⟨21, _⟩ => ⟨S8192x3x1024, .f32⟩
  | .hbm, ⟨22, _⟩ => ⟨S8192x3x1024, .f32⟩
  | .hbm, ⟨23, _⟩ => ⟨S8192x1x1024, .f32⟩
  | .hbm, ⟨24, _⟩ => ⟨S8192x1x1024, .f32⟩
  | .hbm, ⟨25, _⟩ => ⟨S8192x1x1024, .f32⟩
  | .hbm, ⟨26, _⟩ => ⟨S8192x3x1024, .f32⟩
  | .hbm, ⟨27, _⟩ => ⟨S8192x3x1024, .f32⟩
  | .hbm, ⟨28, _⟩ => ⟨S_, .f32⟩
  | .hbm, ⟨29, _⟩ => ⟨S8192x1024, .f32⟩
  | .hbm, ⟨30, _⟩ => ⟨S8192x3x1024, .f32⟩
  | .hbm, ⟨31, _⟩ => ⟨S8192x3x1024, .f32⟩
  | .hbm, ⟨32, _⟩ => ⟨S8192x3x1024, .f32⟩
  | .hbm, ⟨33, _⟩ => ⟨S8192x1x1024, .f32⟩
  | .hbm, ⟨34, _⟩ => ⟨S8192x1024, .f32⟩
  | .hbm, ⟨35, _⟩ => ⟨S8192x1x1024, .f32⟩
  | .hbm, ⟨36, _⟩ => ⟨S8192x1024, .f32⟩
  | .hbm, ⟨37, _⟩ => ⟨S8192x1x1024, .f32⟩
  | .hbm, ⟨38, _⟩ => ⟨S8192x1024, .f32⟩
  | .hbm, ⟨39, _⟩ => ⟨S8192x3x1024, .f32⟩
  | .hbm, ⟨40, _⟩ => ⟨S8192x3072, .f32⟩
  | .hbm, ⟨41, _⟩ => ⟨S8192x1024, .bf16⟩
  | .hbm, ⟨42, _⟩ => ⟨S8192x1024, .bf16⟩
  | .hbm, ⟨43, _⟩ => ⟨S8192x1024, .bf16⟩
  | .hbm, ⟨44, _⟩ => ⟨S8192x3072, .f32⟩
  | .hbm, ⟨45, _⟩ => ⟨S8192x2048, .f32⟩
  | .hbm, ⟨46, _⟩ => ⟨S8192x8192, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Kernel20.lean ====
abbrev S8192x512 : Shape := ⟨2, ![8192, 512]⟩
abbrev S8192x8192 : Shape := ⟨2, ![8192, 8192]⟩
abbrev S128 : Shape := ⟨1, ![128]⟩
abbrev S1x128 : Shape := ⟨2, ![1, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x384 : Shape := ⟨2, ![512, 384]⟩
abbrev S512x256 : Shape := ⟨2, ![512, 256]⟩

abbrev nBuf : Space → Nat
  | .hbm => 9
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S8192x8192, .f32⟩
  | .hbm, ⟨3, _⟩ => ⟨S128, .f32⟩
  | .hbm, ⟨4, _⟩ => ⟨S8192x512, .f32⟩
  | .hbm, ⟨5, _⟩ => ⟨S1x128, .f32⟩
  | .hbm, ⟨6, _⟩ => ⟨S8192x512, .f32⟩
  | .hbm, ⟨7, _⟩ => ⟨S8192x8192, .f32⟩
  | .hbm, ⟨8, _⟩ => ⟨S1x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x128, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S1x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference20Ideal.lean ====
abbrev S8192x512 : Shape := ⟨2, ![8192, 512]⟩
abbrev S8192x8192 : Shape := ⟨2, ![8192, 8192]⟩
abbrev S128 : Shape := ⟨1, ![128]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩
abbrev S1x1x128 : Shape := ⟨3, ![1, 1, 128]⟩
abbrev S8192x6144 : Shape := ⟨2, ![8192, 6144]⟩
abbrev S8192x1536 : Shape := ⟨2, ![8192, 1536]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S8192x8192, .f32⟩
  | .hbm, ⟨3, _⟩ => ⟨S128, .f32⟩
  | .hbm, ⟨4, _⟩ => ⟨S8192x512, .f32⟩
  | .hbm, ⟨5, _⟩ => ⟨S8192x512, .f32⟩
  | .hbm, ⟨6, _⟩ => ⟨S8192x4x128, .f32⟩
  | .hbm, ⟨7, _⟩ => ⟨S8192x4x128, .f32⟩
  | .hbm, ⟨8, _⟩ => ⟨S8192x4x128, .f32⟩
  | .hbm, ⟨9, _⟩ => ⟨S_, .f32⟩
  | .hbm, ⟨10, _⟩ => ⟨S8192x4, .f32⟩
  | .hbm, ⟨11, _⟩ => ⟨S8192x4x1, .f32⟩
  | .hbm, ⟨12, _⟩ => ⟨S_, .f32⟩
  | .hbm, ⟨13, _⟩ => ⟨S8192x4x1, .f32⟩
  | .hbm, ⟨14, _⟩ => ⟨S8192x4x1, .f32⟩
  | .hbm, ⟨15, _⟩ => ⟨S_, .f32⟩
  | .hbm, ⟨16, _⟩ => ⟨S8192x4x1, .f32⟩
  | .hbm, ⟨17, _⟩ => ⟨S8192x4x1, .f32⟩
  | .hbm, ⟨18, _⟩ => ⟨S8192x4x1, .f32⟩
  | .hbm, ⟨19, _⟩ => ⟨S8192x4x1, .f32⟩
  | .hbm, ⟨20, _⟩ => ⟨S_, .f32⟩
  | .hbm, ⟨21, _⟩ => ⟨S8192x4x1, .f32⟩
  | .hbm, ⟨22, _⟩ => ⟨S8192x4x1, .f32⟩
  | .hbm, ⟨23, _⟩ => ⟨S8192x4x128, .f32⟩
  | .hbm, ⟨24, _⟩ => ⟨S8192x4x128, .f32⟩
  | .hbm, ⟨25, _⟩ => ⟨S1x1x128, .f32⟩
  | .hbm, ⟨26, _⟩ => ⟨S8192x4x128, .f32⟩
  | .hbm, ⟨27, _⟩ => ⟨S8192x4x128, .f32⟩
  | .hbm, ⟨28, _⟩ => ⟨S8192x4x128, .f32⟩
  | .hbm, ⟨29, _⟩ => ⟨S8192x4x128, .f32⟩
  | .hbm, ⟨30, _⟩ => ⟨S_, .f32⟩
  | .hbm, ⟨31, _⟩ => ⟨S8192x4x128, .f32⟩
  | .hbm, ⟨32, _⟩ => ⟨S8192x4x128, .f32⟩
  | .hbm, ⟨33, _⟩ => ⟨S_, .f32⟩
  | .hbm, ⟨34, _⟩ => ⟨S8192x4x128, .f32⟩
  | .hbm, ⟨35, _⟩ => ⟨S8192x4x128, .f32⟩
  | .hbm, ⟨36, _⟩ => ⟨S_, .f32⟩
  | .hbm, ⟨37, _⟩ => ⟨S8192x4x128, .f32⟩
  | .hbm, ⟨38, _⟩ => ⟨S8192x4x128, .f32⟩
  | .hbm, ⟨39, _⟩ => ⟨S8192x4x128, .f32⟩
  | .hbm, ⟨40, _⟩ => ⟨S8192x4x128, .f32⟩
  | .hbm, ⟨41, _⟩ => ⟨S8192x4x128, .f32⟩
  | .hbm, ⟨42, _⟩ => ⟨S8192x512, .f32⟩
  | .hbm, ⟨43, _⟩ => ⟨S8192x4x128, .f32⟩
  | .hbm, ⟨44, _⟩ => ⟨S8192x4x128, .f32⟩
  | .hbm, ⟨45, _⟩ => ⟨S8192x4x128, .f32⟩
  | .hbm, ⟨46, _⟩ => ⟨S8192x4x128, .f32⟩
  | .hbm, ⟨47, _⟩ => ⟨S8192x4x128, .f32⟩
  | .hbm, ⟨48, _⟩ => ⟨S8192x4x128, .f32⟩
  | .hbm, ⟨49, _⟩ => ⟨S8192x4x128, .f32⟩
  | .hbm, ⟨50, _⟩ => ⟨S8192x4x128, .f32⟩
  | .hbm, ⟨51, _⟩ => ⟨S_, .f32⟩
  | .hbm, ⟨52, _⟩ => ⟨S128, .f32⟩
  | .hbm, ⟨53, _⟩ => ⟨S1x1x128, .f32⟩
  | .hbm, ⟨54, _⟩ => ⟨S8192x4x128, .f32⟩
  | .hbm, ⟨55, _⟩ => ⟨S8192x4x128, .f32⟩
  | .hbm, ⟨56, _⟩ => ⟨S_, .f32⟩
  | .hbm, ⟨57, _⟩ => ⟨S128, .f32⟩
  | .hbm, ⟨58, _⟩ => ⟨S8192x4x128, .f32⟩
  | .hbm, ⟨59, _⟩ => ⟨S_, .f32⟩
  | .hbm, ⟨60, _⟩ => ⟨S8192x4, .f32⟩
  | .hbm, ⟨61, _⟩ => ⟨S8192x4x1, .f32⟩
  | .hbm, ⟨62, _⟩ => ⟨S8192x4x128, .f32⟩
  | .hbm, ⟨63, _⟩ => ⟨S8192x4x128, .f32⟩
  | .hbm, ⟨64, _⟩ => ⟨S8192x4x1, .f32⟩
  | .hbm, ⟨65, _⟩ => ⟨S_, .f32⟩
  | .hbm, ⟨66, _⟩ => ⟨S8192x4x1, .f32⟩
  | .hbm, ⟨67, _⟩ => ⟨S8192x4x1, .f32⟩
  | .hbm, ⟨68, _⟩ => ⟨S_, .f32⟩
  | .hbm, ⟨69, _⟩ => ⟨S8192x4, .f32⟩
  | .hbm, ⟨70, _⟩ => ⟨S8192x4x128, .f32⟩
  | .hbm, ⟨71, _⟩ => ⟨S8192x4x128, .f32⟩
  | .hbm, ⟨72, _⟩ => ⟨S8192x4x128, .f32⟩
  | .hbm, ⟨73, _⟩ => ⟨S8192x4x128, .f32⟩
  | .hbm, ⟨74, _⟩ => ⟨S8192x4x128, .f32⟩
  | .hbm, ⟨75, _⟩ => ⟨S8192x512, .f32⟩
  | .hbm, ⟨76, _⟩ => ⟨S8192x512, .f32⟩
  | .hbm, ⟨77, _⟩ => ⟨S8192x6144, .f32⟩
  | .hbm, ⟨78, _⟩ => ⟨S8192x1536, .f32⟩
  | .hbm, ⟨79, _⟩ => ⟨S8192x8192, .f32⟩
  | .hbm, ⟨80, _⟩ => ⟨S1x128, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v25 : Ref sig .tc := ⟨.hbm, 49, rfl⟩
abbrev main_v26 : Ref sig .tc := ⟨.hbm, 50, rfl⟩
abbrev main_cst_3 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_4 : Ref sig .tc := ⟨.hbm, 56, rfl⟩
abbrev main_v31 : Ref sig .tc := ⟨.hbm, 57, rfl⟩
abbrev main_v32 : Ref sig .tc := ⟨.hbm, 58, rfl⟩
abbrev main_cst_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_6 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩

abbrev nD : Nat := 1
abbrev τ : Topo := Topo.v7x

variable {F : FTy → Type} [FloatOps F]
-- ==== Kernel21.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference21Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel22.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1x1024, .f32⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference22Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel23.lean ====
abbrev S8192x1024 : Shape := ⟨2, ![8192, 1024]⟩
abbrev S8192x8192 : Shape := ⟨2, ![8192, 8192]⟩
abbrev S256x1024 : Shape := ⟨2, ![256, 1024]⟩
abbrev S256x3072 : Shape := ⟨2, ![256, 3072]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x8192, .f32⟩
  | .hbm, ⟨4, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x3072, .f32⟩
  | .local _ .vmem, ⟨7, _⟩ => ⟨S256x3072, .f32⟩
  | .local _ .vmem, ⟨8, _⟩ => ⟨S256x1024, .bf16⟩
  | .local _ .vmem, ⟨9, _⟩ => ⟨S256x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference23Ideal.lean ====
abbrev S8192x1024 : Shape := ⟨2, ![8192, 1024]⟩
abbrev S8192x8192 : Shape := ⟨2, ![8192, 8192]⟩
abbrev S8192x3072 : Shape := ⟨2, ![8192, 3072]⟩
abbrev S8192x3x1024 : Shape := ⟨3, ![8192, 3, 1024]⟩
abbrev S_ : Shape := ⟨0, ![]⟩
abbrev S8192x1x1024 : Shape := ⟨3, ![8192, 1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x8192, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x3072, .f32⟩
  | .hbm, ⟨8, _⟩ => ⟨S8192x3x1024, .f32⟩
  | .hbm, ⟨9, _⟩ => ⟨S8192x3x1024, .f32⟩
  | .hbm, ⟨10, _⟩ => ⟨S8192x3x1024, .f32⟩
  | .hbm, ⟨11, _⟩ => ⟨S_, .f32⟩
  | .hbm, ⟨12, _⟩ => ⟨S8192x3x1024, .f32⟩
  | .hbm, ⟨13, _⟩ => ⟨S8192x3x1024, .f32⟩
  | .hbm, ⟨14, _⟩ => ⟨S_, .f32⟩
  | .hbm, ⟨15, _⟩ => ⟨S8192x3x1024, .f32⟩
  | .hbm, ⟨16, _⟩ => ⟨S8192x3x1024, .f32⟩
  | .hbm, ⟨17, _⟩ => ⟨S8192x1x1024, .f32⟩
  | .hbm, ⟨18, _⟩ => ⟨S8192x1x1024, .f32⟩
  | .hbm, ⟨19, _⟩ => ⟨S8192x1x1024, .f32⟩
  | .hbm, ⟨20, _⟩ => ⟨S8192x3x1024, .f32⟩
  | .hbm, ⟨21, _⟩ => ⟨S8192x3x1024, .f32⟩
  | .hbm, ⟨22, _⟩ => ⟨S_, .f32⟩
  | .hbm, ⟨23, _⟩ => ⟨S8192x1024, .f32⟩
  | .hbm, ⟨24, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel24.lean ====
abbrev S8192x512 : Shape := ⟨2, ![8192, 512]⟩
abbrev S8192x8192 : Shape := ⟨2, ![8192, 8192]⟩
abbrev S128 : Shape := ⟨1, ![128]⟩
abbrev S1x128 : Shape := ⟨2, ![1, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S128, .f32⟩
  | .hbm, ⟨3, _⟩ => ⟨S1x128, .f32⟩
  | .hbm, ⟨4, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x128, .f32⟩
  | .local _ .vmem, ⟨5, _⟩ => ⟨S512x512, .bf16⟩
  | .local _ .vmem, ⟨6, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference24Ideal.lean ====
abbrev S8192x512 : Shape := ⟨2, ![8192, 512]⟩
abbrev S8192x8192 : Shape := ⟨2, ![8192, 8192]⟩
abbrev S128 : Shape := ⟨1, ![128]⟩
abbrev S8192x4x128 : Shape := ⟨3, ![8192, 4, 128]⟩
abbrev S_ : Shape := ⟨0, ![]⟩
abbrev S8192x4 : Shape := ⟨2, ![8192, 4]⟩
abbrev S8192x4x1 : Shape := ⟨3, ![8192, 4, 1]⟩
abbrev S1x1x128 : Shape := ⟨3, ![1, 1, 128]⟩

abbrev nBuf : Space → Nat
  | .hbm => 34
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S128, .f32⟩
  | .hbm, ⟨3, _⟩ => ⟨S8192x512, .f32⟩
  | .hbm, ⟨4, _⟩ => ⟨S8192x4x128, .f32⟩
  | .hbm, ⟨5, _⟩ => ⟨S8192x4x128, .f32⟩
  | .hbm, ⟨6, _⟩ => ⟨S8192x4x128, .f32⟩
  | .hbm, ⟨7, _⟩ => ⟨S_, .f32⟩
  | .hbm, ⟨8, _⟩ => ⟨S8192x4, .f32⟩
  | .hbm, ⟨9, _⟩ => ⟨S8192x4x1, .f32⟩
  | .hbm, ⟨10, _⟩ => ⟨S_, .f32⟩
  | .hbm, ⟨11, _⟩ => ⟨S8192x4x1, .f32⟩
  | .hbm, ⟨12, _⟩ => ⟨S8192x4x1, .f32⟩
  | .hbm, ⟨13, _⟩ => ⟨S_, .f32⟩
  | .hbm, ⟨14, _⟩ => ⟨S8192x4x1, .f32⟩
  | .hbm, ⟨15, _⟩ => ⟨S8192x4x1, .f32⟩
  | .hbm, ⟨16, _⟩ => ⟨S8192x4x1, .f32⟩
  | .hbm, ⟨17, _⟩ => ⟨S8192x4x128, .f32⟩
  | .hbm, ⟨18, _⟩ => ⟨S8192x4x128, .f32⟩
  | .hbm, ⟨19, _⟩ => ⟨S1x1x128, .f32⟩
  | .hbm, ⟨20, _⟩ => ⟨S8192x4x128, .f32⟩
  | .hbm, ⟨21, _⟩ => ⟨S8192x4x128, .f32⟩
  | .hbm, ⟨22, _⟩ => ⟨S8192x4x128, .f32⟩
  | .hbm, ⟨23, _⟩ => ⟨S8192x4x128, .f32⟩
  | .hbm, ⟨24, _⟩ => ⟨S_, .f32⟩
  | .hbm, ⟨25, _⟩ => ⟨S8192x4x128, .f32⟩
  | .hbm, ⟨26, _⟩ => ⟨S8192x4x128, .f32⟩
  | .hbm, ⟨27, _⟩ => ⟨S_, .f32⟩
  | .hbm, ⟨28, _⟩ => ⟨S8192x4x128, .f32⟩
  | .hbm, ⟨29, _⟩ => ⟨S8192x4x128, .f32⟩
  | .hbm, ⟨30, _⟩ => ⟨S8192x4x128, .f32⟩
  | .hbm, ⟨31, _⟩ => ⟨S8192x4x128, .f32⟩
  | .hbm, ⟨32, _⟩ => ⟨S8192x512, .f32⟩
  | .hbm, ⟨33, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== Kernel25.lean ====
abbrev S8192x1024 : Shape := ⟨2, ![8192, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x128, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x128, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference25Ideal.lean ====
abbrev S8192x1024 : Shape := ⟨2, ![8192, 1024]⟩
abbrev S_ : Shape := ⟨0, ![]⟩
abbrev S1x128 : Shape := ⟨2, ![1, 128]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S_, .f32⟩
  | .hbm, ⟨6, _⟩ => ⟨S1x128, .f32⟩
  | .hbm, ⟨7, _⟩ => ⟨S_, .f32⟩
  | .hbm, ⟨8, _⟩ => ⟨S8192x1024, .f32⟩
  | .hbm, ⟨9, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel26.lean ====
abbrev S4x1024x1922 : Shape := ⟨3, ![4, 1024, 1922]⟩
abbrev S4096x1922 : Shape := ⟨2, ![4096, 1922]⟩
abbrev S256x1922 : Shape := ⟨2, ![256, 1922]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1922, .f32⟩
  | .hbm, ⟨1, _⟩ => ⟨S4x1024x1922, .f32⟩
  | .hbm, ⟨2, _⟩ => ⟨S4x1024x1922, .f32⟩
  | .hbm, ⟨3, _⟩ => ⟨S4x1024x1922, .f32⟩
  | .hbm, ⟨4, _⟩ => ⟨S4096x1922, .f32⟩
  | .hbm, ⟨5, _⟩ => ⟨S4096x1922, .f32⟩
  | .hbm, ⟨6, _⟩ => ⟨S4096x1922, .f32⟩
  | .hbm, ⟨7, _⟩ => ⟨S4096x1922, .f32⟩
  | .hbm, ⟨8, _⟩ => ⟨S4096x1922, .f32⟩
  | .hbm, ⟨9, _⟩ => ⟨S4096x1922, .f32⟩
  | .hbm, ⟨10, _⟩ => ⟨S4096x1922, .f32⟩
  | .local _ .vmem, ⟨0, _⟩ => ⟨S256x1922, .f32⟩
  | .local _ .vmem, ⟨1, _⟩ => ⟨S256x1922, .f32⟩
  | .local _ .vmem, ⟨2, _⟩ => ⟨S256x1922, .f32⟩
  | .local _ .vmem, ⟨3, _⟩ => ⟨S256x1922, .f32⟩
  | .local _ .vmem, ⟨4, _⟩ => ⟨S256x1922, .f32⟩
  | .local _ .vmem, ⟨5, _⟩ => ⟨S256x1922, .f32⟩
  | .local _ .vmem, ⟨6, _⟩ => ⟨S256x1922, .f32⟩
  | .local _ .vmem, ⟨7, _⟩ => ⟨S256x1922, .f32⟩
  | .local _ .vmem, ⟨8, _⟩ => ⟨S256x1922, .f32⟩
  | .local _ .vmem, ⟨9, _⟩ => ⟨S256x1922, .f32⟩
  | .local _ .vmem, ⟨10, _⟩ => ⟨S256x1922, .f32⟩
  | .local _ .vmem, ⟨11, _⟩ => ⟨S256x1922, .f32⟩
  | .local _ .vmem, ⟨12, _⟩ => ⟨S256x1922, .f32⟩
  | .local _ .vmem, ⟨13, _⟩ => ⟨S256x1922, .f32⟩
  | _, _ => ⟨S4x1024x1922, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1922 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1922 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1922 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1922 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1922 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1922 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1922 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference26Ideal.lean ====
abbrev S4x1024x1922 : Shape := ⟨3, ![4, 1024, 1922]⟩
abbrev S_ : Shape := ⟨0, ![]⟩
abbrev S4096x1922 : Shape := ⟨2, ![4096, 1922]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1922, .f32⟩
  | .hbm, ⟨1, _⟩ => ⟨S4x1024x1922, .f32⟩
  | .hbm, ⟨2, _⟩ => ⟨S4x1024x1922, .f32⟩
  | .hbm, ⟨3, _⟩ => ⟨S4x1024x1922, .f32⟩
  | .hbm, ⟨4, _⟩ => ⟨S_, .f32⟩
  | .hbm, ⟨5, _⟩ => ⟨S4x1024x1922, .f32⟩
  | .hbm, ⟨6, _⟩ => ⟨S4x1024x1922, .f32⟩
  | .hbm, ⟨7, _⟩ => ⟨S_, .f32⟩
  | .hbm, ⟨8, _⟩ => ⟨S4x1024x1922, .f32⟩
  | .hbm, ⟨9, _⟩ => ⟨S4x1024x1922, .f32⟩
  | .hbm, ⟨10, _⟩ => ⟨S4x1024x1922, .f32⟩
  | .hbm, ⟨11, _⟩ => ⟨S_, .f32⟩
  | .hbm, ⟨12, _⟩ => ⟨S4x1024x1922, .f32⟩
  | .hbm, ⟨13, _⟩ => ⟨S4x1024x1922, .f32⟩
  | .hbm, ⟨14, _⟩ => ⟨S4x1024x1922, .f32⟩
  | .hbm, ⟨15, _⟩ => ⟨S_, .f32⟩
  | .hbm, ⟨16, _⟩ => ⟨S4x1024x1922, .f32⟩
  | .hbm, ⟨17, _⟩ => ⟨S4x1024x1922, .f32⟩
  | .hbm, ⟨18, _⟩ => ⟨S4x1024x1922, .f32⟩
  | .hbm, ⟨19, _⟩ => ⟨S_, .f32⟩
  | .hbm, ⟨20, _⟩ => ⟨S4x1024x1922, .f32⟩
  | .hbm, ⟨21, _⟩ => ⟨S4x1024x1922, .f32⟩
  | .hbm, ⟨22, _⟩ => ⟨S_, .f32⟩
  | .hbm, ⟨23, _⟩ => ⟨S4x1024x1922, .f32⟩
  | .hbm, ⟨24, _⟩ => ⟨S4x1024x1922, .f32⟩
  | .hbm, ⟨25, _⟩ => ⟨S4x1024x1922, .f32⟩
  | .hbm, ⟨26, _⟩ => ⟨S_, .f32⟩
  | .hbm, ⟨27, _⟩ => ⟨S4x1024x1922, .f32⟩
  | .hbm, ⟨28, _⟩ => ⟨S4x1024x1922, .f32⟩
  | .hbm, ⟨29, _⟩ => ⟨S4x1024x1922, .f32⟩
  | .hbm, ⟨30, _⟩ => ⟨S_, .f32⟩
  | .hbm, ⟨31, _⟩ => ⟨S4x1024x1922, .f32⟩
  | .hbm, ⟨32, _⟩ => ⟨S4x1024x1922, .f32⟩
  | .hbm, ⟨33, _⟩ => ⟨S4x1024x1922, .f32⟩
  | .hbm, ⟨34, _⟩ => ⟨S_, .f32⟩
  | .hbm, ⟨35, _⟩ => ⟨S4x1024x1922, .f32⟩
  | .hbm, ⟨36, _⟩ => ⟨S4x1024x1922, .f32⟩
  | .hbm, ⟨37, _⟩ => ⟨S4096x1922, .f32⟩
  | .hbm, ⟨38, _⟩ => ⟨S4096x1922, .f32⟩
  | .hbm, ⟨39, _⟩ => ⟨S4096x1922, .f32⟩
  | _, _ => ⟨S4x1024x1922, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel27.lean ====
abbrev S4x3x512x256 : Shape := ⟨4, ![4, 3, 512, 256]⟩
abbrev S6144x256 : Shape := ⟨2, ![6144, 256]⟩
abbrev S512x256 : Shape := ⟨2, ![512, 256]⟩

abbrev nBuf : Space → Nat
  | .hbm => 11
  | .vmem => 14
  | .smem => 0
  | _ => 0

abbrev bufTy : (tb : Table) → Fin (tcTables nBuf tb) → BufTy
  | .hbm, ⟨0, _⟩ => ⟨S4x3x512x256, .f32⟩
  | .hbm, ⟨1, _⟩ => ⟨S4x3x512x256, .f32⟩
  | .hbm, ⟨2, _⟩ => ⟨S4x3x512x256, .f32⟩
  | .hbm, ⟨3, _⟩ => ⟨S4x3x512x256, .f32⟩
  | .hbm, ⟨4, _⟩ => ⟨S6144x256, .f32⟩
  | .hbm, ⟨5, _⟩ => ⟨S6144x256, .f32⟩
  | .hbm, ⟨6, _⟩ => ⟨S6144x256, .f32⟩
  | .hbm, ⟨7, _⟩ => ⟨S6144x256, .f32⟩
  | .hbm, ⟨8, _⟩ => ⟨S6144x256, .f32⟩
  | .hbm, ⟨9, _⟩ => ⟨S6144x256, .f32⟩
  | .hbm, ⟨10, _⟩ => ⟨S6144x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | _, _ => ⟨S4x3x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference27Ideal.lean ====
abbrev S4x3x512x256 : Shape := ⟨4, ![4, 3, 512, 256]⟩
abbrev S_ : Shape := ⟨0, ![]⟩
abbrev S6144x256 : Shape := ⟨2, ![6144, 256]⟩

abbrev nBuf : Space → Nat
  | .hbm => 40
  | .vmem => 0
  | .smem => 0
  | _ => 0

abbrev bufTy : (tb : Table) → Fin (tcTables nBuf tb) → BufTy
  | .hbm, ⟨0, _⟩ => ⟨S4x3x512x256, .f32⟩
  | .hbm, ⟨1, _⟩ => ⟨S4x3x512x256, .f32⟩
  | .hbm, ⟨2, _⟩ => ⟨S4x3x512x256, .f32⟩
  | .hbm, ⟨3, _⟩ => ⟨S4x3x512x256, .f32⟩
  | .hbm, ⟨4, _⟩ => ⟨S_, .f32⟩
  | .hbm, ⟨5, _⟩ => ⟨S4x3x512x256, .f32⟩
  | .hbm, ⟨6, _⟩ => ⟨S4x3x512x256, .f32⟩
  | .hbm, ⟨7, _⟩ => ⟨S_, .f32⟩
  | .hbm, ⟨8, _⟩ => ⟨S4x3x512x256, .f32⟩
  | .hbm, ⟨9, _⟩ => ⟨S4x3x512x256, .f32⟩
  | .hbm, ⟨10, _⟩ => ⟨S4x3x512x256, .f32⟩
  | .hbm, ⟨11, _⟩ => ⟨S_, .f32⟩
  | .hbm, ⟨12, _⟩ => ⟨S4x3x512x256, .f32⟩
  | .hbm, ⟨13, _⟩ => ⟨S4x3x512x256, .f32⟩
  | .hbm, ⟨14, _⟩ => ⟨S4x3x512x256, .f32⟩
  | .hbm, ⟨15, _⟩ => ⟨S_, .f32⟩
  | .hbm, ⟨16, _⟩ => ⟨S4x3x512x256, .f32⟩
  | .hbm, ⟨17, _⟩ => ⟨S4x3x512x256, .f32⟩
  | .hbm, ⟨18, _⟩ => ⟨S4x3x512x256, .f32⟩
  | .hbm, ⟨19, _⟩ => ⟨S_, .f32⟩
  | .hbm, ⟨20, _⟩ => ⟨S4x3x512x256, .f32⟩
  | .hbm, ⟨21, _⟩ => ⟨S4x3x512x256, .f32⟩
  | .hbm, ⟨22, _⟩ => ⟨S_, .f32⟩
  | .hbm, ⟨23, _⟩ => ⟨S4x3x512x256, .f32⟩
  | .hbm, ⟨24, _⟩ => ⟨S4x3x512x256, .f32⟩
  | .hbm, ⟨25, _⟩ => ⟨S4x3x512x256, .f32⟩
  | .hbm, ⟨26, _⟩ => ⟨S_, .f32⟩
  | .hbm, ⟨27, _⟩ => ⟨S4x3x512x256, .f32⟩
  | .hbm, ⟨28, _⟩ => ⟨S4x3x512x256, .f32⟩
  | .hbm, ⟨29, _⟩ => ⟨S4x3x512x256, .f32⟩
  | .hbm, ⟨30, _⟩ => ⟨S_, .f32⟩
  | .hbm, ⟨31, _⟩ => ⟨S4x3x512x256, .f32⟩
  | .hbm, ⟨32, _⟩ => ⟨S4x3x512x256, .f32⟩
  | .hbm, ⟨33, _⟩ => ⟨S4x3x512x256, .f32⟩
  | .hbm, ⟨34, _⟩ => ⟨S_, .f32⟩
  | .hbm, ⟨35, _⟩ => ⟨S4x3x512x256, .f32⟩
  | .hbm, ⟨36, _⟩ => ⟨S4x3x512x256, .f32⟩
  | .hbm, ⟨37, _⟩ => ⟨S6144x256, .f32⟩
  | .hbm, ⟨38, _⟩ => ⟨S6144x256, .f32⟩
  | .hbm, ⟨39, _⟩ => ⟨S6144x256, .f32⟩
  | _, _ => ⟨S4x3x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel28.lean ====
abbrev S4x1024x1024 : Shape := ⟨3, ![4, 1024, 1024]⟩
abbrev S4096x1024 : Shape := ⟨2, ![4096, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference28Ideal.lean ====
abbrev S4x1024x1024 : Shape := ⟨3, ![4, 1024, 1024]⟩
abbrev S_ : Shape := ⟨0, ![]⟩
abbrev S4096x1024 : Shape := ⟨2, ![4096, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S_, .f32⟩
  | .hbm, ⟨5, _⟩ => ⟨S4x1024x1024, .f32⟩
  | .hbm, ⟨6, _⟩ => ⟨S4x1024x1024, .f32⟩
  | .hbm, ⟨7, _⟩ => ⟨S_, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S_, .f32⟩
  | .hbm, ⟨12, _⟩ => ⟨S4x1024x1024, .f32⟩
  | .hbm, ⟨13, _⟩ => ⟨S4x1024x1024, .f32⟩
  | .hbm, ⟨14, _⟩ => ⟨S4x1024x1024, .f32⟩
  | .hbm, ⟨15, _⟩ => ⟨S_, .f32⟩
  | .hbm, ⟨16, _⟩ => ⟨S4x1024x1024, .f32⟩
  | .hbm, ⟨17, _⟩ => ⟨S4x1024x1024, .f32⟩
  | .hbm, ⟨18, _⟩ => ⟨S4x1024x1024, .f32⟩
  | .hbm, ⟨19, _⟩ => ⟨S_, .f32⟩
  | .hbm, ⟨20, _⟩ => ⟨S4x1024x1024, .f32⟩
  | .hbm, ⟨21, _⟩ => ⟨S4x1024x1024, .f32⟩
  | .hbm, ⟨22, _⟩ => ⟨S_, .f32⟩
  | .hbm, ⟨23, _⟩ => ⟨S4x1024x1024, .f32⟩
  | .hbm, ⟨24, _⟩ => ⟨S4x1024x1024, .f32⟩
  | .hbm, ⟨25, _⟩ => ⟨S4x1024x1024, .f32⟩
  | .hbm, ⟨26, _⟩ => ⟨S_, .f32⟩
  | .hbm, ⟨27, _⟩ => ⟨S4x1024x1024, .f32⟩
  | .hbm, ⟨28, _⟩ => ⟨S4x1024x1024, .f32⟩
  | .hbm, ⟨29, _⟩ => ⟨S4x1024x1024, .f32⟩
  | .hbm, ⟨30, _⟩ => ⟨S_, .f32⟩
  | .hbm, ⟨31, _⟩ => ⟨S4x1024x1024, .f32⟩
  | .hbm, ⟨32, _⟩ => ⟨S4x1024x1024, .f32⟩
  | .hbm, ⟨33, _⟩ => ⟨S4x1024x1024, .f32⟩
  | .hbm, ⟨34, _⟩ => ⟨S_, .f32⟩
  | .hbm, ⟨35, _⟩ => ⟨S4x1024x1024, .f32⟩
  | .hbm, ⟨36, _⟩ => ⟨S4x1024x1024, .f32⟩
  | .hbm, ⟨37, _⟩ => ⟨S4096x1024, .f32⟩
  | .hbm, ⟨38, _⟩ => ⟨S4096x1024, .f32⟩
  | .hbm, ⟨39, _⟩ => ⟨S4096x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel29.lean ====
abbrev S4x256x1024 : Shape := ⟨3, ![4, 256, 1024]⟩
abbrev S1024x1024 : Shape := ⟨2, ![1024, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference29Ideal.lean ====
abbrev S4x256x1024 : Shape := ⟨3, ![4, 256, 1024]⟩
abbrev S_ : Shape := ⟨0, ![]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S1024x1024, .f32⟩
  | .hbm, ⟨38, _⟩ => ⟨S1024x1024, .f32⟩
  | .hbm, ⟨39, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel30.lean ====
abbrev S4x4x256 : Shape := ⟨3, ![4, 4, 256]⟩
abbrev S16x256 : Shape := ⟨2, ![16, 256]⟩

abbrev nBuf : Space → Nat
  | .hbm => 11
  | .vmem => 7
  | .smem => 0
  | _ => 0

abbrev bufTy : (tb : Table) → Fin (tcTables nBuf tb) → BufTy
  | .hbm, ⟨0, _⟩ => ⟨S4x4x256, .f32⟩
  | .hbm, ⟨1, _⟩ => ⟨S4x4x256, .f32⟩
  | .hbm, ⟨2, _⟩ => ⟨S4x4x256, .f32⟩
  | .hbm, ⟨3, _⟩ => ⟨S4x4x256, .f32⟩
  | .hbm, ⟨4, _⟩ => ⟨S16x256, .f32⟩
  | .hbm, ⟨5, _⟩ => ⟨S16x256, .f32⟩
  | .hbm, ⟨6, _⟩ => ⟨S16x256, .f32⟩
  | .hbm, ⟨7, _⟩ => ⟨S16x256, .f32⟩
  | .hbm, ⟨8, _⟩ => ⟨S16x256, .f32⟩
  | .hbm, ⟨9, _⟩ => ⟨S16x256, .f32⟩
  | .hbm, ⟨10, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | _, _ => ⟨S4x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference30Ideal.lean ====
abbrev S4x4x256 : Shape := ⟨3, ![4, 4, 256]⟩
abbrev S_ : Shape := ⟨0, ![]⟩
abbrev S16x256 : Shape := ⟨2, ![16, 256]⟩

abbrev nBuf : Space → Nat
  | .hbm => 40
  | .vmem => 0
  | .smem => 0
  | _ => 0

abbrev bufTy : (tb : Table) → Fin (tcTables nBuf tb) → BufTy
  | .hbm, ⟨0, _⟩ => ⟨S4x4x256, .f32⟩
  | .hbm, ⟨1, _⟩ => ⟨S4x4x256, .f32⟩
  | .hbm, ⟨2, _⟩ => ⟨S4x4x256, .f32⟩
  | .hbm, ⟨3, _⟩ => ⟨S4x4x256, .f32⟩
  | .hbm, ⟨4, _⟩ => ⟨S_, .f32⟩
  | .hbm, ⟨5, _⟩ => ⟨S4x4x256, .f32⟩
  | .hbm, ⟨6, _⟩ => ⟨S4x4x256, .f32⟩
  | .hbm, ⟨7, _⟩ => ⟨S_, .f32⟩
  | .hbm, ⟨8, _⟩ => ⟨S4x4x256, .f32⟩
  | .hbm, ⟨9, _⟩ => ⟨S4x4x256, .f32⟩
  | .hbm, ⟨10, _⟩ => ⟨S4x4x256, .f32⟩
  | .hbm, ⟨11, _⟩ => ⟨S_, .f32⟩
  | .hbm, ⟨12, _⟩ => ⟨S4x4x256, .f32⟩
  | .hbm, ⟨13, _⟩ => ⟨S4x4x256, .f32⟩
  | .hbm, ⟨14, _⟩ => ⟨S4x4x256, .f32⟩
  | .hbm, ⟨15, _⟩ => ⟨S_, .f32⟩
  | .hbm, ⟨16, _⟩ => ⟨S4x4x256, .f32⟩
  | .hbm, ⟨17, _⟩ => ⟨S4x4x256, .f32⟩
  | .hbm, ⟨18, _⟩ => ⟨S4x4x256, .f32⟩
  | .hbm, ⟨19, _⟩ => ⟨S_, .f32⟩
  | .hbm, ⟨20, _⟩ => ⟨S4x4x256, .f32⟩
  | .hbm, ⟨21, _⟩ => ⟨S4x4x256, .f32⟩
  | .hbm, ⟨22, _⟩ => ⟨S_, .f32⟩
  | .hbm, ⟨23, _⟩ => ⟨S4x4x256, .f32⟩
  | .hbm, ⟨24, _⟩ => ⟨S4x4x256, .f32⟩
  | .hbm, ⟨25, _⟩ => ⟨S4x4x256, .f32⟩
  | .hbm, ⟨26, _⟩ => ⟨S_, .f32⟩
  | .hbm, ⟨27, _⟩ => ⟨S4x4x256, .f32⟩
  | .hbm, ⟨28, _⟩ => ⟨S4x4x256, .f32⟩
  | .hbm, ⟨29, _⟩ => ⟨S4x4x256, .f32⟩
  | .hbm, ⟨30, _⟩ => ⟨S_, .f32⟩
  | .hbm, ⟨31, _⟩ => ⟨S4x4x256, .f32⟩
  | .hbm, ⟨32, _⟩ => ⟨S4x4x256, .f32⟩
  | .hbm, ⟨33, _⟩ => ⟨S4x4x256, .f32⟩
  | .hbm, ⟨34, _⟩ => ⟨S_, .f32⟩
  | .hbm, ⟨35, _⟩ => ⟨S4x4x256, .f32⟩
  | .hbm, ⟨36, _⟩ => ⟨S4x4x256, .f32⟩
  | .hbm, ⟨37, _⟩ => ⟨S16x256, .f32⟩
  | .hbm, ⟨38, _⟩ => ⟨S16x256, .f32⟩
  | .hbm, ⟨39, _⟩ => ⟨S16x256, .f32⟩
  | _, _ => ⟨S4x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel31.lean ====
abbrev S4x7688 : Shape := ⟨2, ![4, 7688]⟩

abbrev nBuf : Space → Nat
  | .hbm => 7
  | .vmem => 7
  | .smem => 0
  | _ => 0

abbrev bufTy : (tb : Table) → Fin (tcTables nBuf tb) → BufTy
  | .hbm, ⟨0, _⟩ => ⟨S4x7688, .f32⟩
  | .hbm, ⟨1, _⟩ => ⟨S4x7688, .f32⟩
  | .hbm, ⟨2, _⟩ => ⟨S4x7688, .f32⟩
  | .hbm, ⟨3, _⟩ => ⟨S4x7688, .f32⟩
  | .hbm, ⟨4, _⟩ => ⟨S4x7688, .f32⟩
  | .hbm, ⟨5, _⟩ => ⟨S4x7688, .f32⟩
  | .hbm, ⟨6, _⟩ => ⟨S4x7688, .f32⟩
  | .local _ .vmem, ⟨0, _⟩ => ⟨S4x7688, .f32⟩
  | .local _ .vmem, ⟨1, _⟩ => ⟨S4x7688, .f32⟩
  | .local _ .vmem, ⟨2, _⟩ => ⟨S4x7688, .f32⟩
  | .local _ .vmem, ⟨3, _⟩ => ⟨S4x7688, .f32⟩
  | .local _ .vmem, ⟨4, _⟩ => ⟨S4x7688, .f32⟩
  | .local _ .vmem, ⟨5, _⟩ => ⟨S4x7688, .f32⟩
  | .local _ .vmem, ⟨6, _⟩ => ⟨S4x7688, .f32⟩
  | _, _ => ⟨S4x7688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x7688 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x7688 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x7688 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x7688 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x7688 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x7688 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x7688 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference31Ideal.lean ====
abbrev S4x7688 : Shape := ⟨2, ![4, 7688]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x7688, .f32⟩
  | .hbm, ⟨1, _⟩ => ⟨S4x7688, .f32⟩
  | .hbm, ⟨2, _⟩ => ⟨S4x7688, .f32⟩
  | .hbm, ⟨3, _⟩ => ⟨S4x7688, .f32⟩
  | .hbm, ⟨4, _⟩ => ⟨S_, .f32⟩
  | .hbm, ⟨5, _⟩ => ⟨S4x7688, .f32⟩
  | .hbm, ⟨6, _⟩ => ⟨S4x7688, .f32⟩
  | .hbm, ⟨7, _⟩ => ⟨S_, .f32⟩
  | .hbm, ⟨8, _⟩ => ⟨S4x7688, .f32⟩
  | .hbm, ⟨9, _⟩ => ⟨S4x7688, .f32⟩
  | .hbm, ⟨10, _⟩ => ⟨S4x7688, .f32⟩
  | .hbm, ⟨11, _⟩ => ⟨S_, .f32⟩
  | .hbm, ⟨12, _⟩ => ⟨S4x7688, .f32⟩
  | .hbm, ⟨13, _⟩ => ⟨S4x7688, .f32⟩
  | .hbm, ⟨14, _⟩ => ⟨S4x7688, .f32⟩
  | .hbm, ⟨15, _⟩ => ⟨S_, .f32⟩
  | .hbm, ⟨16, _⟩ => ⟨S4x7688, .f32⟩
  | .hbm, ⟨17, _⟩ => ⟨S4x7688, .f32⟩
  | .hbm, ⟨18, _⟩ => ⟨S4x7688, .f32⟩
  | .hbm, ⟨19, _⟩ => ⟨S_, .f32⟩
  | .hbm, ⟨20, _⟩ => ⟨S4x7688, .f32⟩
  | .hbm, ⟨21, _⟩ => ⟨S4x7688, .f32⟩
  | .hbm, ⟨22, _⟩ => ⟨S_, .f32⟩
  | .hbm, ⟨23, _⟩ => ⟨S4x7688, .f32⟩
  | .hbm, ⟨24, _⟩ => ⟨S4x7688, .f32⟩
  | .hbm, ⟨25, _⟩ => ⟨S4x7688, .f32⟩
  | .hbm, ⟨26, _⟩ => ⟨S_, .f32⟩
  | .hbm, ⟨27, _⟩ => ⟨S4x7688, .f32⟩
  | .hbm, ⟨28, _⟩ => ⟨S4x7688, .f32⟩
  | .hbm, ⟨29, _⟩ => ⟨S4x7688, .f32⟩
  | .hbm, ⟨30, _⟩ => ⟨S_, .f32⟩
  | .hbm, ⟨31, _⟩ => ⟨S4x7688, .f32⟩
  | .hbm, ⟨32, _⟩ => ⟨S4x7688, .f32⟩
  | .hbm, ⟨33, _⟩ => ⟨S4x7688, .f32⟩
  | .hbm, ⟨34, _⟩ => ⟨S_, .f32⟩
  | .hbm, ⟨35, _⟩ => ⟨S4x7688, .f32⟩
  | .hbm, ⟨36, _⟩ => ⟨S4x7688, .f32⟩
  | _, _ => ⟨S4x7688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel32.lean ====
abbrev S4x512 : Shape := ⟨2, ![4, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference32Ideal.lean ====
abbrev S4x512 : Shape := ⟨2, ![4, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S_, .f32⟩
  | .hbm, ⟨5, _⟩ => ⟨S4x512, .f32⟩
  | .hbm, ⟨6, _⟩ => ⟨S4x512, .f32⟩
  | .hbm, ⟨7, _⟩ => ⟨S_, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S_, .f32⟩
  | .hbm, ⟨12, _⟩ => ⟨S4x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S4x512, .f32⟩
  | .hbm, ⟨17, _⟩ => ⟨S4x512, .f32⟩
  | .hbm, ⟨18, _⟩ => ⟨S4x512, .f32⟩
  | .hbm, ⟨19, _⟩ => ⟨S_, .f32⟩
  | .hbm, ⟨20, _⟩ => ⟨S4x512, .f32⟩
  | .hbm, ⟨21, _⟩ => ⟨S4x512, .f32⟩
  | .hbm, ⟨22, _⟩ => ⟨S_, .f32⟩
  | .hbm, ⟨23, _⟩ => ⟨S4x512, .f32⟩
  | .hbm, ⟨24, _⟩ => ⟨S4x512, .f32⟩
  | .hbm, ⟨25, _⟩ => ⟨S4x512, .f32⟩
  | .hbm, ⟨26, _⟩ => ⟨S_, .f32⟩
  | .hbm, ⟨27, _⟩ => ⟨S4x512, .f32⟩
  | .hbm, ⟨28, _⟩ => ⟨S4x512, .f32⟩
  | .hbm, ⟨29, _⟩ => ⟨S4x512, .f32⟩
  | .hbm, ⟨30, _⟩ => ⟨S_, .f32⟩
  | .hbm, ⟨31, _⟩ => ⟨S4x512, .f32⟩
  | .hbm, ⟨32, _⟩ => ⟨S4x512, .f32⟩
  | .hbm, ⟨33, _⟩ => ⟨S4x512, .f32⟩
  | .hbm, ⟨34, _⟩ => ⟨S_, .f32⟩
  | .hbm, ⟨35, _⟩ => ⟨S4x512, .f32⟩
  | .hbm, ⟨36, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel33.lean ====
abbrev S4x8x128x128 : Shape := ⟨4, ![4, 8, 128, 128]⟩
abbrev S4096x128 : Shape := ⟨2, ![4096, 128]⟩
abbrev S512x128 : Shape := ⟨2, ![512, 128]⟩

abbrev nBuf : Space → Nat
  | .hbm => 11
  | .vmem => 14
  | .smem => 0
  | _ => 0

abbrev bufTy : (tb : Table) → Fin (tcTables nBuf tb) → BufTy
  | .hbm, ⟨0, _⟩ => ⟨S4x8x128x128, .f32⟩
  | .hbm, ⟨1, _⟩ => ⟨S4x8x128x128, .f32⟩
  | .hbm, ⟨2, _⟩ => ⟨S4x8x128x128, .f32⟩
  | .hbm, ⟨3, _⟩ => ⟨S4x8x128x128, .f32⟩
  | .hbm, ⟨4, _⟩ => ⟨S4096x128, .f32⟩
  | .hbm, ⟨5, _⟩ => ⟨S4096x128, .f32⟩
  | .hbm, ⟨6, _⟩ => ⟨S4096x128, .f32⟩
  | .hbm, ⟨7, _⟩ => ⟨S4096x128, .f32⟩
  | .hbm, ⟨8, _⟩ => ⟨S4096x128, .f32⟩
  | .hbm, ⟨9, _⟩ => ⟨S4096x128, .f32⟩
  | .hbm, ⟨10, _⟩ => ⟨S4096x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S4x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference33Ideal.lean ====
abbrev S4x8x128x128 : Shape := ⟨4, ![4, 8, 128, 128]⟩
abbrev S_ : Shape := ⟨0, ![]⟩
abbrev S4096x128 : Shape := ⟨2, ![4096, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x8x128x128, .f32⟩
  | .hbm, ⟨1, _⟩ => ⟨S4x8x128x128, .f32⟩
  | .hbm, ⟨2, _⟩ => ⟨S4x8x128x128, .f32⟩
  | .hbm, ⟨3, _⟩ => ⟨S4x8x128x128, .f32⟩
  | .hbm, ⟨4, _⟩ => ⟨S_, .f32⟩
  | .hbm, ⟨5, _⟩ => ⟨S4x8x128x128, .f32⟩
  | .hbm, ⟨6, _⟩ => ⟨S4x8x128x128, .f32⟩
  | .hbm, ⟨7, _⟩ => ⟨S_, .f32⟩
  | .hbm, ⟨8, _⟩ => ⟨S4x8x128x128, .f32⟩
  | .hbm, ⟨9, _⟩ => ⟨S4x8x128x128, .f32⟩
  | .hbm, ⟨10, _⟩ => ⟨S4x8x128x128, .f32⟩
  | .hbm, ⟨11, _⟩ => ⟨S_, .f32⟩
  | .hbm, ⟨12, _⟩ => ⟨S4x8x128x128, .f32⟩
  | .hbm, ⟨13, _⟩ => ⟨S4x8x128x128, .f32⟩
  | .hbm, ⟨14, _⟩ => ⟨S4x8x128x128, .f32⟩
  | .hbm, ⟨15, _⟩ => ⟨S_, .f32⟩
  | .hbm, ⟨16, _⟩ => ⟨S4x8x128x128, .f32⟩
  | .hbm, ⟨17, _⟩ => ⟨S4x8x128x128, .f32⟩
  | .hbm, ⟨18, _⟩ => ⟨S4x8x128x128, .f32⟩
  | .hbm, ⟨19, _⟩ => ⟨S_, .f32⟩
  | .hbm, ⟨20, _⟩ => ⟨S4x8x128x128, .f32⟩
  | .hbm, ⟨21, _⟩ => ⟨S4x8x128x128, .f32⟩
  | .hbm, ⟨22, _⟩ => ⟨S_, .f32⟩
  | .hbm, ⟨23, _⟩ => ⟨S4x8x128x128, .f32⟩
  | .hbm, ⟨24, _⟩ => ⟨S4x8x128x128, .f32⟩
  | .hbm, ⟨25, _⟩ => ⟨S4x8x128x128, .f32⟩
  | .hbm, ⟨26, _⟩ => ⟨S_, .f32⟩
  | .hbm, ⟨27, _⟩ => ⟨S4x8x128x128, .f32⟩
  | .hbm, ⟨28, _⟩ => ⟨S4x8x128x128, .f32⟩
  | .hbm, ⟨29, _⟩ => ⟨S4x8x128x128, .f32⟩
  | .hbm, ⟨30, _⟩ => ⟨S_, .f32⟩
  | .hbm, ⟨31, _⟩ => ⟨S4x8x128x128, .f32⟩
  | .hbm, ⟨32, _⟩ => ⟨S4x8x128x128, .f32⟩
  | .hbm, ⟨33, _⟩ => ⟨S4x8x128x128, .f32⟩
  | .hbm, ⟨34, _⟩ => ⟨S_, .f32⟩
  | .hbm, ⟨35, _⟩ => ⟨S4x8x128x128, .f32⟩
  | .hbm, ⟨36, _⟩ => ⟨S4x8x128x128, .f32⟩
  | .hbm, ⟨37, _⟩ => ⟨S4096x128, .f32⟩
  | .hbm, ⟨38, _⟩ => ⟨S4096x128, .f32⟩
  | .hbm, ⟨39, _⟩ => ⟨S4096x128, .f32⟩
  | _, _ => ⟨S4x8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel34.lean ====
abbrev S4x8x128 : Shape := ⟨3, ![4, 8, 128]⟩
abbrev S32x128 : Shape := ⟨2, ![32, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x8x128, .f32⟩
  | .hbm, ⟨1, _⟩ => ⟨S4x8x128, .f32⟩
  | .hbm, ⟨2, _⟩ => ⟨S4x8x128, .f32⟩
  | .hbm, ⟨3, _⟩ => ⟨S4x8x128, .f32⟩
  | .hbm, ⟨4, _⟩ => ⟨S32x128, .f32⟩
  | .hbm, ⟨5, _⟩ => ⟨S32x128, .f32⟩
  | .hbm, ⟨6, _⟩ => ⟨S32x128, .f32⟩
  | .hbm, ⟨7, _⟩ => ⟨S32x128, .f32⟩
  | .hbm, ⟨8, _⟩ => ⟨S32x128, .f32⟩
  | .hbm, ⟨9, _⟩ => ⟨S32x128, .f32⟩
  | .hbm, ⟨10, _⟩ => ⟨S32x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | _, _ => ⟨S4x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference34Ideal.lean ====
abbrev S4x8x128 : Shape := ⟨3, ![4, 8, 128]⟩
abbrev S_ : Shape := ⟨0, ![]⟩
abbrev S32x128 : Shape := ⟨2, ![32, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x8x128, .f32⟩
  | .hbm, ⟨1, _⟩ => ⟨S4x8x128, .f32⟩
  | .hbm, ⟨2, _⟩ => ⟨S4x8x128, .f32⟩
  | .hbm, ⟨3, _⟩ => ⟨S4x8x128, .f32⟩
  | .hbm, ⟨4, _⟩ => ⟨S_, .f32⟩
  | .hbm, ⟨5, _⟩ => ⟨S4x8x128, .f32⟩
  | .hbm, ⟨6, _⟩ => ⟨S4x8x128, .f32⟩
  | .hbm, ⟨7, _⟩ => ⟨S_, .f32⟩
  | .hbm, ⟨8, _⟩ => ⟨S4x8x128, .f32⟩
  | .hbm, ⟨9, _⟩ => ⟨S4x8x128, .f32⟩
  | .hbm, ⟨10, _⟩ => ⟨S4x8x128, .f32⟩
  | .hbm, ⟨11, _⟩ => ⟨S_, .f32⟩
  | .hbm, ⟨12, _⟩ => ⟨S4x8x128, .f32⟩
  | .hbm, ⟨13, _⟩ => ⟨S4x8x128, .f32⟩
  | .hbm, ⟨14, _⟩ => ⟨S4x8x128, .f32⟩
  | .hbm, ⟨15, _⟩ => ⟨S_, .f32⟩
  | .hbm, ⟨16, _⟩ => ⟨S4x8x128, .f32⟩
  | .hbm, ⟨17, _⟩ => ⟨S4x8x128, .f32⟩
  | .hbm, ⟨18, _⟩ => ⟨S4x8x128, .f32⟩
  | .hbm, ⟨19, _⟩ => ⟨S_, .f32⟩
  | .hbm, ⟨20, _⟩ => ⟨S4x8x128, .f32⟩
  | .hbm, ⟨21, _⟩ => ⟨S4x8x128, .f32⟩
  | .hbm, ⟨22, _⟩ => ⟨S_, .f32⟩
  | .hbm, ⟨23, _⟩ => ⟨S4x8x128, .f32⟩
  | .hbm, ⟨24, _⟩ => ⟨S4x8x128, .f32⟩
  | .hbm, ⟨25, _⟩ => ⟨S4x8x128, .f32⟩
  | .hbm, ⟨26, _⟩ => ⟨S_, .f32⟩
  | .hbm, ⟨27, _⟩ => ⟨S4x8x128, .f32⟩
  | .hbm, ⟨28, _⟩ => ⟨S4x8x128, .f32⟩
  | .hbm, ⟨29, _⟩ => ⟨S4x8x128, .f32⟩
  | .hbm, ⟨30, _⟩ => ⟨S_, .f32⟩
  | .hbm, ⟨31, _⟩ => ⟨S4x8x128, .f32⟩
  | .hbm, ⟨32, _⟩ => ⟨S4x8x128, .f32⟩
  | .hbm, ⟨33, _⟩ => ⟨S4x8x128, .f32⟩
  | .hbm, ⟨34, _⟩ => ⟨S_, .f32⟩
  | .hbm, ⟨35, _⟩ => ⟨S4x8x128, .f32⟩
  | .hbm, ⟨36, _⟩ => ⟨S4x8x128, .f32⟩
  | .hbm, ⟨37, _⟩ => ⟨S32x128, .f32⟩
  | .hbm, ⟨38, _⟩ => ⟨S32x128, .f32⟩
  | .hbm, ⟨39, _⟩ => ⟨S32x128, .f32⟩
  | _, _ => ⟨S4x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel35.lean ====
abbrev S4x4x384 : Shape := ⟨3, ![4, 4, 384]⟩
abbrev S16x384 : Shape := ⟨2, ![16, 384]⟩

abbrev nBuf : Space → Nat
  | .hbm => 11
  | .vmem => 7
  | .smem => 0
  | _ => 0

abbrev bufTy : (tb : Table) → Fin (tcTables nBuf tb) → BufTy
  | .hbm, ⟨0, _⟩ => ⟨S4x4x384, .f32⟩
  | .hbm, ⟨1, _⟩ => ⟨S4x4x384, .f32⟩
  | .hbm, ⟨2, _⟩ => ⟨S4x4x384, .f32⟩
  | .hbm, ⟨3, _⟩ => ⟨S4x4x384, .f32⟩
  | .hbm, ⟨4, _⟩ => ⟨S16x384, .f32⟩
  | .hbm, ⟨5, _⟩ => ⟨S16x384, .f32⟩
  | .hbm, ⟨6, _⟩ => ⟨S16x384, .f32⟩
  | .hbm, ⟨7, _⟩ => ⟨S16x384, .f32⟩
  | .hbm, ⟨8, _⟩ => ⟨S16x384, .f32⟩
  | .hbm, ⟨9, _⟩ => ⟨S16x384, .f32⟩
  | .hbm, ⟨10, _⟩ => ⟨S16x384, .f32⟩
  | .local _ .vmem, ⟨0, _⟩ => ⟨S16x384, .f32⟩
  | .local _ .vmem, ⟨1, _⟩ => ⟨S16x384, .f32⟩
  | .local _ .vmem, ⟨2, _⟩ => ⟨S16x384, .f32⟩
  | .local _ .vmem, ⟨3, _⟩ => ⟨S16x384, .f32⟩
  | .local _ .vmem, ⟨4, _⟩ => ⟨S16x384, .f32⟩
  | .local _ .vmem, ⟨5, _⟩ => ⟨S16x384, .f32⟩
  | .local _ .vmem, ⟨6, _⟩ => ⟨S16x384, .f32⟩
  | _, _ => ⟨S4x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference35Ideal.lean ====
abbrev S4x4x384 : Shape := ⟨3, ![4, 4, 384]⟩
abbrev S_ : Shape := ⟨0, ![]⟩
abbrev S16x384 : Shape := ⟨2, ![16, 384]⟩

abbrev nBuf : Space → Nat
  | .hbm => 40
  | .vmem => 0
  | .smem => 0
  | _ => 0

abbrev bufTy : (tb : Table) → Fin (tcTables nBuf tb) → BufTy
  | .hbm, ⟨0, _⟩ => ⟨S4x4x384, .f32⟩
  | .hbm, ⟨1, _⟩ => ⟨S4x4x384, .f32⟩
  | .hbm, ⟨2, _⟩ => ⟨S4x4x384, .f32⟩
  | .hbm, ⟨3, _⟩ => ⟨S4x4x384, .f32⟩
  | .hbm, ⟨4, _⟩ => ⟨S_, .f32⟩
  | .hbm, ⟨5, _⟩ => ⟨S4x4x384, .f32⟩
  | .hbm, ⟨6, _⟩ => ⟨S4x4x384, .f32⟩
  | .hbm, ⟨7, _⟩ => ⟨S_, .f32⟩
  | .hbm, ⟨8, _⟩ => ⟨S4x4x384, .f32⟩
  | .hbm, ⟨9, _⟩ => ⟨S4x4x384, .f32⟩
  | .hbm, ⟨10, _⟩ => ⟨S4x4x384, .f32⟩
  | .hbm, ⟨11, _⟩ => ⟨S_, .f32⟩
  | .hbm, ⟨12, _⟩ => ⟨S4x4x384, .f32⟩
  | .hbm, ⟨13, _⟩ => ⟨S4x4x384, .f32⟩
  | .hbm, ⟨14, _⟩ => ⟨S4x4x384, .f32⟩
  | .hbm, ⟨15, _⟩ => ⟨S_, .f32⟩
  | .hbm, ⟨16, _⟩ => ⟨S4x4x384, .f32⟩
  | .hbm, ⟨17, _⟩ => ⟨S4x4x384, .f32⟩
  | .hbm, ⟨18, _⟩ => ⟨S4x4x384, .f32⟩
  | .hbm, ⟨19, _⟩ => ⟨S_, .f32⟩
  | .hbm, ⟨20, _⟩ => ⟨S4x4x384, .f32⟩
  | .hbm, ⟨21, _⟩ => ⟨S4x4x384, .f32⟩
  | .hbm, ⟨22, _⟩ => ⟨S_, .f32⟩
  | .hbm, ⟨23, _⟩ => ⟨S4x4x384, .f32⟩
  | .hbm, ⟨24, _⟩ => ⟨S4x4x384, .f32⟩
  | .hbm, ⟨25, _⟩ => ⟨S4x4x384, .f32⟩
  | .hbm, ⟨26, _⟩ => ⟨S_, .f32⟩
  | .hbm, ⟨27, _⟩ => ⟨S4x4x384, .f32⟩
  | .hbm, ⟨28, _⟩ => ⟨S4x4x384, .f32⟩
  | .hbm, ⟨29, _⟩ => ⟨S4x4x384, .f32⟩
  | .hbm, ⟨30, _⟩ => ⟨S_, .f32⟩
  | .hbm, ⟨31, _⟩ => ⟨S4x4x384, .f32⟩
  | .hbm, ⟨32, _⟩ => ⟨S4x4x384, .f32⟩
  | .hbm, ⟨33, _⟩ => ⟨S4x4x384, .f32⟩
  | .hbm, ⟨34, _⟩ => ⟨S_, .f32⟩
  | .hbm, ⟨35, _⟩ => ⟨S4x4x384, .f32⟩
  | .hbm, ⟨36, _⟩ => ⟨S4x4x384, .f32⟩
  | .hbm, ⟨37, _⟩ => ⟨S16x384, .f32⟩
  | .hbm, ⟨38, _⟩ => ⟨S16x384, .f32⟩
  | .hbm, ⟨39, _⟩ => ⟨S16x384, .f32⟩
  | _, _ => ⟨S4x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel36.lean ====
abbrev S4x4 : Shape := ⟨2, ![4, 4]⟩

abbrev nBuf : Space → Nat
  | .hbm => 7
  | .vmem => 7
  | .smem => 0
  | _ => 0

abbrev bufTy : (tb : Table) → Fin (tcTables nBuf tb) → BufTy
  | .hbm, ⟨0, _⟩ => ⟨S4x4, .f32⟩
  | .hbm, ⟨1, _⟩ => ⟨S4x4, .f32⟩
  | .hbm, ⟨2, _⟩ => ⟨S4x4, .f32⟩
  | .hbm, ⟨3, _⟩ => ⟨S4x4, .f32⟩
  | .hbm, ⟨4, _⟩ => ⟨S4x4, .f32⟩
  | .hbm, ⟨5, _⟩ => ⟨S4x4, .f32⟩
  | .hbm, ⟨6, _⟩ => ⟨S4x4, .f32⟩
  | .local _ .vmem, ⟨0, _⟩ => ⟨S4x4, .f32⟩
  | .local _ .vmem, ⟨1, _⟩ => ⟨S4x4, .f32⟩
  | .local _ .vmem, ⟨2, _⟩ => ⟨S4x4, .f32⟩
  | .local _ .vmem, ⟨3, _⟩ => ⟨S4x4, .f32⟩
  | .local _ .vmem, ⟨4, _⟩ => ⟨S4x4, .f32⟩
  | .local _ .vmem, ⟨5, _⟩ => ⟨S4x4, .f32⟩
  | .local _ .vmem, ⟨6, _⟩ => ⟨S4x4, .f32⟩
  | _, _ => ⟨S4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference36Ideal.lean ====
abbrev S4x4 : Shape := ⟨2, ![4, 4]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x4, .f32⟩
  | .hbm, ⟨1, _⟩ => ⟨S4x4, .f32⟩
  | .hbm, ⟨2, _⟩ => ⟨S4x4, .f32⟩
  | .hbm, ⟨3, _⟩ => ⟨S4x4, .f32⟩
  | .hbm, ⟨4, _⟩ => ⟨S_, .f32⟩
  | .hbm, ⟨5, _⟩ => ⟨S4x4, .f32⟩
  | .hbm, ⟨6, _⟩ => ⟨S4x4, .f32⟩
  | .hbm, ⟨7, _⟩ => ⟨S_, .f32⟩
  | .hbm, ⟨8, _⟩ => ⟨S4x4, .f32⟩
  | .hbm, ⟨9, _⟩ => ⟨S4x4, .f32⟩
  | .hbm, ⟨10, _⟩ => ⟨S4x4, .f32⟩
  | .hbm, ⟨11, _⟩ => ⟨S_, .f32⟩
  | .hbm, ⟨12, _⟩ => ⟨S4x4, .f32⟩
  | .hbm, ⟨13, _⟩ => ⟨S4x4, .f32⟩
  | .hbm, ⟨14, _⟩ => ⟨S4x4, .f32⟩
  | .hbm, ⟨15, _⟩ => ⟨S_, .f32⟩
  | .hbm, ⟨16, _⟩ => ⟨S4x4, .f32⟩
  | .hbm, ⟨17, _⟩ => ⟨S4x4, .f32⟩
  | .hbm, ⟨18, _⟩ => ⟨S4x4, .f32⟩
  | .hbm, ⟨19, _⟩ => ⟨S_, .f32⟩
  | .hbm, ⟨20, _⟩ => ⟨S4x4, .f32⟩
  | .hbm, ⟨21, _⟩ => ⟨S4x4, .f32⟩
  | .hbm, ⟨22, _⟩ => ⟨S_, .f32⟩
  | .hbm, ⟨23, _⟩ => ⟨S4x4, .f32⟩
  | .hbm, ⟨24, _⟩ => ⟨S4x4, .f32⟩
  | .hbm, ⟨25, _⟩ => ⟨S4x4, .f32⟩
  | .hbm, ⟨26, _⟩ => ⟨S_, .f32⟩
  | .hbm, ⟨27, _⟩ => ⟨S4x4, .f32⟩
  | .hbm, ⟨28, _⟩ => ⟨S4x4, .f32⟩
  | .hbm, ⟨29, _⟩ => ⟨S4x4, .f32⟩
  | .hbm, ⟨30, _⟩ => ⟨S_, .f32⟩
  | .hbm, ⟨31, _⟩ => ⟨S4x4, .f32⟩
  | .hbm, ⟨32, _⟩ => ⟨S4x4, .f32⟩
  | .hbm, ⟨33, _⟩ => ⟨S4x4, .f32⟩
  | .hbm, ⟨34, _⟩ => ⟨S_, .f32⟩
  | .hbm, ⟨35, _⟩ => ⟨S4x4, .f32⟩
  | .hbm, ⟨36, _⟩ => ⟨S4x4, .f32⟩
  | _, _ => ⟨S4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel37.lean ====
abbrev S4x128 : Shape := ⟨2, ![4, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference37Ideal.lean ====
abbrev S4x128 : Shape := ⟨2, ![4, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S_, .f32⟩
  | .hbm, ⟨5, _⟩ => ⟨S4x128, .f32⟩
  | .hbm, ⟨6, _⟩ => ⟨S4x128, .f32⟩
  | .hbm, ⟨7, _⟩ => ⟨S_, .f32⟩
  | .hbm, ⟨8, _⟩ => ⟨S4x128, .f32⟩
  | .hbm, ⟨9, _⟩ => ⟨S4x128, .f32⟩
  | .hbm, ⟨10, _⟩ => ⟨S4x128, .f32⟩
  | .hbm, ⟨11, _⟩ => ⟨S_, .f32⟩
  | .hbm, ⟨12, _⟩ => ⟨S4x128, .f32⟩
  | .hbm, ⟨13, _⟩ => ⟨S4x128, .f32⟩
  | .hbm, ⟨14, _⟩ => ⟨S4x128, .f32⟩
  | .hbm, ⟨15, _⟩ => ⟨S_, .f32⟩
  | .hbm, ⟨16, _⟩ => ⟨S4x128, .f32⟩
  | .hbm, ⟨17, _⟩ => ⟨S4x128, .f32⟩
  | .hbm, ⟨18, _⟩ => ⟨S4x128, .f32⟩
  | .hbm, ⟨19, _⟩ => ⟨S_, .f32⟩
  | .hbm, ⟨20, _⟩ => ⟨S4x128, .f32⟩
  | .hbm, ⟨21, _⟩ => ⟨S4x128, .f32⟩
  | .hbm, ⟨22, _⟩ => ⟨S_, .f32⟩
  | .hbm, ⟨23, _⟩ => ⟨S4x128, .f32⟩
  | .hbm, ⟨24, _⟩ => ⟨S4x128, .f32⟩
  | .hbm, ⟨25, _⟩ => ⟨S4x128, .f32⟩
  | .hbm, ⟨26, _⟩ => ⟨S_, .f32⟩
  | .hbm, ⟨27, _⟩ => ⟨S4x128, .f32⟩
  | .hbm, ⟨28, _⟩ => ⟨S4x128, .f32⟩
  | .hbm, ⟨29, _⟩ => ⟨S4x128, .f32⟩
  | .hbm, ⟨30, _⟩ => ⟨S_, .f32⟩
  | .hbm, ⟨31, _⟩ => ⟨S4x128, .f32⟩
  | .hbm, ⟨32, _⟩ => ⟨S4x128, .f32⟩
  | .hbm, ⟨33, _⟩ => ⟨S4x128, .f32⟩
  | .hbm, ⟨34, _⟩ => ⟨S_, .f32⟩
  | .hbm, ⟨35, _⟩ => ⟨S4x128, .f32⟩
  | .hbm, ⟨36, _⟩ => ⟨S4x128, .f32⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel38.lean ====
abbrev S8192x8192 : Shape := ⟨2, ![8192, 8192]⟩
abbrev S512 : Shape := ⟨1, ![512]⟩
abbrev S8x128x128 : Shape := ⟨3, ![8, 128, 128]⟩
abbrev S8x128 : Shape := ⟨2, ![8, 128]⟩
abbrev S1x512 : Shape := ⟨2, ![1, 512]⟩
abbrev S128x8 : Shape := ⟨2, ![128, 8]⟩
abbrev S_ : Shape := ⟨0, ![]⟩
abbrev S128x128 : Shape := ⟨2, ![128, 128]⟩
abbrev S8192x512 : Shape := ⟨2, ![8192, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S128x512 : Shape := ⟨2, ![128, 512]⟩
abbrev S1x128x128 : Shape := ⟨3, ![1, 128, 128]⟩

abbrev nBuf : Space → Nat
  | .hbm => 12
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S512, .f32⟩
  | .hbm, ⟨2, _⟩ => ⟨S512, .f32⟩
  | .hbm, ⟨3, _⟩ => ⟨S8x128x128, .f32⟩
  | .hbm, ⟨4, _⟩ => ⟨S8x128, .f32⟩
  | .hbm, ⟨5, _⟩ => ⟨S1x512, .f32⟩
  | .hbm, ⟨6, _⟩ => ⟨S1x512, .f32⟩
  | .hbm, ⟨7, _⟩ => ⟨S128x8, .f32⟩
  | .hbm, ⟨8, _⟩ => ⟨S_, .i32⟩
  | .hbm, ⟨9, _⟩ => ⟨S_, .f32⟩
  | .hbm, ⟨10, _⟩ => ⟨S128x128, .f32⟩
  | .hbm, ⟨11, _⟩ => ⟨S8192x512, .bf16⟩
  | .local _ .vmem, ⟨0, _⟩ => ⟨S256x1024, .f32⟩
  | .local _ .vmem, ⟨1, _⟩ => ⟨S256x1024, .f32⟩
  | .local _ .vmem, ⟨2, _⟩ => ⟨S1x512, .f32⟩
  | .local _ .vmem, ⟨3, _⟩ => ⟨S1x512, .f32⟩
  | .local _ .vmem, ⟨4, _⟩ => ⟨S8x128x128, .f32⟩
  | .local _ .vmem, ⟨5, _⟩ => ⟨S128x128, .f32⟩
  | .local _ .vmem, ⟨6, _⟩ => ⟨S256x512, .bf16⟩
  | .local _ .vmem, ⟨7, _⟩ => ⟨S256x512, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference38Ideal.lean ====
abbrev S8192x8192 : Shape := ⟨2, ![8192, 8192]⟩
abbrev S512 : Shape := ⟨1, ![512]⟩
abbrev S8x128x128 : Shape := ⟨3, ![8, 128, 128]⟩
abbrev S8x128 : Shape := ⟨2, ![8, 128]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S64x128x8x64 : Shape := ⟨4, ![64, 128, 8, 64]⟩
abbrev S128x128 : Shape := ⟨2, ![128, 128]⟩
abbrev S1x128x128 : Shape := ⟨3, ![1, 128, 128]⟩
abbrev S8x64x64x128 : Shape := ⟨4, ![8, 64, 64, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 84
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S512, .f32⟩
  | .hbm, ⟨2, _⟩ => ⟨S512, .f32⟩
  | .hbm, ⟨3, _⟩ => ⟨S8x128x128, .f32⟩
  | .hbm, ⟨4, _⟩ => ⟨S8x128, .f32⟩
  | .hbm, ⟨5, _⟩ => ⟨S8192x512, .f32⟩
  | .hbm, ⟨6, _⟩ => ⟨S8192x512, .f32⟩
  | .hbm, ⟨7, _⟩ => ⟨S_, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192x512, .f32⟩
  | .hbm, ⟨20, _⟩ => ⟨S8192x512, .f32⟩
  | .hbm, ⟨21, _⟩ => ⟨S_, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S8192x512, .f32⟩
  | .hbm, ⟨49, _⟩ => ⟨S8192x512, .f32⟩
  | .hbm, ⟨50, _⟩ => ⟨S1x512, .f32⟩
  | .hbm, ⟨51, _⟩ => ⟨S8192x512, .f32⟩
  | .hbm, ⟨52, _⟩ => ⟨S8192x512, .f32⟩
  | .hbm, ⟨53, _⟩ => ⟨S1x512, .f32⟩
  | .hbm, ⟨54, _⟩ => ⟨S8192x512, .f32⟩
  | .hbm, ⟨55, _⟩ => ⟨S8192x512, .f32⟩
  | .hbm, ⟨56, _⟩ => ⟨S64x128x8x64, .f32⟩
  | .hbm, ⟨57, _⟩ => ⟨S_, .i1⟩
  | .hbm, ⟨58, _⟩ => ⟨S128x128, .i1⟩
  | .hbm, ⟨59, _⟩ => ⟨S128x128, .i32⟩
  | .hbm, ⟨60, _⟩ => ⟨S_, .i32⟩
  | .hbm, ⟨61, _⟩ => ⟨S128x128, .i32⟩
  | .hbm, ⟨62, _⟩ => ⟨S128x128, .i32⟩
  | .hbm, ⟨63, _⟩ => ⟨S128x128, .i32⟩
  | .hbm, ⟨64, _⟩ => ⟨S128x128, .i1⟩
  | .hbm, ⟨65, _⟩ => ⟨S_, .i1⟩
  | .hbm, ⟨66, _⟩ => ⟨S128x128, .i1⟩
  | .hbm, ⟨67, _⟩ => ⟨S128x128, .i1⟩
  | .hbm, ⟨68, _⟩ => ⟨S1x128x128, .i1⟩
  | .hbm, ⟨69, _⟩ => ⟨S_, .i32⟩
  | .hbm, ⟨70, _⟩ => ⟨S_, .f32⟩
  | .hbm, ⟨71, _⟩ => ⟨S8x128x128, .i1⟩
  | .hbm, ⟨72, _⟩ => ⟨S8x128x128, .f32⟩
  | .hbm, ⟨73, _⟩ => ⟨S8x128x128, .f32⟩
  | .hbm, ⟨74, _⟩ => ⟨S8x64x64x128, .f32⟩
  | .hbm, ⟨75, _⟩ => ⟨S64x128x8x64, .f32⟩
  | .hbm, ⟨76, _⟩ => ⟨S128x8, .f32⟩
  | .hbm, ⟨77, _⟩ => ⟨S128x8x1, .f32⟩
  | .hbm, ⟨78, _⟩ => ⟨S1x128x8x1, .f32⟩
  | .hbm, ⟨79, _⟩ => ⟨S64x128x8x64, .f32⟩
  | .hbm, ⟨80, _⟩ => ⟨S64x128x8x64, .f32⟩
  | .hbm, ⟨81, _⟩ => ⟨S8192x512, .f32⟩
  | .hbm, ⟨82, _⟩ => ⟨S8192x512, .f32⟩
  | .hbm, ⟨83, _⟩ => ⟨S8192x512, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c : Ref sig .tc := ⟨.hbm, 57, rfl⟩
abbrev main_v41 : Ref sig .tc := ⟨.hbm, 58, rfl⟩
abbrev main_call0_v0 : Ref sig .tc := ⟨.hbm, 59, rfl⟩
abbrev main_call0_c : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_c_0 : Ref sig .tc := ⟨.hbm, 65, rfl⟩
abbrev main_call0_v5 : Ref sig .tc := ⟨.hbm, 66, rfl⟩
abbrev main_v42 : Ref sig .tc := ⟨.hbm, 67, rfl⟩
abbrev main_v43 : Ref sig .tc := ⟨.hbm, 68, rfl⟩
abbrev main_c_10 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩

abbrev nD : Nat := 1
abbrev τ : Topo := Topo.v7x

variable {F : FTy → Type} [FloatOps F]
-- ==== Kernel39.lean ====
abbrev S8192x8192 : Shape := ⟨2, ![8192, 8192]⟩
abbrev S4x1536 : Shape := ⟨2, ![4, 1536]⟩
abbrev S4 : Shape := ⟨1, ![4]⟩
abbrev S_ : Shape := ⟨0, ![]⟩
abbrev S128 : Shape := ⟨1, ![128]⟩
abbrev S1x128 : Shape := ⟨2, ![1, 128]⟩
abbrev S8192x512 : Shape := ⟨2, ![8192, 512]⟩
abbrev S256x2048 : Shape := ⟨2, ![256, 2048]⟩
abbrev S8x2048 : Shape := ⟨2, ![8, 2048]⟩
abbrev S256x512 : Shape := ⟨2, ![256, 512]⟩
abbrev S256x1536 : Shape := ⟨2, ![256, 1536]⟩
abbrev S8x1536 : Shape := ⟨2, ![8, 1536]⟩
abbrev S264x1536 : Shape := ⟨2, ![264, 1536]⟩
abbrev S1x1536 : Shape := ⟨2, ![1, 1536]⟩
abbrev S256x128 : Shape := ⟨2, ![256, 128]⟩
abbrev S256 : Shape := ⟨1, ![256]⟩
abbrev S256x1 : Shape := ⟨2, ![256, 1]⟩
abbrev S128x512 : Shape := ⟨2, ![128, 512]⟩

abbrev nBuf : Space → Nat
  | .hbm => 17
  | .vmem => 17
  | .smem => 0
  | _ => 0

abbrev bufTy : (tb : Table) → Fin (tcTables nBuf tb) → BufTy
  | .hbm, ⟨0, _⟩ => ⟨S8192x8192, .f32⟩
  | .hbm, ⟨1, _⟩ => ⟨S4x1536, .f32⟩
  | .hbm, ⟨2, _⟩ => ⟨S4, .f32⟩
  | .hbm, ⟨3, _⟩ => ⟨S4, .f32⟩
  | .hbm, ⟨4, _⟩ => ⟨S_, .i32⟩
  | .hbm, ⟨5, _⟩ => ⟨S_, .f32⟩
  | .hbm, ⟨6, _⟩ => ⟨S128, .f32⟩
  | .hbm, ⟨7, _⟩ => ⟨S1x128, .f32⟩
  | .hbm, ⟨8, _⟩ => ⟨S_, .i32⟩
  | .hbm, ⟨9, _⟩ => ⟨S_, .f32⟩
  | .hbm, ⟨10, _⟩ => ⟨S128, .f32⟩
  | .hbm, ⟨11, _⟩ => ⟨S1x128, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .f32⟩
  | .local _ .vmem, ⟨0, _⟩ => ⟨S256x2048, .f32⟩
  | .local _ .vmem, ⟨1, _⟩ => ⟨S256x2048, .f32⟩
  | .local _ .vmem, ⟨2, _⟩ => ⟨S8x2048, .f32⟩
  | .local _ .vmem, ⟨3, _⟩ => ⟨S8x2048, .f32⟩
  | .local _ .vmem, ⟨4, _⟩ => ⟨S4x1536, .f32⟩
  | .local _ .vmem, ⟨5, _⟩ => ⟨S1x128, .f32⟩
  | .local _ .vmem, ⟨6, _⟩ => ⟨S1x128, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference39Ideal.lean ====
abbrev S8192x8192 : Shape := ⟨2, ![8192, 8192]⟩
abbrev S4x1536 : Shape := ⟨2, ![4, 1536]⟩
abbrev S4 : Shape := ⟨1, ![4]⟩
abbrev S_ : Shape := ⟨0, ![]⟩
abbrev S3x1536 : Shape := ⟨2, ![3, 1536]⟩
abbrev S8192x1536 : Shape := ⟨2, ![8192, 1536]⟩
abbrev S8195x1536 : Shape := ⟨2, ![8195, 1536]⟩
abbrev S1x1536 : Shape := ⟨2, ![1, 1536]⟩
abbrev S1536 : Shape := ⟨1, ![1536]⟩
abbrev S8192x512 : Shape := ⟨2, ![8192, 512]⟩
abbrev S8192x4x128 : Shape := ⟨3, ![8192, 4, 128]⟩
abbrev S8192x4 : Shape := ⟨2, ![8192, 4]⟩
abbrev S8192x4x1 : Shape := ⟨3, ![8192, 4, 1]⟩
abbrev S1x4 : Shape := ⟨2, ![1, 4]⟩

abbrev nBuf : Space → Nat
  | .hbm => 109
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S4x1536, .f32⟩
  | .hbm, ⟨2, _⟩ => ⟨S4, .f32⟩
  | .hbm, ⟨3, _⟩ => ⟨S4, .f32⟩
  | .hbm, ⟨4, _⟩ => ⟨S_, .f32⟩
  | .hbm, ⟨5, _⟩ => ⟨S3x1536, .f32⟩
  | .hbm, ⟨6, _⟩ => ⟨S8192x1536, .f32⟩
  | .hbm, ⟨7, _⟩ => ⟨S8195x1536, .f32⟩
  | .hbm, ⟨8, _⟩ => ⟨S1x1536, .f32⟩
  | .hbm, ⟨9, _⟩ => ⟨S1536, .f32⟩
  | .hbm, ⟨10, _⟩ => ⟨S8192x1536, .f32⟩
  | .hbm, ⟨11, _⟩ => ⟨S1x1536, .f32⟩
  | .hbm, ⟨12, _⟩ => ⟨S8192x1536, .f32⟩
  | .hbm, ⟨13, _⟩ => ⟨S8192x1536, .f32⟩
  | .hbm, ⟨14, _⟩ => ⟨S1x1536, .f32⟩
  | .hbm, ⟨15, _⟩ => ⟨S1536, .f32⟩
  | .hbm, ⟨16, _⟩ => ⟨S8192x1536, .f32⟩
  | .hbm, ⟨17, _⟩ => ⟨S1x1536, .f32⟩
  | .hbm, ⟨18, _⟩ => ⟨S8192x1536, .f32⟩
  | .hbm, ⟨19, _⟩ => ⟨S8192x1536, .f32⟩
  | .hbm, ⟨20, _⟩ => ⟨S8192x1536, .f32⟩
  | .hbm, ⟨21, _⟩ => ⟨S1x1536, .f32⟩
  | .hbm, ⟨22, _⟩ => ⟨S1536, .f32⟩
  | .hbm, ⟨23, _⟩ => ⟨S8192x1536, .f32⟩
  | .hbm, ⟨24, _⟩ => ⟨S1x1536, .f32⟩
  | .hbm, ⟨25, _⟩ => ⟨S8192x1536, .f32⟩
  | .hbm, ⟨26, _⟩ => ⟨S8192x1536, .f32⟩
  | .hbm, ⟨27, _⟩ => ⟨S8192x1536, .f32⟩
  | .hbm, ⟨28, _⟩ => ⟨S1x1536, .f32⟩
  | .hbm, ⟨29, _⟩ => ⟨S1536, .f32⟩
  | .hbm, ⟨30, _⟩ => ⟨S8192x1536, .f32⟩
  | .hbm, ⟨31, _⟩ => ⟨S1x1536, .f32⟩
  | .hbm, ⟨32, _⟩ => ⟨S8192x1536, .f32⟩
  | .hbm, ⟨33, _⟩ => ⟨S8192x1536, .f32⟩
  | .hbm, ⟨34, _⟩ => ⟨S8192x1536, .f32⟩
  | .hbm, ⟨35, _⟩ => ⟨S8192x1536, .f32⟩
  | .hbm, ⟨36, _⟩ => ⟨S8192x1536, .f32⟩
  | .hbm, ⟨37, _⟩ => ⟨S_, .f32⟩
  | .hbm, ⟨38, _⟩ => ⟨S8192x1536, .f32⟩
  | .hbm, ⟨39, _⟩ => ⟨S8192x1536, .f32⟩
  | .hbm, ⟨40, _⟩ => ⟨S_, .f32⟩
  | .hbm, ⟨41, _⟩ => ⟨S8192x1536, .f32⟩
  | .hbm, ⟨42, _⟩ => ⟨S8192x1536, .f32⟩
  | .hbm, ⟨43, _⟩ => ⟨S8192x1536, .f32⟩
  | .hbm, ⟨44, _⟩ => ⟨S8192x512, .f32⟩
  | .hbm, ⟨45, _⟩ => ⟨S8192x4x128, .f32⟩
  | .hbm, ⟨46, _⟩ => ⟨S8192x4x128, .f32⟩
  | .hbm, ⟨47, _⟩ => ⟨S_, .f32⟩
  | .hbm, ⟨48, _⟩ => ⟨S8192x4, .f32⟩
  | .hbm, ⟨49, _⟩ => ⟨S8192x4x1, .f32⟩
  | .hbm, ⟨50, _⟩ => ⟨S_, .f32⟩
  | .hbm, ⟨51, _⟩ => ⟨S8192x4x1, .f32⟩
  | .hbm, ⟨52, _⟩ => ⟨S8192x4x1, .f32⟩
  | .hbm, ⟨53, _⟩ => ⟨S8192x4x1, .f32⟩
  | .hbm, ⟨54, _⟩ => ⟨S8192x4x128, .f32⟩
  | .hbm, ⟨55, _⟩ => ⟨S8192x4x128, .f32⟩
  | .hbm, ⟨56, _⟩ => ⟨S8192x512, .f32⟩
  | .hbm, ⟨57, _⟩ => ⟨S8192x512, .f32⟩
  | .hbm, ⟨58, _⟩ => ⟨S8192x4x128, .f32⟩
  | .hbm, ⟨59, _⟩ => ⟨S8192x4x128, .f32⟩
  | .hbm, ⟨60, _⟩ => ⟨S_, .f32⟩
  | .hbm, ⟨61, _⟩ => ⟨S8192x4, .f32⟩
  | .hbm, ⟨62, _⟩ => ⟨S8192x4x1, .f32⟩
  | .hbm, ⟨63, _⟩ => ⟨S_, .f32⟩
  | .hbm, ⟨64, _⟩ => ⟨S8192x4x1, .f32⟩
  | .hbm, ⟨65, _⟩ => ⟨S8192x4x1, .f32⟩
  | .hbm, ⟨66, _⟩ => ⟨S8192x4x1, .f32⟩
  | .hbm, ⟨67, _⟩ => ⟨S8192x4x128, .f32⟩
  | .hbm, ⟨68, _⟩ => ⟨S8192x4x128, .f32⟩
  | .hbm, ⟨69, _⟩ => ⟨S8192x512, .f32⟩
  | .hbm, ⟨70, _⟩ => ⟨S8192x4, .f32⟩
  | .hbm, ⟨71, _⟩ => ⟨S8192x4, .f32⟩
  | .hbm, ⟨72, _⟩ => ⟨S8192x4, .f32⟩
  | .hbm, ⟨73, _⟩ => ⟨S_, .f32⟩
  | .hbm, ⟨74, _⟩ => ⟨S8192x4, .f32⟩
  | .hbm, ⟨75, _⟩ => ⟨S8192x4, .f32⟩
  | .hbm, ⟨76, _⟩ => ⟨S_, .f32⟩
  | .hbm, ⟨77, _⟩ => ⟨S8192x4, .f32⟩
  | .hbm, ⟨78, _⟩ => ⟨S8192x4, .f32⟩
  | .hbm, ⟨79, _⟩ => ⟨S4, .f32⟩
  | .hbm, ⟨80, _⟩ => ⟨S4, .f32⟩
  | .hbm, ⟨81, _⟩ => ⟨S8192x4, .f32⟩
  | .hbm, ⟨82, _⟩ => ⟨S1x4, .f32⟩
  | .hbm, ⟨83, _⟩ => ⟨S8192x4, .f32⟩
  | .hbm, ⟨84, _⟩ => ⟨S8192x4, .f32⟩
  | .hbm, ⟨85, _⟩ => ⟨S_, .f32⟩
  | .hbm, ⟨86, _⟩ => ⟨S8192x4, .f32⟩
  | .hbm, ⟨87, _⟩ => ⟨S8192x4, .f32⟩
  | .hbm, ⟨88, _⟩ => ⟨S8192x4, .f32⟩
  | .hbm, ⟨89, _⟩ => ⟨S8192x4, .f32⟩
  | .hbm, ⟨90, _⟩ => ⟨S8192x4, .i1⟩
  | .hbm, ⟨91, _⟩ => ⟨S8192x4, .f32⟩
  | .hbm, ⟨92, _⟩ => ⟨S8192x4, .f32⟩
  | .hbm, ⟨93, _⟩ => ⟨S8192x4, .f32⟩
  | .hbm, ⟨94, _⟩ => ⟨S8192x4, .f32⟩
  | .hbm, ⟨95, _⟩ => ⟨S8192x4, .f32⟩
  | .hbm, ⟨96, _⟩ => ⟨S8192x4, .f32⟩
  | .hbm, ⟨97, _⟩ => ⟨S8192x4, .f32⟩
  | .hbm, ⟨98, _⟩ => ⟨S8192x4, .f32⟩
  | .hbm, ⟨99, _⟩ => ⟨S1x4, .f32⟩
  | .hbm, ⟨100, _⟩ => ⟨S8192x4, .f32⟩
  | .hbm, ⟨101, _⟩ => ⟨S8192x4, .f32⟩
  | .hbm, ⟨102, _⟩ => ⟨S8192x512, .f32⟩
  | .hbm, ⟨103, _⟩ => ⟨S8192x4x1, .f32⟩
  | .hbm, ⟨104, _⟩ => ⟨S8192x4x128, .f32⟩
  | .hbm, ⟨105, _⟩ => ⟨S8192x512, .f32⟩
  | .hbm, ⟨106, _⟩ => ⟨S8192x4x1, .f32⟩
  | .hbm, ⟨107, _⟩ => ⟨S8192x4x128, .f32⟩
  | .hbm, ⟨108, _⟩ => ⟨S8192x512, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_0 : Ref sig .tc := ⟨.hbm, 47, rfl⟩
abbrev main_v34 : Ref sig .tc := ⟨.hbm, 48, rfl⟩
abbrev main_v35 : Ref sig .tc := ⟨.hbm, 49, rfl⟩
abbrev main_cst_1 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_2 : Ref sig .tc := ⟨.hbm, 60, rfl⟩
abbrev main_v45 : Ref sig .tc := ⟨.hbm, 61, rfl⟩
abbrev main_v46 : Ref sig .tc := ⟨.hbm, 62, rfl⟩
abbrev main_cst_3 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_4 : Ref sig .tc := ⟨.hbm, 73, rfl⟩
abbrev main_v56 : Ref sig .tc := ⟨.hbm, 74, rfl⟩
abbrev main_v57 : Ref sig .tc := ⟨.hbm, 75, rfl⟩
abbrev main_cst_5 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_call1_cst : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_v6 : Ref sig .tc := ⟨.hbm, 92, rfl⟩
abbrev main_call1_v7 : Ref sig .tc := ⟨.hbm, 93, rfl⟩
abbrev main_call1_v8 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩

abbrev nD : Nat := 1
abbrev τ : Topo := Topo.v7x

variable {F : FTy → Type} [FloatOps F]
-- ==== Kernel40.lean ====
abbrev S4x9760x1024 : Shape := ⟨3, ![4, 9760, 1024]⟩
abbrev S1x9760x1024 : Shape := ⟨3, ![1, 9760, 1024]⟩
abbrev S9760x1024 : Shape := ⟨2, ![9760, 1024]⟩
abbrev S160x1024 : Shape := ⟨2, ![160, 1024]⟩

abbrev nBuf : Space → Nat
  | .hbm => 10
  | .vmem => 10
  | .smem => 0
  | _ => 0

abbrev bufTy : (tb : Table) → Fin (tcTables nBuf tb) → BufTy
  | .hbm, ⟨0, _⟩ => ⟨S4x9760x1024, .bf16⟩
  | .hbm, ⟨1, _⟩ => ⟨S1x9760x1024, .bf16⟩
  | .hbm, ⟨2, _⟩ => ⟨S9760x1024, .bf16⟩
  | .hbm, ⟨3, _⟩ => ⟨S1x9760x1024, .bf16⟩
  | .hbm, ⟨4, _⟩ => ⟨S9760x1024, .bf16⟩
  | .hbm, ⟨5, _⟩ => ⟨S1x9760x1024, .bf16⟩
  | .hbm, ⟨6, _⟩ => ⟨S9760x1024, .bf16⟩
  | .hbm, ⟨7, _⟩ => ⟨S1x9760x1024, .bf16⟩
  | .hbm, ⟨8, _⟩ => ⟨S9760x1024, .bf16⟩
  | .hbm, ⟨9, _⟩ => ⟨S9760x1024, .f32⟩
  | .local _ .vmem, ⟨0, _⟩ => ⟨S160x1024, .bf16⟩
  | .local _ .vmem, ⟨1, _⟩ => ⟨S160x1024, .bf16⟩
  | .local _ .vmem, ⟨2, _⟩ => ⟨S160x1024, .bf16⟩
  | .local _ .vmem, ⟨3, _⟩ => ⟨S160x1024, .bf16⟩
  | .local _ .vmem, ⟨4, _⟩ => ⟨S160x1024, .bf16⟩
  | .local _ .vmem, ⟨5, _⟩ => ⟨S160x1024, .bf16⟩
  | .local _ .vmem, ⟨6, _⟩ => ⟨S160x1024, .bf16⟩
  | .local _ .vmem, ⟨7, _⟩ => ⟨S160x1024, .bf16⟩
  | .local _ .vmem, ⟨8, _⟩ => ⟨S160x1024, .f32⟩
  | .local _ .vmem, ⟨9, _⟩ => ⟨S160x1024, .f32⟩
  | _, _ => ⟨S4x9760x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![61], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S160x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S160x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference40Ideal.lean ====
abbrev S4x9760x1024 : Shape := ⟨3, ![4, 9760, 1024]⟩
abbrev S_ : Shape := ⟨0, ![]⟩
abbrev S9760x1024 : Shape := ⟨2, ![9760, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x9760x1024, .bf16⟩
  | .hbm, ⟨1, _⟩ => ⟨S4x9760x1024, .f32⟩
  | .hbm, ⟨2, _⟩ => ⟨S_, .f32⟩
  | .hbm, ⟨3, _⟩ => ⟨S9760x1024, .f32⟩
  | _, _ => ⟨S4x9760x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KOut.lean ====
/-
  What one grid point of the gating gradient's kernel computes, named value by value: `V57` is the value that the
  kernel's text calls `%57`, as a function of the point's six input blocks. Then what each output's staging buffer
  holds after the point: the block itself for the gradient rows, and the value added to what the buffer held before
  (to zero at the first point) for the four parameter gradients.
-/
module

public import proofs.«01_k».proof.Defs
public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Out

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

section Values
variable (x0 : Vec F S256x1024 .f32) (x1 : Vec F S1x512 .f32) (x2 : Vec F S1x512 .f32) (x3 : Vec F S8x128x128 .f32) (x4 : Vec F S128x128 .f32) (x5 : Vec F S256x512 .f32)

def V2 (x0 : Vec F S256x1024 .f32) (x1 : Vec F S1x512 .f32) (x2 : Vec F S1x512 .f32) (x3 : Vec F S8x128x128 .f32) (x4 : Vec F S128x128 .f32) (x5 : Vec F S256x512 .f32) : FVec F S1x512 .f32 := k0_pay3 x1
def V4 (x0 : Vec F S256x1024 .f32) (x1 : Vec F S1x512 .f32) (x2 : Vec F S1x512 .f32) (x3 : Vec F S8x128x128 .f32) (x4 : Vec F S128x128 .f32) (x5 : Vec F S256x512 .f32) : FVec F S1x512 .f32 := k0_pay4 x2
def V7 (x0 : Vec F S256x1024 .f32) (x1 : Vec F S1x512 .f32) (x2 : Vec F S1x512 .f32) (x3 : Vec F S8x128x128 .f32) (x4 : Vec F S128x128 .f32) (x5 : Vec F S256x512 .f32) : FVec F S128x128 .f32 := k0_pay5 x4
def V11 (x0 : Vec F S256x1024 .f32) (x1 : Vec F S1x512 .f32) (x2 : Vec F S1x512 .f32) (x3 : Vec F S8x128x128 .f32) (x4 : Vec F S128x128 .f32) (x5 : Vec F S256x512 .f32) : FVec F S256x512 .f32 := k0_pay7 x0
def V18 (x0 : Vec F S256x1024 .f32) (x1 : Vec F S1x512 .f32) (x2 : Vec F S1x512 .f32) (x3 : Vec F S8x128x128 .f32) (x4 : Vec F S128x128 .f32) (x5 : Vec F S256x512 .f32) : FVec F S256x512 .f32 := k0_pay9 x0
def V20 (x0 : Vec F S256x1024 .f32) (x1 : Vec F S1x512 .f32) (x2 : Vec F S1x512 .f32) (x3 : Vec F S8x128x128 .f32) (x4 : Vec F S128x128 .f32) (x5 : Vec F S256x512 .f32) : FVec F S256x512 .f32 := k0_pay10 x0
def V21 (x0 : Vec F S256x1024 .f32) (x1 : Vec F S1x512 .f32) (x2 : Vec F S1x512 .f32) (x3 : Vec F S8x128x128 .f32) (x4 : Vec F S128x128 .f32) (x5 : Vec F S256x512 .f32) : FVec F S256x512 .f32 := k0_pay11 x0
def V24 (x0 : Vec F S256x1024 .f32) (x1 : Vec F S1x512 .f32) (x2 : Vec F S1x512 .f32) (x3 : Vec F S8x128x128 .f32) (x4 : Vec F S128x128 .f32) (x5 : Vec F S256x512 .f32) : FVec F S256x512 .f32 := k0_pay13 x0
def V31 (x0 : Vec F S256x1024 .f32) (x1 : Vec F S1x512 .f32) (x2 : Vec F S1x512 .f32) (x3 : Vec F S8x128x128 .f32) (x4 : Vec F S128x128 .f32) (x5 : Vec F S256x512 .f32) : FVec F S256x512 .f32 := k0_pay15 x0
def V33 (x0 : Vec F S256x1024 .f32) (x1 : Vec F S1x512 .f32) (x2 : Vec F S1x512 .f32) (x3 : Vec F S8x128x128 .f32) (x4 : Vec F S128x128 .f32) (x5 : Vec F S256x512 .f32) : FVec F S256x512 .f32 := k0_pay16 x0
def V34 (x0 : Vec F S256x1024 .f32) (x1 : Vec F S1x512 .f32) (x2 : Vec F S1x512 .f32) (x3 : Vec F S8x128x128 .f32) (x4 : Vec F S128x128 .f32) (x5 : Vec F S256x512 .f32) : FVec F S256x512 .f32 := k0_pay17 x0
def V36 (x0 : Vec F S256x1024 .f32) (x1 : Vec F S1x512 .f32) (x2 : Vec F S1x512 .f32) (x3 : Vec F S8x128x128 .f32) (x4 : Vec F S128x128 .f32) (x5 : Vec F S256x512 .f32) : FVec F S256x1 .f32 := k0_pay18 x0
def V40 (x0 : Vec F S256x1024 .f32) (x1 : Vec F S1x512 .f32) (x2 : Vec F S1x512 .f32) (x3 : Vec F S8x128x128 .f32) (x4 : Vec F S128x128 .f32) (x5 : Vec F S256x512 .f32) : FVec F S256x512 .f32 := k0_pay19 (V34 x0 x1 x2 x3 x4 x5) (V36 x0 x1 x2 x3 x4 x5)
def V48 (x0 : Vec F S256x1024 .f32) (x1 : Vec F S1x512 .f32) (x2 : Vec F S1x512 .f32) (x3 : Vec F S8x128x128 .f32) (x4 : Vec F S128x128 .f32) (x5 : Vec F S256x512 .f32) : FVec F S256x1 .f32 := k0_pay21 (V34 x0 x1 x2 x3 x4 x5) (V36 x0 x1 x2 x3 x4 x5)
def V51 (x0 : Vec F S256x1024 .f32) (x1 : Vec F S1x512 .f32) (x2 : Vec F S1x512 .f32) (x3 : Vec F S8x128x128 .f32) (x4 : Vec F S128x128 .f32) (x5 : Vec F S256x512 .f32) : FVec F S256x1 .f32 := k0_pay22 (V34 x0 x1 x2 x3 x4 x5) (V36 x0 x1 x2 x3 x4 x5)
def V53 (x0 : Vec F S256x1024 .f32) (x1 : Vec F S1x512 .f32) (x2 : Vec F S1x512 .f32) (x3 : Vec F S8x128x128 .f32) (x4 : Vec F S128x128 .f32) (x5 : Vec F S256x512 .f32) : FVec F S256x512 .f32 := k0_pay23 (V34 x0 x1 x2 x3 x4 x5) (V36 x0 x1 x2 x3 x4 x5)
def V57 (x0 : Vec F S256x1024 .f32) (x1 : Vec F S1x512 .f32) (x2 : Vec F S1x512 .f32) (x3 : Vec F S8x128x128 .f32) (x4 : Vec F S128x128 .f32) (x5 : Vec F S256x512 .f32) : FVec F S256x512 .f32 := k0_pay24 (V2 x0 x1 x2 x3 x4 x5) (V4 x0 x1 x2 x3 x4 x5) (V34 x0 x1 x2 x3 x4 x5) (V36 x0 x1 x2 x3 x4 x5)
def V92 (x0 : Vec F S256x1024 .f32) (x1 : Vec F S1x512 .f32) (x2 : Vec F S1x512 .f32) (x3 : Vec F S8x128x128 .f32) (x4 : Vec F S128x128 .f32) (x5 : Vec F S256x512 .f32) : FVec F S128x512 .f32 := k0_pay31 (iota .tc S128x512 32 [0] iota_S128x512_d0_w32) k0_pay27 k0_pay28 k0_pay29 k0_pay30
def V93 (x0 : Vec F S256x1024 .f32) (x1 : Vec F S1x512 .f32) (x2 : Vec F S1x512 .f32) (x3 : Vec F S8x128x128 .f32) (x4 : Vec F S128x128 .f32) (x5 : Vec F S256x512 .f32) : FVec F S128x512 .f32 := k0_pay32 (V7 x0 x1 x2 x3 x4 x5) (iota .tc S128x512 32 [0] iota_S128x512_d0_w32) k0_pay27 k0_pay28 k0_pay29 k0_pay30
def V98 (x0 : Vec F S256x1024 .f32) (x1 : Vec F S1x512 .f32) (x2 : Vec F S1x512 .f32) (x3 : Vec F S8x128x128 .f32) (x4 : Vec F S128x128 .f32) (x5 : Vec F S256x512 .f32) : FVec F S128x128 .bf16 := k0_pay33 x3 k0_pay25
def V103 (x0 : Vec F S256x1024 .f32) (x1 : Vec F S1x512 .f32) (x2 : Vec F S1x512 .f32) (x3 : Vec F S8x128x128 .f32) (x4 : Vec F S128x128 .f32) (x5 : Vec F S256x512 .f32) : FVec F S128x128 .bf16 := k0_pay34 x3 k0_pay25
def V108 (x0 : Vec F S256x1024 .f32) (x1 : Vec F S1x512 .f32) (x2 : Vec F S1x512 .f32) (x3 : Vec F S8x128x128 .f32) (x4 : Vec F S128x128 .f32) (x5 : Vec F S256x512 .f32) : FVec F S128x128 .bf16 := k0_pay35 x3 k0_pay25
def V113 (x0 : Vec F S256x1024 .f32) (x1 : Vec F S1x512 .f32) (x2 : Vec F S1x512 .f32) (x3 : Vec F S8x128x128 .f32) (x4 : Vec F S128x128 .f32) (x5 : Vec F S256x512 .f32) : FVec F S128x128 .bf16 := k0_pay36 x3 k0_pay25
def V118 (x0 : Vec F S256x1024 .f32) (x1 : Vec F S1x512 .f32) (x2 : Vec F S1x512 .f32) (x3 : Vec F S8x128x128 .f32) (x4 : Vec F S128x128 .f32) (x5 : Vec F S256x512 .f32) : FVec F S128x128 .bf16 := k0_pay37 x3 k0_pay25
def V123 (x0 : Vec F S256x1024 .f32) (x1 : Vec F S1x512 .f32) (x2 : Vec F S1x512 .f32) (x3 : Vec F S8x128x128 .f32) (x4 : Vec F S128x128 .f32) (x5 : Vec F S256x512 .f32) : FVec F S128x128 .bf16 := k0_pay38 x3 k0_pay25
def V128 (x0 : Vec F S256x1024 .f32) (x1 : Vec F S1x512 .f32) (x2 : Vec F S1x512 .f32) (x3 : Vec F S8x128x128 .f32) (x4 : Vec F S128x128 .f32) (x5 : Vec F S256x512 .f32) : FVec F S128x128 .bf16 := k0_pay39 x3 k0_pay25
def V133 (x0 : Vec F S256x1024 .f32) (x1 : Vec F S1x512 .f32) (x2 : Vec F S1x512 .f32) (x3 : Vec F S8x128x128 .f32) (x4 : Vec F S128x128 .f32) (x5 : Vec F S256x512 .f32) : FVec F S128x128 .bf16 := k0_pay40 x3 k0_pay25
def V134 (x0 : Vec F S256x1024 .f32) (x1 : Vec F S1x512 .f32) (x2 : Vec F S1x512 .f32) (x3 : Vec F S8x128x128 .f32) (x4 : Vec F S128x128 .f32) (x5 : Vec F S256x512 .f32) : FVec F S128x128 .f32 := k0_pay41 (V57 x0 x1 x2 x3 x4 x5)
def V135 (x0 : Vec F S256x1024 .f32) (x1 : Vec F S1x512 .f32) (x2 : Vec F S1x512 .f32) (x3 : Vec F S8x128x128 .f32) (x4 : Vec F S128x128 .f32) (x5 : Vec F S256x512 .f32) : FVec F S128x128 .bf16 := k0_pay42 (V134 x0 x1 x2 x3 x4 x5)
def V140 (x0 : Vec F S256x1024 .f32) (x1 : Vec F S1x512 .f32) (x2 : Vec F S1x512 .f32) (x3 : Vec F S8x128x128 .f32) (x4 : Vec F S128x128 .f32) (x5 : Vec F S256x512 .f32) : FVec F S128x128 .bf16 := k0_pay43 (V57 x0 x1 x2 x3 x4 x5)
def V145 (x0 : Vec F S256x1024 .f32) (x1 : Vec F S1x512 .f32) (x2 : Vec F S1x512 .f32) (x3 : Vec F S8x128x128 .f32) (x4 : Vec F S128x128 .f32) (x5 : Vec F S256x512 .f32) : FVec F S128x128 .bf16 := k0_pay44 (V57 x0 x1 x2 x3 x4 x5)
def V150 (x0 : Vec F S256x1024 .f32) (x1 : Vec F S1x512 .f32) (x2 : Vec F S1x512 .f32) (x3 : Vec F S8x128x128 .f32) (x4 : Vec F S128x128 .f32) (x5 : Vec F S256x512 .f32) : FVec F S128x128 .bf16 := k0_pay45 (V57 x0 x1 x2 x3 x4 x5)
def V157 (x0 : Vec F S256x1024 .f32) (x1 : Vec F S1x512 .f32) (x2 : Vec F S1x512 .f32) (x3 : Vec F S8x128x128 .f32) (x4 : Vec F S128x128 .f32) (x5 : Vec F S256x512 .f32) : FVec F S128x128 .bf16 := k0_pay46 (V57 x0 x1 x2 x3 x4 x5)
def V162 (x0 : Vec F S256x1024 .f32) (x1 : Vec F S1x512 .f32) (x2 : Vec F S1x512 .f32) (x3 : Vec F S8x128x128 .f32) (x4 : Vec F S128x128 .f32) (x5 : Vec F S256x512 .f32) : FVec F S128x128 .bf16 := k0_pay47 (V57 x0 x1 x2 x3 x4 x5)
def V167 (x0 : Vec F S256x1024 .f32) (x1 : Vec F S1x512 .f32) (x2 : Vec F S1x512 .f32) (x3 : Vec F S8x128x128 .f32) (x4 : Vec F S128x128 .f32) (x5 : Vec F S256x512 .f32) : FVec F S128x128 .bf16 := k0_pay48 (V57 x0 x1 x2 x3 x4 x5)
def V172 (x0 : Vec F S256x1024 .f32) (x1 : Vec F S1x512 .f32) (x2 : Vec F S1x512 .f32) (x3 : Vec F S8x128x128 .f32) (x4 : Vec F S128x128 .f32) (x5 : Vec F S256x512 .f32) : FVec F S128x128 .bf16 := k0_pay49 (V57 x0 x1 x2 x3 x4 x5)
def V178 (x0 : Vec F S256x1024 .f32) (x1 : Vec F S1x512 .f32) (x2 : Vec F S1x512 .f32) (x3 : Vec F S8x128x128 .f32) (x4 : Vec F S128x128 .f32) (x5 : Vec F S256x512 .f32) : FVec F S256x512 .f32 := k0_pay50 (V57 x0 x1 x2 x3 x4 x5) k0_pay26 (V93 x0 x1 x2 x3 x4 x5) (V98 x0 x1 x2 x3 x4 x5) (V103 x0 x1 x2 x3 x4 x5) (V108 x0 x1 x2 x3 x4 x5) (V113 x0 x1 x2 x3 x4 x5) (V118 x0 x1 x2 x3 x4 x5) (V123 x0 x1 x2 x3 x4 x5) (V128 x0 x1 x2 x3 x4 x5) (V133 x0 x1 x2 x3 x4 x5) (V134 x0 x1 x2 x3 x4 x5)
def V180 (x0 : Vec F S256x1024 .f32) (x1 : Vec F S1x512 .f32) (x2 : Vec F S1x512 .f32) (x3 : Vec F S8x128x128 .f32) (x4 : Vec F S128x128 .f32) (x5 : Vec F S256x512 .f32) : FVec F S256x512 .f32 := k0_pay52 x5 (V178 x0 x1 x2 x3 x4 x5)
def V181 (x0 : Vec F S256x1024 .f32) (x1 : Vec F S1x512 .f32) (x2 : Vec F S1x512 .f32) (x3 : Vec F S8x128x128 .f32) (x4 : Vec F S128x128 .f32) (x5 : Vec F S256x512 .f32) : FVec F S128x512 .f32 := k0_pay53 x5 (V21 x0 x1 x2 x3 x4 x5)
def V182 (x0 : Vec F S256x1024 .f32) (x1 : Vec F S1x512 .f32) (x2 : Vec F S1x512 .f32) (x3 : Vec F S8x128x128 .f32) (x4 : Vec F S128x128 .f32) (x5 : Vec F S256x512 .f32) : FVec F S128x512 .f32 := k0_pay54 x5 (V21 x0 x1 x2 x3 x4 x5)
def V183 (x0 : Vec F S256x1024 .f32) (x1 : Vec F S1x512 .f32) (x2 : Vec F S1x512 .f32) (x3 : Vec F S8x128x128 .f32) (x4 : Vec F S128x128 .f32) (x5 : Vec F S256x512 .f32) : FVec F S128x128 .f32 := k0_pay55 x5 (V21 x0 x1 x2 x3 x4 x5)
def V184 (x0 : Vec F S256x1024 .f32) (x1 : Vec F S1x512 .f32) (x2 : Vec F S1x512 .f32) (x3 : Vec F S8x128x128 .f32) (x4 : Vec F S128x128 .f32) (x5 : Vec F S256x512 .f32) : FVec F S128x128 .f32 := k0_pay56 x5 (V21 x0 x1 x2 x3 x4 x5)
def V194 (x0 : Vec F S256x1024 .f32) (x1 : Vec F S1x512 .f32) (x2 : Vec F S1x512 .f32) (x3 : Vec F S8x128x128 .f32) (x4 : Vec F S128x128 .f32) (x5 : Vec F S256x512 .f32) : FVec F S128x128 .bf16 := k0_pay62 x5 (V21 x0 x1 x2 x3 x4 x5) k0_pay26 (V172 x0 x1 x2 x3 x4 x5)
def V200 (x0 : Vec F S256x1024 .f32) (x1 : Vec F S1x512 .f32) (x2 : Vec F S1x512 .f32) (x3 : Vec F S8x128x128 .f32) (x4 : Vec F S128x128 .f32) (x5 : Vec F S256x512 .f32) : FVec F S128x128 .bf16 := k0_pay63 x5 (V21 x0 x1 x2 x3 x4 x5) k0_pay26 (V172 x0 x1 x2 x3 x4 x5)
def V205 (x0 : Vec F S256x1024 .f32) (x1 : Vec F S1x512 .f32) (x2 : Vec F S1x512 .f32) (x3 : Vec F S8x128x128 .f32) (x4 : Vec F S128x128 .f32) (x5 : Vec F S256x512 .f32) : FVec F S256x512 .f32 := k0_pay64 x5 (V21 x0 x1 x2 x3 x4 x5) k0_pay26 (V128 x0 x1 x2 x3 x4 x5) (V133 x0 x1 x2 x3 x4 x5)
def V213 (x0 : Vec F S256x1024 .f32) (x1 : Vec F S1x512 .f32) (x2 : Vec F S1x512 .f32) (x3 : Vec F S8x128x128 .f32) (x4 : Vec F S128x128 .f32) (x5 : Vec F S256x512 .f32) : FVec F S128x128 .bf16 := k0_pay68 x5 (V21 x0 x1 x2 x3 x4 x5) k0_pay26 (V167 x0 x1 x2 x3 x4 x5)
def V219 (x0 : Vec F S256x1024 .f32) (x1 : Vec F S1x512 .f32) (x2 : Vec F S1x512 .f32) (x3 : Vec F S8x128x128 .f32) (x4 : Vec F S128x128 .f32) (x5 : Vec F S256x512 .f32) : FVec F S128x128 .bf16 := k0_pay69 x5 (V21 x0 x1 x2 x3 x4 x5) k0_pay26 (V167 x0 x1 x2 x3 x4 x5)
def V226 (x0 : Vec F S256x1024 .f32) (x1 : Vec F S1x512 .f32) (x2 : Vec F S1x512 .f32) (x3 : Vec F S8x128x128 .f32) (x4 : Vec F S128x128 .f32) (x5 : Vec F S256x512 .f32) : FVec F S256x512 .f32 := k0_pay70 x5 (V21 x0 x1 x2 x3 x4 x5) k0_pay26 (V118 x0 x1 x2 x3 x4 x5) (V123 x0 x1 x2 x3 x4 x5)
def V235 (x0 : Vec F S256x1024 .f32) (x1 : Vec F S1x512 .f32) (x2 : Vec F S1x512 .f32) (x3 : Vec F S8x128x128 .f32) (x4 : Vec F S128x128 .f32) (x5 : Vec F S256x512 .f32) : FVec F S128x128 .bf16 := k0_pay74 k0_pay26 (V162 x0 x1 x2 x3 x4 x5) (V184 x0 x1 x2 x3 x4 x5)
def V241 (x0 : Vec F S256x1024 .f32) (x1 : Vec F S1x512 .f32) (x2 : Vec F S1x512 .f32) (x3 : Vec F S8x128x128 .f32) (x4 : Vec F S128x128 .f32) (x5 : Vec F S256x512 .f32) : FVec F S128x128 .bf16 := k0_pay75 k0_pay26 (V162 x0 x1 x2 x3 x4 x5) (V184 x0 x1 x2 x3 x4 x5)
def V257 (x0 : Vec F S256x1024 .f32) (x1 : Vec F S1x512 .f32) (x2 : Vec F S1x512 .f32) (x3 : Vec F S8x128x128 .f32) (x4 : Vec F S128x128 .f32) (x5 : Vec F S256x512 .f32) : FVec F S128x128 .bf16 := k0_pay79 k0_pay26 (V157 x0 x1 x2 x3 x4 x5) (V183 x0 x1 x2 x3 x4 x5)
def V263 (x0 : Vec F S256x1024 .f32) (x1 : Vec F S1x512 .f32) (x2 : Vec F S1x512 .f32) (x3 : Vec F S8x128x128 .f32) (x4 : Vec F S128x128 .f32) (x5 : Vec F S256x512 .f32) : FVec F S128x128 .bf16 := k0_pay80 k0_pay26 (V157 x0 x1 x2 x3 x4 x5) (V183 x0 x1 x2 x3 x4 x5)
def V269 (x0 : Vec F S256x1024 .f32) (x1 : Vec F S1x512 .f32) (x2 : Vec F S1x512 .f32) (x3 : Vec F S8x128x128 .f32) (x4 : Vec F S128x128 .f32) (x5 : Vec F S256x512 .f32) : FVec F S256x512 .f32 := k0_pay81 k0_pay26 (V98 x0 x1 x2 x3 x4 x5) (V103 x0 x1 x2 x3 x4 x5) (V108 x0 x1 x2 x3 x4 x5) (V113 x0 x1 x2 x3 x4 x5) (V183 x0 x1 x2 x3 x4 x5) (V184 x0 x1 x2 x3 x4 x5) (V205 x0 x1 x2 x3 x4 x5) (V226 x0 x1 x2 x3 x4 x5)
def V270 (x0 : Vec F S256x1024 .f32) (x1 : Vec F S1x512 .f32) (x2 : Vec F S1x512 .f32) (x3 : Vec F S8x128x128 .f32) (x4 : Vec F S128x128 .f32) (x5 : Vec F S256x512 .f32) : FVec F S128x512 .f32 := k0_pay82 (V181 x0 x1 x2 x3 x4 x5) (V182 x0 x1 x2 x3 x4 x5)
def V271 (x0 : Vec F S256x1024 .f32) (x1 : Vec F S1x512 .f32) (x2 : Vec F S1x512 .f32) (x3 : Vec F S8x128x128 .f32) (x4 : Vec F S128x128 .f32) (x5 : Vec F S256x512 .f32) : FVec F S128x128 .f32 := k0_pay83 (V181 x0 x1 x2 x3 x4 x5)
def V272 (x0 : Vec F S256x1024 .f32) (x1 : Vec F S1x512 .f32) (x2 : Vec F S1x512 .f32) (x3 : Vec F S8x128x128 .f32) (x4 : Vec F S128x128 .f32) (x5 : Vec F S256x512 .f32) : FVec F S128x128 .f32 := k0_pay84 (V181 x0 x1 x2 x3 x4 x5)
def V273 (x0 : Vec F S256x1024 .f32) (x1 : Vec F S1x512 .f32) (x2 : Vec F S1x512 .f32) (x3 : Vec F S8x128x128 .f32) (x4 : Vec F S128x128 .f32) (x5 : Vec F S256x512 .f32) : FVec F S128x128 .f32 := k0_pay85 (V181 x0 x1 x2 x3 x4 x5)
def V274 (x0 : Vec F S256x1024 .f32) (x1 : Vec F S1x512 .f32) (x2 : Vec F S1x512 .f32) (x3 : Vec F S8x128x128 .f32) (x4 : Vec F S128x128 .f32) (x5 : Vec F S256x512 .f32) : FVec F S128x128 .f32 := k0_pay86 (V181 x0 x1 x2 x3 x4 x5)
def V283 (x0 : Vec F S256x1024 .f32) (x1 : Vec F S1x512 .f32) (x2 : Vec F S1x512 .f32) (x3 : Vec F S8x128x128 .f32) (x4 : Vec F S128x128 .f32) (x5 : Vec F S256x512 .f32) : FVec F S128x128 .bf16 := k0_pay90 k0_pay26 (V150 x0 x1 x2 x3 x4 x5) (V194 x0 x1 x2 x3 x4 x5) (V274 x0 x1 x2 x3 x4 x5)
def V290 (x0 : Vec F S256x1024 .f32) (x1 : Vec F S1x512 .f32) (x2 : Vec F S1x512 .f32) (x3 : Vec F S8x128x128 .f32) (x4 : Vec F S128x128 .f32) (x5 : Vec F S256x512 .f32) : FVec F S128x128 .bf16 := k0_pay91 k0_pay26 (V150 x0 x1 x2 x3 x4 x5) (V200 x0 x1 x2 x3 x4 x5) (V274 x0 x1 x2 x3 x4 x5)
def V305 (x0 : Vec F S256x1024 .f32) (x1 : Vec F S1x512 .f32) (x2 : Vec F S1x512 .f32) (x3 : Vec F S8x128x128 .f32) (x4 : Vec F S128x128 .f32) (x5 : Vec F S256x512 .f32) : FVec F S128x128 .bf16 := k0_pay95 k0_pay26 (V145 x0 x1 x2 x3 x4 x5) (V213 x0 x1 x2 x3 x4 x5) (V273 x0 x1 x2 x3 x4 x5)
def V312 (x0 : Vec F S256x1024 .f32) (x1 : Vec F S1x512 .f32) (x2 : Vec F S1x512 .f32) (x3 : Vec F S8x128x128 .f32) (x4 : Vec F S128x128 .f32) (x5 : Vec F S256x512 .f32) : FVec F S128x128 .bf16 := k0_pay96 k0_pay26 (V145 x0 x1 x2 x3 x4 x5) (V219 x0 x1 x2 x3 x4 x5) (V273 x0 x1 x2 x3 x4 x5)
def V320 (x0 : Vec F S256x1024 .f32) (x1 : Vec F S1x512 .f32) (x2 : Vec F S1x512 .f32) (x3 : Vec F S8x128x128 .f32) (x4 : Vec F S128x128 .f32) (x5 : Vec F S256x512 .f32) : FVec F S256x512 .f32 := k0_pay97 k0_pay26 (V118 x0 x1 x2 x3 x4 x5) (V123 x0 x1 x2 x3 x4 x5) (V128 x0 x1 x2 x3 x4 x5) (V133 x0 x1 x2 x3 x4 x5) (V269 x0 x1 x2 x3 x4 x5) (V273 x0 x1 x2 x3 x4 x5) (V274 x0 x1 x2 x3 x4 x5)
def V329 (x0 : Vec F S256x1024 .f32) (x1 : Vec F S1x512 .f32) (x2 : Vec F S1x512 .f32) (x3 : Vec F S8x128x128 .f32) (x4 : Vec F S128x128 .f32) (x5 : Vec F S256x512 .f32) : FVec F S128x128 .bf16 := k0_pay101 k0_pay26 (V140 x0 x1 x2 x3 x4 x5) (V235 x0 x1 x2 x3 x4 x5) (V272 x0 x1 x2 x3 x4 x5) k0_pay98
def V336 (x0 : Vec F S256x1024 .f32) (x1 : Vec F S1x512 .f32) (x2 : Vec F S1x512 .f32) (x3 : Vec F S8x128x128 .f32) (x4 : Vec F S128x128 .f32) (x5 : Vec F S256x512 .f32) : FVec F S128x128 .bf16 := k0_pay102 k0_pay26 (V140 x0 x1 x2 x3 x4 x5) (V241 x0 x1 x2 x3 x4 x5) (V272 x0 x1 x2 x3 x4 x5) k0_pay98
def V353 (x0 : Vec F S256x1024 .f32) (x1 : Vec F S1x512 .f32) (x2 : Vec F S1x512 .f32) (x3 : Vec F S8x128x128 .f32) (x4 : Vec F S128x128 .f32) (x5 : Vec F S256x512 .f32) : FVec F S128x128 .bf16 := k0_pay106 k0_pay26 (V135 x0 x1 x2 x3 x4 x5) (V257 x0 x1 x2 x3 x4 x5) (V271 x0 x1 x2 x3 x4 x5)
def V360 (x0 : Vec F S256x1024 .f32) (x1 : Vec F S1x512 .f32) (x2 : Vec F S1x512 .f32) (x3 : Vec F S8x128x128 .f32) (x4 : Vec F S128x128 .f32) (x5 : Vec F S256x512 .f32) : FVec F S128x128 .bf16 := k0_pay107 k0_pay26 (V135 x0 x1 x2 x3 x4 x5) (V263 x0 x1 x2 x3 x4 x5) (V271 x0 x1 x2 x3 x4 x5)
def V366 (x0 : Vec F S256x1024 .f32) (x1 : Vec F S1x512 .f32) (x2 : Vec F S1x512 .f32) (x3 : Vec F S8x128x128 .f32) (x4 : Vec F S128x128 .f32) (x5 : Vec F S256x512 .f32) : FVec F S256x512 .f32 := k0_pay108 k0_pay26 (V98 x0 x1 x2 x3 x4 x5) (V103 x0 x1 x2 x3 x4 x5) (V108 x0 x1 x2 x3 x4 x5) (V113 x0 x1 x2 x3 x4 x5) (V271 x0 x1 x2 x3 x4 x5) (V272 x0 x1 x2 x3 x4 x5) (V320 x0 x1 x2 x3 x4 x5) k0_pay98
def V369 (x0 : Vec F S256x1024 .f32) (x1 : Vec F S1x512 .f32) (x2 : Vec F S1x512 .f32) (x3 : Vec F S8x128x128 .f32) (x4 : Vec F S128x128 .f32) (x5 : Vec F S256x512 .f32) : FVec F S128x128 .f32 := k0_pay109 k0_pay25 (V283 x0 x1 x2 x3 x4 x5)
def V417 (x0 : Vec F S256x1024 .f32) (x1 : Vec F S1x512 .f32) (x2 : Vec F S1x512 .f32) (x3 : Vec F S8x128x128 .f32) (x4 : Vec F S128x128 .f32) (x5 : Vec F S256x512 .f32) : FVec F S8x128x128 .f32 := k0_pay110 k0_pay25 (V290 x0 x1 x2 x3 x4 x5) (V305 x0 x1 x2 x3 x4 x5) (V312 x0 x1 x2 x3 x4 x5) (V329 x0 x1 x2 x3 x4 x5) (V336 x0 x1 x2 x3 x4 x5) (V369 x0 x1 x2 x3 x4 x5)
def V418 (x0 : Vec F S256x1024 .f32) (x1 : Vec F S1x512 .f32) (x2 : Vec F S1x512 .f32) (x3 : Vec F S8x128x128 .f32) (x4 : Vec F S128x128 .f32) (x5 : Vec F S256x512 .f32) : FVec F S128x128 .f32 := k0_pay111 (V353 x0 x1 x2 x3 x4 x5)
def V433 (x0 : Vec F S256x1024 .f32) (x1 : Vec F S1x512 .f32) (x2 : Vec F S1x512 .f32) (x3 : Vec F S8x128x128 .f32) (x4 : Vec F S128x128 .f32) (x5 : Vec F S256x512 .f32) : FVec F S8x128x128 .f32 := k0_pay112 k0_pay25 (V360 x0 x1 x2 x3 x4 x5) (V417 x0 x1 x2 x3 x4 x5) (V418 x0 x1 x2 x3 x4 x5)
def V434 (x0 : Vec F S256x1024 .f32) (x1 : Vec F S1x512 .f32) (x2 : Vec F S1x512 .f32) (x3 : Vec F S8x128x128 .f32) (x4 : Vec F S128x128 .f32) (x5 : Vec F S256x512 .f32) : FVec F S128x128 .f32 := k0_pay113 (V92 x0 x1 x2 x3 x4 x5) (V270 x0 x1 x2 x3 x4 x5)
def V436 (x0 : Vec F S256x1024 .f32) (x1 : Vec F S1x512 .f32) (x2 : Vec F S1x512 .f32) (x3 : Vec F S8x128x128 .f32) (x4 : Vec F S128x128 .f32) (x5 : Vec F S256x512 .f32) : FVec F S1x512 .f32 := k0_pay114 (V366 x0 x1 x2 x3 x4 x5)
def V439 (x0 : Vec F S256x1024 .f32) (x1 : Vec F S1x512 .f32) (x2 : Vec F S1x512 .f32) (x3 : Vec F S8x128x128 .f32) (x4 : Vec F S128x128 .f32) (x5 : Vec F S256x512 .f32) : FVec F S1x512 .f32 := k0_pay115 (V53 x0 x1 x2 x3 x4 x5) (V366 x0 x1 x2 x3 x4 x5)
def V456 (x0 : Vec F S256x1024 .f32) (x1 : Vec F S1x512 .f32) (x2 : Vec F S1x512 .f32) (x3 : Vec F S8x128x128 .f32) (x4 : Vec F S128x128 .f32) (x5 : Vec F S256x512 .f32) : FVec F S256x512 .f32 := k0_pay116 (V2 x0 x1 x2 x3 x4 x5) (V40 x0 x1 x2 x3 x4 x5) (V48 x0 x1 x2 x3 x4 x5) (V51 x0 x1 x2 x3 x4 x5) (V366 x0 x1 x2 x3 x4 x5)
def V464 (x0 : Vec F S256x1024 .f32) (x1 : Vec F S1x512 .f32) (x2 : Vec F S1x512 .f32) (x3 : Vec F S8x128x128 .f32) (x4 : Vec F S128x128 .f32) (x5 : Vec F S256x512 .f32) : FVec F S256x1 .f32 := k0_pay117 (V2 x0 x1 x2 x3 x4 x5) (V40 x0 x1 x2 x3 x4 x5) (V48 x0 x1 x2 x3 x4 x5) (V51 x0 x1 x2 x3 x4 x5) (V366 x0 x1 x2 x3 x4 x5)
def V491 (x0 : Vec F S256x1024 .f32) (x1 : Vec F S1x512 .f32) (x2 : Vec F S1x512 .f32) (x3 : Vec F S8x128x128 .f32) (x4 : Vec F S128x128 .f32) (x5 : Vec F S256x512 .f32) : FVec F S256x1024 .f32 := k0_pay118 (V11 x0 x1 x2 x3 x4 x5) (V18 x0 x1 x2 x3 x4 x5) (V20 x0 x1 x2 x3 x4 x5) (V24 x0 x1 x2 x3 x4 x5) (V31 x0 x1 x2 x3 x4 x5) (V33 x0 x1 x2 x3 x4 x5) (V180 x0 x1 x2 x3 x4 x5) (V456 x0 x1 x2 x3 x4 x5) (V464 x0 x1 x2 x3 x4 x5)
end Values

theorem out_A_6 (c : Dev nD) (i : grid0.Coords) (arg1 : Memref sig .tc .vmem S256x1024 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S8x128x128 .f32) (harg4 : arg4.IsWhole) (arg5 : Memref sig .tc .vmem S128x128 .f32) (harg5 : arg5.IsWhole) (arg6 : Memref sig .tc .vmem S256x512 .f32) (harg6 : arg6.IsWhole) (arg8 : Memref sig .tc .vmem S256x1024 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S8x128x128 .f32) (harg11 : arg11.IsWhole) (arg12 : Memref sig .tc .vmem S128x128 .f32) (harg12 : arg12.IsWhole) (hc0 : cond0_0 i)
    (x0 : Vec F S256x1024 .f32) (x1 : Vec F S1x512 .f32) (x2 : Vec F S1x512 .f32) (x3 : Vec F S8x128x128 .f32) (x4 : Vec F S128x128 .f32) (x5 : Vec F S256x512 .f32)  :
    out0_A_6 c i arg1 harg1 arg2 harg2 arg3 harg3 arg4 harg4 arg5 harg5 arg6 harg6 arg8 harg8 arg9 harg9 arg10 harg10 arg11 harg11 arg12 harg12 hc0 x0 x1 x2 x3 x4 x5 = V491 x0 x1 x2 x3 x4 x5 := by
  unfold out0_A_6
  rw [View.read_writes_eq_canon _ _ _ (cover0_A_6 c i arg1 harg1 arg2 harg2 arg3 harg3 arg4 harg4 arg5 harg5 arg6 harg6 arg8 harg8 arg9 harg9 arg10 harg10 arg11 harg11 arg12 harg12 hc0 x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread, View.ld_unit_zero (S := S256x1024) hz, View.ld_unit_zero (S := S1x512) hz, View.ld_unit_zero (S := S256x512) hz, View.ld_unit_zero (S := S128x128) hz, View.ld_unit_zero (S := S8x128x128) hz3]
  rfl

theorem out_A_7 (c : Dev nD) (i : grid0.Coords) (arg1 : Memref sig .tc .vmem S256x1024 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S8x128x128 .f32) (harg4 : arg4.IsWhole) (arg5 : Memref sig .tc .vmem S128x128 .f32) (harg5 : arg5.IsWhole) (arg6 : Memref sig .tc .vmem S256x512 .f32) (harg6 : arg6.IsWhole) (arg8 : Memref sig .tc .vmem S256x1024 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S8x128x128 .f32) (harg11 : arg11.IsWhole) (arg12 : Memref sig .tc .vmem S128x128 .f32) (harg12 : arg12.IsWhole) (hc0 : cond0_0 i)
    (x0 : Vec F S256x1024 .f32) (x1 : Vec F S1x512 .f32) (x2 : Vec F S1x512 .f32) (x3 : Vec F S8x128x128 .f32) (x4 : Vec F S128x128 .f32) (x5 : Vec F S256x512 .f32)  :
    out0_A_7 c i arg1 harg1 arg2 harg2 arg3 harg3 arg4 harg4 arg5 harg5 arg6 harg6 arg8 harg8 arg9 harg9 arg10 harg10 arg11 harg11 arg12 harg12 hc0 x0 x1 x2 x3 x4 x5 = k0_pay123 (V439 x0 x1 x2 x3 x4 x5) k0_pay119 := by
  unfold out0_A_7
  rw [View.read_writes_eq_canon _ _ _ (cover0_A_7 c i arg1 harg1 arg2 harg2 arg3 harg3 arg4 harg4 arg5 harg5 arg6 harg6 arg8 harg8 arg9 harg9 arg10 harg10 arg11 harg11 arg12 harg12 hc0 x0 x1 x2 x3 x4 x5)]
  unfold kernelRun0_A
  dsimp only
  sl_unfold_words
  rw [View.canon_cons_unit_zero (S := S1x512) hz, View.readCov_unit_zero (S := S1x512) _ hz]
  simp only [View.readAt_eq_ld, harg1.read_unread, harg2.read_unread, harg3.read_unread, harg4.read_unread, harg5.read_unread, harg6.read_unread, View.ld_unit_zero (S := S256x1024) hz, View.ld_unit_zero (S := S1x512) hz, View.ld_unit_zero (S := S256x512) hz, View.ld_unit_zero (S := S128x128) hz, View.ld_unit_zero (S := S8x128x128) hz3]
  rfl

theorem out_A_8 (c : Dev nD) (i : grid0.Coords) (arg1 : Memref sig .tc .vmem S256x1024 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S8x128x128 .f32) (harg4 : arg4.IsWhole) (arg5 : Memref sig .tc .vmem S128x128 .f32) (harg5 : arg5.IsWhole) (arg6 : Memref sig .tc .vmem S256x512 .f32) (harg6 : arg6.IsWhole) (arg8 : Memref sig .tc .vmem S256x1024 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S8x128x128 .f32) (harg11 : arg11.IsWhole) (arg12 : Memref sig .tc .vmem S128x128 .f32) (harg12 : arg12.IsWhole) (hc0 : cond0_0 i)
    (x0 : Vec F S256x1024 .f32) (x1 : Vec F S1x512 .f32) (x2 : Vec F S1x512 .f32) (x3 : Vec F S8x128x128 .f32) (x4 : Vec F S128x128 .f32) (x5 : Vec F S256x512 .f32)  :
    out0_A_8 c i arg1 harg1 arg2 harg2 arg3 harg3 arg4 harg4 arg5 harg5 arg6 harg6 arg8 harg8 arg9 harg9 arg10 harg10 arg11 harg11 arg12 harg12 hc0 x0 x1 x2 x3 x4 x5 = k0_pay124 (V436 x0 x1 x2 x3 x4 x5) k0_pay120 := by
  unfold out0_A_8
  rw [View.read_writes_eq_canon _ _ _ (cover0_A_8 c i arg1 harg1 arg2 harg2 arg3 harg3 arg4 harg4 arg5 harg5 arg6 harg6 arg8 harg8 arg9 harg9 arg10 harg10 arg11 harg11 arg12 harg12 hc0 x0 x1 x2 x3 x4 x5)]
  unfold kernelRun0_A
  dsimp only
  sl_unfold_words
  rw [View.canon_cons_unit_zero (S := S1x512) hz, View.readCov_unit_zero (S := S1x512) _ hz]
  simp only [View.readAt_eq_ld, harg1.read_unread, harg2.read_unread, harg3.read_unread, harg4.read_unread, harg5.read_unread, harg6.read_unread, View.ld_unit_zero (S := S256x1024) hz, View.ld_unit_zero (S := S1x512) hz, View.ld_unit_zero (S := S256x512) hz, View.ld_unit_zero (S := S128x128) hz, View.ld_unit_zero (S := S8x128x128) hz3]
  rfl

theorem out_A_9 (c : Dev nD) (i : grid0.Coords) (arg1 : Memref sig .tc .vmem S256x1024 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S8x128x128 .f32) (harg4 : arg4.IsWhole) (arg5 : Memref sig .tc .vmem S128x128 .f32) (harg5 : arg5.IsWhole) (arg6 : Memref sig .tc .vmem S256x512 .f32) (harg6 : arg6.IsWhole) (arg8 : Memref sig .tc .vmem S256x1024 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S8x128x128 .f32) (harg11 : arg11.IsWhole) (arg12 : Memref sig .tc .vmem S128x128 .f32) (harg12 : arg12.IsWhole) (hc0 : cond0_0 i)
    (x0 : Vec F S256x1024 .f32) (x1 : Vec F S1x512 .f32) (x2 : Vec F S1x512 .f32) (x3 : Vec F S8x128x128 .f32) (x4 : Vec F S128x128 .f32) (x5 : Vec F S256x512 .f32)  :
    out0_A_9 c i arg1 harg1 arg2 harg2 arg3 harg3 arg4 harg4 arg5 harg5 arg6 harg6 arg8 harg8 arg9 harg9 arg10 harg10 arg11 harg11 arg12 harg12 hc0 x0 x1 x2 x3 x4 x5 = k0_pay1 (V433 x0 x1 x2 x3 x4 x5) k0_pay121 := by
  unfold out0_A_9
  rw [View.read_writes_eq_canon _ _ _ (cover0_A_9 c i arg1 harg1 arg2 harg2 arg3 harg3 arg4 harg4 arg5 harg5 arg6 harg6 arg8 harg8 arg9 harg9 arg10 harg10 arg11 harg11 arg12 harg12 hc0 x0 x1 x2 x3 x4 x5)]
  unfold kernelRun0_A
  dsimp only
  sl_unfold_words
  rw [View.canon_cons_unit_zero (S := S8x128x128) hz3, View.readCov_unit_zero (S := S8x128x128) _ hz3]
  simp only [View.readAt_eq_ld, harg1.read_unread, harg2.read_unread, harg3.read_unread, harg4.read_unread, harg5.read_unread, harg6.read_unread, View.ld_unit_zero (S := S256x1024) hz, View.ld_unit_zero (S := S1x512) hz, View.ld_unit_zero (S := S256x512) hz, View.ld_unit_zero (S := S128x128) hz, View.ld_unit_zero (S := S8x128x128) hz3]
  rfl

theorem out_A_10 (c : Dev nD) (i : grid0.Coords) (arg1 : Memref sig .tc .vmem S256x1024 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S8x128x128 .f32) (harg4 : arg4.IsWhole) (arg5 : Memref sig .tc .vmem S128x128 .f32) (harg5 : arg5.IsWhole) (arg6 : Memref sig .tc .vmem S256x512 .f32) (harg6 : arg6.IsWhole) (arg8 : Memref sig .tc .vmem S256x1024 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S8x128x128 .f32) (harg11 : arg11.IsWhole) (arg12 : Memref sig .tc .vmem S128x128 .f32) (harg12 : arg12.IsWhole) (hc0 : cond0_0 i)
    (x0 : Vec F S256x1024 .f32) (x1 : Vec F S1x512 .f32) (x2 : Vec F S1x512 .f32) (x3 : Vec F S8x128x128 .f32) (x4 : Vec F S128x128 .f32) (x5 : Vec F S256x512 .f32)  :
    out0_A_10 c i arg1 harg1 arg2 harg2 arg3 harg3 arg4 harg4 arg5 harg5 arg6 harg6 arg8 harg8 arg9 harg9 arg10 harg10 arg11 harg11 arg12 harg12 hc0 x0 x1 x2 x3 x4 x5 = k0_pay2 (V434 x0 x1 x2 x3 x4 x5) k0_pay122 := by
  unfold out0_A_10
  rw [View.read_writes_eq_canon _ _ _ (cover0_A_10 c i arg1 harg1 arg2 harg2 arg3 harg3 arg4 harg4 arg5 harg5 arg6 harg6 arg8 harg8 arg9 harg9 arg10 harg10 arg11 harg11 arg12 harg12 hc0 x0 x1 x2 x3 x4 x5)]
  unfold kernelRun0_A
  dsimp only
  sl_unfold_words
  rw [View.canon_cons_unit_zero (S := S128x128) hz, View.readCov_unit_zero (S := S128x128) _ hz]
  simp only [View.readAt_eq_ld, harg1.read_unread, harg2.read_unread, harg3.read_unread, harg4.read_unread, harg5.read_unread, harg6.read_unread, View.ld_unit_zero (S := S256x1024) hz, View.ld_unit_zero (S := S1x512) hz, View.ld_unit_zero (S := S256x512) hz, View.ld_unit_zero (S := S128x128) hz, View.ld_unit_zero (S := S8x128x128) hz3]
  rfl

theorem out_B_6 (c : Dev nD) (i : grid0.Coords) (arg1 : Memref sig .tc .vmem S256x1024 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S8x128x128 .f32) (harg4 : arg4.IsWhole) (arg5 : Memref sig .tc .vmem S128x128 .f32) (harg5 : arg5.IsWhole) (arg6 : Memref sig .tc .vmem S256x512 .f32) (harg6 : arg6.IsWhole) (arg8 : Memref sig .tc .vmem S256x1024 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S8x128x128 .f32) (harg11 : arg11.IsWhole) (arg12 : Memref sig .tc .vmem S128x128 .f32) (harg12 : arg12.IsWhole) (hc0 : ¬cond0_0 i)
    (x0 : Vec F S256x1024 .f32) (x1 : Vec F S1x512 .f32) (x2 : Vec F S1x512 .f32) (x3 : Vec F S8x128x128 .f32) (x4 : Vec F S128x128 .f32) (x5 : Vec F S256x512 .f32) (xo7 : Vec F S1x512 .f32) (xo8 : Vec F S1x512 .f32) (xo9 : Vec F S8x128x128 .f32) (xo10 : Vec F S128x128 .f32) :
    out0_B_6 c i arg1 harg1 arg2 harg2 arg3 harg3 arg4 harg4 arg5 harg5 arg6 harg6 arg8 harg8 arg9 harg9 arg10 harg10 arg11 harg11 arg12 harg12 hc0 x0 x1 x2 x3 x4 x5 xo7 xo8 xo9 xo10 = V491 x0 x1 x2 x3 x4 x5 := by
  unfold out0_B_6
  rw [View.read_writes_eq_canon _ _ _ (cover0_B_6 c i arg1 harg1 arg2 harg2 arg3 harg3 arg4 harg4 arg5 harg5 arg6 harg6 arg8 harg8 arg9 harg9 arg10 harg10 arg11 harg11 arg12 harg12 hc0 x0 x1 x2 x3 x4 x5 xo7 xo8 xo9 xo10)]
  unfold kernelRun0_B
  dsimp only
  sl_unfold_words
  rw [View.canon_unit_zero hz]
  simp only [View.readAt_eq_ld, harg1.read_unread, harg2.read_unread, harg3.read_unread, harg4.read_unread, harg5.read_unread, harg6.read_unread, harg9.read_unread, harg10.read_unread, harg11.read_unread, harg12.read_unread, View.ld_unit_zero (S := S256x1024) hz, View.ld_unit_zero (S := S1x512) hz, View.ld_unit_zero (S := S256x512) hz, View.ld_unit_zero (S := S128x128) hz, View.ld_unit_zero (S := S8x128x128) hz3]
  rfl

theorem out_B_7 (c : Dev nD) (i : grid0.Coords) (arg1 : Memref sig .tc .vmem S256x1024 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S8x128x128 .f32) (harg4 : arg4.IsWhole) (arg5 : Memref sig .tc .vmem S128x128 .f32) (harg5 : arg5.IsWhole) (arg6 : Memref sig .tc .vmem S256x512 .f32) (harg6 : arg6.IsWhole) (arg8 : Memref sig .tc .vmem S256x1024 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S8x128x128 .f32) (harg11 : arg11.IsWhole) (arg12 : Memref sig .tc .vmem S128x128 .f32) (harg12 : arg12.IsWhole) (hc0 : ¬cond0_0 i)
    (x0 : Vec F S256x1024 .f32) (x1 : Vec F S1x512 .f32) (x2 : Vec F S1x512 .f32) (x3 : Vec F S8x128x128 .f32) (x4 : Vec F S128x128 .f32) (x5 : Vec F S256x512 .f32) (xo7 : Vec F S1x512 .f32) (xo8 : Vec F S1x512 .f32) (xo9 : Vec F S8x128x128 .f32) (xo10 : Vec F S128x128 .f32) :
    out0_B_7 c i arg1 harg1 arg2 harg2 arg3 harg3 arg4 harg4 arg5 harg5 arg6 harg6 arg8 harg8 arg9 harg9 arg10 harg10 arg11 harg11 arg12 harg12 hc0 x0 x1 x2 x3 x4 x5 xo7 xo8 xo9 xo10 = k0_pay123 (V439 x0 x1 x2 x3 x4 x5) xo7 := by
  unfold out0_B_7
  rw [View.read_writes_eq_canon _ _ _ (cover0_B_7 c i arg1 harg1 arg2 harg2 arg3 harg3 arg4 harg4 arg5 harg5 arg6 harg6 arg8 harg8 arg9 harg9 arg10 harg10 arg11 harg11 arg12 harg12 hc0 x0 x1 x2 x3 x4 x5 xo7 xo8 xo9 xo10)]
  unfold kernelRun0_B
  dsimp only
  sl_unfold_words
  rw [View.canon_unit_zero hz]
  simp only [View.readAt_eq_ld, harg1.read_unread, harg2.read_unread, harg3.read_unread, harg4.read_unread, harg5.read_unread, harg6.read_unread, harg9.read_unread, harg10.read_unread, harg11.read_unread, harg12.read_unread, View.ld_unit_zero (S := S256x1024) hz, View.ld_unit_zero (S := S1x512) hz, View.ld_unit_zero (S := S256x512) hz, View.ld_unit_zero (S := S128x128) hz, View.ld_unit_zero (S := S8x128x128) hz3]
  rfl

theorem out_B_8 (c : Dev nD) (i : grid0.Coords) (arg1 : Memref sig .tc .vmem S256x1024 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S8x128x128 .f32) (harg4 : arg4.IsWhole) (arg5 : Memref sig .tc .vmem S128x128 .f32) (harg5 : arg5.IsWhole) (arg6 : Memref sig .tc .vmem S256x512 .f32) (harg6 : arg6.IsWhole) (arg8 : Memref sig .tc .vmem S256x1024 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S8x128x128 .f32) (harg11 : arg11.IsWhole) (arg12 : Memref sig .tc .vmem S128x128 .f32) (harg12 : arg12.IsWhole) (hc0 : ¬cond0_0 i)
    (x0 : Vec F S256x1024 .f32) (x1 : Vec F S1x512 .f32) (x2 : Vec F S1x512 .f32) (x3 : Vec F S8x128x128 .f32) (x4 : Vec F S128x128 .f32) (x5 : Vec F S256x512 .f32) (xo7 : Vec F S1x512 .f32) (xo8 : Vec F S1x512 .f32) (xo9 : Vec F S8x128x128 .f32) (xo10 : Vec F S128x128 .f32) :
    out0_B_8 c i arg1 harg1 arg2 harg2 arg3 harg3 arg4 harg4 arg5 harg5 arg6 harg6 arg8 harg8 arg9 harg9 arg10 harg10 arg11 harg11 arg12 harg12 hc0 x0 x1 x2 x3 x4 x5 xo7 xo8 xo9 xo10 = k0_pay124 (V436 x0 x1 x2 x3 x4 x5) xo8 := by
  unfold out0_B_8
  rw [View.read_writes_eq_canon _ _ _ (cover0_B_8 c i arg1 harg1 arg2 harg2 arg3 harg3 arg4 harg4 arg5 harg5 arg6 harg6 arg8 harg8 arg9 harg9 arg10 harg10 arg11 harg11 arg12 harg12 hc0 x0 x1 x2 x3 x4 x5 xo7 xo8 xo9 xo10)]
  unfold kernelRun0_B
  dsimp only
  sl_unfold_words
  rw [View.canon_unit_zero hz]
  simp only [View.readAt_eq_ld, harg1.read_unread, harg2.read_unread, harg3.read_unread, harg4.read_unread, harg5.read_unread, harg6.read_unread, harg9.read_unread, harg10.read_unread, harg11.read_unread, harg12.read_unread, View.ld_unit_zero (S := S256x1024) hz, View.ld_unit_zero (S := S1x512) hz, View.ld_unit_zero (S := S256x512) hz, View.ld_unit_zero (S := S128x128) hz, View.ld_unit_zero (S := S8x128x128) hz3]
  rfl

theorem out_B_9 (c : Dev nD) (i : grid0.Coords) (arg1 : Memref sig .tc .vmem S256x1024 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S8x128x128 .f32) (harg4 : arg4.IsWhole) (arg5 : Memref sig .tc .vmem S128x128 .f32) (harg5 : arg5.IsWhole) (arg6 : Memref sig .tc .vmem S256x512 .f32) (harg6 : arg6.IsWhole) (arg8 : Memref sig .tc .vmem S256x1024 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S8x128x128 .f32) (harg11 : arg11.IsWhole) (arg12 : Memref sig .tc .vmem S128x128 .f32) (harg12 : arg12.IsWhole) (hc0 : ¬cond0_0 i)
    (x0 : Vec F S256x1024 .f32) (x1 : Vec F S1x512 .f32) (x2 : Vec F S1x512 .f32) (x3 : Vec F S8x128x128 .f32) (x4 : Vec F S128x128 .f32) (x5 : Vec F S256x512 .f32) (xo7 : Vec F S1x512 .f32) (xo8 : Vec F S1x512 .f32) (xo9 : Vec F S8x128x128 .f32) (xo10 : Vec F S128x128 .f32) :
    out0_B_9 c i arg1 harg1 arg2 harg2 arg3 harg3 arg4 harg4 arg5 harg5 arg6 harg6 arg8 harg8 arg9 harg9 arg10 harg10 arg11 harg11 arg12 harg12 hc0 x0 x1 x2 x3 x4 x5 xo7 xo8 xo9 xo10 = k0_pay1 (V433 x0 x1 x2 x3 x4 x5) xo9 := by
  unfold out0_B_9
  rw [View.read_writes_eq_canon _ _ _ (cover0_B_9 c i arg1 harg1 arg2 harg2 arg3 harg3 arg4 harg4 arg5 harg5 arg6 harg6 arg8 harg8 arg9 harg9 arg10 harg10 arg11 harg11 arg12 harg12 hc0 x0 x1 x2 x3 x4 x5 xo7 xo8 xo9 xo10)]
  unfold kernelRun0_B
  dsimp only
  sl_unfold_words
  rw [View.canon_unit_zero hz3]
  simp only [View.readAt_eq_ld, harg1.read_unread, harg2.read_unread, harg3.read_unread, harg4.read_unread, harg5.read_unread, harg6.read_unread, harg9.read_unread, harg10.read_unread, harg11.read_unread, harg12.read_unread, View.ld_unit_zero (S := S256x1024) hz, View.ld_unit_zero (S := S1x512) hz, View.ld_unit_zero (S := S256x512) hz, View.ld_unit_zero (S := S128x128) hz, View.ld_unit_zero (S := S8x128x128) hz3]
  rfl

theorem out_B_10 (c : Dev nD) (i : grid0.Coords) (arg1 : Memref sig .tc .vmem S256x1024 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S8x128x128 .f32) (harg4 : arg4.IsWhole) (arg5 : Memref sig .tc .vmem S128x128 .f32) (harg5 : arg5.IsWhole) (arg6 : Memref sig .tc .vmem S256x512 .f32) (harg6 : arg6.IsWhole) (arg8 : Memref sig .tc .vmem S256x1024 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S8x128x128 .f32) (harg11 : arg11.IsWhole) (arg12 : Memref sig .tc .vmem S128x128 .f32) (harg12 : arg12.IsWhole) (hc0 : ¬cond0_0 i)
    (x0 : Vec F S256x1024 .f32) (x1 : Vec F S1x512 .f32) (x2 : Vec F S1x512 .f32) (x3 : Vec F S8x128x128 .f32) (x4 : Vec F S128x128 .f32) (x5 : Vec F S256x512 .f32) (xo7 : Vec F S1x512 .f32) (xo8 : Vec F S1x512 .f32) (xo9 : Vec F S8x128x128 .f32) (xo10 : Vec F S128x128 .f32) :
    out0_B_10 c i arg1 harg1 arg2 harg2 arg3 harg3 arg4 harg4 arg5 harg5 arg6 harg6 arg8 harg8 arg9 harg9 arg10 harg10 arg11 harg11 arg12 harg12 hc0 x0 x1 x2 x3 x4 x5 xo7 xo8 xo9 xo10 = k0_pay2 (V434 x0 x1 x2 x3 x4 x5) xo10 := by
  unfold out0_B_10
  rw [View.read_writes_eq_canon _ _ _ (cover0_B_10 c i arg1 harg1 arg2 harg2 arg3 harg3 arg4 harg4 arg5 harg5 arg6 harg6 arg8 harg8 arg9 harg9 arg10 harg10 arg11 harg11 arg12 harg12 hc0 x0 x1 x2 x3 x4 x5 xo7 xo8 xo9 xo10)]
  unfold kernelRun0_B
  dsimp only
  sl_unfold_words
  rw [View.canon_unit_zero hz]
  simp only [View.readAt_eq_ld, harg1.read_unread, harg2.read_unread, harg3.read_unread, harg4.read_unread, harg5.read_unread, harg6.read_unread, harg9.read_unread, harg10.read_unread, harg11.read_unread, harg12.read_unread, View.ld_unit_zero (S := S256x1024) hz, View.ld_unit_zero (S := S1x512) hz, View.ld_unit_zero (S := S256x512) hz, View.ld_unit_zero (S := S128x128) hz, View.ld_unit_zero (S := S8x128x128) hz3]
  rfl

end Cert.KernelIdeal.Out
end
-- ==== Proof.Spec.lean ====
/-
  The mathematics of the gating gradient on ONE chunk of 128 positions, over the extended reals: the forward pass
  (exact gelu of both halves, layer norm of the second, the causal mixing product, the gate) and its derivative, written
  with plain finite sums. Both the kernel and the reference are read against these functions.
-/
module

public import Idealize.ShloMosaic.PureOps.Ideal
public import Idealize.ShloMosaic.Lib.Pointwise

@[expose] public section

noncomputable section

namespace Cert.Gating

open Idealize.ShloMosaic

/-! ## gelu -/

/-- One half. -/
abbrev cHalf : EReal := Ideal.ofBits .f32 0x3F000000#32
/-- The single-precision square root of one half. -/
abbrev cRt : EReal := Ideal.ofBits .f32 0x3F3504F3#32
/-- The single-precision 2/√π of erf's derivative. -/
abbrev cErf : EReal := Ideal.ofBits .f32 0x3F906EBB#32
/-- 512, the width of a row. -/
abbrev cN : EReal := Ideal.ofBits .f32 0x44000000#32
/-- The norm's epsilon. -/
abbrev cEps : EReal := Ideal.ofBits .f32 0x358637BD#32
/-- Minus one half. -/
abbrev cNeg : EReal := Ideal.ofBits .f32 0xBF000000#32

def gelu (x : EReal) : EReal := cHalf * x * (1 + Ideal.erf (x * cRt))

/-- The derivative of `gelu` at `x`, applied to `d`. -/
def dgelu (x d : EReal) : EReal :=
  cErf * (cHalf * x * d) * Ideal.exp (-(x * cRt * (x * cRt))) * cRt + cHalf * (d * (1 + Ideal.erf (x * cRt)))

/-! ## The layer norm of a row, and its derivative -/

section Row
variable (x : Fin 512 → EReal)

def mean : EReal := Ideal.div (∑ c, x c) cN
def xc (c : Fin 512) : EReal := x c - mean x
def var : EReal := Ideal.div (∑ c, xc x c * xc x c) cN + cEps
def rs : EReal := Ideal.rsqrt (var x)
def xh (c : Fin 512) : EReal := xc x c * rs x
def nv (g b : Fin 512 → EReal) (c : Fin 512) : EReal := xh x c * g c + b c
/-- The derivative of the reciprocal root. -/
def drs : EReal := cNeg * Ideal.div (rs x) (var x)
/-- What the mean of squares passes back to each centred entry, before the factor of the entry. -/
def dq (g d : Fin 512 → EReal) : EReal := Ideal.div ((∑ c, xc x c * (d c * g c)) * drs x) cN
def da (g d : Fin 512 → EReal) (c : Fin 512) : EReal := d c * g c * rs x + xc x c * dq x g d + dq x g d * xc x c
def dx (g d : Fin 512 → EReal) (c : Fin 512) : EReal := da x g d c + Ideal.div (∑ c, -(da x g d c)) cN
end Row

/-! ## A chunk -/

/-- The group of a channel. -/
def grp (c : Fin 512) : Fin 8 := ⟨c.val / 64, by omega⟩
/-- Channel `l` of group `h`. -/
def col (h : Fin 8) (l : Fin 64) : Fin 512 := ⟨64 * h.val + l.val, by omega⟩

section Chunk
variable (A B Y : Fin 128 → Fin 512 → EReal) (g b : Fin 512 → EReal) (w : Fin 8 → Fin 128 → Fin 128 → EReal)
  (bs : Fin 8 → Fin 128 → EReal)

/-- The causal weights. -/
def cw (h : Fin 8) (t s : Fin 128) : EReal := if s ≤ t then w h t s else 0
/-- The second half's row `s` after gelu. -/
def act (s : Fin 128) (c : Fin 512) : EReal := gelu (B s c)
def vv (s : Fin 128) (c : Fin 512) : EReal := nv (act B s) g b c
def mix (t : Fin 128) (c : Fin 512) : EReal := (∑ s, cw w (grp c) t s * vv B g b s c) + bs (grp c) t
def dm (t : Fin 128) (c : Fin 512) : EReal := gelu (A t c) * Y t c
def dv (s : Fin 128) (c : Fin 512) : EReal := ∑ t, dm A Y t c * cw w (grp c) t s
/-- The gradient of the gate half. -/
def gU (t : Fin 128) (c : Fin 512) : EReal := dgelu (A t c) (Y t c * mix B g b w bs t c)
/-- The gradient of the mixed half. -/
def gV (s : Fin 128) (c : Fin 512) : EReal := dgelu (B s c) (dx (act B s) g (dv A Y w s) c)
/-- The chunk's part of the spatial weights' gradient. -/
def gW (h : Fin 8) (t s : Fin 128) : EReal := if s ≤ t then ∑ l, dm A Y t (col h l) * vv B g b s (col h l) else 0
/-- The chunk's part of the spatial bias's gradient. -/
def gB (h : Fin 8) (t : Fin 128) : EReal := ∑ l, dm A Y t (col h l)
/-- The chunk's part of the norm gain's gradient. -/
def gG (c : Fin 512) : EReal := ∑ s, xh (act B s) c * dv A Y w s c
/-- The chunk's part of the norm bias's gradient. -/
def gC (c : Fin 512) : EReal := ∑ s, dv A Y w s c
end Chunk

/-! ## Sums cut into groups -/

theorem sum_mul_add {M : Type} [AddCommMonoid M] {a b : ℕ} (f : Fin (a * b) → M) :
    ∑ k, f k = ∑ i : Fin a, ∑ j : Fin b, f ⟨b * i.val + j.val, by
      have := i.isLt; have := j.isLt
      calc b * i.val + j.val < b * i.val + b := by omega
        _ = b * (i.val + 1) := by ring
        _ ≤ b * a := Nat.mul_le_mul_left _ (by omega)
        _ = a * b := Nat.mul_comm _ _⟩ := by
  rw [← finProdFinEquiv.sum_comp, Fintype.sum_prod_type]
  refine Finset.sum_congr rfl fun i _ => Finset.sum_congr rfl fun j _ => congrArg f (Fin.ext ?_)
  simp [finProdFinEquiv]; ring

/-- A row's 512 channels, group by group. -/
theorem sum_cols {M : Type} [AddCommMonoid M] (f : Fin 512 → M) : ∑ c, f c = ∑ h : Fin 8, ∑ l : Fin 64, f (col h l) :=
  sum_mul_add (a := 8) (b := 64) f

theorem grp_col (h : Fin 8) (l : Fin 64) : grp (col h l) = h := by
  apply Fin.ext; show (64 * h.val + l.val) / 64 = h.val; omega

end Cert.Gating
end
-- ==== Proof.KRow.lean ====
/-
  The row part of one grid point of the gating gradient's kernel, read at an index: gelu and the layer norm forward, and
  their derivatives backward, are the functions of `Cert.Gating` at the point's blocks.
-/
module

public import proofs.«01_k».proof.Proof.KOut
public import proofs.«01_k».proof.Proof.Spec
public import Idealize.ShloMosaic.Lib.Pointwise

@[expose] public section

set_option maxRecDepth 16384

noncomputable section

namespace Cert.KernelIdeal.Out

open Cert.KernelIdeal Cert.KernelIdeal.Gen Idealize.ShloMosaic Cert.Gating

variable (x0 : Vec Ideal S256x1024 .f32) (x1 : Vec Ideal S1x512 .f32) (x2 : Vec Ideal S1x512 .f32) (x3 : Vec Ideal S8x128x128 .f32) (x4 : Vec Ideal S128x128 .f32) (x5 : Vec Ideal S256x512 .f32)

/-- The gate half's pre-activation at row `r`. -/
def bA (r : Fin 256) (c : Fin 512) : EReal := x0 (ix2 r ⟨c.val, by omega⟩)
/-- The mixed half's pre-activation at row `r`. -/
def bB (r : Fin 256) (c : Fin 512) : EReal := x0 (ix2 r ⟨512 + c.val, by omega⟩)

theorem V11_at (r : Fin 256) (c : Fin 512) : V11 x0 x1 x2 x3 x4 x5 (ix2 r c) = cHalf * bA x0 r c := by
  pointwise [V11, k0_pay7, k0_pay6, bA]
theorem V18_at (r : Fin 256) (c : Fin 512) : V18 x0 x1 x2 x3 x4 x5 (ix2 r c) = Ideal.exp (-(bA x0 r c * cRt * (bA x0 r c * cRt))) := by
  pointwise [V18, k0_pay9, k0_pay8, k0_pay6, bA]
  rw [zero_sub]
theorem V20_at (r : Fin 256) (c : Fin 512) : V20 x0 x1 x2 x3 x4 x5 (ix2 r c) = 1 + Ideal.erf (bA x0 r c * cRt) := by
  pointwise [V20, k0_pay10, k0_pay8, k0_pay6, bA]
  rfl
theorem V21_at (r : Fin 256) (c : Fin 512) : V21 x0 x1 x2 x3 x4 x5 (ix2 r c) = gelu (bA x0 r c) := by
  pointwise [V21, k0_pay11, k0_pay7, k0_pay10, k0_pay8, k0_pay6, bA, gelu]
  rfl
theorem V24_at (r : Fin 256) (c : Fin 512) : V24 x0 x1 x2 x3 x4 x5 (ix2 r c) = cHalf * bB x0 r c := by
  pointwise [V24, k0_pay13, k0_pay12, bB]
theorem V31_at (r : Fin 256) (c : Fin 512) : V31 x0 x1 x2 x3 x4 x5 (ix2 r c) = Ideal.exp (-(bB x0 r c * cRt * (bB x0 r c * cRt))) := by
  pointwise [V31, k0_pay15, k0_pay14, k0_pay12, bB]
  rw [zero_sub]
theorem V33_at (r : Fin 256) (c : Fin 512) : V33 x0 x1 x2 x3 x4 x5 (ix2 r c) = 1 + Ideal.erf (bB x0 r c * cRt) := by
  pointwise [V33, k0_pay16, k0_pay14, k0_pay12, bB]
  rfl
theorem V34_at (r : Fin 256) (c : Fin 512) : V34 x0 x1 x2 x3 x4 x5 (ix2 r c) = gelu (bB x0 r c) := by
  pointwise [V34, k0_pay17, k0_pay13, k0_pay16, k0_pay14, k0_pay12, bB, gelu]
  rfl

/-- Row `r` of a block. -/
def rowOf {n : ℕ} (v : FVec Ideal ⟨2, ![n, 512]⟩ .f32) (r : Fin n) (c : Fin 512) : EReal := v (ix2 r c)

theorem pay18_at (r : Fin 256) : k0_pay18 x0 (ix2 r 0) = ∑ c, rowOf (k0_pay17 x0) r c := by
  unfold rowOf
  pointwise [k0_pay18]

section Norm
variable (v34 : FVec Ideal S256x512 .f32) (v36 : FVec Ideal S256x1 .f32)
  (h36 : ∀ r : Fin 256, v36 (ix2 r 0) = ∑ c, rowOf v34 r c) (r : Fin 256)
include h36

theorem pay19_at (c : Fin 512) : k0_pay19 v34 v36 (ix2 r c) = xc (rowOf v34 r) c := by
  pointwise [k0_pay19, h36, xc, mean, rowOf]
theorem pay20_at : k0_pay20 v34 v36 (ix2 r 0) = var (rowOf v34 r) := by
  have h := pay19_at v34 v36 h36
  pointwise [k0_pay20, h, var]
theorem pay21_at : k0_pay21 v34 v36 (ix2 r 0) = rs (rowOf v34 r) := by
  pointwise [k0_pay21, pay20_at v34 v36 h36, rs]
theorem pay22_at : k0_pay22 v34 v36 (ix2 r 0) = drs (rowOf v34 r) := by
  pointwise [k0_pay22, pay20_at v34 v36 h36, pay21_at v34 v36 h36, drs]
theorem pay23_at (c : Fin 512) : k0_pay23 v34 v36 (ix2 r c) = xh (rowOf v34 r) c := by
  pointwise [k0_pay23, pay19_at v34 v36 h36, pay21_at v34 v36 h36, xh]
theorem pay24_at (v2 v4 : FVec Ideal S1x512 .f32) (c : Fin 512) :
    k0_pay24 v2 v4 v34 v36 (ix2 r c) = nv (rowOf v34 r) (rowOf v2 0) (rowOf v4 0) c := by
  pointwise [k0_pay24, pay23_at v34 v36 h36, nv, rowOf]
end Norm

section Back
variable (v34 : FVec Ideal S256x512 .f32) (v36 : FVec Ideal S256x1 .f32)
  (h36 : ∀ r : Fin 256, v36 (ix2 r 0) = ∑ c, rowOf v34 r c) (v2 : FVec Ideal S1x512 .f32) (v366 : FVec Ideal S256x512 .f32)
include h36

theorem pay116_at (r : Fin 256) (c : Fin 512) :
    k0_pay116 v2 (k0_pay19 v34 v36) (k0_pay21 v34 v36) (k0_pay22 v34 v36) v366 (ix2 r c)
      = da (rowOf v34 r) (rowOf v2 0) (rowOf v366 r) c := by
  pointwise [k0_pay116, pay19_at v34 v36 h36, pay21_at v34 v36 h36, pay22_at v34 v36 h36, da, dq]
  simp only [Fin.sum_univ_one, pay22_at v34 v36 h36]
  rfl
theorem pay117_at (r : Fin 256) :
    k0_pay117 v2 (k0_pay19 v34 v36) (k0_pay21 v34 v36) (k0_pay22 v34 v36) v366 (ix2 r 0)
      = Ideal.div (∑ c, -(da (rowOf v34 r) (rowOf v2 0) (rowOf v366 r) c)) cN := by
  pointwise [k0_pay117, pay116_at v34 v36 h36]
  simp only [Fin.sum_univ_one, zero_sub]
end Back

theorem pay114_at (v366 : FVec Ideal S256x512 .f32) (c : Fin 512) : k0_pay114 v366 (ix2 0 c) = ∑ r : Fin 256, v366 (ix2 r c) := by
  pointwise [k0_pay114]
theorem pay115_at (v53 v366 : FVec Ideal S256x512 .f32) (c : Fin 512) :
    k0_pay115 v53 v366 (ix2 0 c) = ∑ r : Fin 256, v53 (ix2 r c) * v366 (ix2 r c) := by
  pointwise [k0_pay115]

theorem pay118_left (v11 v18 v20 v24 v31 v33 v180 v456 : FVec Ideal S256x512 .f32) (v464 : FVec Ideal S256x1 .f32)
    (r : Fin 256) (c : Fin 512) :
    k0_pay118 v11 v18 v20 v24 v31 v33 v180 v456 v464 (ix2 r ⟨c.val, by omega⟩)
      = cErf * (v11 (ix2 r c) * v180 (ix2 r c)) * v18 (ix2 r c) * cRt + cHalf * (v180 (ix2 r c) * v20 (ix2 r c)) := by
  pointwise [k0_pay118]
theorem pay118_right (v11 v18 v20 v24 v31 v33 v180 v456 : FVec Ideal S256x512 .f32) (v464 : FVec Ideal S256x1 .f32)
    (r : Fin 256) (c : Fin 512) :
    k0_pay118 v11 v18 v20 v24 v31 v33 v180 v456 v464 (ix2 r ⟨512 + c.val, by omega⟩)
      = cErf * (v24 (ix2 r c) * (v456 (ix2 r c) + v464 (ix2 r 0))) * v31 (ix2 r c) * cRt
        + cHalf * ((v456 (ix2 r c) + v464 (ix2 r 0)) * v33 (ix2 r c)) := by
  pointwise [k0_pay118]

end Cert.KernelIdeal.Out
end
-- ==== Proof.KMix.lean ====
/-
  The mixing part of one grid point of the gating gradient's kernel, read at an index: the causal masks, the weights of
  the eight groups, the mixing product of a pair of groups per 128 lanes, its two derivatives, and the bias's gradient
  through the 0/1 matrix that spreads a group over its 64 channels.
-/
module

public import proofs.«01_k».proof.Proof.KRow

@[expose] public section

set_option maxRecDepth 16384

noncomputable section

namespace Cert.KernelIdeal.Out

open Cert.KernelIdeal Cert.KernelIdeal.Gen Idealize.ShloMosaic Cert.Gating

/-! ## Masks -/

theorem select_ite {α : Type} (p : Prop) [Decidable p] (a b : α) :
    Scalar.select (if p then 1#1 else 0#1) a b = if p then a else b := by
  split <;> simp [Scalar.select]

theorem causal_at (t s : Fin 128) : k0_pay25 (ix2 t s) = if s ≤ t then 1#1 else 0#1 := by
  pointwise [k0_pay25]
  revert s t; decide +kernel
theorem first_at (t l : Fin 128) : k0_pay26 (ix2 t l) = if l.val < 64 then 1#1 else 0#1 := by
  pointwise [k0_pay26]
  revert l; decide +kernel

/-- The rounded-down quotient by 64, as the program computes it. -/
theorem div64 : ∀ c : Fin 512, (Scalar.select
            (IntOp.andi
              (IntOp.cmpi CmpIPredicate.ne
                (IntOp.subi (BitVec.setWidth 32 (IntOp.cmpi CmpIPredicate.sgt (BitVec.ofNat 32 ↑c) 0#32))
                  (BitVec.setWidth 32 (IntOp.cmpi CmpIPredicate.slt (BitVec.ofNat 32 ↑c) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 ↑c) 64#32) 0#32))
            (IntOp.subi (IntOp.divsi ArithUnit.vector (BitVec.ofNat 32 ↑c) 64#32) 1#32)
            (IntOp.divsi ArithUnit.vector (BitVec.ofNat 32 ↑c) 64#32)) = BitVec.ofNat 32 (grp c).val := by
  decide +kernel
theorem eq_word : ∀ (k : Fin 128) (j : Fin 8), BitVec.setWidth 32 (IntOp.cmpi .eq (BitVec.ofNat 32 k.val) (BitVec.ofNat 32 j.val))
    = if k.val = j.val then 1#32 else 0#32 := by decide +kernel

theorem spread_at (k : Fin 128) (c : Fin 512) :
    k0_pay31 (F := Ideal) (iota .tc S128x512 32 [0] iota_S128x512_d0_w32) k0_pay27 k0_pay28 k0_pay29 k0_pay30 (ix2 k c)
      = if k.val = (grp c).val then 1 else 0 := by
  pointwise [k0_pay31, k0_pay27, k0_pay28, k0_pay29, k0_pay30]
  rw [div64, eq_word]
  split <;> simp [FloatOps.sitofp]

theorem pay32_at (v7 : FVec Ideal S128x128 .f32) (t : Fin 128) (c : Fin 512) :
    k0_pay32 v7 (iota .tc S128x512 32 [0] iota_S128x512_d0_w32) k0_pay27 k0_pay28 k0_pay29 k0_pay30 (ix2 t c)
      = v7 (ix2 t ⟨(grp c).val, by omega⟩) := by
  pointwise [k0_pay32]
  refine (Finset.sum_congr rfl fun k _ => congrArg _ (spread_at k c)).trans ?_
  rw [Finset.sum_eq_single (⟨(grp c).val, by omega⟩ : Fin 128)]
  · simp
  · intro k _ hk
    rw [if_neg (fun h => hk (Fin.ext h)), mul_zero]
  · simp

/-! ## Blocks -/

/-- Position `t` of chunk `h`. -/
def prow (h : Fin 2) (t : Fin 128) : Fin 256 := ⟨128 * h.val + t.val, by omega⟩
/-- Lane `l` of the pair `p` of groups. -/
def pcol (p : Fin 4) (l : Fin 128) : Fin 512 := ⟨128 * p.val + l.val, by omega⟩

theorem pay33_at (v5 : Vec Ideal S8x128x128 .f32) (t s : Fin 128) :
    k0_pay33 v5 k0_pay25 (ix2 t s) = if s ≤ t then v5 (ix3 0 t s) else 0 := by
  pointwise [k0_pay33, causal_at, select_ite]

theorem pay34_at (v5 : Vec Ideal S8x128x128 .f32) (t s : Fin 128) :
    k0_pay34 v5 k0_pay25 (ix2 t s) = if s ≤ t then v5 (ix3 1 t s) else 0 := by
  pointwise [k0_pay34, causal_at, select_ite]

theorem pay35_at (v5 : Vec Ideal S8x128x128 .f32) (t s : Fin 128) :
    k0_pay35 v5 k0_pay25 (ix2 t s) = if s ≤ t then v5 (ix3 2 t s) else 0 := by
  pointwise [k0_pay35, causal_at, select_ite]

theorem pay36_at (v5 : Vec Ideal S8x128x128 .f32) (t s : Fin 128) :
    k0_pay36 v5 k0_pay25 (ix2 t s) = if s ≤ t then v5 (ix3 3 t s) else 0 := by
  pointwise [k0_pay36, causal_at, select_ite]

theorem pay37_at (v5 : Vec Ideal S8x128x128 .f32) (t s : Fin 128) :
    k0_pay37 v5 k0_pay25 (ix2 t s) = if s ≤ t then v5 (ix3 4 t s) else 0 := by
  pointwise [k0_pay37, causal_at, select_ite]

theorem pay38_at (v5 : Vec Ideal S8x128x128 .f32) (t s : Fin 128) :
    k0_pay38 v5 k0_pay25 (ix2 t s) = if s ≤ t then v5 (ix3 5 t s) else 0 := by
  pointwise [k0_pay38, causal_at, select_ite]

theorem pay39_at (v5 : Vec Ideal S8x128x128 .f32) (t s : Fin 128) :
    k0_pay39 v5 k0_pay25 (ix2 t s) = if s ≤ t then v5 (ix3 6 t s) else 0 := by
  pointwise [k0_pay39, causal_at, select_ite]

theorem pay40_at (v5 : Vec Ideal S8x128x128 .f32) (t s : Fin 128) :
    k0_pay40 v5 k0_pay25 (ix2 t s) = if s ≤ t then v5 (ix3 7 t s) else 0 := by
  pointwise [k0_pay40, causal_at, select_ite]

/-! ## The mixing product -/

section Mix
variable (v57 : FVec Ideal S256x512 .f32) (v93 : FVec Ideal S128x512 .f32)
  (v98 v103 v108 v113 v118 v123 v128 v133 : FVec Ideal S128x128 .bf16)

theorem pay50_00 (t l : Fin 128) : k0_pay50 v57 k0_pay26 v93 v98 v103 v108 v113 v118 v123 v128 v133 (k0_pay41 v57) (ix2 ⟨t.val, by omega⟩ ⟨l.val, by omega⟩)
    = (if l.val < 64 then ∑ s : Fin 128, v98 (ix2 t s) * v57 (ix2 ⟨s.val, by omega⟩ ⟨l.val, by omega⟩)
        else ∑ s : Fin 128, v103 (ix2 t s) * v57 (ix2 ⟨s.val, by omega⟩ ⟨l.val, by omega⟩))
      + v93 (ix2 t ⟨l.val, by omega⟩) := by
  pointwise [k0_pay50, k0_pay41, k0_pay42, k0_pay43, k0_pay44, k0_pay45, k0_pay46, k0_pay47, k0_pay48, k0_pay49, first_at, select_ite]
  try simp (disch := omega) only [dif_pos, dif_neg, if_pos, if_neg, Nat.sub_zero, Nat.add_zero, Nat.zero_add]

theorem pay50_01 (t l : Fin 128) : k0_pay50 v57 k0_pay26 v93 v98 v103 v108 v113 v118 v123 v128 v133 (k0_pay41 v57) (ix2 ⟨t.val, by omega⟩ ⟨128 + l.val, by omega⟩)
    = (if l.val < 64 then ∑ s : Fin 128, v108 (ix2 t s) * v57 (ix2 ⟨s.val, by omega⟩ ⟨128 + l.val, by omega⟩)
        else ∑ s : Fin 128, v113 (ix2 t s) * v57 (ix2 ⟨s.val, by omega⟩ ⟨128 + l.val, by omega⟩))
      + v93 (ix2 t ⟨128 + l.val, by omega⟩) := by
  pointwise [k0_pay50, k0_pay41, k0_pay42, k0_pay43, k0_pay44, k0_pay45, k0_pay46, k0_pay47, k0_pay48, k0_pay49, first_at, select_ite]
  try simp (disch := omega) only [dif_pos, dif_neg, if_pos, if_neg, show 128 + l.val - 128 = l.val by omega, Nat.add_zero, Nat.zero_add]

theorem pay50_02 (t l : Fin 128) : k0_pay50 v57 k0_pay26 v93 v98 v103 v108 v113 v118 v123 v128 v133 (k0_pay41 v57) (ix2 ⟨t.val, by omega⟩ ⟨256 + l.val, by omega⟩)
    = (if l.val < 64 then ∑ s : Fin 128, v118 (ix2 t s) * v57 (ix2 ⟨s.val, by omega⟩ ⟨256 + l.val, by omega⟩)
        else ∑ s : Fin 128, v123 (ix2 t s) * v57 (ix2 ⟨s.val, by omega⟩ ⟨256 + l.val, by omega⟩))
      + v93 (ix2 t ⟨256 + l.val, by omega⟩) := by
  pointwise [k0_pay50, k0_pay41, k0_pay42, k0_pay43, k0_pay44, k0_pay45, k0_pay46, k0_pay47, k0_pay48, k0_pay49, first_at, select_ite]
  try simp (disch := omega) only [dif_pos, dif_neg, if_pos, if_neg, show 256 + l.val - 128 - 128 = l.val by omega, Nat.add_zero, Nat.zero_add]

theorem pay50_03 (t l : Fin 128) : k0_pay50 v57 k0_pay26 v93 v98 v103 v108 v113 v118 v123 v128 v133 (k0_pay41 v57) (ix2 ⟨t.val, by omega⟩ ⟨384 + l.val, by omega⟩)
    = (if l.val < 64 then ∑ s : Fin 128, v128 (ix2 t s) * v57 (ix2 ⟨s.val, by omega⟩ ⟨384 + l.val, by omega⟩)
        else ∑ s : Fin 128, v133 (ix2 t s) * v57 (ix2 ⟨s.val, by omega⟩ ⟨384 + l.val, by omega⟩))
      + v93 (ix2 t ⟨384 + l.val, by omega⟩) := by
  pointwise [k0_pay50, k0_pay41, k0_pay42, k0_pay43, k0_pay44, k0_pay45, k0_pay46, k0_pay47, k0_pay48, k0_pay49, first_at, select_ite]
  try simp (disch := omega) only [dif_pos, dif_neg, if_pos, if_neg, show 384 + l.val - 128 - 128 - 128 = l.val by omega, Nat.add_zero, Nat.zero_add]

theorem pay50_10 (t l : Fin 128) : k0_pay50 v57 k0_pay26 v93 v98 v103 v108 v113 v118 v123 v128 v133 (k0_pay41 v57) (ix2 ⟨128 + t.val, by omega⟩ ⟨l.val, by omega⟩)
    = (if l.val < 64 then ∑ s : Fin 128, v98 (ix2 t s) * v57 (ix2 ⟨128 + s.val, by omega⟩ ⟨l.val, by omega⟩)
        else ∑ s : Fin 128, v103 (ix2 t s) * v57 (ix2 ⟨128 + s.val, by omega⟩ ⟨l.val, by omega⟩))
      + v93 (ix2 t ⟨l.val, by omega⟩) := by
  pointwise [k0_pay50, k0_pay41, k0_pay42, k0_pay43, k0_pay44, k0_pay45, k0_pay46, k0_pay47, k0_pay48, k0_pay49, first_at, select_ite]
  try simp (disch := omega) only [dif_pos, dif_neg, if_pos, if_neg, Nat.sub_zero, Nat.add_zero, Nat.zero_add]

theorem pay50_11 (t l : Fin 128) : k0_pay50 v57 k0_pay26 v93 v98 v103 v108 v113 v118 v123 v128 v133 (k0_pay41 v57) (ix2 ⟨128 + t.val, by omega⟩ ⟨128 + l.val, by omega⟩)
    = (if l.val < 64 then ∑ s : Fin 128, v108 (ix2 t s) * v57 (ix2 ⟨128 + s.val, by omega⟩ ⟨128 + l.val, by omega⟩)
        else ∑ s : Fin 128, v113 (ix2 t s) * v57 (ix2 ⟨128 + s.val, by omega⟩ ⟨128 + l.val, by omega⟩))
      + v93 (ix2 t ⟨128 + l.val, by omega⟩) := by
  pointwise [k0_pay50, k0_pay41, k0_pay42, k0_pay43, k0_pay44, k0_pay45, k0_pay46, k0_pay47, k0_pay48, k0_pay49, first_at, select_ite]
  try simp (disch := omega) only [dif_pos, dif_neg, if_pos, if_neg, show 128 + l.val - 128 = l.val by omega, Nat.add_zero, Nat.zero_add]

theorem pay50_12 (t l : Fin 128) : k0_pay50 v57 k0_pay26 v93 v98 v103 v108 v113 v118 v123 v128 v133 (k0_pay41 v57) (ix2 ⟨128 + t.val, by omega⟩ ⟨256 + l.val, by omega⟩)
    = (if l.val < 64 then ∑ s : Fin 128, v118 (ix2 t s) * v57 (ix2 ⟨128 + s.val, by omega⟩ ⟨256 + l.val, by omega⟩)
        else ∑ s : Fin 128, v123 (ix2 t s) * v57 (ix2 ⟨128 + s.val, by omega⟩ ⟨256 + l.val, by omega⟩))
      + v93 (ix2 t ⟨256 + l.val, by omega⟩) := by
  pointwise [k0_pay50, k0_pay41, k0_pay42, k0_pay43, k0_pay44, k0_pay45, k0_pay46, k0_pay47, k0_pay48, k0_pay49, first_at, select_ite]
  try simp (disch := omega) only [dif_pos, dif_neg, if_pos, if_neg, show 256 + l.val - 128 - 128 = l.val by omega, Nat.add_zero, Nat.zero_add]

theorem pay50_13 (t l : Fin 128) : k0_pay50 v57 k0_pay26 v93 v98 v103 v108 v113 v118 v123 v128 v133 (k0_pay41 v57) (ix2 ⟨128 + t.val, by omega⟩ ⟨384 + l.val, by omega⟩)
    = (if l.val < 64 then ∑ s : Fin 128, v128 (ix2 t s) * v57 (ix2 ⟨128 + s.val, by omega⟩ ⟨384 + l.val, by omega⟩)
        else ∑ s : Fin 128, v133 (ix2 t s) * v57 (ix2 ⟨128 + s.val, by omega⟩ ⟨384 + l.val, by omega⟩))
      + v93 (ix2 t ⟨384 + l.val, by omega⟩) := by
  pointwise [k0_pay50, k0_pay41, k0_pay42, k0_pay43, k0_pay44, k0_pay45, k0_pay46, k0_pay47, k0_pay48, k0_pay49, first_at, select_ite]
  try simp (disch := omega) only [dif_pos, dif_neg, if_pos, if_neg, show 384 + l.val - 128 - 128 - 128 = l.val by omega, Nat.add_zero, Nat.zero_add]
end Mix

/-! ## The derivative of the mixing product in its values -/

section DV
variable (v8 v21 : FVec Ideal S256x512 .f32)
  (v98 v103 v108 v113 v118 v123 v128 v133 : FVec Ideal S128x128 .bf16)

/-- The assembly of the eight products, as `V366` has it. -/
def dvAll : FVec Ideal S256x512 .f32 :=
  k0_pay108 k0_pay26 v98 v103 v108 v113 (k0_pay83 (k0_pay53 v8 v21)) (k0_pay84 (k0_pay53 v8 v21))
    (k0_pay97 k0_pay26 v118 v123 v128 v133
      (k0_pay81 k0_pay26 v98 v103 v108 v113 (k0_pay55 v8 v21) (k0_pay56 v8 v21) (k0_pay64 v8 v21 k0_pay26 v128 v133)
        (k0_pay70 v8 v21 k0_pay26 v118 v123))
      (k0_pay85 (k0_pay53 v8 v21)) (k0_pay86 (k0_pay53 v8 v21))) k0_pay98

theorem dvAll_00 (s l : Fin 128) : dvAll v8 v21 v98 v103 v108 v113 v118 v123 v128 v133 (ix2 ⟨s.val, by omega⟩ ⟨l.val, by omega⟩)
    = (∑ t : Fin 128, (if l.val < 64 then 0 else (v21 (ix2 ⟨t.val, by omega⟩ ⟨l.val, by omega⟩) * v8 (ix2 ⟨t.val, by omega⟩ ⟨l.val, by omega⟩))) * v103 (ix2 t s))
      + ∑ t : Fin 128, (if l.val < 64 then (v21 (ix2 ⟨t.val, by omega⟩ ⟨l.val, by omega⟩) * v8 (ix2 ⟨t.val, by omega⟩ ⟨l.val, by omega⟩)) else 0) * v98 (ix2 t s) := by
  pointwise [dvAll, k0_pay108, k0_pay97, k0_pay81, k0_pay70, k0_pay64, k0_pay83, k0_pay84, k0_pay85, k0_pay86, k0_pay53, k0_pay54, k0_pay55, k0_pay56, k0_pay57, k0_pay58, k0_pay51,
    k0_pay59, k0_pay60, k0_pay61, k0_pay65, k0_pay66, k0_pay67, k0_pay71, k0_pay72, k0_pay73, k0_pay76, k0_pay77, k0_pay78, k0_pay87, k0_pay88, k0_pay89, k0_pay92, k0_pay93, k0_pay94, k0_pay98, k0_pay99, k0_pay100, k0_pay103, k0_pay104, k0_pay105, first_at, select_ite]
  try simp (disch := omega) only [dif_pos, dif_neg, if_pos, if_neg, Nat.sub_zero, zero_add, add_zero]

theorem dvAll_01 (s l : Fin 128) : dvAll v8 v21 v98 v103 v108 v113 v118 v123 v128 v133 (ix2 ⟨s.val, by omega⟩ ⟨128 + l.val, by omega⟩)
    = (∑ t : Fin 128, (if l.val < 64 then 0 else (v21 (ix2 ⟨t.val, by omega⟩ ⟨128 + l.val, by omega⟩) * v8 (ix2 ⟨t.val, by omega⟩ ⟨128 + l.val, by omega⟩))) * v113 (ix2 t s))
      + ∑ t : Fin 128, (if l.val < 64 then (v21 (ix2 ⟨t.val, by omega⟩ ⟨128 + l.val, by omega⟩) * v8 (ix2 ⟨t.val, by omega⟩ ⟨128 + l.val, by omega⟩)) else 0) * v108 (ix2 t s) := by
  pointwise [dvAll, k0_pay108, k0_pay97, k0_pay81, k0_pay70, k0_pay64, k0_pay83, k0_pay84, k0_pay85, k0_pay86, k0_pay53, k0_pay54, k0_pay55, k0_pay56, k0_pay57, k0_pay58, k0_pay51,
    k0_pay59, k0_pay60, k0_pay61, k0_pay65, k0_pay66, k0_pay67, k0_pay71, k0_pay72, k0_pay73, k0_pay76, k0_pay77, k0_pay78, k0_pay87, k0_pay88, k0_pay89, k0_pay92, k0_pay93, k0_pay94, k0_pay98, k0_pay99, k0_pay100, k0_pay103, k0_pay104, k0_pay105, first_at, select_ite]
  try simp (disch := omega) only [dif_pos, dif_neg, if_pos, if_neg, show 128 + l.val - 128 = l.val by omega, zero_add, add_zero]

theorem dvAll_02 (s l : Fin 128) : dvAll v8 v21 v98 v103 v108 v113 v118 v123 v128 v133 (ix2 ⟨s.val, by omega⟩ ⟨256 + l.val, by omega⟩)
    = (∑ t : Fin 128, (if l.val < 64 then 0 else (v21 (ix2 ⟨t.val, by omega⟩ ⟨256 + l.val, by omega⟩) * v8 (ix2 ⟨t.val, by omega⟩ ⟨256 + l.val, by omega⟩))) * v123 (ix2 t s))
      + ∑ t : Fin 128, (if l.val < 64 then (v21 (ix2 ⟨t.val, by omega⟩ ⟨256 + l.val, by omega⟩) * v8 (ix2 ⟨t.val, by omega⟩ ⟨256 + l.val, by omega⟩)) else 0) * v118 (ix2 t s) := by
  pointwise [dvAll, k0_pay108, k0_pay97, k0_pay81, k0_pay70, k0_pay64, k0_pay83, k0_pay84, k0_pay85, k0_pay86, k0_pay53, k0_pay54, k0_pay55, k0_pay56, k0_pay57, k0_pay58, k0_pay51,
    k0_pay59, k0_pay60, k0_pay61, k0_pay65, k0_pay66, k0_pay67, k0_pay71, k0_pay72, k0_pay73, k0_pay76, k0_pay77, k0_pay78, k0_pay87, k0_pay88, k0_pay89, k0_pay92, k0_pay93, k0_pay94, k0_pay98, k0_pay99, k0_pay100, k0_pay103, k0_pay104, k0_pay105, first_at, select_ite]
  try simp (disch := omega) only [dif_pos, dif_neg, if_pos, if_neg, show 256 + l.val - 256 = l.val by omega, show 256 + l.val - 128 - 128 = l.val by omega, zero_add, add_zero]

theorem dvAll_03 (s l : Fin 128) : dvAll v8 v21 v98 v103 v108 v113 v118 v123 v128 v133 (ix2 ⟨s.val, by omega⟩ ⟨384 + l.val, by omega⟩)
    = (∑ t : Fin 128, (if l.val < 64 then 0 else (v21 (ix2 ⟨t.val, by omega⟩ ⟨384 + l.val, by omega⟩) * v8 (ix2 ⟨t.val, by omega⟩ ⟨384 + l.val, by omega⟩))) * v133 (ix2 t s))
      + ∑ t : Fin 128, (if l.val < 64 then (v21 (ix2 ⟨t.val, by omega⟩ ⟨384 + l.val, by omega⟩) * v8 (ix2 ⟨t.val, by omega⟩ ⟨384 + l.val, by omega⟩)) else 0) * v128 (ix2 t s) := by
  pointwise [dvAll, k0_pay108, k0_pay97, k0_pay81, k0_pay70, k0_pay64, k0_pay83, k0_pay84, k0_pay85, k0_pay86, k0_pay53, k0_pay54, k0_pay55, k0_pay56, k0_pay57, k0_pay58, k0_pay51,
    k0_pay59, k0_pay60, k0_pay61, k0_pay65, k0_pay66, k0_pay67, k0_pay71, k0_pay72, k0_pay73, k0_pay76, k0_pay77, k0_pay78, k0_pay87, k0_pay88, k0_pay89, k0_pay92, k0_pay93, k0_pay94, k0_pay98, k0_pay99, k0_pay100, k0_pay103, k0_pay104, k0_pay105, first_at, select_ite]
  try simp (disch := omega) only [dif_pos, dif_neg, if_pos, if_neg, show 384 + l.val - 384 = l.val by omega, show 384 + l.val - 256 - 128 = l.val by omega, zero_add, add_zero]

theorem dvAll_10 (s l : Fin 128) : dvAll v8 v21 v98 v103 v108 v113 v118 v123 v128 v133 (ix2 ⟨128 + s.val, by omega⟩ ⟨l.val, by omega⟩)
    = (∑ t : Fin 128, (if l.val < 64 then 0 else (v21 (ix2 ⟨128 + t.val, by omega⟩ ⟨l.val, by omega⟩) * v8 (ix2 ⟨128 + t.val, by omega⟩ ⟨l.val, by omega⟩))) * v103 (ix2 t s))
      + ∑ t : Fin 128, (if l.val < 64 then (v21 (ix2 ⟨128 + t.val, by omega⟩ ⟨l.val, by omega⟩) * v8 (ix2 ⟨128 + t.val, by omega⟩ ⟨l.val, by omega⟩)) else 0) * v98 (ix2 t s) := by
  pointwise [dvAll, k0_pay108, k0_pay97, k0_pay81, k0_pay70, k0_pay64, k0_pay83, k0_pay84, k0_pay85, k0_pay86, k0_pay53, k0_pay54, k0_pay55, k0_pay56, k0_pay57, k0_pay58, k0_pay51,
    k0_pay59, k0_pay60, k0_pay61, k0_pay65, k0_pay66, k0_pay67, k0_pay71, k0_pay72, k0_pay73, k0_pay76, k0_pay77, k0_pay78, k0_pay87, k0_pay88, k0_pay89, k0_pay92, k0_pay93, k0_pay94, k0_pay98, k0_pay99, k0_pay100, k0_pay103, k0_pay104, k0_pay105, first_at, select_ite]
  try simp (disch := omega) only [dif_pos, dif_neg, if_pos, if_neg, Nat.sub_zero, zero_add, add_zero]

theorem dvAll_11 (s l : Fin 128) : dvAll v8 v21 v98 v103 v108 v113 v118 v123 v128 v133 (ix2 ⟨128 + s.val, by omega⟩ ⟨128 + l.val, by omega⟩)
    = (∑ t : Fin 128, (if l.val < 64 then 0 else (v21 (ix2 ⟨128 + t.val, by omega⟩ ⟨128 + l.val, by omega⟩) * v8 (ix2 ⟨128 + t.val, by omega⟩ ⟨128 + l.val, by omega⟩))) * v113 (ix2 t s))
      + ∑ t : Fin 128, (if l.val < 64 then (v21 (ix2 ⟨128 + t.val, by omega⟩ ⟨128 + l.val, by omega⟩) * v8 (ix2 ⟨128 + t.val, by omega⟩ ⟨128 + l.val, by omega⟩)) else 0) * v108 (ix2 t s) := by
  pointwise [dvAll, k0_pay108, k0_pay97, k0_pay81, k0_pay70, k0_pay64, k0_pay83, k0_pay84, k0_pay85, k0_pay86, k0_pay53, k0_pay54, k0_pay55, k0_pay56, k0_pay57, k0_pay58, k0_pay51,
    k0_pay59, k0_pay60, k0_pay61, k0_pay65, k0_pay66, k0_pay67, k0_pay71, k0_pay72, k0_pay73, k0_pay76, k0_pay77, k0_pay78, k0_pay87, k0_pay88, k0_pay89, k0_pay92, k0_pay93, k0_pay94, k0_pay98, k0_pay99, k0_pay100, k0_pay103, k0_pay104, k0_pay105, first_at, select_ite]
  try simp (disch := omega) only [dif_pos, dif_neg, if_pos, if_neg, show 128 + l.val - 128 = l.val by omega, zero_add, add_zero]

theorem dvAll_12 (s l : Fin 128) : dvAll v8 v21 v98 v103 v108 v113 v118 v123 v128 v133 (ix2 ⟨128 + s.val, by omega⟩ ⟨256 + l.val, by omega⟩)
    = (∑ t : Fin 128, (if l.val < 64 then 0 else (v21 (ix2 ⟨128 + t.val, by omega⟩ ⟨256 + l.val, by omega⟩) * v8 (ix2 ⟨128 + t.val, by omega⟩ ⟨256 + l.val, by omega⟩))) * v123 (ix2 t s))
      + ∑ t : Fin 128, (if l.val < 64 then (v21 (ix2 ⟨128 + t.val, by omega⟩ ⟨256 + l.val, by omega⟩) * v8 (ix2 ⟨128 + t.val, by omega⟩ ⟨256 + l.val, by omega⟩)) else 0) * v118 (ix2 t s) := by
  pointwise [dvAll, k0_pay108, k0_pay97, k0_pay81, k0_pay70, k0_pay64, k0_pay83, k0_pay84, k0_pay85, k0_pay86, k0_pay53, k0_pay54, k0_pay55, k0_pay56, k0_pay57, k0_pay58, k0_pay51,
    k0_pay59, k0_pay60, k0_pay61, k0_pay65, k0_pay66, k0_pay67, k0_pay71, k0_pay72, k0_pay73, k0_pay76, k0_pay77, k0_pay78, k0_pay87, k0_pay88, k0_pay89, k0_pay92, k0_pay93, k0_pay94, k0_pay98, k0_pay99, k0_pay100, k0_pay103, k0_pay104, k0_pay105, first_at, select_ite]
  try simp (disch := omega) only [dif_pos, dif_neg, if_pos, if_neg, show 256 + l.val - 256 = l.val by omega, show 256 + l.val - 128 - 128 = l.val by omega, zero_add, add_zero]

theorem dvAll_13 (s l : Fin 128) : dvAll v8 v21 v98 v103 v108 v113 v118 v123 v128 v133 (ix2 ⟨128 + s.val, by omega⟩ ⟨384 + l.val, by omega⟩)
    = (∑ t : Fin 128, (if l.val < 64 then 0 else (v21 (ix2 ⟨128 + t.val, by omega⟩ ⟨384 + l.val, by omega⟩) * v8 (ix2 ⟨128 + t.val, by omega⟩ ⟨384 + l.val, by omega⟩))) * v133 (ix2 t s))
      + ∑ t : Fin 128, (if l.val < 64 then (v21 (ix2 ⟨128 + t.val, by omega⟩ ⟨384 + l.val, by omega⟩) * v8 (ix2 ⟨128 + t.val, by omega⟩ ⟨384 + l.val, by omega⟩)) else 0) * v128 (ix2 t s) := by
  pointwise [dvAll, k0_pay108, k0_pay97, k0_pay81, k0_pay70, k0_pay64, k0_pay83, k0_pay84, k0_pay85, k0_pay86, k0_pay53, k0_pay54, k0_pay55, k0_pay56, k0_pay57, k0_pay58, k0_pay51,
    k0_pay59, k0_pay60, k0_pay61, k0_pay65, k0_pay66, k0_pay67, k0_pay71, k0_pay72, k0_pay73, k0_pay76, k0_pay77, k0_pay78, k0_pay87, k0_pay88, k0_pay89, k0_pay92, k0_pay93, k0_pay94, k0_pay98, k0_pay99, k0_pay100, k0_pay103, k0_pay104, k0_pay105, first_at, select_ite]
  try simp (disch := omega) only [dif_pos, dif_neg, if_pos, if_neg, show 384 + l.val - 384 = l.val by omega, show 384 + l.val - 256 - 128 = l.val by omega, zero_add, add_zero]

/-- The assembly of the eight groups' weight gradients, as `V433` has it. -/
def dwAll (v135 v140 v145 v150 v157 v162 v167 v172 : FVec Ideal S128x128 .bf16) : FVec Ideal S8x128x128 .f32 :=
  k0_pay112 k0_pay25
    (k0_pay107 k0_pay26 v135 (k0_pay80 k0_pay26 v157 (k0_pay55 v8 v21)) (k0_pay83 (k0_pay53 v8 v21)))
    (k0_pay110 k0_pay25
      (k0_pay91 k0_pay26 v150 (k0_pay63 v8 v21 k0_pay26 v172) (k0_pay86 (k0_pay53 v8 v21)))
      (k0_pay95 k0_pay26 v145 (k0_pay68 v8 v21 k0_pay26 v167) (k0_pay85 (k0_pay53 v8 v21)))
      (k0_pay96 k0_pay26 v145 (k0_pay69 v8 v21 k0_pay26 v167) (k0_pay85 (k0_pay53 v8 v21)))
      (k0_pay101 k0_pay26 v140 (k0_pay74 k0_pay26 v162 (k0_pay56 v8 v21)) (k0_pay84 (k0_pay53 v8 v21)) k0_pay98)
      (k0_pay102 k0_pay26 v140 (k0_pay75 k0_pay26 v162 (k0_pay56 v8 v21)) (k0_pay84 (k0_pay53 v8 v21)) k0_pay98)
      (k0_pay109 k0_pay25 (k0_pay90 k0_pay26 v150 (k0_pay62 v8 v21 k0_pay26 v172) (k0_pay86 (k0_pay53 v8 v21)))))
    (k0_pay111 (k0_pay106 k0_pay26 v135 (k0_pay79 k0_pay26 v157 (k0_pay55 v8 v21)) (k0_pay83 (k0_pay53 v8 v21))))

theorem dwAll_0 (v135 v140 v145 v150 v157 v162 v167 v172 : FVec Ideal S128x128 .bf16) (t s : Fin 128) : dwAll v8 v21 v135 v140 v145 v150 v157 v162 v167 v172 (ix3 0 t s)
    = if s ≤ t then (∑ l : Fin 128, (if l.val < 64 then v21 (ix2 ⟨128 + t.val, by omega⟩ ⟨l.val, by omega⟩) * v8 (ix2 ⟨128 + t.val, by omega⟩ ⟨l.val, by omega⟩) else 0) * v157 (ix2 s l)) + ∑ l : Fin 128, (if l.val < 64 then v21 (ix2 ⟨t.val, by omega⟩ ⟨l.val, by omega⟩) * v8 (ix2 ⟨t.val, by omega⟩ ⟨l.val, by omega⟩) else 0) * v135 (ix2 s l) else 0 := by
  pointwise [dwAll, k0_pay112, k0_pay111, k0_pay110, k0_pay109, k0_pay107, k0_pay106, k0_pay102, k0_pay101, k0_pay96, k0_pay95, k0_pay91, k0_pay90, k0_pay80, k0_pay79, k0_pay75, k0_pay74, k0_pay69, k0_pay68, k0_pay63, k0_pay62, k0_pay83, k0_pay84, k0_pay85, k0_pay86, k0_pay53, k0_pay54, k0_pay55, k0_pay56, k0_pay57, k0_pay58, k0_pay51,
    k0_pay59, k0_pay60, k0_pay61, k0_pay65, k0_pay66, k0_pay67, k0_pay71, k0_pay72, k0_pay73, k0_pay76, k0_pay77, k0_pay78, k0_pay87, k0_pay88, k0_pay89, k0_pay92, k0_pay93, k0_pay94, k0_pay98, k0_pay99, k0_pay100, k0_pay103, k0_pay104, k0_pay105, first_at, causal_at, select_ite]
  try simp only [zero_add, add_zero]

theorem dwAll_1 (v135 v140 v145 v150 v157 v162 v167 v172 : FVec Ideal S128x128 .bf16) (t s : Fin 128) : dwAll v8 v21 v135 v140 v145 v150 v157 v162 v167 v172 (ix3 1 t s)
    = if s ≤ t then (∑ l : Fin 128, (if l.val < 64 then 0 else v21 (ix2 ⟨128 + t.val, by omega⟩ ⟨l.val, by omega⟩) * v8 (ix2 ⟨128 + t.val, by omega⟩ ⟨l.val, by omega⟩)) * v157 (ix2 s l)) + ∑ l : Fin 128, (if l.val < 64 then 0 else v21 (ix2 ⟨t.val, by omega⟩ ⟨l.val, by omega⟩) * v8 (ix2 ⟨t.val, by omega⟩ ⟨l.val, by omega⟩)) * v135 (ix2 s l) else 0 := by
  pointwise [dwAll, k0_pay112, k0_pay111, k0_pay110, k0_pay109, k0_pay107, k0_pay106, k0_pay102, k0_pay101, k0_pay96, k0_pay95, k0_pay91, k0_pay90, k0_pay80, k0_pay79, k0_pay75, k0_pay74, k0_pay69, k0_pay68, k0_pay63, k0_pay62, k0_pay83, k0_pay84, k0_pay85, k0_pay86, k0_pay53, k0_pay54, k0_pay55, k0_pay56, k0_pay57, k0_pay58, k0_pay51,
    k0_pay59, k0_pay60, k0_pay61, k0_pay65, k0_pay66, k0_pay67, k0_pay71, k0_pay72, k0_pay73, k0_pay76, k0_pay77, k0_pay78, k0_pay87, k0_pay88, k0_pay89, k0_pay92, k0_pay93, k0_pay94, k0_pay98, k0_pay99, k0_pay100, k0_pay103, k0_pay104, k0_pay105, first_at, causal_at, select_ite]
  try simp only [zero_add, add_zero]

theorem dwAll_2 (v135 v140 v145 v150 v157 v162 v167 v172 : FVec Ideal S128x128 .bf16) (t s : Fin 128) : dwAll v8 v21 v135 v140 v145 v150 v157 v162 v167 v172 (ix3 2 t s)
    = if s ≤ t then (∑ l : Fin 128, (if l.val < 64 then v21 (ix2 ⟨128 + t.val, by omega⟩ ⟨128 + l.val, by omega⟩) * v8 (ix2 ⟨128 + t.val, by omega⟩ ⟨128 + l.val, by omega⟩) else 0) * v162 (ix2 s l)) + ∑ l : Fin 128, (if l.val < 64 then v21 (ix2 ⟨t.val, by omega⟩ ⟨128 + l.val, by omega⟩) * v8 (ix2 ⟨t.val, by omega⟩ ⟨128 + l.val, by omega⟩) else 0) * v140 (ix2 s l) else 0 := by
  pointwise [dwAll, k0_pay112, k0_pay111, k0_pay110, k0_pay109, k0_pay107, k0_pay106, k0_pay102, k0_pay101, k0_pay96, k0_pay95, k0_pay91, k0_pay90, k0_pay80, k0_pay79, k0_pay75, k0_pay74, k0_pay69, k0_pay68, k0_pay63, k0_pay62, k0_pay83, k0_pay84, k0_pay85, k0_pay86, k0_pay53, k0_pay54, k0_pay55, k0_pay56, k0_pay57, k0_pay58, k0_pay51,
    k0_pay59, k0_pay60, k0_pay61, k0_pay65, k0_pay66, k0_pay67, k0_pay71, k0_pay72, k0_pay73, k0_pay76, k0_pay77, k0_pay78, k0_pay87, k0_pay88, k0_pay89, k0_pay92, k0_pay93, k0_pay94, k0_pay98, k0_pay99, k0_pay100, k0_pay103, k0_pay104, k0_pay105, first_at, causal_at, select_ite]
  try simp only [zero_add, add_zero]

theorem dwAll_3 (v135 v140 v145 v150 v157 v162 v167 v172 : FVec Ideal S128x128 .bf16) (t s : Fin 128) : dwAll v8 v21 v135 v140 v145 v150 v157 v162 v167 v172 (ix3 3 t s)
    = if s ≤ t then (∑ l : Fin 128, (if l.val < 64 then 0 else v21 (ix2 ⟨128 + t.val, by omega⟩ ⟨128 + l.val, by omega⟩) * v8 (ix2 ⟨128 + t.val, by omega⟩ ⟨128 + l.val, by omega⟩)) * v162 (ix2 s l)) + ∑ l : Fin 128, (if l.val < 64 then 0 else v21 (ix2 ⟨t.val, by omega⟩ ⟨128 + l.val, by omega⟩) * v8 (ix2 ⟨t.val, by omega⟩ ⟨128 + l.val, by omega⟩)) * v140 (ix2 s l) else 0 := by
  pointwise [dwAll, k0_pay112, k0_pay111, k0_pay110, k0_pay109, k0_pay107, k0_pay106, k0_pay102, k0_pay101, k0_pay96, k0_pay95, k0_pay91, k0_pay90, k0_pay80, k0_pay79, k0_pay75, k0_pay74, k0_pay69, k0_pay68, k0_pay63, k0_pay62, k0_pay83, k0_pay84, k0_pay85, k0_pay86, k0_pay53, k0_pay54, k0_pay55, k0_pay56, k0_pay57, k0_pay58, k0_pay51,
    k0_pay59, k0_pay60, k0_pay61, k0_pay65, k0_pay66, k0_pay67, k0_pay71, k0_pay72, k0_pay73, k0_pay76, k0_pay77, k0_pay78, k0_pay87, k0_pay88, k0_pay89, k0_pay92, k0_pay93, k0_pay94, k0_pay98, k0_pay99, k0_pay100, k0_pay103, k0_pay104, k0_pay105, first_at, causal_at, select_ite]
  try simp only [zero_add, add_zero]

theorem dwAll_4 (v135 v140 v145 v150 v157 v162 v167 v172 : FVec Ideal S128x128 .bf16) (t s : Fin 128) : dwAll v8 v21 v135 v140 v145 v150 v157 v162 v167 v172 (ix3 4 t s)
    = if s ≤ t then (∑ l : Fin 128, (if l.val < 64 then v21 (ix2 ⟨128 + t.val, by omega⟩ ⟨256 + l.val, by omega⟩) * v8 (ix2 ⟨128 + t.val, by omega⟩ ⟨256 + l.val, by omega⟩) else 0) * v167 (ix2 s l)) + ∑ l : Fin 128, (if l.val < 64 then v21 (ix2 ⟨t.val, by omega⟩ ⟨256 + l.val, by omega⟩) * v8 (ix2 ⟨t.val, by omega⟩ ⟨256 + l.val, by omega⟩) else 0) * v145 (ix2 s l) else 0 := by
  pointwise [dwAll, k0_pay112, k0_pay111, k0_pay110, k0_pay109, k0_pay107, k0_pay106, k0_pay102, k0_pay101, k0_pay96, k0_pay95, k0_pay91, k0_pay90, k0_pay80, k0_pay79, k0_pay75, k0_pay74, k0_pay69, k0_pay68, k0_pay63, k0_pay62, k0_pay83, k0_pay84, k0_pay85, k0_pay86, k0_pay53, k0_pay54, k0_pay55, k0_pay56, k0_pay57, k0_pay58, k0_pay51,
    k0_pay59, k0_pay60, k0_pay61, k0_pay65, k0_pay66, k0_pay67, k0_pay71, k0_pay72, k0_pay73, k0_pay76, k0_pay77, k0_pay78, k0_pay87, k0_pay88, k0_pay89, k0_pay92, k0_pay93, k0_pay94, k0_pay98, k0_pay99, k0_pay100, k0_pay103, k0_pay104, k0_pay105, first_at, causal_at, select_ite]
  try simp only [zero_add, add_zero]

theorem dwAll_5 (v135 v140 v145 v150 v157 v162 v167 v172 : FVec Ideal S128x128 .bf16) (t s : Fin 128) : dwAll v8 v21 v135 v140 v145 v150 v157 v162 v167 v172 (ix3 5 t s)
    = if s ≤ t then (∑ l : Fin 128, (if l.val < 64 then 0 else v21 (ix2 ⟨128 + t.val, by omega⟩ ⟨256 + l.val, by omega⟩) * v8 (ix2 ⟨128 + t.val, by omega⟩ ⟨256 + l.val, by omega⟩)) * v167 (ix2 s l)) + ∑ l : Fin 128, (if l.val < 64 then 0 else v21 (ix2 ⟨t.val, by omega⟩ ⟨256 + l.val, by omega⟩) * v8 (ix2 ⟨t.val, by omega⟩ ⟨256 + l.val, by omega⟩)) * v145 (ix2 s l) else 0 := by
  pointwise [dwAll, k0_pay112, k0_pay111, k0_pay110, k0_pay109, k0_pay107, k0_pay106, k0_pay102, k0_pay101, k0_pay96, k0_pay95, k0_pay91, k0_pay90, k0_pay80, k0_pay79, k0_pay75, k0_pay74, k0_pay69, k0_pay68, k0_pay63, k0_pay62, k0_pay83, k0_pay84, k0_pay85, k0_pay86, k0_pay53, k0_pay54, k0_pay55, k0_pay56, k0_pay57, k0_pay58, k0_pay51,
    k0_pay59, k0_pay60, k0_pay61, k0_pay65, k0_pay66, k0_pay67, k0_pay71, k0_pay72, k0_pay73, k0_pay76, k0_pay77, k0_pay78, k0_pay87, k0_pay88, k0_pay89, k0_pay92, k0_pay93, k0_pay94, k0_pay98, k0_pay99, k0_pay100, k0_pay103, k0_pay104, k0_pay105, first_at, causal_at, select_ite]
  try simp only [zero_add, add_zero]

theorem dwAll_6 (v135 v140 v145 v150 v157 v162 v167 v172 : FVec Ideal S128x128 .bf16) (t s : Fin 128) : dwAll v8 v21 v135 v140 v145 v150 v157 v162 v167 v172 (ix3 6 t s)
    = if s ≤ t then (∑ l : Fin 128, (if l.val < 64 then v21 (ix2 ⟨128 + t.val, by omega⟩ ⟨384 + l.val, by omega⟩) * v8 (ix2 ⟨128 + t.val, by omega⟩ ⟨384 + l.val, by omega⟩) else 0) * v172 (ix2 s l)) + ∑ l : Fin 128, (if l.val < 64 then v21 (ix2 ⟨t.val, by omega⟩ ⟨384 + l.val, by omega⟩) * v8 (ix2 ⟨t.val, by omega⟩ ⟨384 + l.val, by omega⟩) else 0) * v150 (ix2 s l) else 0 := by
  pointwise [dwAll, k0_pay112, k0_pay111, k0_pay110, k0_pay109, k0_pay107, k0_pay106, k0_pay102, k0_pay101, k0_pay96, k0_pay95, k0_pay91, k0_pay90, k0_pay80, k0_pay79, k0_pay75, k0_pay74, k0_pay69, k0_pay68, k0_pay63, k0_pay62, k0_pay83, k0_pay84, k0_pay85, k0_pay86, k0_pay53, k0_pay54, k0_pay55, k0_pay56, k0_pay57, k0_pay58, k0_pay51,
    k0_pay59, k0_pay60, k0_pay61, k0_pay65, k0_pay66, k0_pay67, k0_pay71, k0_pay72, k0_pay73, k0_pay76, k0_pay77, k0_pay78, k0_pay87, k0_pay88, k0_pay89, k0_pay92, k0_pay93, k0_pay94, k0_pay98, k0_pay99, k0_pay100, k0_pay103, k0_pay104, k0_pay105, first_at, causal_at, select_ite]
  try simp only [zero_add, add_zero]

theorem dwAll_7 (v135 v140 v145 v150 v157 v162 v167 v172 : FVec Ideal S128x128 .bf16) (t s : Fin 128) : dwAll v8 v21 v135 v140 v145 v150 v157 v162 v167 v172 (ix3 7 t s)
    = if s ≤ t then (∑ l : Fin 128, (if l.val < 64 then 0 else v21 (ix2 ⟨128 + t.val, by omega⟩ ⟨384 + l.val, by omega⟩) * v8 (ix2 ⟨128 + t.val, by omega⟩ ⟨384 + l.val, by omega⟩)) * v172 (ix2 s l)) + ∑ l : Fin 128, (if l.val < 64 then 0 else v21 (ix2 ⟨t.val, by omega⟩ ⟨384 + l.val, by omega⟩) * v8 (ix2 ⟨t.val, by omega⟩ ⟨384 + l.val, by omega⟩)) * v150 (ix2 s l) else 0 := by
  pointwise [dwAll, k0_pay112, k0_pay111, k0_pay110, k0_pay109, k0_pay107, k0_pay106, k0_pay102, k0_pay101, k0_pay96, k0_pay95, k0_pay91, k0_pay90, k0_pay80, k0_pay79, k0_pay75, k0_pay74, k0_pay69, k0_pay68, k0_pay63, k0_pay62, k0_pay83, k0_pay84, k0_pay85, k0_pay86, k0_pay53, k0_pay54, k0_pay55, k0_pay56, k0_pay57, k0_pay58, k0_pay51,
    k0_pay59, k0_pay60, k0_pay61, k0_pay65, k0_pay66, k0_pay67, k0_pay71, k0_pay72, k0_pay73, k0_pay76, k0_pay77, k0_pay78, k0_pay87, k0_pay88, k0_pay89, k0_pay92, k0_pay93, k0_pay94, k0_pay98, k0_pay99, k0_pay100, k0_pay103, k0_pay104, k0_pay105, first_at, causal_at, select_ite]
  try simp only [zero_add, add_zero]
end DV

theorem pay113_at (v270 : FVec Ideal S128x512 .f32) (t k : Fin 128) :
    k0_pay113 (k0_pay31 (iota .tc S128x512 32 [0] iota_S128x512_d0_w32) k0_pay27 k0_pay28 k0_pay29 k0_pay30) v270 (ix2 t k)
      = ∑ c : Fin 512, v270 (ix2 t c) * (if k.val = (grp c).val then 1 else 0) := by
  pointwise [k0_pay113]
  exact Finset.sum_congr rfl fun c _ => congrArg _ (spread_at k c)

end Cert.KernelIdeal.Out
end
-- ==== Proof.KPoint.lean ====
/-
  One grid point of the gating gradient's kernel: every block it stores or adds is a function of `Cert.Gating` at the
  point's two chunks of 128 positions.
-/
module

public import proofs.«01_k».proof.Proof.KMix

@[expose] public section

set_option maxRecDepth 16384

noncomputable section

namespace Cert.KernelIdeal.Out

open Cert.KernelIdeal Cert.KernelIdeal.Gen Idealize.ShloMosaic Cert.Gating

/-! ## Cases over positions, lanes and groups -/

theorem prow_zero (t : Fin 128) : prow 0 t = ⟨t.val, by omega⟩ := Fin.ext (by simp [prow])
theorem prow_one (t : Fin 128) : prow 1 t = ⟨128 + t.val, by omega⟩ := Fin.ext (by simp [prow])

theorem cols_ind (P : Fin 512 → Prop) (h0 : ∀ l : Fin 128, P ⟨l.val, by omega⟩) (h1 : ∀ l : Fin 128, P ⟨128 + l.val, by omega⟩)
    (h2 : ∀ l : Fin 128, P ⟨256 + l.val, by omega⟩) (h3 : ∀ l : Fin 128, P ⟨384 + l.val, by omega⟩) (c : Fin 512) : P c := by
  by_cases a : c.val < 128
  · exact h0 ⟨c.val, a⟩
  by_cases b : c.val < 256
  · have := h1 ⟨c.val - 128, by omega⟩
    rwa [show (⟨128 + (⟨c.val - 128, by omega⟩ : Fin 128).val, by omega⟩ : Fin 512) = c from Fin.ext (by simp; omega)] at this
  by_cases d : c.val < 384
  · have := h2 ⟨c.val - 256, by omega⟩
    rwa [show (⟨256 + (⟨c.val - 256, by omega⟩ : Fin 128).val, by omega⟩ : Fin 512) = c from Fin.ext (by simp; omega)] at this
  · have := h3 ⟨c.val - 384, by omega⟩
    rwa [show (⟨384 + (⟨c.val - 384, by omega⟩ : Fin 128).val, by omega⟩ : Fin 512) = c from Fin.ext (by simp; omega)] at this

theorem sum_first (f v : Fin 128 → EReal) :
    (∑ l : Fin 128, (if l.val < 64 then f l else 0) * v l) = ∑ l : Fin 64, f ⟨l.val, by omega⟩ * v ⟨l.val, by omega⟩ := by
  have := sum_mul_add (a := 2) (b := 64) (fun l : Fin 128 => (if l.val < 64 then f l else 0) * v l)
  refine this.trans ?_
  rw [Fin.sum_univ_two]
  simp only [Fin.val_zero, Fin.val_one, Nat.mul_zero, Nat.mul_one, Nat.zero_add, Fin.is_lt, if_true,
    show ∀ k, ¬ (64 + k < 64) from fun k => by omega, if_false, zero_mul, Finset.sum_const_zero, add_zero]
theorem sum_second (f v : Fin 128 → EReal) :
    (∑ l : Fin 128, (if l.val < 64 then 0 else f l) * v l) = ∑ l : Fin 64, f ⟨64 + l.val, by omega⟩ * v ⟨64 + l.val, by omega⟩ := by
  have := sum_mul_add (a := 2) (b := 64) (fun l : Fin 128 => (if l.val < 64 then 0 else f l) * v l)
  refine this.trans ?_
  rw [Fin.sum_univ_two]
  simp only [Fin.val_zero, Fin.val_one, Nat.mul_zero, Nat.mul_one, Nat.zero_add, Fin.is_lt, if_true,
    show ∀ k, ¬ (64 + k < 64) from fun k => by omega, if_false, zero_mul, Finset.sum_const_zero, zero_add]

theorem sum_rows (f : Fin 256 → EReal) : ∑ r, f r = (∑ t : Fin 128, f (prow 0 t)) + ∑ t : Fin 128, f (prow 1 t) := by
  have := sum_mul_add (a := 2) (b := 128) f
  refine this.trans ?_
  rw [Fin.sum_univ_two]
  rfl

/-! ## The blocks of a point -/

variable (x0 : Vec Ideal S256x1024 .f32) (x1 : Vec Ideal S1x512 .f32) (x2 : Vec Ideal S1x512 .f32) (x3 : Vec Ideal S8x128x128 .f32) (x4 : Vec Ideal S128x128 .f32) (x5 : Vec Ideal S256x512 .f32)

def cA (h : Fin 2) (t : Fin 128) (c : Fin 512) : EReal := bA x0 (prow h t) c
def cB (h : Fin 2) (t : Fin 128) (c : Fin 512) : EReal := bB x0 (prow h t) c
def cY (h : Fin 2) (t : Fin 128) (c : Fin 512) : EReal := x5 (ix2 (prow h t) c)
def rV (c : Fin 512) : EReal := x1 (ix2 0 c)
def wM (h : Fin 8) (t s : Fin 128) : EReal := x3 (ix3 h t s)
def bM (h : Fin 8) (t : Fin 128) : EReal := x4 (ix2 t ⟨h.val, by omega⟩)

theorem V36_at (r : Fin 256) : V36 x0 x1 x2 x3 x4 x5 (ix2 r 0) = ∑ c, rowOf (V34 x0 x1 x2 x3 x4 x5) r c := pay18_at x0 r
theorem V2_row : rowOf (V2 x0 x1 x2 x3 x4 x5) 0 = rV x1 := by
  funext c; unfold rowOf rV; pointwise [V2, k0_pay3]
theorem V4_row : rowOf (V4 x0 x1 x2 x3 x4 x5) 0 = rV x2 := by
  funext c; unfold rowOf rV; pointwise [V4, k0_pay4]
theorem V34_row (h : Fin 2) (t : Fin 128) : rowOf (V34 x0 x1 x2 x3 x4 x5) (prow h t) = act (cB x0 h) t := by
  funext c; exact V34_at x0 x1 x2 x3 x4 x5 (prow h t) c

theorem V57_at (h : Fin 2) (t : Fin 128) (c : Fin 512) :
    V57 x0 x1 x2 x3 x4 x5 (ix2 (prow h t) c) = vv (cB x0 h) (rV x1) (rV x2) t c := by
  unfold V57
  rw [pay24_at _ _ (V36_at x0 x1 x2 x3 x4 x5), V34_row, V2_row, V4_row]; rfl
theorem V53_at (h : Fin 2) (t : Fin 128) (c : Fin 512) :
    V53 x0 x1 x2 x3 x4 x5 (ix2 (prow h t) c) = xh (act (cB x0 h) t) c := by
  unfold V53
  rw [pay23_at _ _ (V36_at x0 x1 x2 x3 x4 x5), V34_row]
theorem V93_at (t : Fin 128) (c : Fin 512) : V93 x0 x1 x2 x3 x4 x5 (ix2 t c) = bM x4 (grp c) t := by
  unfold V93
  rw [pay32_at]; unfold bM; pointwise [V7, k0_pay5]
theorem V98_at (t s : Fin 128) : V98 x0 x1 x2 x3 x4 x5 (ix2 t s) = cw (wM x3) 0 t s := pay33_at x3 t s
theorem V103_at (t s : Fin 128) : V103 x0 x1 x2 x3 x4 x5 (ix2 t s) = cw (wM x3) 1 t s := pay34_at x3 t s
theorem V108_at (t s : Fin 128) : V108 x0 x1 x2 x3 x4 x5 (ix2 t s) = cw (wM x3) 2 t s := pay35_at x3 t s
theorem V113_at (t s : Fin 128) : V113 x0 x1 x2 x3 x4 x5 (ix2 t s) = cw (wM x3) 3 t s := pay36_at x3 t s
theorem V118_at (t s : Fin 128) : V118 x0 x1 x2 x3 x4 x5 (ix2 t s) = cw (wM x3) 4 t s := pay37_at x3 t s
theorem V123_at (t s : Fin 128) : V123 x0 x1 x2 x3 x4 x5 (ix2 t s) = cw (wM x3) 5 t s := pay38_at x3 t s
theorem V128_at (t s : Fin 128) : V128 x0 x1 x2 x3 x4 x5 (ix2 t s) = cw (wM x3) 6 t s := pay39_at x3 t s
theorem V133_at (t s : Fin 128) : V133 x0 x1 x2 x3 x4 x5 (ix2 t s) = cw (wM x3) 7 t s := pay40_at x3 t s
theorem V135_at (s l : Fin 128) : V135 x0 x1 x2 x3 x4 x5 (ix2 s l) = vv (cB x0 0) (rV x1) (rV x2) s ⟨l.val, by omega⟩ := by
  rw [← V57_at x0 x1 x2 x3 x4 x5, prow_zero]
  pointwise [V135, V134, k0_pay41, k0_pay42, k0_pay43, k0_pay44, k0_pay45, k0_pay46, k0_pay47, k0_pay48, k0_pay49]
theorem V140_at (s l : Fin 128) : V140 x0 x1 x2 x3 x4 x5 (ix2 s l) = vv (cB x0 0) (rV x1) (rV x2) s ⟨128 + l.val, by omega⟩ := by
  rw [← V57_at x0 x1 x2 x3 x4 x5, prow_zero]
  pointwise [V140, V134, k0_pay41, k0_pay42, k0_pay43, k0_pay44, k0_pay45, k0_pay46, k0_pay47, k0_pay48, k0_pay49]
theorem V145_at (s l : Fin 128) : V145 x0 x1 x2 x3 x4 x5 (ix2 s l) = vv (cB x0 0) (rV x1) (rV x2) s ⟨256 + l.val, by omega⟩ := by
  rw [← V57_at x0 x1 x2 x3 x4 x5, prow_zero]
  pointwise [V145, V134, k0_pay41, k0_pay42, k0_pay43, k0_pay44, k0_pay45, k0_pay46, k0_pay47, k0_pay48, k0_pay49]
theorem V150_at (s l : Fin 128) : V150 x0 x1 x2 x3 x4 x5 (ix2 s l) = vv (cB x0 0) (rV x1) (rV x2) s ⟨384 + l.val, by omega⟩ := by
  rw [← V57_at x0 x1 x2 x3 x4 x5, prow_zero]
  pointwise [V150, V134, k0_pay41, k0_pay42, k0_pay43, k0_pay44, k0_pay45, k0_pay46, k0_pay47, k0_pay48, k0_pay49]
theorem V157_at (s l : Fin 128) : V157 x0 x1 x2 x3 x4 x5 (ix2 s l) = vv (cB x0 1) (rV x1) (rV x2) s ⟨l.val, by omega⟩ := by
  rw [← V57_at x0 x1 x2 x3 x4 x5, prow_one]
  pointwise [V157, V134, k0_pay41, k0_pay42, k0_pay43, k0_pay44, k0_pay45, k0_pay46, k0_pay47, k0_pay48, k0_pay49]
theorem V162_at (s l : Fin 128) : V162 x0 x1 x2 x3 x4 x5 (ix2 s l) = vv (cB x0 1) (rV x1) (rV x2) s ⟨128 + l.val, by omega⟩ := by
  rw [← V57_at x0 x1 x2 x3 x4 x5, prow_one]
  pointwise [V162, V134, k0_pay41, k0_pay42, k0_pay43, k0_pay44, k0_pay45, k0_pay46, k0_pay47, k0_pay48, k0_pay49]
theorem V167_at (s l : Fin 128) : V167 x0 x1 x2 x3 x4 x5 (ix2 s l) = vv (cB x0 1) (rV x1) (rV x2) s ⟨256 + l.val, by omega⟩ := by
  rw [← V57_at x0 x1 x2 x3 x4 x5, prow_one]
  pointwise [V167, V134, k0_pay41, k0_pay42, k0_pay43, k0_pay44, k0_pay45, k0_pay46, k0_pay47, k0_pay48, k0_pay49]
theorem V172_at (s l : Fin 128) : V172 x0 x1 x2 x3 x4 x5 (ix2 s l) = vv (cB x0 1) (rV x1) (rV x2) s ⟨384 + l.val, by omega⟩ := by
  rw [← V57_at x0 x1 x2 x3 x4 x5, prow_one]
  pointwise [V172, V134, k0_pay41, k0_pay42, k0_pay43, k0_pay44, k0_pay45, k0_pay46, k0_pay47, k0_pay48, k0_pay49]

/-! ## Groups of a pair -/

theorem grp_lo0 (l : Fin 128) (hl : l.val < 64) : grp ⟨l.val, by omega⟩ = 0 := Fin.ext (by show (l.val) / 64 = 0; omega)
theorem grp_hi0 (l : Fin 128) (hl : ¬ l.val < 64) : grp ⟨l.val, by omega⟩ = 1 := Fin.ext (by show (l.val) / 64 = 1; omega)

theorem grp_lo1 (l : Fin 128) (hl : l.val < 64) : grp ⟨128 + l.val, by omega⟩ = 2 := Fin.ext (by show (128 + l.val) / 64 = 2; omega)
theorem grp_hi1 (l : Fin 128) (hl : ¬ l.val < 64) : grp ⟨128 + l.val, by omega⟩ = 3 := Fin.ext (by show (128 + l.val) / 64 = 3; omega)

theorem grp_lo2 (l : Fin 128) (hl : l.val < 64) : grp ⟨256 + l.val, by omega⟩ = 4 := Fin.ext (by show (256 + l.val) / 64 = 4; omega)
theorem grp_hi2 (l : Fin 128) (hl : ¬ l.val < 64) : grp ⟨256 + l.val, by omega⟩ = 5 := Fin.ext (by show (256 + l.val) / 64 = 5; omega)

theorem grp_lo3 (l : Fin 128) (hl : l.val < 64) : grp ⟨384 + l.val, by omega⟩ = 6 := Fin.ext (by show (384 + l.val) / 64 = 6; omega)
theorem grp_hi3 (l : Fin 128) (hl : ¬ l.val < 64) : grp ⟨384 + l.val, by omega⟩ = 7 := Fin.ext (by show (384 + l.val) / 64 = 7; omega)

/-! ## The values of the point -/

theorem V178_at0 (t : Fin 128) (c : Fin 512) : V178 x0 x1 x2 x3 x4 x5 (ix2 (prow 0 t) c) = mix (cB x0 0) (rV x1) (rV x2) (wM x3) (bM x4) t c := by
  revert c
  have e : ∀ s c, V57 x0 x1 x2 x3 x4 x5 (ix2 (prow 0 s) c) = vv (cB x0 0) (rV x1) (rV x2) s c := V57_at x0 x1 x2 x3 x4 x5 0
  simp only [prow_zero] at e ⊢
  refine cols_ind _ (fun l => ?_) (fun l => ?_) (fun l => ?_) (fun l => ?_)
  · refine (pay50_00 (V57 x0 x1 x2 x3 x4 x5) (V93 x0 x1 x2 x3 x4 x5) (V98 x0 x1 x2 x3 x4 x5) (V103 x0 x1 x2 x3 x4 x5) (V108 x0 x1 x2 x3 x4 x5) (V113 x0 x1 x2 x3 x4 x5) (V118 x0 x1 x2 x3 x4 x5) (V123 x0 x1 x2 x3 x4 x5) (V128 x0 x1 x2 x3 x4 x5) (V133 x0 x1 x2 x3 x4 x5) t l).trans ?_
    unfold mix
    by_cases hl : l.val < 64
    · rw [if_pos hl, V93_at, grp_lo0 l hl]
      exact congrArg (· + _) (Finset.sum_congr rfl fun s _ => by rw [e, V98_at])
    · rw [if_neg hl, V93_at, grp_hi0 l hl]
      exact congrArg (· + _) (Finset.sum_congr rfl fun s _ => by rw [e, V103_at])
  · refine (pay50_01 (V57 x0 x1 x2 x3 x4 x5) (V93 x0 x1 x2 x3 x4 x5) (V98 x0 x1 x2 x3 x4 x5) (V103 x0 x1 x2 x3 x4 x5) (V108 x0 x1 x2 x3 x4 x5) (V113 x0 x1 x2 x3 x4 x5) (V118 x0 x1 x2 x3 x4 x5) (V123 x0 x1 x2 x3 x4 x5) (V128 x0 x1 x2 x3 x4 x5) (V133 x0 x1 x2 x3 x4 x5) t l).trans ?_
    unfold mix
    by_cases hl : l.val < 64
    · rw [if_pos hl, V93_at, grp_lo1 l hl]
      exact congrArg (· + _) (Finset.sum_congr rfl fun s _ => by rw [e, V108_at])
    · rw [if_neg hl, V93_at, grp_hi1 l hl]
      exact congrArg (· + _) (Finset.sum_congr rfl fun s _ => by rw [e, V113_at])
  · refine (pay50_02 (V57 x0 x1 x2 x3 x4 x5) (V93 x0 x1 x2 x3 x4 x5) (V98 x0 x1 x2 x3 x4 x5) (V103 x0 x1 x2 x3 x4 x5) (V108 x0 x1 x2 x3 x4 x5) (V113 x0 x1 x2 x3 x4 x5) (V118 x0 x1 x2 x3 x4 x5) (V123 x0 x1 x2 x3 x4 x5) (V128 x0 x1 x2 x3 x4 x5) (V133 x0 x1 x2 x3 x4 x5) t l).trans ?_
    unfold mix
    by_cases hl : l.val < 64
    · rw [if_pos hl, V93_at, grp_lo2 l hl]
      exact congrArg (· + _) (Finset.sum_congr rfl fun s _ => by rw [e, V118_at])
    · rw [if_neg hl, V93_at, grp_hi2 l hl]
      exact congrArg (· + _) (Finset.sum_congr rfl fun s _ => by rw [e, V123_at])
  · refine (pay50_03 (V57 x0 x1 x2 x3 x4 x5) (V93 x0 x1 x2 x3 x4 x5) (V98 x0 x1 x2 x3 x4 x5) (V103 x0 x1 x2 x3 x4 x5) (V108 x0 x1 x2 x3 x4 x5) (V113 x0 x1 x2 x3 x4 x5) (V118 x0 x1 x2 x3 x4 x5) (V123 x0 x1 x2 x3 x4 x5) (V128 x0 x1 x2 x3 x4 x5) (V133 x0 x1 x2 x3 x4 x5) t l).trans ?_
    unfold mix
    by_cases hl : l.val < 64
    · rw [if_pos hl, V93_at, grp_lo3 l hl]
      exact congrArg (· + _) (Finset.sum_congr rfl fun s _ => by rw [e, V128_at])
    · rw [if_neg hl, V93_at, grp_hi3 l hl]
      exact congrArg (· + _) (Finset.sum_congr rfl fun s _ => by rw [e, V133_at])

theorem V178_at1 (t : Fin 128) (c : Fin 512) : V178 x0 x1 x2 x3 x4 x5 (ix2 (prow 1 t) c) = mix (cB x0 1) (rV x1) (rV x2) (wM x3) (bM x4) t c := by
  revert c
  have e : ∀ s c, V57 x0 x1 x2 x3 x4 x5 (ix2 (prow 1 s) c) = vv (cB x0 1) (rV x1) (rV x2) s c := V57_at x0 x1 x2 x3 x4 x5 1
  simp only [prow_one] at e ⊢
  refine cols_ind _ (fun l => ?_) (fun l => ?_) (fun l => ?_) (fun l => ?_)
  · refine (pay50_10 (V57 x0 x1 x2 x3 x4 x5) (V93 x0 x1 x2 x3 x4 x5) (V98 x0 x1 x2 x3 x4 x5) (V103 x0 x1 x2 x3 x4 x5) (V108 x0 x1 x2 x3 x4 x5) (V113 x0 x1 x2 x3 x4 x5) (V118 x0 x1 x2 x3 x4 x5) (V123 x0 x1 x2 x3 x4 x5) (V128 x0 x1 x2 x3 x4 x5) (V133 x0 x1 x2 x3 x4 x5) t l).trans ?_
    unfold mix
    by_cases hl : l.val < 64
    · rw [if_pos hl, V93_at, grp_lo0 l hl]
      exact congrArg (· + _) (Finset.sum_congr rfl fun s _ => by rw [e, V98_at])
    · rw [if_neg hl, V93_at, grp_hi0 l hl]
      exact congrArg (· + _) (Finset.sum_congr rfl fun s _ => by rw [e, V103_at])
  · refine (pay50_11 (V57 x0 x1 x2 x3 x4 x5) (V93 x0 x1 x2 x3 x4 x5) (V98 x0 x1 x2 x3 x4 x5) (V103 x0 x1 x2 x3 x4 x5) (V108 x0 x1 x2 x3 x4 x5) (V113 x0 x1 x2 x3 x4 x5) (V118 x0 x1 x2 x3 x4 x5) (V123 x0 x1 x2 x3 x4 x5) (V128 x0 x1 x2 x3 x4 x5) (V133 x0 x1 x2 x3 x4 x5) t l).trans ?_
    unfold mix
    by_cases hl : l.val < 64
    · rw [if_pos hl, V93_at, grp_lo1 l hl]
      exact congrArg (· + _) (Finset.sum_congr rfl fun s _ => by rw [e, V108_at])
    · rw [if_neg hl, V93_at, grp_hi1 l hl]
      exact congrArg (· + _) (Finset.sum_congr rfl fun s _ => by rw [e, V113_at])
  · refine (pay50_12 (V57 x0 x1 x2 x3 x4 x5) (V93 x0 x1 x2 x3 x4 x5) (V98 x0 x1 x2 x3 x4 x5) (V103 x0 x1 x2 x3 x4 x5) (V108 x0 x1 x2 x3 x4 x5) (V113 x0 x1 x2 x3 x4 x5) (V118 x0 x1 x2 x3 x4 x5) (V123 x0 x1 x2 x3 x4 x5) (V128 x0 x1 x2 x3 x4 x5) (V133 x0 x1 x2 x3 x4 x5) t l).trans ?_
    unfold mix
    by_cases hl : l.val < 64
    · rw [if_pos hl, V93_at, grp_lo2 l hl]
      exact congrArg (· + _) (Finset.sum_congr rfl fun s _ => by rw [e, V118_at])
    · rw [if_neg hl, V93_at, grp_hi2 l hl]
      exact congrArg (· + _) (Finset.sum_congr rfl fun s _ => by rw [e, V123_at])
  · refine (pay50_13 (V57 x0 x1 x2 x3 x4 x5) (V93 x0 x1 x2 x3 x4 x5) (V98 x0 x1 x2 x3 x4 x5) (V103 x0 x1 x2 x3 x4 x5) (V108 x0 x1 x2 x3 x4 x5) (V113 x0 x1 x2 x3 x4 x5) (V118 x0 x1 x2 x3 x4 x5) (V123 x0 x1 x2 x3 x4 x5) (V128 x0 x1 x2 x3 x4 x5) (V133 x0 x1 x2 x3 x4 x5) t l).trans ?_
    unfold mix
    by_cases hl : l.val < 64
    · rw [if_pos hl, V93_at, grp_lo3 l hl]
      exact congrArg (· + _) (Finset.sum_congr rfl fun s _ => by rw [e, V128_at])
    · rw [if_neg hl, V93_at, grp_hi3 l hl]
      exact congrArg (· + _) (Finset.sum_congr rfl fun s _ => by rw [e, V133_at])

theorem V21_dm0 (t : Fin 128) (c : Fin 512) : V21 x0 x1 x2 x3 x4 x5 (ix2 (prow 0 t) c) * x5 (ix2 (prow 0 t) c) = dm (cA x0 0) (cY x5 0) t c := by
  rw [V21_at]; rfl
theorem V366_at0 (s : Fin 128) (c : Fin 512) : V366 x0 x1 x2 x3 x4 x5 (ix2 (prow 0 s) c) = dv (cA x0 0) (cY x5 0) (wM x3) s c := by
  revert c
  have e := V21_dm0 x0 x1 x2 x3 x4 x5
  simp only [prow_zero] at e ⊢
  refine cols_ind _ (fun l => ?_) (fun l => ?_) (fun l => ?_) (fun l => ?_)
  · refine (dvAll_00 x5 (V21 x0 x1 x2 x3 x4 x5) (V98 x0 x1 x2 x3 x4 x5) (V103 x0 x1 x2 x3 x4 x5) (V108 x0 x1 x2 x3 x4 x5) (V113 x0 x1 x2 x3 x4 x5) (V118 x0 x1 x2 x3 x4 x5) (V123 x0 x1 x2 x3 x4 x5) (V128 x0 x1 x2 x3 x4 x5) (V133 x0 x1 x2 x3 x4 x5) s l).trans ?_
    unfold dv
    by_cases hl : l.val < 64
    · simp only [if_pos hl, zero_mul, Finset.sum_const_zero, zero_add]
      rw [grp_lo0 l hl]
      exact Finset.sum_congr rfl fun t _ => by rw [e, V98_at]
    · simp only [if_neg hl, zero_mul, Finset.sum_const_zero, add_zero]
      rw [grp_hi0 l hl]
      exact Finset.sum_congr rfl fun t _ => by rw [e, V103_at]
  · refine (dvAll_01 x5 (V21 x0 x1 x2 x3 x4 x5) (V98 x0 x1 x2 x3 x4 x5) (V103 x0 x1 x2 x3 x4 x5) (V108 x0 x1 x2 x3 x4 x5) (V113 x0 x1 x2 x3 x4 x5) (V118 x0 x1 x2 x3 x4 x5) (V123 x0 x1 x2 x3 x4 x5) (V128 x0 x1 x2 x3 x4 x5) (V133 x0 x1 x2 x3 x4 x5) s l).trans ?_
    unfold dv
    by_cases hl : l.val < 64
    · simp only [if_pos hl, zero_mul, Finset.sum_const_zero, zero_add]
      rw [grp_lo1 l hl]
      exact Finset.sum_congr rfl fun t _ => by rw [e, V108_at]
    · simp only [if_neg hl, zero_mul, Finset.sum_const_zero, add_zero]
      rw [grp_hi1 l hl]
      exact Finset.sum_congr rfl fun t _ => by rw [e, V113_at]
  · refine (dvAll_02 x5 (V21 x0 x1 x2 x3 x4 x5) (V98 x0 x1 x2 x3 x4 x5) (V103 x0 x1 x2 x3 x4 x5) (V108 x0 x1 x2 x3 x4 x5) (V113 x0 x1 x2 x3 x4 x5) (V118 x0 x1 x2 x3 x4 x5) (V123 x0 x1 x2 x3 x4 x5) (V128 x0 x1 x2 x3 x4 x5) (V133 x0 x1 x2 x3 x4 x5) s l).trans ?_
    unfold dv
    by_cases hl : l.val < 64
    · simp only [if_pos hl, zero_mul, Finset.sum_const_zero, zero_add]
      rw [grp_lo2 l hl]
      exact Finset.sum_congr rfl fun t _ => by rw [e, V118_at]
    · simp only [if_neg hl, zero_mul, Finset.sum_const_zero, add_zero]
      rw [grp_hi2 l hl]
      exact Finset.sum_congr rfl fun t _ => by rw [e, V123_at]
  · refine (dvAll_03 x5 (V21 x0 x1 x2 x3 x4 x5) (V98 x0 x1 x2 x3 x4 x5) (V103 x0 x1 x2 x3 x4 x5) (V108 x0 x1 x2 x3 x4 x5) (V113 x0 x1 x2 x3 x4 x5) (V118 x0 x1 x2 x3 x4 x5) (V123 x0 x1 x2 x3 x4 x5) (V128 x0 x1 x2 x3 x4 x5) (V133 x0 x1 x2 x3 x4 x5) s l).trans ?_
    unfold dv
    by_cases hl : l.val < 64
    · simp only [if_pos hl, zero_mul, Finset.sum_const_zero, zero_add]
      rw [grp_lo3 l hl]
      exact Finset.sum_congr rfl fun t _ => by rw [e, V128_at]
    · simp only [if_neg hl, zero_mul, Finset.sum_const_zero, add_zero]
      rw [grp_hi3 l hl]
      exact Finset.sum_congr rfl fun t _ => by rw [e, V133_at]

theorem V21_dm1 (t : Fin 128) (c : Fin 512) : V21 x0 x1 x2 x3 x4 x5 (ix2 (prow 1 t) c) * x5 (ix2 (prow 1 t) c) = dm (cA x0 1) (cY x5 1) t c := by
  rw [V21_at]; rfl
theorem V366_at1 (s : Fin 128) (c : Fin 512) : V366 x0 x1 x2 x3 x4 x5 (ix2 (prow 1 s) c) = dv (cA x0 1) (cY x5 1) (wM x3) s c := by
  revert c
  have e := V21_dm1 x0 x1 x2 x3 x4 x5
  simp only [prow_one] at e ⊢
  refine cols_ind _ (fun l => ?_) (fun l => ?_) (fun l => ?_) (fun l => ?_)
  · refine (dvAll_10 x5 (V21 x0 x1 x2 x3 x4 x5) (V98 x0 x1 x2 x3 x4 x5) (V103 x0 x1 x2 x3 x4 x5) (V108 x0 x1 x2 x3 x4 x5) (V113 x0 x1 x2 x3 x4 x5) (V118 x0 x1 x2 x3 x4 x5) (V123 x0 x1 x2 x3 x4 x5) (V128 x0 x1 x2 x3 x4 x5) (V133 x0 x1 x2 x3 x4 x5) s l).trans ?_
    unfold dv
    by_cases hl : l.val < 64
    · simp only [if_pos hl, zero_mul, Finset.sum_const_zero, zero_add]
      rw [grp_lo0 l hl]
      exact Finset.sum_congr rfl fun t _ => by rw [e, V98_at]
    · simp only [if_neg hl, zero_mul, Finset.sum_const_zero, add_zero]
      rw [grp_hi0 l hl]
      exact Finset.sum_congr rfl fun t _ => by rw [e, V103_at]
  · refine (dvAll_11 x5 (V21 x0 x1 x2 x3 x4 x5) (V98 x0 x1 x2 x3 x4 x5) (V103 x0 x1 x2 x3 x4 x5) (V108 x0 x1 x2 x3 x4 x5) (V113 x0 x1 x2 x3 x4 x5) (V118 x0 x1 x2 x3 x4 x5) (V123 x0 x1 x2 x3 x4 x5) (V128 x0 x1 x2 x3 x4 x5) (V133 x0 x1 x2 x3 x4 x5) s l).trans ?_
    unfold dv
    by_cases hl : l.val < 64
    · simp only [if_pos hl, zero_mul, Finset.sum_const_zero, zero_add]
      rw [grp_lo1 l hl]
      exact Finset.sum_congr rfl fun t _ => by rw [e, V108_at]
    · simp only [if_neg hl, zero_mul, Finset.sum_const_zero, add_zero]
      rw [grp_hi1 l hl]
      exact Finset.sum_congr rfl fun t _ => by rw [e, V113_at]
  · refine (dvAll_12 x5 (V21 x0 x1 x2 x3 x4 x5) (V98 x0 x1 x2 x3 x4 x5) (V103 x0 x1 x2 x3 x4 x5) (V108 x0 x1 x2 x3 x4 x5) (V113 x0 x1 x2 x3 x4 x5) (V118 x0 x1 x2 x3 x4 x5) (V123 x0 x1 x2 x3 x4 x5) (V128 x0 x1 x2 x3 x4 x5) (V133 x0 x1 x2 x3 x4 x5) s l).trans ?_
    unfold dv
    by_cases hl : l.val < 64
    · simp only [if_pos hl, zero_mul, Finset.sum_const_zero, zero_add]
      rw [grp_lo2 l hl]
      exact Finset.sum_congr rfl fun t _ => by rw [e, V118_at]
    · simp only [if_neg hl, zero_mul, Finset.sum_const_zero, add_zero]
      rw [grp_hi2 l hl]
      exact Finset.sum_congr rfl fun t _ => by rw [e, V123_at]
  · refine (dvAll_13 x5 (V21 x0 x1 x2 x3 x4 x5) (V98 x0 x1 x2 x3 x4 x5) (V103 x0 x1 x2 x3 x4 x5) (V108 x0 x1 x2 x3 x4 x5) (V113 x0 x1 x2 x3 x4 x5) (V118 x0 x1 x2 x3 x4 x5) (V123 x0 x1 x2 x3 x4 x5) (V128 x0 x1 x2 x3 x4 x5) (V133 x0 x1 x2 x3 x4 x5) s l).trans ?_
    unfold dv
    by_cases hl : l.val < 64
    · simp only [if_pos hl, zero_mul, Finset.sum_const_zero, zero_add]
      rw [grp_lo3 l hl]
      exact Finset.sum_congr rfl fun t _ => by rw [e, V128_at]
    · simp only [if_neg hl, zero_mul, Finset.sum_const_zero, add_zero]
      rw [grp_hi3 l hl]
      exact Finset.sum_congr rfl fun t _ => by rw [e, V133_at]

theorem V433_at (g : Fin 8) (t s : Fin 128) : V433 x0 x1 x2 x3 x4 x5 (ix3 g t s)
    = gW (cA x0 1) (cB x0 1) (cY x5 1) (rV x1) (rV x2) g t s + gW (cA x0 0) (cB x0 0) (cY x5 0) (rV x1) (rV x2) g t s := by
  have e0 := V21_dm0 x0 x1 x2 x3 x4 x5
  have e1 := V21_dm1 x0 x1 x2 x3 x4 x5
  simp only [prow_zero] at e0
  simp only [prow_one] at e1
  have hz : ∀ (a b : EReal), (if s ≤ t then a + b else 0) = (if s ≤ t then a else 0) + (if s ≤ t then b else 0) := by
    intro a b; split <;> simp
  unfold gW
  rw [← hz]
  fin_cases g
  · refine (dwAll_0 x5 (V21 x0 x1 x2 x3 x4 x5) (V135 x0 x1 x2 x3 x4 x5) (V140 x0 x1 x2 x3 x4 x5) (V145 x0 x1 x2 x3 x4 x5) (V150 x0 x1 x2 x3 x4 x5) (V157 x0 x1 x2 x3 x4 x5) (V162 x0 x1 x2 x3 x4 x5) (V167 x0 x1 x2 x3 x4 x5) (V172 x0 x1 x2 x3 x4 x5) t s).trans ?_
    simp only [e0, e1, V135_at, V157_at]
    rw [sum_first (fun l => dm (cA x0 1) (cY x5 1) t ⟨l.val, by omega⟩) (fun l => vv (cB x0 1) (rV x1) (rV x2) s ⟨l.val, by omega⟩),
      sum_first (fun l => dm (cA x0 0) (cY x5 0) t ⟨l.val, by omega⟩) (fun l => vv (cB x0 0) (rV x1) (rV x2) s ⟨l.val, by omega⟩)]
    have hc : ∀ l : Fin 64, (⟨(l.val), by omega⟩ : Fin 512) = col 0 l := fun l => Fin.ext (by
      first | (show _ = 64 * 0 + l.val; simp; done) | (show _ = 64 * 0 + l.val; simp; omega))
    simp only [hc]
    rfl
  · refine (dwAll_1 x5 (V21 x0 x1 x2 x3 x4 x5) (V135 x0 x1 x2 x3 x4 x5) (V140 x0 x1 x2 x3 x4 x5) (V145 x0 x1 x2 x3 x4 x5) (V150 x0 x1 x2 x3 x4 x5) (V157 x0 x1 x2 x3 x4 x5) (V162 x0 x1 x2 x3 x4 x5) (V167 x0 x1 x2 x3 x4 x5) (V172 x0 x1 x2 x3 x4 x5) t s).trans ?_
    simp only [e0, e1, V135_at, V157_at]
    rw [sum_second (fun l => dm (cA x0 1) (cY x5 1) t ⟨l.val, by omega⟩) (fun l => vv (cB x0 1) (rV x1) (rV x2) s ⟨l.val, by omega⟩),
      sum_second (fun l => dm (cA x0 0) (cY x5 0) t ⟨l.val, by omega⟩) (fun l => vv (cB x0 0) (rV x1) (rV x2) s ⟨l.val, by omega⟩)]
    have hc : ∀ l : Fin 64, (⟨(64 + l.val), by omega⟩ : Fin 512) = col 1 l := fun l => Fin.ext (by
      first | (show _ = 64 * 1 + l.val; simp; done) | (show _ = 64 * 1 + l.val; simp; omega))
    simp only [hc]
    rfl
  · refine (dwAll_2 x5 (V21 x0 x1 x2 x3 x4 x5) (V135 x0 x1 x2 x3 x4 x5) (V140 x0 x1 x2 x3 x4 x5) (V145 x0 x1 x2 x3 x4 x5) (V150 x0 x1 x2 x3 x4 x5) (V157 x0 x1 x2 x3 x4 x5) (V162 x0 x1 x2 x3 x4 x5) (V167 x0 x1 x2 x3 x4 x5) (V172 x0 x1 x2 x3 x4 x5) t s).trans ?_
    simp only [e0, e1, V140_at, V162_at]
    rw [sum_first (fun l => dm (cA x0 1) (cY x5 1) t ⟨128 + l.val, by omega⟩) (fun l => vv (cB x0 1) (rV x1) (rV x2) s ⟨128 + l.val, by omega⟩),
      sum_first (fun l => dm (cA x0 0) (cY x5 0) t ⟨128 + l.val, by omega⟩) (fun l => vv (cB x0 0) (rV x1) (rV x2) s ⟨128 + l.val, by omega⟩)]
    have hc : ∀ l : Fin 64, (⟨128 + (l.val), by omega⟩ : Fin 512) = col 2 l := fun l => Fin.ext (by
      first | (show _ = 64 * 2 + l.val; simp; done) | (show _ = 64 * 2 + l.val; simp; omega))
    simp only [hc]
    rfl
  · refine (dwAll_3 x5 (V21 x0 x1 x2 x3 x4 x5) (V135 x0 x1 x2 x3 x4 x5) (V140 x0 x1 x2 x3 x4 x5) (V145 x0 x1 x2 x3 x4 x5) (V150 x0 x1 x2 x3 x4 x5) (V157 x0 x1 x2 x3 x4 x5) (V162 x0 x1 x2 x3 x4 x5) (V167 x0 x1 x2 x3 x4 x5) (V172 x0 x1 x2 x3 x4 x5) t s).trans ?_
    simp only [e0, e1, V140_at, V162_at]
    rw [sum_second (fun l => dm (cA x0 1) (cY x5 1) t ⟨128 + l.val, by omega⟩) (fun l => vv (cB x0 1) (rV x1) (rV x2) s ⟨128 + l.val, by omega⟩),
      sum_second (fun l => dm (cA x0 0) (cY x5 0) t ⟨128 + l.val, by omega⟩) (fun l => vv (cB x0 0) (rV x1) (rV x2) s ⟨128 + l.val, by omega⟩)]
    have hc : ∀ l : Fin 64, (⟨128 + (64 + l.val), by omega⟩ : Fin 512) = col 3 l := fun l => Fin.ext (by
      first | (show _ = 64 * 3 + l.val; simp; done) | (show _ = 64 * 3 + l.val; simp; omega))
    simp only [hc]
    rfl
  · refine (dwAll_4 x5 (V21 x0 x1 x2 x3 x4 x5) (V135 x0 x1 x2 x3 x4 x5) (V140 x0 x1 x2 x3 x4 x5) (V145 x0 x1 x2 x3 x4 x5) (V150 x0 x1 x2 x3 x4 x5) (V157 x0 x1 x2 x3 x4 x5) (V162 x0 x1 x2 x3 x4 x5) (V167 x0 x1 x2 x3 x4 x5) (V172 x0 x1 x2 x3 x4 x5) t s).trans ?_
    simp only [e0, e1, V145_at, V167_at]
    rw [sum_first (fun l => dm (cA x0 1) (cY x5 1) t ⟨256 + l.val, by omega⟩) (fun l => vv (cB x0 1) (rV x1) (rV x2) s ⟨256 + l.val, by omega⟩),
      sum_first (fun l => dm (cA x0 0) (cY x5 0) t ⟨256 + l.val, by omega⟩) (fun l => vv (cB x0 0) (rV x1) (rV x2) s ⟨256 + l.val, by omega⟩)]
    have hc : ∀ l : Fin 64, (⟨256 + (l.val), by omega⟩ : Fin 512) = col 4 l := fun l => Fin.ext (by
      first | (show _ = 64 * 4 + l.val; simp; done) | (show _ = 64 * 4 + l.val; simp; omega))
    simp only [hc]
    rfl
  · refine (dwAll_5 x5 (V21 x0 x1 x2 x3 x4 x5) (V135 x0 x1 x2 x3 x4 x5) (V140 x0 x1 x2 x3 x4 x5) (V145 x0 x1 x2 x3 x4 x5) (V150 x0 x1 x2 x3 x4 x5) (V157 x0 x1 x2 x3 x4 x5) (V162 x0 x1 x2 x3 x4 x5) (V167 x0 x1 x2 x3 x4 x5) (V172 x0 x1 x2 x3 x4 x5) t s).trans ?_
    simp only [e0, e1, V145_at, V167_at]
    rw [sum_second (fun l => dm (cA x0 1) (cY x5 1) t ⟨256 + l.val, by omega⟩) (fun l => vv (cB x0 1) (rV x1) (rV x2) s ⟨256 + l.val, by omega⟩),
      sum_second (fun l => dm (cA x0 0) (cY x5 0) t ⟨256 + l.val, by omega⟩) (fun l => vv (cB x0 0) (rV x1) (rV x2) s ⟨256 + l.val, by omega⟩)]
    have hc : ∀ l : Fin 64, (⟨256 + (64 + l.val), by omega⟩ : Fin 512) = col 5 l := fun l => Fin.ext (by
      first | (show _ = 64 * 5 + l.val; simp; done) | (show _ = 64 * 5 + l.val; simp; omega))
    simp only [hc]
    rfl
  · refine (dwAll_6 x5 (V21 x0 x1 x2 x3 x4 x5) (V135 x0 x1 x2 x3 x4 x5) (V140 x0 x1 x2 x3 x4 x5) (V145 x0 x1 x2 x3 x4 x5) (V150 x0 x1 x2 x3 x4 x5) (V157 x0 x1 x2 x3 x4 x5) (V162 x0 x1 x2 x3 x4 x5) (V167 x0 x1 x2 x3 x4 x5) (V172 x0 x1 x2 x3 x4 x5) t s).trans ?_
    simp only [e0, e1, V150_at, V172_at]
    rw [sum_first (fun l => dm (cA x0 1) (cY x5 1) t ⟨384 + l.val, by omega⟩) (fun l => vv (cB x0 1) (rV x1) (rV x2) s ⟨384 + l.val, by omega⟩),
      sum_first (fun l => dm (cA x0 0) (cY x5 0) t ⟨384 + l.val, by omega⟩) (fun l => vv (cB x0 0) (rV x1) (rV x2) s ⟨384 + l.val, by omega⟩)]
    have hc : ∀ l : Fin 64, (⟨384 + (l.val), by omega⟩ : Fin 512) = col 6 l := fun l => Fin.ext (by
      first | (show _ = 64 * 6 + l.val; simp; done) | (show _ = 64 * 6 + l.val; simp; omega))
    simp only [hc]
    rfl
  · refine (dwAll_7 x5 (V21 x0 x1 x2 x3 x4 x5) (V135 x0 x1 x2 x3 x4 x5) (V140 x0 x1 x2 x3 x4 x5) (V145 x0 x1 x2 x3 x4 x5) (V150 x0 x1 x2 x3 x4 x5) (V157 x0 x1 x2 x3 x4 x5) (V162 x0 x1 x2 x3 x4 x5) (V167 x0 x1 x2 x3 x4 x5) (V172 x0 x1 x2 x3 x4 x5) t s).trans ?_
    simp only [e0, e1, V150_at, V172_at]
    rw [sum_second (fun l => dm (cA x0 1) (cY x5 1) t ⟨384 + l.val, by omega⟩) (fun l => vv (cB x0 1) (rV x1) (rV x2) s ⟨384 + l.val, by omega⟩),
      sum_second (fun l => dm (cA x0 0) (cY x5 0) t ⟨384 + l.val, by omega⟩) (fun l => vv (cB x0 0) (rV x1) (rV x2) s ⟨384 + l.val, by omega⟩)]
    have hc : ∀ l : Fin 64, (⟨384 + (64 + l.val), by omega⟩ : Fin 512) = col 7 l := fun l => Fin.ext (by
      first | (show _ = 64 * 7 + l.val; simp; done) | (show _ = 64 * 7 + l.val; simp; omega))
    simp only [hc]
    rfl

theorem V270_at (t : Fin 128) (c : Fin 512) : V270 x0 x1 x2 x3 x4 x5 (ix2 t c) = dm (cA x0 1) (cY x5 1) t c + dm (cA x0 0) (cY x5 0) t c := by
  rw [← V21_dm0 x0 x1 x2 x3 x4 x5, ← V21_dm1 x0 x1 x2 x3 x4 x5, prow_zero, prow_one]
  pointwise [V270, k0_pay82, V181, V182, k0_pay53, k0_pay54, k0_pay51]

theorem V434_at (t k : Fin 128) : V434 x0 x1 x2 x3 x4 x5 (ix2 t k)
    = if hk : k.val < 8 then gB (cA x0 1) (cY x5 1) ⟨k.val, hk⟩ t + gB (cA x0 0) (cY x5 0) ⟨k.val, hk⟩ t else 0 := by
  refine (pay113_at (V270 x0 x1 x2 x3 x4 x5) t k).trans ?_
  simp only [V270_at]
  split
  · rename_i hk
    rw [sum_cols]
    rw [Finset.sum_eq_single (⟨k.val, hk⟩ : Fin 8)]
    · unfold gB
      rw [← Finset.sum_add_distrib]
      refine Finset.sum_congr rfl fun l _ => ?_
      rw [grp_col, if_pos rfl, mul_one]
    · intro h _ hne
      refine Finset.sum_eq_zero fun l _ => ?_
      rw [grp_col, if_neg (fun e => hne (Fin.ext e.symm)), mul_zero]
    · simp
  · rename_i hk
    refine Finset.sum_eq_zero fun c _ => ?_
    rw [if_neg (fun e => hk (by rw [e]; exact (grp c).isLt)), mul_zero]

theorem V436_at (c : Fin 512) : V436 x0 x1 x2 x3 x4 x5 (ix2 0 c)
    = gC (cA x0 0) (cY x5 0) (wM x3) c + gC (cA x0 1) (cY x5 1) (wM x3) c := by
  refine (pay114_at (V366 x0 x1 x2 x3 x4 x5) c).trans ?_
  rw [sum_rows]
  simp only [V366_at0, V366_at1]; rfl
theorem V439_at (c : Fin 512) : V439 x0 x1 x2 x3 x4 x5 (ix2 0 c)
    = gG (cA x0 0) (cB x0 0) (cY x5 0) (wM x3) c + gG (cA x0 1) (cB x0 1) (cY x5 1) (wM x3) c := by
  refine (pay115_at (V53 x0 x1 x2 x3 x4 x5) (V366 x0 x1 x2 x3 x4 x5) c).trans ?_
  rw [sum_rows]
  simp only [V366_at0, V366_at1, V53_at]; rfl

theorem V366_row0 (t : Fin 128) : rowOf (V366 x0 x1 x2 x3 x4 x5) (prow 0 t) = dv (cA x0 0) (cY x5 0) (wM x3) t := by
  funext c; exact V366_at0 x0 x1 x2 x3 x4 x5 t c
theorem V491_left0 (t : Fin 128) (c : Fin 512) : V491 x0 x1 x2 x3 x4 x5 (ix2 (prow 0 t) ⟨c.val, by omega⟩)
    = gU (cA x0 0) (cB x0 0) (cY x5 0) (rV x1) (rV x2) (wM x3) (bM x4) t c := by
  refine (pay118_left _ _ _ _ _ _ _ _ _ (prow 0 t) c).trans ?_
  have e : V180 x0 x1 x2 x3 x4 x5 (ix2 (prow 0 t) c) = cY x5 0 t c * mix (cB x0 0) (rV x1) (rV x2) (wM x3) (bM x4) t c := by
    rw [← V178_at0 x0 x1 x2 x3 x4 x5]; unfold cY; pointwise [V180, k0_pay52]
  rw [e, V11_at, V18_at, V20_at]; rfl
theorem V491_right0 (t : Fin 128) (c : Fin 512) : V491 x0 x1 x2 x3 x4 x5 (ix2 (prow 0 t) ⟨512 + c.val, by omega⟩)
    = gV (cA x0 0) (cB x0 0) (cY x5 0) (rV x1) (wM x3) t c := by
  refine (pay118_right _ _ _ _ _ _ _ _ _ (prow 0 t) c).trans ?_
  have e : V456 x0 x1 x2 x3 x4 x5 (ix2 (prow 0 t) c) + V464 x0 x1 x2 x3 x4 x5 (ix2 (prow 0 t) 0) = dx (act (cB x0 0) t) (rV x1) (dv (cA x0 0) (cY x5 0) (wM x3) t) c := by
    unfold V456 V464 V40 V48 V51
    rw [pay116_at _ _ (V36_at x0 x1 x2 x3 x4 x5), pay117_at _ _ (V36_at x0 x1 x2 x3 x4 x5), V34_row, V2_row, V366_row0]; rfl
  rw [e, V24_at, V31_at, V33_at]; rfl

theorem V366_row1 (t : Fin 128) : rowOf (V366 x0 x1 x2 x3 x4 x5) (prow 1 t) = dv (cA x0 1) (cY x5 1) (wM x3) t := by
  funext c; exact V366_at1 x0 x1 x2 x3 x4 x5 t c
theorem V491_left1 (t : Fin 128) (c : Fin 512) : V491 x0 x1 x2 x3 x4 x5 (ix2 (prow 1 t) ⟨c.val, by omega⟩)
    = gU (cA x0 1) (cB x0 1) (cY x5 1) (rV x1) (rV x2) (wM x3) (bM x4) t c := by
  refine (pay118_left _ _ _ _ _ _ _ _ _ (prow 1 t) c).trans ?_
  have e : V180 x0 x1 x2 x3 x4 x5 (ix2 (prow 1 t) c) = cY x5 1 t c * mix (cB x0 1) (rV x1) (rV x2) (wM x3) (bM x4) t c := by
    rw [← V178_at1 x0 x1 x2 x3 x4 x5]; unfold cY; pointwise [V180, k0_pay52]
  rw [e, V11_at, V18_at, V20_at]; rfl
theorem V491_right1 (t : Fin 128) (c : Fin 512) : V491 x0 x1 x2 x3 x4 x5 (ix2 (prow 1 t) ⟨512 + c.val, by omega⟩)
    = gV (cA x0 1) (cB x0 1) (cY x5 1) (rV x1) (wM x3) t c := by
  refine (pay118_right _ _ _ _ _ _ _ _ _ (prow 1 t) c).trans ?_
  have e : V456 x0 x1 x2 x3 x4 x5 (ix2 (prow 1 t) c) + V464 x0 x1 x2 x3 x4 x5 (ix2 (prow 1 t) 0) = dx (act (cB x0 1) t) (rV x1) (dv (cA x0 1) (cY x5 1) (wM x3) t) c := by
    unfold V456 V464 V40 V48 V51
    rw [pay116_at _ _ (V36_at x0 x1 x2 x3 x4 x5), pay117_at _ _ (V36_at x0 x1 x2 x3 x4 x5), V34_row, V2_row, V366_row1]; rfl
  rw [e, V24_at, V31_at, V33_at]; rfl

end Cert.KernelIdeal.Out
end
-- ==== Proof.Whole.lean ====
/-
  The gating gradient of the whole batch: 8192 positions cut into 64 chunks of 128, each chunk's part by `Cert.Gating`.
-/
module

public import proofs.«01_k».proof.Proof.Spec

@[expose] public section

noncomputable section

namespace Cert.Gating

open Idealize.ShloMosaic

/-- Position `t` of chunk `i`. -/
def pos (i : Fin 64) (t : Fin 128) : Fin 8192 := ⟨128 * i.val + t.val, by omega⟩

section Whole
variable (p : (⟨2, ![8192, 8192]⟩ : Shape).Idx → EReal) (g b : (⟨1, ![512]⟩ : Shape).Idx → EReal)
  (w : (⟨3, ![8, 128, 128]⟩ : Shape).Idx → EReal) (bs : (⟨2, ![8, 128]⟩ : Shape).Idx → EReal)
  (dy : (⟨2, ![8192, 512]⟩ : Shape).Idx → EReal)

/-- Chunk `i` of the gate's columns of the projection. -/
def wA (i : Fin 64) (t : Fin 128) (c : Fin 512) : EReal := p (ix2 (pos i t) ⟨2048 + c.val, by omega⟩)
/-- Chunk `i` of the mixed half's columns. -/
def wB (i : Fin 64) (t : Fin 128) (c : Fin 512) : EReal := p (ix2 (pos i t) ⟨2560 + c.val, by omega⟩)
/-- Chunk `i` of the incoming gradient. -/
def wY (i : Fin 64) (t : Fin 128) (c : Fin 512) : EReal := dy (ix2 (pos i t) c)
def wg (c : Fin 512) : EReal := g (ix1 c)
def ww (h : Fin 8) (t s : Fin 128) : EReal := w (ix3 h t s)
def wbs (h : Fin 8) (t : Fin 128) : EReal := bs (ix2 h t)

/-- The gradient to the gate's columns. -/
def aU (i : Fin 64) (t : Fin 128) (c : Fin 512) : EReal := gU (wA p i) (wB p i) (wY dy i) (wg g) (wg b) (ww w) (wbs bs) t c
/-- The gradient to the mixed half's columns. -/
def aV (i : Fin 64) (t : Fin 128) (c : Fin 512) : EReal := gV (wA p i) (wB p i) (wY dy i) (wg g) (ww w) t c
/-- The weights' gradient. -/
def aW (h : Fin 8) (t s : Fin 128) : EReal := ∑ i : Fin 64, gW (wA p i) (wB p i) (wY dy i) (wg g) (wg b) h t s
/-- The spatial bias's gradient. -/
def aB (h : Fin 8) (t : Fin 128) : EReal := ∑ i : Fin 64, gB (wA p i) (wY dy i) h t
/-- The norm gain's gradient. -/
def aG (c : Fin 512) : EReal := ∑ i : Fin 64, gG (wA p i) (wB p i) (wY dy i) (ww w) c
/-- The norm bias's gradient. -/
def aC (c : Fin 512) : EReal := ∑ i : Fin 64, gC (wA p i) (wY dy i) (ww w) c
end Whole

/-- A sum over 64 chunks, two at a time. -/
theorem sum_pairs (f : Fin 64 → EReal) :
    ∑ i, f i = ∑ k : Fin 32, (f ⟨2 * k.val, by omega⟩ + f ⟨2 * k.val + 1, by omega⟩) := by
  refine (sum_mul_add (a := 32) (b := 2) f).trans (Finset.sum_congr rfl fun k _ => ?_)
  rw [Fin.sum_univ_two]; rfl

/-- What a running total holds after its last step. -/
theorem fold_sum {N : ℕ} (f : (n : ℕ) → n < N → EReal) (P : Fin N → EReal) (h0 : ∀ h, f 0 h = P ⟨0, h⟩)
    (hs : ∀ n h, f (n + 1) h = f n (Nat.lt_of_succ_lt h) + P ⟨n + 1, h⟩) :
    ∀ n (h : n < N), f n h = ∑ k : Fin (n + 1), P ⟨k.val, by omega⟩
  | 0, h => by rw [h0, Fin.sum_univ_one]; rfl
  | n + 1, h => by rw [hs, fold_sum f P h0 hs n]; exact (Fin.sum_univ_castSucc (n := n + 1) fun k : Fin (n + 1 + 1) => P ⟨k.val, by omega⟩).symm

end Cert.Gating
end
-- ==== Proof.KIn.lean ====
/-
  The kernel's input blocks, read at an index of the arguments.
-/
module

public import proofs.«01_k».proof.Proof.KPoint
public import proofs.«01_k».proof.Proof.Whole
public import proofs.«01_k».proof.Proof.Gen.KernelIdeal.Value
public import Idealize.ShloMosaic.Lib.KernelVsHost

@[expose] public section

set_option maxRecDepth 16384

noncomputable section

namespace Cert.KernelIdeal.Out

open Cert.KernelIdeal Cert.KernelIdeal.Gen Idealize.ShloMosaic Idealize.ShloMosaic.TcCoe Idealize.SL.Sem Cert.Gating

variable (m : (ℓ : Loc nD τ sig) → Buf (Elt Ideal) ℓ) (c : Dev nD)

/-! ## The arguments -/

abbrev argP : (⟨2, ![8192, 8192]⟩ : Shape).Idx → EReal := m ((c : Thread nD τ).loc main_arg0)
abbrev argD : (⟨2, ![8192, 8192]⟩ : Shape).Idx → EReal := m ((c : Thread nD τ).loc main_arg1)
abbrev argG : (⟨1, ![512]⟩ : Shape).Idx → EReal := m ((c : Thread nD τ).loc main_arg2)
abbrev argB : (⟨1, ![512]⟩ : Shape).Idx → EReal := m ((c : Thread nD τ).loc main_arg3)
abbrev argW : (⟨3, ![8, 128, 128]⟩ : Shape).Idx → EReal := m ((c : Thread nD τ).loc main_arg4)
abbrev argS : (⟨2, ![8, 128]⟩ : Shape).Idx → EReal := m ((c : Thread nD τ).loc main_arg5)
abbrev argY : (⟨2, ![8192, 512]⟩ : Shape).Idx → EReal := m ((c : Thread nD τ).loc main_arg6)

/-! ## What the host lines before the grid leave -/

theorem V_v0 : V m c main_v0 = shapeCast S1x512 (argG m c) shapeCasts_S512_S1x512 := by
  unfold V; simp only [hostOps0, hostOps0_1, hostOps0_2, List.flatten_cons, List.flatten_nil, List.append_nil, List.cons_append, List.nil_append]
  after_results; rfl
theorem V_v1 : V m c main_v1 = shapeCast S1x512 (argB m c) shapeCasts_S512_S1x512 := by
  unfold V; simp only [hostOps0, hostOps0_1, hostOps0_2, List.flatten_cons, List.flatten_nil, List.append_nil, List.cons_append, List.nil_append]
  after_results; rfl
theorem V_v3 : V m c main_v3 = pad S128x128 ![0, 0] ![0, 120] ![0, 0] (transpose S128x8 [1, 0] (argS m c) transposes_S8x128_S128x8_1_0)
    (sitofp (F := Ideal) .f32 (constantI S_ 32 0#32)) pads_S128x8_S128x128_000_01200 h_S_ := by
  unfold V; simp only [hostOps0, hostOps0_1, hostOps0_2, List.flatten_cons, List.flatten_nil, List.append_nil, List.cons_append, List.nil_append]
  after_results; rfl
theorem V_v4 : V m c main_v4_0 = argD m c := by
  unfold V; simp only [hostOps0, hostOps0_1, hostOps0_2, List.flatten_cons, List.flatten_nil, List.append_nil, List.cons_append, List.nil_append]
  after_results; rfl

/-! ## The blocks -/

theorem index0 : ∀ t : Fin cfg0.N, win0_0.index t 0 = t.val ∧ win0_0.index t 1 = 2 :=
  (by decide +kernel : ∀ t : Fin grid0.N, win0_0.index t 0 = t.val ∧ win0_0.index t 1 = 2)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)

theorem lt32 (t : Fin cfg0.N) : t.val < 32 := lt_of_lt_of_eq t.isLt (show cfg0.N = 32 from N_0)

abbrev b0 (t : Fin cfg0.N) : Vec Ideal S256x1024 .f32 := iblk m c 0 t
abbrev b1 (t : Fin cfg0.N) : Vec Ideal S1x512 .f32 := iblk m c 1 t
abbrev b2 (t : Fin cfg0.N) : Vec Ideal S1x512 .f32 := iblk m c 2 t
abbrev b3 (t : Fin cfg0.N) : Vec Ideal S8x128x128 .f32 := iblk m c 3 t
abbrev b4 (t : Fin cfg0.N) : Vec Ideal S128x128 .f32 := iblk m c 4 t
abbrev b5 (t : Fin cfg0.N) : Vec Ideal S256x512 .f32 := iblk m c 5 t

theorem b0_at (t : Fin cfg0.N) (r : Fin 256) (k : Fin 1024) :
    b0 m c t (ix2 r k) = argP m c (ix2 ⟨256 * t.val + r.val, by have := lt32 t; omega⟩ ⟨2048 + k.val, by omega⟩) := by
  unfold b0 iblk
  rw [View.read_apply]
  show V m c main_arg0 _ = _
  rw [V_main_arg0]
  unfold argP
  congr 1
  funext a
  apply Fin.ext
  match a with
  | ⟨0, _⟩ => show win0_0.index t 0 * 256 + 1 * r.val = 256 * t.val + r.val; rw [(index0 t).1]; omega
  | ⟨1, _⟩ => show win0_0.index t 1 * 1024 + 1 * k.val = 2048 + k.val; rw [(index0 t).2]; omega
theorem b5_at (t : Fin cfg0.N) (r : Fin 256) (k : Fin 512) :
    b5 m c t (ix2 r k) = argY m c (ix2 ⟨256 * t.val + r.val, by have := lt32 t; omega⟩ k) := by
  unfold b5 iblk
  rw [View.read_apply]
  show V m c main_arg6 _ = _
  rw [V_main_arg6]
  unfold argY
  congr 1
  funext a
  apply Fin.ext
  match a with
  | ⟨0, _⟩ => show win0_5.index t 0 * 256 + 1 * r.val = 256 * t.val + r.val; rw [(index5 t).1]; omega
  | ⟨1, _⟩ => show win0_5.index t 1 * 512 + 1 * k.val = k.val; rw [(index5 t).2]; omega
theorem b3_at (t : Fin cfg0.N) (h : Fin 8) (r k : Fin 128) : b3 m c t (ix3 h r k) = argW m c (ix3 h r k) := by
  unfold b3 iblk
  rw [View.read_apply]
  show V m c main_arg4 _ = _
  rw [V_main_arg4]
  unfold argW
  congr 1
  funext a
  apply Fin.ext
  match a with
  | ⟨0, _⟩ => show win0_3.index t 0 * 8 + 1 * h.val = h.val; rw [(index3 t).1]; omega
  | ⟨1, _⟩ => show win0_3.index t 1 * 128 + 1 * r.val = r.val; rw [(index3 t).2.1]; omega
  | ⟨2, _⟩ => show win0_3.index t 2 * 128 + 1 * k.val = k.val; rw [(index3 t).2.2]; omega
theorem b1_at (t : Fin cfg0.N) (k : Fin 512) : b1 m c t (ix2 0 k) = argG m c (ix1 k) := by
  have e : b1 m c t (ix2 0 k) = V m c main_v0 (ix2 0 k) := by
    unfold b1 iblk
    rw [View.read_apply]
    show V m c main_v0 _ = _
    congr 1
    funext a
    apply Fin.ext
    match a with
    | ⟨0, _⟩ => show win0_1.index t 0 * 1 + 1 * 0 = 0; rw [(index1 t).1]
    | ⟨1, _⟩ => show win0_1.index t 1 * 512 + 1 * k.val = k.val; rw [(index1 t).2]; omega
  rw [e, V_v0]; pointwise
theorem b2_at (t : Fin cfg0.N) (k : Fin 512) : b2 m c t (ix2 0 k) = argB m c (ix1 k) := by
  have e : b2 m c t (ix2 0 k) = V m c main_v1 (ix2 0 k) := by
    unfold b2 iblk
    rw [View.read_apply]
    show V m c main_v1 _ = _
    congr 1
    funext a
    apply Fin.ext
    match a with
    | ⟨0, _⟩ => show win0_2.index t 0 * 1 + 1 * 0 = 0; rw [(index2 t).1]
    | ⟨1, _⟩ => show win0_2.index t 1 * 512 + 1 * k.val = k.val; rw [(index2 t).2]; omega
  rw [e, V_v1]; pointwise
theorem b4_at (t : Fin cfg0.N) (r : Fin 128) (h : Fin 8) : b4 m c t (ix2 r ⟨h.val, by omega⟩) = argS m c (ix2 h r) := by
  have e : b4 m c t (ix2 r ⟨h.val, by omega⟩) = V m c main_v3 (ix2 r ⟨h.val, by omega⟩) := by
    unfold b4 iblk
    rw [View.read_apply]
    show V m c main_v3 _ = _
    congr 1
    funext a
    apply Fin.ext
    match a with
    | ⟨0, _⟩ => show win0_4.index t 0 * 128 + 1 * r.val = r.val; rw [(index4 t).1]; omega
    | ⟨1, _⟩ => show win0_4.index t 1 * 128 + 1 * h.val = h.val; rw [(index4 t).2]; omega
  rw [e, V_v3]
  refine (pad_apply_of_inside _ _ _ _ _ _ _ _ (ix2 r h : S128x8.Idx) ?_).trans ?_
  · intro a; match a with
    | ⟨0, _⟩ => show r.val = 0 + r.val * (0 + 1); omega
    | ⟨1, _⟩ => show h.val = 0 + h.val * (0 + 1); omega
  · pointwise

/-! ## The point's chunks are the arguments' -/

/-- Chunk `h` of grid point `t`. -/
def chunk (t : Fin cfg0.N) (h : Fin 2) : Fin 64 := ⟨2 * t.val + h.val, by have := lt32 t; omega⟩

theorem pos_chunk (t : Fin cfg0.N) (h : Fin 2) (r : Fin 128) :
    (⟨256 * t.val + (prow h r).val, by have := lt32 t; omega⟩ : Fin 8192) = pos (chunk t h) r :=
  Fin.ext (by show 256 * t.val + (128 * h.val + r.val) = 128 * (2 * t.val + h.val) + r.val; omega)

theorem cA_eq (t : Fin cfg0.N) (h : Fin 2) : cA (b0 m c t) h = wA (argP m c) (chunk t h) := by
  funext r k; unfold cA bA wA; rw [b0_at, pos_chunk]
theorem cB_eq (t : Fin cfg0.N) (h : Fin 2) : cB (b0 m c t) h = wB (argP m c) (chunk t h) := by
  funext r k; unfold cB bB wB; rw [b0_at, pos_chunk]
  congr 2; apply Fin.ext; show 2048 + (512 + k.val) = 2560 + k.val; omega
theorem cY_eq (t : Fin cfg0.N) (h : Fin 2) : cY (b5 m c t) h = wY (argY m c) (chunk t h) := by
  funext r k; unfold cY wY; rw [b5_at, pos_chunk]
theorem rV1_eq (t : Fin cfg0.N) : rV (b1 m c t) = wg (argG m c) := by funext k; exact b1_at m c t k
theorem rV2_eq (t : Fin cfg0.N) : rV (b2 m c t) = wg (argB m c) := by funext k; exact b2_at m c t k
theorem wM_eq (t : Fin cfg0.N) : wM (b3 m c t) = ww (argW m c) := by funext h r k; exact b3_at m c t h r k
theorem bM_eq (t : Fin cfg0.N) : bM (b4 m c t) = wbs (argS m c) := by funext h r; exact b4_at m c t r h

end Cert.KernelIdeal.Out
end
-- ==== Proof.KFold.lean ====
/-
  The kernel's arrays after the last grid point: the four running totals are the sums over all 64 chunks, and the
  aliased gradient holds the two gated blocks in its columns 2048..3071 and its entry contents elsewhere.
-/
module

public import proofs.«01_k».proof.Proof.KIn

@[expose] public section

set_option maxRecDepth 16384

noncomputable section

namespace Cert.KernelIdeal.Out

open Cert.KernelIdeal Cert.KernelIdeal.Gen Idealize.ShloMosaic Idealize.ShloMosaic.TcCoe Idealize.SL.Sem Cert.Gating
open Idealize.ShloMosaic.Pipeline (Dat)

variable (m : (ℓ : Loc nD τ sig) → Buf (Elt Ideal) ℓ) (c : Dev nD)

/-! ## One step of each running total -/

theorem pay123_at (v : FVec Ideal S1x512 .f32) (o : Vec Ideal S1x512 .f32) (k : Fin 512) :
    k0_pay123 v o (ix2 0 k) = o (ix2 0 k) + v (ix2 0 k) := by pointwise [k0_pay123]
theorem pay124_at (v : FVec Ideal S1x512 .f32) (o : Vec Ideal S1x512 .f32) (k : Fin 512) :
    k0_pay124 v o (ix2 0 k) = o (ix2 0 k) + v (ix2 0 k) := by pointwise [k0_pay124]
theorem pay1_at (v : FVec Ideal S8x128x128 .f32) (o : Vec Ideal S8x128x128 .f32) (h : Fin 8) (t s : Fin 128) :
    k0_pay1 v o (ix3 h t s) = o (ix3 h t s) + v (ix3 h t s) := by pointwise [k0_pay1]
theorem pay2_at (v : FVec Ideal S128x128 .f32) (o : Vec Ideal S128x128 .f32) (t k : Fin 128) :
    k0_pay2 v o (ix2 t k) = o (ix2 t k) + v (ix2 t k) := by pointwise [k0_pay2]
theorem pay119_at (k : Fin 512) : k0_pay119 (F := Ideal) (ix2 0 k) = 0 := by pointwise [k0_pay119]
theorem pay120_at (k : Fin 512) : k0_pay120 (F := Ideal) (ix2 0 k) = 0 := by pointwise [k0_pay120]
theorem pay121_at (h : Fin 8) (t s : Fin 128) : k0_pay121 (F := Ideal) (ix3 h t s) = 0 := by pointwise [k0_pay121]
theorem pay122_at (t k : Fin 128) : k0_pay122 (F := Ideal) (ix2 t k) = 0 := by pointwise [k0_pay122]

/-! ## What a grid point adds -/

def add7 (k : Fin 512) (t : Fin cfg0.N) : EReal :=
  V439 (b0 m c t) (b1 m c t) (b2 m c t) (b3 m c t) (b4 m c t) (b5 m c t) (ix2 0 k)
def add8 (k : Fin 512) (t : Fin cfg0.N) : EReal :=
  V436 (b0 m c t) (b1 m c t) (b2 m c t) (b3 m c t) (b4 m c t) (b5 m c t) (ix2 0 k)
def add9 (h : Fin 8) (r s : Fin 128) (t : Fin cfg0.N) : EReal :=
  V433 (b0 m c t) (b1 m c t) (b2 m c t) (b3 m c t) (b4 m c t) (b5 m c t) (ix3 h r s)
def add10 (r k : Fin 128) (t : Fin cfg0.N) : EReal :=
  V434 (b0 m c t) (b1 m c t) (b2 m c t) (b3 m c t) (b4 m c t) (b5 m c t) (ix2 r k)

/-- The sum over the grid points of what a point adds for its two chunks. -/
theorem sum_points (f : Fin 64 → EReal) (P : Fin cfg0.N → EReal)
    (hP : ∀ t, P t = f (chunk t 0) + f (chunk t 1)) (h31 : 31 < cfg0.N) :
    ∑ k : Fin (31 + 1), P ⟨k.val, by omega⟩ = ∑ i, f i := by
  rw [sum_pairs]
  refine Finset.sum_congr rfl fun k _ => (hP _).trans ?_
  rfl

theorem h31 : 31 < cfg0.N := lt_of_lt_of_eq (by decide) (show cfg0.N = 32 from N_0).symm
def t31 : Fin cfg0.N := ⟨31, h31⟩

theorem step7_zero (k : Fin 512) (h0 : 0 < cfg0.N) : (outsAt0 m c 0 h0).2.1 (ix2 0 k) = add7 m c k ⟨0, h0⟩ := by
  rw [outsAt0_A m c ⟨0, h0⟩ rfl, out_A_6, out_A_7, out_A_8, out_A_9, out_A_10]
  dsimp only
  refine (pay123_at _ _ k).trans ?_
  rw [pay119_at, zero_add]; rfl
theorem step7_succ (k : Fin 512) (n : ℕ) (hn : n + 1 < cfg0.N) :
    (outsAt0 m c (n + 1) hn).2.1 (ix2 0 k) = (outsAt0 m c n (Nat.lt_of_succ_lt hn)).2.1 (ix2 0 k) + add7 m c k ⟨n + 1, hn⟩ := by
  have hB : ¬(⟨n + 1, hn⟩ : Fin cfg0.N).val % 32 = 0 := by have := lt32 ⟨n + 1, hn⟩; dsimp only at this ⊢; omega
  rw [outsAt0_B m c ⟨n + 1, hn⟩ hB, out_B_6, out_B_7, out_B_8, out_B_9, out_B_10]
  dsimp only
  exact pay123_at _ _ k
theorem total7 (k : Fin 512) : (outsAt0 m c 31 h31).2.1 (ix2 0 k) = ∑ t : Fin (31 + 1), add7 m c k ⟨t.val, lt_of_lt_of_le t.isLt h31⟩ :=
  fold_sum (fun n hn => (outsAt0 m c n hn).2.1 (ix2 0 k)) (add7 m c k) (step7_zero m c k) (step7_succ m c k) 31 h31

theorem step8_zero (k : Fin 512) (h0 : 0 < cfg0.N) : (outsAt0 m c 0 h0).2.2.1 (ix2 0 k) = add8 m c k ⟨0, h0⟩ := by
  rw [outsAt0_A m c ⟨0, h0⟩ rfl, out_A_6, out_A_7, out_A_8, out_A_9, out_A_10]
  dsimp only
  refine (pay124_at _ _ k).trans ?_
  rw [pay120_at, zero_add]; rfl
theorem step8_succ (k : Fin 512) (n : ℕ) (hn : n + 1 < cfg0.N) :
    (outsAt0 m c (n + 1) hn).2.2.1 (ix2 0 k) = (outsAt0 m c n (Nat.lt_of_succ_lt hn)).2.2.1 (ix2 0 k) + add8 m c k ⟨n + 1, hn⟩ := by
  have hB : ¬(⟨n + 1, hn⟩ : Fin cfg0.N).val % 32 = 0 := by have := lt32 ⟨n + 1, hn⟩; dsimp only at this ⊢; omega
  rw [outsAt0_B m c ⟨n + 1, hn⟩ hB, out_B_6, out_B_7, out_B_8, out_B_9, out_B_10]
  dsimp only
  exact pay124_at _ _ k
theorem total8 (k : Fin 512) : (outsAt0 m c 31 h31).2.2.1 (ix2 0 k) = ∑ t : Fin (31 + 1), add8 m c k ⟨t.val, lt_of_lt_of_le t.isLt h31⟩ :=
  fold_sum (fun n hn => (outsAt0 m c n hn).2.2.1 (ix2 0 k)) (add8 m c k) (step8_zero m c k) (step8_succ m c k) 31 h31

theorem step9_zero (h : Fin 8) (r s : Fin 128) (h0 : 0 < cfg0.N) : (outsAt0 m c 0 h0).2.2.2.1 (ix3 h r s) = add9 m c h r s ⟨0, h0⟩ := by
  rw [outsAt0_A m c ⟨0, h0⟩ rfl, out_A_6, out_A_7, out_A_8, out_A_9, out_A_10]
  dsimp only
  refine (pay1_at _ _ h r s).trans ?_
  rw [pay121_at, zero_add]; rfl
theorem step9_succ (h : Fin 8) (r s : Fin 128) (n : ℕ) (hn : n + 1 < cfg0.N) :
    (outsAt0 m c (n + 1) hn).2.2.2.1 (ix3 h r s) = (outsAt0 m c n (Nat.lt_of_succ_lt hn)).2.2.2.1 (ix3 h r s) + add9 m c h r s ⟨n + 1, hn⟩ := by
  have hB : ¬(⟨n + 1, hn⟩ : Fin cfg0.N).val % 32 = 0 := by have := lt32 ⟨n + 1, hn⟩; dsimp only at this ⊢; omega
  rw [outsAt0_B m c ⟨n + 1, hn⟩ hB, out_B_6, out_B_7, out_B_8, out_B_9, out_B_10]
  dsimp only
  exact pay1_at _ _ h r s
theorem total9 (h : Fin 8) (r s : Fin 128) : (outsAt0 m c 31 h31).2.2.2.1 (ix3 h r s) = ∑ t : Fin (31 + 1), add9 m c h r s ⟨t.val, lt_of_lt_of_le t.isLt h31⟩ :=
  fold_sum (fun n hn => (outsAt0 m c n hn).2.2.2.1 (ix3 h r s)) (add9 m c h r s) (step9_zero m c h r s) (step9_succ m c h r s) 31 h31

theorem step10_zero (r k : Fin 128) (h0 : 0 < cfg0.N) : (outsAt0 m c 0 h0).2.2.2.2 (ix2 r k) = add10 m c r k ⟨0, h0⟩ := by
  rw [outsAt0_A m c ⟨0, h0⟩ rfl, out_A_6, out_A_7, out_A_8, out_A_9, out_A_10]
  dsimp only
  refine (pay2_at _ _ r k).trans ?_
  rw [pay122_at, zero_add]; rfl
theorem step10_succ (r k : Fin 128) (n : ℕ) (hn : n + 1 < cfg0.N) :
    (outsAt0 m c (n + 1) hn).2.2.2.2 (ix2 r k) = (outsAt0 m c n (Nat.lt_of_succ_lt hn)).2.2.2.2 (ix2 r k) + add10 m c r k ⟨n + 1, hn⟩ := by
  have hB : ¬(⟨n + 1, hn⟩ : Fin cfg0.N).val % 32 = 0 := by have := lt32 ⟨n + 1, hn⟩; dsimp only at this ⊢; omega
  rw [outsAt0_B m c ⟨n + 1, hn⟩ hB, out_B_6, out_B_7, out_B_8, out_B_9, out_B_10]
  dsimp only
  exact pay2_at _ _ r k
theorem total10 (r k : Fin 128) : (outsAt0 m c 31 h31).2.2.2.2 (ix2 r k) = ∑ t : Fin (31 + 1), add10 m c r k ⟨t.val, lt_of_lt_of_le t.isLt h31⟩ :=
  fold_sum (fun n hn => (outsAt0 m c n hn).2.2.2.2 (ix2 r k)) (add10 m c r k) (step10_zero m c r k) (step10_succ m c r k) 31 h31

theorem last7 (k : Fin 512) : (outsAt0 m c 31 h31).2.1 (ix2 0 k) = aG (argP m c) (argW m c) (argY m c) k := by
  rw [total7]
  refine (sum_points (fun i => gG (wA (argP m c) i) (wB (argP m c) i) (wY (argY m c) i) (ww (argW m c)) k) _ (fun t => ?_) h31).trans rfl
  unfold add7
  rw [V439_at, cA_eq, cB_eq, cY_eq, wM_eq, cA_eq, cB_eq, cY_eq]
theorem last8 (k : Fin 512) : (outsAt0 m c 31 h31).2.2.1 (ix2 0 k) = aC (argP m c) (argW m c) (argY m c) k := by
  rw [total8]
  refine (sum_points (fun i => gC (wA (argP m c) i) (wY (argY m c) i) (ww (argW m c)) k) _ (fun t => ?_) h31).trans rfl
  unfold add8
  rw [V436_at, cA_eq, cY_eq, wM_eq, cA_eq, cY_eq]
theorem last9 (h : Fin 8) (r s : Fin 128) : (outsAt0 m c 31 h31).2.2.2.1 (ix3 h r s)
    = aW (argP m c) (argG m c) (argB m c) (argY m c) h r s := by
  rw [total9]
  refine (sum_points (fun i => gW (wA (argP m c) i) (wB (argP m c) i) (wY (argY m c) i) (wg (argG m c)) (wg (argB m c)) h r s) _ (fun t => ?_) h31).trans rfl
  unfold add9
  rw [V433_at, cA_eq, cB_eq, cY_eq, rV1_eq, rV2_eq, cA_eq, cB_eq, cY_eq, add_comm]
theorem last10 (r k : Fin 128) : (outsAt0 m c 31 h31).2.2.2.2 (ix2 r k)
    = if hk : k.val < 8 then aB (argP m c) (argY m c) ⟨k.val, hk⟩ r else 0 := by
  rw [total10]
  split
  · rename_i hk
    refine (sum_points (fun i => gB (wA (argP m c) i) (wY (argY m c) i) ⟨k.val, hk⟩ r) _ (fun t => ?_) h31).trans rfl
    unfold add10
    rw [V434_at, dif_pos hk, cA_eq, cY_eq, cA_eq, cY_eq, add_comm]
  · rename_i hk
    refine Finset.sum_eq_zero fun t _ => ?_
    unfold add10
    rw [V434_at, dif_neg hk]

/-! ## The arrays the totals are written to -/

def res7 : Buf (Elt Ideal) ((c : Thread nD τ).loc main_v4_1) := fun i : S1x512.Idx => aG (argP m c) (argW m c) (argY m c) (i 1)
def res8 : Buf (Elt Ideal) ((c : Thread nD τ).loc main_v4_2) := fun i : S1x512.Idx => aC (argP m c) (argW m c) (argY m c) (i 1)
def res9 : Buf (Elt Ideal) ((c : Thread nD τ).loc main_v4_3) :=
  fun i : S8x128x128.Idx => aW (argP m c) (argG m c) (argB m c) (argY m c) (i 0) (i 1) (i 2)
def res10 : Buf (Elt Ideal) ((c : Thread nD τ).loc main_v4_4) :=
  fun i : S128x128.Idx => if hk : (i 1).val < 8 then aB (argP m c) (argY m c) ⟨(i 1).val, hk⟩ (i 0) else (0 : EReal)

theorem last7_res : ((outsAt0 m c 31 h31).2.1 : Vec Ideal S1x512 .f32) = res7 m c := by
  funext i
  obtain ⟨r, k, rfl⟩ : ∃ (r : Fin 1) (k : Fin 512), i = ix2 r k := ⟨i 0, i 1, by funext a; match a with | ⟨0, _⟩ => rfl | ⟨1, _⟩ => rfl⟩
  obtain rfl : r = 0 := Subsingleton.elim _ _
  exact last7 m c k
theorem flushed7_eq (t : Fin cfg0.N) (hf : (cfg0.win 7).flush t = true) :
    (dats m 0 c).flushed 7 t = ((cfg0.win 7).blk t).view.read (Elt Ideal) (res7 m c) := by
  have h3 : t.val = 31 := by have h := (flush0_7 t).mp hf; have := lt32 t; omega
  obtain rfl : t = t31 := Fin.ext h3
  show (cfg0.win 7).cut (grid0.coords t31) ((dats m 0 c).after 7 t31) = _
  rw [after0_7]
  have e : (outsAt0 m c t31.val t31.isLt).2.1 = res7 m c := last7_res m c
  rw [e]
  have hz' : (fun a => win0_7.index t31 a * main_v4_1.ty.shape.size a) = fun _ => 0 := funext fun a => by fin_cases a <;> decide +kernel
  exact (Memref.read_access_unit_zero (Elt Ideal) main_v4_1 hz' (fun a => by rw [congrFun hz' a]; simp) (res7 m c)).symm
theorem final7 : (dats m 0 c).arrAt 7 cfg0.N = res7 m c :=
  (dats m 0 c).arrAt_eq_of_cover 7 (res7 m c) (flushed7_eq m c) fun i =>
    ⟨t31, (flush0_7 t31).mpr rfl, by
      show i ∈ ((View.whole main_v4_1).slice (win0_7.rect t31)).set
      rw [View.set_slice_whole, Rect.mem_set_unit]
      intro a
      have h0 : (i 0 : Nat) < 1 := (i 0).isLt
      have h1 : (i 1 : Nat) < 512 := (i 1).isLt
      match a with
      | ⟨0, _⟩ => show win0_7.index t31 0 * win0_7.size 0 ≤ (i 0 : Nat) ∧ (i 0 : Nat) < win0_7.index t31 0 * win0_7.size 0 + win0_7.xsize (grid0.coords t31) 0
                  rw [show win0_7.index t31 0 * win0_7.size 0 = 0 from by decide +kernel, show win0_7.xsize (grid0.coords t31) 0 = 1 from by decide +kernel]; omega
      | ⟨1, _⟩ => show win0_7.index t31 1 * win0_7.size 1 ≤ (i 1 : Nat) ∧ (i 1 : Nat) < win0_7.index t31 1 * win0_7.size 1 + win0_7.xsize (grid0.coords t31) 1
                  rw [show win0_7.index t31 1 * win0_7.size 1 = 0 from by decide +kernel, show win0_7.xsize (grid0.coords t31) 1 = 512 from by decide +kernel]; omega⟩

theorem last8_res : ((outsAt0 m c 31 h31).2.2.1 : Vec Ideal S1x512 .f32) = res8 m c := by
  funext i
  obtain ⟨r, k, rfl⟩ : ∃ (r : Fin 1) (k : Fin 512), i = ix2 r k := ⟨i 0, i 1, by funext a; match a with | ⟨0, _⟩ => rfl | ⟨1, _⟩ => rfl⟩
  obtain rfl : r = 0 := Subsingleton.elim _ _
  exact last8 m c k
theorem flushed8_eq (t : Fin cfg0.N) (hf : (cfg0.win 8).flush t = true) :
    (dats m 0 c).flushed 8 t = ((cfg0.win 8).blk t).view.read (Elt Ideal) (res8 m c) := by
  have h3 : t.val = 31 := by have h := (flush0_8 t).mp hf; have := lt32 t; omega
  obtain rfl : t = t31 := Fin.ext h3
  show (cfg0.win 8).cut (grid0.coords t31) ((dats m 0 c).after 8 t31) = _
  rw [after0_8]
  have e : (outsAt0 m c t31.val t31.isLt).2.2.1 = res8 m c := last8_res m c
  rw [e]
  have hz' : (fun a => win0_8.index t31 a * main_v4_2.ty.shape.size a) = fun _ => 0 := funext fun a => by fin_cases a <;> decide +kernel
  exact (Memref.read_access_unit_zero (Elt Ideal) main_v4_2 hz' (fun a => by rw [congrFun hz' a]; simp) (res8 m c)).symm
theorem final8 : (dats m 0 c).arrAt 8 cfg0.N = res8 m c :=
  (dats m 0 c).arrAt_eq_of_cover 8 (res8 m c) (flushed8_eq m c) fun i =>
    ⟨t31, (flush0_8 t31).mpr rfl, by
      show i ∈ ((View.whole main_v4_2).slice (win0_8.rect t31)).set
      rw [View.set_slice_whole, Rect.mem_set_unit]
      intro a
      have h0 : (i 0 : Nat) < 1 := (i 0).isLt
      have h1 : (i 1 : Nat) < 512 := (i 1).isLt
      match a with
      | ⟨0, _⟩ => show win0_8.index t31 0 * win0_8.size 0 ≤ (i 0 : Nat) ∧ (i 0 : Nat) < win0_8.index t31 0 * win0_8.size 0 + win0_8.xsize (grid0.coords t31) 0
                  rw [show win0_8.index t31 0 * win0_8.size 0 = 0 from by decide +kernel, show win0_8.xsize (grid0.coords t31) 0 = 1 from by decide +kernel]; omega
      | ⟨1, _⟩ => show win0_8.index t31 1 * win0_8.size 1 ≤ (i 1 : Nat) ∧ (i 1 : Nat) < win0_8.index t31 1 * win0_8.size 1 + win0_8.xsize (grid0.coords t31) 1
                  rw [show win0_8.index t31 1 * win0_8.size 1 = 0 from by decide +kernel, show win0_8.xsize (grid0.coords t31) 1 = 512 from by decide +kernel]; omega⟩

theorem last9_res : ((outsAt0 m c 31 h31).2.2.2.1 : Vec Ideal S8x128x128 .f32) = res9 m c := by
  funext i
  obtain ⟨h, r, k, rfl⟩ : ∃ (h : Fin 8) (r k : Fin 128), i = ix3 h r k := ⟨i 0, i 1, i 2, by funext a; match a with | ⟨0, _⟩ => rfl | ⟨1, _⟩ => rfl | ⟨2, _⟩ => rfl⟩
  exact last9 m c h r k
theorem flushed9_eq (t : Fin cfg0.N) (hf : (cfg0.win 9).flush t = true) :
    (dats m 0 c).flushed 9 t = ((cfg0.win 9).blk t).view.read (Elt Ideal) (res9 m c) := by
  have h3 : t.val = 31 := by have h := (flush0_9 t).mp hf; have := lt32 t; omega
  obtain rfl : t = t31 := Fin.ext h3
  show (cfg0.win 9).cut (grid0.coords t31) ((dats m 0 c).after 9 t31) = _
  rw [after0_9]
  have e : (outsAt0 m c t31.val t31.isLt).2.2.2.1 = res9 m c := last9_res m c
  rw [e]
  have hz' : (fun a => win0_9.index t31 a * main_v4_3.ty.shape.size a) = fun _ => 0 := funext fun a => by fin_cases a <;> decide +kernel
  exact (Memref.read_access_unit_zero (Elt Ideal) main_v4_3 hz' (fun a => by rw [congrFun hz' a]; simp) (res9 m c)).symm
theorem final9 : (dats m 0 c).arrAt 9 cfg0.N = res9 m c :=
  (dats m 0 c).arrAt_eq_of_cover 9 (res9 m c) (flushed9_eq m c) fun i =>
    ⟨t31, (flush0_9 t31).mpr rfl, by
      show i ∈ ((View.whole main_v4_3).slice (win0_9.rect t31)).set
      rw [View.set_slice_whole, Rect.mem_set_unit]
      intro a
      have h0 : (i 0 : Nat) < 8 := (i 0).isLt
      have h1 : (i 1 : Nat) < 128 := (i 1).isLt
      have h2 : (i 2 : Nat) < 128 := (i 2).isLt
      match a with
      | ⟨0, _⟩ => show win0_9.index t31 0 * win0_9.size 0 ≤ (i 0 : Nat) ∧ (i 0 : Nat) < win0_9.index t31 0 * win0_9.size 0 + win0_9.xsize (grid0.coords t31) 0
                  rw [show win0_9.index t31 0 * win0_9.size 0 = 0 from by decide +kernel, show win0_9.xsize (grid0.coords t31) 0 = 8 from by decide +kernel]; omega
      | ⟨1, _⟩ => show win0_9.index t31 1 * win0_9.size 1 ≤ (i 1 : Nat) ∧ (i 1 : Nat) < win0_9.index t31 1 * win0_9.size 1 + win0_9.xsize (grid0.coords t31) 1
                  rw [show win0_9.index t31 1 * win0_9.size 1 = 0 from by decide +kernel, show win0_9.xsize (grid0.coords t31) 1 = 128 from by decide +kernel]; omega
      | ⟨2, _⟩ => show win0_9.index t31 2 * win0_9.size 2 ≤ (i 2 : Nat) ∧ (i 2 : Nat) < win0_9.index t31 2 * win0_9.size 2 + win0_9.xsize (grid0.coords t31) 2
                  rw [show win0_9.index t31 2 * win0_9.size 2 = 0 from by decide +kernel, show win0_9.xsize (grid0.coords t31) 2 = 128 from by decide +kernel]; omega⟩

theorem last10_res : ((outsAt0 m c 31 h31).2.2.2.2 : Vec Ideal S128x128 .f32) = res10 m c := by
  funext i
  obtain ⟨r, k, rfl⟩ : ∃ (r k : Fin 128), i = ix2 r k := ⟨i 0, i 1, by funext a; match a with | ⟨0, _⟩ => rfl | ⟨1, _⟩ => rfl⟩
  exact last10 m c r k
theorem flushed10_eq (t : Fin cfg0.N) (hf : (cfg0.win 10).flush t = true) :
    (dats m 0 c).flushed 10 t = ((cfg0.win 10).blk t).view.read (Elt Ideal) (res10 m c) := by
  have h3 : t.val = 31 := by have h := (flush0_10 t).mp hf; have := lt32 t; omega
  obtain rfl : t = t31 := Fin.ext h3
  show (cfg0.win 10).cut (grid0.coords t31) ((dats m 0 c).after 10 t31) = _
  rw [after0_10]
  have e : (outsAt0 m c t31.val t31.isLt).2.2.2.2 = res10 m c := last10_res m c
  rw [e]
  have hz' : (fun a => win0_10.index t31 a * main_v4_4.ty.shape.size a) = fun _ => 0 := funext fun a => by fin_cases a <;> decide +kernel
  exact (Memref.read_access_unit_zero (Elt Ideal) main_v4_4 hz' (fun a => by rw [congrFun hz' a]; simp) (res10 m c)).symm
theorem final10 : (dats m 0 c).arrAt 10 cfg0.N = res10 m c :=
  (dats m 0 c).arrAt_eq_of_cover 10 (res10 m c) (flushed10_eq m c) fun i =>
    ⟨t31, (flush0_10 t31).mpr rfl, by
      show i ∈ ((View.whole main_v4_4).slice (win0_10.rect t31)).set
      rw [View.set_slice_whole, Rect.mem_set_unit]
      intro a
      have h0 : (i 0 : Nat) < 128 := (i 0).isLt
      have h1 : (i 1 : Nat) < 128 := (i 1).isLt
      match a with
      | ⟨0, _⟩ => show win0_10.index t31 0 * win0_10.size 0 ≤ (i 0 : Nat) ∧ (i 0 : Nat) < win0_10.index t31 0 * win0_10.size 0 + win0_10.xsize (grid0.coords t31) 0
                  rw [show win0_10.index t31 0 * win0_10.size 0 = 0 from by decide +kernel, show win0_10.xsize (grid0.coords t31) 0 = 128 from by decide +kernel]; omega
      | ⟨1, _⟩ => show win0_10.index t31 1 * win0_10.size 1 ≤ (i 1 : Nat) ∧ (i 1 : Nat) < win0_10.index t31 1 * win0_10.size 1 + win0_10.xsize (grid0.coords t31) 1
                  rw [show win0_10.index t31 1 * win0_10.size 1 = 0 from by decide +kernel, show win0_10.xsize (grid0.coords t31) 1 = 128 from by decide +kernel]; omega⟩

end Cert.KernelIdeal.Out
end
-- ==== Proof.KGrad.lean ====
/-
  The aliased gradient after the grid: the two gated blocks in columns 2048..3071, the entry contents elsewhere.
-/
module

public import proofs.«01_k».proof.Proof.KIn

@[expose] public section

set_option maxRecDepth 16384

noncomputable section

namespace Cert.KernelIdeal.Out

open Cert.KernelIdeal Cert.KernelIdeal.Gen Idealize.ShloMosaic Idealize.ShloMosaic.TcCoe Idealize.SL.Sem Cert.Gating
open Idealize.ShloMosaic.Pipeline (Dat)

variable (m : (ℓ : Loc nD τ sig) → Buf (Elt Ideal) ℓ) (c : Dev nD)

/-- Every grid point writes the block of its own rows. -/
theorem outs6 (t : Fin cfg0.N) : (outsAt0 m c t.val t.isLt).1 = V491 (b0 m c t) (b1 m c t) (b2 m c t) (b3 m c t) (b4 m c t) (b5 m c t) := by
  by_cases h0 : t.val % 32 = 0
  · rw [outsAt0_A m c t h0, out_A_6]
  · rw [outsAt0_B m c t h0, out_B_6]

theorem index6 : ∀ t : Fin cfg0.N, win0_6.index t 0 = t.val ∧ win0_6.index t 1 = 2 :=
  (by decide +kernel : ∀ t : Fin grid0.N, win0_6.index t 0 = t.val ∧ win0_6.index t 1 = 2)

/-- The block of grid point `t`, read back. -/
theorem inside6 (t : Fin cfg0.N) (r : Fin 256) (k : Fin 1024) :
    (dats m 0 c).arrAt 6 cfg0.N (ix2 ⟨256 * t.val + r.val, by have := lt32 t; omega⟩ ⟨2048 + k.val, by omega⟩ : S8192x8192.Idx)
      = V491 (b0 m c t) (b1 m c t) (b2 m c t) (b3 m c t) (b4 m c t) (b5 m c t) (ix2 r k) := by
  have e := congrFun (Cert.KernelIdeal.Value.blocks6 m c t (flush0_6 t)) (ix2 r k : S256x1024.Idx)
  rw [Cert.KernelIdeal.Value.flushed6 m c t, outs6 m c t, View.read_apply] at e
  refine Eq.trans ?_ e
  congr 1
  funext a
  apply Fin.ext
  match a with
  | ⟨0, _⟩ => show 256 * t.val + r.val = win0_6.index t 0 * 256 + 1 * r.val; rw [(index6 t).1]; omega
  | ⟨1, _⟩ => show 2048 + k.val = win0_6.index t 1 * 1024 + 1 * k.val; rw [(index6 t).2]; omega

/-- Outside the columns the kernel writes, the array keeps what it held. -/
theorem outside6 (r k : Fin 8192) (hk : k.val < 2048 ∨ 3072 ≤ k.val) :
    (dats m 0 c).arrAt 6 cfg0.N (ix2 r k : S8192x8192.Idx) = argD m c (ix2 r k) := by
  rw [Cert.KernelIdeal.Value.entry6 m c (ix2 r k : S8192x8192.Idx) ?_]
  · show V m c main_v4_0 _ = _
    rw [V_v4]
  · intro t _ hi
    have hi' : (ix2 r k : S8192x8192.Idx) ∈ ((View.whole main_v4_0).slice (win0_6.rect t)).set := hi
    rw [View.set_slice_whole, Rect.mem_set_unit] at hi'
    have h1 : win0_6.index t 1 * 1024 ≤ k.val ∧ k.val < win0_6.index t 1 * 1024 + win0_6.xsize (grid0.coords t) 1 := hi' 1
    have hx : ∀ t : Fin cfg0.N, win0_6.xsize (grid0.coords t) 1 = 1024 :=
      (by decide +kernel : ∀ t : Fin grid0.N, win0_6.xsize (grid0.coords t) 1 = 1024)
    rw [(index6 t).2, hx t] at h1
    omega

theorem point_U (t : Fin cfg0.N) (h : Fin 2) (r : Fin 128) (k : Fin 512) :
    V491 (b0 m c t) (b1 m c t) (b2 m c t) (b3 m c t) (b4 m c t) (b5 m c t) (ix2 (prow h r) ⟨k.val, by omega⟩)
      = aU (argP m c) (argG m c) (argB m c) (argW m c) (argS m c) (argY m c) (chunk t h) r k := by
  unfold aU
  rw [← cA_eq, ← cB_eq, ← cY_eq, ← rV1_eq m c t, ← rV2_eq m c t, ← wM_eq m c t, ← bM_eq m c t]
  match h with
  | ⟨0, _⟩ => exact V491_left0 ..
  | ⟨1, _⟩ => exact V491_left1 ..
theorem point_V (t : Fin cfg0.N) (h : Fin 2) (r : Fin 128) (k : Fin 512) :
    V491 (b0 m c t) (b1 m c t) (b2 m c t) (b3 m c t) (b4 m c t) (b5 m c t) (ix2 (prow h r) ⟨512 + k.val, by omega⟩)
      = aV (argP m c) (argG m c) (argW m c) (argY m c) (chunk t h) r k := by
  unfold aV
  rw [← cA_eq, ← cB_eq, ← cY_eq, ← rV1_eq m c t, ← wM_eq m c t]
  match h with
  | ⟨0, _⟩ => exact V491_right0 ..
  | ⟨1, _⟩ => exact V491_right1 ..

theorem chunk_split (i : Fin 64) (h : i.val / 2 < cfg0.N) : chunk ⟨i.val / 2, h⟩ ⟨i.val % 2, by omega⟩ = i :=
  Fin.ext (by show 2 * (i.val / 2) + i.val % 2 = i.val; omega)

theorem final6_U (i : Fin 64) (r : Fin 128) (k : Fin 512) :
    (dats m 0 c).arrAt 6 cfg0.N (ix2 (pos i r) ⟨2048 + k.val, by omega⟩ : S8192x8192.Idx)
      = aU (argP m c) (argG m c) (argB m c) (argW m c) (argS m c) (argY m c) i r k := by
  have ht : i.val / 2 < cfg0.N := lt_of_lt_of_eq (by omega) (show cfg0.N = 32 from N_0).symm
  have e := inside6 m c ⟨i.val / 2, ht⟩ (prow ⟨i.val % 2, by omega⟩ r) ⟨k.val, by omega⟩
  rw [point_U, chunk_split i ht] at e
  refine Eq.trans (congrArg _ ?_) e
  rw [pos_chunk ⟨i.val / 2, ht⟩ ⟨i.val % 2, by omega⟩ r, chunk_split i ht]
theorem final6_V (i : Fin 64) (r : Fin 128) (k : Fin 512) :
    (dats m 0 c).arrAt 6 cfg0.N (ix2 (pos i r) ⟨2560 + k.val, by omega⟩ : S8192x8192.Idx)
      = aV (argP m c) (argG m c) (argW m c) (argY m c) i r k := by
  have ht : i.val / 2 < cfg0.N := lt_of_lt_of_eq (by omega) (show cfg0.N = 32 from N_0).symm
  have e := inside6 m c ⟨i.val / 2, ht⟩ (prow ⟨i.val % 2, by omega⟩ r) ⟨512 + k.val, by omega⟩
  rw [point_V, chunk_split i ht] at e
  refine Eq.trans (congrArg _ ?_) e
  rw [pos_chunk ⟨i.val / 2, ht⟩ ⟨i.val % 2, by omega⟩ r, chunk_split i ht]
  congr 1
  exact Fin.ext (by show 2560 + k.val = 2048 + (512 + k.val); omega)

end Cert.KernelIdeal.Out
end
-- ==== Proof.RVal.lean ====
/-
  The reference's results at an index: the functions of `Cert.Gating` summed over the 64 chunks.
-/
module

public import proofs.«01_k».proof.Proof.Whole
public import proofs.«01_k».proof.Proof.Gen.ReferenceIdeal.Read

@[expose] public section

set_option maxRecDepth 16384

noncomputable section

namespace Cert.ReferenceIdeal.Val

open Cert.ReferenceIdeal Cert.ReferenceIdeal.Gen Cert.ReferenceIdeal.Read Idealize.ShloMosaic Idealize.ShloMosaic.TcCoe Idealize.SL.Sem Cert.Gating

theorem ix4_ex {a b c d : ℕ} (i : (⟨4, ![a, b, c, d]⟩ : Shape).Idx) : ∃ (p : Fin a) (q : Fin b) (r : Fin c) (s : Fin d), i = ix4 p q r s :=
  ⟨i 0, i 1, i 2, i 3, by funext k; match k with | ⟨0, _⟩ => rfl | ⟨1, _⟩ => rfl | ⟨2, _⟩ => rfl | ⟨3, _⟩ => rfl⟩

theorem drop_big (i : Fin 64) (t : Fin 128) (h : Fin 8) (l : Fin 64) :
    (reducesTo_S64x128x8x64_S128x8_d0_3).drop (ix4 i t h l) = ix2 t h := by
  funext a; match a with | ⟨0, _⟩ => rfl | ⟨1, _⟩ => rfl
theorem drop_one (i : Fin 1) (t : Fin 128) (h : Fin 8) (l : Fin 1) :
    (reducesTo_S1x128x8x1_S128x8_d0_3).drop (ix4 i t h l) = ix2 t h := by
  funext a; match a with | ⟨0, _⟩ => rfl | ⟨1, _⟩ => rfl

theorem ends_big (x : S64x128x8x64.Idx → EReal) (t : Fin 128) (h : Fin 8) :
    Ideal.hostReduceAdd reducesTo_S64x128x8x64_S128x8_d0_3 x 0 (ix2 t h) = ∑ i : Fin 64, ∑ l : Fin 64, x (ix4 i t h l) := by
  unfold Ideal.hostReduceAdd
  rw [zero_add, ← Fintype.sum_prod_type']
  refine Finset.sum_nbij' (fun i => (i 0, i 3)) (fun p => ix4 p.1 t h p.2) ?_ ?_ ?_ ?_ ?_
  · intro i _; exact Finset.mem_univ _
  · intro p _; exact Finset.mem_filter.mpr ⟨Finset.mem_univ _, drop_big ..⟩
  · intro i hi
    obtain ⟨p, q, r, u, rfl⟩ := ix4_ex i
    have e := (Finset.mem_filter.mp hi).2
    rw [drop_big] at e
    have e0 : q = t := congrFun e 0
    have e1 : r = h := congrFun e 1
    subst e0 e1; rfl
  · intro p _; rfl
  · intro i hi
    obtain ⟨p, q, r, u, rfl⟩ := ix4_ex i
    have e := (Finset.mem_filter.mp hi).2
    rw [drop_big] at e
    have e0 : q = t := congrFun e 0
    have e1 : r = h := congrFun e 1
    subst e0 e1; rfl
theorem ends_one (x : S1x128x8x1.Idx → EReal) (t : Fin 128) (h : Fin 8) :
    Ideal.hostReduceAdd reducesTo_S1x128x8x1_S128x8_d0_3 x 0 (ix2 t h) = x (ix4 0 t h 0) := by
  unfold Ideal.hostReduceAdd
  rw [zero_add]
  refine Finset.sum_eq_single_of_mem (ix4 0 t h 0) (Finset.mem_filter.mpr ⟨Finset.mem_univ _, drop_one ..⟩) ?_
  intro i hi hne
  refine absurd ?_ hne
  obtain ⟨p, q, r, u, rfl⟩ := ix4_ex i
  have e := (Finset.mem_filter.mp hi).2
  rw [drop_one] at e
  have e0 : q = t := congrFun e 0
  have e1 : r = h := congrFun e 1
  subst e0 e1
  rw [show p = 0 from Subsingleton.elim _ _, show u = 0 from Subsingleton.elim _ _]

/-- The causal condition, as the program computes it. -/
theorem causal_at (t s : Fin 128) : Scalar.select (IntOp.cmpi CmpIPredicate.sge (IntOp.addi (BitVec.ofNat 32 t.val) 0#32) (BitVec.ofNat 32 s.val)) 1#1 0#1
    = if s ≤ t then 1#1 else 0#1 := by
  revert t s; decide +kernel
theorem select_ite {α : Type} (p : Prop) [Decidable p] (a b : α) :
    Scalar.select (if p then 1#1 else 0#1) a b = if p then a else b := by
  split <;> simp [Scalar.select]
theorem sitofp_zero : (FloatOps.sitofp FTy.f32 (0#32 : BitVec 32) : Ideal .f32) = (0 : EReal) := by
  simp [FloatOps.sitofp]

section
variable (x0 : Vec Ideal S8192x8192 .f32) (x1 : Vec Ideal S8192x8192 .f32) (x2 x3 : Vec Ideal S512 .f32) (x4 : Vec Ideal S8x128x128 .f32) (x5 : Vec Ideal S8x128 .f32) (x6 : Vec Ideal S8192x512 .f32)

theorem v12_at (r : Fin 8192) (c : Fin 512) : val_main_v12 (F := Ideal) x0 (ix2 r c) = gelu (x0 (ix2 r ⟨2048 + c.val, by omega⟩)) := by
  unfold gelu
  pointwise [val_main_v12, val_main_v3, val_main_v2, val_main_cst, val_main_v0, val_main_v11, val_main_v10, val_main_cst_1, val_main_v6, val_main_v5, val_main_v4, val_main_cst_0]
/-- Row `r` of the mixed half after gelu. -/
def R (r : Fin 8192) (c : Fin 512) : EReal := gelu (x0 (ix2 r ⟨2560 + c.val, by omega⟩))
theorem v23_at (r : Fin 8192) (c : Fin 512) : val_main_v23 (F := Ideal) x0 (ix2 r c) = R x0 r c := by
  unfold R gelu
  pointwise [val_main_v23, val_main_v14, val_main_v13, val_main_cst_2, val_main_v1, val_main_v22, val_main_v21, val_main_cst_4, val_main_v17, val_main_v16, val_main_v15, val_main_cst_3]
theorem v27_at (r : Fin 8192) : val_main_v27 (F := Ideal) x0 (ix2 r 0) = mean (R x0 r) := by
  unfold mean
  pointwise [val_main_v27, val_main_v25, val_main_v24, val_main_v26, val_main_cst_6, val_main_cst_5, v23_at]
theorem v29_at (r : Fin 8192) (c : Fin 512) : val_main_v29 (F := Ideal) x0 (ix2 r c) = xc (R x0 r) c := by
  unfold xc
  pointwise [val_main_v29, val_main_v28, v27_at, v23_at]
theorem v36_at (r : Fin 8192) : val_main_v36 (F := Ideal) x0 (ix2 r 0) = var (R x0 r) := by
  unfold var
  pointwise [val_main_v36, val_main_v34, val_main_v32, val_main_v31, val_main_v30, v29_at, val_main_v33, val_main_cst_8, val_main_v35, val_main_cst_9, val_main_cst_7]
theorem v37_at (r : Fin 8192) : val_main_v37 (F := Ideal) x0 (ix2 r 0) = rs (R x0 r) := by
  unfold rs
  pointwise [val_main_v37, v36_at]
theorem v40_at (r : Fin 8192) : val_main_v40 (F := Ideal) x0 (ix2 r 0) = drs (R x0 r) := by
  unfold drs
  pointwise [val_main_v40, val_main_v39, val_main_cst_10, val_main_v38, v36_at, v37_at]
theorem v42_at (r : Fin 8192) (c : Fin 512) : val_main_v42 (F := Ideal) x0 (ix2 r c) = xh (R x0 r) c := by
  unfold xh
  pointwise [val_main_v42, val_main_v41, v29_at, v37_at]
theorem v48_at (r : Fin 8192) (c : Fin 512) : val_main_v48 (F := Ideal) x0 x2 x3 (ix2 r c) = nv (R x0 r) (wg x2) (wg x3) c := by
  unfold nv wg
  pointwise [val_main_v48, val_main_v47, val_main_v46, val_main_v45, val_main_v44, val_main_v43, v42_at]
theorem v49_at (i : Fin 64) (t : Fin 128) (h : Fin 8) (l : Fin 64) : val_main_v49 (F := Ideal) x0 x2 x3 (ix4 i t h l)
    = nv (R x0 (pos i t)) (wg x2) (wg x3) (col h l) := by
  rw [← v48_at]
  pointwise [val_main_v49]
  congr 2
  · exact Fin.ext (by show i.val * 128 + t.val = 128 * i.val + t.val; omega)
  · exact Fin.ext (by show h.val * 64 + l.val = 64 * h.val + l.val; omega)
theorem v53_at (h : Fin 8) (t s : Fin 128) : val_main_v53_0 (F := Ideal) x4 (ix3 h t s) = cw (ww x4) h t s := by
  pointwise [val_main_v53_0, val_main_v53_1, val_main_v52, val_main_v51, val_main_call0_v5, val_main_call0_c_0, val_main_call0_v4, val_main_call0_v3, val_main_call0_v2, val_main_call0_v1, val_main_call0_c, val_main_call0_v0, val_main_v50, val_main_c, val_main_call1_v2, val_main_call1_v0, val_main_c_11]
  rw [causal_at, select_ite, sitofp_zero]; rfl

/-! ## The mixing product -/

theorem v61_at (i : Fin 64) (t : Fin 128) (h : Fin 8) (l : Fin 64) : val_main_v61 (F := Ideal) x0 x2 x3 x4 x5 (ix2 (pos i t) (col h l))
    = mix (wB x0 i) (wg x2) (wg x3) (ww x4) (wbs x5) t (col h l) := by
  have e : val_main_v61 (F := Ideal) x0 x2 x3 x4 x5 (ix2 (pos i t) (col h l)) = val_main_v60 (F := Ideal) x0 x2 x3 x4 x5 (ix4 i t h l) := by
    pointwise [val_main_v61, pos, col]
  rw [e]
  unfold mix
  rw [grp_col]
  have e2 : val_main_v60 (F := Ideal) x0 x2 x3 x4 x5 (ix4 i t h l)
      = (∑ s, nv (R x0 (pos i s)) (wg x2) (wg x3) (col h l) * cw (ww x4) h t s) + x5 (ix2 h t) := by
    pointwise [val_main_v60, val_main_v55, val_main_v54, v49_at, v53_at, val_main_v59, val_main_v58, val_main_v57, val_main_v56]
  rw [e2]
  congr 1
  exact Finset.sum_congr rfl fun s _ => mul_comm _ _

/-! ## The product's gradients -/

theorem v65_at (i : Fin 64) (t : Fin 128) (h : Fin 8) (l : Fin 64) : val_main_v65 (F := Ideal) x0 x6 (ix4 i t h l)
    = dm (wA x0 i) (wY x6 i) t (col h l) := by
  have e : val_main_v65 (F := Ideal) x0 x6 (ix4 i t h l) = val_main_v63 (F := Ideal) x0 x6 (ix2 (pos i t) (col h l)) := by
    pointwise [val_main_v65]
    congr 2
    · exact Fin.ext (by show i.val * 128 + t.val = 128 * i.val + t.val; omega)
    · exact Fin.ext (by show h.val * 64 + l.val = 64 * h.val + l.val; omega)
  rw [e]
  unfold dm
  pointwise [val_main_v63, v12_at, wA, wY]
theorem v66_at (t : Fin 128) (h : Fin 8) : val_main_v66 (F := Ideal) x0 x6 (ix2 t h) = aB x0 x6 h t := by
  unfold aB gB
  have e : val_main_v66 (F := Ideal) x0 x6 (ix2 t h) = Ideal.hostReduceAdd reducesTo_S64x128x8x64_S128x8_d0_3 (val_main_v65 (F := Ideal) x0 x6) 0 (ix2 t h) := by
    pointwise [val_main_v66, val_main_cst_12]
  rw [e, ends_big]
  simp only [v65_at]
theorem v68_at (t : Fin 128) (h : Fin 8) : val_main_v68 (F := Ideal) x0 x6 (ix2 t h) = aB x0 x6 h t := by
  have e : val_main_v68 (F := Ideal) x0 x6 (ix2 t h) = Ideal.hostReduceAdd reducesTo_S1x128x8x1_S128x8_d0_3 (val_main_v67 (F := Ideal) x0 x6) 0 (ix2 t h) := by
    pointwise [val_main_v68, val_main_cst_13]
  rw [e, ends_one, ← v66_at]
  pointwise [val_main_v67]
theorem v134_at (t : Fin 128) (h : Fin 8) : val_main_v134 (F := Ideal) x0 x6 (ix2 t h) = aB x0 x6 h t := by
  pointwise [val_main_v134, val_main_v71, val_main_v70, val_main_cst_14, val_main_v69, v68_at]
  rw [Fin.sum_univ_one]
theorem v135_at (t k : Fin 128) : val_main_v135 (F := Ideal) x0 x6 (ix2 t k) = if hk : k.val < 8 then aB x0 x6 ⟨k.val, hk⟩ t else 0 := by
  pointwise [val_main_v135, val_main_call3_v0, val_main_c_31, v134_at, sitofp_zero]
theorem v72_at (i : Fin 64) (t : Fin 128) (h : Fin 8) (l : Fin 64) : val_main_v72 (F := Ideal) x0 x6 (ix4 h i l t)
    = dm (wA x0 i) (wY x6 i) t (col h l) := by
  pointwise [val_main_v72, v65_at]
theorem v76_at (h : Fin 8) (t s : Fin 128) : val_main_v76 (F := Ideal) x0 x2 x3 x6 (ix3 h t s) = aW x0 x2 x3 x6 h t s := by
  have e : val_main_v76 (F := Ideal) x0 x2 x3 x6 (ix3 h t s) = if s ≤ t then ∑ i : Fin 64, ∑ l : Fin 64, dm (wA x0 i) (wY x6 i) t (col h l) * nv (R x0 (pos i s)) (wg x2) (wg x3) (col h l) else 0 := by
    pointwise [val_main_v76, val_main_v73, v72_at, v49_at, val_main_call2_v0, val_main_call2_cst, val_main_v53_1, val_main_v52, val_main_v51, val_main_call0_v5, val_main_call0_c_0, val_main_call0_v4, val_main_call0_v3, val_main_call0_v2, val_main_call0_v1, val_main_call0_c, val_main_call0_v0, val_main_v50, val_main_c]
    rw [causal_at, select_ite]
  rw [e]
  unfold aW gW
  by_cases hst : s ≤ t
  · simp only [if_pos hst]; rfl
  · simp only [if_neg hst, Finset.sum_const_zero]
theorem v77_at (i : Fin 64) (s : Fin 128) (c : Fin 512) : val_main_v77 (F := Ideal) x0 x4 x6 (ix2 (pos i s) c)
    = dv (wA x0 i) (wY x6 i) (ww x4) s c := by
  obtain ⟨h, l, rfl⟩ : ∃ (h : Fin 8) (l : Fin 64), c = col h l :=
    ⟨⟨c.val / 64, by omega⟩, ⟨c.val % 64, by omega⟩, Fin.ext (by show c.val = 64 * (c.val / 64) + c.val % 64; omega)⟩
  have e : val_main_v77 (F := Ideal) x0 x4 x6 (ix2 (pos i s) (col h l)) = val_main_v75 (F := Ideal) x0 x4 x6 (ix4 i s h l) := by
    pointwise [val_main_v77, pos, col]
  rw [e]
  unfold dv
  rw [grp_col]
  pointwise [val_main_v75, val_main_v74, v72_at, v53_at]

/-! ## The norm's gain and bias -/

theorem sum_pos (f : Fin 8192 → EReal) : ∑ r, f r = ∑ i : Fin 64, ∑ t : Fin 128, f (pos i t) := sum_mul_add (a := 64) (b := 128) f

theorem v133_at (c : Fin 512) : val_main_v133 (F := Ideal) x0 x4 x6 (ix2 0 c) = aC x0 x4 x6 c := by
  have e : val_main_v133 (F := Ideal) x0 x4 x6 (ix2 0 c) = ∑ r, val_main_v77 (F := Ideal) x0 x4 x6 (ix2 r c) := by
    pointwise [val_main_v133, val_main_v80, val_main_v79, val_main_v78, val_main_cst_15, val_main_cst_16]
    rw [Fin.sum_univ_one]
  rw [e, sum_pos]
  simp only [v77_at]; rfl
theorem v132_at (c : Fin 512) : val_main_v132 (F := Ideal) x0 x4 x6 (ix2 0 c) = aG x0 x4 x6 c := by
  have e : val_main_v132 (F := Ideal) x0 x4 x6 (ix2 0 c) = ∑ r, xh (R x0 r) c * val_main_v77 (F := Ideal) x0 x4 x6 (ix2 r c) := by
    pointwise [val_main_v132, val_main_v86, val_main_v83, val_main_v82, val_main_v81, val_main_cst_17, val_main_cst_18, v42_at]
    rw [Fin.sum_univ_one]
  rw [e, sum_pos]
  simp only [v77_at]; rfl

/-! ## The gradient to the projection -/

theorem v96_at (r : Fin 8192) (c : Fin 512) : val_main_v96 (F := Ideal) x0 x2 x4 x6 (ix2 r c)
    = dq (R x0 r) (wg x2) (fun k => val_main_v77 (F := Ideal) x0 x4 x6 (ix2 r k)) := by
  unfold dq wg
  pointwise [val_main_v96, val_main_v95, val_main_v94, val_main_v93, val_main_cst_20, val_main_cst_21, val_main_v92, val_main_v89, val_main_v88, val_main_cst_19, val_main_v87, val_main_v85, val_main_v84, val_main_v43, v29_at, v40_at]
  rw [Fin.sum_univ_one, v40_at]
theorem v100_at (r : Fin 8192) (c : Fin 512) : val_main_v100 (F := Ideal) x0 x2 x4 x6 (ix2 r c)
    = da (R x0 r) (wg x2) (fun k => val_main_v77 (F := Ideal) x0 x4 x6 (ix2 r k)) c := by
  unfold da
  pointwise [val_main_v100, val_main_v99, val_main_v98, val_main_v97, val_main_v91, val_main_v90, val_main_v85, val_main_v84, val_main_v43, v29_at, v37_at, v96_at, wg]
theorem v108_at (r : Fin 8192) (c : Fin 512) : val_main_v108 (F := Ideal) x0 x2 x4 x6 (ix2 r c)
    = dx (R x0 r) (wg x2) (fun k => val_main_v77 (F := Ideal) x0 x4 x6 (ix2 r k)) c := by
  unfold dx
  pointwise [val_main_v108, val_main_v107, val_main_v106, val_main_v105, val_main_v104, val_main_cst_23, val_main_cst_24, val_main_v103, val_main_v102, val_main_v101, val_main_cst_22, v100_at]
  rw [Fin.sum_univ_one]
theorem v118_at (r : Fin 8192) (c : Fin 512) : val_main_v118 (F := Ideal) x0 x2 x4 x6 (ix2 r c)
    = dgelu (x0 (ix2 r ⟨2560 + c.val, by omega⟩)) (dx (R x0 r) (wg x2) (fun k => val_main_v77 (F := Ideal) x0 x4 x6 (ix2 r k)) c) := by
  unfold dgelu
  pointwise [val_main_v118, val_main_v117, val_main_v116, val_main_cst_27, val_main_v115, val_main_v114, val_main_cst_26, val_main_v113, val_main_v112, val_main_v111, val_main_cst_25, val_main_v110, val_main_v109, v108_at,
    val_main_v14, val_main_v13, val_main_cst_2, val_main_v1, val_main_v22, val_main_v21, val_main_cst_4, val_main_v17, val_main_v16, val_main_v15, val_main_cst_3, val_main_v20, val_main_v19, val_main_v18]
theorem v118_chunk (i : Fin 64) (s : Fin 128) (c : Fin 512) : val_main_v118 (F := Ideal) x0 x2 x4 x6 (ix2 (pos i s) c)
    = aV x0 x2 x4 x6 i s c := by
  rw [v118_at]
  simp only [v77_at]; rfl
theorem v128_chunk (i : Fin 64) (t : Fin 128) (c : Fin 512) : val_main_v128 (F := Ideal) x0 x2 x3 x4 x5 x6 (ix2 (pos i t) c)
    = aU x0 x2 x3 x4 x5 x6 i t c := by
  obtain ⟨h, l, rfl⟩ : ∃ (h : Fin 8) (l : Fin 64), c = col h l :=
    ⟨⟨c.val / 64, by omega⟩, ⟨c.val % 64, by omega⟩, Fin.ext (by show c.val = 64 * (c.val / 64) + c.val % 64; omega)⟩
  unfold aU gU dgelu wA wY
  pointwise [val_main_v128, val_main_v127, val_main_v126, val_main_cst_30, val_main_v125, val_main_v124, val_main_cst_29, val_main_v123, val_main_v122, val_main_v121, val_main_cst_28, val_main_v120, val_main_v119, val_main_v64, v61_at,
    val_main_v3, val_main_v2, val_main_cst, val_main_v0, val_main_v11, val_main_v10, val_main_cst_1, val_main_v6, val_main_v5, val_main_v4, val_main_cst_0, val_main_v9, val_main_v8, val_main_v7]

theorem v131_U (i : Fin 64) (t : Fin 128) (c : Fin 512) : val_main_v131 (F := Ideal) x0 x1 x2 x3 x4 x5 x6 (ix2 (pos i t) ⟨2048 + c.val, by omega⟩)
    = aU x0 x2 x3 x4 x5 x6 i t c := by
  rw [← v128_chunk]
  pointwise [val_main_v131]
theorem v131_V (i : Fin 64) (t : Fin 128) (c : Fin 512) : val_main_v131 (F := Ideal) x0 x1 x2 x3 x4 x5 x6 (ix2 (pos i t) ⟨2560 + c.val, by omega⟩)
    = aV x0 x2 x4 x6 i t c := by
  rw [← v118_chunk]
  pointwise [val_main_v131]
  simp (disch := omega) only [dif_pos, dif_neg, show 2560 + c.val - 2048 - 512 = c.val by omega]
theorem v131_rest (r k : Fin 8192) (hk : k.val < 2048 ∨ 3072 ≤ k.val) : val_main_v131 (F := Ideal) x0 x1 x2 x3 x4 x5 x6 (ix2 r k) = x1 (ix2 r k) := by
  pointwise [val_main_v131]
  rcases hk with hk | hk
  · simp (disch := omega) only [dif_pos]
    pointwise [val_main_v129]
  · simp (disch := omega) only [dif_neg]
    pointwise [val_main_v130]
    congr 2
    exact Fin.ext (by show 3072 + (k.val - 2048 - 512 - 512) = k.val; omega)
end
end Cert.ReferenceIdeal.Val
end
-- ==== Proof.Meet.lean ====
/-
  The gating gradient's kernel and its reference leave the same five arrays.
-/
module

public import proofs.«01_k».proof.Defs
public import proofs.«01_k».proof.Proof.KFold
public import proofs.«01_k».proof.Proof.KGrad
public import proofs.«01_k».proof.Proof.RVal
public import proofs.«01_k».proof.Proof.Gen.ReferenceIdeal.Run

@[expose] public section

set_option maxRecDepth 16384

noncomputable section

namespace Cert.Meet

open Idealize.ShloMosaic Idealize.ShloMosaic.TcCoe Idealize.SL.Sem Cert.Gating Cert.KernelIdeal.Out
open Cert.KernelIdeal (S8192x8192 S1x512 S8x128x128 S128x128)

variable (m : (ℓ : Loc Cert.KernelIdeal.nD Cert.KernelIdeal.τ Cert.KernelIdeal.sig) → Buf (Elt Ideal) ℓ) (c : Dev Cert.KernelIdeal.nD)

/-- A column of the projection is one of the gate's, one of the mixed half's, or neither. -/
theorem col_cases (k : Fin 8192) : (∃ l : Fin 512, k = ⟨2048 + l.val, by omega⟩) ∨ (∃ l : Fin 512, k = ⟨2560 + l.val, by omega⟩)
    ∨ (k.val < 2048 ∨ 3072 ≤ k.val) := by
  by_cases h0 : k.val < 2048
  · exact .inr (.inr (.inl h0))
  by_cases h1 : k.val < 2560
  · exact .inl ⟨⟨k.val - 2048, by omega⟩, Fin.ext (by show k.val = 2048 + (k.val - 2048); omega)⟩
  by_cases h2 : k.val < 3072
  · exact .inr (.inl ⟨⟨k.val - 2560, by omega⟩, Fin.ext (by show k.val = 2560 + (k.val - 2560); omega)⟩)
  · exact .inr (.inr (.inr (by omega)))
theorem row_cases (r : Fin 8192) : ∃ (i : Fin 64) (t : Fin 128), r = pos i t :=
  ⟨⟨r.val / 128, by omega⟩, ⟨r.val % 128, by omega⟩, Fin.ext (by show r.val = 128 * (r.val / 128) + r.val % 128; omega)⟩

theorem meet0 : Cert.ReferenceIdeal.Read.val_main_v131 (F := Ideal) (argP m c) (argD m c) (argG m c) (argB m c) (argW m c) (argS m c) (argY m c)
    = (Cert.KernelIdeal.Gen.dats m 0 c).arrAt 6 Cert.KernelIdeal.cfg0.N := by
  funext i
  obtain ⟨r, k, rfl⟩ : ∃ r k : Fin 8192, i = ix2 r k := ⟨i 0, i 1, by funext a; match a with | ⟨0, _⟩ => rfl | ⟨1, _⟩ => rfl⟩
  rcases col_cases k with ⟨l, rfl⟩ | ⟨l, rfl⟩ | h
  · obtain ⟨j, t, rfl⟩ := row_cases r
    exact (Cert.ReferenceIdeal.Val.v131_U ..).trans (final6_U m c j t l).symm
  · obtain ⟨j, t, rfl⟩ := row_cases r
    exact (Cert.ReferenceIdeal.Val.v131_V ..).trans (final6_V m c j t l).symm
  · exact (Cert.ReferenceIdeal.Val.v131_rest _ _ _ _ _ _ _ _ _ h).trans (outside6 m c r k h).symm
theorem meet1 : Cert.ReferenceIdeal.Read.val_main_v132 (F := Ideal) (argP m c) (argW m c) (argY m c) = res7 m c := by
  funext i
  obtain ⟨r, k, rfl⟩ : ∃ (r : Fin 1) (k : Fin 512), i = ix2 r k := ⟨i 0, i 1, by funext a; match a with | ⟨0, _⟩ => rfl | ⟨1, _⟩ => rfl⟩
  obtain rfl : r = 0 := Subsingleton.elim _ _
  exact Cert.ReferenceIdeal.Val.v132_at ..
theorem meet2 : Cert.ReferenceIdeal.Read.val_main_v133 (F := Ideal) (argP m c) (argW m c) (argY m c) = res8 m c := by
  funext i
  obtain ⟨r, k, rfl⟩ : ∃ (r : Fin 1) (k : Fin 512), i = ix2 r k := ⟨i 0, i 1, by funext a; match a with | ⟨0, _⟩ => rfl | ⟨1, _⟩ => rfl⟩
  obtain rfl : r = 0 := Subsingleton.elim _ _
  exact Cert.ReferenceIdeal.Val.v133_at ..
theorem meet3 : Cert.ReferenceIdeal.Read.val_main_v76 (F := Ideal) (argP m c) (argG m c) (argB m c) (argY m c) = res9 m c := by
  funext i
  obtain ⟨h, r, k, rfl⟩ : ∃ (h : Fin 8) (r k : Fin 128), i = ix3 h r k :=
    ⟨i 0, i 1, i 2, by funext a; match a with | ⟨0, _⟩ => rfl | ⟨1, _⟩ => rfl | ⟨2, _⟩ => rfl⟩
  exact Cert.ReferenceIdeal.Val.v76_at ..
theorem meet4 : Cert.ReferenceIdeal.Read.val_main_v135 (F := Ideal) (argP m c) (argY m c) = res10 m c := by
  funext i
  obtain ⟨r, k, rfl⟩ : ∃ (r k : Fin 128), i = ix2 r k := ⟨i 0, i 1, by funext a; match a with | ⟨0, _⟩ => rfl | ⟨1, _⟩ => rfl⟩
  exact Cert.ReferenceIdeal.Val.v135_at ..

/-- Equal arguments give equal results. -/
theorem same0 {p p' d d' : Vec Ideal S8192x8192 .f32} {g g' b b' : Vec Ideal Cert.KernelIdeal.S512 .f32} {w w' : Vec Ideal S8x128x128 .f32}
    {s s' : Vec Ideal Cert.KernelIdeal.S8x128 .f32} {y y' : Vec Ideal Cert.KernelIdeal.S8192x512 .f32}
    (e0 : p' = p) (e1 : d' = d) (e2 : g' = g) (e3 : b' = b) (e4 : w' = w) (e5 : s' = s) (e6 : y' = y) :
    Cert.ReferenceIdeal.Read.val_main_v131 (F := Ideal) p' d' g' b' w' s' y' = Cert.ReferenceIdeal.Read.val_main_v131 (F := Ideal) p d g b w s y := by
  subst e0 e1 e2 e3 e4 e5 e6; rfl
theorem same1 {p p' : Vec Ideal S8192x8192 .f32} {w w' : Vec Ideal S8x128x128 .f32} {y y' : Vec Ideal Cert.KernelIdeal.S8192x512 .f32}
    (e0 : p' = p) (e4 : w' = w) (e6 : y' = y) :
    Cert.ReferenceIdeal.Read.val_main_v132 (F := Ideal) p' w' y' = Cert.ReferenceIdeal.Read.val_main_v132 (F := Ideal) p w y := by
  subst e0 e4 e6; rfl
theorem same2 {p p' : Vec Ideal S8192x8192 .f32} {w w' : Vec Ideal S8x128x128 .f32} {y y' : Vec Ideal Cert.KernelIdeal.S8192x512 .f32}
    (e0 : p' = p) (e4 : w' = w) (e6 : y' = y) :
    Cert.ReferenceIdeal.Read.val_main_v133 (F := Ideal) p' w' y' = Cert.ReferenceIdeal.Read.val_main_v133 (F := Ideal) p w y := by
  subst e0 e4 e6; rfl
theorem same3 {p p' : Vec Ideal S8192x8192 .f32} {g g' b b' : Vec Ideal Cert.KernelIdeal.S512 .f32} {y y' : Vec Ideal Cert.KernelIdeal.S8192x512 .f32}
    (e0 : p' = p) (e2 : g' = g) (e3 : b' = b) (e6 : y' = y) :
    Cert.ReferenceIdeal.Read.val_main_v76 (F := Ideal) p' g' b' y' = Cert.ReferenceIdeal.Read.val_main_v76 (F := Ideal) p g b y := by
  subst e0 e2 e3 e6; rfl
theorem same4 {p p' : Vec Ideal S8192x8192 .f32} {y y' : Vec Ideal Cert.KernelIdeal.S8192x512 .f32} (e0 : p' = p) (e6 : y' = y) :
    Cert.ReferenceIdeal.Read.val_main_v135 (F := Ideal) p' y' = Cert.ReferenceIdeal.Read.val_main_v135 (F := Ideal) p y := by
  subst e0 e6; rfl

theorem algebraic : Cert.algebraic_KernelIdeal_ReferenceIdeal (hKernelIdeal := Cert.KernelIdeal.Gen.facts) (hReferenceIdeal := Cert.ReferenceIdeal.Gen.facts) := by
  intro m g m' g' _ hm
  refine ⟨fun c => (Cert.KernelIdeal.Gen.dats m 0 c).arrAt 6 Cert.KernelIdeal.cfg0.N, fun c => res7 m c, fun c => res8 m c, fun c => res9 m c, fun c => res10 m c, ?_, ?_⟩
  · refine (θ_run _ _ _).mono (fun r h c => ?_) (Cert.KernelIdeal.Value.run_blocks m g)
    obtain ⟨h0, h1, h2, h3, h4, rest⟩ := h c
    exact ⟨h0, h1.trans (final7 m c), h2.trans (final8 m c), h3.trans (final9 m c), h4.trans (final10 m c), rest⟩
  · refine (θ_run _ _ _).mono (fun r h c => ?_) (Cert.ReferenceIdeal.Value.run m' g')
    obtain ⟨h0, h1, h2, h3, h4, rest⟩ := h c
    obtain ⟨a0, a1, a2, a3, a4, a5, a6⟩ := hm c
    refine ⟨h0.trans ?_, h1.trans ?_, h2.trans ?_, h3.trans ?_, h4.trans ?_, rest⟩
    · exact (Cert.ReferenceIdeal.Read.val_main_v131_eq _).trans ((same0 a0 a1 a2 a3 a4 a5 a6).trans (meet0 m c))
    · exact (Cert.ReferenceIdeal.Read.val_main_v132_eq _).trans ((same1 a0 a4 a6).trans (meet1 m c))
    · exact (Cert.ReferenceIdeal.Read.val_main_v133_eq _).trans ((same2 a0 a4 a6).trans (meet2 m c))
    · exact (Cert.ReferenceIdeal.Read.val_main_v76_eq _).trans ((same3 a0 a2 a3 a6).trans (meet3 m c))
    · exact (Cert.ReferenceIdeal.Read.val_main_v135_eq _).trans ((same4 a0 a6).trans (meet4 m c))

end Cert.Meet
end
-- ==== Proof.Product.lean ====
/-
  A contraction summed block by block, the way a product's grid carries it.
-/
module

public import proofs.«01_k».proof.Proof.Spec

@[expose] public section

noncomputable section

namespace Cert.Product

/-- A quantity that starts anew at every `nk`-th point and otherwise adds its point's part to what the point before left
    is, after point `nk * q + j`, the sum of the parts of the points `nk * q` to `nk * q + j`. -/
theorem run_sum {M : Type} [AddCommMonoid M] (N nk : ℕ) (f P : (n : ℕ) → n < N → M)
    (h0 : ∀ n h, n % nk = 0 → f n h = P n h)
    (h1 : ∀ n (h : n < N), ¬n % nk = 0 → f n h = f (n - 1) (by omega) + P n h) (q : ℕ) :
    ∀ j, j < nk → ∀ h : nk * q + j < N, f (nk * q + j) h = ∑ k : Fin (j + 1), P (nk * q + k.val) (by have := k.isLt; omega) := by
  intro j
  induction j with
  | zero =>
    intro hj h
    rw [h0 _ h (by simp), Fin.sum_univ_one]; rfl
  | succ j ih =>
    intro hj h
    have hm : (nk * q + (j + 1)) % nk = j + 1 := by rw [Nat.mul_add_mod, Nat.mod_eq_of_lt hj]
    rw [h1 _ h (by omega), Fin.sum_univ_castSucc]
    exact congrArg (· + _) (ih (by omega) (by omega))

/-- So if point `nk * q + i` adds the `i`-th block of `b` terms of a sum, the last point of the run holds the sum. -/
theorem run_total {M : Type} [AddCommMonoid M] (N nk b : ℕ) (f P : (n : ℕ) → n < N → M)
    (h0 : ∀ n h, n % nk = 0 → f n h = P n h)
    (h1 : ∀ n (h : n < N), ¬n % nk = 0 → f n h = f (n - 1) (by omega) + P n h)
    (q j : ℕ) (hj : j + 1 = nk) (h : nk * q + j < N) (T : ℕ → M)
    (hP : ∀ i, ∀ hi : nk * q + i < N, i < nk → P (nk * q + i) hi = ∑ l : Fin b, T (b * i + l.val)) :
    f (nk * q + j) h = ∑ k : Fin (nk * b), T k.val := by
  subst hj
  rw [run_sum N (j + 1) f P h0 h1 q j (by omega) h, Gating.sum_mul_add (a := j + 1) (b := b) fun k => T k.val]
  exact Finset.sum_congr rfl fun i _ => hP i.val _ i.isLt

/-- A sum over the numbers below `n` does not depend on how its terms continue past `n`. -/
def extend {M : Type} [AddCommMonoid M] {n : ℕ} (T : Fin n → M) (k : ℕ) : M := if h : k < n then T ⟨k, h⟩ else 0

theorem extend_of_lt {M : Type} [AddCommMonoid M] {n : ℕ} (T : Fin n → M) (k : ℕ) (h : k < n) : extend T k = T ⟨k, h⟩ := dif_pos h

theorem sum_extend {M : Type} [AddCommMonoid M] {n : ℕ} (T : Fin n → M) : ∑ k : Fin n, extend T k.val = ∑ k, T k :=
  Finset.sum_congr rfl fun k _ => extend_of_lt T k.val k.isLt

/-! ## Arrays with two axes -/

open Idealize.ShloMosaic Cert.Gating

/-- An entry read at a computed index is the entry at the pair of its coordinates. -/
theorem at2 {M : Type} {A B : ℕ} (f : (⟨2, ![A, B]⟩ : Shape).Idx → M) (i : (⟨2, ![A, B]⟩ : Shape).Idx) (r : Fin A) (k : Fin B)
    (h0 : (i 0).val = r.val) (h1 : (i 1).val = k.val) : f i = f (ix2 r k) :=
  congrArg f (by funext a; match a with | ⟨0, _⟩ => exact Fin.ext h0 | ⟨1, _⟩ => exact Fin.ext h1)

/-- Two arrays with the same entries are the same. -/
theorem ext2 {M : Type} {A B : ℕ} (f g : (⟨2, ![A, B]⟩ : Shape).Idx → M) (h : ∀ r k, f (ix2 r k) = g (ix2 r k)) : f = g := by
  funext i
  rw [at2 f i (i 0) (i 1) rfl rfl, at2 g i (i 0) (i 1) rfl rfl]
  exact h _ _

/-- Two arrays that agree on every tile of a grid whose points run through the tiles of a row of tiles first are the same. -/
theorem tiles {M : Type} {A B : ℕ} (tm tn q N : ℕ) (hm : 0 < tm) (hn : 0 < tn) (hA : A = tm * (N / q)) (hB : B = tn * q) (hN : N = q * (N / q))
    (f g : (⟨2, ![A, B]⟩ : Shape).Idx → M)
    (h : ∀ t : Fin N, ∀ (r : Fin tm) (k : Fin tn) (hr : tm * (t.val / q) + r.val < A) (hk : tn * (t.val % q) + k.val < B),
      f (ix2 ⟨tm * (t.val / q) + r.val, hr⟩ ⟨tn * (t.val % q) + k.val, hk⟩) = g (ix2 ⟨tm * (t.val / q) + r.val, hr⟩ ⟨tn * (t.val % q) + k.val, hk⟩)) :
    f = g := by
  refine ext2 f g fun r k => ?_
  have hk' : k.val / tn < q := Nat.div_lt_of_lt_mul (lt_of_lt_of_eq k.isLt hB)
  have hr' : r.val / tm < N / q := Nat.div_lt_of_lt_mul (lt_of_lt_of_eq r.isLt hA)
  have ht : q * (r.val / tm) + k.val / tn < N := by
    calc q * (r.val / tm) + k.val / tn < q * (r.val / tm) + q := Nat.add_lt_add_left hk' _
      _ = q * (r.val / tm + 1) := by ring
      _ ≤ q * (N / q) := Nat.mul_le_mul_left q hr'
      _ = N := hN.symm
  have e0 : (q * (r.val / tm) + k.val / tn) / q = r.val / tm := by
    rw [Nat.mul_add_div (lt_of_le_of_lt (Nat.zero_le _) hk'), Nat.div_eq_of_lt hk', add_zero]
  have e1 : (q * (r.val / tm) + k.val / tn) % q = k.val / tn := by
    rw [Nat.mul_add_mod, Nat.mod_eq_of_lt hk']
  have er : tm * ((q * (r.val / tm) + k.val / tn) / q) + r.val % tm = r.val := by rw [e0]; exact Nat.div_add_mod _ _
  have ek : tn * ((q * (r.val / tm) + k.val / tn) % q) + k.val % tn = k.val := by rw [e1]; exact Nat.div_add_mod _ _
  have e := h ⟨q * (r.val / tm) + k.val / tn, ht⟩ ⟨r.val % tm, Nat.mod_lt _ hm⟩ ⟨k.val % tn, Nat.mod_lt _ hn⟩ (by rw [er]; exact r.isLt) (by rw [ek]; exact k.isLt)
  have hr : (⟨tm * ((q * (r.val / tm) + k.val / tn) / q) + r.val % tm, by rw [er]; exact r.isLt⟩ : Fin A) = r := Fin.ext er
  have hk : (⟨tn * ((q * (r.val / tm) + k.val / tn) % q) + k.val % tn, by rw [ek]; exact k.isLt⟩ : Fin B) = k := Fin.ext ek
  dsimp only at e
  rw [hr, hk] at e
  exact e

/-- The start of a two-axis block, as the programs write it. -/
theorem zero2 : (![0, 0] : Fin 2 → ℕ) = fun _ => 0 := by funext a; match a with | ⟨0, _⟩ => rfl | ⟨1, _⟩ => rfl

end Cert.Product
end
-- ==== Proof.Mm2.lean ====
/-
  The input projection's gradient by its weight and by its bias: the kernel's two arrays are the reference's.
-/
module

public import proofs.«01_k».proof.Defs
public import proofs.«01_k».proof.Proof.Product
public import proofs.«01_k».proof.Proof.Gen.Kernel2Ideal.Value
public import proofs.«01_k».proof.Proof.Gen.Reference2Ideal.Run
public import proofs.«01_k».proof.Proof.Gen.Reference2Ideal.Read
public import Idealize.ShloMosaic.Lib.KernelVsHost

@[expose] public section

set_option maxRecDepth 16384

noncomputable section

namespace Cert.Kernel2Ideal.Val

open Cert.Kernel2Ideal Cert.Kernel2Ideal.Gen Idealize.ShloMosaic Idealize.ShloMosaic.TcCoe Idealize.SL.Sem Cert.Gating

variable (m : (ℓ : Loc nD τ sig) → Buf (Elt Ideal) ℓ) (c : Dev nD)

abbrev argA : (⟨2, ![8192, 1024]⟩ : Shape).Idx → EReal := m ((c : Thread nD τ).loc main_arg0)
abbrev argB : (⟨2, ![8192, 8192]⟩ : Shape).Idx → EReal := m ((c : Thread nD τ).loc main_arg1)

theorem index0 : ∀ t : Fin cfg0.N, win0_0.index t 0 = t.val % 8 ∧ win0_0.index t 1 = 0 :=
  (by decide +kernel : ∀ t : Fin grid0.N, win0_0.index t 0 = t.val % 8 ∧ win0_0.index t 1 = 0)
theorem index1 : ∀ t : Fin cfg0.N, win0_1.index t 0 = t.val % 8 ∧ win0_1.index t 1 = t.val / 8 :=
  (by decide +kernel : ∀ t : Fin grid0.N, win0_1.index t 0 = t.val % 8 ∧ win0_1.index t 1 = t.val / 8)
theorem lt32 (t : Fin cfg0.N) : t.val < 32 := lt_of_lt_of_eq t.isLt (show cfg0.N = 32 from N_0)

abbrev b0 (t : Fin cfg0.N) : Vec Ideal S1024x1024 .bf16 := iblk m c 0 t
abbrev b1 (t : Fin cfg0.N) : Vec Ideal S1024x2048 .f32 := iblk m c 1 t

theorem b0_at (t : Fin cfg0.N) (j r : Fin 1024) :
    b0 m c t (ix2 j r) = argA m c (ix2 ⟨1024 * (t.val % 8) + j.val, by omega⟩ r) := by
  unfold b0 iblk
  rw [View.read_apply]
  show V m c main_arg0 _ = _
  rw [V_main_arg0]
  unfold argA
  congr 1
  funext a
  apply Fin.ext
  match a with
  | ⟨0, _⟩ => show win0_0.index t 0 * 1024 + 1 * j.val = 1024 * (t.val % 8) + j.val; rw [(index0 t).1]; omega
  | ⟨1, _⟩ => show win0_0.index t 1 * 1024 + 1 * r.val = r.val; rw [(index0 t).2]; omega
theorem b1_at (t : Fin cfg0.N) (j : Fin 1024) (k : Fin 2048) :
    b1 m c t (ix2 j k) = argB m c (ix2 ⟨1024 * (t.val % 8) + j.val, by omega⟩ ⟨2048 * (t.val / 8) + k.val, by have := lt32 t; omega⟩) := by
  unfold b1 iblk
  rw [View.read_apply]
  show V m c main_arg1 _ = _
  rw [V_main_arg1]
  unfold argB
  congr 1
  funext a
  apply Fin.ext
  match a with
  | ⟨0, _⟩ => show win0_1.index t 0 * 1024 + 1 * j.val = 1024 * (t.val % 8) + j.val; rw [(index1 t).1]; omega
  | ⟨1, _⟩ => show win0_1.index t 1 * 2048 + 1 * k.val = 2048 * (t.val / 8) + k.val; rw [(index1 t).2]; omega

theorem hz : (![0, 0] : Fin 2 → ℕ) = fun _ => 0 := by funext a; match a with | ⟨0, _⟩ => rfl | ⟨1, _⟩ => rfl

/-! ## One point -/

theorem sc_A (t : Fin cfg0.N) (h0 : t.val % 8 = 0) (h1 : ¬1 ≤ t.val % 8) (h2 : ¬t.val % 8 = 7) :
    (outsAt0 m c t.val t.isLt).2.2 = k0_pay2 (b0 m c t) (b1 m c t) := by
  rw [outsAt0_A m c t h0 h1 h2 h0]
  dsimp only
  unfold sout0_A_0
  rw [View.read_writes_eq_canon _ _ _ (fun _ => scover0_A_0 ..)]
  unfold kernelRun0_A
  dsimp only
  sl_unfold_words
  rw [View.canon_unit_zero hz]
  simp only [View.readAt_eq_ld, (hs0_0 t).read_unread, (hs0_1 t).read_unread, View.ld_unit_zero (S := S1024x1024) hz, View.ld_unit_zero (S := S1024x2048) hz]
theorem sc_B (t : Fin cfg0.N) (h0 : ¬t.val % 8 = 0) (h1 : 1 ≤ t.val % 8) (h2 : ¬t.val % 8 = 7) :
    (outsAt0 m c t.val t.isLt).2.2 = k0_pay3 (b0 m c t) (b1 m c t) (outsAt0 m c (t.val - 1) (Nat.lt_of_le_of_lt (Nat.sub_le _ _) t.isLt)).2.2 := by
  rw [outsAt0_B m c t h0 h1 h2 h0]
  dsimp only
  unfold sout0_B_0
  rw [View.read_writes_eq_canon _ _ _ (fun _ => scover0_B_0 ..)]
  unfold kernelRun0_B
  dsimp only
  sl_unfold_words
  rw [View.canon_unit_zero hz]
  simp only [View.readAt_eq_ld, (hs0_0 t).read_unread, (hs0_1 t).read_unread, (Memref.isWhole_whole _).read_unread, View.ld_unit_zero (S := S1024x1024) hz, View.ld_unit_zero (S := S1024x2048) hz]
theorem sc_C (t : Fin cfg0.N) (h0 : ¬t.val % 8 = 0) (h1 : 1 ≤ t.val % 8) (h2 : t.val % 8 = 7) :
    (outsAt0 m c t.val t.isLt).2.2 = k0_pay3 (b0 m c t) (b1 m c t) (outsAt0 m c (t.val - 1) (Nat.lt_of_le_of_lt (Nat.sub_le _ _) t.isLt)).2.2 := by
  rw [outsAt0_C m c t h0 h1 h2 h0]
  dsimp only
  unfold sout0_C_0
  rw [View.read_writes_eq_canon _ _ _ (fun _ => scover0_C_0 ..)]
  unfold kernelRun0_C
  dsimp only
  sl_unfold_words
  rw [View.canon_unit_zero hz]
  simp only [View.readAt_eq_ld, (hs0_0 t).read_unread, (hs0_1 t).read_unread, (Memref.isWhole_whole _).read_unread, View.ld_unit_zero (S := S1024x1024) hz, View.ld_unit_zero (S := S1024x2048) hz]
theorem out_C (t : Fin cfg0.N) (h0 : ¬t.val % 8 = 0) (h1 : 1 ≤ t.val % 8) (h2 : t.val % 8 = 7) :
    (outsAt0 m c t.val t.isLt).1 = k0_pay4 (outsAt0 m c t.val t.isLt).2.2 := by
  rw [sc_C m c t h0 h1 h2, outsAt0_C m c t h0 h1 h2 h0]
  dsimp only
  unfold out0_C_2
  rw [View.read_writes_eq_canon _ _ _ (fun _ => cover0_C_2 ..)]
  unfold kernelRun0_C
  dsimp only
  sl_unfold_words
  rw [View.canon_unit_zero hz]
  simp only [View.readAt_eq_ld, (hs0_0 t).read_unread, (hs0_1 t).read_unread, (Memref.isWhole_whole _).read_unread, View.ld_unit_zero (S := S1024x1024) hz, View.ld_unit_zero (S := S1024x2048) hz]
  exact congrArg k0_pay4 (View.readCov_unit_zero (S := S1024x2048) _ hz _ _)

theorem row_A (t : Fin cfg0.N) (h0 : t.val % 8 = 0) (h1 : ¬1 ≤ t.val % 8) (h2 : ¬t.val % 8 = 7) :
    (outsAt0 m c t.val t.isLt).2.1 = k0_pay6 k0_pay5 (b1 m c t) := by
  rw [outsAt0_A m c t h0 h1 h2 h0]
  dsimp only
  unfold out0_A_3
  rw [View.read_writes_eq_canon _ _ _ (fun _ => cover0_A_3 ..)]
  unfold kernelRun0_A
  dsimp only
  sl_unfold_words
  rw [View.canon_cons_unit_zero (S := S1x2048) hz, View.readCov_unit_zero (S := S1x2048) _ hz]
  simp only [View.readAt_eq_ld, (hs0_1 t).read_unread, View.ld_unit_zero (S := S1024x2048) hz]
theorem row_B (t : Fin cfg0.N) (h0 : ¬t.val % 8 = 0) (h1 : 1 ≤ t.val % 8) (h2 : ¬t.val % 8 = 7) :
    (outsAt0 m c t.val t.isLt).2.1 = k0_pay6 (outsAt0 m c (t.val - 1) (Nat.lt_of_le_of_lt (Nat.sub_le _ _) t.isLt)).2.1 (b1 m c t) := by
  rw [outsAt0_B m c t h0 h1 h2 h0]
  dsimp only
  unfold out0_B_3
  rw [View.read_writes_eq_canon _ _ _ (fun _ => cover0_B_3 ..)]
  unfold kernelRun0_B
  dsimp only
  sl_unfold_words
  rw [View.canon_unit_zero hz]
  simp only [View.readAt_eq_ld, (hs0_1 t).read_unread, (hs0_3 t).read_unread, View.ld_unit_zero (S := S1x2048) hz, View.ld_unit_zero (S := S1024x2048) hz]
theorem row_C (t : Fin cfg0.N) (h0 : ¬t.val % 8 = 0) (h1 : 1 ≤ t.val % 8) (h2 : t.val % 8 = 7) :
    (outsAt0 m c t.val t.isLt).2.1 = k0_pay6 (outsAt0 m c (t.val - 1) (Nat.lt_of_le_of_lt (Nat.sub_le _ _) t.isLt)).2.1 (b1 m c t) := by
  rw [outsAt0_C m c t h0 h1 h2 h0]
  dsimp only
  unfold out0_C_3
  rw [View.read_writes_eq_canon _ _ _ (fun _ => cover0_C_3 ..)]
  unfold kernelRun0_C
  dsimp only
  sl_unfold_words
  rw [View.canon_unit_zero hz]
  simp only [View.readAt_eq_ld, (hs0_1 t).read_unread, (hs0_3 t).read_unread, View.ld_unit_zero (S := S1x2048) hz, View.ld_unit_zero (S := S1024x2048) hz]

/-- What one point adds at row `r` and column `k` of its block. -/
theorem pay_at (x0 : Vec Ideal S1024x1024 .bf16) (x1 : Vec Ideal S1024x2048 .f32) (r : Fin 1024) (k : Fin 2048) :
    k0_pay2 x0 x1 (ix2 r k) = ∑ j : Fin 1024, x0 (ix2 j r) * x1 (ix2 j k) := by
  pointwise [k0_pay2, k0_pay1]
theorem acc_at (x0 : Vec Ideal S1024x1024 .bf16) (x1 : Vec Ideal S1024x2048 .f32) (y : Vec Ideal S1024x2048 .f32) (r : Fin 1024) (k : Fin 2048) :
    k0_pay3 x0 x1 y (ix2 r k) = y (ix2 r k) + k0_pay2 x0 x1 (ix2 r k) := by
  pointwise [k0_pay3, k0_pay2]

theorem row_at (y : Vec Ideal S1x2048 .f32) (x1 : Vec Ideal S1024x2048 .f32) (z : Fin 1) (k : Fin 2048) :
    k0_pay6 y x1 (ix2 z k) = y (ix2 z k) + ∑ j : Fin 1024, x1 (ix2 j k) := by
  pointwise [k0_pay6]
theorem row_zero (z : Fin 1) (k : Fin 2048) : (k0_pay5 (F := Ideal)) (ix2 z k) = 0 := by
  pointwise [k0_pay5]

/-! ## The carried sum and the array -/

/-- What point `n` adds at row `r` and column `k` of its block. -/
def part (r : Fin 1024) (k : Fin 2048) (n : ℕ) (h : n < cfg0.N) : EReal := k0_pay2 (b0 m c ⟨n, h⟩) (b1 m c ⟨n, h⟩) (ix2 r k)

/-- The terms of the whole contraction at row `r` and column `k`. -/
def term (r : Fin 1024) (k : Fin 8192) (j : Fin 8192) : EReal := argA m c (ix2 j r) * argB m c (ix2 j k)

theorem part_at (r : Fin 1024) (k : Fin 8192) (i : ℕ) (h : 8 * (k.val / 2048) + i < cfg0.N) (hi : i < 8) :
    part m c r ⟨k.val % 2048, Nat.mod_lt _ (by decide)⟩ (8 * (k.val / 2048) + i) h = ∑ j : Fin 1024, Product.extend (term m c r k) (1024 * i + j.val) := by
  unfold part
  rw [pay_at]
  refine Finset.sum_congr rfl fun j _ => ?_
  rw [b0_at, b1_at, Product.extend_of_lt _ _ (by have := j.isLt; omega)]
  unfold term
  have e0 : (8 * (k.val / 2048) + i) / 8 = k.val / 2048 := by omega
  have e1 : (8 * (k.val / 2048) + i) % 8 = i := by omega
  congr 3 <;> apply Fin.ext
  · show 1024 * ((8 * (k.val / 2048) + i) % 8) + j.val = 1024 * i + j.val; rw [e1]
  · show 1024 * ((8 * (k.val / 2048) + i) % 8) + j.val = 1024 * i + j.val; rw [e1]
  · show 2048 * ((8 * (k.val / 2048) + i) / 8) + k.val % 2048 = k.val; omega

theorem array_at (r : Fin 1024) (k : Fin 8192) : Value.G2 m c (ix2 r k) = ∑ j, term m c r k j := by
  have hn : 8 * (k.val / 2048) + 7 < cfg0.N := lt_of_lt_of_eq (by omega) N_0.symm
  have hp : Value.pt2Of (ix2 r k) = 8 * (k.val / 2048) + 7 := by
    show 8 * (4 * (r.val / 1024 - 0) + 1 * (k.val / 2048 - 0)) + 7 = _; omega
  have hl : Value.loc2Of (ix2 r k) = ix2 r ⟨k.val % 2048, Nat.mod_lt _ (by decide)⟩ := by
    funext a; apply Fin.ext
    match a with
    | ⟨0, _⟩ => exact Nat.mod_eq_of_lt r.isLt
    | ⟨1, _⟩ => rfl
  unfold Value.G2
  rw [dif_pos (by rw [hp]; exact hn), hl, Value.fold0_congr m c _ _ _ (by omega) hp, ← Value.outsAt0_sweep m c _ hn,
    out_C m c ⟨_, hn⟩ (by show ¬(8 * (k.val / 2048) + 7) % 8 = 0; omega) (by show 1 ≤ (8 * (k.val / 2048) + 7) % 8; omega)
      (by show (8 * (k.val / 2048) + 7) % 8 = 7; omega), ← Product.sum_extend]
  refine Product.run_total cfg0.N 8 1024 (fun n h => (outsAt0 m c n h).2.2 (ix2 r _)) (part m c r _) (fun n h h0 => ?_) (fun n h h0 => ?_) _ 7 rfl hn _ (part_at m c r k)
  · exact congrFun (sc_A m c ⟨n, h⟩ h0 (by show ¬1 ≤ n % 8; omega) (by show ¬n % 8 = 7; omega)) _
  · by_cases h2 : n % 8 = 7
    · exact (congrFun (sc_C m c ⟨n, h⟩ h0 (by show 1 ≤ n % 8; omega) h2) _).trans (acc_at ..)
    · exact (congrFun (sc_B m c ⟨n, h⟩ h0 (by show 1 ≤ n % 8; omega) h2) _).trans (acc_at ..)

/-- What point `n` adds to the row of column sums. -/
def rowPart (k : Fin 2048) (n : ℕ) (h : n < cfg0.N) : EReal := ∑ j : Fin 1024, b1 m c ⟨n, h⟩ (ix2 j k)

theorem rowPart_at (k : Fin 8192) (i : ℕ) (h : 8 * (k.val / 2048) + i < cfg0.N) (hi : i < 8) :
    rowPart m c ⟨k.val % 2048, Nat.mod_lt _ (by decide)⟩ (8 * (k.val / 2048) + i) h
      = ∑ j : Fin 1024, Product.extend (fun j : Fin 8192 => argB m c (ix2 j k)) (1024 * i + j.val) := by
  unfold rowPart
  refine Finset.sum_congr rfl fun j _ => ?_
  rw [b1_at, Product.extend_of_lt _ _ (by have := j.isLt; omega)]
  refine congrArg (argB m c) (congrArg₂ ix2 (Fin.ext ?_) (Fin.ext ?_))
  · show 1024 * ((8 * (k.val / 2048) + i) % 8) + j.val = 1024 * i + j.val; omega
  · show 2048 * ((8 * (k.val / 2048) + i) / 8) + k.val % 2048 = k.val; omega

theorem row_array_at (z : Fin 1) (k : Fin 8192) : Value.G3 m c (ix2 z k) = ∑ j, argB m c (ix2 j k) := by
  have hn : 8 * (k.val / 2048) + 7 < cfg0.N := lt_of_lt_of_eq (by omega) N_0.symm
  have hp : Value.pt3Of (ix2 z k) = 8 * (k.val / 2048) + 7 := by
    show 8 * (4 * (z.val / 1 - 0) + 1 * (k.val / 2048 - 0)) + 7 = _; omega
  have hl : Value.loc3Of (ix2 z k) = ix2 z ⟨k.val % 2048, Nat.mod_lt _ (by decide)⟩ := by
    funext a; apply Fin.ext
    match a with
    | ⟨0, _⟩ => exact Nat.mod_eq_of_lt z.isLt
    | ⟨1, _⟩ => rfl
  unfold Value.G3
  rw [dif_pos (by rw [hp]; exact hn), hl, Value.fold0_congr m c _ _ _ (by omega) hp, ← Value.outsAt0_sweep m c _ hn, ← Product.sum_extend]
  refine Product.run_total cfg0.N 8 1024 (fun n h => (outsAt0 m c n h).2.1 (ix2 z _)) (rowPart m c _) (fun n h h0 => ?_) (fun n h h0 => ?_) _ 7 rfl hn _ (rowPart_at m c k)
  · exact (congrFun (row_A m c ⟨n, h⟩ h0 (by show ¬1 ≤ n % 8; omega) (by show ¬n % 8 = 7; omega)) _).trans
      ((row_at ..).trans ((congrArg (· + _) (row_zero ..)).trans (zero_add _)))
  · by_cases h2 : n % 8 = 7
    · exact (congrFun (row_C m c ⟨n, h⟩ h0 (by show 1 ≤ n % 8; omega) h2) _).trans (row_at ..)
    · exact (congrFun (row_B m c ⟨n, h⟩ h0 (by show 1 ≤ n % 8; omega) h2) _).trans (row_at ..)

/-! ## The reference -/

theorem reference_at (x0 : (⟨2, ![8192, 1024]⟩ : Shape).Idx → EReal) (x1 : (⟨2, ![8192, 8192]⟩ : Shape).Idx → EReal) (r : Fin 1024) (k : Fin 8192) :
    Cert.Reference2Ideal.Read.val_main_v13 (F := Ideal) x0 x1 (ix2 r k) = ∑ j : Fin 8192, x0 (ix2 j r) * x1 (ix2 j k) := by
  rw [Cert.Reference2Ideal.Read.val_main_v13_apply]
  show Cert.Reference2Ideal.Read.val_main_v12 (F := Ideal) x0 x1 (ix2 r k) = _
  rw [Cert.Reference2Ideal.Read.val_main_v12_apply, Cert.Reference2Ideal.Read.val_main_v11_apply]
  refine Finset.sum_congr rfl fun j _ => ?_
  rw [Cert.Reference2Ideal.Read.val_main_v7_apply, Cert.Reference2Ideal.Read.val_main_v2_apply, mul_comm]
  refine congrArg₂ (· * ·) (congrArg x0 (by funext a; match a with | ⟨0, _⟩ => rfl | ⟨1, _⟩ => rfl)) (congrArg x1 (funext fun a => Fin.ext ?_))
  have hj := j.isLt; have hk := k.isLt
  match a with
  | ⟨0, _⟩ => show (j.val * 8192 + k.val) / 8192 = j.val; omega
  | ⟨1, _⟩ => show (j.val * 8192 + k.val) % 8192 = k.val; omega
theorem reference_row_at (x1 : (⟨2, ![8192, 8192]⟩ : Shape).Idx → EReal) (z : Fin 1) (k : Fin 8192) :
    Cert.Reference2Ideal.Read.val_main_v14 (F := Ideal) x1 (ix2 z k) = ∑ j : Fin 8192, x1 (ix2 j k) := by
  rw [Cert.Reference2Ideal.Read.val_main_v14_apply, Cert.Reference2Ideal.Read.val_main_v10_apply, Cert.Reference2Ideal.Read.val_main_cst_2_apply,
    Fin.sum_univ_one, Cert.Reference2Ideal.Read.val_main_v9_apply, Cert.Reference2Ideal.Read.val_main_v8_apply, Cert.Reference2Ideal.Read.val_main_cst_1_apply]
  refine (congrArg₂ (· + ·) Ideal.ofBits_zero_f32 (congrArg₂ (· + ·) Ideal.ofBits_zero_f32 (Finset.sum_congr rfl fun j _ => congrArg x1 (funext fun a => Fin.ext ?_)))).trans
    ((zero_add _).trans (zero_add _))
  match a with
  | ⟨0, _⟩ => rfl
  | ⟨1, _⟩ => show 0 * 8192 + (z.val * 8192 + k.val) = k.val; have := z.isLt; omega

theorem meet : Cert.Reference2Ideal.Read.val_main_v13 (F := Ideal) (argA m c) (argB m c) = Value.G2 m c := by
  funext i
  obtain ⟨r, k, rfl⟩ : ∃ (r : Fin 1024) (k : Fin 8192), i = ix2 r k := ⟨i 0, i 1, by funext a; match a with | ⟨0, _⟩ => rfl | ⟨1, _⟩ => rfl⟩
  exact (reference_at ..).trans (array_at m c r k).symm
theorem meet_row : Cert.Reference2Ideal.Read.val_main_v14 (F := Ideal) (argB m c) = Value.G3 m c := by
  funext i
  obtain ⟨z, k, rfl⟩ : ∃ (z : Fin 1) (k : Fin 8192), i = ix2 z k := ⟨i 0, i 1, by funext a; match a with | ⟨0, _⟩ => rfl | ⟨1, _⟩ => rfl⟩
  exact (reference_row_at ..).trans (row_array_at m c z k).symm

theorem same {x0 x0' : (⟨2, ![8192, 1024]⟩ : Shape).Idx → EReal} {x1 x1' : (⟨2, ![8192, 8192]⟩ : Shape).Idx → EReal} (e0 : x0' = x0) (e1 : x1' = x1) :
    Cert.Reference2Ideal.Read.val_main_v13 (F := Ideal) x0' x1' = Cert.Reference2Ideal.Read.val_main_v13 (F := Ideal) x0 x1 := by
  subst e0 e1; rfl
theorem same_row {x1 x1' : (⟨2, ![8192, 8192]⟩ : Shape).Idx → EReal} (e1 : x1' = x1) :
    Cert.Reference2Ideal.Read.val_main_v14 (F := Ideal) x1' = Cert.Reference2Ideal.Read.val_main_v14 (F := Ideal) x1 := by
  subst e1; rfl

theorem algebraic : Cert.algebraic_Kernel2Ideal_Reference2Ideal (hKernel2Ideal := Cert.Kernel2Ideal.Gen.facts) (hReference2Ideal := Cert.Reference2Ideal.Gen.facts) := by
  intro m g m' g' _ hm
  refine ⟨fun c => (Value.G2 m c), fun c => Value.G3 m c, Cert.Kernel2Ideal.Value.run m g, ?_⟩
  refine (θ_run _ _ _).mono (fun r h c => ?_) (Cert.Reference2Ideal.Value.run m' g')
  obtain ⟨h0, h1, rest⟩ := h c
  obtain ⟨a0, a1⟩ := hm c
  exact ⟨h0.trans ((Cert.Reference2Ideal.Read.val_main_v13_eq _ _).trans ((same a0 a1).trans (meet m c))),
    h1.trans ((Cert.Reference2Ideal.Read.val_main_v14_eq _).trans ((same_row a1).trans (meet_row m c))), rest⟩

theorem frame_reference : Cert.quiescent_Reference2Ideal (hReference2Ideal := Cert.Reference2Ideal.Gen.facts) := fun m ρ _ =>
  (θ_run Cert.Reference2Ideal.defs _ _).mono (fun r h => ⟨fun c => (h c).2.2, sem_eq_zero_of_no_sems (by decide) r.2⟩)
    (Cert.Reference2Ideal.Value.run (F := Ideal) m ρ)

end Cert.Kernel2Ideal.Val
end
-- ==== Proof.Mm3.lean ====
/-
  The projection's gradient by its input: the kernel's array is the reference's.
-/
module

public import proofs.«01_k».proof.Defs
public import proofs.«01_k».proof.Proof.Product
public import proofs.«01_k».proof.Proof.Gen.Kernel3Ideal.Value
public import proofs.«01_k».proof.Proof.Gen.Reference3Ideal.Run
public import proofs.«01_k».proof.Proof.Gen.Reference3Ideal.Read
public import Idealize.ShloMosaic.Lib.KernelVsHost

@[expose] public section

set_option maxRecDepth 16384

noncomputable section

namespace Cert.Kernel3Ideal.Val

open Cert.Kernel3Ideal Cert.Kernel3Ideal.Gen Idealize.ShloMosaic Idealize.ShloMosaic.TcCoe Idealize.SL.Sem Cert.Gating

variable (m : (ℓ : Loc nD τ sig) → Buf (Elt Ideal) ℓ) (c : Dev nD)

abbrev argA : (⟨2, ![8192, 8192]⟩ : Shape).Idx → EReal := m ((c : Thread nD τ).loc main_arg0)
abbrev argB : (⟨2, ![1024, 8192]⟩ : Shape).Idx → EReal := m ((c : Thread nD τ).loc main_arg1)

theorem index0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
theorem index1 : ∀ t : Fin cfg0.N, win0_1.index t 0 = 0 ∧ win0_1.index t 1 = t.val % 8 :=
  (by decide +kernel : ∀ t : Fin grid0.N, win0_1.index t 0 = 0 ∧ win0_1.index t 1 = t.val % 8)
theorem lt64 (t : Fin cfg0.N) : t.val < 64 := lt_of_lt_of_eq t.isLt (show cfg0.N = 64 from N_0)

abbrev b0 (t : Fin cfg0.N) : Vec Ideal S1024x1024 .f32 := iblk m c 0 t
abbrev b1 (t : Fin cfg0.N) : Vec Ideal S1024x1024 .bf16 := iblk m c 1 t

theorem b0_at (t : Fin cfg0.N) (r k : Fin 1024) :
    b0 m c t (ix2 r k) = argA m c (ix2 ⟨1024 * (t.val / 8) + r.val, by have := lt64 t; omega⟩ ⟨1024 * (t.val % 8) + k.val, by omega⟩) := by
  unfold b0 iblk
  rw [View.read_apply]
  show V m c main_arg0 _ = _
  rw [V_main_arg0]
  unfold argA
  congr 1
  funext a
  apply Fin.ext
  match a with
  | ⟨0, _⟩ => show win0_0.index t 0 * 1024 + 1 * r.val = 1024 * (t.val / 8) + r.val; rw [(index0 t).1]; omega
  | ⟨1, _⟩ => show win0_0.index t 1 * 1024 + 1 * k.val = 1024 * (t.val % 8) + k.val; rw [(index0 t).2]; omega
theorem b1_at (t : Fin cfg0.N) (r k : Fin 1024) :
    b1 m c t (ix2 r k) = argB m c (ix2 r ⟨1024 * (t.val % 8) + k.val, by omega⟩) := by
  unfold b1 iblk
  rw [View.read_apply]
  show V m c main_arg1 _ = _
  rw [V_main_arg1]
  unfold argB
  congr 1
  funext a
  apply Fin.ext
  match a with
  | ⟨0, _⟩ => show win0_1.index t 0 * 1024 + 1 * r.val = r.val; rw [(index1 t).1]; omega
  | ⟨1, _⟩ => show win0_1.index t 1 * 1024 + 1 * k.val = 1024 * (t.val % 8) + k.val; rw [(index1 t).2]; omega

theorem hz : (![0, 0] : Fin 2 → ℕ) = fun _ => 0 := by funext a; match a with | ⟨0, _⟩ => rfl | ⟨1, _⟩ => rfl

/-! ## One point -/

theorem sc_A (t : Fin cfg0.N) (h0 : t.val % 8 = 0) (h1 : ¬1 ≤ t.val % 8) (h2 : ¬t.val % 8 = 7) :
    (outsAt0 m c t.val t.isLt).2 = k0_pay2 (b0 m c t) (b1 m c t) := by
  rw [outsAt0_A m c t h0 h1 h2]
  dsimp only
  unfold sout0_A_0
  rw [View.read_writes_eq_canon _ _ _ (fun _ => scover0_A_0 ..)]
  unfold kernelRun0_A
  dsimp only
  sl_unfold_words
  rw [View.canon_unit_zero hz]
  simp only [View.readAt_eq_ld, (hs0_0 t).read_unread, (hs0_1 t).read_unread, View.ld_unit_zero (S := S1024x1024) hz]
theorem sc_B (t : Fin cfg0.N) (h0 : ¬t.val % 8 = 0) (h1 : 1 ≤ t.val % 8) (h2 : ¬t.val % 8 = 7) :
    (outsAt0 m c t.val t.isLt).2 = k0_pay3 (b0 m c t) (b1 m c t) (outsAt0 m c (t.val - 1) (Nat.lt_of_le_of_lt (Nat.sub_le _ _) t.isLt)).2 := by
  rw [outsAt0_B m c t h0 h1 h2]
  dsimp only
  unfold sout0_B_0
  rw [View.read_writes_eq_canon _ _ _ (fun _ => scover0_B_0 ..)]
  unfold kernelRun0_B
  dsimp only
  sl_unfold_words
  rw [View.canon_unit_zero hz]
  simp only [View.readAt_eq_ld, (hs0_0 t).read_unread, (hs0_1 t).read_unread, (Memref.isWhole_whole _).read_unread, View.ld_unit_zero (S := S1024x1024) hz]
theorem sc_C (t : Fin cfg0.N) (h0 : ¬t.val % 8 = 0) (h1 : 1 ≤ t.val % 8) (h2 : t.val % 8 = 7) :
    (outsAt0 m c t.val t.isLt).2 = k0_pay3 (b0 m c t) (b1 m c t) (outsAt0 m c (t.val - 1) (Nat.lt_of_le_of_lt (Nat.sub_le _ _) t.isLt)).2 := by
  rw [outsAt0_C m c t h0 h1 h2]
  dsimp only
  unfold sout0_C_0
  rw [View.read_writes_eq_canon _ _ _ (fun _ => scover0_C_0 ..)]
  unfold kernelRun0_C
  dsimp only
  sl_unfold_words
  rw [View.canon_unit_zero hz]
  simp only [View.readAt_eq_ld, (hs0_0 t).read_unread, (hs0_1 t).read_unread, (Memref.isWhole_whole _).read_unread, View.ld_unit_zero (S := S1024x1024) hz]
theorem out_C (t : Fin cfg0.N) (h0 : ¬t.val % 8 = 0) (h1 : 1 ≤ t.val % 8) (h2 : t.val % 8 = 7) :
    (outsAt0 m c t.val t.isLt).1 = (outsAt0 m c t.val t.isLt).2 := by
  rw [sc_C m c t h0 h1 h2, outsAt0_C m c t h0 h1 h2]
  dsimp only
  unfold out0_C_2
  rw [View.read_writes_eq_canon _ _ _ (fun _ => cover0_C_2 ..)]
  unfold kernelRun0_C
  dsimp only
  sl_unfold_words
  rw [View.canon_unit_zero hz]
  simp only [View.readAt_eq_ld, (hs0_0 t).read_unread, (hs0_1 t).read_unread, (Memref.isWhole_whole _).read_unread, View.ld_unit_zero (S := S1024x1024) hz]
  exact View.readCov_unit_zero (S := S1024x1024) _ hz _ _

/-- What one point adds at row `r` and column `k` of its block. -/
theorem pay_at (x0 : Vec Ideal S1024x1024 .f32) (x1 : Vec Ideal S1024x1024 .bf16) (r k : Fin 1024) :
    k0_pay2 x0 x1 (ix2 r k) = ∑ j : Fin 1024, x0 (ix2 r j) * x1 (ix2 k j) := by
  pointwise [k0_pay2, k0_pay1]
  done
theorem acc_at (x0 : Vec Ideal S1024x1024 .f32) (x1 : Vec Ideal S1024x1024 .bf16) (y : Vec Ideal S1024x1024 .f32) (r k : Fin 1024) :
    k0_pay3 x0 x1 y (ix2 r k) = y (ix2 r k) + k0_pay2 x0 x1 (ix2 r k) := by
  pointwise [k0_pay3, k0_pay2]
  done

/-! ## The carried sum and the array -/

/-- What point `n` adds at row `r` and column `k` of its block. -/
def part (r k : Fin 1024) (n : ℕ) (h : n < cfg0.N) : EReal := k0_pay2 (b0 m c ⟨n, h⟩) (b1 m c ⟨n, h⟩) (ix2 r k)

/-- The terms of the whole contraction at row `r` and column `k`. -/
def term (r : Fin 8192) (k : Fin 1024) (j : Fin 8192) : EReal := argA m c (ix2 r j) * argB m c (ix2 k j)

theorem part_at (r : Fin 8192) (k : Fin 1024) (i : ℕ) (h : 8 * (r.val / 1024) + i < cfg0.N) (hi : i < 8) :
    part m c ⟨r.val % 1024, Nat.mod_lt _ (by decide)⟩ k (8 * (r.val / 1024) + i) h = ∑ j : Fin 1024, Product.extend (term m c r k) (1024 * i + j.val) := by
  unfold part
  rw [pay_at]
  refine Finset.sum_congr rfl fun j _ => ?_
  rw [b0_at, b1_at, Product.extend_of_lt _ _ (by have := j.isLt; omega)]
  unfold term
  have e0 : (8 * (r.val / 1024) + i) / 8 = r.val / 1024 := by omega
  have e1 : (8 * (r.val / 1024) + i) % 8 = i := by omega
  congr 3 <;> apply Fin.ext
  · show 1024 * ((8 * (r.val / 1024) + i) / 8) + r.val % 1024 = r.val; omega
  · show 1024 * ((8 * (r.val / 1024) + i) % 8) + j.val = 1024 * i + j.val; rw [e1]
  · show 1024 * ((8 * (r.val / 1024) + i) % 8) + j.val = 1024 * i + j.val; rw [e1]

theorem array_at (r : Fin 8192) (k : Fin 1024) : Value.G2 m c (ix2 r k) = ∑ j, term m c r k j := by
  have hn : 8 * (r.val / 1024) + 7 < cfg0.N := lt_of_lt_of_eq (by omega) N_0.symm
  have hp : Value.pt2Of (ix2 r k) = 8 * (r.val / 1024) + 7 := by
    show 8 * (1 * (r.val / 1024 - 0) + 1 * (k.val / 1024 - 0)) + 7 = _; omega
  have hl : Value.loc2Of (ix2 r k) = ix2 ⟨r.val % 1024, Nat.mod_lt _ (by decide)⟩ k := by
    funext a; apply Fin.ext
    match a with
    | ⟨0, _⟩ => rfl
    | ⟨1, _⟩ => exact Nat.mod_eq_of_lt k.isLt
  unfold Value.G2
  rw [dif_pos (by rw [hp]; exact hn), hl, Value.fold0_congr m c _ _ _ (by omega) hp, ← Value.outsAt0_sweep m c _ hn,
    out_C m c ⟨_, hn⟩ (by show ¬(8 * (r.val / 1024) + 7) % 8 = 0; omega) (by show 1 ≤ (8 * (r.val / 1024) + 7) % 8; omega)
      (by show (8 * (r.val / 1024) + 7) % 8 = 7; omega), ← Product.sum_extend]
  refine Product.run_total cfg0.N 8 1024 (fun n h => (outsAt0 m c n h).2 (ix2 _ k)) (part m c _ k) (fun n h h0 => ?_) (fun n h h0 => ?_) _ 7 rfl hn _ (part_at m c r k)
  · exact congrFun (sc_A m c ⟨n, h⟩ h0 (by show ¬1 ≤ n % 8; omega) (by show ¬n % 8 = 7; omega)) _
  · by_cases h2 : n % 8 = 7
    · exact (congrFun (sc_C m c ⟨n, h⟩ h0 (by show 1 ≤ n % 8; omega) h2) _).trans (acc_at ..)
    · exact (congrFun (sc_B m c ⟨n, h⟩ h0 (by show 1 ≤ n % 8; omega) h2) _).trans (acc_at ..)

theorem reference_at (x0 : (⟨2, ![8192, 8192]⟩ : Shape).Idx → EReal) (x1 : (⟨2, ![1024, 8192]⟩ : Shape).Idx → EReal) (r : Fin 8192) (k : Fin 1024) :
    Cert.Reference3Ideal.Read.val_main_v3 (F := Ideal) x0 x1 (ix2 r k) = ∑ j : Fin 8192, x0 (ix2 r j) * x1 (ix2 k j) := by
  rw [Cert.Reference3Ideal.Read.val_main_v3_apply]
  refine Finset.sum_congr rfl fun j _ => ?_
  rw [Cert.Reference3Ideal.Read.val_main_v1_apply]
  exact congrArg₂ (· * ·) (congrArg x0 (by funext a; match a with | ⟨0, _⟩ => rfl | ⟨1, _⟩ => rfl)) (congrArg x1 (by funext a; match a with | ⟨0, _⟩ => rfl | ⟨1, _⟩ => rfl))

theorem meet : Cert.Reference3Ideal.Read.val_main_v3 (F := Ideal) (argA m c) (argB m c) = Value.G2 m c := by
  funext i
  obtain ⟨r, k, rfl⟩ : ∃ (r : Fin 8192) (k : Fin 1024), i = ix2 r k := ⟨i 0, i 1, by funext a; match a with | ⟨0, _⟩ => rfl | ⟨1, _⟩ => rfl⟩
  exact (reference_at ..).trans (array_at m c r k).symm

theorem same {x0 x0' : (⟨2, ![8192, 8192]⟩ : Shape).Idx → EReal} {x1 x1' : (⟨2, ![1024, 8192]⟩ : Shape).Idx → EReal} (e0 : x0' = x0) (e1 : x1' = x1) :
    Cert.Reference3Ideal.Read.val_main_v3 (F := Ideal) x0' x1' = Cert.Reference3Ideal.Read.val_main_v3 (F := Ideal) x0 x1 := by
  subst e0 e1; rfl

theorem algebraic : Cert.algebraic_Kernel3Ideal_Reference3Ideal (hKernel3Ideal := Cert.Kernel3Ideal.Gen.facts) (hReference3Ideal := Cert.Reference3Ideal.Gen.facts) := by
  intro m g m' g' _ hm
  refine ⟨fun c => Value.G2 m c, Cert.Kernel3Ideal.Value.run m g, ?_⟩
  refine (θ_run _ _ _).mono (fun r h c => ?_) (Cert.Reference3Ideal.Value.run m' g')
  obtain ⟨h0, rest⟩ := h c
  obtain ⟨a0, a1⟩ := hm c
  exact ⟨h0.trans ((Cert.Reference3Ideal.Read.val_main_v3_eq _ _).trans ((same a0 a1).trans (meet m c))), rest⟩

theorem frame_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

end Cert.Kernel3Ideal.Val
end
-- ==== Proof.Mm4.lean ====
/-
  The second feed-forward product's gradient by the value before the rectifier: the kernel's array is the reference's.
-/
module

public import proofs.«01_k».proof.Defs
public import proofs.«01_k».proof.Proof.Product
public import proofs.«01_k».proof.Proof.Gen.Kernel4Ideal.Value
public import proofs.«01_k».proof.Proof.Gen.Reference4Ideal.Run
public import proofs.«01_k».proof.Proof.Gen.Reference4Ideal.Read
public import Idealize.ShloMosaic.Lib.KernelVsHost

@[expose] public section

set_option maxRecDepth 16384

noncomputable section

namespace Cert.Kernel4Ideal.Val

open Cert.Kernel4Ideal Cert.Kernel4Ideal.Gen Idealize.ShloMosaic Idealize.ShloMosaic.TcCoe Idealize.SL.Sem Cert.Gating

variable (m : (ℓ : Loc nD τ sig) → Buf (Elt Ideal) ℓ) (c : Dev nD)

abbrev argZ : (⟨2, ![8192, 4096]⟩ : Shape).Idx → EReal := m ((c : Thread nD τ).loc main_arg0)
abbrev argD : (⟨2, ![8192, 1024]⟩ : Shape).Idx → EReal := m ((c : Thread nD τ).loc main_arg1)
abbrev argW : (⟨2, ![4096, 1024]⟩ : Shape).Idx → EReal := m ((c : Thread nD τ).loc main_arg2)

/-- The constant two, as the programs spell it. -/
abbrev two : EReal := FloatOps.ofBits (F := Ideal) .f32 0x40000000#32

theorem V_v2 : V m c main_v2 = truncf (F := Ideal) .bf16 (maximumf (argZ m c) (broadcastInDim S8192x4096 ![] bcast_S_S8192x4096 (constant (F := Ideal) S_ .f32 0x00000000#32))) bitsLt_bf16_f32 := by
  unfold V; simp only [hostOps0, List.flatten_cons, List.flatten_nil, List.append_nil, List.cons_append, List.nil_append]
  after_results
theorem V_v2_at (r : Fin 8192) (k : Fin 4096) : V m c main_v2 (ix2 r k) = max (argZ m c (ix2 r k)) 0 := by
  rw [V_v2]
  pointwise

theorem index0 : ∀ t : Fin cfg0.N, win0_0.index t 0 = t.val / 2 ∧ win0_0.index t 1 = 0 :=
  (by decide +kernel : ∀ t : Fin grid0.N, win0_0.index t 0 = t.val / 2 ∧ win0_0.index t 1 = 0)
theorem index1 : ∀ t : Fin cfg0.N, win0_1.index t 0 = t.val % 2 ∧ win0_1.index t 1 = 0 :=
  (by decide +kernel : ∀ t : Fin grid0.N, win0_1.index t 0 = t.val % 2 ∧ win0_1.index t 1 = 0)
theorem index2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)
theorem index3 : ∀ t : Fin cfg0.N, win0_3.index t 0 = t.val / 2 ∧ win0_3.index t 1 = t.val % 2 :=
  (by decide +kernel : ∀ t : Fin grid0.N, win0_3.index t 0 = t.val / 2 ∧ win0_3.index t 1 = t.val % 2)
theorem lt16 (t : Fin cfg0.N) : t.val < 16 := lt_of_lt_of_eq t.isLt (show cfg0.N = 16 from N_0)

abbrev b0 (t : Fin cfg0.N) : Vec Ideal S1024x1024 .bf16 := iblk m c 0 t
abbrev b1 (t : Fin cfg0.N) : Vec Ideal S2048x1024 .bf16 := iblk m c 1 t
abbrev b2 (t : Fin cfg0.N) : Vec Ideal S1024x2048 .bf16 := iblk m c 2 t

theorem b0_at (t : Fin cfg0.N) (r j : Fin 1024) :
    b0 m c t (ix2 r j) = argD m c (ix2 ⟨1024 * (t.val / 2) + r.val, by have := lt16 t; omega⟩ j) := by
  unfold b0 iblk
  rw [View.read_apply]
  show V m c main_arg1 _ = _
  rw [V_main_arg1]
  unfold argD
  congr 1
  funext a
  apply Fin.ext
  match a with
  | ⟨0, _⟩ => show win0_0.index t 0 * 1024 + 1 * r.val = 1024 * (t.val / 2) + r.val; rw [(index0 t).1]; omega
  | ⟨1, _⟩ => show win0_0.index t 1 * 1024 + 1 * j.val = j.val; rw [(index0 t).2]; omega
theorem b1_at (t : Fin cfg0.N) (k : Fin 2048) (j : Fin 1024) :
    b1 m c t (ix2 k j) = argW m c (ix2 ⟨2048 * (t.val % 2) + k.val, by omega⟩ j) := by
  unfold b1 iblk
  rw [View.read_apply]
  show V m c main_arg2 _ = _
  rw [V_main_arg2]
  unfold argW
  congr 1
  funext a
  apply Fin.ext
  match a with
  | ⟨0, _⟩ => show win0_1.index t 0 * 2048 + 1 * k.val = 2048 * (t.val % 2) + k.val; rw [(index1 t).1]; omega
  | ⟨1, _⟩ => show win0_1.index t 1 * 1024 + 1 * j.val = j.val; rw [(index1 t).2]; omega
theorem b2_at (t : Fin cfg0.N) (r : Fin 1024) (k : Fin 2048) :
    b2 m c t (ix2 r k) = max (argZ m c (ix2 ⟨1024 * (t.val / 2) + r.val, by have := lt16 t; omega⟩ ⟨2048 * (t.val % 2) + k.val, by omega⟩)) 0 := by
  rw [← V_v2_at]
  unfold b2 iblk
  rw [View.read_apply]
  show V m c main_v2 _ = _
  congr 1
  funext a
  apply Fin.ext
  match a with
  | ⟨0, _⟩ => show win0_2.index t 0 * 1024 + 1 * r.val = 1024 * (t.val / 2) + r.val; rw [(index2 t).1]; omega
  | ⟨1, _⟩ => show win0_2.index t 1 * 2048 + 1 * k.val = 2048 * (t.val % 2) + k.val; rw [(index2 t).2]; omega

theorem hz : (![0, 0] : Fin 2 → ℕ) = fun _ => 0 := by funext a; match a with | ⟨0, _⟩ => rfl | ⟨1, _⟩ => rfl

/-! ## One point -/

theorem out_A (t : Fin cfg0.N) : outsAt0 m c t = k0_pay4 (k0_pay2 (b0 m c t) (b1 m c t)) (b2 m c t) := by
  unfold outsAt0 out0_A_3
  rw [View.read_writes_eq_canon _ _ _ (fun _ => cover0_A_3 ..)]
  unfold kernelRun0_A
  dsimp only
  sl_unfold_words
  rw [View.canon_unit_zero hz]
  simp only [View.readAt_eq_ld, (hs0_0 t).read_unread, (hs0_1 t).read_unread, (hs0_2 t).read_unread, View.ld_unit_zero (S := S1024x1024) hz, View.ld_unit_zero (S := S1024x2048) hz, View.ld_unit_zero (S := S2048x1024) hz]
  exact congrArg (fun x => k0_pay4 x (b2 m c t)) (View.readCov_unit_zero (S := S1024x2048) _ hz _ _)

theorem pay_at (x0 : Vec Ideal S1024x1024 .bf16) (x1 : Vec Ideal S2048x1024 .bf16) (x2 : Vec Ideal S1024x2048 .bf16) (r : Fin 1024) (k : Fin 2048) :
    k0_pay4 (k0_pay2 x0 x1) x2 (ix2 r k) = two * x2 (ix2 r k) * ∑ j : Fin 1024, x0 (ix2 r j) * x1 (ix2 k j) := by
  pointwise [k0_pay4, k0_pay2, k0_pay1]

/-! ## The array -/

/-- The gradient at row `r` and column `k`. -/
def grad (z : (⟨2, ![8192, 4096]⟩ : Shape).Idx → EReal) (d : (⟨2, ![8192, 1024]⟩ : Shape).Idx → EReal) (w : (⟨2, ![4096, 1024]⟩ : Shape).Idx → EReal)
    (r : Fin 8192) (k : Fin 4096) : EReal := two * max (z (ix2 r k)) 0 * ∑ j : Fin 1024, d (ix2 r j) * w (ix2 k j)

theorem inside (t : Fin cfg0.N) (r : Fin 1024) (k : Fin 2048) :
    (dats m 0 c).arrAt 3 cfg0.N (ix2 ⟨1024 * (t.val / 2) + r.val, by have := lt16 t; omega⟩ ⟨2048 * (t.val % 2) + k.val, by omega⟩ : S8192x4096.Idx)
      = grad (argZ m c) (argD m c) (argW m c) ⟨1024 * (t.val / 2) + r.val, by have := lt16 t; omega⟩ ⟨2048 * (t.val % 2) + k.val, by omega⟩ := by
  have e := congrFun (Value.blocks3 m c t (flush0_3 t)) (ix2 r k : S1024x2048.Idx)
  rw [Value.flushed3 m c t, out_A m c t, View.read_apply] at e
  have e' : k0_pay4 (k0_pay2 (b0 m c t) (b1 m c t)) (b2 m c t) (ix2 r k) = grad (argZ m c) (argD m c) (argW m c) ⟨1024 * (t.val / 2) + r.val, by have := lt16 t; omega⟩ ⟨2048 * (t.val % 2) + k.val, by omega⟩ := by
    rw [pay_at, b2_at]
    exact congrArg _ (Finset.sum_congr rfl fun j _ => by rw [b0_at, b1_at])
  refine Eq.trans ?_ (e.trans e')
  congr 1
  funext a
  apply Fin.ext
  match a with
  | ⟨0, _⟩ => show 1024 * (t.val / 2) + r.val = win0_3.index t 0 * 1024 + 1 * r.val; rw [(index3 t).1]; omega
  | ⟨1, _⟩ => show 2048 * (t.val % 2) + k.val = win0_3.index t 1 * 2048 + 1 * k.val; rw [(index3 t).2]; omega

theorem array_at (r : Fin 8192) (k : Fin 4096) :
    (dats m 0 c).arrAt 3 cfg0.N (ix2 r k : S8192x4096.Idx) = grad (argZ m c) (argD m c) (argW m c) r k := by
  have hn : 2 * (r.val / 1024) + k.val / 2048 < cfg0.N := lt_of_lt_of_eq (by omega) N_0.symm
  have e := inside m c ⟨_, hn⟩ ⟨r.val % 1024, Nat.mod_lt _ (by decide)⟩ ⟨k.val % 2048, Nat.mod_lt _ (by decide)⟩
  have hr : (⟨1024 * ((2 * (r.val / 1024) + k.val / 2048) / 2) + r.val % 1024, by omega⟩ : Fin 8192) = r := Fin.ext (by show 1024 * ((2 * (r.val / 1024) + k.val / 2048) / 2) + r.val % 1024 = r.val; omega)
  have hk : (⟨2048 * ((2 * (r.val / 1024) + k.val / 2048) % 2) + k.val % 2048, by omega⟩ : Fin 4096) = k := Fin.ext (by show 2048 * ((2 * (r.val / 1024) + k.val / 2048) % 2) + k.val % 2048 = k.val; omega)
  dsimp only at e
  rw [hr, hk] at e
  exact e

/-- Where the value is not positive the rectified value is zero, and so is the product with it. -/
theorem select_pos (z t : EReal) : (if 0 < z then t * (two * max z 0) else 0) = two * max z 0 * t := by
  by_cases h : 0 < z
  · rw [if_pos h, mul_comm]
  · rw [if_neg h, max_eq_right (not_lt.mp h), mul_zero, zero_mul]

theorem reference_at (z : (⟨2, ![8192, 4096]⟩ : Shape).Idx → EReal) (d : (⟨2, ![8192, 1024]⟩ : Shape).Idx → EReal) (w : (⟨2, ![4096, 1024]⟩ : Shape).Idx → EReal) (r : Fin 8192) (k : Fin 4096) :
    Cert.Reference4Ideal.Read.val_main_v14 (F := Ideal) z d w (ix2 r k) = grad z d w r k := by
  unfold grad
  pointwise [Cert.Reference4Ideal.Read.val_main_v14, Cert.Reference4Ideal.Read.val_main_v13, Cert.Reference4Ideal.Read.val_main_v12, Cert.Reference4Ideal.Read.val_main_v11,
    Cert.Reference4Ideal.Read.val_main_v10, Cert.Reference4Ideal.Read.val_main_v9, Cert.Reference4Ideal.Read.val_main_v7, Cert.Reference4Ideal.Read.val_main_v6,
    Cert.Reference4Ideal.Read.val_main_v5, Cert.Reference4Ideal.Read.val_main_v2, Cert.Reference4Ideal.Read.val_main_v1, Cert.Reference4Ideal.Read.val_main_v0,
    Cert.Reference4Ideal.Read.val_main_cst, Cert.Reference4Ideal.Read.val_main_cst_1, Cert.Reference4Ideal.Read.val_main_cst_2, Cert.Reference4Ideal.Read.val_main_call0_v0,
    Cert.Reference4Ideal.Read.val_main_call0_cst]
  exact select_pos _ _

theorem meet : Cert.Reference4Ideal.Read.val_main_v14 (F := Ideal) (argZ m c) (argD m c) (argW m c) = (dats m 0 c).arrAt 3 cfg0.N := by
  funext i
  obtain ⟨r, k, rfl⟩ : ∃ (r : Fin 8192) (k : Fin 4096), i = ix2 r k := ⟨i 0, i 1, by funext a; match a with | ⟨0, _⟩ => rfl | ⟨1, _⟩ => rfl⟩
  exact (reference_at ..).trans (array_at m c r k).symm

theorem same {z z' : (⟨2, ![8192, 4096]⟩ : Shape).Idx → EReal} {d d' : (⟨2, ![8192, 1024]⟩ : Shape).Idx → EReal} {w w' : (⟨2, ![4096, 1024]⟩ : Shape).Idx → EReal} (e0 : z' = z) (e1 : d' = d) (e2 : w' = w) :
    Cert.Reference4Ideal.Read.val_main_v14 (F := Ideal) z' d' w' = Cert.Reference4Ideal.Read.val_main_v14 (F := Ideal) z d w := by
  subst e0 e1 e2; rfl

theorem algebraic : Cert.algebraic_Kernel4Ideal_Reference4Ideal (hKernel4Ideal := Cert.Kernel4Ideal.Gen.facts) (hReference4Ideal := Cert.Reference4Ideal.Gen.facts) := by
  intro m g m' g' _ hm
  refine ⟨fun c => (dats m 0 c).arrAt 3 cfg0.N, Cert.Kernel4Ideal.Value.run_blocks m g, ?_⟩
  refine (θ_run _ _ _).mono (fun r h c => ?_) (Cert.Reference4Ideal.Value.run m' g')
  obtain ⟨h0, rest⟩ := h c
  obtain ⟨a0, a1, a2⟩ := hm c
  exact ⟨h0.trans ((Cert.Reference4Ideal.Read.val_main_v14_eq _ _ _).trans ((same a0 a1 a2).trans (meet m c))), rest⟩

theorem frame_reference : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

end Cert.Kernel4Ideal.Val
end
-- ==== Proof.Mm5.lean ====
/-
  The second feed-forward product's gradient by its weight: the kernel's array is the reference's.
-/
module

public import proofs.«01_k».proof.Defs
public import proofs.«01_k».proof.Proof.Product
public import proofs.«01_k».proof.Proof.Gen.Kernel5Ideal.Value
public import proofs.«01_k».proof.Proof.Gen.Reference5Ideal.Run
public import proofs.«01_k».proof.Proof.Gen.Reference5Ideal.Read
public import Idealize.ShloMosaic.Lib.KernelVsHost

@[expose] public section

set_option maxRecDepth 16384

noncomputable section

namespace Cert.Kernel5Ideal.Val

open Cert.Kernel5Ideal Cert.Kernel5Ideal.Gen Idealize.ShloMosaic Idealize.ShloMosaic.TcCoe Idealize.SL.Sem Cert.Gating

variable (m : (ℓ : Loc nD τ sig) → Buf (Elt Ideal) ℓ) (c : Dev nD)

abbrev argZ : (⟨2, ![8192, 4096]⟩ : Shape).Idx → EReal := m ((c : Thread nD τ).loc main_arg0)
abbrev argB : (⟨2, ![8192, 1024]⟩ : Shape).Idx → EReal := m ((c : Thread nD τ).loc main_arg1)

/-- The rectified value, squared. -/
def rsq (z : EReal) : EReal := max z 0 * max z 0

theorem V_v3 : V m c main_v3 = truncf (F := Ideal) .bf16 (mulf (maximumf (argZ m c) (broadcastInDim S8192x4096 ![] bcast_S_S8192x4096 (constant (F := Ideal) S_ .f32 0x00000000#32)))
    (maximumf (argZ m c) (broadcastInDim S8192x4096 ![] bcast_S_S8192x4096 (constant (F := Ideal) S_ .f32 0x00000000#32)))) bitsLt_bf16_f32 := by
  unfold V; simp only [hostOps0, List.flatten_cons, List.flatten_nil, List.append_nil, List.cons_append, List.nil_append]
  after_results
theorem V_v3_at (r : Fin 8192) (k : Fin 4096) : V m c main_v3 (ix2 r k) = rsq (argZ m c (ix2 r k)) := by
  rw [V_v3]
  unfold rsq
  pointwise

theorem index0 : ∀ t : Fin cfg0.N, win0_0.index t 0 = t.val % 8 ∧ win0_0.index t 1 = t.val / 8 :=
  (by decide +kernel : ∀ t : Fin grid0.N, win0_0.index t 0 = t.val % 8 ∧ win0_0.index t 1 = t.val / 8)
theorem index1 : ∀ t : Fin cfg0.N, win0_1.index t 0 = t.val % 8 ∧ win0_1.index t 1 = 0 :=
  (by decide +kernel : ∀ t : Fin grid0.N, win0_1.index t 0 = t.val % 8 ∧ win0_1.index t 1 = 0)
theorem lt32 (t : Fin cfg0.N) : t.val < 32 := lt_of_lt_of_eq t.isLt (show cfg0.N = 32 from N_0)

abbrev b0 (t : Fin cfg0.N) : Vec Ideal S1024x1024 .bf16 := iblk m c 0 t
abbrev b1 (t : Fin cfg0.N) : Vec Ideal S1024x1024 .bf16 := iblk m c 1 t

theorem b0_at (t : Fin cfg0.N) (j r : Fin 1024) :
    b0 m c t (ix2 j r) = rsq (argZ m c (ix2 ⟨1024 * (t.val % 8) + j.val, by omega⟩ ⟨1024 * (t.val / 8) + r.val, by have := lt32 t; omega⟩)) := by
  rw [← V_v3_at]
  unfold b0 iblk
  rw [View.read_apply]
  show V m c main_v3 _ = _
  congr 1
  funext a
  apply Fin.ext
  match a with
  | ⟨0, _⟩ => show win0_0.index t 0 * 1024 + 1 * j.val = 1024 * (t.val % 8) + j.val; rw [(index0 t).1]; omega
  | ⟨1, _⟩ => show win0_0.index t 1 * 1024 + 1 * r.val = 1024 * (t.val / 8) + r.val; rw [(index0 t).2]; omega
theorem b1_at (t : Fin cfg0.N) (j k : Fin 1024) :
    b1 m c t (ix2 j k) = argB m c (ix2 ⟨1024 * (t.val % 8) + j.val, by omega⟩ k) := by
  unfold b1 iblk
  rw [View.read_apply]
  show V m c main_arg1 _ = _
  rw [V_main_arg1]
  unfold argB
  congr 1
  funext a
  apply Fin.ext
  match a with
  | ⟨0, _⟩ => show win0_1.index t 0 * 1024 + 1 * j.val = 1024 * (t.val % 8) + j.val; rw [(index1 t).1]; omega
  | ⟨1, _⟩ => show win0_1.index t 1 * 1024 + 1 * k.val = k.val; rw [(index1 t).2]; omega

theorem hz : (![0, 0] : Fin 2 → ℕ) = fun _ => 0 := by funext a; match a with | ⟨0, _⟩ => rfl | ⟨1, _⟩ => rfl

/-! ## One point -/

theorem sc_A (t : Fin cfg0.N) (h0 : t.val % 8 = 0) (h1 : ¬1 ≤ t.val % 8) (h2 : ¬t.val % 8 = 7) :
    (outsAt0 m c t.val t.isLt).2 = k0_pay2 (b0 m c t) (b1 m c t) := by
  rw [outsAt0_A m c t h0 h1 h2]
  dsimp only
  unfold sout0_A_0
  rw [View.read_writes_eq_canon _ _ _ (fun _ => scover0_A_0 ..)]
  unfold kernelRun0_A
  dsimp only
  sl_unfold_words
  rw [View.canon_unit_zero hz]
  simp only [View.readAt_eq_ld, (hs0_0 t).read_unread, (hs0_1 t).read_unread, View.ld_unit_zero (S := S1024x1024) hz]
theorem sc_B (t : Fin cfg0.N) (h0 : ¬t.val % 8 = 0) (h1 : 1 ≤ t.val % 8) (h2 : ¬t.val % 8 = 7) :
    (outsAt0 m c t.val t.isLt).2 = k0_pay3 (b0 m c t) (b1 m c t) (outsAt0 m c (t.val - 1) (Nat.lt_of_le_of_lt (Nat.sub_le _ _) t.isLt)).2 := by
  rw [outsAt0_B m c t h0 h1 h2]
  dsimp only
  unfold sout0_B_0
  rw [View.read_writes_eq_canon _ _ _ (fun _ => scover0_B_0 ..)]
  unfold kernelRun0_B
  dsimp only
  sl_unfold_words
  rw [View.canon_unit_zero hz]
  simp only [View.readAt_eq_ld, (hs0_0 t).read_unread, (hs0_1 t).read_unread, (Memref.isWhole_whole _).read_unread, View.ld_unit_zero (S := S1024x1024) hz]
theorem sc_C (t : Fin cfg0.N) (h0 : ¬t.val % 8 = 0) (h1 : 1 ≤ t.val % 8) (h2 : t.val % 8 = 7) :
    (outsAt0 m c t.val t.isLt).2 = k0_pay3 (b0 m c t) (b1 m c t) (outsAt0 m c (t.val - 1) (Nat.lt_of_le_of_lt (Nat.sub_le _ _) t.isLt)).2 := by
  rw [outsAt0_C m c t h0 h1 h2]
  dsimp only
  unfold sout0_C_0
  rw [View.read_writes_eq_canon _ _ _ (fun _ => scover0_C_0 ..)]
  unfold kernelRun0_C
  dsimp only
  sl_unfold_words
  rw [View.canon_unit_zero hz]
  simp only [View.readAt_eq_ld, (hs0_0 t).read_unread, (hs0_1 t).read_unread, (Memref.isWhole_whole _).read_unread, View.ld_unit_zero (S := S1024x1024) hz]
theorem out_C (t : Fin cfg0.N) (h0 : ¬t.val % 8 = 0) (h1 : 1 ≤ t.val % 8) (h2 : t.val % 8 = 7) :
    (outsAt0 m c t.val t.isLt).1 = k0_pay4 (outsAt0 m c t.val t.isLt).2 := by
  rw [sc_C m c t h0 h1 h2, outsAt0_C m c t h0 h1 h2]
  dsimp only
  unfold out0_C_2
  rw [View.read_writes_eq_canon _ _ _ (fun _ => cover0_C_2 ..)]
  unfold kernelRun0_C
  dsimp only
  sl_unfold_words
  rw [View.canon_unit_zero hz]
  simp only [View.readAt_eq_ld, (hs0_0 t).read_unread, (hs0_1 t).read_unread, (Memref.isWhole_whole _).read_unread, View.ld_unit_zero (S := S1024x1024) hz]
  exact congrArg k0_pay4 (View.readCov_unit_zero (S := S1024x1024) _ hz _ _)

/-- What one point adds at row `r` and column `k` of its block. -/
theorem pay_at (x0 x1 : Vec Ideal S1024x1024 .bf16) (r k : Fin 1024) :
    k0_pay2 x0 x1 (ix2 r k) = ∑ j : Fin 1024, x0 (ix2 j r) * x1 (ix2 j k) := by
  pointwise [k0_pay2, k0_pay1]
theorem acc_at (x0 x1 : Vec Ideal S1024x1024 .bf16) (y : Vec Ideal S1024x1024 .f32) (r k : Fin 1024) :
    k0_pay3 x0 x1 y (ix2 r k) = y (ix2 r k) + k0_pay2 x0 x1 (ix2 r k) := by
  pointwise [k0_pay3, k0_pay2]

/-! ## The carried sum and the array -/

/-- What point `n` adds at row `r` and column `k` of its block. -/
def part (r k : Fin 1024) (n : ℕ) (h : n < cfg0.N) : EReal := k0_pay2 (b0 m c ⟨n, h⟩) (b1 m c ⟨n, h⟩) (ix2 r k)

/-- The terms of the whole contraction at row `r` and column `k`. -/
def term (r : Fin 4096) (k : Fin 1024) (j : Fin 8192) : EReal := rsq (argZ m c (ix2 j r)) * argB m c (ix2 j k)

theorem part_at (r : Fin 4096) (k : Fin 1024) (i : ℕ) (h : 8 * (r.val / 1024) + i < cfg0.N) (hi : i < 8) :
    part m c ⟨r.val % 1024, Nat.mod_lt _ (by decide)⟩ k (8 * (r.val / 1024) + i) h = ∑ j : Fin 1024, Product.extend (term m c r k) (1024 * i + j.val) := by
  unfold part
  rw [pay_at]
  refine Finset.sum_congr rfl fun j _ => ?_
  rw [b0_at, b1_at, Product.extend_of_lt _ _ (by have := j.isLt; omega)]
  unfold term
  have e0 : (8 * (r.val / 1024) + i) / 8 = r.val / 1024 := by omega
  have e1 : (8 * (r.val / 1024) + i) % 8 = i := by omega
  refine congrArg₂ (· * ·) (congrArg (fun i => rsq (argZ m c i)) (congrArg₂ ix2 (Fin.ext ?_) (Fin.ext ?_))) (congrArg (fun x => argB m c (ix2 x k)) (Fin.ext ?_))
  · show 1024 * ((8 * (r.val / 1024) + i) % 8) + j.val = 1024 * i + j.val; rw [e1]
  · show 1024 * ((8 * (r.val / 1024) + i) / 8) + r.val % 1024 = r.val; omega
  · show 1024 * ((8 * (r.val / 1024) + i) % 8) + j.val = 1024 * i + j.val; rw [e1]

theorem array_at (r : Fin 4096) (k : Fin 1024) : Value.G2 m c (ix2 r k) = ∑ j, term m c r k j := by
  have hn : 8 * (r.val / 1024) + 7 < cfg0.N := lt_of_lt_of_eq (by omega) N_0.symm
  have hp : Value.pt2Of (ix2 r k) = 8 * (r.val / 1024) + 7 := by
    show 8 * (1 * (r.val / 1024 - 0) + 1 * (k.val / 1024 - 0)) + 7 = _; omega
  have hl : Value.loc2Of (ix2 r k) = ix2 ⟨r.val % 1024, Nat.mod_lt _ (by decide)⟩ k := by
    funext a; apply Fin.ext
    match a with
    | ⟨0, _⟩ => rfl
    | ⟨1, _⟩ => exact Nat.mod_eq_of_lt k.isLt
  unfold Value.G2
  rw [dif_pos (by rw [hp]; exact hn), hl, Value.fold0_congr m c _ _ _ (by omega) hp, ← Value.outsAt0_sweep m c _ hn,
    out_C m c ⟨_, hn⟩ (by show ¬(8 * (r.val / 1024) + 7) % 8 = 0; omega) (by show 1 ≤ (8 * (r.val / 1024) + 7) % 8; omega)
      (by show (8 * (r.val / 1024) + 7) % 8 = 7; omega), ← Product.sum_extend]
  refine Product.run_total cfg0.N 8 1024 (fun n h => (outsAt0 m c n h).2 (ix2 _ k)) (part m c _ k) (fun n h h0 => ?_) (fun n h h0 => ?_) _ 7 rfl hn _ (part_at m c r k)
  · exact congrFun (sc_A m c ⟨n, h⟩ h0 (by show ¬1 ≤ n % 8; omega) (by show ¬n % 8 = 7; omega)) _
  · by_cases h2 : n % 8 = 7
    · exact (congrFun (sc_C m c ⟨n, h⟩ h0 (by show 1 ≤ n % 8; omega) h2) _).trans (acc_at ..)
    · exact (congrFun (sc_B m c ⟨n, h⟩ h0 (by show 1 ≤ n % 8; omega) h2) _).trans (acc_at ..)

theorem square_at (x0 : (⟨2, ![8192, 4096]⟩ : Shape).Idx → EReal) (i : (⟨2, ![8192, 4096]⟩ : Shape).Idx) :
    Cert.Reference5Ideal.Read.val_main_v2 (F := Ideal) x0 i = rsq (x0 i) := by
  obtain ⟨r, k, rfl⟩ : ∃ (r : Fin 8192) (k : Fin 4096), i = ix2 r k := ⟨i 0, i 1, by funext a; match a with | ⟨0, _⟩ => rfl | ⟨1, _⟩ => rfl⟩
  unfold rsq
  pointwise [Cert.Reference5Ideal.Read.val_main_v2, Cert.Reference5Ideal.Read.val_main_v1, Cert.Reference5Ideal.Read.val_main_call0_v0, Cert.Reference5Ideal.Read.val_main_call0_cst]

theorem reference_at (x0 : (⟨2, ![8192, 4096]⟩ : Shape).Idx → EReal) (x1 : (⟨2, ![8192, 1024]⟩ : Shape).Idx → EReal) (r : Fin 4096) (k : Fin 1024) :
    Cert.Reference5Ideal.Read.val_main_v7 (F := Ideal) x0 x1 (ix2 r k) = ∑ j : Fin 8192, rsq (x0 (ix2 j r)) * x1 (ix2 j k) := by
  rw [Cert.Reference5Ideal.Read.val_main_v7_apply]
  show Cert.Reference5Ideal.Read.val_main_v6 (F := Ideal) x0 x1 (ix2 r k) = _
  rw [Cert.Reference5Ideal.Read.val_main_v6_apply, Cert.Reference5Ideal.Read.val_main_v5_apply]
  refine Finset.sum_congr rfl fun j _ => ?_
  rw [Cert.Reference5Ideal.Read.val_main_v4_apply, square_at, mul_comm]
  exact congrArg₂ (· * ·) (congrArg (fun i => rsq (x0 i)) (by funext a; match a with | ⟨0, _⟩ => rfl | ⟨1, _⟩ => rfl)) (congrArg x1 (by funext a; match a with | ⟨0, _⟩ => rfl | ⟨1, _⟩ => rfl))

theorem meet : Cert.Reference5Ideal.Read.val_main_v7 (F := Ideal) (argZ m c) (argB m c) = Value.G2 m c := by
  funext i
  obtain ⟨r, k, rfl⟩ : ∃ (r : Fin 4096) (k : Fin 1024), i = ix2 r k := ⟨i 0, i 1, by funext a; match a with | ⟨0, _⟩ => rfl | ⟨1, _⟩ => rfl⟩
  exact (reference_at ..).trans (array_at m c r k).symm

theorem same {x0 x0' : (⟨2, ![8192, 4096]⟩ : Shape).Idx → EReal} {x1 x1' : (⟨2, ![8192, 1024]⟩ : Shape).Idx → EReal} (e0 : x0' = x0) (e1 : x1' = x1) :
    Cert.Reference5Ideal.Read.val_main_v7 (F := Ideal) x0' x1' = Cert.Reference5Ideal.Read.val_main_v7 (F := Ideal) x0 x1 := by
  subst e0 e1; rfl

theorem algebraic : Cert.algebraic_Kernel5Ideal_Reference5Ideal (hKernel5Ideal := Cert.Kernel5Ideal.Gen.facts) (hReference5Ideal := Cert.Reference5Ideal.Gen.facts) := by
  intro m g m' g' _ hm
  refine ⟨fun c => Value.G2 m c, Cert.Kernel5Ideal.Value.run m g, ?_⟩
  refine (θ_run _ _ _).mono (fun r h c => ?_) (Cert.Reference5Ideal.Value.run m' g')
  obtain ⟨h0, rest⟩ := h c
  obtain ⟨a0, a1⟩ := hm c
  exact ⟨h0.trans ((Cert.Reference5Ideal.Read.val_main_v7_eq _ _).trans ((same a0 a1).trans (meet m c))), rest⟩

theorem frame_reference : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

end Cert.Kernel5Ideal.Val
end
-- ==== Proof.Mm6.lean ====
/-
  The first feed-forward product's gradient by its input: the kernel's array is the reference's.
-/
module

public import proofs.«01_k».proof.Defs
public import proofs.«01_k».proof.Proof.Product
public import proofs.«01_k».proof.Proof.Gen.Kernel6Ideal.Value
public import proofs.«01_k».proof.Proof.Gen.Reference6Ideal.Run
public import proofs.«01_k».proof.Proof.Gen.Reference6Ideal.Read
public import Idealize.ShloMosaic.Lib.KernelVsHost

@[expose] public section

set_option maxRecDepth 16384

noncomputable section

namespace Cert.Kernel6Ideal.Val

open Cert.Kernel6Ideal Cert.Kernel6Ideal.Gen Idealize.ShloMosaic Idealize.ShloMosaic.TcCoe Idealize.SL.Sem Cert.Gating

variable (m : (ℓ : Loc nD τ sig) → Buf (Elt Ideal) ℓ) (c : Dev nD)

abbrev argA : (⟨2, ![8192, 4096]⟩ : Shape).Idx → EReal := m ((c : Thread nD τ).loc main_arg0)
abbrev argB : (⟨2, ![1024, 4096]⟩ : Shape).Idx → EReal := m ((c : Thread nD τ).loc main_arg1)

theorem index0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
theorem index1 : ∀ t : Fin cfg0.N, win0_1.index t 0 = 0 ∧ win0_1.index t 1 = t.val % 4 :=
  (by decide +kernel : ∀ t : Fin grid0.N, win0_1.index t 0 = 0 ∧ win0_1.index t 1 = t.val % 4)
theorem lt32 (t : Fin cfg0.N) : t.val < 32 := lt_of_lt_of_eq t.isLt (show cfg0.N = 32 from N_0)

abbrev b0 (t : Fin cfg0.N) : Vec Ideal S1024x1024 .bf16 := iblk m c 0 t
abbrev b1 (t : Fin cfg0.N) : Vec Ideal S1024x1024 .bf16 := iblk m c 1 t

theorem b0_at (t : Fin cfg0.N) (r k : Fin 1024) :
    b0 m c t (ix2 r k) = argA m c (ix2 ⟨1024 * (t.val / 4) + r.val, by have := lt32 t; omega⟩ ⟨1024 * (t.val % 4) + k.val, by omega⟩) := by
  unfold b0 iblk
  rw [View.read_apply]
  show V m c main_arg0 _ = _
  rw [V_main_arg0]
  unfold argA
  congr 1
  funext a
  apply Fin.ext
  match a with
  | ⟨0, _⟩ => show win0_0.index t 0 * 1024 + 1 * r.val = 1024 * (t.val / 4) + r.val; rw [(index0 t).1]; omega
  | ⟨1, _⟩ => show win0_0.index t 1 * 1024 + 1 * k.val = 1024 * (t.val % 4) + k.val; rw [(index0 t).2]; omega
theorem b1_at (t : Fin cfg0.N) (r k : Fin 1024) :
    b1 m c t (ix2 r k) = argB m c (ix2 r ⟨1024 * (t.val % 4) + k.val, by omega⟩) := by
  unfold b1 iblk
  rw [View.read_apply]
  show V m c main_arg1 _ = _
  rw [V_main_arg1]
  unfold argB
  congr 1
  funext a
  apply Fin.ext
  match a with
  | ⟨0, _⟩ => show win0_1.index t 0 * 1024 + 1 * r.val = r.val; rw [(index1 t).1]; omega
  | ⟨1, _⟩ => show win0_1.index t 1 * 1024 + 1 * k.val = 1024 * (t.val % 4) + k.val; rw [(index1 t).2]; omega

theorem hz : (![0, 0] : Fin 2 → ℕ) = fun _ => 0 := by funext a; match a with | ⟨0, _⟩ => rfl | ⟨1, _⟩ => rfl

/-! ## One point -/

theorem sc_A (t : Fin cfg0.N) (h0 : t.val % 4 = 0) (h1 : ¬1 ≤ t.val % 4) (h2 : ¬t.val % 4 = 3) :
    (outsAt0 m c t.val t.isLt).2 = k0_pay2 (b0 m c t) (b1 m c t) := by
  rw [outsAt0_A m c t h0 h1 h2]
  dsimp only
  unfold sout0_A_0
  rw [View.read_writes_eq_canon _ _ _ (fun _ => scover0_A_0 ..)]
  unfold kernelRun0_A
  dsimp only
  sl_unfold_words
  rw [View.canon_unit_zero hz]
  simp only [View.readAt_eq_ld, (hs0_0 t).read_unread, (hs0_1 t).read_unread, View.ld_unit_zero (S := S1024x1024) hz]
theorem sc_B (t : Fin cfg0.N) (h0 : ¬t.val % 4 = 0) (h1 : 1 ≤ t.val % 4) (h2 : ¬t.val % 4 = 3) :
    (outsAt0 m c t.val t.isLt).2 = k0_pay3 (b0 m c t) (b1 m c t) (outsAt0 m c (t.val - 1) (Nat.lt_of_le_of_lt (Nat.sub_le _ _) t.isLt)).2 := by
  rw [outsAt0_B m c t h0 h1 h2]
  dsimp only
  unfold sout0_B_0
  rw [View.read_writes_eq_canon _ _ _ (fun _ => scover0_B_0 ..)]
  unfold kernelRun0_B
  dsimp only
  sl_unfold_words
  rw [View.canon_unit_zero hz]
  simp only [View.readAt_eq_ld, (hs0_0 t).read_unread, (hs0_1 t).read_unread, (Memref.isWhole_whole _).read_unread, View.ld_unit_zero (S := S1024x1024) hz]
theorem sc_C (t : Fin cfg0.N) (h0 : ¬t.val % 4 = 0) (h1 : 1 ≤ t.val % 4) (h2 : t.val % 4 = 3) :
    (outsAt0 m c t.val t.isLt).2 = k0_pay3 (b0 m c t) (b1 m c t) (outsAt0 m c (t.val - 1) (Nat.lt_of_le_of_lt (Nat.sub_le _ _) t.isLt)).2 := by
  rw [outsAt0_C m c t h0 h1 h2]
  dsimp only
  unfold sout0_C_0
  rw [View.read_writes_eq_canon _ _ _ (fun _ => scover0_C_0 ..)]
  unfold kernelRun0_C
  dsimp only
  sl_unfold_words
  rw [View.canon_unit_zero hz]
  simp only [View.readAt_eq_ld, (hs0_0 t).read_unread, (hs0_1 t).read_unread, (Memref.isWhole_whole _).read_unread, View.ld_unit_zero (S := S1024x1024) hz]
theorem out_C (t : Fin cfg0.N) (h0 : ¬t.val % 4 = 0) (h1 : 1 ≤ t.val % 4) (h2 : t.val % 4 = 3) :
    (outsAt0 m c t.val t.isLt).1 = (outsAt0 m c t.val t.isLt).2 := by
  rw [sc_C m c t h0 h1 h2, outsAt0_C m c t h0 h1 h2]
  dsimp only
  unfold out0_C_2
  rw [View.read_writes_eq_canon _ _ _ (fun _ => cover0_C_2 ..)]
  unfold kernelRun0_C
  dsimp only
  sl_unfold_words
  rw [View.canon_unit_zero hz]
  simp only [View.readAt_eq_ld, (hs0_0 t).read_unread, (hs0_1 t).read_unread, (Memref.isWhole_whole _).read_unread, View.ld_unit_zero (S := S1024x1024) hz]
  exact View.readCov_unit_zero (S := S1024x1024) _ hz _ _

/-- What one point adds at row `r` and column `k` of its block. -/
theorem pay_at (x0 x1 : Vec Ideal S1024x1024 .bf16) (r k : Fin 1024) :
    k0_pay2 x0 x1 (ix2 r k) = ∑ j : Fin 1024, x0 (ix2 r j) * x1 (ix2 k j) := by
  pointwise [k0_pay2, k0_pay1]
  done
theorem acc_at (x0 x1 : Vec Ideal S1024x1024 .bf16) (y : Vec Ideal S1024x1024 .f32) (r k : Fin 1024) :
    k0_pay3 x0 x1 y (ix2 r k) = y (ix2 r k) + k0_pay2 x0 x1 (ix2 r k) := by
  pointwise [k0_pay3, k0_pay2]
  done

/-! ## The carried sum and the array -/

/-- What point `n` adds at row `r` and column `k` of its block. -/
def part (r k : Fin 1024) (n : ℕ) (h : n < cfg0.N) : EReal := k0_pay2 (b0 m c ⟨n, h⟩) (b1 m c ⟨n, h⟩) (ix2 r k)

/-- The terms of the whole contraction at row `r` and column `k`. -/
def term (r : Fin 8192) (k : Fin 1024) (j : Fin 4096) : EReal := argA m c (ix2 r j) * argB m c (ix2 k j)

theorem part_at (r : Fin 8192) (k : Fin 1024) (i : ℕ) (h : 4 * (r.val / 1024) + i < cfg0.N) (hi : i < 4) :
    part m c ⟨r.val % 1024, Nat.mod_lt _ (by decide)⟩ k (4 * (r.val / 1024) + i) h = ∑ j : Fin 1024, Product.extend (term m c r k) (1024 * i + j.val) := by
  unfold part
  rw [pay_at]
  refine Finset.sum_congr rfl fun j _ => ?_
  rw [b0_at, b1_at, Product.extend_of_lt _ _ (by have := j.isLt; omega)]
  unfold term
  have e0 : (4 * (r.val / 1024) + i) / 4 = r.val / 1024 := by omega
  have e1 : (4 * (r.val / 1024) + i) % 4 = i := by omega
  congr 3 <;> apply Fin.ext
  · show 1024 * ((4 * (r.val / 1024) + i) / 4) + r.val % 1024 = r.val; omega
  · show 1024 * ((4 * (r.val / 1024) + i) % 4) + j.val = 1024 * i + j.val; rw [e1]
  · show 1024 * ((4 * (r.val / 1024) + i) % 4) + j.val = 1024 * i + j.val; rw [e1]

theorem array_at (r : Fin 8192) (k : Fin 1024) : Value.G2 m c (ix2 r k) = ∑ j, term m c r k j := by
  have hn : 4 * (r.val / 1024) + 3 < cfg0.N := lt_of_lt_of_eq (by omega) N_0.symm
  have hp : Value.pt2Of (ix2 r k) = 4 * (r.val / 1024) + 3 := by
    show 4 * (1 * (r.val / 1024 - 0) + 1 * (k.val / 1024 - 0)) + 3 = _; omega
  have hl : Value.loc2Of (ix2 r k) = ix2 ⟨r.val % 1024, Nat.mod_lt _ (by decide)⟩ k := by
    funext a; apply Fin.ext
    match a with
    | ⟨0, _⟩ => rfl
    | ⟨1, _⟩ => exact Nat.mod_eq_of_lt k.isLt
  unfold Value.G2
  rw [dif_pos (by rw [hp]; exact hn), hl, Value.fold0_congr m c _ _ _ (by omega) hp, ← Value.outsAt0_sweep m c _ hn,
    out_C m c ⟨_, hn⟩ (by show ¬(4 * (r.val / 1024) + 3) % 4 = 0; omega) (by show 1 ≤ (4 * (r.val / 1024) + 3) % 4; omega)
      (by show (4 * (r.val / 1024) + 3) % 4 = 3; omega), ← Product.sum_extend]
  refine Product.run_total cfg0.N 4 1024 (fun n h => (outsAt0 m c n h).2 (ix2 _ k)) (part m c _ k) (fun n h h0 => ?_) (fun n h h0 => ?_) _ 3 rfl hn _ (part_at m c r k)
  · exact congrFun (sc_A m c ⟨n, h⟩ h0 (by show ¬1 ≤ n % 4; omega) (by show ¬n % 4 = 3; omega)) _
  · by_cases h2 : n % 4 = 3
    · exact (congrFun (sc_C m c ⟨n, h⟩ h0 (by show 1 ≤ n % 4; omega) h2) _).trans (acc_at ..)
    · exact (congrFun (sc_B m c ⟨n, h⟩ h0 (by show 1 ≤ n % 4; omega) h2) _).trans (acc_at ..)

theorem reference_at (x0 : (⟨2, ![8192, 4096]⟩ : Shape).Idx → EReal) (x1 : (⟨2, ![1024, 4096]⟩ : Shape).Idx → EReal) (r : Fin 8192) (k : Fin 1024) :
    Cert.Reference6Ideal.Read.val_main_v4 (F := Ideal) x0 x1 (ix2 r k) = ∑ j : Fin 4096, x0 (ix2 r j) * x1 (ix2 k j) := by
  rw [Cert.Reference6Ideal.Read.val_main_v4_apply]
  refine Finset.sum_congr rfl fun j _ => ?_
  rw [Cert.Reference6Ideal.Read.val_main_v3_apply, Cert.Reference6Ideal.Read.val_main_v1_apply]
  exact congrArg₂ (· * ·) (congrArg x0 (by funext a; match a with | ⟨0, _⟩ => rfl | ⟨1, _⟩ => rfl)) (congrArg x1 (by funext a; match a with | ⟨0, _⟩ => rfl | ⟨1, _⟩ => rfl))

theorem meet : Cert.Reference6Ideal.Read.val_main_v4 (F := Ideal) (argA m c) (argB m c) = Value.G2 m c := by
  funext i
  obtain ⟨r, k, rfl⟩ : ∃ (r : Fin 8192) (k : Fin 1024), i = ix2 r k := ⟨i 0, i 1, by funext a; match a with | ⟨0, _⟩ => rfl | ⟨1, _⟩ => rfl⟩
  exact (reference_at ..).trans (array_at m c r k).symm

theorem same {x0 x0' : (⟨2, ![8192, 4096]⟩ : Shape).Idx → EReal} {x1 x1' : (⟨2, ![1024, 4096]⟩ : Shape).Idx → EReal} (e0 : x0' = x0) (e1 : x1' = x1) :
    Cert.Reference6Ideal.Read.val_main_v4 (F := Ideal) x0' x1' = Cert.Reference6Ideal.Read.val_main_v4 (F := Ideal) x0 x1 := by
  subst e0 e1; rfl

theorem algebraic : Cert.algebraic_Kernel6Ideal_Reference6Ideal (hKernel6Ideal := Cert.Kernel6Ideal.Gen.facts) (hReference6Ideal := Cert.Reference6Ideal.Gen.facts) := by
  intro m g m' g' _ hm
  refine ⟨fun c => Value.G2 m c, Cert.Kernel6Ideal.Value.run m g, ?_⟩
  refine (θ_run _ _ _).mono (fun r h c => ?_) (Cert.Reference6Ideal.Value.run m' g')
  obtain ⟨h0, rest⟩ := h c
  obtain ⟨a0, a1⟩ := hm c
  exact ⟨h0.trans ((Cert.Reference6Ideal.Read.val_main_v4_eq _ _).trans ((same a0 a1).trans (meet m c))), rest⟩

theorem frame_reference : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

end Cert.Kernel6Ideal.Val
end
-- ==== Proof.Mm7.lean ====
/-
  The first feed-forward product's gradient by its weight: the kernel's array is the reference's.
-/
module

public import proofs.«01_k».proof.Defs
public import proofs.«01_k».proof.Proof.Product
public import proofs.«01_k».proof.Proof.Gen.Kernel7Ideal.Value
public import proofs.«01_k».proof.Proof.Gen.Reference7Ideal.Run
public import proofs.«01_k».proof.Proof.Gen.Reference7Ideal.Read
public import Idealize.ShloMosaic.Lib.KernelVsHost

@[expose] public section

set_option maxRecDepth 16384

noncomputable section

namespace Cert.Kernel7Ideal.Val

open Cert.Kernel7Ideal Cert.Kernel7Ideal.Gen Idealize.ShloMosaic Idealize.ShloMosaic.TcCoe Idealize.SL.Sem Cert.Gating

variable (m : (ℓ : Loc nD τ sig) → Buf (Elt Ideal) ℓ) (c : Dev nD)

abbrev argA : (⟨2, ![8192, 1024]⟩ : Shape).Idx → EReal := m ((c : Thread nD τ).loc main_arg0)
abbrev argB : (⟨2, ![8192, 4096]⟩ : Shape).Idx → EReal := m ((c : Thread nD τ).loc main_arg1)

theorem index0 : ∀ t : Fin cfg0.N, win0_0.index t 0 = t.val % 8 ∧ win0_0.index t 1 = 0 :=
  (by decide +kernel : ∀ t : Fin grid0.N, win0_0.index t 0 = t.val % 8 ∧ win0_0.index t 1 = 0)
theorem index1 : ∀ t : Fin cfg0.N, win0_1.index t 0 = t.val % 8 ∧ win0_1.index t 1 = t.val / 8 :=
  (by decide +kernel : ∀ t : Fin grid0.N, win0_1.index t 0 = t.val % 8 ∧ win0_1.index t 1 = t.val / 8)
theorem lt16 (t : Fin cfg0.N) : t.val < 16 := lt_of_lt_of_eq t.isLt (show cfg0.N = 16 from N_0)

abbrev b0 (t : Fin cfg0.N) : Vec Ideal S1024x1024 .bf16 := iblk m c 0 t
abbrev b1 (t : Fin cfg0.N) : Vec Ideal S1024x2048 .bf16 := iblk m c 1 t

theorem b0_at (t : Fin cfg0.N) (j r : Fin 1024) :
    b0 m c t (ix2 j r) = argA m c (ix2 ⟨1024 * (t.val % 8) + j.val, by omega⟩ r) := by
  unfold b0 iblk
  rw [View.read_apply]
  show V m c main_arg0 _ = _
  rw [V_main_arg0]
  unfold argA
  congr 1
  funext a
  apply Fin.ext
  match a with
  | ⟨0, _⟩ => show win0_0.index t 0 * 1024 + 1 * j.val = 1024 * (t.val % 8) + j.val; rw [(index0 t).1]; omega
  | ⟨1, _⟩ => show win0_0.index t 1 * 1024 + 1 * r.val = r.val; rw [(index0 t).2]; omega
theorem b1_at (t : Fin cfg0.N) (j : Fin 1024) (k : Fin 2048) :
    b1 m c t (ix2 j k) = argB m c (ix2 ⟨1024 * (t.val % 8) + j.val, by omega⟩ ⟨2048 * (t.val / 8) + k.val, by have := lt16 t; omega⟩) := by
  unfold b1 iblk
  rw [View.read_apply]
  show V m c main_arg1 _ = _
  rw [V_main_arg1]
  unfold argB
  congr 1
  funext a
  apply Fin.ext
  match a with
  | ⟨0, _⟩ => show win0_1.index t 0 * 1024 + 1 * j.val = 1024 * (t.val % 8) + j.val; rw [(index1 t).1]; omega
  | ⟨1, _⟩ => show win0_1.index t 1 * 2048 + 1 * k.val = 2048 * (t.val / 8) + k.val; rw [(index1 t).2]; omega

theorem hz : (![0, 0] : Fin 2 → ℕ) = fun _ => 0 := by funext a; match a with | ⟨0, _⟩ => rfl | ⟨1, _⟩ => rfl

/-! ## One point -/

theorem sc_A (t : Fin cfg0.N) (h0 : t.val % 8 = 0) (h1 : ¬1 ≤ t.val % 8) (h2 : ¬t.val % 8 = 7) :
    (outsAt0 m c t.val t.isLt).2 = k0_pay2 (b0 m c t) (b1 m c t) := by
  rw [outsAt0_A m c t h0 h1 h2]
  dsimp only
  unfold sout0_A_0
  rw [View.read_writes_eq_canon _ _ _ (fun _ => scover0_A_0 ..)]
  unfold kernelRun0_A
  dsimp only
  sl_unfold_words
  rw [View.canon_unit_zero hz]
  simp only [View.readAt_eq_ld, (hs0_0 t).read_unread, (hs0_1 t).read_unread, View.ld_unit_zero (S := S1024x1024) hz, View.ld_unit_zero (S := S1024x2048) hz]
theorem sc_B (t : Fin cfg0.N) (h0 : ¬t.val % 8 = 0) (h1 : 1 ≤ t.val % 8) (h2 : ¬t.val % 8 = 7) :
    (outsAt0 m c t.val t.isLt).2 = k0_pay3 (b0 m c t) (b1 m c t) (outsAt0 m c (t.val - 1) (Nat.lt_of_le_of_lt (Nat.sub_le _ _) t.isLt)).2 := by
  rw [outsAt0_B m c t h0 h1 h2]
  dsimp only
  unfold sout0_B_0
  rw [View.read_writes_eq_canon _ _ _ (fun _ => scover0_B_0 ..)]
  unfold kernelRun0_B
  dsimp only
  sl_unfold_words
  rw [View.canon_unit_zero hz]
  simp only [View.readAt_eq_ld, (hs0_0 t).read_unread, (hs0_1 t).read_unread, (Memref.isWhole_whole _).read_unread, View.ld_unit_zero (S := S1024x1024) hz, View.ld_unit_zero (S := S1024x2048) hz]
theorem sc_C (t : Fin cfg0.N) (h0 : ¬t.val % 8 = 0) (h1 : 1 ≤ t.val % 8) (h2 : t.val % 8 = 7) :
    (outsAt0 m c t.val t.isLt).2 = k0_pay3 (b0 m c t) (b1 m c t) (outsAt0 m c (t.val - 1) (Nat.lt_of_le_of_lt (Nat.sub_le _ _) t.isLt)).2 := by
  rw [outsAt0_C m c t h0 h1 h2]
  dsimp only
  unfold sout0_C_0
  rw [View.read_writes_eq_canon _ _ _ (fun _ => scover0_C_0 ..)]
  unfold kernelRun0_C
  dsimp only
  sl_unfold_words
  rw [View.canon_unit_zero hz]
  simp only [View.readAt_eq_ld, (hs0_0 t).read_unread, (hs0_1 t).read_unread, (Memref.isWhole_whole _).read_unread, View.ld_unit_zero (S := S1024x1024) hz, View.ld_unit_zero (S := S1024x2048) hz]
theorem out_C (t : Fin cfg0.N) (h0 : ¬t.val % 8 = 0) (h1 : 1 ≤ t.val % 8) (h2 : t.val % 8 = 7) :
    (outsAt0 m c t.val t.isLt).1 = k0_pay4 (outsAt0 m c t.val t.isLt).2 := by
  rw [sc_C m c t h0 h1 h2, outsAt0_C m c t h0 h1 h2]
  dsimp only
  unfold out0_C_2
  rw [View.read_writes_eq_canon _ _ _ (fun _ => cover0_C_2 ..)]
  unfold kernelRun0_C
  dsimp only
  sl_unfold_words
  rw [View.canon_unit_zero hz]
  simp only [View.readAt_eq_ld, (hs0_0 t).read_unread, (hs0_1 t).read_unread, (Memref.isWhole_whole _).read_unread, View.ld_unit_zero (S := S1024x1024) hz, View.ld_unit_zero (S := S1024x2048) hz]
  exact congrArg k0_pay4 (View.readCov_unit_zero (S := S1024x2048) _ hz _ _)

/-- What one point adds at row `r` and column `k` of its block. -/
theorem pay_at (x0 : Vec Ideal S1024x1024 .bf16) (x1 : Vec Ideal S1024x2048 .bf16) (r : Fin 1024) (k : Fin 2048) :
    k0_pay2 x0 x1 (ix2 r k) = ∑ j : Fin 1024, x0 (ix2 j r) * x1 (ix2 j k) := by
  pointwise [k0_pay2, k0_pay1]
theorem acc_at (x0 : Vec Ideal S1024x1024 .bf16) (x1 : Vec Ideal S1024x2048 .bf16) (y : Vec Ideal S1024x2048 .f32) (r : Fin 1024) (k : Fin 2048) :
    k0_pay3 x0 x1 y (ix2 r k) = y (ix2 r k) + k0_pay2 x0 x1 (ix2 r k) := by
  pointwise [k0_pay3, k0_pay2]

/-! ## The carried sum and the array -/

/-- What point `n` adds at row `r` and column `k` of its block. -/
def part (r : Fin 1024) (k : Fin 2048) (n : ℕ) (h : n < cfg0.N) : EReal := k0_pay2 (b0 m c ⟨n, h⟩) (b1 m c ⟨n, h⟩) (ix2 r k)

/-- The terms of the whole contraction at row `r` and column `k`. -/
def term (r : Fin 1024) (k : Fin 4096) (j : Fin 8192) : EReal := argA m c (ix2 j r) * argB m c (ix2 j k)

theorem part_at (r : Fin 1024) (k : Fin 4096) (i : ℕ) (h : 8 * (k.val / 2048) + i < cfg0.N) (hi : i < 8) :
    part m c r ⟨k.val % 2048, Nat.mod_lt _ (by decide)⟩ (8 * (k.val / 2048) + i) h = ∑ j : Fin 1024, Product.extend (term m c r k) (1024 * i + j.val) := by
  unfold part
  rw [pay_at]
  refine Finset.sum_congr rfl fun j _ => ?_
  rw [b0_at, b1_at, Product.extend_of_lt _ _ (by have := j.isLt; omega)]
  unfold term
  have e0 : (8 * (k.val / 2048) + i) / 8 = k.val / 2048 := by omega
  have e1 : (8 * (k.val / 2048) + i) % 8 = i := by omega
  congr 3 <;> apply Fin.ext
  · show 1024 * ((8 * (k.val / 2048) + i) % 8) + j.val = 1024 * i + j.val; rw [e1]
  · show 1024 * ((8 * (k.val / 2048) + i) % 8) + j.val = 1024 * i + j.val; rw [e1]
  · show 2048 * ((8 * (k.val / 2048) + i) / 8) + k.val % 2048 = k.val; omega

theorem array_at (r : Fin 1024) (k : Fin 4096) : Value.G2 m c (ix2 r k) = ∑ j, term m c r k j := by
  have hn : 8 * (k.val / 2048) + 7 < cfg0.N := lt_of_lt_of_eq (by omega) N_0.symm
  have hp : Value.pt2Of (ix2 r k) = 8 * (k.val / 2048) + 7 := by
    show 8 * (2 * (r.val / 1024 - 0) + 1 * (k.val / 2048 - 0)) + 7 = _; omega
  have hl : Value.loc2Of (ix2 r k) = ix2 r ⟨k.val % 2048, Nat.mod_lt _ (by decide)⟩ := by
    funext a; apply Fin.ext
    match a with
    | ⟨0, _⟩ => exact Nat.mod_eq_of_lt r.isLt
    | ⟨1, _⟩ => rfl
  unfold Value.G2
  rw [dif_pos (by rw [hp]; exact hn), hl, Value.fold0_congr m c _ _ _ (by omega) hp, ← Value.outsAt0_sweep m c _ hn,
    out_C m c ⟨_, hn⟩ (by show ¬(8 * (k.val / 2048) + 7) % 8 = 0; omega) (by show 1 ≤ (8 * (k.val / 2048) + 7) % 8; omega)
      (by show (8 * (k.val / 2048) + 7) % 8 = 7; omega), ← Product.sum_extend]
  refine Product.run_total cfg0.N 8 1024 (fun n h => (outsAt0 m c n h).2 (ix2 r _)) (part m c r _) (fun n h h0 => ?_) (fun n h h0 => ?_) _ 7 rfl hn _ (part_at m c r k)
  · exact congrFun (sc_A m c ⟨n, h⟩ h0 (by show ¬1 ≤ n % 8; omega) (by show ¬n % 8 = 7; omega)) _
  · by_cases h2 : n % 8 = 7
    · exact (congrFun (sc_C m c ⟨n, h⟩ h0 (by show 1 ≤ n % 8; omega) h2) _).trans (acc_at ..)
    · exact (congrFun (sc_B m c ⟨n, h⟩ h0 (by show 1 ≤ n % 8; omega) h2) _).trans (acc_at ..)

theorem reference_at (x0 : (⟨2, ![8192, 1024]⟩ : Shape).Idx → EReal) (x1 : (⟨2, ![8192, 4096]⟩ : Shape).Idx → EReal) (r : Fin 1024) (k : Fin 4096) :
    Cert.Reference7Ideal.Read.val_main_v6 (F := Ideal) x0 x1 (ix2 r k) = ∑ j : Fin 8192, x0 (ix2 j r) * x1 (ix2 j k) := by
  rw [Cert.Reference7Ideal.Read.val_main_v6_apply]
  show Cert.Reference7Ideal.Read.val_main_v5 (F := Ideal) x0 x1 (ix2 r k) = _
  rw [Cert.Reference7Ideal.Read.val_main_v5_apply, Cert.Reference7Ideal.Read.val_main_v4_apply]
  refine Finset.sum_congr rfl fun j _ => ?_
  rw [Cert.Reference7Ideal.Read.val_main_v3_apply, Cert.Reference7Ideal.Read.val_main_v1_apply, mul_comm]
  exact congrArg₂ (· * ·) (congrArg x0 (by funext a; match a with | ⟨0, _⟩ => rfl | ⟨1, _⟩ => rfl)) (congrArg x1 (by funext a; match a with | ⟨0, _⟩ => rfl | ⟨1, _⟩ => rfl))

theorem meet : Cert.Reference7Ideal.Read.val_main_v6 (F := Ideal) (argA m c) (argB m c) = Value.G2 m c := by
  funext i
  obtain ⟨r, k, rfl⟩ : ∃ (r : Fin 1024) (k : Fin 4096), i = ix2 r k := ⟨i 0, i 1, by funext a; match a with | ⟨0, _⟩ => rfl | ⟨1, _⟩ => rfl⟩
  exact (reference_at ..).trans (array_at m c r k).symm

theorem same {x0 x0' : (⟨2, ![8192, 1024]⟩ : Shape).Idx → EReal} {x1 x1' : (⟨2, ![8192, 4096]⟩ : Shape).Idx → EReal} (e0 : x0' = x0) (e1 : x1' = x1) :
    Cert.Reference7Ideal.Read.val_main_v6 (F := Ideal) x0' x1' = Cert.Reference7Ideal.Read.val_main_v6 (F := Ideal) x0 x1 := by
  subst e0 e1; rfl

theorem algebraic : Cert.algebraic_Kernel7Ideal_Reference7Ideal (hKernel7Ideal := Cert.Kernel7Ideal.Gen.facts) (hReference7Ideal := Cert.Reference7Ideal.Gen.facts) := by
  intro m g m' g' _ hm
  refine ⟨fun c => Value.G2 m c, Cert.Kernel7Ideal.Value.run m g, ?_⟩
  refine (θ_run _ _ _).mono (fun r h c => ?_) (Cert.Reference7Ideal.Value.run m' g')
  obtain ⟨h0, rest⟩ := h c
  obtain ⟨a0, a1⟩ := hm c
  exact ⟨h0.trans ((Cert.Reference7Ideal.Read.val_main_v6_eq _ _).trans ((same a0 a1).trans (meet m c))), rest⟩

theorem frame_reference : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

end Cert.Kernel7Ideal.Val
end
-- ==== Proof.Mm8.lean ====
/-
  The output projection's gradient by its input: the kernel's array is the reference's.
-/
module

public import proofs.«01_k».proof.Defs
public import proofs.«01_k».proof.Proof.Product
public import proofs.«01_k».proof.Proof.Gen.Kernel8Ideal.Value
public import proofs.«01_k».proof.Proof.Gen.Reference8Ideal.Run
public import proofs.«01_k».proof.Proof.Gen.Reference8Ideal.Read
public import Idealize.ShloMosaic.Lib.KernelVsHost

@[expose] public section

set_option maxRecDepth 16384

noncomputable section

namespace Cert.Kernel8Ideal.Val

open Cert.Kernel8Ideal Cert.Kernel8Ideal.Gen Idealize.ShloMosaic Idealize.ShloMosaic.TcCoe Idealize.SL.Sem Cert.Gating

variable (m : (ℓ : Loc nD τ sig) → Buf (Elt Ideal) ℓ) (c : Dev nD)

abbrev argA : (⟨2, ![8192, 1024]⟩ : Shape).Idx → EReal := m ((c : Thread nD τ).loc main_arg0)
abbrev argB : (⟨2, ![1024, 1024]⟩ : Shape).Idx → EReal := m ((c : Thread nD τ).loc main_arg1)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

abbrev b0 (t : Fin cfg0.N) : Vec Ideal S1024x1024 .bf16 := iblk m c 0 t
abbrev b1 (t : Fin cfg0.N) : Vec Ideal S1024x1024 .bf16 := iblk m c 1 t

theorem b0_at (t : Fin cfg0.N) (r j : Fin 1024) (h : 1024 * (t.val / 1) + r.val < 8192) :
    b0 m c t (ix2 r j) = argA m c (ix2 ⟨1024 * (t.val / 1) + r.val, h⟩ j) := by
  unfold b0 iblk
  rw [View.read_apply]
  show V m c main_arg0 _ = _
  rw [V_main_arg0]
  refine Product.at2 (argA m c) _ _ _ ?_ ?_
  · show win0_0.index t 0 * 1024 + 1 * r.val = 1024 * (t.val / 1) + r.val; rw [(index0 t).1]; omega
  · show win0_0.index t 1 * 1024 + 1 * j.val = j.val; rw [(index0 t).2]; omega
theorem b1_at (t : Fin cfg0.N) (k j : Fin 1024) (h : 1024 * (t.val % 1) + k.val < 1024) :
    b1 m c t (ix2 k j) = argB m c (ix2 ⟨1024 * (t.val % 1) + k.val, h⟩ j) := by
  unfold b1 iblk
  rw [View.read_apply]
  show V m c main_arg1 _ = _
  rw [V_main_arg1]
  refine Product.at2 (argB m c) _ _ _ ?_ ?_
  · show win0_1.index t 0 * 1024 + 1 * k.val = 1024 * (t.val % 1) + k.val; rw [(index1 t).1]; omega
  · show win0_1.index t 1 * 1024 + 1 * j.val = j.val; rw [(index1 t).2]; omega

theorem out_A (t : Fin cfg0.N) : outsAt0 m c t = k0_pay2 (b0 m c t) (b1 m c t) := by
  unfold outsAt0 out0_A_2
  rw [View.read_writes_eq_canon _ _ _ (fun _ => cover0_A_2 ..)]
  unfold kernelRun0_A
  dsimp only
  sl_unfold_words
  rw [View.canon_unit_zero Product.zero2]
  simp only [View.readAt_eq_ld, (hs0_0 t).read_unread, (hs0_1 t).read_unread, View.ld_unit_zero (S := S1024x1024) Product.zero2]
  exact View.readCov_unit_zero (S := S1024x1024) _ Product.zero2 _ _

theorem pay_at (x0 : Vec Ideal S1024x1024 .bf16) (x1 : Vec Ideal S1024x1024 .bf16) (r k : Fin 1024) :
    k0_pay2 x0 x1 (ix2 r k) = ∑ j : Fin 1024, x0 (ix2 r j) * x1 (ix2 k j) := by
  pointwise [k0_pay2, k0_pay1]

/-- The product at row `r` and column `k`. -/
def prod (x0 : (⟨2, ![8192, 1024]⟩ : Shape).Idx → EReal) (x1 : (⟨2, ![1024, 1024]⟩ : Shape).Idx → EReal) (r : Fin 8192) (k : Fin 1024) : EReal :=
  ∑ j : Fin 1024, x0 (ix2 r j) * x1 (ix2 k j)

theorem tile_at (t : Fin cfg0.N) (r k : Fin 1024) (hr : 1024 * (t.val / 1) + r.val < 8192) (hk : 1024 * (t.val % 1) + k.val < 1024) :
    (dats m 0 c).arrAt 2 cfg0.N (ix2 ⟨1024 * (t.val / 1) + r.val, hr⟩ ⟨1024 * (t.val % 1) + k.val, hk⟩ : S8192x1024.Idx)
      = prod (argA m c) (argB m c) ⟨1024 * (t.val / 1) + r.val, hr⟩ ⟨1024 * (t.val % 1) + k.val, hk⟩ := by
  have e := congrFun (Value.blocks2 m c t (flush0_2 t)) (ix2 r k : S1024x1024.Idx)
  rw [Value.flushed2 m c t, out_A m c t, View.read_apply] at e
  refine Eq.trans (Product.at2 ((dats m 0 c).arrAt 2 cfg0.N) _ _ _ ?_ ?_).symm (e.trans ((pay_at ..).trans ?_))
  · show win0_2.index t 0 * 1024 + 1 * r.val = 1024 * (t.val / 1) + r.val; rw [(index2 t).1]; omega
  · show win0_2.index t 1 * 1024 + 1 * k.val = 1024 * (t.val % 1) + k.val; rw [(index2 t).2]; omega
  · exact Finset.sum_congr rfl fun j _ => by rw [b0_at m c t r j hr, b1_at m c t k j hk]

theorem reference_at (x0 : (⟨2, ![8192, 1024]⟩ : Shape).Idx → EReal) (x1 : (⟨2, ![1024, 1024]⟩ : Shape).Idx → EReal) (r : Fin 8192) (k : Fin 1024) :
    Cert.Reference8Ideal.Read.val_main_v4 (F := Ideal) x0 x1 (ix2 r k) = prod x0 x1 r k := by
  unfold prod
  pointwise [Cert.Reference8Ideal.Read.val_main_v4, Cert.Reference8Ideal.Read.val_main_v3, Cert.Reference8Ideal.Read.val_main_v1]

theorem meet : Cert.Reference8Ideal.Read.val_main_v4 (F := Ideal) (argA m c) (argB m c) = (dats m 0 c).arrAt 2 cfg0.N :=
  Product.tiles 1024 1024 1 8 (by decide) (by decide) rfl rfl rfl _ _ fun t r k hr hk =>
    (reference_at ..).trans (tile_at m c (t.cast N_0.symm) r k hr hk).symm

theorem same {x0 x0' : (⟨2, ![8192, 1024]⟩ : Shape).Idx → EReal} {x1 x1' : (⟨2, ![1024, 1024]⟩ : Shape).Idx → EReal} (e0 : x0' = x0) (e1 : x1' = x1) :
    Cert.Reference8Ideal.Read.val_main_v4 (F := Ideal) x0' x1' = Cert.Reference8Ideal.Read.val_main_v4 (F := Ideal) x0 x1 := by
  subst e0 e1; rfl

theorem algebraic : Cert.algebraic_Kernel8Ideal_Reference8Ideal (hKernel8Ideal := Cert.Kernel8Ideal.Gen.facts) (hReference8Ideal := Cert.Reference8Ideal.Gen.facts) := by
  intro m g m' g' _ hm
  refine ⟨fun c => (dats m 0 c).arrAt 2 cfg0.N, Cert.Kernel8Ideal.Value.run_blocks m g, ?_⟩
  refine (θ_run _ _ _).mono (fun r h c => ?_) (Cert.Reference8Ideal.Value.run m' g')
  obtain ⟨h0, rest⟩ := h c
  obtain ⟨a0, a1⟩ := hm c
  exact ⟨h0.trans ((Cert.Reference8Ideal.Read.val_main_v4_eq _ _).trans ((same a0 a1).trans (meet m c))), rest⟩

theorem frame_reference : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

end Cert.Kernel8Ideal.Val
end
-- ==== Proof.Mm9.lean ====
/-
  The output projection's gradient by its weight: the kernel's array is the reference's.
-/
module

public import proofs.«01_k».proof.Defs
public import proofs.«01_k».proof.Proof.Product
public import proofs.«01_k».proof.Proof.Gen.Kernel9Ideal.Value
public import proofs.«01_k».proof.Proof.Gen.Reference9Ideal.Run
public import proofs.«01_k».proof.Proof.Gen.Reference9Ideal.Read
public import Idealize.ShloMosaic.Lib.KernelVsHost

@[expose] public section

set_option maxRecDepth 16384

noncomputable section

namespace Cert.Kernel9Ideal.Val

open Cert.Kernel9Ideal Cert.Kernel9Ideal.Gen Idealize.ShloMosaic Idealize.ShloMosaic.TcCoe Idealize.SL.Sem Cert.Gating

variable (m : (ℓ : Loc nD τ sig) → Buf (Elt Ideal) ℓ) (c : Dev nD)

abbrev argA : (⟨2, ![8192, 1024]⟩ : Shape).Idx → EReal := m ((c : Thread nD τ).loc main_arg0)
abbrev argB : (⟨2, ![8192, 1024]⟩ : Shape).Idx → EReal := m ((c : Thread nD τ).loc main_arg1)

theorem index0 : ∀ t : Fin cfg0.N, win0_0.index t 0 = t.val % 8 ∧ win0_0.index t 1 = 0 :=
  (by decide +kernel : ∀ t : Fin grid0.N, win0_0.index t 0 = t.val % 8 ∧ win0_0.index t 1 = 0)
theorem index1 : ∀ t : Fin cfg0.N, win0_1.index t 0 = t.val % 8 ∧ win0_1.index t 1 = t.val / 8 :=
  (by decide +kernel : ∀ t : Fin grid0.N, win0_1.index t 0 = t.val % 8 ∧ win0_1.index t 1 = t.val / 8)
theorem lt8 (t : Fin cfg0.N) : t.val < 8 := lt_of_lt_of_eq t.isLt (show cfg0.N = 8 from N_0)

abbrev b0 (t : Fin cfg0.N) : Vec Ideal S1024x1024 .bf16 := iblk m c 0 t
abbrev b1 (t : Fin cfg0.N) : Vec Ideal S1024x1024 .bf16 := iblk m c 1 t

theorem b0_at (t : Fin cfg0.N) (j r : Fin 1024) :
    b0 m c t (ix2 j r) = argA m c (ix2 ⟨1024 * (t.val % 8) + j.val, by omega⟩ r) := by
  unfold b0 iblk
  rw [View.read_apply]
  show V m c main_arg0 _ = _
  rw [V_main_arg0]
  unfold argA
  congr 1
  funext a
  apply Fin.ext
  match a with
  | ⟨0, _⟩ => show win0_0.index t 0 * 1024 + 1 * j.val = 1024 * (t.val % 8) + j.val; rw [(index0 t).1]; omega
  | ⟨1, _⟩ => show win0_0.index t 1 * 1024 + 1 * r.val = r.val; rw [(index0 t).2]; omega
theorem b1_at (t : Fin cfg0.N) (j : Fin 1024) (k : Fin 1024) :
    b1 m c t (ix2 j k) = argB m c (ix2 ⟨1024 * (t.val % 8) + j.val, by omega⟩ ⟨1024 * (t.val / 8) + k.val, by have := lt8 t; omega⟩) := by
  unfold b1 iblk
  rw [View.read_apply]
  show V m c main_arg1 _ = _
  rw [V_main_arg1]
  unfold argB
  congr 1
  funext a
  apply Fin.ext
  match a with
  | ⟨0, _⟩ => show win0_1.index t 0 * 1024 + 1 * j.val = 1024 * (t.val % 8) + j.val; rw [(index1 t).1]; omega
  | ⟨1, _⟩ => show win0_1.index t 1 * 1024 + 1 * k.val = 1024 * (t.val / 8) + k.val; rw [(index1 t).2]; omega

/-! ## One point -/

theorem sc_A (t : Fin cfg0.N) (h0 : t.val % 8 = 0) (h1 : ¬1 ≤ t.val % 8) (h2 : ¬t.val % 8 = 7) :
    (outsAt0 m c t.val t.isLt).2 = k0_pay2 (b0 m c t) (b1 m c t) := by
  rw [outsAt0_A m c t (by have := lt8 t; omega) (by have := lt8 t; omega) (by have := lt8 t; omega)]
  dsimp only
  unfold sout0_A_0
  rw [View.read_writes_eq_canon _ _ _ (fun _ => scover0_A_0 ..)]
  unfold kernelRun0_A
  dsimp only
  sl_unfold_words
  rw [View.canon_unit_zero Product.zero2]
  simp only [View.readAt_eq_ld, (hs0_0 t).read_unread, (hs0_1 t).read_unread, View.ld_unit_zero (S := S1024x1024) Product.zero2, View.ld_unit_zero (S := S1024x1024) Product.zero2]
theorem sc_B (t : Fin cfg0.N) (h0 : ¬t.val % 8 = 0) (h1 : 1 ≤ t.val % 8) (h2 : ¬t.val % 8 = 7) :
    (outsAt0 m c t.val t.isLt).2 = k0_pay3 (b0 m c t) (b1 m c t) (outsAt0 m c (t.val - 1) (Nat.lt_of_le_of_lt (Nat.sub_le _ _) t.isLt)).2 := by
  rw [outsAt0_B m c t (by have := lt8 t; omega) (by have := lt8 t; omega) (by have := lt8 t; omega)]
  dsimp only
  unfold sout0_B_0
  rw [View.read_writes_eq_canon _ _ _ (fun _ => scover0_B_0 ..)]
  unfold kernelRun0_B
  dsimp only
  sl_unfold_words
  rw [View.canon_unit_zero Product.zero2]
  simp only [View.readAt_eq_ld, (hs0_0 t).read_unread, (hs0_1 t).read_unread, (Memref.isWhole_whole _).read_unread, View.ld_unit_zero (S := S1024x1024) Product.zero2, View.ld_unit_zero (S := S1024x1024) Product.zero2]
theorem sc_C (t : Fin cfg0.N) (h0 : ¬t.val % 8 = 0) (h1 : 1 ≤ t.val % 8) (h2 : t.val % 8 = 7) :
    (outsAt0 m c t.val t.isLt).2 = k0_pay3 (b0 m c t) (b1 m c t) (outsAt0 m c (t.val - 1) (Nat.lt_of_le_of_lt (Nat.sub_le _ _) t.isLt)).2 := by
  rw [outsAt0_C m c t (by have := lt8 t; omega) (by have := lt8 t; omega) (by have := lt8 t; omega)]
  dsimp only
  unfold sout0_C_0
  rw [View.read_writes_eq_canon _ _ _ (fun _ => scover0_C_0 ..)]
  unfold kernelRun0_C
  dsimp only
  sl_unfold_words
  rw [View.canon_unit_zero Product.zero2]
  simp only [View.readAt_eq_ld, (hs0_0 t).read_unread, (hs0_1 t).read_unread, (Memref.isWhole_whole _).read_unread, View.ld_unit_zero (S := S1024x1024) Product.zero2, View.ld_unit_zero (S := S1024x1024) Product.zero2]
theorem out_C (t : Fin cfg0.N) (h0 : ¬t.val % 8 = 0) (h1 : 1 ≤ t.val % 8) (h2 : t.val % 8 = 7) :
    (outsAt0 m c t.val t.isLt).1 = k0_pay4 (outsAt0 m c t.val t.isLt).2 := by
  rw [sc_C m c t h0 h1 h2, outsAt0_C m c t (by have := lt8 t; omega) (by have := lt8 t; omega) (by have := lt8 t; omega)]
  dsimp only
  unfold out0_C_2
  rw [View.read_writes_eq_canon _ _ _ (fun _ => cover0_C_2 ..)]
  unfold kernelRun0_C
  dsimp only
  sl_unfold_words
  rw [View.canon_unit_zero Product.zero2]
  simp only [View.readAt_eq_ld, (hs0_0 t).read_unread, (hs0_1 t).read_unread, (Memref.isWhole_whole _).read_unread, View.ld_unit_zero (S := S1024x1024) Product.zero2, View.ld_unit_zero (S := S1024x1024) Product.zero2]
  exact congrArg k0_pay4 (View.readCov_unit_zero (S := S1024x1024) _ Product.zero2 _ _)

/-- What one point adds at row `r` and column `k` of its block. -/
theorem pay_at (x0 : Vec Ideal S1024x1024 .bf16) (x1 : Vec Ideal S1024x1024 .bf16) (r : Fin 1024) (k : Fin 1024) :
    k0_pay2 x0 x1 (ix2 r k) = ∑ j : Fin 1024, x0 (ix2 j r) * x1 (ix2 j k) := by
  pointwise [k0_pay2, k0_pay1]
theorem acc_at (x0 : Vec Ideal S1024x1024 .bf16) (x1 : Vec Ideal S1024x1024 .bf16) (y : Vec Ideal S1024x1024 .f32) (r : Fin 1024) (k : Fin 1024) :
    k0_pay3 x0 x1 y (ix2 r k) = y (ix2 r k) + k0_pay2 x0 x1 (ix2 r k) := by
  pointwise [k0_pay3, k0_pay2]

/-! ## The carried sum and the array -/

/-- What point `n` adds at row `r` and column `k` of its block. -/
def part (r : Fin 1024) (k : Fin 1024) (n : ℕ) (h : n < cfg0.N) : EReal := k0_pay2 (b0 m c ⟨n, h⟩) (b1 m c ⟨n, h⟩) (ix2 r k)

/-- The terms of the whole contraction at row `r` and column `k`. -/
def term (r : Fin 1024) (k : Fin 1024) (j : Fin 8192) : EReal := argA m c (ix2 j r) * argB m c (ix2 j k)

theorem part_at (r : Fin 1024) (k : Fin 1024) (i : ℕ) (h : 8 * (k.val / 1024) + i < cfg0.N) (hi : i < 8) :
    part m c r ⟨k.val % 1024, Nat.mod_lt _ (by decide)⟩ (8 * (k.val / 1024) + i) h = ∑ j : Fin 1024, Product.extend (term m c r k) (1024 * i + j.val) := by
  unfold part
  rw [pay_at]
  refine Finset.sum_congr rfl fun j _ => ?_
  rw [b0_at, b1_at, Product.extend_of_lt _ _ (by have := j.isLt; omega)]
  unfold term
  have e0 : (8 * (k.val / 1024) + i) / 8 = k.val / 1024 := by omega
  have e1 : (8 * (k.val / 1024) + i) % 8 = i := by omega
  congr 3 <;> apply Fin.ext
  · show 1024 * ((8 * (k.val / 1024) + i) % 8) + j.val = 1024 * i + j.val; rw [e1]
  · show 1024 * ((8 * (k.val / 1024) + i) % 8) + j.val = 1024 * i + j.val; rw [e1]
  · show 1024 * ((8 * (k.val / 1024) + i) / 8) + k.val % 1024 = k.val; omega

theorem array_at (r : Fin 1024) (k : Fin 1024) : Value.G2 m c (ix2 r k) = ∑ j, term m c r k j := by
  have hn : 8 * (k.val / 1024) + 7 < cfg0.N := lt_of_lt_of_eq (by omega) N_0.symm
  have hp : Value.pt2Of (ix2 r k) = 8 * (k.val / 1024) + 7 := by
    show 8 * (1 * (r.val / 1024 - 0) + 1 * (k.val / 1024 - 0)) + 7 = _; omega
  have hl : Value.loc2Of (ix2 r k) = ix2 r ⟨k.val % 1024, Nat.mod_lt _ (by decide)⟩ := by
    funext a; apply Fin.ext
    match a with
    | ⟨0, _⟩ => exact Nat.mod_eq_of_lt r.isLt
    | ⟨1, _⟩ => rfl
  unfold Value.G2
  rw [dif_pos (by rw [hp]; exact hn), hl, Value.fold0_congr m c _ _ _ (by omega) hp, ← Value.outsAt0_sweep m c _ hn,
    out_C m c ⟨_, hn⟩ (by show ¬(8 * (k.val / 1024) + 7) % 8 = 0; omega) (by show 1 ≤ (8 * (k.val / 1024) + 7) % 8; omega)
      (by show (8 * (k.val / 1024) + 7) % 8 = 7; omega), ← Product.sum_extend]
  refine Product.run_total cfg0.N 8 1024 (fun n h => (outsAt0 m c n h).2 (ix2 r _)) (part m c r _) (fun n h h0 => ?_) (fun n h h0 => ?_) _ 7 rfl hn _ (part_at m c r k)
  · exact congrFun (sc_A m c ⟨n, h⟩ h0 (by show ¬1 ≤ n % 8; omega) (by show ¬n % 8 = 7; omega)) _
  · by_cases h2 : n % 8 = 7
    · exact (congrFun (sc_C m c ⟨n, h⟩ h0 (by show 1 ≤ n % 8; omega) h2) _).trans (acc_at ..)
    · exact (congrFun (sc_B m c ⟨n, h⟩ h0 (by show 1 ≤ n % 8; omega) h2) _).trans (acc_at ..)

theorem reference_at (x0 : (⟨2, ![8192, 1024]⟩ : Shape).Idx → EReal) (x1 : (⟨2, ![8192, 1024]⟩ : Shape).Idx → EReal) (r : Fin 1024) (k : Fin 1024) :
    Cert.Reference9Ideal.Read.val_main_v6 (F := Ideal) x0 x1 (ix2 r k) = ∑ j : Fin 8192, x0 (ix2 j r) * x1 (ix2 j k) := by
  rw [Cert.Reference9Ideal.Read.val_main_v6_apply]
  show Cert.Reference9Ideal.Read.val_main_v5 (F := Ideal) x0 x1 (ix2 r k) = _
  rw [Cert.Reference9Ideal.Read.val_main_v5_apply, Cert.Reference9Ideal.Read.val_main_v4_apply]
  refine Finset.sum_congr rfl fun j _ => ?_
  rw [Cert.Reference9Ideal.Read.val_main_v3_apply, Cert.Reference9Ideal.Read.val_main_v1_apply, mul_comm]
  exact congrArg₂ (· * ·) (congrArg x0 (by funext a; match a with | ⟨0, _⟩ => rfl | ⟨1, _⟩ => rfl)) (congrArg x1 (by funext a; match a with | ⟨0, _⟩ => rfl | ⟨1, _⟩ => rfl))

theorem meet : Cert.Reference9Ideal.Read.val_main_v6 (F := Ideal) (argA m c) (argB m c) = Value.G2 m c := by
  funext i
  obtain ⟨r, k, rfl⟩ : ∃ (r : Fin 1024) (k : Fin 1024), i = ix2 r k := ⟨i 0, i 1, by funext a; match a with | ⟨0, _⟩ => rfl | ⟨1, _⟩ => rfl⟩
  exact (reference_at ..).trans (array_at m c r k).symm

theorem same {x0 x0' : (⟨2, ![8192, 1024]⟩ : Shape).Idx → EReal} {x1 x1' : (⟨2, ![8192, 1024]⟩ : Shape).Idx → EReal} (e0 : x0' = x0) (e1 : x1' = x1) :
    Cert.Reference9Ideal.Read.val_main_v6 (F := Ideal) x0' x1' = Cert.Reference9Ideal.Read.val_main_v6 (F := Ideal) x0 x1 := by
  subst e0 e1; rfl

theorem algebraic : Cert.algebraic_Kernel9Ideal_Reference9Ideal (hKernel9Ideal := Cert.Kernel9Ideal.Gen.facts) (hReference9Ideal := Cert.Reference9Ideal.Gen.facts) := by
  intro m g m' g' _ hm
  refine ⟨fun c => Value.G2 m c, Cert.Kernel9Ideal.Value.run m g, ?_⟩
  refine (θ_run _ _ _).mono (fun r h c => ?_) (Cert.Reference9Ideal.Value.run m' g')
  obtain ⟨h0, rest⟩ := h c
  obtain ⟨a0, a1⟩ := hm c
  exact ⟨h0.trans ((Cert.Reference9Ideal.Read.val_main_v6_eq _ _).trans ((same a0 a1).trans (meet m c))), rest⟩

theorem frame_reference : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

end Cert.Kernel9Ideal.Val
end
-- ==== Proof.Mm10.lean ====
/-
  A branch's projection, its gradient by its input: the kernel's array is the reference's.
-/
module

public import proofs.«01_k».proof.Defs
public import proofs.«01_k».proof.Proof.Product
public import proofs.«01_k».proof.Proof.Gen.Kernel10Ideal.Value
public import proofs.«01_k».proof.Proof.Gen.Reference10Ideal.Run
public import proofs.«01_k».proof.Proof.Gen.Reference10Ideal.Read
public import Idealize.ShloMosaic.Lib.KernelVsHost

@[expose] public section

set_option maxRecDepth 16384

noncomputable section

namespace Cert.Kernel10Ideal.Val

open Cert.Kernel10Ideal Cert.Kernel10Ideal.Gen Idealize.ShloMosaic Idealize.ShloMosaic.TcCoe Idealize.SL.Sem Cert.Gating

variable (m : (ℓ : Loc nD τ sig) → Buf (Elt Ideal) ℓ) (c : Dev nD)

abbrev argA : (⟨2, ![8192, 1024]⟩ : Shape).Idx → EReal := m ((c : Thread nD τ).loc main_arg0)
abbrev argB : (⟨2, ![512, 1024]⟩ : Shape).Idx → EReal := m ((c : Thread nD τ).loc main_arg1)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

abbrev b0 (t : Fin cfg0.N) : Vec Ideal S1024x1024 .bf16 := iblk m c 0 t
abbrev b1 (t : Fin cfg0.N) : Vec Ideal S512x1024 .bf16 := iblk m c 1 t

theorem b0_at (t : Fin cfg0.N) (r j : Fin 1024) (h : 1024 * (t.val / 1) + r.val < 8192) :
    b0 m c t (ix2 r j) = argA m c (ix2 ⟨1024 * (t.val / 1) + r.val, h⟩ j) := by
  unfold b0 iblk
  rw [View.read_apply]
  show V m c main_arg0 _ = _
  rw [V_main_arg0]
  refine Product.at2 (argA m c) _ _ _ ?_ ?_
  · show win0_0.index t 0 * 1024 + 1 * r.val = 1024 * (t.val / 1) + r.val; rw [(index0 t).1]; omega
  · show win0_0.index t 1 * 1024 + 1 * j.val = j.val; rw [(index0 t).2]; omega
theorem b1_at (t : Fin cfg0.N) (k : Fin 512) (j : Fin 1024) (h : 512 * (t.val % 1) + k.val < 512) :
    b1 m c t (ix2 k j) = argB m c (ix2 ⟨512 * (t.val % 1) + k.val, h⟩ j) := by
  unfold b1 iblk
  rw [View.read_apply]
  show V m c main_arg1 _ = _
  rw [V_main_arg1]
  refine Product.at2 (argB m c) _ _ _ ?_ ?_
  · show win0_1.index t 0 * 512 + 1 * k.val = 512 * (t.val % 1) + k.val; rw [(index1 t).1]; omega
  · show win0_1.index t 1 * 1024 + 1 * j.val = j.val; rw [(index1 t).2]; omega

theorem out_A (t : Fin cfg0.N) : outsAt0 m c t = k0_pay2 (b0 m c t) (b1 m c t) := by
  unfold outsAt0 out0_A_2
  rw [View.read_writes_eq_canon _ _ _ (fun _ => cover0_A_2 ..)]
  unfold kernelRun0_A
  dsimp only
  sl_unfold_words
  rw [View.canon_unit_zero Product.zero2]
  simp only [View.readAt_eq_ld, (hs0_0 t).read_unread, (hs0_1 t).read_unread, View.ld_unit_zero (S := S1024x1024) Product.zero2, View.ld_unit_zero (S := S512x1024) Product.zero2, View.ld_unit_zero (S := S1024x512) Product.zero2]
  exact View.readCov_unit_zero (S := S1024x512) _ Product.zero2 _ _

theorem pay_at (x0 : Vec Ideal S1024x1024 .bf16) (x1 : Vec Ideal S512x1024 .bf16) (r : Fin 1024) (k : Fin 512) :
    k0_pay2 x0 x1 (ix2 r k) = ∑ j : Fin 1024, x0 (ix2 r j) * x1 (ix2 k j) := by
  pointwise [k0_pay2, k0_pay1]

/-- The product at row `r` and column `k`. -/
def prod (x0 : (⟨2, ![8192, 1024]⟩ : Shape).Idx → EReal) (x1 : (⟨2, ![512, 1024]⟩ : Shape).Idx → EReal) (r : Fin 8192) (k : Fin 512) : EReal :=
  ∑ j : Fin 1024, x0 (ix2 r j) * x1 (ix2 k j)

theorem tile_at (t : Fin cfg0.N) (r : Fin 1024) (k : Fin 512) (hr : 1024 * (t.val / 1) + r.val < 8192) (hk : 512 * (t.val % 1) + k.val < 512) :
    (dats m 0 c).arrAt 2 cfg0.N (ix2 ⟨1024 * (t.val / 1) + r.val, hr⟩ ⟨512 * (t.val % 1) + k.val, hk⟩ : S8192x512.Idx)
      = prod (argA m c) (argB m c) ⟨1024 * (t.val / 1) + r.val, hr⟩ ⟨512 * (t.val % 1) + k.val, hk⟩ := by
  have e := congrFun (Value.blocks2 m c t (flush0_2 t)) (ix2 r k : S1024x512.Idx)
  rw [Value.flushed2 m c t, out_A m c t, View.read_apply] at e
  refine Eq.trans (Product.at2 ((dats m 0 c).arrAt 2 cfg0.N) _ _ _ ?_ ?_).symm (e.trans ((pay_at ..).trans ?_))
  · show win0_2.index t 0 * 1024 + 1 * r.val = 1024 * (t.val / 1) + r.val; rw [(index2 t).1]; omega
  · show win0_2.index t 1 * 512 + 1 * k.val = 512 * (t.val % 1) + k.val; rw [(index2 t).2]; omega
  · exact Finset.sum_congr rfl fun j _ => by rw [b0_at m c t r j hr, b1_at m c t k j hk]

theorem reference_at (x0 : (⟨2, ![8192, 1024]⟩ : Shape).Idx → EReal) (x1 : (⟨2, ![512, 1024]⟩ : Shape).Idx → EReal) (r : Fin 8192) (k : Fin 512) :
    Cert.Reference10Ideal.Read.val_main_v4 (F := Ideal) x0 x1 (ix2 r k) = prod x0 x1 r k := by
  unfold prod
  pointwise [Cert.Reference10Ideal.Read.val_main_v4, Cert.Reference10Ideal.Read.val_main_v3, Cert.Reference10Ideal.Read.val_main_v1]

theorem meet : Cert.Reference10Ideal.Read.val_main_v4 (F := Ideal) (argA m c) (argB m c) = (dats m 0 c).arrAt 2 cfg0.N :=
  Product.tiles 1024 512 1 8 (by decide) (by decide) rfl rfl rfl _ _ fun t r k hr hk =>
    (reference_at ..).trans (tile_at m c (t.cast N_0.symm) r k hr hk).symm

theorem same {x0 x0' : (⟨2, ![8192, 1024]⟩ : Shape).Idx → EReal} {x1 x1' : (⟨2, ![512, 1024]⟩ : Shape).Idx → EReal} (e0 : x0' = x0) (e1 : x1' = x1) :
    Cert.Reference10Ideal.Read.val_main_v4 (F := Ideal) x0' x1' = Cert.Reference10Ideal.Read.val_main_v4 (F := Ideal) x0 x1 := by
  subst e0 e1; rfl

theorem algebraic : Cert.algebraic_Kernel10Ideal_Reference10Ideal (hKernel10Ideal := Cert.Kernel10Ideal.Gen.facts) (hReference10Ideal := Cert.Reference10Ideal.Gen.facts) := by
  intro m g m' g' _ hm
  refine ⟨fun c => (dats m 0 c).arrAt 2 cfg0.N, Cert.Kernel10Ideal.Value.run_blocks m g, ?_⟩
  refine (θ_run _ _ _).mono (fun r h c => ?_) (Cert.Reference10Ideal.Value.run m' g')
  obtain ⟨h0, rest⟩ := h c
  obtain ⟨a0, a1⟩ := hm c
  exact ⟨h0.trans ((Cert.Reference10Ideal.Read.val_main_v4_eq _ _).trans ((same a0 a1).trans (meet m c))), rest⟩

theorem frame_reference : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run (F := Ideal) m ρ)

end Cert.Kernel10Ideal.Val
end
-- ==== Proof.Mm11.lean ====
/-
  A branch's projection, its gradient by its weight: the kernel's array is the reference's.
-/
module

public import proofs.«01_k».proof.Defs
public import proofs.«01_k».proof.Proof.Product
public import proofs.«01_k».proof.Proof.Gen.Kernel11Ideal.Value
public import proofs.«01_k».proof.Proof.Gen.Reference11Ideal.Run
public import proofs.«01_k».proof.Proof.Gen.Reference11Ideal.Read
public import Idealize.ShloMosaic.Lib.KernelVsHost

@[expose] public section

set_option maxRecDepth 16384

noncomputable section

namespace Cert.Kernel11Ideal.Val

open Cert.Kernel11Ideal Cert.Kernel11Ideal.Gen Idealize.ShloMosaic Idealize.ShloMosaic.TcCoe Idealize.SL.Sem Cert.Gating

variable (m : (ℓ : Loc nD τ sig) → Buf (Elt Ideal) ℓ) (c : Dev nD)

abbrev argA : (⟨2, ![8192, 512]⟩ : Shape).Idx → EReal := m ((c : Thread nD τ).loc main_arg0)
abbrev argB : (⟨2, ![8192, 1024]⟩ : Shape).Idx → EReal := m ((c : Thread nD τ).loc main_arg1)

theorem index0 : ∀ t : Fin cfg0.N, win0_0.index t 0 = t.val % 8 ∧ win0_0.index t 1 = 0 :=
  (by decide +kernel : ∀ t : Fin grid0.N, win0_0.index t 0 = t.val % 8 ∧ win0_0.index t 1 = 0)
theorem index1 : ∀ t : Fin cfg0.N, win0_1.index t 0 = t.val % 8 ∧ win0_1.index t 1 = t.val / 8 :=
  (by decide +kernel : ∀ t : Fin grid0.N, win0_1.index t 0 = t.val % 8 ∧ win0_1.index t 1 = t.val / 8)
theorem lt8 (t : Fin cfg0.N) : t.val < 8 := lt_of_lt_of_eq t.isLt (show cfg0.N = 8 from N_0)

abbrev b0 (t : Fin cfg0.N) : Vec Ideal S1024x512 .bf16 := iblk m c 0 t
abbrev b1 (t : Fin cfg0.N) : Vec Ideal S1024x1024 .bf16 := iblk m c 1 t

theorem b0_at (t : Fin cfg0.N) (j : Fin 1024) (r : Fin 512) :
    b0 m c t (ix2 j r) = argA m c (ix2 ⟨1024 * (t.val % 8) + j.val, by omega⟩ r) := by
  unfold b0 iblk
  rw [View.read_apply]
  show V m c main_arg0 _ = _
  rw [V_main_arg0]
  unfold argA
  congr 1
  funext a
  apply Fin.ext
  match a with
  | ⟨0, _⟩ => show win0_0.index t 0 * 1024 + 1 * j.val = 1024 * (t.val % 8) + j.val; rw [(index0 t).1]; omega
  | ⟨1, _⟩ => show win0_0.index t 1 * 512 + 1 * r.val = r.val; rw [(index0 t).2]; omega
theorem b1_at (t : Fin cfg0.N) (j : Fin 1024) (k : Fin 1024) :
    b1 m c t (ix2 j k) = argB m c (ix2 ⟨1024 * (t.val % 8) + j.val, by omega⟩ ⟨1024 * (t.val / 8) + k.val, by have := lt8 t; omega⟩) := by
  unfold b1 iblk
  rw [View.read_apply]
  show V m c main_arg1 _ = _
  rw [V_main_arg1]
  unfold argB
  congr 1
  funext a
  apply Fin.ext
  match a with
  | ⟨0, _⟩ => show win0_1.index t 0 * 1024 + 1 * j.val = 1024 * (t.val % 8) + j.val; rw [(index1 t).1]; omega
  | ⟨1, _⟩ => show win0_1.index t 1 * 1024 + 1 * k.val = 1024 * (t.val / 8) + k.val; rw [(index1 t).2]; omega

/-! ## One point -/

theorem sc_A (t : Fin cfg0.N) (h0 : t.val % 8 = 0) (h1 : ¬1 ≤ t.val % 8) (h2 : ¬t.val % 8 = 7) :
    (outsAt0 m c t.val t.isLt).2 = k0_pay2 (b0 m c t) (b1 m c t) := by
  rw [outsAt0_A m c t (by have := lt8 t; omega) (by have := lt8 t; omega) (by have := lt8 t; omega)]
  dsimp only
  unfold sout0_A_0
  rw [View.read_writes_eq_canon _ _ _ (fun _ => scover0_A_0 ..)]
  unfold kernelRun0_A
  dsimp only
  sl_unfold_words
  rw [View.canon_unit_zero Product.zero2]
  simp only [View.readAt_eq_ld, (hs0_0 t).read_unread, (hs0_1 t).read_unread, View.ld_unit_zero (S := S1024x512) Product.zero2, View.ld_unit_zero (S := S512x1024) Product.zero2, View.ld_unit_zero (S := S1024x1024) Product.zero2]
theorem sc_B (t : Fin cfg0.N) (h0 : ¬t.val % 8 = 0) (h1 : 1 ≤ t.val % 8) (h2 : ¬t.val % 8 = 7) :
    (outsAt0 m c t.val t.isLt).2 = k0_pay3 (b0 m c t) (b1 m c t) (outsAt0 m c (t.val - 1) (Nat.lt_of_le_of_lt (Nat.sub_le _ _) t.isLt)).2 := by
  rw [outsAt0_B m c t (by have := lt8 t; omega) (by have := lt8 t; omega) (by have := lt8 t; omega)]
  dsimp only
  unfold sout0_B_0
  rw [View.read_writes_eq_canon _ _ _ (fun _ => scover0_B_0 ..)]
  unfold kernelRun0_B
  dsimp only
  sl_unfold_words
  rw [View.canon_unit_zero Product.zero2]
  simp only [View.readAt_eq_ld, (hs0_0 t).read_unread, (hs0_1 t).read_unread, (Memref.isWhole_whole _).read_unread, View.ld_unit_zero (S := S1024x512) Product.zero2, View.ld_unit_zero (S := S512x1024) Product.zero2, View.ld_unit_zero (S := S1024x1024) Product.zero2]
theorem sc_C (t : Fin cfg0.N) (h0 : ¬t.val % 8 = 0) (h1 : 1 ≤ t.val % 8) (h2 : t.val % 8 = 7) :
    (outsAt0 m c t.val t.isLt).2 = k0_pay3 (b0 m c t) (b1 m c t) (outsAt0 m c (t.val - 1) (Nat.lt_of_le_of_lt (Nat.sub_le _ _) t.isLt)).2 := by
  rw [outsAt0_C m c t (by have := lt8 t; omega) (by have := lt8 t; omega) (by have := lt8 t; omega)]
  dsimp only
  unfold sout0_C_0
  rw [View.read_writes_eq_canon _ _ _ (fun _ => scover0_C_0 ..)]
  unfold kernelRun0_C
  dsimp only
  sl_unfold_words
  rw [View.canon_unit_zero Product.zero2]
  simp only [View.readAt_eq_ld, (hs0_0 t).read_unread, (hs0_1 t).read_unread, (Memref.isWhole_whole _).read_unread, View.ld_unit_zero (S := S1024x512) Product.zero2, View.ld_unit_zero (S := S512x1024) Product.zero2, View.ld_unit_zero (S := S1024x1024) Product.zero2]
theorem out_C (t : Fin cfg0.N) (h0 : ¬t.val % 8 = 0) (h1 : 1 ≤ t.val % 8) (h2 : t.val % 8 = 7) :
    (outsAt0 m c t.val t.isLt).1 = k0_pay4 (outsAt0 m c t.val t.isLt).2 := by
  rw [sc_C m c t h0 h1 h2, outsAt0_C m c t (by have := lt8 t; omega) (by have := lt8 t; omega) (by have := lt8 t; omega)]
  dsimp only
  unfold out0_C_2
  rw [View.read_writes_eq_canon _ _ _ (fun _ => cover0_C_2 ..)]
  unfold kernelRun0_C
  dsimp only
  sl_unfold_words
  rw [View.canon_unit_zero Product.zero2]
  simp only [View.readAt_eq_ld, (hs0_0 t).read_unread, (hs0_1 t).read_unread, (Memref.isWhole_whole _).read_unread, View.ld_unit_zero (S := S1024x512) Product.zero2, View.ld_unit_zero (S := S512x1024) Product.zero2, View.ld_unit_zero (S := S1024x1024) Product.zero2]
  exact congrArg k0_pay4 (View.readCov_unit_zero (S := S512x1024) _ Product.zero2 _ _)

/-- What one point adds at row `r` and column `k` of its block. -/
theorem pay_at (x0 : Vec Ideal S1024x512 .bf16) (x1 : Vec Ideal S1024x1024 .bf16) (r : Fin 512) (k : Fin 1024) :
    k0_pay2 x0 x1 (ix2 r k) = ∑ j : Fin 1024, x0 (ix2 j r) * x1 (ix2 j k) := by
  pointwise [k0_pay2, k0_pay1]
theorem acc_at (x0 : Vec Ideal S1024x512 .bf16) (x1 : Vec Ideal S1024x1024 .bf16) (y : Vec Ideal S512x1024 .f32) (r : Fin 512) (k : Fin 1024) :
    k0_pay3 x0 x1 y (ix2 r k) = y (ix2 r k) + k0_pay2 x0 x1 (ix2 r k) := by
  pointwise [k0_pay3, k0_pay2]

/-! ## The carried sum and the array -/

/-- What point `n` adds at row `r` and column `k` of its block. -/
def part (r : Fin 512) (k : Fin 1024) (n : ℕ) (h : n < cfg0.N) : EReal := k0_pay2 (b0 m c ⟨n, h⟩) (b1 m c ⟨n, h⟩) (ix2 r k)

/-- The terms of the whole contraction at row `r` and column `k`. -/
def term (r : Fin 512) (k : Fin 1024) (j : Fin 8192) : EReal := argA m c (ix2 j r) * argB m c (ix2 j k)

theorem part_at (r : Fin 512) (k : Fin 1024) (i : ℕ) (h : 8 * (k.val / 1024) + i < cfg0.N) (hi : i < 8) :
    part m c r ⟨k.val % 1024, Nat.mod_lt _ (by decide)⟩ (8 * (k.val / 1024) + i) h = ∑ j : Fin 1024, Product.extend (term m c r k) (1024 * i + j.val) := by
  unfold part
  rw [pay_at]
  refine Finset.sum_congr rfl fun j _ => ?_
  rw [b0_at, b1_at, Product.extend_of_lt _ _ (by have := j.isLt; omega)]
  unfold term
  have e0 : (8 * (k.val / 1024) + i) / 8 = k.val / 1024 := by omega
  have e1 : (8 * (k.val / 1024) + i) % 8 = i := by omega
  congr 3 <;> apply Fin.ext
  · show 1024 * ((8 * (k.val / 1024) + i) % 8) + j.val = 1024 * i + j.val; rw [e1]
  · show 1024 * ((8 * (k.val / 1024) + i) % 8) + j.val = 1024 * i + j.val; rw [e1]
  · show 1024 * ((8 * (k.val / 1024) + i) / 8) + k.val % 1024 = k.val; omega

theorem array_at (r : Fin 512) (k : Fin 1024) : Value.G2 m c (ix2 r k) = ∑ j, term m c r k j := by
  have hn : 8 * (k.val / 1024) + 7 < cfg0.N := lt_of_lt_of_eq (by omega) N_0.symm
  have hp : Value.pt2Of (ix2 r k) = 8 * (k.val / 1024) + 7 := by
    show 8 * (1 * (r.val / 512 - 0) + 1 * (k.val / 1024 - 0)) + 7 = _; omega
  have hl : Value.loc2Of (ix2 r k) = ix2 r ⟨k.val % 1024, Nat.mod_lt _ (by decide)⟩ := by
    funext a; apply Fin.ext
    match a with
    | ⟨0, _⟩ => exact Nat.mod_eq_of_lt r.isLt
    | ⟨1, _⟩ => rfl
  unfold Value.G2
  rw [dif_pos (by rw [hp]; exact hn), hl, Value.fold0_congr m c _ _ _ (by omega) hp, ← Value.outsAt0_sweep m c _ hn,
    out_C m c ⟨_, hn⟩ (by show ¬(8 * (k.val / 1024) + 7) % 8 = 0; omega) (by show 1 ≤ (8 * (k.val / 1024) + 7) % 8; omega)
      (by show (8 * (k.val / 1024) + 7) % 8 = 7; omega), ← Product.sum_extend]
  refine Product.run_total cfg0.N 8 1024 (fun n h => (outsAt0 m c n h).2 (ix2 r _)) (part m c r _) (fun n h h0 => ?_) (fun n h h0 => ?_) _ 7 rfl hn _ (part_at m c r k)
  · exact congrFun (sc_A m c ⟨n, h⟩ h0 (by show ¬1 ≤ n % 8; omega) (by show ¬n % 8 = 7; omega)) _
  · by_cases h2 : n % 8 = 7
    · exact (congrFun (sc_C m c ⟨n, h⟩ h0 (by show 1 ≤ n % 8; omega) h2) _).trans (acc_at ..)
    · exact (congrFun (sc_B m c ⟨n, h⟩ h0 (by show 1 ≤ n % 8; omega) h2) _).trans (acc_at ..)

theorem reference_at (x0 : (⟨2, ![8192, 512]⟩ : Shape).Idx → EReal) (x1 : (⟨2, ![8192, 1024]⟩ : Shape).Idx → EReal) (r : Fin 512) (k : Fin 1024) :
    Cert.Reference11Ideal.Read.val_main_v6 (F := Ideal) x0 x1 (ix2 r k) = ∑ j : Fin 8192, x0 (ix2 j r) * x1 (ix2 j k) := by
  rw [Cert.Reference11Ideal.Read.val_main_v6_apply]
  show Cert.Reference11Ideal.Read.val_main_v5 (F := Ideal) x0 x1 (ix2 r k) = _
  rw [Cert.Reference11Ideal.Read.val_main_v5_apply, Cert.Reference11Ideal.Read.val_main_v4_apply]
  refine Finset.sum_congr rfl fun j _ => ?_
  rw [Cert.Reference11Ideal.Read.val_main_v3_apply, Cert.Reference11Ideal.Read.val_main_v1_apply, mul_comm]
  exact congrArg₂ (· * ·) (congrArg x0 (by funext a; match a with | ⟨0, _⟩ => rfl | ⟨1, _⟩ => rfl)) (congrArg x1 (by funext a; match a with | ⟨0, _⟩ => rfl | ⟨1, _⟩ => rfl))

theorem meet : Cert.Reference11Ideal.Read.val_main_v6 (F := Ideal) (argA m c) (argB m c) = Value.G2 m c := by
  funext i
  obtain ⟨r, k, rfl⟩ : ∃ (r : Fin 512) (k : Fin 1024), i = ix2 r k := ⟨i 0, i 1, by funext a; match a with | ⟨0, _⟩ => rfl | ⟨1, _⟩ => rfl⟩
  exact (reference_at ..).trans (array_at m c r k).symm

theorem same {x0 x0' : (⟨2, ![8192, 512]⟩ : Shape).Idx → EReal} {x1 x1' : (⟨2, ![8192, 1024]⟩ : Shape).Idx → EReal} (e0 : x0' = x0) (e1 : x1' = x1) :
    Cert.Reference11Ideal.Read.val_main_v6 (F := Ideal) x0' x1' = Cert.Reference11Ideal.Read.val_main_v6 (F := Ideal) x0 x1 := by
  subst e0 e1; rfl

theorem algebraic : Cert.algebraic_Kernel11Ideal_Reference11Ideal (hKernel11Ideal := Cert.Kernel11Ideal.Gen.facts) (hReference11Ideal := Cert.Reference11Ideal.Gen.facts) := by
  intro m g m' g' _ hm
  refine ⟨fun c => Value.G2 m c, Cert.Kernel11Ideal.Value.run m g, ?_⟩
  refine (θ_run _ _ _).mono (fun r h c => ?_) (Cert.Reference11Ideal.Value.run m' g')
  obtain ⟨h0, rest⟩ := h c
  obtain ⟨a0, a1⟩ := hm c
  exact ⟨h0.trans ((Cert.Reference11Ideal.Read.val_main_v6_eq _ _).trans ((same a0 a1).trans (meet m c))), rest⟩

theorem frame_reference : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)

end Cert.Kernel11Ideal.Val
end
-- ==== Proof.Mm12.lean ====
/-
  The input projection with its bias: the kernel's array is the reference's.
-/
module

public import proofs.«01_k».proof.Defs
public import proofs.«01_k».proof.Proof.Product
public import proofs.«01_k».proof.Proof.Gen.Kernel12Ideal.Value
public import proofs.«01_k».proof.Proof.Gen.Reference12Ideal.Run
public import proofs.«01_k».proof.Proof.Gen.Reference12Ideal.Read
public import Idealize.ShloMosaic.Lib.KernelVsHost

@[expose] public section

set_option maxRecDepth 16384

noncomputable section

namespace Cert.Kernel12Ideal.Val

open Cert.Kernel12Ideal Cert.Kernel12Ideal.Gen Idealize.ShloMosaic Idealize.ShloMosaic.TcCoe Idealize.SL.Sem Cert.Gating

variable (m : (ℓ : Loc nD τ sig) → Buf (Elt Ideal) ℓ) (c : Dev nD)

abbrev argA : (⟨2, ![8192, 1024]⟩ : Shape).Idx → EReal := m ((c : Thread nD τ).loc main_arg0)
abbrev argB : (⟨2, ![1024, 8192]⟩ : Shape).Idx → EReal := m ((c : Thread nD τ).loc main_arg1)
abbrev argC : (⟨1, ![8192]⟩ : Shape).Idx → EReal := m ((c : Thread nD τ).loc main_arg2)

theorem index0 : ∀ t : Fin cfg0.N, win0_0.index t 0 = t.val / 4 ∧ win0_0.index t 1 = 0 :=
  (by decide +kernel : ∀ t : Fin grid0.N, win0_0.index t 0 = t.val / 4 ∧ win0_0.index t 1 = 0)
theorem index1 : ∀ t : Fin cfg0.N, win0_1.index t 0 = 0 ∧ win0_1.index t 1 = t.val % 4 :=
  (by decide +kernel : ∀ t : Fin grid0.N, win0_1.index t 0 = 0 ∧ win0_1.index t 1 = t.val % 4)
theorem index2 : ∀ t : Fin cfg0.N, win0_2.index t 0 = 0 ∧ win0_2.index t 1 = t.val % 4 :=
  (by decide +kernel : ∀ t : Fin grid0.N, win0_2.index t 0 = 0 ∧ win0_2.index t 1 = t.val % 4)

theorem index3 : ∀ t : Fin cfg0.N, win0_3.index t 0 = t.val / 4 ∧ win0_3.index t 1 = t.val % 4 :=
  (by decide +kernel : ∀ t : Fin grid0.N, win0_3.index t 0 = t.val / 4 ∧ win0_3.index t 1 = t.val % 4)

theorem V_v0 : V m c main_v0 = shapeCast _ (argC m c) shapeCasts_S8192_S1x8192 := by
  unfold V; simp only [hostOps0, List.flatten_cons, List.flatten_nil, List.append_nil, List.cons_append, List.nil_append]
  after_results
  rfl
theorem V_v0_at (z : Fin 1) (k : Fin 8192) : V m c main_v0 (ix2 z k) = argC m c (ix1 k) := by
  rw [V_v0]
  pointwise

abbrev b0 (t : Fin cfg0.N) : Vec Ideal S1024x1024 .bf16 := iblk m c 0 t
abbrev b1 (t : Fin cfg0.N) : Vec Ideal S1024x2048 .bf16 := iblk m c 1 t
abbrev b2 (t : Fin cfg0.N) : Vec Ideal S1x2048 .f32 := iblk m c 2 t

theorem b0_at (t : Fin cfg0.N) (r j : Fin 1024) (h : 1024 * (t.val / 4) + r.val < 8192) :
    b0 m c t (ix2 r j) = argA m c (ix2 ⟨1024 * (t.val / 4) + r.val, h⟩ j) := by
  unfold b0 iblk
  rw [View.read_apply]
  show V m c main_arg0 _ = _
  rw [V_main_arg0]
  refine Product.at2 (argA m c) _ _ _ ?_ ?_
  · show win0_0.index t 0 * 1024 + 1 * r.val = 1024 * (t.val / 4) + r.val; rw [(index0 t).1]; omega
  · show win0_0.index t 1 * 1024 + 1 * j.val = j.val; rw [(index0 t).2]; omega
theorem b1_at (t : Fin cfg0.N) (j : Fin 1024) (k : Fin 2048) (h : 2048 * (t.val % 4) + k.val < 8192) :
    b1 m c t (ix2 j k) = argB m c (ix2 j ⟨2048 * (t.val % 4) + k.val, h⟩) := by
  unfold b1 iblk
  rw [View.read_apply]
  show V m c main_arg1 _ = _
  rw [V_main_arg1]
  refine Product.at2 (argB m c) _ _ _ ?_ ?_
  · show win0_1.index t 0 * 1024 + 1 * j.val = j.val; rw [(index1 t).1]; omega
  · show win0_1.index t 1 * 2048 + 1 * k.val = 2048 * (t.val % 4) + k.val; rw [(index1 t).2]; omega

theorem b2_at (t : Fin cfg0.N) (z : Fin 1) (k : Fin 2048) (h : 2048 * (t.val % 4) + k.val < 8192) :
    b2 m c t (ix2 z k) = argC m c (ix1 ⟨2048 * (t.val % 4) + k.val, h⟩) := by
  unfold b2 iblk
  rw [View.read_apply]
  show V m c main_v0 _ = _
  rw [← V_v0_at m c z]
  refine Product.at2 (V m c main_v0) _ _ _ ?_ ?_
  · show win0_2.index t 0 * 1 + 1 * z.val = z.val; rw [(index2 t).1]; omega
  · show win0_2.index t 1 * 2048 + 1 * k.val = 2048 * (t.val % 4) + k.val; rw [(index2 t).2]; omega

theorem out_A (t : Fin cfg0.N) : outsAt0 m c t = k0_pay4 (k0_pay2 (b0 m c t) (b1 m c t)) (b2 m c t) := by
  unfold outsAt0 out0_A_3
  rw [View.read_writes_eq_canon _ _ _ (fun _ => cover0_A_3 ..)]
  unfold kernelRun0_A
  dsimp only
  sl_unfold_words
  rw [View.canon_unit_zero Product.zero2]
  simp only [View.readAt_eq_ld, (hs0_0 t).read_unread, (hs0_1 t).read_unread, (hs0_2 t).read_unread, View.ld_unit_zero (S := S1024x1024) Product.zero2, View.ld_unit_zero (S := S1024x2048) Product.zero2, View.ld_unit_zero (S := S1x2048) Product.zero2]
  exact congrArg (fun x => k0_pay4 x (b2 m c t)) (View.readCov_unit_zero (S := S1024x2048) _ Product.zero2 _ _)

theorem pay_at (x0 : Vec Ideal S1024x1024 .bf16) (x1 : Vec Ideal S1024x2048 .bf16) (x2 : Vec Ideal S1x2048 .f32) (r : Fin 1024) (k : Fin 2048) :
    k0_pay4 (k0_pay2 x0 x1) x2 (ix2 r k) = (∑ j : Fin 1024, x0 (ix2 r j) * x1 (ix2 j k)) + x2 (ix2 0 k) := by
  pointwise [k0_pay4, k0_pay2, k0_pay1]

/-- The projection at row `r` and column `k`. -/
def prod (x0 : (⟨2, ![8192, 1024]⟩ : Shape).Idx → EReal) (x1 : (⟨2, ![1024, 8192]⟩ : Shape).Idx → EReal) (x2 : (⟨1, ![8192]⟩ : Shape).Idx → EReal) (r : Fin 8192) (k : Fin 8192) : EReal :=
  (∑ j : Fin 1024, x0 (ix2 r j) * x1 (ix2 j k)) + x2 (ix1 k)

theorem tile_at (t : Fin cfg0.N) (r : Fin 1024) (k : Fin 2048) (hr : 1024 * (t.val / 4) + r.val < 8192) (hk : 2048 * (t.val % 4) + k.val < 8192) :
    (dats m 0 c).arrAt 3 cfg0.N (ix2 ⟨1024 * (t.val / 4) + r.val, hr⟩ ⟨2048 * (t.val % 4) + k.val, hk⟩ : S8192x8192.Idx)
      = prod (argA m c) (argB m c) (argC m c) ⟨1024 * (t.val / 4) + r.val, hr⟩ ⟨2048 * (t.val % 4) + k.val, hk⟩ := by
  have e := congrFun (Value.blocks3 m c t (flush0_3 t)) (ix2 r k : S1024x2048.Idx)
  rw [Value.flushed3 m c t, out_A m c t, View.read_apply] at e
  refine Eq.trans (Product.at2 ((dats m 0 c).arrAt 3 cfg0.N) _ _ _ ?_ ?_).symm (e.trans ((pay_at ..).trans ?_))
  · show win0_3.index t 0 * 1024 + 1 * r.val = 1024 * (t.val / 4) + r.val; rw [(index3 t).1]; omega
  · show win0_3.index t 1 * 2048 + 1 * k.val = 2048 * (t.val % 4) + k.val; rw [(index3 t).2]; omega
  · exact congrArg₂ (· + ·) (Finset.sum_congr rfl fun j _ => by rw [b0_at m c t r j hr, b1_at m c t j k hk]) (b2_at m c t 0 k hk)

theorem reference_at (x0 : (⟨2, ![8192, 1024]⟩ : Shape).Idx → EReal) (x1 : (⟨2, ![1024, 8192]⟩ : Shape).Idx → EReal) (x2 : (⟨1, ![8192]⟩ : Shape).Idx → EReal) (r : Fin 8192) (k : Fin 8192) :
    Cert.Reference12Ideal.Read.val_main_v5 (F := Ideal) x0 x1 x2 (ix2 r k) = prod x0 x1 x2 r k := by
  unfold prod
  pointwise [Cert.Reference12Ideal.Read.val_main_v5, Cert.Reference12Ideal.Read.val_main_v4, Cert.Reference12Ideal.Read.val_main_v3, Cert.Reference12Ideal.Read.val_main_v2, Cert.Reference12Ideal.Read.val_main_v1, Cert.Reference12Ideal.Read.val_main_v0]

theorem meet : Cert.Reference12Ideal.Read.val_main_v5 (F := Ideal) (argA m c) (argB m c) (argC m c) = (dats m 0 c).arrAt 3 cfg0.N :=
  Product.tiles 1024 2048 4 32 (by decide) (by decide) rfl rfl rfl _ _ fun t r k hr hk =>
    (reference_at ..).trans (tile_at m c (t.cast N_0.symm) r k hr hk).symm

theorem same {x0 x0' : (⟨2, ![8192, 1024]⟩ : Shape).Idx → EReal} {x1 x1' : (⟨2, ![1024, 8192]⟩ : Shape).Idx → EReal} {x2 x2' : (⟨1, ![8192]⟩ : Shape).Idx → EReal} (e0 : x0' = x0) (e1 : x1' = x1) (e2 : x2' = x2) :
    Cert.Reference12Ideal.Read.val_main_v5 (F := Ideal) x0' x1' x2' = Cert.Reference12Ideal.Read.val_main_v5 (F := Ideal) x0 x1 x2 := by
  subst e0 e1 e2; rfl

theorem algebraic : Cert.algebraic_Kernel12Ideal_Reference12Ideal (hKernel12Ideal := Cert.Kernel12Ideal.Gen.facts) (hReference12Ideal := Cert.Reference12Ideal.Gen.facts) := by
  intro m g m' g' _ hm
  refine ⟨fun c => (dats m 0 c).arrAt 3 cfg0.N, Cert.Kernel12Ideal.Value.run_blocks m g, ?_⟩
  refine (θ_run _ _ _).mono (fun r h c => ?_) (Cert.Reference12Ideal.Value.run m' g')
  obtain ⟨h0, rest⟩ := h c
  obtain ⟨a0, a1, a2⟩ := hm c
  exact ⟨h0.trans ((Cert.Reference12Ideal.Read.val_main_v5_eq _ _ _).trans ((same a0 a1 a2).trans (meet m c))), rest⟩

theorem frame_reference : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run (F := Ideal) m ρ)

end Cert.Kernel12Ideal.Val
end
-- ==== Proof.Mm13.lean ====
/-
  The first feed-forward product, its rectified value and the square of that: the kernel's two arrays are the reference's.
-/
module

public import proofs.«01_k».proof.Defs
public import proofs.«01_k».proof.Proof.Product
public import proofs.«01_k».proof.Proof.Gen.Kernel13Ideal.Value
public import proofs.«01_k».proof.Proof.Gen.Reference13Ideal.Run
public import proofs.«01_k».proof.Proof.Gen.Reference13Ideal.Read
public import Idealize.ShloMosaic.Lib.KernelVsHost

@[expose] public section

set_option maxRecDepth 16384

noncomputable section

namespace Cert.Kernel13Ideal.Val

open Cert.Kernel13Ideal Cert.Kernel13Ideal.Gen Idealize.ShloMosaic Idealize.ShloMosaic.TcCoe Idealize.SL.Sem Cert.Gating

variable (m : (ℓ : Loc nD τ sig) → Buf (Elt Ideal) ℓ) (c : Dev nD)

abbrev argA : (⟨2, ![8192, 1024]⟩ : Shape).Idx → EReal := m ((c : Thread nD τ).loc main_arg0)
abbrev argB : (⟨2, ![1024, 4096]⟩ : Shape).Idx → EReal := m ((c : Thread nD τ).loc main_arg1)

theorem index0 : ∀ t : Fin cfg0.N, win0_0.index t 0 = t.val / 2 ∧ win0_0.index t 1 = 0 :=
  (by decide +kernel : ∀ t : Fin grid0.N, win0_0.index t 0 = t.val / 2 ∧ win0_0.index t 1 = 0)
theorem index1 : ∀ t : Fin cfg0.N, win0_1.index t 0 = 0 ∧ win0_1.index t 1 = t.val % 2 :=
  (by decide +kernel : ∀ t : Fin grid0.N, win0_1.index t 0 = 0 ∧ win0_1.index t 1 = t.val % 2)
theorem index2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

theorem index3 : ∀ t : Fin cfg0.N, win0_3.index t 0 = t.val / 2 ∧ win0_3.index t 1 = t.val % 2 :=
  (by decide +kernel : ∀ t : Fin grid0.N, win0_3.index t 0 = t.val / 2 ∧ win0_3.index t 1 = t.val % 2)

abbrev b0 (t : Fin cfg0.N) : Vec Ideal S1024x1024 .bf16 := iblk m c 0 t
abbrev b1 (t : Fin cfg0.N) : Vec Ideal S1024x2048 .bf16 := iblk m c 1 t

theorem b0_at (t : Fin cfg0.N) (r j : Fin 1024) (h : 1024 * (t.val / 2) + r.val < 8192) :
    b0 m c t (ix2 r j) = argA m c (ix2 ⟨1024 * (t.val / 2) + r.val, h⟩ j) := by
  unfold b0 iblk
  rw [View.read_apply]
  show V m c main_arg0 _ = _
  rw [V_main_arg0]
  refine Product.at2 (argA m c) _ _ _ ?_ ?_
  · show win0_0.index t 0 * 1024 + 1 * r.val = 1024 * (t.val / 2) + r.val; rw [(index0 t).1]; omega
  · show win0_0.index t 1 * 1024 + 1 * j.val = j.val; rw [(index0 t).2]; omega
theorem b1_at (t : Fin cfg0.N) (j : Fin 1024) (k : Fin 2048) (h : 2048 * (t.val % 2) + k.val < 4096) :
    b1 m c t (ix2 j k) = argB m c (ix2 j ⟨2048 * (t.val % 2) + k.val, h⟩) := by
  unfold b1 iblk
  rw [View.read_apply]
  show V m c main_arg1 _ = _
  rw [V_main_arg1]
  refine Product.at2 (argB m c) _ _ _ ?_ ?_
  · show win0_1.index t 0 * 1024 + 1 * j.val = j.val; rw [(index1 t).1]; omega
  · show win0_1.index t 1 * 2048 + 1 * k.val = 2048 * (t.val % 2) + k.val; rw [(index1 t).2]; omega

theorem out_A2 (t : Fin cfg0.N) : (outsAt0 m c t).1 = k0_pay4 (k0_pay2 (b0 m c t) (b1 m c t)) := by
  unfold outsAt0 out0_A_2
  dsimp only
  rw [View.read_writes_eq_canon _ _ _ (fun _ => cover0_A_2 ..)]
  unfold kernelRun0_A
  dsimp only
  sl_unfold_words
  rw [View.canon_unit_zero Product.zero2]
  simp only [View.readAt_eq_ld, (hs0_0 t).read_unread, (hs0_1 t).read_unread, View.ld_unit_zero (S := S1024x1024) Product.zero2, View.ld_unit_zero (S := S1024x2048) Product.zero2]
  exact congrArg k0_pay4 (View.readCov_unit_zero (S := S1024x2048) _ Product.zero2 _ _)
theorem out_A3 (t : Fin cfg0.N) : (outsAt0 m c t).2 = k0_pay5 (k0_pay2 (b0 m c t) (b1 m c t)) := by
  unfold outsAt0 out0_A_3
  dsimp only
  rw [View.read_writes_eq_canon _ _ _ (fun _ => cover0_A_3 ..)]
  unfold kernelRun0_A
  dsimp only
  sl_unfold_words
  rw [View.canon_unit_zero Product.zero2]
  simp only [View.readAt_eq_ld, (hs0_0 t).read_unread, (hs0_1 t).read_unread, View.ld_unit_zero (S := S1024x1024) Product.zero2, View.ld_unit_zero (S := S1024x2048) Product.zero2]
  exact congrArg k0_pay5 (View.readCov_unit_zero (S := S1024x2048) _ Product.zero2 _ _)

/-- The product at row `r` and column `k`. -/
def prod (x0 : (⟨2, ![8192, 1024]⟩ : Shape).Idx → EReal) (x1 : (⟨2, ![1024, 4096]⟩ : Shape).Idx → EReal) (r : Fin 8192) (k : Fin 4096) : EReal :=
  ∑ j : Fin 1024, x0 (ix2 r j) * x1 (ix2 j k)

/-- The rectified value, and its square. -/
def rect (x : EReal) : EReal := max x 0
def rectSq (x : EReal) : EReal := max x 0 * max x 0

theorem pay_at (x0 : Vec Ideal S1024x1024 .bf16) (x1 : Vec Ideal S1024x2048 .bf16) (r : Fin 1024) (k : Fin 2048) :
    k0_pay2 x0 x1 (ix2 r k) = ∑ j : Fin 1024, x0 (ix2 r j) * x1 (ix2 j k) := by
  pointwise [k0_pay2, k0_pay1]
theorem rect_at (x : Vec Ideal S1024x2048 .f32) (r : Fin 1024) (k : Fin 2048) : k0_pay4 x (ix2 r k) = rect (x (ix2 r k)) := by
  unfold rect
  pointwise [k0_pay4]
theorem rectSq_at (x : Vec Ideal S1024x2048 .f32) (r : Fin 1024) (k : Fin 2048) : k0_pay5 x (ix2 r k) = rectSq (x (ix2 r k)) := by
  unfold rectSq
  pointwise [k0_pay5]

theorem block_at (t : Fin cfg0.N) (r : Fin 1024) (k : Fin 2048) (hr : 1024 * (t.val / 2) + r.val < 8192) (hk : 2048 * (t.val % 2) + k.val < 4096) :
    k0_pay2 (b0 m c t) (b1 m c t) (ix2 r k) = prod (argA m c) (argB m c) ⟨1024 * (t.val / 2) + r.val, hr⟩ ⟨2048 * (t.val % 2) + k.val, hk⟩ :=
  (pay_at ..).trans (Finset.sum_congr rfl fun j _ => by rw [b0_at m c t r j hr, b1_at m c t j k hk])

theorem tile2_at (t : Fin cfg0.N) (r : Fin 1024) (k : Fin 2048) (hr : 1024 * (t.val / 2) + r.val < 8192) (hk : 2048 * (t.val % 2) + k.val < 4096) :
    (dats m 0 c).arrAt 2 cfg0.N (ix2 ⟨1024 * (t.val / 2) + r.val, hr⟩ ⟨2048 * (t.val % 2) + k.val, hk⟩ : S8192x4096.Idx)
      = rect (prod (argA m c) (argB m c) ⟨1024 * (t.val / 2) + r.val, hr⟩ ⟨2048 * (t.val % 2) + k.val, hk⟩) := by
  have e := congrFun (Value.blocks2 m c t (flush0_2 t)) (ix2 r k : S1024x2048.Idx)
  rw [Value.flushed2 m c t, out_A2 m c t, View.read_apply] at e
  refine Eq.trans (Product.at2 ((dats m 0 c).arrAt 2 cfg0.N) _ _ _ ?_ ?_).symm (e.trans ((rect_at ..).trans (congrArg rect (block_at m c t r k hr hk))))
  · show win0_2.index t 0 * 1024 + 1 * r.val = 1024 * (t.val / 2) + r.val; rw [(index2 t).1]; omega
  · show win0_2.index t 1 * 2048 + 1 * k.val = 2048 * (t.val % 2) + k.val; rw [(index2 t).2]; omega
theorem tile3_at (t : Fin cfg0.N) (r : Fin 1024) (k : Fin 2048) (hr : 1024 * (t.val / 2) + r.val < 8192) (hk : 2048 * (t.val % 2) + k.val < 4096) :
    (dats m 0 c).arrAt 3 cfg0.N (ix2 ⟨1024 * (t.val / 2) + r.val, hr⟩ ⟨2048 * (t.val % 2) + k.val, hk⟩ : S8192x4096.Idx)
      = rectSq (prod (argA m c) (argB m c) ⟨1024 * (t.val / 2) + r.val, hr⟩ ⟨2048 * (t.val % 2) + k.val, hk⟩) := by
  have e := congrFun (Value.blocks3 m c t (flush0_3 t)) (ix2 r k : S1024x2048.Idx)
  rw [Value.flushed3 m c t, out_A3 m c t, View.read_apply] at e
  refine Eq.trans (Product.at2 ((dats m 0 c).arrAt 3 cfg0.N) _ _ _ ?_ ?_).symm (e.trans ((rectSq_at ..).trans (congrArg rectSq (block_at m c t r k hr hk))))
  · show win0_3.index t 0 * 1024 + 1 * r.val = 1024 * (t.val / 2) + r.val; rw [(index3 t).1]; omega
  · show win0_3.index t 1 * 2048 + 1 * k.val = 2048 * (t.val % 2) + k.val; rw [(index3 t).2]; omega

theorem reference2_at (x0 : (⟨2, ![8192, 1024]⟩ : Shape).Idx → EReal) (x1 : (⟨2, ![1024, 4096]⟩ : Shape).Idx → EReal) (r : Fin 8192) (k : Fin 4096) :
    Cert.Reference13Ideal.Read.val_main_v4 (F := Ideal) x0 x1 (ix2 r k) = rect (prod x0 x1 r k) := by
  unfold rect prod
  pointwise [Cert.Reference13Ideal.Read.val_main_v6, Cert.Reference13Ideal.Read.val_main_v5, Cert.Reference13Ideal.Read.val_main_v4, Cert.Reference13Ideal.Read.val_main_v3, Cert.Reference13Ideal.Read.val_main_call0_v0, Cert.Reference13Ideal.Read.val_main_call0_cst, Cert.Reference13Ideal.Read.val_main_v2, Cert.Reference13Ideal.Read.val_main_v1, Cert.Reference13Ideal.Read.val_main_v0]
theorem meet2 : Cert.Reference13Ideal.Read.val_main_v4 (F := Ideal) (argA m c) (argB m c) = (dats m 0 c).arrAt 2 cfg0.N :=
  Product.tiles 1024 2048 2 16 (by decide) (by decide) rfl rfl rfl _ _ fun t r k hr hk =>
    (reference2_at ..).trans (tile2_at m c (t.cast N_0.symm) r k hr hk).symm
theorem same2 {x0 x0' : (⟨2, ![8192, 1024]⟩ : Shape).Idx → EReal} {x1 x1' : (⟨2, ![1024, 4096]⟩ : Shape).Idx → EReal} (e0 : x0' = x0) (e1 : x1' = x1) :
    Cert.Reference13Ideal.Read.val_main_v4 (F := Ideal) x0' x1' = Cert.Reference13Ideal.Read.val_main_v4 (F := Ideal) x0 x1 := by
  subst e0 e1; rfl
theorem reference3_at (x0 : (⟨2, ![8192, 1024]⟩ : Shape).Idx → EReal) (x1 : (⟨2, ![1024, 4096]⟩ : Shape).Idx → EReal) (r : Fin 8192) (k : Fin 4096) :
    Cert.Reference13Ideal.Read.val_main_v6 (F := Ideal) x0 x1 (ix2 r k) = rectSq (prod x0 x1 r k) := by
  unfold rectSq prod
  pointwise [Cert.Reference13Ideal.Read.val_main_v6, Cert.Reference13Ideal.Read.val_main_v5, Cert.Reference13Ideal.Read.val_main_v4, Cert.Reference13Ideal.Read.val_main_v3, Cert.Reference13Ideal.Read.val_main_call0_v0, Cert.Reference13Ideal.Read.val_main_call0_cst, Cert.Reference13Ideal.Read.val_main_v2, Cert.Reference13Ideal.Read.val_main_v1, Cert.Reference13Ideal.Read.val_main_v0]
theorem meet3 : Cert.Reference13Ideal.Read.val_main_v6 (F := Ideal) (argA m c) (argB m c) = (dats m 0 c).arrAt 3 cfg0.N :=
  Product.tiles 1024 2048 2 16 (by decide) (by decide) rfl rfl rfl _ _ fun t r k hr hk =>
    (reference3_at ..).trans (tile3_at m c (t.cast N_0.symm) r k hr hk).symm
theorem same3 {x0 x0' : (⟨2, ![8192, 1024]⟩ : Shape).Idx → EReal} {x1 x1' : (⟨2, ![1024, 4096]⟩ : Shape).Idx → EReal} (e0 : x0' = x0) (e1 : x1' = x1) :
    Cert.Reference13Ideal.Read.val_main_v6 (F := Ideal) x0' x1' = Cert.Reference13Ideal.Read.val_main_v6 (F := Ideal) x0 x1 := by
  subst e0 e1; rfl

theorem algebraic : Cert.algebraic_Kernel13Ideal_Reference13Ideal (hKernel13Ideal := Cert.Kernel13Ideal.Gen.facts) (hReference13Ideal := Cert.Reference13Ideal.Gen.facts) := by
  intro m g m' g' _ hm
  refine ⟨fun c => (dats m 0 c).arrAt 2 cfg0.N, fun c => (dats m 0 c).arrAt 3 cfg0.N, Cert.Kernel13Ideal.Value.run_blocks m g, ?_⟩
  refine (θ_run _ _ _).mono (fun r h c => ?_) (Cert.Reference13Ideal.Value.run m' g')
  obtain ⟨h0, h1, rest⟩ := h c
  obtain ⟨a0, a1⟩ := hm c
  exact ⟨h0.trans ((Cert.Reference13Ideal.Read.val_main_v4_eq _ _).trans ((same2 a0 a1).trans (meet2 m c))),
    h1.trans ((Cert.Reference13Ideal.Read.val_main_v6_eq _ _).trans ((same3 a0 a1).trans (meet3 m c))), rest⟩

theorem frame_reference : Cert.quiescent_Reference13Ideal (hReference13Ideal := Cert.Reference13Ideal.Gen.facts) := fun m ρ _ =>
  (θ_run Cert.Reference13Ideal.defs _ _).mono (fun r h => ⟨fun c => (h c).2.2, sem_eq_zero_of_no_sems (by decide) r.2⟩)
    (Cert.Reference13Ideal.Value.run (F := Ideal) m ρ)

end Cert.Kernel13Ideal.Val
end
-- ==== Proof.Mm14.lean ====
/-
  The second feed-forward product: the kernel's array is the reference's.
-/
module

public import proofs.«01_k».proof.Defs
public import proofs.«01_k».proof.Proof.Product
public import proofs.«01_k».proof.Proof.Gen.Kernel14Ideal.Value
public import proofs.«01_k».proof.Proof.Gen.Reference14Ideal.Run
public import proofs.«01_k».proof.Proof.Gen.Reference14Ideal.Read
public import Idealize.ShloMosaic.Lib.KernelVsHost

@[expose] public section

set_option maxRecDepth 16384

noncomputable section

namespace Cert.Kernel14Ideal.Val

open Cert.Kernel14Ideal Cert.Kernel14Ideal.Gen Idealize.ShloMosaic Idealize.ShloMosaic.TcCoe Idealize.SL.Sem Cert.Gating

variable (m : (ℓ : Loc nD τ sig) → Buf (Elt Ideal) ℓ) (c : Dev nD)

abbrev argA : (⟨2, ![8192, 4096]⟩ : Shape).Idx → EReal := m ((c : Thread nD τ).loc main_arg0)
abbrev argB : (⟨2, ![4096, 1024]⟩ : Shape).Idx → EReal := m ((c : Thread nD τ).loc main_arg1)

theorem index0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
theorem index1 : ∀ t : Fin cfg0.N, win0_1.index t 0 = t.val % 4 ∧ win0_1.index t 1 = 0 :=
  (by decide +kernel : ∀ t : Fin grid0.N, win0_1.index t 0 = t.val % 4 ∧ win0_1.index t 1 = 0)
theorem lt32 (t : Fin cfg0.N) : t.val < 32 := lt_of_lt_of_eq t.isLt (show cfg0.N = 32 from N_0)

abbrev b0 (t : Fin cfg0.N) : Vec Ideal S1024x1024 .bf16 := iblk m c 0 t
abbrev b1 (t : Fin cfg0.N) : Vec Ideal S1024x1024 .bf16 := iblk m c 1 t

theorem b0_at (t : Fin cfg0.N) (r k : Fin 1024) :
    b0 m c t (ix2 r k) = argA m c (ix2 ⟨1024 * (t.val / 4) + r.val, by have := lt32 t; omega⟩ ⟨1024 * (t.val % 4) + k.val, by omega⟩) := by
  unfold b0 iblk
  rw [View.read_apply]
  show V m c main_arg0 _ = _
  rw [V_main_arg0]
  unfold argA
  congr 1
  funext a
  apply Fin.ext
  match a with
  | ⟨0, _⟩ => show win0_0.index t 0 * 1024 + 1 * r.val = 1024 * (t.val / 4) + r.val; rw [(index0 t).1]; omega
  | ⟨1, _⟩ => show win0_0.index t 1 * 1024 + 1 * k.val = 1024 * (t.val % 4) + k.val; rw [(index0 t).2]; omega
theorem b1_at (t : Fin cfg0.N) (j r : Fin 1024) :
    b1 m c t (ix2 j r) = argB m c (ix2 ⟨1024 * (t.val % 4) + j.val, by omega⟩ r) := by
  unfold b1 iblk
  rw [View.read_apply]
  show V m c main_arg1 _ = _
  rw [V_main_arg1]
  refine Product.at2 (argB m c) _ _ _ ?_ ?_
  · show win0_1.index t 0 * 1024 + 1 * j.val = 1024 * (t.val % 4) + j.val; rw [(index1 t).1]; omega
  · show win0_1.index t 1 * 1024 + 1 * r.val = r.val; rw [(index1 t).2]; omega

/-! ## One point -/

theorem sc_A (t : Fin cfg0.N) (h0 : t.val % 4 = 0) (h1 : ¬1 ≤ t.val % 4) (h2 : ¬t.val % 4 = 3) :
    (outsAt0 m c t.val t.isLt).2 = k0_pay2 (b0 m c t) (b1 m c t) := by
  rw [outsAt0_A m c t h0 h1 h2]
  dsimp only
  unfold sout0_A_0
  rw [View.read_writes_eq_canon _ _ _ (fun _ => scover0_A_0 ..)]
  unfold kernelRun0_A
  dsimp only
  sl_unfold_words
  rw [View.canon_unit_zero Product.zero2]
  simp only [View.readAt_eq_ld, (hs0_0 t).read_unread, (hs0_1 t).read_unread, View.ld_unit_zero (S := S1024x1024) Product.zero2]
theorem sc_B (t : Fin cfg0.N) (h0 : ¬t.val % 4 = 0) (h1 : 1 ≤ t.val % 4) (h2 : ¬t.val % 4 = 3) :
    (outsAt0 m c t.val t.isLt).2 = k0_pay3 (b0 m c t) (b1 m c t) (outsAt0 m c (t.val - 1) (Nat.lt_of_le_of_lt (Nat.sub_le _ _) t.isLt)).2 := by
  rw [outsAt0_B m c t h0 h1 h2]
  dsimp only
  unfold sout0_B_0
  rw [View.read_writes_eq_canon _ _ _ (fun _ => scover0_B_0 ..)]
  unfold kernelRun0_B
  dsimp only
  sl_unfold_words
  rw [View.canon_unit_zero Product.zero2]
  simp only [View.readAt_eq_ld, (hs0_0 t).read_unread, (hs0_1 t).read_unread, (Memref.isWhole_whole _).read_unread, View.ld_unit_zero (S := S1024x1024) Product.zero2]
theorem sc_C (t : Fin cfg0.N) (h0 : ¬t.val % 4 = 0) (h1 : 1 ≤ t.val % 4) (h2 : t.val % 4 = 3) :
    (outsAt0 m c t.val t.isLt).2 = k0_pay3 (b0 m c t) (b1 m c t) (outsAt0 m c (t.val - 1) (Nat.lt_of_le_of_lt (Nat.sub_le _ _) t.isLt)).2 := by
  rw [outsAt0_C m c t h0 h1 h2]
  dsimp only
  unfold sout0_C_0
  rw [View.read_writes_eq_canon _ _ _ (fun _ => scover0_C_0 ..)]
  unfold kernelRun0_C
  dsimp only
  sl_unfold_words
  rw [View.canon_unit_zero Product.zero2]
  simp only [View.readAt_eq_ld, (hs0_0 t).read_unread, (hs0_1 t).read_unread, (Memref.isWhole_whole _).read_unread, View.ld_unit_zero (S := S1024x1024) Product.zero2]
theorem out_C (t : Fin cfg0.N) (h0 : ¬t.val % 4 = 0) (h1 : 1 ≤ t.val % 4) (h2 : t.val % 4 = 3) :
    (outsAt0 m c t.val t.isLt).1 = (outsAt0 m c t.val t.isLt).2 := by
  rw [sc_C m c t h0 h1 h2, outsAt0_C m c t h0 h1 h2]
  dsimp only
  unfold out0_C_2
  rw [View.read_writes_eq_canon _ _ _ (fun _ => cover0_C_2 ..)]
  unfold kernelRun0_C
  dsimp only
  sl_unfold_words
  rw [View.canon_unit_zero Product.zero2]
  simp only [View.readAt_eq_ld, (hs0_0 t).read_unread, (hs0_1 t).read_unread, (Memref.isWhole_whole _).read_unread, View.ld_unit_zero (S := S1024x1024) Product.zero2]
  exact View.readCov_unit_zero (S := S1024x1024) _ Product.zero2 _ _

/-- What one point adds at row `r` and column `k` of its block. -/
theorem pay_at (x0 x1 : Vec Ideal S1024x1024 .bf16) (r k : Fin 1024) :
    k0_pay2 x0 x1 (ix2 r k) = ∑ j : Fin 1024, x0 (ix2 r j) * x1 (ix2 j k) := by
  pointwise [k0_pay2, k0_pay1]
theorem acc_at (x0 x1 : Vec Ideal S1024x1024 .bf16) (y : Vec Ideal S1024x1024 .f32) (r k : Fin 1024) :
    k0_pay3 x0 x1 y (ix2 r k) = y (ix2 r k) + k0_pay2 x0 x1 (ix2 r k) := by
  pointwise [k0_pay3, k0_pay2]

/-! ## The carried sum and the array -/

/-- What point `n` adds at row `r` and column `k` of its block. -/
def part (r k : Fin 1024) (n : ℕ) (h : n < cfg0.N) : EReal := k0_pay2 (b0 m c ⟨n, h⟩) (b1 m c ⟨n, h⟩) (ix2 r k)

/-- The terms of the whole contraction at row `r` and column `k`. -/
def term (r : Fin 8192) (k : Fin 1024) (j : Fin 4096) : EReal := argA m c (ix2 r j) * argB m c (ix2 j k)

theorem part_at (r : Fin 8192) (k : Fin 1024) (i : ℕ) (h : 4 * (r.val / 1024) + i < cfg0.N) (hi : i < 4) :
    part m c ⟨r.val % 1024, Nat.mod_lt _ (by decide)⟩ k (4 * (r.val / 1024) + i) h = ∑ j : Fin 1024, Product.extend (term m c r k) (1024 * i + j.val) := by
  unfold part
  rw [pay_at]
  refine Finset.sum_congr rfl fun j _ => ?_
  rw [b0_at, b1_at, Product.extend_of_lt _ _ (by have := j.isLt; omega)]
  unfold term
  have e0 : (4 * (r.val / 1024) + i) / 4 = r.val / 1024 := by omega
  have e1 : (4 * (r.val / 1024) + i) % 4 = i := by omega
  congr 3 <;> apply Fin.ext
  · show 1024 * ((4 * (r.val / 1024) + i) / 4) + r.val % 1024 = r.val; omega
  · show 1024 * ((4 * (r.val / 1024) + i) % 4) + j.val = 1024 * i + j.val; rw [e1]
  · show 1024 * ((4 * (r.val / 1024) + i) % 4) + j.val = 1024 * i + j.val; rw [e1]

theorem array_at (r : Fin 8192) (k : Fin 1024) : Value.G2 m c (ix2 r k) = ∑ j, term m c r k j := by
  have hn : 4 * (r.val / 1024) + 3 < cfg0.N := lt_of_lt_of_eq (by omega) N_0.symm
  have hp : Value.pt2Of (ix2 r k) = 4 * (r.val / 1024) + 3 := by
    show 4 * (1 * (r.val / 1024 - 0) + 1 * (k.val / 1024 - 0)) + 3 = _; omega
  have hl : Value.loc2Of (ix2 r k) = ix2 ⟨r.val % 1024, Nat.mod_lt _ (by decide)⟩ k := by
    funext a; apply Fin.ext
    match a with
    | ⟨0, _⟩ => rfl
    | ⟨1, _⟩ => exact Nat.mod_eq_of_lt k.isLt
  unfold Value.G2
  rw [dif_pos (by rw [hp]; exact hn), hl, Value.fold0_congr m c _ _ _ (by omega) hp, ← Value.outsAt0_sweep m c _ hn,
    out_C m c ⟨_, hn⟩ (by show ¬(4 * (r.val / 1024) + 3) % 4 = 0; omega) (by show 1 ≤ (4 * (r.val / 1024) + 3) % 4; omega)
      (by show (4 * (r.val / 1024) + 3) % 4 = 3; omega), ← Product.sum_extend]
  refine Product.run_total cfg0.N 4 1024 (fun n h => (outsAt0 m c n h).2 (ix2 _ k)) (part m c _ k) (fun n h h0 => ?_) (fun n h h0 => ?_) _ 3 rfl hn _ (part_at m c r k)
  · exact congrFun (sc_A m c ⟨n, h⟩ h0 (by show ¬1 ≤ n % 4; omega) (by show ¬n % 4 = 3; omega)) _
  · by_cases h2 : n % 4 = 3
    · exact (congrFun (sc_C m c ⟨n, h⟩ h0 (by show 1 ≤ n % 4; omega) h2) _).trans (acc_at ..)
    · exact (congrFun (sc_B m c ⟨n, h⟩ h0 (by show 1 ≤ n % 4; omega) h2) _).trans (acc_at ..)

theorem reference_at (x0 : (⟨2, ![8192, 4096]⟩ : Shape).Idx → EReal) (x1 : (⟨2, ![4096, 1024]⟩ : Shape).Idx → EReal) (r : Fin 8192) (k : Fin 1024) :
    Cert.Reference14Ideal.Read.val_main_v2 (F := Ideal) x0 x1 (ix2 r k) = ∑ j : Fin 4096, x0 (ix2 r j) * x1 (ix2 j k) := by
  rw [Cert.Reference14Ideal.Read.val_main_v2_apply]
  refine Finset.sum_congr rfl fun j _ => ?_
  rw [Cert.Reference14Ideal.Read.val_main_v0_apply, Cert.Reference14Ideal.Read.val_main_v1_apply]
  exact congrArg₂ (· * ·) (congrArg x0 (by funext a; match a with | ⟨0, _⟩ => rfl | ⟨1, _⟩ => rfl)) (congrArg x1 (by funext a; match a with | ⟨0, _⟩ => rfl | ⟨1, _⟩ => rfl))

theorem meet : Cert.Reference14Ideal.Read.val_main_v2 (F := Ideal) (argA m c) (argB m c) = Value.G2 m c := by
  funext i
  obtain ⟨r, k, rfl⟩ : ∃ (r : Fin 8192) (k : Fin 1024), i = ix2 r k := ⟨i 0, i 1, by funext a; match a with | ⟨0, _⟩ => rfl | ⟨1, _⟩ => rfl⟩
  exact (reference_at ..).trans (array_at m c r k).symm

theorem same {x0 x0' : (⟨2, ![8192, 4096]⟩ : Shape).Idx → EReal} {x1 x1' : (⟨2, ![4096, 1024]⟩ : Shape).Idx → EReal} (e0 : x0' = x0) (e1 : x1' = x1) :
    Cert.Reference14Ideal.Read.val_main_v2 (F := Ideal) x0' x1' = Cert.Reference14Ideal.Read.val_main_v2 (F := Ideal) x0 x1 := by
  subst e0 e1; rfl

theorem algebraic : Cert.algebraic_Kernel14Ideal_Reference14Ideal (hKernel14Ideal := Cert.Kernel14Ideal.Gen.facts) (hReference14Ideal := Cert.Reference14Ideal.Gen.facts) := by
  intro m g m' g' _ hm
  refine ⟨fun c => Value.G2 m c, Cert.Kernel14Ideal.Value.run m g, ?_⟩
  refine (θ_run _ _ _).mono (fun r h c => ?_) (Cert.Reference14Ideal.Value.run m' g')
  obtain ⟨h0, rest⟩ := h c
  obtain ⟨a0, a1⟩ := hm c
  exact ⟨h0.trans ((Cert.Reference14Ideal.Read.val_main_v2_eq _ _).trans ((same a0 a1).trans (meet m c))), rest⟩

theorem frame_reference : Cert.quiescent_Reference14Ideal (hReference14Ideal := Cert.Reference14Ideal.Gen.facts) := fun m ρ _ =>
  (θ_run Cert.Reference14Ideal.defs _ _).mono (fun r h => ⟨fun c => (h c).2, sem_eq_zero_of_no_sems (by decide) r.2⟩)
    (Cert.Reference14Ideal.Value.run (F := Ideal) m ρ)

end Cert.Kernel14Ideal.Val
end
-- ==== Proof.Mm15.lean ====
/-
  The output projection: the kernel's array is the reference's.
-/
module

public import proofs.«01_k».proof.Defs
public import proofs.«01_k».proof.Proof.Product
public import proofs.«01_k».proof.Proof.Gen.Kernel15Ideal.Value
public import proofs.«01_k».proof.Proof.Gen.Reference15Ideal.Run
public import proofs.«01_k».proof.Proof.Gen.Reference15Ideal.Read
public import Idealize.ShloMosaic.Lib.KernelVsHost

@[expose] public section

set_option maxRecDepth 16384

noncomputable section

namespace Cert.Kernel15Ideal.Val

open Cert.Kernel15Ideal Cert.Kernel15Ideal.Gen Idealize.ShloMosaic Idealize.ShloMosaic.TcCoe Idealize.SL.Sem Cert.Gating

variable (m : (ℓ : Loc nD τ sig) → Buf (Elt Ideal) ℓ) (c : Dev nD)

abbrev argA : (⟨2, ![8192, 1024]⟩ : Shape).Idx → EReal := m ((c : Thread nD τ).loc main_arg0)
abbrev argB : (⟨2, ![1024, 1024]⟩ : Shape).Idx → EReal := m ((c : Thread nD τ).loc main_arg1)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

abbrev b0 (t : Fin cfg0.N) : Vec Ideal S1024x1024 .bf16 := iblk m c 0 t
abbrev b1 (t : Fin cfg0.N) : Vec Ideal S1024x1024 .bf16 := iblk m c 1 t

theorem b0_at (t : Fin cfg0.N) (r j : Fin 1024) (h : 1024 * (t.val / 1) + r.val < 8192) :
    b0 m c t (ix2 r j) = argA m c (ix2 ⟨1024 * (t.val / 1) + r.val, h⟩ j) := by
  unfold b0 iblk
  rw [View.read_apply]
  show V m c main_arg0 _ = _
  rw [V_main_arg0]
  refine Product.at2 (argA m c) _ _ _ ?_ ?_
  · show win0_0.index t 0 * 1024 + 1 * r.val = 1024 * (t.val / 1) + r.val; rw [(index0 t).1]; omega
  · show win0_0.index t 1 * 1024 + 1 * j.val = j.val; rw [(index0 t).2]; omega
theorem b1_at (t : Fin cfg0.N) (j : Fin 1024) (k : Fin 1024) (h : 1024 * (t.val % 1) + k.val < 1024) :
    b1 m c t (ix2 j k) = argB m c (ix2 j ⟨1024 * (t.val % 1) + k.val, h⟩) := by
  unfold b1 iblk
  rw [View.read_apply]
  show V m c main_arg1 _ = _
  rw [V_main_arg1]
  refine Product.at2 (argB m c) _ _ _ ?_ ?_
  · show win0_1.index t 0 * 1024 + 1 * j.val = j.val; rw [(index1 t).1]; omega
  · show win0_1.index t 1 * 1024 + 1 * k.val = 1024 * (t.val % 1) + k.val; rw [(index1 t).2]; omega

theorem out_A (t : Fin cfg0.N) : outsAt0 m c t = k0_pay2 (b0 m c t) (b1 m c t) := by
  unfold outsAt0 out0_A_2
  rw [View.read_writes_eq_canon _ _ _ (fun _ => cover0_A_2 ..)]
  unfold kernelRun0_A
  dsimp only
  sl_unfold_words
  rw [View.canon_unit_zero Product.zero2]
  simp only [View.readAt_eq_ld, (hs0_0 t).read_unread, (hs0_1 t).read_unread, View.ld_unit_zero (S := S1024x1024) Product.zero2]
  exact View.readCov_unit_zero (S := S1024x1024) _ Product.zero2 _ _

theorem pay_at (x0 : Vec Ideal S1024x1024 .bf16) (x1 : Vec Ideal S1024x1024 .bf16) (r k : Fin 1024) :
    k0_pay2 x0 x1 (ix2 r k) = ∑ j : Fin 1024, x0 (ix2 r j) * x1 (ix2 j k) := by
  pointwise [k0_pay2, k0_pay1]

/-- The product at row `r` and column `k`. -/
def prod (x0 : (⟨2, ![8192, 1024]⟩ : Shape).Idx → EReal) (x1 : (⟨2, ![1024, 1024]⟩ : Shape).Idx → EReal) (r : Fin 8192) (k : Fin 1024) : EReal :=
  ∑ j : Fin 1024, x0 (ix2 r j) * x1 (ix2 j k)

theorem tile_at (t : Fin cfg0.N) (r k : Fin 1024) (hr : 1024 * (t.val / 1) + r.val < 8192) (hk : 1024 * (t.val % 1) + k.val < 1024) :
    (dats m 0 c).arrAt 2 cfg0.N (ix2 ⟨1024 * (t.val / 1) + r.val, hr⟩ ⟨1024 * (t.val % 1) + k.val, hk⟩ : S8192x1024.Idx)
      = prod (argA m c) (argB m c) ⟨1024 * (t.val / 1) + r.val, hr⟩ ⟨1024 * (t.val % 1) + k.val, hk⟩ := by
  have e := congrFun (Value.blocks2 m c t (flush0_2 t)) (ix2 r k : S1024x1024.Idx)
  rw [Value.flushed2 m c t, out_A m c t, View.read_apply] at e
  refine Eq.trans (Product.at2 ((dats m 0 c).arrAt 2 cfg0.N) _ _ _ ?_ ?_).symm (e.trans ((pay_at ..).trans ?_))
  · show win0_2.index t 0 * 1024 + 1 * r.val = 1024 * (t.val / 1) + r.val; rw [(index2 t).1]; omega
  · show win0_2.index t 1 * 1024 + 1 * k.val = 1024 * (t.val % 1) + k.val; rw [(index2 t).2]; omega
  · exact Finset.sum_congr rfl fun j _ => by rw [b0_at m c t r j hr, b1_at m c t j k hk]

theorem reference_at (x0 : (⟨2, ![8192, 1024]⟩ : Shape).Idx → EReal) (x1 : (⟨2, ![1024, 1024]⟩ : Shape).Idx → EReal) (r : Fin 8192) (k : Fin 1024) :
    Cert.Reference15Ideal.Read.val_main_v2 (F := Ideal) x0 x1 (ix2 r k) = prod x0 x1 r k := by
  unfold prod
  pointwise [Cert.Reference15Ideal.Read.val_main_v2, Cert.Reference15Ideal.Read.val_main_v1, Cert.Reference15Ideal.Read.val_main_v0]

theorem meet : Cert.Reference15Ideal.Read.val_main_v2 (F := Ideal) (argA m c) (argB m c) = (dats m 0 c).arrAt 2 cfg0.N :=
  Product.tiles 1024 1024 1 8 (by decide) (by decide) rfl rfl rfl _ _ fun t r k hr hk =>
    (reference_at ..).trans (tile_at m c (t.cast N_0.symm) r k hr hk).symm

theorem same {x0 x0' : (⟨2, ![8192, 1024]⟩ : Shape).Idx → EReal} {x1 x1' : (⟨2, ![1024, 1024]⟩ : Shape).Idx → EReal} (e0 : x0' = x0) (e1 : x1' = x1) :
    Cert.Reference15Ideal.Read.val_main_v2 (F := Ideal) x0' x1' = Cert.Reference15Ideal.Read.val_main_v2 (F := Ideal) x0 x1 := by
  subst e0 e1; rfl

theorem algebraic : Cert.algebraic_Kernel15Ideal_Reference15Ideal (hKernel15Ideal := Cert.Kernel15Ideal.Gen.facts) (hReference15Ideal := Cert.Reference15Ideal.Gen.facts) := by
  intro m g m' g' _ hm
  refine ⟨fun c => (dats m 0 c).arrAt 2 cfg0.N, Cert.Kernel15Ideal.Value.run_blocks m g, ?_⟩
  refine (θ_run _ _ _).mono (fun r h c => ?_) (Cert.Reference15Ideal.Value.run m' g')
  obtain ⟨h0, rest⟩ := h c
  obtain ⟨a0, a1⟩ := hm c
  exact ⟨h0.trans ((Cert.Reference15Ideal.Read.val_main_v2_eq _ _).trans ((same a0 a1).trans (meet m c))), rest⟩

theorem frame_reference : Cert.quiescent_Reference15Ideal (hReference15Ideal := Cert.Reference15Ideal.Gen.facts) := fun m ρ _ =>
  (θ_run Cert.Reference15Ideal.defs _ _).mono (fun r h => ⟨fun c => (h c).2, sem_eq_zero_of_no_sems (by decide) r.2⟩)
    (Cert.Reference15Ideal.Value.run (F := Ideal) m ρ)

end Cert.Kernel15Ideal.Val
end
-- ==== Proof.Mm16.lean ====
/-
  A branch's projection: the kernel's array is the reference's.
-/
module

public import proofs.«01_k».proof.Defs
public import proofs.«01_k».proof.Proof.Product
public import proofs.«01_k».proof.Proof.Gen.Kernel16Ideal.Value
public import proofs.«01_k».proof.Proof.Gen.Reference16Ideal.Run
public import proofs.«01_k».proof.Proof.Gen.Reference16Ideal.Read
public import Idealize.ShloMosaic.Lib.KernelVsHost

@[expose] public section

set_option maxRecDepth 16384

noncomputable section

namespace Cert.Kernel16Ideal.Val

open Cert.Kernel16Ideal Cert.Kernel16Ideal.Gen Idealize.ShloMosaic Idealize.ShloMosaic.TcCoe Idealize.SL.Sem Cert.Gating

variable (m : (ℓ : Loc nD τ sig) → Buf (Elt Ideal) ℓ) (c : Dev nD)

abbrev argA : (⟨2, ![8192, 512]⟩ : Shape).Idx → EReal := m ((c : Thread nD τ).loc main_arg0)
abbrev argB : (⟨2, ![512, 1024]⟩ : Shape).Idx → EReal := m ((c : Thread nD τ).loc main_arg1)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

abbrev b0 (t : Fin cfg0.N) : Vec Ideal S1024x512 .bf16 := iblk m c 0 t
abbrev b1 (t : Fin cfg0.N) : Vec Ideal S512x1024 .bf16 := iblk m c 1 t

theorem b0_at (t : Fin cfg0.N) (r : Fin 1024) (j : Fin 512) (h : 1024 * (t.val / 1) + r.val < 8192) :
    b0 m c t (ix2 r j) = argA m c (ix2 ⟨1024 * (t.val / 1) + r.val, h⟩ j) := by
  unfold b0 iblk
  rw [View.read_apply]
  show V m c main_arg0 _ = _
  rw [V_main_arg0]
  refine Product.at2 (argA m c) _ _ _ ?_ ?_
  · show win0_0.index t 0 * 1024 + 1 * r.val = 1024 * (t.val / 1) + r.val; rw [(index0 t).1]; omega
  · show win0_0.index t 1 * 512 + 1 * j.val = j.val; rw [(index0 t).2]; omega
theorem b1_at (t : Fin cfg0.N) (j : Fin 512) (k : Fin 1024) (h : 1024 * (t.val % 1) + k.val < 1024) :
    b1 m c t (ix2 j k) = argB m c (ix2 j ⟨1024 * (t.val % 1) + k.val, h⟩) := by
  unfold b1 iblk
  rw [View.read_apply]
  show V m c main_arg1 _ = _
  rw [V_main_arg1]
  refine Product.at2 (argB m c) _ _ _ ?_ ?_
  · show win0_1.index t 0 * 512 + 1 * j.val = j.val; rw [(index1 t).1]; omega
  · show win0_1.index t 1 * 1024 + 1 * k.val = 1024 * (t.val % 1) + k.val; rw [(index1 t).2]; omega

theorem out_A (t : Fin cfg0.N) : outsAt0 m c t = k0_pay4 (k0_pay2 (b0 m c t) (b1 m c t)) := by
  unfold outsAt0 out0_A_2
  rw [View.read_writes_eq_canon _ _ _ (fun _ => cover0_A_2 ..)]
  unfold kernelRun0_A
  dsimp only
  sl_unfold_words
  rw [View.canon_unit_zero Product.zero2]
  simp only [View.readAt_eq_ld, (hs0_0 t).read_unread, (hs0_1 t).read_unread, View.ld_unit_zero (S := S1024x1024) Product.zero2, View.ld_unit_zero (S := S1024x512) Product.zero2, View.ld_unit_zero (S := S512x1024) Product.zero2]
  exact congrArg k0_pay4 (View.readCov_unit_zero (S := S1024x1024) _ Product.zero2 _ _)

theorem pay_at (x0 : Vec Ideal S1024x512 .bf16) (x1 : Vec Ideal S512x1024 .bf16) (r k : Fin 1024) :
    k0_pay4 (k0_pay2 x0 x1) (ix2 r k) = ∑ j : Fin 512, x0 (ix2 r j) * x1 (ix2 j k) := by
  pointwise [k0_pay4, k0_pay2, k0_pay1]

/-- The product at row `r` and column `k`. -/
def prod (x0 : (⟨2, ![8192, 512]⟩ : Shape).Idx → EReal) (x1 : (⟨2, ![512, 1024]⟩ : Shape).Idx → EReal) (r : Fin 8192) (k : Fin 1024) : EReal :=
  ∑ j : Fin 512, x0 (ix2 r j) * x1 (ix2 j k)

theorem tile_at (t : Fin cfg0.N) (r k : Fin 1024) (hr : 1024 * (t.val / 1) + r.val < 8192) (hk : 1024 * (t.val % 1) + k.val < 1024) :
    (dats m 0 c).arrAt 2 cfg0.N (ix2 ⟨1024 * (t.val / 1) + r.val, hr⟩ ⟨1024 * (t.val % 1) + k.val, hk⟩ : S8192x1024.Idx)
      = prod (argA m c) (argB m c) ⟨1024 * (t.val / 1) + r.val, hr⟩ ⟨1024 * (t.val % 1) + k.val, hk⟩ := by
  have e := congrFun (Value.blocks2 m c t (flush0_2 t)) (ix2 r k : S1024x1024.Idx)
  rw [Value.flushed2 m c t, out_A m c t, View.read_apply] at e
  refine Eq.trans (Product.at2 ((dats m 0 c).arrAt 2 cfg0.N) _ _ _ ?_ ?_).symm (e.trans ((pay_at ..).trans ?_))
  · show win0_2.index t 0 * 1024 + 1 * r.val = 1024 * (t.val / 1) + r.val; rw [(index2 t).1]; omega
  · show win0_2.index t 1 * 1024 + 1 * k.val = 1024 * (t.val % 1) + k.val; rw [(index2 t).2]; omega
  · exact Finset.sum_congr rfl fun j _ => by rw [b0_at m c t r j hr, b1_at m c t j k hk]

theorem reference_at (x0 : (⟨2, ![8192, 512]⟩ : Shape).Idx → EReal) (x1 : (⟨2, ![512, 1024]⟩ : Shape).Idx → EReal) (r : Fin 8192) (k : Fin 1024) :
    Cert.Reference16Ideal.Read.val_main_v3 (F := Ideal) x0 x1 (ix2 r k) = prod x0 x1 r k := by
  unfold prod
  pointwise [Cert.Reference16Ideal.Read.val_main_v3, Cert.Reference16Ideal.Read.val_main_v2, Cert.Reference16Ideal.Read.val_main_v1, Cert.Reference16Ideal.Read.val_main_v0]

theorem meet : Cert.Reference16Ideal.Read.val_main_v3 (F := Ideal) (argA m c) (argB m c) = (dats m 0 c).arrAt 2 cfg0.N :=
  Product.tiles 1024 1024 1 8 (by decide) (by decide) rfl rfl rfl _ _ fun t r k hr hk =>
    (reference_at ..).trans (tile_at m c (t.cast N_0.symm) r k hr hk).symm

theorem same {x0 x0' : (⟨2, ![8192, 512]⟩ : Shape).Idx → EReal} {x1 x1' : (⟨2, ![512, 1024]⟩ : Shape).Idx → EReal} (e0 : x0' = x0) (e1 : x1' = x1) :
    Cert.Reference16Ideal.Read.val_main_v3 (F := Ideal) x0' x1' = Cert.Reference16Ideal.Read.val_main_v3 (F := Ideal) x0 x1 := by
  subst e0 e1; rfl

theorem algebraic : Cert.algebraic_Kernel16Ideal_Reference16Ideal (hKernel16Ideal := Cert.Kernel16Ideal.Gen.facts) (hReference16Ideal := Cert.Reference16Ideal.Gen.facts) := by
  intro m g m' g' _ hm
  refine ⟨fun c => (dats m 0 c).arrAt 2 cfg0.N, Cert.Kernel16Ideal.Value.run_blocks m g, ?_⟩
  refine (θ_run _ _ _).mono (fun r h c => ?_) (Cert.Reference16Ideal.Value.run m' g')
  obtain ⟨h0, rest⟩ := h c
  obtain ⟨a0, a1⟩ := hm c
  exact ⟨h0.trans ((Cert.Reference16Ideal.Read.val_main_v3_eq _ _).trans ((same a0 a1).trans (meet m c))), rest⟩

theorem frame_reference : Cert.quiescent_Reference16Ideal (hReference16Ideal := Cert.Reference16Ideal.Gen.facts) := fun m ρ _ =>
  (θ_run Cert.Reference16Ideal.defs _ _).mono (fun r h => ⟨fun c => (h c).2, sem_eq_zero_of_no_sems (by decide) r.2⟩)
    (Cert.Reference16Ideal.Value.run (F := Ideal) m ρ)

end Cert.Kernel16Ideal.Val
end
-- ==== Proof.Rms.lean ====
/-
  The gradient of the root-mean-square norm of one row, over the extended reals, for a row of any length `n` whose mean is
  taken with the divisor `N`. The whole-row norms and the per-head norm are both read against these functions.
-/
module

public import proofs.«01_k».proof.Proof.Product

@[expose] public section

noncomputable section

namespace Cert.Rms

open Idealize.ShloMosaic Cert.Gating

/-- 1024, the length of a row of the residual stream. -/
abbrev cRow : EReal := Ideal.ofBits .f32 0x44800000#32
/-- 128, the length of a head. -/
abbrev cHead : EReal := Ideal.ofBits .f32 0x43000000#32

section Row
variable {n : ℕ} (N : EReal) (x : Fin n → EReal)

/-- The mean of the squares, plus epsilon. -/
def var : EReal := Ideal.div (∑ c, x c * x c) N + cEps
def rs : EReal := Ideal.rsqrt (var N x)
/-- The derivative of the reciprocal root. -/
def drs : EReal := cNeg * Ideal.div (rs N x) (var N x)
/-- What the mean of squares passes back to each entry, before the factor of the entry. -/
def dq (g d : Fin n → EReal) : EReal := Ideal.div ((∑ c, x c * (d c * g c)) * drs N x) N
/-- The gradient of the row. -/
def dx (g d : Fin n → EReal) (c : Fin n) : EReal := d c * g c * rs N x + x c * dq N x g d + dq N x g d * x c
/-- The gradient of the row where a second gradient `e` reaches the row unnormed. -/
def dxAdd (g d e : Fin n → EReal) (c : Fin n) : EReal := e c + d c * g c * rs N x + x c * dq N x g d + dq N x g d * x c
/-- What the row adds to the gradient of the scale. -/
def dg (d : Fin n → EReal) (c : Fin n) : EReal := x c * rs N x * d c
end Row

/-- A running total over 16 points of 512 rows each is, after the last point, the sum over all 8192 rows. -/
theorem total (f : (n : ℕ) → n < 16 → EReal) (P : (n : ℕ) → n < 16 → EReal) (T : Fin 8192 → EReal)
    (h0 : ∀ h, f 0 h = P 0 h) (h1 : ∀ n (h : n + 1 < 16), f (n + 1) h = f n (Nat.lt_of_succ_lt h) + P (n + 1) h)
    (hP : ∀ n (h : n < 16), P n h = ∑ l : Fin 512, T ⟨512 * n + l.val, by omega⟩) :
    f 15 (by omega) = ∑ k, T k := by
  rw [← Product.sum_extend]
  refine Product.run_total 16 16 512 f P (fun n h e => ?_) (fun n h e => ?_) 0 15 rfl (by omega) (Product.extend T) fun i hi _ => ?_
  · obtain rfl : n = 0 := by omega
    exact h0 h
  · obtain ⟨k, rfl⟩ : ∃ k, n = k + 1 := ⟨n - 1, by omega⟩
    exact h1 k h
  · refine Eq.trans ?_ ((hP i (by omega)).trans (Finset.sum_congr rfl fun l _ => (Product.extend_of_lt T _ (by omega)).symm))
    congr 1; omega

/-- Two arrays that agree on every block of rows are the same. -/
theorem rowTiles {M : Type} {A B : ℕ} (tm N : ℕ) (hm : 0 < tm) (hA : A = tm * N) (f g : (⟨2, ![A, B]⟩ : Shape).Idx → M)
    (h : ∀ t : Fin N, ∀ (r : Fin tm) (k : Fin B) (hr : tm * t.val + r.val < A), f (ix2 ⟨tm * t.val + r.val, hr⟩ k) = g (ix2 ⟨tm * t.val + r.val, hr⟩ k)) :
    f = g := by
  refine Product.ext2 f g fun r k => ?_
  have e : tm * (r.val / tm) + r.val % tm = r.val := Nat.div_add_mod _ _
  have h' := h ⟨r.val / tm, Nat.div_lt_of_lt_mul (lt_of_lt_of_eq r.isLt hA)⟩ ⟨r.val % tm, Nat.mod_lt _ hm⟩ k (by rw [e]; exact r.isLt)
  have hr : (⟨tm * (r.val / tm) + r.val % tm, by rw [e]; exact r.isLt⟩ : Fin A) = r := Fin.ext e
  dsimp only at h'
  rwa [hr] at h'

end Cert.Rms
end
-- ==== Proof.Norm17.lean ====
/-
  The gradient of the root-mean-square norm that closes a residual branch: the kernel's two arrays are the reference's.
-/
module

public import proofs.«01_k».proof.Defs
public import proofs.«01_k».proof.Proof.Rms
public import proofs.«01_k».proof.Proof.Gen.Kernel17Ideal.Value
public import proofs.«01_k».proof.Proof.Gen.Reference17Ideal.Run
public import proofs.«01_k».proof.Proof.Gen.Reference17Ideal.Read
public import Idealize.ShloMosaic.Lib.KernelVsHost

@[expose] public section

set_option maxRecDepth 16384

noncomputable section

namespace Cert.Kernel17Ideal.Val

open Cert.Kernel17Ideal Cert.Kernel17Ideal.Gen Idealize.ShloMosaic Idealize.ShloMosaic.TcCoe Idealize.SL.Sem Cert.Gating

variable (m : (ℓ : Loc nD τ sig) → Buf (Elt Ideal) ℓ) (c : Dev nD)

abbrev argX : (⟨2, ![8192, 1024]⟩ : Shape).Idx → EReal := m ((c : Thread nD τ).loc main_arg0)
abbrev argG : (⟨1, ![1024]⟩ : Shape).Idx → EReal := m ((c : Thread nD τ).loc main_arg1)
abbrev argD : (⟨2, ![8192, 1024]⟩ : Shape).Idx → EReal := m ((c : Thread nD τ).loc main_arg2)

theorem lt16 (t : Fin cfg0.N) : t.val < 16 := lt_of_lt_of_eq t.isLt (show cfg0.N = 16 from N_0)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)

theorem V_v0 : V m c main_v0 = shapeCast S1x1024 (argG m c) shapeCasts_S1024_S1x1024 := by
  unfold V; simp only [hostOps0, List.flatten_cons, List.flatten_nil, List.append_nil, List.cons_append, List.nil_append]
  after_results; rfl
theorem V_v0_at (z : Fin 1) (k : Fin 1024) : V m c main_v0 (ix2 z k) = argG m c (ix1 k) := by
  obtain rfl : z = 0 := Subsingleton.elim _ _
  rw [V_v0]; pointwise

abbrev b0 (t : Fin cfg0.N) : Vec Ideal S512x1024 .f32 := iblk m c 0 t
abbrev b1 (t : Fin cfg0.N) : Vec Ideal S1x1024 .f32 := iblk m c 1 t
abbrev b2 (t : Fin cfg0.N) : Vec Ideal S512x1024 .f32 := iblk m c 2 t

theorem b0_at (t : Fin cfg0.N) (r : Fin 512) (k : Fin 1024) (h : 512 * t.val + r.val < 8192) :
    b0 m c t (ix2 r k) = argX m c (ix2 ⟨512 * t.val + r.val, h⟩ k) := by
  unfold b0 iblk
  rw [View.read_apply]
  show V m c main_arg0 _ = _
  rw [V_main_arg0]
  refine Product.at2 (argX m c) _ _ _ ?_ ?_
  · show win0_0.index t 0 * 512 + 1 * r.val = 512 * t.val + r.val; rw [(index0 t).1]; omega
  · show win0_0.index t 1 * 1024 + 1 * k.val = k.val; rw [(index0 t).2]; omega
theorem b1_at (t : Fin cfg0.N) (z : Fin 1) (k : Fin 1024) : b1 m c t (ix2 z k) = argG m c (ix1 k) := by
  rw [← V_v0_at m c z]
  unfold b1 iblk
  rw [View.read_apply]
  refine Product.at2 (V m c main_v0) _ _ _ ?_ ?_
  · show win0_1.index t 0 * 1 + 1 * z.val = z.val; rw [(index1 t).1]; omega
  · show win0_1.index t 1 * 1024 + 1 * k.val = k.val; rw [(index1 t).2]; omega
theorem b2_at (t : Fin cfg0.N) (r : Fin 512) (k : Fin 1024) (h : 512 * t.val + r.val < 8192) :
    b2 m c t (ix2 r k) = argD m c (ix2 ⟨512 * t.val + r.val, h⟩ k) := by
  unfold b2 iblk
  rw [View.read_apply]
  show V m c main_arg2 _ = _
  rw [V_main_arg2]
  refine Product.at2 (argD m c) _ _ _ ?_ ?_
  · show win0_2.index t 0 * 512 + 1 * r.val = 512 * t.val + r.val; rw [(index2 t).1]; omega
  · show win0_2.index t 1 * 1024 + 1 * k.val = k.val; rw [(index2 t).2]; omega

/-! ## What a grid point leaves -/

theorem out3 (t : Fin cfg0.N) : (outsAt0 m c t.val t.isLt).1 = k0_pay6 (b0 m c t) (b1 m c t) (b2 m c t) := by
  by_cases h0 : t.val % 16 = 0
  · rw [outsAt0_A m c t h0]
    dsimp only
    unfold out0_A_3
    rw [View.read_writes_eq_canon _ _ _ (fun _ => cover0_A_3 ..)]
    unfold kernelRun0_A
    dsimp only
    sl_unfold_words
    rw [View.canon_unit_zero Product.zero2]
    simp only [View.readAt_eq_ld, (hs0_0 t).read_unread, (hs0_1 t).read_unread, (hs0_2 t).read_unread, View.ld_unit_zero (S := S512x1024) Product.zero2, View.ld_unit_zero (S := S1x1024) Product.zero2]
  · rw [outsAt0_B m c t h0]
    dsimp only
    unfold out0_B_3
    rw [View.read_writes_eq_canon _ _ _ (fun _ => cover0_B_3 ..)]
    unfold kernelRun0_B
    dsimp only
    sl_unfold_words
    rw [View.canon_unit_zero Product.zero2]
    simp only [View.readAt_eq_ld, (hs0_0 t).read_unread, (hs0_1 t).read_unread, (hs0_2 t).read_unread, View.ld_unit_zero (S := S512x1024) Product.zero2, View.ld_unit_zero (S := S1x1024) Product.zero2]
theorem out4_A (t : Fin cfg0.N) (h0 : t.val % 16 = 0) :
    (outsAt0 m c t.val t.isLt).2 = k0_pay2 (k0_pay5 (b0 m c t) (b2 m c t)) (k0_pay1 (F := Ideal)) := by
  rw [outsAt0_A m c t h0]
  dsimp only
  unfold out0_A_4
  rw [View.read_writes_eq_canon _ _ _ (fun _ => cover0_A_4 ..)]
  unfold kernelRun0_A
  dsimp only
  sl_unfold_words
  rw [View.canon_cons_unit_zero (S := S1x1024) Product.zero2, View.readCov_unit_zero (S := S1x1024) _ Product.zero2]
  simp only [View.readAt_eq_ld, (hs0_0 t).read_unread, (hs0_1 t).read_unread, (hs0_2 t).read_unread, View.ld_unit_zero (S := S512x1024) Product.zero2, View.ld_unit_zero (S := S1x1024) Product.zero2]
theorem out4_B (t : Fin cfg0.N) (h0 : ¬t.val % 16 = 0) :
    (outsAt0 m c t.val t.isLt).2 = k0_pay2 (k0_pay5 (b0 m c t) (b2 m c t)) (outsAt0 m c (t.val - 1) (Nat.lt_of_le_of_lt (Nat.sub_le _ _) t.isLt)).2 := by
  rw [outsAt0_B m c t h0]
  dsimp only
  unfold out0_B_4
  rw [View.read_writes_eq_canon _ _ _ (fun _ => cover0_B_4 ..)]
  unfold kernelRun0_B
  dsimp only
  sl_unfold_words
  rw [View.canon_unit_zero Product.zero2]
  simp only [View.readAt_eq_ld, (hs0_0 t).read_unread, (hs0_1 t).read_unread, (hs0_2 t).read_unread, (hs0_4 t).read_unread, View.ld_unit_zero (S := S512x1024) Product.zero2, View.ld_unit_zero (S := S1x1024) Product.zero2]

/-! ## The entries -/

/-- Row `r` of an array. -/
abbrev row {A B : ℕ} (x : (⟨2, ![A, B]⟩ : Shape).Idx → EReal) (r : Fin A) (k : Fin B) : EReal := x (ix2 r k)

theorem var_at (x0 : Vec Ideal S512x1024 .f32) (r : Fin 512) (z : Fin 1) : k0_pay3 x0 (ix2 r z) = Rms.var Rms.cRow (row x0 r) := by
  obtain rfl : z = 0 := Subsingleton.elim _ _
  unfold Rms.var row
  pointwise [k0_pay3]
theorem rs_at (x0 : Vec Ideal S512x1024 .f32) (r : Fin 512) (z : Fin 1) : k0_pay4 x0 (ix2 r z) = Rms.rs Rms.cRow (row x0 r) := by
  unfold Rms.rs
  rw [← var_at x0 r z]
  pointwise [k0_pay4]
theorem pay5_at (x0 x2 : Vec Ideal S512x1024 .f32) (k : Fin 1024) :
    k0_pay5 x0 x2 (ix2 0 k) = ∑ r : Fin 512, Rms.dg Rms.cRow (row x0 r) (row x2 r) k := by
  unfold Rms.dg
  pointwise [k0_pay5, rs_at]
theorem pay6_at (x0 : Vec Ideal S512x1024 .f32) (x1 : Vec Ideal S1x1024 .f32) (x2 : Vec Ideal S512x1024 .f32) (r : Fin 512) (k : Fin 1024) :
    k0_pay6 x0 x1 x2 (ix2 r k) = Rms.dx Rms.cRow (row x0 r) (row x1 0) (row x2 r) k := by
  unfold Rms.dx Rms.dq Rms.drs
  pointwise [k0_pay6, rs_at, var_at, Fin.sum_univ_one]
theorem pay2_at (v : FVec Ideal S1x1024 .f32) (o : Vec Ideal S1x1024 .f32) (k : Fin 1024) :
    k0_pay2 v o (ix2 0 k) = o (ix2 0 k) + v (ix2 0 k) := by pointwise [k0_pay2]
theorem pay1_at (k : Fin 1024) : k0_pay1 (F := Ideal) (ix2 0 k) = 0 := by pointwise [k0_pay1]

/-- The gradient of the scale at column `k`, for arrays of 8192 rows. -/
def scale (x0 x2 : (⟨2, ![8192, 1024]⟩ : Shape).Idx → EReal) (k : Fin 1024) : EReal :=
  ∑ r : Fin 8192, Rms.dg Rms.cRow (row x0 r) (row x2 r) k
/-- The gradient of the rows at row `r` and column `k`. -/
def rows (x0 : (⟨2, ![8192, 1024]⟩ : Shape).Idx → EReal) (x1 : (⟨1, ![1024]⟩ : Shape).Idx → EReal) (x2 : (⟨2, ![8192, 1024]⟩ : Shape).Idx → EReal)
    (r : Fin 8192) (k : Fin 1024) : EReal :=
  Rms.dx Rms.cRow (row x0 r) (fun k => x1 (ix1 k)) (row x2 r) k

theorem reference3_at (x0 : (⟨2, ![8192, 1024]⟩ : Shape).Idx → EReal) (x1 : (⟨1, ![1024]⟩ : Shape).Idx → EReal) (x2 : (⟨2, ![8192, 1024]⟩ : Shape).Idx → EReal)
    (r : Fin 8192) (k : Fin 1024) : Cert.Reference17Ideal.Read.val_main_v36 (F := Ideal) x0 x1 x2 (ix2 r k) = rows x0 x1 x2 r k := by
  unfold rows Rms.dx Rms.dq Rms.drs Rms.rs Rms.var row
  open Cert.Reference17Ideal.Read in
  pointwise [val_main_v36, val_main_v35, val_main_v34, val_main_v33, val_main_v32, val_main_v31, val_main_v30, val_main_v29, val_main_v28, val_main_v27, val_main_v26, val_main_v25, val_main_v24, val_main_v23, val_main_v22, val_main_v20, val_main_v19, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, Fin.sum_univ_one]
theorem reference4_at (x0 x2 : (⟨2, ![8192, 1024]⟩ : Shape).Idx → EReal) (k : Fin 1024) :
    Cert.Reference17Ideal.Read.val_main_v37 (F := Ideal) x0 x2 (ix2 0 k) = scale x0 x2 k := by
  unfold scale Rms.dg Rms.rs Rms.var row
  open Cert.Reference17Ideal.Read in
  pointwise [val_main_v37, val_main_v21, val_main_v18, val_main_v17, val_main_v16, val_main_v12, val_main_v11, val_main_v7, val_main_v6, val_main_v5, val_main_v4, val_main_v3, val_main_v2, val_main_v1, val_main_v0, val_main_cst, val_main_cst_0, val_main_cst_1, val_main_cst_2, val_main_cst_3, val_main_cst_4, Fin.sum_univ_one]

/-! ## The arrays after the grid -/

theorem tile3_at (t : Fin cfg0.N) (r : Fin 512) (k : Fin 1024) (hr : 512 * t.val + r.val < 8192) :
    (dats m 0 c).arrAt 3 cfg0.N (ix2 ⟨512 * t.val + r.val, hr⟩ k : S8192x1024.Idx)
      = rows (argX m c) (argG m c) (argD m c) ⟨512 * t.val + r.val, hr⟩ k := by
  have e := congrFun (Value.blocks3 m c t (flush0_3 t)) (ix2 r k : S512x1024.Idx)
  rw [Value.flushed3 m c t, out3 m c t, View.read_apply] at e
  refine Eq.trans (Product.at2 ((dats m 0 c).arrAt 3 cfg0.N) _ _ _ ?_ ?_).symm (e.trans ((pay6_at ..).trans ?_))
  · show win0_3.index t 0 * 512 + 1 * r.val = 512 * t.val + r.val; rw [(index3 t).1]; omega
  · show win0_3.index t 1 * 1024 + 1 * k.val = k.val; rw [(index3 t).2]; omega
  · unfold rows
    rw [show row (b0 m c t) r = row (argX m c) ⟨512 * t.val + r.val, hr⟩ from funext fun j => b0_at m c t r j hr,
      show row (b1 m c t) 0 = fun j => argG m c (ix1 j) from funext fun j => b1_at m c t 0 j,
      show row (b2 m c t) r = row (argD m c) ⟨512 * t.val + r.val, hr⟩ from funext fun j => b2_at m c t r j hr]

theorem meet3 : Cert.Reference17Ideal.Read.val_main_v36 (F := Ideal) (argX m c) (argG m c) (argD m c) = (dats m 0 c).arrAt 3 cfg0.N :=
  Rms.rowTiles 512 16 (by decide) rfl _ _ fun t r k hr => (reference3_at ..).trans (tile3_at m c (t.cast N_0.symm) r k hr).symm

theorem h16 (n : ℕ) (h : n < 16) : n < cfg0.N := lt_of_lt_of_eq h (show cfg0.N = 16 from N_0).symm
def last : Fin cfg0.N := ⟨15, h16 15 (by decide)⟩

theorem last4 (k : Fin 1024) : (outsAt0 m c last.val last.isLt).2 (ix2 0 k) = scale (argX m c) (argD m c) k := by
  refine Rms.total (fun n h => (outsAt0 m c n (h16 n h)).2 (ix2 0 k))
    (fun n h => k0_pay5 (b0 m c ⟨n, h16 n h⟩) (b2 m c ⟨n, h16 n h⟩) (ix2 0 k)) _ (fun h => ?_) (fun n h => ?_) fun n h => ?_
  · refine (congrFun (out4_A m c ⟨0, h16 0 h⟩ rfl) _).trans ((pay2_at ..).trans ?_)
    rw [pay1_at, zero_add]
  · exact (congrFun (out4_B m c ⟨n + 1, h16 _ h⟩ (by dsimp only; omega)) _).trans (pay2_at ..)
  · refine (pay5_at ..).trans (Finset.sum_congr rfl fun l _ => ?_)
    have hr : 512 * n + l.val < 8192 := by omega
    rw [show row (b0 m c ⟨n, h16 n h⟩) l = row (argX m c) ⟨512 * n + l.val, hr⟩ from funext fun j => b0_at m c ⟨n, h16 n h⟩ l j hr,
      show row (b2 m c ⟨n, h16 n h⟩) l = row (argD m c) ⟨512 * n + l.val, hr⟩ from funext fun j => b2_at m c ⟨n, h16 n h⟩ l j hr]

theorem last4_eq : ((outsAt0 m c last.val last.isLt).2 : Vec Ideal S1x1024 .f32)
    = Cert.Reference17Ideal.Read.val_main_v37 (F := Ideal) (argX m c) (argD m c) := by
  refine Product.ext2 _ _ fun z k => ?_
  obtain rfl : z = 0 := Subsingleton.elim _ _
  exact (last4 m c k).trans (reference4_at ..).symm

/-- The array of the scale's gradient. -/
def res4 : Buf (Elt Ideal) ((c : Thread nD τ).loc main_v1_1) := Cert.Reference17Ideal.Read.val_main_v37 (F := Ideal) (argX m c) (argD m c)

theorem flushed4_eq (t : Fin cfg0.N) (hf : (cfg0.win 4).flush t = true) :
    (dats m 0 c).flushed 4 t = ((cfg0.win 4).blk t).view.read (Elt Ideal) (res4 m c) := by
  have h3 : t.val = 15 := by have h := (flush0_4 t).mp hf; have := lt16 t; omega
  obtain rfl : t = last := Fin.ext h3
  show (cfg0.win 4).cut (grid0.coords last) ((dats m 0 c).after 4 last) = _
  rw [after0_4]
  have e : (outsAt0 m c last.val last.isLt).2 = res4 m c := last4_eq m c
  rw [e]
  have hz' : (fun a => win0_4.index last a * main_v1_1.ty.shape.size a) = fun _ => 0 := funext fun a => by fin_cases a <;> decide +kernel
  exact (Memref.read_access_unit_zero (Elt Ideal) main_v1_1 hz' (fun a => by rw [congrFun hz' a]; simp) (res4 m c)).symm
theorem meet4 : (dats m 0 c).arrAt 4 cfg0.N = res4 m c :=
  (dats m 0 c).arrAt_eq_of_cover 4 (res4 m c) (flushed4_eq m c) fun i =>
    ⟨last, (flush0_4 last).mpr rfl, by
      show i ∈ ((View.whole main_v1_1).slice (win0_4.rect last)).set
      rw [View.set_slice_whole, Rect.mem_set_unit]
      intro a
      have h0 : (i 0 : Nat) < 1 := (i 0).isLt
      have h1 : (i 1 : Nat) < 1024 := (i 1).isLt
      match a with
      | ⟨0, _⟩ => show win0_4.index last 0 * win0_4.size 0 ≤ (i 0 : Nat) ∧ (i 0 : Nat) < win0_4.index last 0 * win0_4.size 0 + win0_4.xsize (grid0.coords last) 0
                  rw [show win0_4.index last 0 * win0_4.size 0 = 0 from by decide +kernel, show win0_4.xsize (grid0.coords last) 0 = 1 from by decide +kernel]; omega
      | ⟨1, _⟩ => show win0_4.index last 1 * win0_4.size 1 ≤ (i 1 : Nat) ∧ (i 1 : Nat) < win0_4.index last 1 * win0_4.size 1 + win0_4.xsize (grid0.coords last) 1
                  rw [show win0_4.index last 1 * win0_4.size 1 = 0 from by decide +kernel, show win0_4.xsize (grid0.coords last) 1 = 1024 from by decide +kernel]; omega⟩

theorem same3 {x0 x0' : (⟨2, ![8192, 1024]⟩ : Shape).Idx → EReal} {x1 x1' : (⟨1, ![1024]⟩ : Shape).Idx → EReal} {x2 x2' : (⟨2, ![8192, 1024]⟩ : Shape).Idx → EReal}
    (e0 : x0' = x0) (e1 : x1' = x1) (e2 : x2' = x2) :
    Cert.Reference17Ideal.Read.val_main_v36 (F := Ideal) x0' x1' x2' = Cert.Reference17Ideal.Read.val_main_v36 (F := Ideal) x0 x1 x2 := by
  subst e0 e1 e2; rfl
theorem same4 {x0 x0' x2 x2' : (⟨2, ![8192, 1024]⟩ : Shape).Idx → EReal} (e0 : x0' = x0) (e2 : x2' = x2) :
    Cert.Reference17Ideal.Read.val_main_v37 (F := Ideal) x0' x2' = Cert.Reference17Ideal.Read.val_main_v37 (F := Ideal) x0 x2 := by
  subst e0 e2; rfl

theorem algebraic : Cert.algebraic_Kernel17Ideal_Reference17Ideal (hKernel17Ideal := Cert.Kernel17Ideal.Gen.facts) (hReference17Ideal := Cert.Reference17Ideal.Gen.facts) := by
  intro m g m' g' _ hm
  refine ⟨fun c => (dats m 0 c).arrAt 3 cfg0.N, fun c => (dats m 0 c).arrAt 4 cfg0.N, Cert.Kernel17Ideal.Value.run_blocks m g, ?_⟩
  refine (θ_run _ _ _).mono (fun r h c => ?_) (Cert.Reference17Ideal.Value.run m' g')
  obtain ⟨h0, h1, rest⟩ := h c
  obtain ⟨a0, a1, a2⟩ := hm c
  exact ⟨h0.trans ((Cert.Reference17Ideal.Read.val_main_v36_eq _ _ _).trans ((same3 a0 a1 a2).trans (meet3 m c))),
    h1.trans ((Cert.Reference17Ideal.Read.val_main_v37_eq _ _).trans ((same4 a0 a2).trans (meet4 m c).symm)), rest⟩

theorem frame_reference : Cert.quiescent_Reference17Ideal (hReference17Ideal := Cert.Reference17Ideal.Gen.facts) := fun m ρ _ =>
  (θ_run Cert.Reference17Ideal.defs _ _).mono (fun r h => ⟨fun c => (h c).2.2, sem_eq_zero_of_no_sems (by decide) r.2⟩)
    (Cert.Reference17Ideal.Value.run (F := Ideal) m ρ)

end Cert.Kernel17Ideal.Val
end
-- ==== Proof.Norm18.lean ====
/-
  The gradient of the root-mean-square norm at the entry of a residual branch, whose input also passes around the branch: the kernel's two arrays are the reference's.
-/
module

public import proofs.«01_k».proof.Defs
public import proofs.«01_k».proof.Proof.Norm17
public import proofs.«01_k».proof.Proof.Gen.Kernel18Ideal.Value
public import proofs.«01_k».proof.Proof.Gen.Reference18Ideal.Run
public import proofs.«01_k».proof.Proof.Gen.Reference18Ideal.Read
public import Idealize.ShloMosaic.Lib.KernelVsHost

@[expose] public section

set_option maxRecDepth 16384

noncomputable section

namespace Cert.Kernel18Ideal.Val

open Cert.Kernel18Ideal Cert.Kernel18Ideal.Gen Idealize.ShloMosaic Idealize.ShloMosaic.TcCoe Idealize.SL.Sem Cert.Gating
open Cert.Kernel17Ideal.Val (row scale)

variable (m : (ℓ : Loc nD τ sig) → Buf (Elt Ideal) ℓ) (c : Dev nD)

abbrev argX : (⟨2, ![8192, 1024]⟩ : Shape).Idx → EReal := m ((c : Thread nD τ).loc main_arg0)
abbrev argG : (⟨1, ![1024]⟩ : Shape).Idx → EReal := m ((c : Thread nD τ).loc main_arg1)
abbrev argD : (⟨2, ![8192, 1024]⟩ : Shape).Idx → EReal := m ((c : Thread nD τ).loc main_arg2)
abbrev argE : (⟨2, ![8192, 1024]⟩ : Shape).Idx → EReal := m ((c : Thread nD τ).loc main_arg3)

theorem lt16 (t : Fin cfg0.N) : t.val < 16 := lt_of_lt_of_eq t.isLt (show cfg0.N = 16 from N_0)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)

theorem V_v0 : V m c main_v0 = shapeCast S1x1024 (argG m c) shapeCasts_S1024_S1x1024 := by
  unfold V; simp only [hostOps0, List.flatten_cons, List.flatten_nil, List.append_nil, List.cons_append, List.nil_append]
  after_results; rfl
theorem V_v0_at (z : Fin 1) (k : Fin 1024) : V m c main_v0 (ix2 z k) = argG m c (ix1 k) := by
  obtain rfl : z = 0 := Subsingleton.elim _ _
  rw [V_v0]; pointwise

abbrev b0 (t : Fin cfg0.N) : Vec Ideal S512x1024 .f32 := iblk m c 0 t
abbrev b1 (t : Fin cfg0.N) : Vec Ideal S1x1024 .f32 := iblk m c 1 t
abbrev b2 (t : Fin cfg0.N) : Vec Ideal S512x1024 .f32 := iblk m c 2 t
abbrev b3 (t : Fin cfg0.N) : Vec Ideal S512x1024 .f32 := iblk m c 3 t

theorem b0_at (t : Fin cfg0.N) (r : Fin 512) (k : Fin 1024) (h : 512 * t.val + r.val < 8192) :
    b0 m c t (ix2 r k) = argX m c (ix2 ⟨512 * t.val + r.val, h⟩ k) := by
  unfold b0 iblk
  rw [View.read_apply]
  show V m c main_arg0 _ = _
  rw [V_main_arg0]
  refine Product.at2 (argX m c) _ _ _ ?_ ?_
  · show win0_0.index t 0 * 512 + 1 * r.val = 512 * t.val + r.val; rw [(index0 t).1]; omega
  · show win0_0.index t 1 * 1024 + 1 * k.val = k.val; rw [(index0 t).2]; omega
theorem b1_at (t : Fin cfg0.N) (z : Fin 1) (k : Fin 1024) : b1 m c t (ix2 z k) = argG m c (ix1 k) := by
  rw [← V_v0_at m c z]
  unfold b1 iblk
  rw [View.read_apply]
  refine Product.at2 (V m c main_v0) _ _ _ ?_ ?_
  · show win0_1.index t 0 * 1 + 1 * z.val = z.val; rw [(index1 t).1]; omega
  · show win0_1.index t 1 * 1024 + 1 * k.val = k.val; rw [(index1 t).2]; omega
theorem b2_at (t : Fin cfg0.N) (r : Fin 512) (k : Fin 1024) (h : 512 * t.val + r.val < 8192) :
    b2 m c t (ix2 r k) = argD m c (ix2 ⟨512 * t.val + r.val, h⟩ k) := by
  unfold b2 iblk
  rw [View.read_apply]
  show V m c main_arg2 _ = _
  rw [V_main_arg2]
  refine Product.at2 (argD m c) _ _ _ ?_ ?_
  · show win0_2.index t 0 * 512 + 1 * r.val = 512 * t.val + r.val; rw [(index2 t).1]; omega
  · show win0_2.index t 1 * 1024 + 1 * k.val = k.val; rw [(index2 t).2]; omega
theorem b3_at (t : Fin cfg0.N) (r : Fin 512) (k : Fin 1024) (h : 512 * t.val + r.val < 8192) :
    b3 m c t (ix2 r k) = argE m c (ix2 ⟨512 * t.val + r.val, h⟩ k) := by
  unfold b3 iblk
  rw [View.read_apply]
  show V m c main_arg3 _ = _
  rw [V_main_arg3]
  refine Product.at2 (argE m c) _ _ _ ?_ ?_
  · show win0_3.index t 0 * 512 + 1 * r.val = 512 * t.val + r.val; rw [(index3 t).1]; omega
  · show win0_3.index t 1 * 1024 + 1 * k.val = k.val; rw [(index3 t).2]; omega

/-! ## What a grid point leaves -/

theorem out4 (t : Fin cfg0.N) : (outsAt0 m c t.val t.isLt).1 = k0_pay6 (b0 m c t) (b1 m c t) (b2 m c t) (b3 m c t) := by
  by_cases h0 : t.val % 16 = 0
  · rw [outsAt0_A m c t h0]
    dsimp only
    unfold out0_A_4
    rw [View.read_writes_eq_canon _ _ _ (fun _ => cover0_A_4 ..)]
    unfold kernelRun0_A
    dsimp only
    sl_unfold_words
    rw [View.canon_unit_zero Product.zero2]
    simp only [View.readAt_eq_ld, (hs0_0 t).read_unread, (hs0_1 t).read_unread, (hs0_2 t).read_unread, (hs0_3 t).read_unread, View.ld_unit_zero (S := S512x1024) Product.zero2, View.ld_unit_zero (S := S1x1024) Product.zero2]
  · rw [outsAt0_B m c t h0]
    dsimp only
    unfold out0_B_4
    rw [View.read_writes_eq_canon _ _ _ (fun _ => cover0_B_4 ..)]
    unfold kernelRun0_B
    dsimp only
    sl_unfold_words
    rw [View.canon_unit_zero Product.zero2]
    simp only [View.readAt_eq_ld, (hs0_0 t).read_unread, (hs0_1 t).read_unread, (hs0_2 t).read_unread, (hs0_3 t).read_unread, View.ld_unit_zero (S := S512x1024) Product.zero2, View.ld_unit_zero (S := S1x1024) Product.zero2]
theorem out5_A (t : Fin cfg0.N) (h0 : t.val % 16 = 0) :
    (outsAt0 m c t.val t.isLt).2 = k0_pay2 (k0_pay5 (b0 m c t) (b2 m c t)) (k0_pay1 (F := Ideal)) := by
  rw [outsAt0_A m c t h0]
  dsimp only
  unfold out0_A_5
  rw [View.read_writes_eq_canon _ _ _ (fun _ => cover0_A_5 ..)]
  unfold kernelRun0_A
  dsimp only
  sl_unfold_words
  rw [View.canon_cons_unit_zero (S := S1x1024) Product.zero2, View.readCov_unit_zero (S := S1x1024) _ Product.zero2]
  simp only [View.readAt_eq_ld, (hs0_0 t).read_unread, (hs0_1 t).read_unread, (hs0_2 t).read_unread, (hs0_3 t).read_unread, View.ld_unit_zero (S := S512x1024) Product.zero2, View.ld_unit_zero (S := S1x1024) Product.zero2]
theorem out5_B (t : Fin cfg0.N) (h0 : ¬t.val % 16 = 0) :
    (outsAt0 m c t.val t.isLt).2 = k0_pay2 (k0_pay5 (b0 m c t) (b2 m c t)) (outsAt0 m c (t.val - 1) (Nat.lt_of_le_of_lt (Nat.sub_le _ _) t.isLt)).2 := by
  rw [outsAt0_B m c t h0]
  dsimp only
  unfold out0_B_5
  rw [View.read_writes_eq_canon _ _ _ (fun _ => cover0_B_5 ..)]
  unfold kernelRun0_B
  dsimp only
  sl_unfold_words
  rw [View.canon_unit_zero Product.zero2]
  simp only [View.readAt_eq_ld, (hs0_0 t).read_unread, (hs0_1 t).read_unread, (hs0_2 t).read_unread, (hs0_3 t).read_unread, (hs0_5 t).read_unread, View.ld_unit_zero (S := S512x1024) Product.zero2, View.ld_unit_zero (S := S1x1024) Product.zero2]

/-! ## The entries -/

/-- The row statistics and the scale's part are the payloads of the other norm. -/
theorem pay3_eq (x0 : Vec Ideal S512x1024 .f32) : k0_pay3 x0 = Cert.Kernel17Ideal.Gen.k0_pay3 x0 := rfl
theorem pay4_eq (x0 : Vec Ideal S512x1024 .f32) : k0_pay4 x0 = Cert.Kernel17Ideal.Gen.k0_pay4 x0 := rfl
theorem pay5_at (x0 x2 : Vec Ideal S512x1024 .f32) (k : Fin 1024) :
    k0_pay5 x0 x2 (ix2 0 k) = ∑ r : Fin 512, Rms.dg Rms.cRow (row x0 r) (row x2 r) k := Cert.Kernel17Ideal.Val.pay5_at x0 x2 k
theorem pay6_at (x0 : Vec Ideal S512x1024 .f32) (x1 : Vec Ideal S1x1024 .f32) (x2 x3 : Vec Ideal S512x1024 .f32) (r : Fin 512) (k : Fin 1024) :
    k0_pay6 x0 x1 x2 x3 (ix2 r k) = Rms.dxAdd Rms.cRow (row x0 r) (row x1 0) (row x2 r) (row x3 r) k := by
  unfold Rms.dxAdd Rms.dq Rms.drs
  pointwise [k0_pay6, pay3_eq, pay4_eq, Cert.Kernel17Ideal.Val.rs_at, Cert.Kernel17Ideal.Val.var_at, Fin.sum_univ_one]
theorem pay2_at (v : FVec Ideal S1x1024 .f32) (o : Vec Ideal S1x1024 .f32) (k : Fin 1024) :
    k0_pay2 v o (ix2 0 k) = o (ix2 0 k) + v (ix2 0 k) := by pointwise [k0_pay2]
theorem pay1_at (k : Fin 1024) : k0_pay1 (F := Ideal) (ix2 0 k) = 0 := by pointwise [k0_pay1]

/-- The gradient of the rows at row `r` and column `k`. -/
def rows (x0 : (⟨2, ![8192, 1024]⟩ : Shape).Idx → EReal) (x1 : (⟨1, ![1024]⟩ : Shape).Idx → EReal) (x2 x3 : (⟨2, ![8192, 1024]⟩ : Shape).Idx → EReal)
    (r : Fin 8192) (k : Fin 1024) : EReal :=
  Rms.dxAdd Rms.cRow (row x0 r) (fun k => x1 (ix1 k)) (row x2 r) (row x3 r) k

theorem reference4_at (x0 : (⟨2, ![8192, 1024]⟩ : Shape).Idx → EReal) (x1 : (⟨1, ![1024]⟩ : Shape).Idx → EReal) (x2 x3 : (⟨2, ![8192, 1024]⟩ : Shape).Idx → EReal)
    (r : Fin 8192) (k : Fin 1024) : Cert.Reference18Ideal.Read.val_main_v36 (F := Ideal) x0 x1 x2 x3 (ix2 r k) = rows x0 x1 x2 x3 r k := by
  unfold rows Rms.dxAdd Rms.dq Rms.drs Rms.rs Rms.var row
  open Cert.Reference18Ideal.Read in
  pointwise [val_main_v36, val_main_v35, val_main_v34, val_main_v33, val_main_v32, val_main_v31, val_main_v30, val_main_v29, val_main_v28, val_main_v27, val_main_v26, val_main_v25, val_main_v24, val_main_v23, val_main_v22, val_main_v20, val_main_v19, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, Fin.sum_univ_one]
theorem reference5_at (x0 x2 : (⟨2, ![8192, 1024]⟩ : Shape).Idx → EReal) (k : Fin 1024) :
    Cert.Reference18Ideal.Read.val_main_v37 (F := Ideal) x0 x2 (ix2 0 k) = scale x0 x2 k := Cert.Kernel17Ideal.Val.reference4_at x0 x2 k

/-! ## The arrays after the grid -/

theorem tile4_at (t : Fin cfg0.N) (r : Fin 512) (k : Fin 1024) (hr : 512 * t.val + r.val < 8192) :
    (dats m 0 c).arrAt 4 cfg0.N (ix2 ⟨512 * t.val + r.val, hr⟩ k : S8192x1024.Idx)
      = rows (argX m c) (argG m c) (argD m c) (argE m c) ⟨512 * t.val + r.val, hr⟩ k := by
  have e := congrFun (Value.blocks4 m c t (flush0_4 t)) (ix2 r k : S512x1024.Idx)
  rw [Value.flushed4 m c t, out4 m c t, View.read_apply] at e
  refine Eq.trans (Product.at2 ((dats m 0 c).arrAt 4 cfg0.N) _ _ _ ?_ ?_).symm (e.trans ((pay6_at ..).trans ?_))
  · show win0_4.index t 0 * 512 + 1 * r.val = 512 * t.val + r.val; rw [(index4 t).1]; omega
  · show win0_4.index t 1 * 1024 + 1 * k.val = k.val; rw [(index4 t).2]; omega
  · unfold rows
    rw [show row (b0 m c t) r = row (argX m c) ⟨512 * t.val + r.val, hr⟩ from funext fun j => b0_at m c t r j hr,
      show row (b1 m c t) 0 = fun j => argG m c (ix1 j) from funext fun j => b1_at m c t 0 j,
      show row (b2 m c t) r = row (argD m c) ⟨512 * t.val + r.val, hr⟩ from funext fun j => b2_at m c t r j hr,
      show row (b3 m c t) r = row (argE m c) ⟨512 * t.val + r.val, hr⟩ from funext fun j => b3_at m c t r j hr]

theorem meet4 : Cert.Reference18Ideal.Read.val_main_v36 (F := Ideal) (argX m c) (argG m c) (argD m c) (argE m c) = (dats m 0 c).arrAt 4 cfg0.N :=
  Rms.rowTiles 512 16 (by decide) rfl _ _ fun t r k hr => (reference4_at ..).trans (tile4_at m c (t.cast N_0.symm) r k hr).symm

theorem h16 (n : ℕ) (h : n < 16) : n < cfg0.N := lt_of_lt_of_eq h (show cfg0.N = 16 from N_0).symm
def last : Fin cfg0.N := ⟨15, h16 15 (by decide)⟩

theorem last5 (k : Fin 1024) : (outsAt0 m c last.val last.isLt).2 (ix2 0 k) = scale (argX m c) (argD m c) k := by
  refine Rms.total (fun n h => (outsAt0 m c n (h16 n h)).2 (ix2 0 k))
    (fun n h => k0_pay5 (b0 m c ⟨n, h16 n h⟩) (b2 m c ⟨n, h16 n h⟩) (ix2 0 k)) _ (fun h => ?_) (fun n h => ?_) fun n h => ?_
  · refine (congrFun (out5_A m c ⟨0, h16 0 h⟩ rfl) _).trans ((pay2_at ..).trans ?_)
    rw [pay1_at, zero_add]
  · exact (congrFun (out5_B m c ⟨n + 1, h16 _ h⟩ (by dsimp only; omega)) _).trans (pay2_at ..)
  · refine (pay5_at ..).trans (Finset.sum_congr rfl fun l _ => ?_)
    have hr : 512 * n + l.val < 8192 := by omega
    rw [show row (b0 m c ⟨n, h16 n h⟩) l = row (argX m c) ⟨512 * n + l.val, hr⟩ from funext fun j => b0_at m c ⟨n, h16 n h⟩ l j hr,
      show row (b2 m c ⟨n, h16 n h⟩) l = row (argD m c) ⟨512 * n + l.val, hr⟩ from funext fun j => b2_at m c ⟨n, h16 n h⟩ l j hr]

theorem last5_eq : ((outsAt0 m c last.val last.isLt).2 : Vec Ideal S1x1024 .f32)
    = Cert.Reference18Ideal.Read.val_main_v37 (F := Ideal) (argX m c) (argD m c) := by
  refine Product.ext2 _ _ fun z k => ?_
  obtain rfl : z = 0 := Subsingleton.elim _ _
  exact (last5 m c k).trans (reference5_at ..).symm

/-- The array of the scale's gradient. -/
def res5 : Buf (Elt Ideal) ((c : Thread nD τ).loc main_v1_1) := Cert.Reference18Ideal.Read.val_main_v37 (F := Ideal) (argX m c) (argD m c)

theorem flushed5_eq (t : Fin cfg0.N) (hf : (cfg0.win 5).flush t = true) :
    (dats m 0 c).flushed 5 t = ((cfg0.win 5).blk t).view.read (Elt Ideal) (res5 m c) := by
  have h3 : t.val = 15 := by have h := (flush0_5 t).mp hf; have := lt16 t; omega
  obtain rfl : t = last := Fin.ext h3
  show (cfg0.win 5).cut (grid0.coords last) ((dats m 0 c).after 5 last) = _
  rw [after0_5]
  have e : (outsAt0 m c last.val last.isLt).2 = res5 m c := last5_eq m c
  rw [e]
  have hz' : (fun a => win0_5.index last a * main_v1_1.ty.shape.size a) = fun _ => 0 := funext fun a => by fin_cases a <;> decide +kernel
  exact (Memref.read_access_unit_zero (Elt Ideal) main_v1_1 hz' (fun a => by rw [congrFun hz' a]; simp) (res5 m c)).symm
theorem meet5 : (dats m 0 c).arrAt 5 cfg0.N = res5 m c :=
  (dats m 0 c).arrAt_eq_of_cover 5 (res5 m c) (flushed5_eq m c) fun i =>
    ⟨last, (flush0_5 last).mpr rfl, by
      show i ∈ ((View.whole main_v1_1).slice (win0_5.rect last)).set
      rw [View.set_slice_whole, Rect.mem_set_unit]
      intro a
      have h0 : (i 0 : Nat) < 1 := (i 0).isLt
      have h1 : (i 1 : Nat) < 1024 := (i 1).isLt
      match a with
      | ⟨0, _⟩ => show win0_5.index last 0 * win0_5.size 0 ≤ (i 0 : Nat) ∧ (i 0 : Nat) < win0_5.index last 0 * win0_5.size 0 + win0_5.xsize (grid0.coords last) 0
                  rw [show win0_5.index last 0 * win0_5.size 0 = 0 from by decide +kernel, show win0_5.xsize (grid0.coords last) 0 = 1 from by decide +kernel]; omega
      | ⟨1, _⟩ => show win0_5.index last 1 * win0_5.size 1 ≤ (i 1 : Nat) ∧ (i 1 : Nat) < win0_5.index last 1 * win0_5.size 1 + win0_5.xsize (grid0.coords last) 1
                  rw [show win0_5.index last 1 * win0_5.size 1 = 0 from by decide +kernel, show win0_5.xsize (grid0.coords last) 1 = 1024 from by decide +kernel]; omega⟩

theorem same4 {x0 x0' : (⟨2, ![8192, 1024]⟩ : Shape).Idx → EReal} {x1 x1' : (⟨1, ![1024]⟩ : Shape).Idx → EReal} {x2 x2' x3 x3' : (⟨2, ![8192, 1024]⟩ : Shape).Idx → EReal}
    (e0 : x0' = x0) (e1 : x1' = x1) (e2 : x2' = x2) (e3 : x3' = x3) :
    Cert.Reference18Ideal.Read.val_main_v36 (F := Ideal) x0' x1' x2' x3' = Cert.Reference18Ideal.Read.val_main_v36 (F := Ideal) x0 x1 x2 x3 := by
  subst e0 e1 e2 e3; rfl
theorem same5 {x0 x0' x2 x2' : (⟨2, ![8192, 1024]⟩ : Shape).Idx → EReal} (e0 : x0' = x0) (e2 : x2' = x2) :
    Cert.Reference18Ideal.Read.val_main_v37 (F := Ideal) x0' x2' = Cert.Reference18Ideal.Read.val_main_v37 (F := Ideal) x0 x2 := by
  subst e0 e2; rfl

theorem algebraic : Cert.algebraic_Kernel18Ideal_Reference18Ideal (hKernel18Ideal := Cert.Kernel18Ideal.Gen.facts) (hReference18Ideal := Cert.Reference18Ideal.Gen.facts) := by
  intro m g m' g' _ hm
  refine ⟨fun c => (dats m 0 c).arrAt 4 cfg0.N, fun c => (dats m 0 c).arrAt 5 cfg0.N, Cert.Kernel18Ideal.Value.run_blocks m g, ?_⟩
  refine (θ_run _ _ _).mono (fun r h c => ?_) (Cert.Reference18Ideal.Value.run m' g')
  obtain ⟨h0, h1, rest⟩ := h c
  obtain ⟨a0, a1, a2, a3⟩ := hm c
  exact ⟨h0.trans ((Cert.Reference18Ideal.Read.val_main_v36_eq _ _ _ _).trans ((same4 a0 a1 a2 a3).trans (meet4 m c))),
    h1.trans ((Cert.Reference18Ideal.Read.val_main_v37_eq _ _).trans ((same5 a0 a2).trans (meet5 m c).symm)), rest⟩

theorem frame_reference : Cert.quiescent_Reference18Ideal (hReference18Ideal := Cert.Reference18Ideal.Gen.facts) := fun m ρ _ =>
  (θ_run Cert.Reference18Ideal.defs _ _).mono (fun r h => ⟨fun c => (h c).2.2, sem_eq_zero_of_no_sems (by decide) r.2⟩)
    (Cert.Reference18Ideal.Value.run (F := Ideal) m ρ)

end Cert.Kernel18Ideal.Val
end
-- ==== Proof.Merge19.lean ====
/-
  The gradient of the gated merge of the three branches: the kernel's four arrays are the reference's.
-/
module

public import proofs.«01_k».proof.Defs
public import proofs.«01_k».proof.Proof.Rms
public import proofs.«01_k».proof.Proof.Gen.Kernel19Ideal.Value
public import proofs.«01_k».proof.Proof.Gen.Reference19Ideal.Run
public import proofs.«01_k».proof.Proof.Gen.Reference19Ideal.Read
public import Idealize.ShloMosaic.Lib.KernelVsHost

@[expose] public section

set_option maxRecDepth 16384

noncomputable section

namespace Cert.Kernel19Ideal.Val

open Cert.Kernel19Ideal Cert.Kernel19Ideal.Gen Idealize.ShloMosaic Idealize.ShloMosaic.TcCoe Idealize.SL.Sem Cert.Gating

/-- The gate of a logit. -/
def sg (x : EReal) : EReal := Ideal.logistic x
/-- What reaches a gated input, and its gate's logit. -/
def toIn (x d : EReal) : EReal := sg x * d
def toGate (a x d : EReal) : EReal := d * a * (sg x * (1 - sg x))

theorem pay13_at (x3 : Vec Ideal S256x3072 .f32) (x4 : Vec Ideal S256x1024 .f32) (r : Fin 256) (l : Fin 1024) :
    k0_pay2 (k0_pay13 x3 x4) (ix2 r l) = toIn (x3 (ix2 r ⟨l.val, by omega⟩)) (x4 (ix2 r l)) := by
  unfold toIn sg
  pointwise [k0_pay2, k0_pay13, k0_pay5, k0_pay8]
theorem pay11_at (x3 : Vec Ideal S256x3072 .f32) (x4 : Vec Ideal S256x1024 .f32) (r : Fin 256) (l : Fin 1024) :
    k0_pay3 (k0_pay11 x3 x4) (ix2 r l) = toIn (x3 (ix2 r ⟨1024 + l.val, by omega⟩)) (x4 (ix2 r l)) := by
  unfold toIn sg
  pointwise [k0_pay3, k0_pay11, k0_pay6, k0_pay8]
theorem pay10_at (x3 : Vec Ideal S256x3072 .f32) (x4 : Vec Ideal S256x1024 .f32) (r : Fin 256) (l : Fin 1024) :
    k0_pay4 (k0_pay10 x3 x4) (ix2 r l) = toIn (x3 (ix2 r ⟨2048 + l.val, by omega⟩)) (x4 (ix2 r l)) := by
  unfold toIn sg
  pointwise [k0_pay4, k0_pay10, k0_pay7, k0_pay9]
abbrev gates (x0 x1 x2 : Vec Ideal S256x1024 .bf16) (x3 : Vec Ideal S256x3072 .f32) (x4 : Vec Ideal S256x1024 .f32) : Vec Ideal S256x3072 .f32 :=
  k0_pay1 (k0_pay12 x1 x2 x3 x4) (k0_pay14 x0 x3 x4)
theorem gates0_at (x0 x1 x2 : Vec Ideal S256x1024 .bf16) (x3 : Vec Ideal S256x3072 .f32) (x4 : Vec Ideal S256x1024 .f32) (r : Fin 256) (l : Fin 1024) :
    gates x0 x1 x2 x3 x4 (ix2 r ⟨0 * 1024 + l.val, by omega⟩) = toGate (x0 (ix2 r l)) (x3 (ix2 r ⟨0 * 1024 + l.val, by omega⟩)) (x4 (ix2 r l)) := by
  unfold toGate sg gates
  pointwise [k0_pay1, k0_pay12, k0_pay14, k0_pay5, k0_pay6, k0_pay7, k0_pay8, k0_pay9]
  simp only [dif_pos (show l.val < 2048 by omega), zero_add]
theorem gates1_at (x0 x1 x2 : Vec Ideal S256x1024 .bf16) (x3 : Vec Ideal S256x3072 .f32) (x4 : Vec Ideal S256x1024 .f32) (r : Fin 256) (l : Fin 1024) :
    gates x0 x1 x2 x3 x4 (ix2 r ⟨1024 + l.val, by omega⟩) = toGate (x1 (ix2 r l)) (x3 (ix2 r ⟨1024 + l.val, by omega⟩)) (x4 (ix2 r l)) := by
  unfold toGate sg gates
  pointwise [k0_pay1, k0_pay12, k0_pay14, k0_pay5, k0_pay6, k0_pay7, k0_pay8, k0_pay9]
  simp only [dif_pos (show 1024 + l.val < 2048 by omega), zero_add]
theorem gates2_at (x0 x1 x2 : Vec Ideal S256x1024 .bf16) (x3 : Vec Ideal S256x3072 .f32) (x4 : Vec Ideal S256x1024 .f32) (r : Fin 256) (l : Fin 1024) :
    gates x0 x1 x2 x3 x4 (ix2 r ⟨2048 + l.val, by omega⟩) = toGate (x2 (ix2 r l)) (x3 (ix2 r ⟨2048 + l.val, by omega⟩)) (x4 (ix2 r l)) := by
  unfold toGate sg gates
  pointwise [k0_pay1, k0_pay12, k0_pay14, k0_pay5, k0_pay6, k0_pay7, k0_pay8, k0_pay9]
  simp only [dif_neg (show ¬ 2048 + l.val < 1024 by omega), add_zero]

section
open Cert.Reference19Ideal.Read
variable (x0 x1 x2 : (⟨2, ![8192, 1024]⟩ : Shape).Idx → EReal) (x3 x4 : (⟨2, ![8192, 8192]⟩ : Shape).Idx → EReal) (x5 : (⟨2, ![8192, 1024]⟩ : Shape).Idx → EReal)
theorem gate_at (r : Fin 8192) (i : Fin 3) (l : Fin 1024) :
    val_main_v10 (F := Ideal) x3 (ix3 r i l) = sg (x3 (ix2 r ⟨3072 + (i.val * 1024 + l.val), by omega⟩)) := by
  unfold sg
  pointwise [val_main_v10, val_main_v9, val_main_v8, val_main_v7, val_main_v6, val_main_v5, val_main_v4, val_main_v3, val_main_cst, val_main_cst_0]
  rfl
theorem v31_at (r : Fin 8192) (l : Fin 1024) : val_main_v31 (F := Ideal) x3 x5 (ix2 r l) = toIn (x3 (ix2 r ⟨3072 + l.val, by omega⟩)) (x5 (ix2 r l)) := by
  unfold toIn
  pointwise [val_main_v31, val_main_v24, val_main_v23, val_main_v21, val_main_v20, gate_at]
theorem v32_at (r : Fin 8192) (l : Fin 1024) : val_main_v32 (F := Ideal) x3 x5 (ix2 r l) = toIn (x3 (ix2 r ⟨3072 + (1024 + l.val), by omega⟩)) (x5 (ix2 r l)) := by
  unfold toIn
  pointwise [val_main_v32, val_main_v26, val_main_v25, val_main_v21, val_main_v20, gate_at]
theorem v33_at (r : Fin 8192) (l : Fin 1024) : val_main_v33 (F := Ideal) x3 x5 (ix2 r l) = toIn (x3 (ix2 r ⟨3072 + (2048 + l.val), by omega⟩)) (x5 (ix2 r l)) := by
  unfold toIn
  pointwise [val_main_v33, val_main_v28, val_main_v27, val_main_v21, val_main_v20, gate_at]
theorem v29_at (r : Fin 8192) (l : Fin 1024) (i : Fin 3) : val_main_v29 (F := Ideal) x0 x1 x2 x3 x5 (ix3 r i l) = toGate (val_main_v17 (F := Ideal) x0 x1 x2 (ix3 r i l)) (x3 (ix2 r ⟨3072 + (i.val * 1024 + l.val), by omega⟩)) (x5 (ix2 r l)) := by
  unfold toGate
  pointwise [val_main_v29, val_main_v22, val_main_v20, val_main_v13, val_main_v12, val_main_v11, val_main_cst_1, gate_at]
/-- One of the three gated inputs. -/
def pick3 (i : Fin 3) : (⟨2, ![8192, 1024]⟩ : Shape).Idx → EReal := match i with | ⟨0, _⟩ => x0 | ⟨1, _⟩ => x1 | ⟨2, _⟩ => x2
theorem v17_at (r : Fin 8192) (i : Fin 3) (l : Fin 1024) : val_main_v17 (F := Ideal) x0 x1 x2 (ix3 r i l) = pick3 x0 x1 x2 i (ix2 r l) := by
  unfold pick3
  match i with
  | ⟨0, _⟩ => pointwise [val_main_v17, val_main_v14, val_main_v0]
  | ⟨1, _⟩ => pointwise [val_main_v17, val_main_v15, val_main_v1]
  | ⟨2, _⟩ => pointwise [val_main_v17, val_main_v16, val_main_v2]
/-- The gradient of a gate's logit. -/
def gate (r : Fin 8192) (i : Fin 3) (l : Fin 1024) : EReal :=
  toGate (pick3 x0 x1 x2 i (ix2 r l)) (x3 (ix2 r ⟨3072 + (i.val * 1024 + l.val), by omega⟩)) (x5 (ix2 r l))
theorem v36_gate (r : Fin 8192) (i : Fin 3) (l : Fin 1024) : val_main_v36 (F := Ideal) x0 x1 x2 x3 x4 x5 (ix2 r ⟨3072 + (i.val * 1024 + l.val), by omega⟩)
    = gate x0 x1 x2 x3 x5 r i l := by
  unfold gate
  rw [← v17_at]
  pointwise [val_main_v36, val_main_v30, v29_at]
  exact dif_pos (by omega)
theorem v36_rest (r k : Fin 8192) (hk : k.val < 3072 ∨ 6144 ≤ k.val) : val_main_v36 (F := Ideal) x0 x1 x2 x3 x4 x5 (ix2 r k) = x4 (ix2 r k) := by
  pointwise [val_main_v36]
  by_cases h : k.val < 3072
  · rw [dif_pos h]; pointwise [val_main_v34]
  · rw [dif_neg h, dif_neg (show ¬ k.val - 3072 < 3072 by omega)]
    pointwise [val_main_v35]
    exact Product.at2 x4 _ _ _ rfl (by show 6144 + (k.val - 3072 - 3072) = k.val; omega)
end

/-- The columns of the gates are three runs of 1024. -/
theorem third (k : Fin 8192) (h0 : 3072 ≤ k.val) (h1 : k.val < 6144) : ∃ (i : Fin 3) (l : Fin 1024), k = ⟨3072 + (i.val * 1024 + l.val), by omega⟩ :=
  ⟨⟨(k.val - 3072) / 1024, by omega⟩, ⟨(k.val - 3072) % 1024, by omega⟩, Fin.ext (by dsimp only; omega)⟩

variable (m : (ℓ : Loc nD τ sig) → Buf (Elt Ideal) ℓ) (c : Dev nD)

abbrev argA : (⟨2, ![8192, 1024]⟩ : Shape).Idx → EReal := m ((c : Thread nD τ).loc main_arg0)
abbrev argB : (⟨2, ![8192, 1024]⟩ : Shape).Idx → EReal := m ((c : Thread nD τ).loc main_arg1)
abbrev argC : (⟨2, ![8192, 1024]⟩ : Shape).Idx → EReal := m ((c : Thread nD τ).loc main_arg2)
abbrev argP : (⟨2, ![8192, 8192]⟩ : Shape).Idx → EReal := m ((c : Thread nD τ).loc main_arg3)
abbrev argDP : (⟨2, ![8192, 8192]⟩ : Shape).Idx → EReal := m ((c : Thread nD τ).loc main_arg4)
abbrev argM : (⟨2, ![8192, 1024]⟩ : Shape).Idx → EReal := m ((c : Thread nD τ).loc main_arg5)

theorem lt32 (t : Fin cfg0.N) : t.val < 32 := lt_of_lt_of_eq t.isLt (show cfg0.N = 32 from N_0)

/-- Every window goes down the rows with the grid point, -/
theorem index_row : ∀ t : Fin cfg0.N, win0_0.index t 0 = t.val ∧ win0_1.index t 0 = t.val ∧ win0_2.index t 0 = t.val ∧ win0_3.index t 0 = t.val
    ∧ win0_4.index t 0 = t.val ∧ win0_5.index t 0 = t.val ∧ win0_6.index t 0 = t.val ∧ win0_7.index t 0 = t.val ∧ win0_8.index t 0 = t.val :=
  (by decide +kernel : ∀ t : Fin grid0.N, win0_0.index t 0 = t.val ∧ win0_1.index t 0 = t.val ∧ win0_2.index t 0 = t.val ∧ win0_3.index t 0 = t.val
    ∧ win0_4.index t 0 = t.val ∧ win0_5.index t 0 = t.val ∧ win0_6.index t 0 = t.val ∧ win0_7.index t 0 = t.val ∧ win0_8.index t 0 = t.val)
/-- and stays in its columns. -/
theorem index_col : ∀ t : Fin cfg0.N, win0_0.index t 1 = 0 ∧ win0_1.index t 1 = 0 ∧ win0_2.index t 1 = 0 ∧ win0_3.index t 1 = 1
    ∧ win0_4.index t 1 = 0 ∧ win0_5.index t 1 = 0 ∧ win0_6.index t 1 = 0 ∧ win0_7.index t 1 = 0 ∧ win0_8.index t 1 = 1 :=
  (by decide +kernel : ∀ t : Fin grid0.N, win0_0.index t 1 = 0 ∧ win0_1.index t 1 = 0 ∧ win0_2.index t 1 = 0 ∧ win0_3.index t 1 = 1
    ∧ win0_4.index t 1 = 0 ∧ win0_5.index t 1 = 0 ∧ win0_6.index t 1 = 0 ∧ win0_7.index t 1 = 0 ∧ win0_8.index t 1 = 1)
theorem xsize8 : ∀ t : Fin cfg0.N, ∀ a, (cfg0.win 8).xsize (grid0.coords t) a = (cfg0.win 8).size a := by decide +kernel

theorem V_v0_3 : V m c main_v0_3 = argDP m c := by
  unfold V; simp only [hostOps0, List.flatten_cons, List.flatten_nil, List.append_nil, List.cons_append, List.nil_append]
  after_results; rfl

abbrev b0 (t : Fin cfg0.N) : Vec Ideal S256x1024 .bf16 := iblk m c 0 t
abbrev b1 (t : Fin cfg0.N) : Vec Ideal S256x1024 .bf16 := iblk m c 1 t
abbrev b2 (t : Fin cfg0.N) : Vec Ideal S256x1024 .bf16 := iblk m c 2 t
abbrev b3 (t : Fin cfg0.N) : Vec Ideal S256x3072 .f32 := X0_3 m c t
abbrev b4 (t : Fin cfg0.N) : Vec Ideal S256x1024 .f32 := iblk m c 4 t

theorem b0_at (t : Fin cfg0.N) (r : Fin 256) (k : Fin 1024) (h : 256 * t.val + r.val < 8192) :
    b0 m c t (ix2 r k) = argA m c (ix2 ⟨256 * t.val + r.val, h⟩ k) := by
  unfold b0 iblk
  rw [View.read_apply]
  show V m c main_arg0 _ = _
  rw [V_main_arg0]
  refine Product.at2 (argA m c) _ _ _ ?_ ?_
  · show win0_0.index t 0 * 256 + 1 * r.val = 256 * t.val + r.val; rw [(index_row t).1]; omega
  · show win0_0.index t 1 * 1024 + 1 * k.val = k.val; rw [(index_col t).1]; omega
theorem b1_at (t : Fin cfg0.N) (r : Fin 256) (k : Fin 1024) (h : 256 * t.val + r.val < 8192) :
    b1 m c t (ix2 r k) = argB m c (ix2 ⟨256 * t.val + r.val, h⟩ k) := by
  unfold b1 iblk
  rw [View.read_apply]
  show V m c main_arg1 _ = _
  rw [V_main_arg1]
  refine Product.at2 (argB m c) _ _ _ ?_ ?_
  · show win0_1.index t 0 * 256 + 1 * r.val = 256 * t.val + r.val; rw [(index_row t).2.1]; omega
  · show win0_1.index t 1 * 1024 + 1 * k.val = k.val; rw [(index_col t).2.1]; omega
theorem b2_at (t : Fin cfg0.N) (r : Fin 256) (k : Fin 1024) (h : 256 * t.val + r.val < 8192) :
    b2 m c t (ix2 r k) = argC m c (ix2 ⟨256 * t.val + r.val, h⟩ k) := by
  unfold b2 iblk
  rw [View.read_apply]
  show V m c main_arg2 _ = _
  rw [V_main_arg2]
  refine Product.at2 (argC m c) _ _ _ ?_ ?_
  · show win0_2.index t 0 * 256 + 1 * r.val = 256 * t.val + r.val; rw [(index_row t).2.2.1]; omega
  · show win0_2.index t 1 * 1024 + 1 * k.val = k.val; rw [(index_col t).2.2.1]; omega
theorem b4_at (t : Fin cfg0.N) (r : Fin 256) (k : Fin 1024) (h : 256 * t.val + r.val < 8192) :
    b4 m c t (ix2 r k) = argM m c (ix2 ⟨256 * t.val + r.val, h⟩ k) := by
  unfold b4 iblk
  rw [View.read_apply]
  show V m c main_arg5 _ = _
  rw [V_main_arg5]
  refine Product.at2 (argM m c) _ _ _ ?_ ?_
  · show win0_4.index t 0 * 256 + 1 * r.val = 256 * t.val + r.val; rw [(index_row t).2.2.2.2.1]; omega
  · show win0_4.index t 1 * 1024 + 1 * k.val = k.val; rw [(index_col t).2.2.2.2.1]; omega
theorem b3_at (t : Fin cfg0.N) (r : Fin 256) (k : Fin 3072) (h : 256 * t.val + r.val < 8192) :
    b3 m c t (ix2 r k) = argP m c (ix2 ⟨256 * t.val + r.val, h⟩ ⟨3072 + k.val, by omega⟩) := by
  unfold b3 X0_3 Pipeline.Window.fill
  rw [dif_pos (moved0_3 t (ix2 r k : S256x3072.Idx))]
  unfold iblk
  rw [View.read_apply]
  show V m c main_arg3 _ = _
  rw [V_main_arg3]
  refine Product.at2 (argP m c) _ _ _ ?_ ?_
  · show win0_3.index t 0 * 256 + 1 * r.val = 256 * t.val + r.val; rw [(index_row t).2.2.2.1]; omega
  · show win0_3.index t 1 * 3072 + 1 * k.val = 3072 + k.val; rw [(index_col t).2.2.2.1]; omega

/-! ## What a grid point leaves -/

theorem out5 (t : Fin cfg0.N) : (outsAt0 m c t).1 = k0_pay2 (k0_pay13 (b3 m c t) (b4 m c t)) := by
  unfold outsAt0
  dsimp only
  unfold out0_A_5
  rw [View.read_writes_eq_canon _ _ _ (fun _ => cover0_A_5 ..)]
  unfold kernelRun0_A
  dsimp only
  sl_unfold_words
  rw [View.canon_unit_zero Product.zero2]
  simp only [View.readAt_eq_ld, (hs0_3 t).read_unread, (hs0_4 t).read_unread, View.ld_unit_zero (S := S256x1024) Product.zero2, View.ld_unit_zero (S := S256x3072) Product.zero2]
theorem out6 (t : Fin cfg0.N) : (outsAt0 m c t).2.1 = k0_pay3 (k0_pay11 (b3 m c t) (b4 m c t)) := by
  unfold outsAt0
  dsimp only
  unfold out0_A_6
  rw [View.read_writes_eq_canon _ _ _ (fun _ => cover0_A_6 ..)]
  unfold kernelRun0_A
  dsimp only
  sl_unfold_words
  rw [View.canon_unit_zero Product.zero2]
  simp only [View.readAt_eq_ld, (hs0_3 t).read_unread, (hs0_4 t).read_unread, View.ld_unit_zero (S := S256x1024) Product.zero2, View.ld_unit_zero (S := S256x3072) Product.zero2]
theorem out7 (t : Fin cfg0.N) : (outsAt0 m c t).2.2.1 = k0_pay4 (k0_pay10 (b3 m c t) (b4 m c t)) := by
  unfold outsAt0
  dsimp only
  unfold out0_A_7
  rw [View.read_writes_eq_canon _ _ _ (fun _ => cover0_A_7 ..)]
  unfold kernelRun0_A
  dsimp only
  sl_unfold_words
  rw [View.canon_unit_zero Product.zero2]
  simp only [View.readAt_eq_ld, (hs0_3 t).read_unread, (hs0_4 t).read_unread, View.ld_unit_zero (S := S256x1024) Product.zero2, View.ld_unit_zero (S := S256x3072) Product.zero2]
theorem out8 (t : Fin cfg0.N) : (outsAt0 m c t).2.2.2 = gates (b0 m c t) (b1 m c t) (b2 m c t) (b3 m c t) (b4 m c t) := by
  unfold outsAt0
  dsimp only
  unfold out0_A_8
  rw [View.read_writes_eq_canon _ _ _ (fun _ => cover0_A_8 ..)]
  unfold kernelRun0_A
  dsimp only
  sl_unfold_words
  rw [View.canon_unit_zero Product.zero2]
  simp only [View.readAt_eq_ld, (hs0_0 t).read_unread, (hs0_1 t).read_unread, (hs0_2 t).read_unread, (hs0_3 t).read_unread, (hs0_4 t).read_unread, View.ld_unit_zero (S := S256x1024) Product.zero2, View.ld_unit_zero (S := S256x3072) Product.zero2]

/-! ## The arrays after the grid -/

theorem meet5 : Cert.Reference19Ideal.Read.val_main_v31 (F := Ideal) (argP m c) (argM m c) = (dats m 0 c).arrAt 5 cfg0.N := by
  refine Rms.rowTiles 256 32 (by decide) rfl _ _ fun t' r l hr => (v31_at ..).trans ?_
  obtain ⟨t, rfl⟩ : ∃ t : Fin cfg0.N, t' = t.cast N_0 := ⟨t'.cast N_0.symm, rfl⟩
  have e := congrFun (Value.blocks5 m c t (flush0_5 t)) (ix2 r l : S256x1024.Idx)
  rw [Value.flushed5 m c t, out5 m c t, View.read_apply] at e
  refine Eq.symm (Eq.trans (Product.at2 ((dats m 0 c).arrAt 5 cfg0.N) _ _ _ ?_ ?_).symm (e.trans ((pay13_at ..).trans ?_)))
  · show win0_5.index t 0 * 256 + 1 * r.val = 256 * t.val + r.val; rw [(index_row t).2.2.2.2.2.1]; omega
  · show win0_5.index t 1 * 1024 + 1 * l.val = l.val; rw [(index_col t).2.2.2.2.2.1]; omega
  · rw [b3_at m c t r ⟨l.val, by omega⟩ hr, b4_at m c t r l hr]
    rfl
theorem meet6 : Cert.Reference19Ideal.Read.val_main_v32 (F := Ideal) (argP m c) (argM m c) = (dats m 0 c).arrAt 6 cfg0.N := by
  refine Rms.rowTiles 256 32 (by decide) rfl _ _ fun t' r l hr => (v32_at ..).trans ?_
  obtain ⟨t, rfl⟩ : ∃ t : Fin cfg0.N, t' = t.cast N_0 := ⟨t'.cast N_0.symm, rfl⟩
  have e := congrFun (Value.blocks6 m c t (flush0_6 t)) (ix2 r l : S256x1024.Idx)
  rw [Value.flushed6 m c t, out6 m c t, View.read_apply] at e
  refine Eq.symm (Eq.trans (Product.at2 ((dats m 0 c).arrAt 6 cfg0.N) _ _ _ ?_ ?_).symm (e.trans ((pay11_at ..).trans ?_)))
  · show win0_6.index t 0 * 256 + 1 * r.val = 256 * t.val + r.val; rw [(index_row t).2.2.2.2.2.2.1]; omega
  · show win0_6.index t 1 * 1024 + 1 * l.val = l.val; rw [(index_col t).2.2.2.2.2.2.1]; omega
  · rw [b3_at m c t r ⟨1024 + l.val, by omega⟩ hr, b4_at m c t r l hr]
    rfl
theorem meet7 : Cert.Reference19Ideal.Read.val_main_v33 (F := Ideal) (argP m c) (argM m c) = (dats m 0 c).arrAt 7 cfg0.N := by
  refine Rms.rowTiles 256 32 (by decide) rfl _ _ fun t' r l hr => (v33_at ..).trans ?_
  obtain ⟨t, rfl⟩ : ∃ t : Fin cfg0.N, t' = t.cast N_0 := ⟨t'.cast N_0.symm, rfl⟩
  have e := congrFun (Value.blocks7 m c t (flush0_7 t)) (ix2 r l : S256x1024.Idx)
  rw [Value.flushed7 m c t, out7 m c t, View.read_apply] at e
  refine Eq.symm (Eq.trans (Product.at2 ((dats m 0 c).arrAt 7 cfg0.N) _ _ _ ?_ ?_).symm (e.trans ((pay10_at ..).trans ?_)))
  · show win0_7.index t 0 * 256 + 1 * r.val = 256 * t.val + r.val; rw [(index_row t).2.2.2.2.2.2.2.1]; omega
  · show win0_7.index t 1 * 1024 + 1 * l.val = l.val; rw [(index_col t).2.2.2.2.2.2.2.1]; omega
  · rw [b3_at m c t r ⟨2048 + l.val, by omega⟩ hr, b4_at m c t r l hr]
    rfl

/-- The block of a grid point, read back. -/
theorem inside8 (t : Fin cfg0.N) (r : Fin 256) (k : Fin 3072) (hr : 256 * t.val + r.val < 8192) :
    (dats m 0 c).arrAt 8 cfg0.N (ix2 ⟨256 * t.val + r.val, hr⟩ ⟨3072 + k.val, by omega⟩ : S8192x8192.Idx)
      = gates (b0 m c t) (b1 m c t) (b2 m c t) (b3 m c t) (b4 m c t) (ix2 r k) := by
  have e := congrFun (Value.blocks8 m c t (flush0_8 t)) (fun a => ⟨((ix2 r k : S256x3072.Idx) a).val, by
    show _ < (cfg0.win 8).xsize (grid0.coords t) a
    rw [xsize8 t a]; exact ((ix2 r k : S256x3072.Idx) a).isLt⟩)
  rw [Value.flushed8 m c t, out8 m c t, View.read_apply] at e
  refine Eq.trans (Product.at2 ((dats m 0 c).arrAt 8 cfg0.N) _ _ _ ?_ ?_).symm e
  · show win0_8.index t 0 * 256 + 1 * r.val = 256 * t.val + r.val; rw [(index_row t).2.2.2.2.2.2.2.2]; omega
  · show win0_8.index t 1 * 3072 + 1 * k.val = 3072 + k.val; rw [(index_col t).2.2.2.2.2.2.2.2]; omega
/-- Outside the columns the kernel writes, the array keeps what it held. -/
theorem outside8 (r k : Fin 8192) (hk : k.val < 3072 ∨ 6144 ≤ k.val) :
    (dats m 0 c).arrAt 8 cfg0.N (ix2 r k : S8192x8192.Idx) = argDP m c (ix2 r k) := by
  rw [Value.entry8 m c (ix2 r k : S8192x8192.Idx) ?_]
  · show V m c main_v0_3 _ = _
    rw [V_v0_3]
  · intro t _ hi
    have hi' : (ix2 r k : S8192x8192.Idx) ∈ ((View.whole main_v0_3).slice (win0_8.rect t)).set := hi
    rw [View.set_slice_whole, Rect.mem_set_unit] at hi'
    have h1 : win0_8.index t 1 * 3072 ≤ k.val ∧ k.val < win0_8.index t 1 * 3072 + win0_8.xsize (grid0.coords t) 1 := hi' 1
    have hx : win0_8.xsize (grid0.coords t) 1 = 3072 := xsize8 t 1
    rw [(index_col t).2.2.2.2.2.2.2.2, hx] at h1
    omega

theorem point8 (t : Fin cfg0.N) (r : Fin 256) (i : Fin 3) (l : Fin 1024) (hr : 256 * t.val + r.val < 8192) :
    gates (b0 m c t) (b1 m c t) (b2 m c t) (b3 m c t) (b4 m c t) (ix2 r ⟨i.val * 1024 + l.val, by omega⟩)
      = gate (argA m c) (argB m c) (argC m c) (argP m c) (argM m c) ⟨256 * t.val + r.val, hr⟩ i l := by
  have e3 := b3_at m c t r ⟨i.val * 1024 + l.val, by omega⟩ hr
  have e4 := b4_at m c t r l hr
  unfold gate
  rw [← e3, ← e4]
  match i with
  | ⟨0, _⟩ => rw [show pick3 (argA m c) (argB m c) (argC m c) ⟨0, _⟩ = argA m c from rfl, ← b0_at m c t r l hr]; exact gates0_at ..
  | ⟨1, _⟩ => rw [show pick3 (argA m c) (argB m c) (argC m c) ⟨1, _⟩ = argB m c from rfl, ← b1_at m c t r l hr]; exact gates1_at ..
  | ⟨2, _⟩ => rw [show pick3 (argA m c) (argB m c) (argC m c) ⟨2, _⟩ = argC m c from rfl, ← b2_at m c t r l hr]; exact gates2_at ..

theorem meet8 : Cert.Reference19Ideal.Read.val_main_v36 (F := Ideal) (argA m c) (argB m c) (argC m c) (argP m c) (argDP m c) (argM m c)
    = (dats m 0 c).arrAt 8 cfg0.N := by
  refine Rms.rowTiles 256 32 (by decide) rfl _ _ fun t' r k hr => ?_
  obtain ⟨t, rfl⟩ : ∃ t : Fin cfg0.N, t' = t.cast N_0 := ⟨t'.cast N_0.symm, rfl⟩
  by_cases hk : k.val < 3072 ∨ 6144 ≤ k.val
  · exact (v36_rest _ _ _ _ _ _ _ _ hk).trans (outside8 m c _ k hk).symm
  have h8 : 256 * t.val + r.val < 8192 := hr
  obtain ⟨i, l, hk'⟩ := third k (by omega) (by omega)
  have hi := inside8 m c t r ⟨i.val * 1024 + l.val, by omega⟩ h8
  have e := point8 m c t r i l h8
  rw [hk']
  exact (v36_gate ..).trans (hi.trans e).symm

section
variable {x0 x1 x2 x5 x0' x1' x2' x5' : (⟨2, ![8192, 1024]⟩ : Shape).Idx → EReal} {x3 x4 x3' x4' : (⟨2, ![8192, 8192]⟩ : Shape).Idx → EReal}
open Cert.Reference19Ideal.Read
theorem same5 (e3 : x3' = x3) (e5 : x5' = x5) : val_main_v31 (F := Ideal) x3' x5' = val_main_v31 (F := Ideal) x3 x5 := by subst e3 e5; rfl
theorem same6 (e3 : x3' = x3) (e5 : x5' = x5) : val_main_v32 (F := Ideal) x3' x5' = val_main_v32 (F := Ideal) x3 x5 := by subst e3 e5; rfl
theorem same7 (e3 : x3' = x3) (e5 : x5' = x5) : val_main_v33 (F := Ideal) x3' x5' = val_main_v33 (F := Ideal) x3 x5 := by subst e3 e5; rfl
theorem same8 (e0 : x0' = x0) (e1 : x1' = x1) (e2 : x2' = x2) (e3 : x3' = x3) (e4 : x4' = x4) (e5 : x5' = x5) :
    val_main_v36 (F := Ideal) x0' x1' x2' x3' x4' x5' = val_main_v36 (F := Ideal) x0 x1 x2 x3 x4 x5 := by subst e0 e1 e2 e3 e4 e5; rfl
end

theorem algebraic : Cert.algebraic_Kernel19Ideal_Reference19Ideal (hKernel19Ideal := Cert.Kernel19Ideal.Gen.facts) (hReference19Ideal := Cert.Reference19Ideal.Gen.facts) := by
  intro m g m' g' _ hm
  refine ⟨fun c => (dats m 0 c).arrAt 5 cfg0.N, fun c => (dats m 0 c).arrAt 6 cfg0.N, fun c => (dats m 0 c).arrAt 7 cfg0.N, fun c => (dats m 0 c).arrAt 8 cfg0.N,
    Cert.Kernel19Ideal.Value.run_blocks m g, ?_⟩
  refine (θ_run _ _ _).mono (fun r h c => ?_) (Cert.Reference19Ideal.Value.run m' g')
  obtain ⟨h0, h1, h2, h3, rest⟩ := h c
  obtain ⟨a0, a1, a2, a3, a4, a5⟩ := hm c
  exact ⟨h0.trans ((Cert.Reference19Ideal.Read.val_main_v31_eq _ _).trans ((same5 a3 a5).trans (meet5 m c))),
    h1.trans ((Cert.Reference19Ideal.Read.val_main_v32_eq _ _).trans ((same6 a3 a5).trans (meet6 m c))),
    h2.trans ((Cert.Reference19Ideal.Read.val_main_v33_eq _ _).trans ((same7 a3 a5).trans (meet7 m c))),
    h3.trans ((Cert.Reference19Ideal.Read.val_main_v36_eq _ _ _ _ _ _).trans ((same8 a0 a1 a2 a3 a4 a5).trans (meet8 m c))), rest⟩

theorem frame_reference : Cert.quiescent_Reference19Ideal (hReference19Ideal := Cert.Reference19Ideal.Gen.facts) := fun m ρ _ =>
  (θ_run Cert.Reference19Ideal.defs _ _).mono (fun r h => ⟨fun c => (h c).2.2.2.2, sem_eq_zero_of_no_sems (by decide) r.2⟩)
    (Cert.Reference19Ideal.Value.run (F := Ideal) m ρ)

end Cert.Kernel19Ideal.Val
end
-- ==== Proof.Head20.lean ====
/-
  The gradient of the gated per-head norm: the kernel's three arrays are the reference's.
-/
module

public import proofs.«01_k».proof.Defs
public import proofs.«01_k».proof.Proof.Rms
public import proofs.«01_k».proof.Proof.Gen.Kernel20Ideal.Value
public import proofs.«01_k».proof.Proof.Gen.Reference20Ideal.Run
public import proofs.«01_k».proof.Proof.Gen.Reference20Ideal.Read
public import Idealize.ShloMosaic.Lib.KernelVsHost

@[expose] public section

set_option maxRecDepth 16384

noncomputable section

namespace Cert.Kernel20Ideal.Val

open Cert.Kernel20Ideal Cert.Kernel20Ideal.Gen Idealize.ShloMosaic Idealize.ShloMosaic.TcCoe Idealize.SL.Sem Cert.Gating

/-- Head `h` of row `r` of an array whose rows are four heads of 128. -/
abbrev head {A : ℕ} (x : (⟨2, ![A, 512]⟩ : Shape).Idx → EReal) (r : Fin A) (h : Fin 4) (k : Fin 128) : EReal := x (ix2 r ⟨h.val * 128 + k.val, by omega⟩)

section Head
variable (x z g d : Fin 128 → EReal)
def sg (a : EReal) : EReal := Ideal.logistic a
/-- What the product with the gate passes to the normed head. -/
def passed (k : Fin 128) : EReal := d k * (z k * sg (z k))
/-- What it passes to the gate. -/
def toGate (k : Fin 128) : EReal := x k * Rms.rs Rms.cHead x * g k * d k
/-- The gradients of the head, of the gate's logit, and of the scale. -/
def dX (k : Fin 128) : EReal := Rms.dx Rms.cHead x g (passed z d) k
def dZ (k : Fin 128) : EReal := toGate x g d k * sg (z k) + z k * toGate x g d k * (sg (z k) * (1 - sg (z k)))
def dG (k : Fin 128) : EReal := Rms.dg Rms.cHead x (passed z d) k
end Head

section Stores
variable (x0 x1 : Vec Ideal S512x512 .f32) (x2 : Vec Ideal S1x128 .f32) (x4 : Vec Ideal S512x512 .f32)
/-- The three values the body stores, put together from its pieces. -/
abbrev rowsOf : Vec Ideal S512x512 .f32 :=
  k0_pay65 (k0_pay3 x2) (k0_pay5 x0) (k0_pay7 x0) (k0_pay8 x0) (k0_pay13 x1) (k0_pay43 x4)
    (k0_pay56 (k0_pay25 x0) (k0_pay28 x0) (k0_pay48 (k0_pay3 x2) x4 (k0_pay34 x1) (k0_pay35 x0) (k0_pay37 x0) (k0_pay38 x0) (k0_pay41 x1))
      (k0_pay53 (k0_pay3 x2) x4 (k0_pay33 x1)) (k0_pay54 (k0_pay3 x2) x4 (k0_pay25 x0) (k0_pay33 x1)) (k0_pay55 (k0_pay27 x0)))
    (k0_pay61 (k0_pay3 x2) (k0_pay15 x0) (k0_pay17 x0) (k0_pay18 x0) (k0_pay23 (k0_pay14 x1)) (k0_pay44 x4)) (k0_pay62 (F := Ideal))
abbrev gatesOf : Vec Ideal S512x512 .f32 :=
  k0_pay66 (k0_pay4 x1) (k0_pay10 x0 x2) (k0_pay11 x1) (k0_pay12 x1) (k0_pay43 x4)
    (k0_pay57 (k0_pay49 x4 (k0_pay34 x1) (k0_pay40 x0 (k0_pay3 x2)) (k0_pay41 x1) (k0_pay42 x1))
      (k0_pay51 x4 (k0_pay24 x1) (k0_pay30 x0 (k0_pay3 x2)) (k0_pay31 x1) (k0_pay32 x1)))
    (k0_pay59 (k0_pay14 x1) (k0_pay20 (k0_pay3 x2) (k0_pay19 x0)) (k0_pay21 (k0_pay14 x1)) (k0_pay22 (k0_pay14 x1)) (k0_pay44 x4))
abbrev scaleOf : FVec Ideal S1x128 .f32 :=
  k0_pay64 (k0_pay9 x0) (k0_pay13 x1) (k0_pay43 x4)
    (k0_pay60 (k0_pay19 x0) (k0_pay23 (k0_pay14 x1)) (k0_pay44 x4)
      (k0_pay52 x4 (k0_pay29 x0) (k0_pay33 x1) (k0_pay34 x1) (k0_pay39 x0) (k0_pay41 x1)))

theorem four (h : Fin 4) : h = 0 ∨ h = 1 ∨ h = 2 ∨ h = 3 := by omega

theorem gatesOf_at (r : Fin 512) (h : Fin 4) (k : Fin 128) :
    gatesOf x0 x1 x2 x4 (ix2 r ⟨h.val * 128 + k.val, by omega⟩) = dZ (head x0 r h) (head x1 r h) (fun k => x2 (ix2 0 k)) (head x4 r h) k := by
  unfold gatesOf dZ toGate sg Rms.rs Rms.var head
  rcases four h with rfl | rfl | rfl | rfl <;>
  · pointwise [k0_pay66, k0_pay4, k0_pay10, k0_pay11, k0_pay12, k0_pay43, k0_pay57, k0_pay49, k0_pay34, k0_pay40, k0_pay3, k0_pay41, k0_pay42, k0_pay51, k0_pay24, k0_pay30, k0_pay31, k0_pay32, k0_pay59, k0_pay14, k0_pay20, k0_pay19, k0_pay21, k0_pay22, k0_pay44, k0_pay46, k0_pay45, k0_pay9, k0_pay29, k0_pay39, k0_pay25, k0_pay35, k0_pay15, k0_pay5, k0_pay7, k0_pay17, k0_pay27, k0_pay37, k0_pay6, k0_pay16, k0_pay26, k0_pay36]
    split_ifs <;> first | (exfalso; omega) | simp only [zero_add, add_zero]
theorem rowsOf_at (r : Fin 512) (h : Fin 4) (k : Fin 128) :
    rowsOf x0 x1 x2 x4 (ix2 r ⟨h.val * 128 + k.val, by omega⟩) = dX (head x0 r h) (head x1 r h) (fun k => x2 (ix2 0 k)) (head x4 r h) k := by
  unfold rowsOf dX Rms.dx Rms.dq Rms.drs passed sg Rms.rs Rms.var head
  rcases four h with rfl | rfl | rfl | rfl <;>
  · pointwise [k0_pay65, k0_pay56, k0_pay48, k0_pay47, k0_pay50, k0_pay53, k0_pay54, k0_pay55, k0_pay58, k0_pay61, k0_pay62, k0_pay63, k0_pay4, k0_pay8, k0_pay18, k0_pay28, k0_pay38, k0_pay13, k0_pay23, k0_pay33, k0_pay11, k0_pay43, k0_pay34, k0_pay3, k0_pay41, k0_pay24, k0_pay31, k0_pay14, k0_pay21, k0_pay44, k0_pay46, k0_pay45, k0_pay25, k0_pay35, k0_pay15, k0_pay5, k0_pay7, k0_pay17, k0_pay27, k0_pay37, k0_pay6, k0_pay16, k0_pay26, k0_pay36, Fin.sum_univ_one]
    split_ifs <;> first | (exfalso; omega) | simp only [zero_add, add_zero]
theorem flip4 (a b c d : EReal) : d + c + b + a = a + b + c + d := by ac_rfl
theorem scaleOf_at (k : Fin 128) :
    scaleOf x0 x1 x4 (ix2 0 k) = ∑ r : Fin 512, ∑ h : Fin 4, dG (head x0 r h) (head x1 r h) (head x4 r h) k := by
  rw [Finset.sum_comm, Fin.sum_univ_four]
  unfold scaleOf dG Rms.dg passed sg Rms.rs Rms.var head
  pointwise [k0_pay64, k0_pay60, k0_pay52, k0_pay47, k0_pay50, k0_pay58, k0_pay63, k0_pay4, k0_pay13, k0_pay23, k0_pay33, k0_pay11, k0_pay43, k0_pay34, k0_pay41, k0_pay24, k0_pay31, k0_pay14, k0_pay21, k0_pay44, k0_pay46, k0_pay45, k0_pay9, k0_pay19, k0_pay29, k0_pay39, k0_pay25, k0_pay35, k0_pay15, k0_pay5, k0_pay7, k0_pay17, k0_pay27, k0_pay37, k0_pay6, k0_pay16, k0_pay26, k0_pay36]
  exact flip4 _ _ _ _
end Stores

section
open Cert.Reference20Ideal.Read
variable (x0 : (⟨2, ![8192, 512]⟩ : Shape).Idx → EReal) (x1 x2 : (⟨2, ![8192, 8192]⟩ : Shape).Idx → EReal) (x3 : (⟨1, ![128]⟩ : Shape).Idx → EReal) (x4 : (⟨2, ![8192, 512]⟩ : Shape).Idx → EReal)
/-- Head `h` of the gate's logits, which lie in columns 6144 to 6655. -/
abbrev gateHead (r : Fin 8192) (h : Fin 4) (k : Fin 128) : EReal := x1 (ix2 r ⟨6144 + (h.val * 128 + k.val), by omega⟩)

theorem v47_at (r : Fin 8192) (h : Fin 4) (k : Fin 128) :
    val_main_v47 (F := Ideal) x0 x1 x3 x4 (ix2 r ⟨h.val * 128 + k.val, by omega⟩) = dX (head x0 r h) (gateHead x1 r h) (fun k => x3 (ix1 k)) (head x4 r h) k := by
  unfold dX Rms.dx Rms.dq Rms.drs passed sg Rms.rs Rms.var head Ideal.logistic
  pointwise [val_main_v47, val_main_v45, val_main_v44, val_main_v43, val_main_v42, val_main_v41, val_main_v40, val_main_v39, val_main_v38, val_main_v37, val_main_v36, val_main_v35, val_main_v34, val_main_v33, val_main_v32, val_main_v30, val_main_v29, val_main_v24, val_main_v22, val_main_v19_0, val_main_v19_2, val_main_call0_v0, val_main_call0_v1, val_main_call0_v2, val_main_call0_v3, val_main_call0_v4, val_main_call0_cst, val_main_call0_cst_0, val_main_v16, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_5, val_main_cst_6, val_main_cst_7, Fin.sum_univ_one]
theorem v46_at (r : Fin 8192) (h : Fin 4) (k : Fin 128) :
    val_main_v46 (F := Ideal) x0 x1 x3 x4 (ix2 r ⟨h.val * 128 + k.val, by omega⟩) = dZ (head x0 r h) (gateHead x1 r h) (fun k => x3 (ix1 k)) (head x4 r h) k := by
  unfold dZ toGate sg Rms.rs Rms.var head Ideal.logistic
  pointwise [val_main_v46, val_main_v25, val_main_call1_v0, val_main_call1_v1, val_main_call1_v2, val_main_v23, val_main_v22, val_main_v19_1, val_main_v19_2, val_main_call0_v0, val_main_call0_v1, val_main_call0_v2, val_main_call0_v3, val_main_call0_v4, val_main_call0_v6, val_main_call0_v7, val_main_call0_cst, val_main_call0_cst_0, val_main_call0_cst_1, val_main_v18, val_main_v17, val_main_v16, val_main_v15, val_main_v14, val_main_v10, val_main_v9, val_main_v8, val_main_v7, val_main_v6, val_main_v5, val_main_v4, val_main_v3, val_main_v2, val_main_v1, val_main_v0, val_main_cst, val_main_cst_0, val_main_cst_1]
theorem v26_at (r : Fin 8192) (h : Fin 4) (k : Fin 128) :
    val_main_v26 (F := Ideal) x0 x1 x4 (ix3 r h k) = dG (head x0 r h) (gateHead x1 r h) (head x4 r h) k := by
  unfold dG Rms.dg passed sg Rms.rs Rms.var head Ideal.logistic
  pointwise [val_main_v26, val_main_v24, val_main_v22, val_main_v19_0, val_main_v19_2, val_main_call0_v0, val_main_call0_v1, val_main_call0_v2, val_main_call0_v3, val_main_call0_v4, val_main_call0_cst, val_main_call0_cst_0, val_main_v15, val_main_v14, val_main_v10, val_main_v9, val_main_v8, val_main_v7, val_main_v6, val_main_v5, val_main_v4, val_main_v3, val_main_v2, val_main_v1, val_main_v0, val_main_cst, val_main_cst_0, val_main_cst_1]
theorem v50_gate (r : Fin 8192) (k : Fin 512) : val_main_v50 (F := Ideal) x0 x1 x2 x3 x4 (ix2 r ⟨6144 + k.val, by omega⟩) = val_main_v46 (F := Ideal) x0 x1 x3 x4 (ix2 r k) := by
  pointwise [val_main_v50]
theorem v50_rest (r k : Fin 8192) (hk : k.val < 6144 ∨ 6656 ≤ k.val) : val_main_v50 (F := Ideal) x0 x1 x2 x3 x4 (ix2 r k) = x2 (ix2 r k) := by
  pointwise [val_main_v50]
  by_cases h : k.val < 6144
  · rw [dif_pos h]; pointwise [val_main_v48]
  · rw [dif_neg h, dif_neg (show ¬ k.val - 6144 < 512 by omega)]
    pointwise [val_main_v49]
    exact Product.at2 x2 _ _ _ rfl (by show 6656 + (k.val - 6144 - 512) = k.val; omega)

theorem ix3_ex {a b c : ℕ} (i : (⟨3, ![a, b, c]⟩ : Shape).Idx) : ∃ p q r, i = ix3 p q r :=
  ⟨i 0, i 1, i 2, by funext a; match a with | ⟨0, _⟩ => rfl | ⟨1, _⟩ => rfl | ⟨2, _⟩ => rfl⟩
/-- A sum over the first two axes of three. -/
theorem sum_two {a b c : ℕ} (hr : (⟨3, ![a, b, c]⟩ : Shape).ReducesTo [0, 1] ⟨1, ![c]⟩) (hd : ∀ p q r, hr.drop (ix3 p q r) = ix1 r)
    (x : (⟨3, ![a, b, c]⟩ : Shape).Idx → EReal) (k : Fin c) : Ideal.hostReduceAdd hr x 0 (ix1 k) = ∑ p : Fin a, ∑ q : Fin b, x (ix3 p q k) := by
  unfold Ideal.hostReduceAdd
  rw [zero_add, ← Fintype.sum_prod_type']
  refine Finset.sum_nbij' (fun i => (i 0, i 1)) (fun p => ix3 p.1 p.2 k) (fun i _ => Finset.mem_univ _)
    (fun p _ => Finset.mem_filter.mpr ⟨Finset.mem_univ _, hd ..⟩) (fun i hi => ?_) (fun p _ => rfl) fun i hi => ?_
  all_goals
    obtain ⟨p, q, r, rfl⟩ := ix3_ex i
    have e := (Finset.mem_filter.mp hi).2
    rw [hd] at e
    have e0 : r = k := congrFun e 0
    subst e0; rfl
theorem v51_at (k : Fin 128) : val_main_v51 (F := Ideal) x0 x1 x4 (ix2 0 k) = ∑ r : Fin 8192, ∑ h : Fin 4, dG (head x0 r h) (gateHead x1 r h) (head x4 r h) k := by
  have e27 : val_main_v27 (F := Ideal) x0 x1 x4 (ix1 k) = ∑ r : Fin 8192, ∑ h : Fin 4, val_main_v26 (F := Ideal) x0 x1 x4 (ix3 r h k) := by
    rw [← sum_two Cert.Reference20Ideal.Gen.reducesTo_S8192x4x128_S128_d0_1 (fun p q r => by funext a; match a with | ⟨0, _⟩ => rfl)]
    unfold val_main_v27
    pointwise [val_main_cst_3]
  have e31 : val_main_v31 (F := Ideal) x0 x1 x4 (ix1 k) = ∑ r : Fin 1, ∑ h : Fin 1, val_main_v28 (F := Ideal) x0 x1 x4 (ix3 r h k) := by
    rw [← sum_two Cert.Reference20Ideal.Gen.reducesTo_S1x1x128_S128_d0_1 (fun p q r => by funext a; match a with | ⟨0, _⟩ => rfl)]
    unfold val_main_v31
    pointwise [val_main_cst_4]
  pointwise [val_main_v51, e31, val_main_v28, Fin.sum_univ_one, e27, v26_at]
end
/-- A column of a row of four heads. -/
theorem head_cases (k : Fin 512) : ∃ (h : Fin 4) (l : Fin 128), k = ⟨h.val * 128 + l.val, by omega⟩ :=
  ⟨⟨k.val / 128, by omega⟩, ⟨k.val % 128, by omega⟩, Fin.ext (by dsimp only; omega)⟩

variable (m : (ℓ : Loc nD τ sig) → Buf (Elt Ideal) ℓ) (c : Dev nD)

abbrev argO : (⟨2, ![8192, 512]⟩ : Shape).Idx → EReal := m ((c : Thread nD τ).loc main_arg0)
abbrev argP : (⟨2, ![8192, 8192]⟩ : Shape).Idx → EReal := m ((c : Thread nD τ).loc main_arg1)
abbrev argDP : (⟨2, ![8192, 8192]⟩ : Shape).Idx → EReal := m ((c : Thread nD τ).loc main_arg2)
abbrev argG : (⟨1, ![128]⟩ : Shape).Idx → EReal := m ((c : Thread nD τ).loc main_arg3)
abbrev argY : (⟨2, ![8192, 512]⟩ : Shape).Idx → EReal := m ((c : Thread nD τ).loc main_arg4)

theorem lt16 (t : Fin cfg0.N) : t.val < 16 := lt_of_lt_of_eq t.isLt (show cfg0.N = 16 from N_0)

/-- The windows over rows go down them with the grid point, -/
theorem index_row : ∀ t : Fin cfg0.N, win0_0.index t 0 = t.val ∧ win0_1.index t 0 = t.val ∧ win0_3.index t 0 = t.val ∧ win0_4.index t 0 = t.val ∧ win0_5.index t 0 = t.val :=
  (by decide +kernel : ∀ t : Fin grid0.N, win0_0.index t 0 = t.val ∧ win0_1.index t 0 = t.val ∧ win0_3.index t 0 = t.val ∧ win0_4.index t 0 = t.val ∧ win0_5.index t 0 = t.val)
/-- and stay in their columns; -/
theorem index_col : ∀ t : Fin cfg0.N, win0_0.index t 1 = 0 ∧ win0_1.index t 1 = 12 ∧ win0_3.index t 1 = 0 ∧ win0_4.index t 1 = 0 ∧ win0_5.index t 1 = 12 :=
  (by decide +kernel : ∀ t : Fin grid0.N, win0_0.index t 1 = 0 ∧ win0_1.index t 1 = 12 ∧ win0_3.index t 1 = 0 ∧ win0_4.index t 1 = 0 ∧ win0_5.index t 1 = 12)
/-- the scale's window does not move. -/
theorem index2 : ∀ t : Fin cfg0.N, win0_2.index t 0 = 0 ∧ win0_2.index t 1 = 0 :=
  (by decide +kernel : ∀ t : Fin grid0.N, win0_2.index t 0 = 0 ∧ win0_2.index t 1 = 0)

theorem V_v0 : V m c main_v0 = shapeCast S1x128 (argG m c) shapeCasts_S128_S1x128 := by
  unfold V; simp only [hostOps0, List.flatten_cons, List.flatten_nil, List.append_nil, List.cons_append, List.nil_append]
  after_results; rfl
theorem V_v1_1 : V m c main_v1_1 = argDP m c := by
  unfold V; simp only [hostOps0, List.flatten_cons, List.flatten_nil, List.append_nil, List.cons_append, List.nil_append]
  after_results; rfl

abbrev b0 (t : Fin cfg0.N) : Vec Ideal S512x512 .f32 := iblk m c 0 t
abbrev b1 (t : Fin cfg0.N) : Vec Ideal S512x512 .f32 := iblk m c 1 t
abbrev b2 (t : Fin cfg0.N) : Vec Ideal S1x128 .f32 := iblk m c 2 t
abbrev b3 (t : Fin cfg0.N) : Vec Ideal S512x512 .f32 := iblk m c 3 t

theorem b0_at (t : Fin cfg0.N) (r k : Fin 512) (h : 512 * t.val + r.val < 8192) :
    b0 m c t (ix2 r k) = argO m c (ix2 ⟨512 * t.val + r.val, h⟩ k) := by
  unfold b0 iblk
  rw [View.read_apply]
  show V m c main_arg0 _ = _
  rw [V_main_arg0]
  refine Product.at2 (argO m c) _ _ _ ?_ ?_
  · show win0_0.index t 0 * 512 + 1 * r.val = 512 * t.val + r.val; rw [(index_row t).1]; omega
  · show win0_0.index t 1 * 512 + 1 * k.val = k.val; rw [(index_col t).1]; omega
theorem b1_at (t : Fin cfg0.N) (r k : Fin 512) (h : 512 * t.val + r.val < 8192) :
    b1 m c t (ix2 r k) = argP m c (ix2 ⟨512 * t.val + r.val, h⟩ ⟨6144 + k.val, by omega⟩) := by
  unfold b1 iblk
  rw [View.read_apply]
  show V m c main_arg1 _ = _
  rw [V_main_arg1]
  refine Product.at2 (argP m c) _ _ _ ?_ ?_
  · show win0_1.index t 0 * 512 + 1 * r.val = 512 * t.val + r.val; rw [(index_row t).2.1]; omega
  · show win0_1.index t 1 * 512 + 1 * k.val = 6144 + k.val; rw [(index_col t).2.1]; omega
theorem b3_at (t : Fin cfg0.N) (r k : Fin 512) (h : 512 * t.val + r.val < 8192) :
    b3 m c t (ix2 r k) = argY m c (ix2 ⟨512 * t.val + r.val, h⟩ k) := by
  unfold b3 iblk
  rw [View.read_apply]
  show V m c main_arg4 _ = _
  rw [V_main_arg4]
  refine Product.at2 (argY m c) _ _ _ ?_ ?_
  · show win0_3.index t 0 * 512 + 1 * r.val = 512 * t.val + r.val; rw [(index_row t).2.2.1]; omega
  · show win0_3.index t 1 * 512 + 1 * k.val = k.val; rw [(index_col t).2.2.1]; omega
theorem b2_at (t : Fin cfg0.N) (z : Fin 1) (k : Fin 128) : b2 m c t (ix2 z k) = argG m c (ix1 k) := by
  obtain rfl : z = 0 := Subsingleton.elim _ _
  have e : V m c main_v0 (ix2 0 k : S1x128.Idx) = argG m c (ix1 k) := by rw [V_v0]; pointwise
  rw [← e]
  unfold b2 iblk
  rw [View.read_apply]
  refine Product.at2 (V m c main_v0) _ _ _ ?_ ?_
  · show win0_2.index t 0 * 1 + 1 * 0 = 0; rw [(index2 t).1]
  · show win0_2.index t 1 * 128 + 1 * k.val = k.val; rw [(index2 t).2]; omega

/-- The heads of a block's row. -/
theorem h0_eq (t : Fin cfg0.N) (r : Fin 512) (h : Fin 4) (hr : 512 * t.val + r.val < 8192) : head (b0 m c t) r h = head (argO m c) ⟨512 * t.val + r.val, hr⟩ h :=
  funext fun _ => b0_at m c t r _ hr
theorem h1_eq (t : Fin cfg0.N) (r : Fin 512) (h : Fin 4) (hr : 512 * t.val + r.val < 8192) : head (b1 m c t) r h = gateHead (argP m c) ⟨512 * t.val + r.val, hr⟩ h :=
  funext fun _ => b1_at m c t r _ hr
theorem h3_eq (t : Fin cfg0.N) (r : Fin 512) (h : Fin 4) (hr : 512 * t.val + r.val < 8192) : head (b3 m c t) r h = head (argY m c) ⟨512 * t.val + r.val, hr⟩ h :=
  funext fun _ => b3_at m c t r _ hr
theorem h2_eq (t : Fin cfg0.N) : (fun k => b2 m c t (ix2 0 k)) = fun k => argG m c (ix1 k) := funext fun k => b2_at m c t 0 k

/-! ## What a grid point leaves -/

theorem out4 (t : Fin cfg0.N) : (outsAt0 m c t.val t.isLt).1 = rowsOf (b0 m c t) (b1 m c t) (b2 m c t) (b3 m c t) := by
  by_cases h0 : t.val % 16 = 0
  · rw [outsAt0_A m c t h0]
    dsimp only
    unfold out0_A_4
    rw [View.read_writes_eq_canon _ _ _ (fun _ => cover0_A_4 ..)]
    unfold kernelRun0_A
    dsimp only
    sl_unfold_words
    rw [View.canon_unit_zero Product.zero2]
    simp only [View.readAt_eq_ld, (hs0_0 t).read_unread, (hs0_1 t).read_unread, (hs0_2 t).read_unread, (hs0_3 t).read_unread, View.ld_unit_zero (S := S512x512) Product.zero2, View.ld_unit_zero (S := S1x128) Product.zero2]
  · rw [outsAt0_B m c t h0]
    dsimp only
    unfold out0_B_4
    rw [View.read_writes_eq_canon _ _ _ (fun _ => cover0_B_4 ..)]
    unfold kernelRun0_B
    dsimp only
    sl_unfold_words
    rw [View.canon_unit_zero Product.zero2]
    simp only [View.readAt_eq_ld, (hs0_0 t).read_unread, (hs0_1 t).read_unread, (hs0_2 t).read_unread, (hs0_3 t).read_unread, View.ld_unit_zero (S := S512x512) Product.zero2, View.ld_unit_zero (S := S1x128) Product.zero2]
theorem out5 (t : Fin cfg0.N) : (outsAt0 m c t.val t.isLt).2.1 = gatesOf (b0 m c t) (b1 m c t) (b2 m c t) (b3 m c t) := by
  by_cases h0 : t.val % 16 = 0
  · rw [outsAt0_A m c t h0]
    dsimp only
    unfold out0_A_5
    rw [View.read_writes_eq_canon _ _ _ (fun _ => cover0_A_5 ..)]
    unfold kernelRun0_A
    dsimp only
    sl_unfold_words
    rw [View.canon_unit_zero Product.zero2]
    simp only [View.readAt_eq_ld, (hs0_0 t).read_unread, (hs0_1 t).read_unread, (hs0_2 t).read_unread, (hs0_3 t).read_unread, View.ld_unit_zero (S := S512x512) Product.zero2, View.ld_unit_zero (S := S1x128) Product.zero2]
  · rw [outsAt0_B m c t h0]
    dsimp only
    unfold out0_B_5
    rw [View.read_writes_eq_canon _ _ _ (fun _ => cover0_B_5 ..)]
    unfold kernelRun0_B
    dsimp only
    sl_unfold_words
    rw [View.canon_unit_zero Product.zero2]
    simp only [View.readAt_eq_ld, (hs0_0 t).read_unread, (hs0_1 t).read_unread, (hs0_2 t).read_unread, (hs0_3 t).read_unread, View.ld_unit_zero (S := S512x512) Product.zero2, View.ld_unit_zero (S := S1x128) Product.zero2]
theorem out6_A (t : Fin cfg0.N) (h0 : t.val % 16 = 0) :
    (outsAt0 m c t.val t.isLt).2.2 = k0_pay2 (scaleOf (b0 m c t) (b1 m c t) (b3 m c t)) (k0_pay1 (F := Ideal)) := by
  rw [outsAt0_A m c t h0]
  dsimp only
  unfold out0_A_6
  rw [View.read_writes_eq_canon _ _ _ (fun _ => cover0_A_6 ..)]
  unfold kernelRun0_A
  dsimp only
  sl_unfold_words
  rw [View.canon_cons_unit_zero (S := S1x128) Product.zero2, View.readCov_unit_zero (S := S1x128) _ Product.zero2]
  simp only [View.readAt_eq_ld, (hs0_0 t).read_unread, (hs0_1 t).read_unread, (hs0_2 t).read_unread, (hs0_3 t).read_unread, View.ld_unit_zero (S := S512x512) Product.zero2, View.ld_unit_zero (S := S1x128) Product.zero2]
theorem out6_B (t : Fin cfg0.N) (h0 : ¬t.val % 16 = 0) :
    (outsAt0 m c t.val t.isLt).2.2 = k0_pay2 (scaleOf (b0 m c t) (b1 m c t) (b3 m c t)) (outsAt0 m c (t.val - 1) (Nat.lt_of_le_of_lt (Nat.sub_le _ _) t.isLt)).2.2 := by
  rw [outsAt0_B m c t h0]
  dsimp only
  unfold out0_B_6
  rw [View.read_writes_eq_canon _ _ _ (fun _ => cover0_B_6 ..)]
  unfold kernelRun0_B
  dsimp only
  sl_unfold_words
  rw [View.canon_unit_zero Product.zero2]
  simp only [View.readAt_eq_ld, (hs0_6 t).read_unread, (hs0_0 t).read_unread, (hs0_1 t).read_unread, (hs0_2 t).read_unread, (hs0_3 t).read_unread, View.ld_unit_zero (S := S512x512) Product.zero2, View.ld_unit_zero (S := S1x128) Product.zero2]

theorem pay2_at (v : FVec Ideal S1x128 .f32) (o : Vec Ideal S1x128 .f32) (k : Fin 128) : k0_pay2 v o (ix2 0 k) = o (ix2 0 k) + v (ix2 0 k) := by pointwise [k0_pay2]
theorem pay1_at (k : Fin 128) : k0_pay1 (F := Ideal) (ix2 0 k) = 0 := by pointwise [k0_pay1]

/-! ## The arrays after the grid -/

theorem meet4 : Cert.Reference20Ideal.Read.val_main_v47 (F := Ideal) (argO m c) (argP m c) (argG m c) (argY m c) = (dats m 0 c).arrAt 4 cfg0.N := by
  refine Rms.rowTiles 512 16 (by decide) rfl _ _ fun t' r k hr => ?_
  obtain ⟨t, rfl⟩ : ∃ t : Fin cfg0.N, t' = t.cast N_0 := ⟨t'.cast N_0.symm, rfl⟩
  obtain ⟨h, l, rfl⟩ := head_cases k
  have e := congrFun (Value.blocks4 m c t (flush0_4 t)) (ix2 r ⟨h.val * 128 + l.val, by omega⟩ : S512x512.Idx)
  rw [Value.flushed4 m c t, out4 m c t, View.read_apply] at e
  refine (v47_at ..).trans (Eq.symm (Eq.trans (Product.at2 ((dats m 0 c).arrAt 4 cfg0.N) _ _ _ ?_ ?_).symm (e.trans ((rowsOf_at ..).trans ?_))))
  · show win0_4.index t 0 * 512 + 1 * r.val = 512 * t.val + r.val; rw [(index_row t).2.2.2.1]; omega
  · show win0_4.index t 1 * 512 + 1 * (h.val * 128 + l.val) = h.val * 128 + l.val; rw [(index_col t).2.2.2.1]; omega
  · rw [h0_eq m c t r h hr, h1_eq m c t r h hr, h2_eq m c t, h3_eq m c t r h hr]; rfl

/-- The block of a grid point, read back. -/
theorem inside5 (t : Fin cfg0.N) (r k : Fin 512) (hr : 512 * t.val + r.val < 8192) :
    (dats m 0 c).arrAt 5 cfg0.N (ix2 ⟨512 * t.val + r.val, hr⟩ ⟨6144 + k.val, by omega⟩ : S8192x8192.Idx)
      = gatesOf (b0 m c t) (b1 m c t) (b2 m c t) (b3 m c t) (ix2 r k) := by
  have e := congrFun (Value.blocks5 m c t (flush0_5 t)) (ix2 r k : S512x512.Idx)
  rw [Value.flushed5 m c t, out5 m c t, View.read_apply] at e
  refine Eq.trans (Product.at2 ((dats m 0 c).arrAt 5 cfg0.N) _ _ _ ?_ ?_).symm e
  · show win0_5.index t 0 * 512 + 1 * r.val = 512 * t.val + r.val; rw [(index_row t).2.2.2.2]; omega
  · show win0_5.index t 1 * 512 + 1 * k.val = 6144 + k.val; rw [(index_col t).2.2.2.2]; omega
/-- Outside the columns the kernel writes, the array keeps what it held. -/
theorem outside5 (r k : Fin 8192) (hk : k.val < 6144 ∨ 6656 ≤ k.val) :
    (dats m 0 c).arrAt 5 cfg0.N (ix2 r k : S8192x8192.Idx) = argDP m c (ix2 r k) := by
  rw [Value.entry5 m c (ix2 r k : S8192x8192.Idx) ?_]
  · show V m c main_v1_1 _ = _
    rw [V_v1_1]
  · intro t _ hi
    have hi' : (ix2 r k : S8192x8192.Idx) ∈ ((View.whole main_v1_1).slice (win0_5.rect t)).set := hi
    rw [View.set_slice_whole, Rect.mem_set_unit] at hi'
    have h1 : win0_5.index t 1 * 512 ≤ k.val ∧ k.val < win0_5.index t 1 * 512 + win0_5.xsize (grid0.coords t) 1 := hi' 1
    have hx : ∀ t : Fin cfg0.N, win0_5.xsize (grid0.coords t) 1 = 512 :=
      (by decide +kernel : ∀ t : Fin grid0.N, win0_5.xsize (grid0.coords t) 1 = 512)
    rw [(index_col t).2.2.2.2, hx t] at h1
    omega
theorem meet5 : Cert.Reference20Ideal.Read.val_main_v50 (F := Ideal) (argO m c) (argP m c) (argDP m c) (argG m c) (argY m c)
    = (dats m 0 c).arrAt 5 cfg0.N := by
  refine Rms.rowTiles 512 16 (by decide) rfl _ _ fun t' r k hr => ?_
  obtain ⟨t, rfl⟩ : ∃ t : Fin cfg0.N, t' = t.cast N_0 := ⟨t'.cast N_0.symm, rfl⟩
  by_cases hk : k.val < 6144 ∨ 6656 ≤ k.val
  · exact (v50_rest _ _ _ _ _ _ _ hk).trans (outside5 m c _ k hk).symm
  obtain ⟨h, l, hl⟩ := head_cases ⟨k.val - 6144, by omega⟩
  have hk' : k = ⟨6144 + (h.val * 128 + l.val), by omega⟩ := by
    have := congrArg Fin.val hl
    exact Fin.ext (by dsimp only at this ⊢; omega)
  rw [hk']
  refine (v50_gate _ _ _ _ _ _ ⟨h.val * 128 + l.val, by omega⟩).trans ((v46_at ..).trans (Eq.trans ?_ ((gatesOf_at ..).symm.trans (inside5 m c t r ⟨h.val * 128 + l.val, by omega⟩ hr).symm)))
  rw [h0_eq m c t r h hr, h1_eq m c t r h hr, h2_eq m c t, h3_eq m c t r h hr]; rfl

theorem h16 (n : ℕ) (h : n < 16) : n < cfg0.N := lt_of_lt_of_eq h (show cfg0.N = 16 from N_0).symm
def last : Fin cfg0.N := ⟨15, h16 15 (by decide)⟩

theorem last6 (k : Fin 128) : (outsAt0 m c last.val last.isLt).2.2 (ix2 0 k)
    = ∑ r : Fin 8192, ∑ h : Fin 4, dG (head (argO m c) r h) (gateHead (argP m c) r h) (head (argY m c) r h) k := by
  refine Rms.total (fun n h => (outsAt0 m c n (h16 n h)).2.2 (ix2 0 k))
    (fun n h => scaleOf (b0 m c ⟨n, h16 n h⟩) (b1 m c ⟨n, h16 n h⟩) (b3 m c ⟨n, h16 n h⟩) (ix2 0 k)) _ (fun h => ?_) (fun n h => ?_) fun n h => ?_
  · refine (congrFun (out6_A m c ⟨0, h16 0 h⟩ rfl) _).trans ((pay2_at ..).trans ?_)
    rw [pay1_at, zero_add]
  · exact (congrFun (out6_B m c ⟨n + 1, h16 _ h⟩ (by dsimp only; omega)) _).trans (pay2_at ..)
  · refine (scaleOf_at ..).trans (Finset.sum_congr rfl fun l _ => Finset.sum_congr rfl fun q _ => ?_)
    have hr : 512 * n + l.val < 8192 := by omega
    rw [h0_eq m c ⟨n, h16 n h⟩ l q hr, h1_eq m c ⟨n, h16 n h⟩ l q hr, h3_eq m c ⟨n, h16 n h⟩ l q hr]

/-- The array of the scale's gradient. -/
def res6 : Buf (Elt Ideal) ((c : Thread nD τ).loc main_v1_2) := Cert.Reference20Ideal.Read.val_main_v51 (F := Ideal) (argO m c) (argP m c) (argY m c)
theorem last6_eq : ((outsAt0 m c last.val last.isLt).2.2 : Vec Ideal S1x128 .f32) = res6 m c := by
  refine Product.ext2 _ _ fun z k => ?_
  obtain rfl : z = 0 := Subsingleton.elim _ _
  exact (last6 m c k).trans (v51_at ..).symm

theorem flushed6_eq (t : Fin cfg0.N) (hf : (cfg0.win 6).flush t = true) :
    (dats m 0 c).flushed 6 t = ((cfg0.win 6).blk t).view.read (Elt Ideal) (res6 m c) := by
  have h3 : t.val = 15 := by have h := (flush0_6 t).mp hf; have := lt16 t; omega
  obtain rfl : t = last := Fin.ext h3
  show (cfg0.win 6).cut (grid0.coords last) ((dats m 0 c).after 6 last) = _
  rw [after0_6]
  have e : (outsAt0 m c last.val last.isLt).2.2 = res6 m c := last6_eq m c
  rw [e]
  have hz' : (fun a => win0_6.index last a * main_v1_2.ty.shape.size a) = fun _ => 0 := funext fun a => by fin_cases a <;> decide +kernel
  exact (Memref.read_access_unit_zero (Elt Ideal) main_v1_2 hz' (fun a => by rw [congrFun hz' a]; simp) (res6 m c)).symm
theorem meet6 : (dats m 0 c).arrAt 6 cfg0.N = res6 m c :=
  (dats m 0 c).arrAt_eq_of_cover 6 (res6 m c) (flushed6_eq m c) fun i =>
    ⟨last, (flush0_6 last).mpr rfl, by
      show i ∈ ((View.whole main_v1_2).slice (win0_6.rect last)).set
      rw [View.set_slice_whole, Rect.mem_set_unit]
      intro a
      have h0 : (i 0 : Nat) < 1 := (i 0).isLt
      have h1 : (i 1 : Nat) < 128 := (i 1).isLt
      match a with
      | ⟨0, _⟩ => show win0_6.index last 0 * win0_6.size 0 ≤ (i 0 : Nat) ∧ (i 0 : Nat) < win0_6.index last 0 * win0_6.size 0 + win0_6.xsize (grid0.coords last) 0
                  rw [show win0_6.index last 0 * win0_6.size 0 = 0 from by decide +kernel, show win0_6.xsize (grid0.coords last) 0 = 1 from by decide +kernel]; omega
      | ⟨1, _⟩ => show win0_6.index last 1 * win0_6.size 1 ≤ (i 1 : Nat) ∧ (i 1 : Nat) < win0_6.index last 1 * win0_6.size 1 + win0_6.xsize (grid0.coords last) 1
                  rw [show win0_6.index last 1 * win0_6.size 1 = 0 from by decide +kernel, show win0_6.xsize (grid0.coords last) 1 = 128 from by decide +kernel]; omega⟩

section
variable {x0 x4 x0' x4' : (⟨2, ![8192, 512]⟩ : Shape).Idx → EReal} {x1 x2 x1' x2' : (⟨2, ![8192, 8192]⟩ : Shape).Idx → EReal} {x3 x3' : (⟨1, ![128]⟩ : Shape).Idx → EReal}
open Cert.Reference20Ideal.Read
theorem same4 (e0 : x0' = x0) (e1 : x1' = x1) (e3 : x3' = x3) (e4 : x4' = x4) :
    val_main_v47 (F := Ideal) x0' x1' x3' x4' = val_main_v47 (F := Ideal) x0 x1 x3 x4 := by subst e0 e1 e3 e4; rfl
theorem same5 (e0 : x0' = x0) (e1 : x1' = x1) (e2 : x2' = x2) (e3 : x3' = x3) (e4 : x4' = x4) :
    val_main_v50 (F := Ideal) x0' x1' x2' x3' x4' = val_main_v50 (F := Ideal) x0 x1 x2 x3 x4 := by subst e0 e1 e2 e3 e4; rfl
theorem same6 (e0 : x0' = x0) (e1 : x1' = x1) (e4 : x4' = x4) :
    val_main_v51 (F := Ideal) x0' x1' x4' = val_main_v51 (F := Ideal) x0 x1 x4 := by subst e0 e1 e4; rfl
end

theorem algebraic : Cert.algebraic_Kernel20Ideal_Reference20Ideal (hKernel20Ideal := Cert.Kernel20Ideal.Gen.facts) (hReference20Ideal := Cert.Reference20Ideal.Gen.facts) := by
  intro m g m' g' _ hm
  refine ⟨fun c => (dats m 0 c).arrAt 4 cfg0.N, fun c => (dats m 0 c).arrAt 5 cfg0.N, fun c => (dats m 0 c).arrAt 6 cfg0.N, Cert.Kernel20Ideal.Value.run_blocks m g, ?_⟩
  refine (θ_run _ _ _).mono (fun r h c => ?_) (Cert.Reference20Ideal.Value.run m' g')
  obtain ⟨h0, h1, h2, rest⟩ := h c
  obtain ⟨a0, a1, a2, a3, a4⟩ := hm c
  exact ⟨h0.trans ((Cert.Reference20Ideal.Read.val_main_v47_eq _ _).trans ((same4 a0 a1 a3 a4).trans (meet4 m c))),
    h1.trans ((Cert.Reference20Ideal.Read.val_main_v50_eq _ _ _ _ _).trans ((same5 a0 a1 a2 a3 a4).trans (meet5 m c))),
    h2.trans ((Cert.Reference20Ideal.Read.val_main_v51_eq _ _ _).trans ((same6 a0 a1 a4).trans (meet6 m c).symm)), rest⟩

theorem frame_reference : Cert.quiescent_Reference20Ideal (hReference20Ideal := Cert.Reference20Ideal.Gen.facts) := fun m ρ _ =>
  (θ_run Cert.Reference20Ideal.defs _ _).mono (fun r h => ⟨fun c => (h c).2.2.2, sem_eq_zero_of_no_sems (by decide) r.2⟩)
    (Cert.Reference20Ideal.Value.run (F := Ideal) m ρ)

end Cert.Kernel20Ideal.Val
end
-- ==== Proof.Forward.lean ====
/-
  The root-mean-square norm of one row, going forward, over the extended reals.
-/
module

public import proofs.«01_k».proof.Proof.Rms

@[expose] public section

noncomputable section

namespace Cert.Rms

open Idealize.ShloMosaic Cert.Gating

/-- The normed and scaled row. -/
def norm {n : ℕ} (N : EReal) (x g : Fin n → EReal) (c : Fin n) : EReal := x c * rs N x * g c

/-- Row `r` of a table. -/
abbrev row {A B : ℕ} (x : (⟨2, ![A, B]⟩ : Shape).Idx → EReal) (r : Fin A) (k : Fin B) : EReal := x (ix2 r k)

end Cert.Rms
end
-- ==== Proof.Norm21.lean ====
/-
  The root-mean-square norm of the residual stream: the kernel's array is the reference's.
-/
module

public import proofs.«01_k».proof.Defs
public import proofs.«01_k».proof.Proof.Forward
public import proofs.«01_k».proof.Proof.Gen.Kernel21Ideal.Value
public import proofs.«01_k».proof.Proof.Gen.Reference21Ideal.Run
public import proofs.«01_k».proof.Proof.Gen.Reference21Ideal.Read
public import Idealize.ShloMosaic.Lib.KernelVsHost

@[expose] public section

set_option maxRecDepth 16384

noncomputable section

namespace Cert.Kernel21Ideal.Val

open Cert.Kernel21Ideal Cert.Kernel21Ideal.Gen Idealize.ShloMosaic Idealize.ShloMosaic.TcCoe Idealize.SL.Sem Cert.Gating Cert.Rms

variable (m : (ℓ : Loc nD τ sig) → Buf (Elt Ideal) ℓ) (c : Dev nD)

abbrev argX : (⟨2, ![8192, 1024]⟩ : Shape).Idx → EReal := m ((c : Thread nD τ).loc main_arg0)
abbrev argG : (⟨1, ![1024]⟩ : Shape).Idx → EReal := m ((c : Thread nD τ).loc main_arg1)

theorem index : ∀ t : Fin cfg0.N, (win0_0.index t 0 = t.val ∧ win0_0.index t 1 = 0) ∧ (win0_1.index t 0 = 0 ∧ win0_1.index t 1 = 0) ∧ (win0_2.index t 0 = t.val ∧ win0_2.index t 1 = 0) :=
  (by decide +kernel : ∀ t : Fin grid0.N, (win0_0.index t 0 = t.val ∧ win0_0.index t 1 = 0) ∧ (win0_1.index t 0 = 0 ∧ win0_1.index t 1 = 0) ∧ (win0_2.index t 0 = t.val ∧ win0_2.index t 1 = 0))

theorem V_v0 : V m c main_v0 = shapeCast S1x1024 (argG m c) shapeCasts_S1024_S1x1024 := by
  unfold V; simp only [hostOps0, List.flatten_cons, List.flatten_nil, List.append_nil, List.cons_append, List.nil_append]
  after_results; rfl
theorem V_v0_at (z : Fin 1) (k : Fin 1024) : V m c main_v0 (ix2 z k) = argG m c (ix1 k) := by
  obtain rfl : z = 0 := Subsingleton.elim _ _
  rw [V_v0]; pointwise

abbrev b0 (t : Fin cfg0.N) : Vec Ideal S512x1024 .f32 := iblk m c 0 t
abbrev b1 (t : Fin cfg0.N) : Vec Ideal S1x1024 .f32 := iblk m c 1 t

theorem b0_at (t : Fin cfg0.N) (r : Fin 512) (k : Fin 1024) (h : 512 * t.val + r.val < 8192) :
    b0 m c t (ix2 r k) = argX m c (ix2 ⟨512 * t.val + r.val, h⟩ k) := by
  unfold b0 iblk
  rw [View.read_apply]
  show V m c main_arg0 _ = _
  rw [V_main_arg0]
  refine Product.at2 (argX m c) _ _ _ ?_ ?_
  · show win0_0.index t 0 * 512 + 1 * r.val = 512 * t.val + r.val; rw [(index t).1.1]; omega
  · show win0_0.index t 1 * 1024 + 1 * k.val = k.val; rw [(index t).1.2]; omega
theorem b1_at (t : Fin cfg0.N) (z : Fin 1) (k : Fin 1024) : b1 m c t (ix2 z k) = argG m c (ix1 k) := by
  rw [← V_v0_at m c z]
  unfold b1 iblk
  rw [View.read_apply]
  refine Product.at2 (V m c main_v0) _ _ _ ?_ ?_
  · show win0_1.index t 0 * 1 + 1 * z.val = z.val; rw [(index t).2.1.1]; omega
  · show win0_1.index t 1 * 1024 + 1 * k.val = k.val; rw [(index t).2.1.2]; omega

theorem step_at (x0 : Vec Ideal S512x1024 .f32) (x1 : Vec Ideal S1x1024 .f32) (r : Fin 512) (k : Fin 1024) :
    out0_2 x0 x1 (ix2 r k) = Rms.norm cRow (row x0 r) (row x1 0) k := by
  unfold out0_2 Rms.norm Rms.rs Rms.var row
  rw [View.canon_unit_zero Product.zero2, View.ld_unit_zero Product.zero2, View.ld_unit_zero Product.zero2]
  pointwise [k0_pay1]

theorem reference_at (x0 : (⟨2, ![8192, 1024]⟩ : Shape).Idx → EReal) (x1 : (⟨1, ![1024]⟩ : Shape).Idx → EReal) (r : Fin 8192) (k : Fin 1024) :
    Cert.Reference21Ideal.Read.val_main_v13 (F := Ideal) x0 x1 (ix2 r k) = Rms.norm cRow (row x0 r) (fun k => x1 (ix1 k)) k := by
  unfold Rms.norm Rms.rs Rms.var row
  open Cert.Reference21Ideal.Read in
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem tile_at (t : Fin cfg0.N) (r : Fin 512) (k : Fin 1024) (hr : 512 * t.val + r.val < 8192) :
    (dats m 0 c).arrAt 2 cfg0.N (ix2 ⟨512 * t.val + r.val, hr⟩ k : S8192x1024.Idx)
      = Rms.norm cRow (row (argX m c) ⟨512 * t.val + r.val, hr⟩) (fun k => argG m c (ix1 k)) k := by
  have e := congrFun (Value.blocks2 m c t (flush0_2 t)) (ix2 r k : S512x1024.Idx)
  rw [Value.flushed2 m c t, View.read_apply] at e
  refine Eq.trans (Product.at2 ((dats m 0 c).arrAt 2 cfg0.N) _ _ _ ?_ ?_).symm (e.trans ((step_at ..).trans ?_))
  · show win0_2.index t 0 * 512 + 1 * r.val = 512 * t.val + r.val; rw [(index t).2.2.1]; omega
  · show win0_2.index t 1 * 1024 + 1 * k.val = k.val; rw [(index t).2.2.2]; omega
  · rw [show row (b0 m c t) r = row (argX m c) ⟨512 * t.val + r.val, hr⟩ from funext fun j => b0_at m c t r j hr,
      show row (b1 m c t) 0 = fun j => argG m c (ix1 j) from funext fun j => b1_at m c t 0 j]

theorem meet : Cert.Reference21Ideal.Read.val_main_v13 (F := Ideal) (argX m c) (argG m c) = (dats m 0 c).arrAt 2 cfg0.N :=
  Rms.rowTiles 512 16 (by decide) rfl _ _ fun t r k hr => (reference_at ..).trans (tile_at m c (t.cast N_0.symm) r k hr).symm

theorem same {x0 x0' : (⟨2, ![8192, 1024]⟩ : Shape).Idx → EReal} {x1 x1' : (⟨1, ![1024]⟩ : Shape).Idx → EReal} (e0 : x0' = x0) (e1 : x1' = x1) :
    Cert.Reference21Ideal.Read.val_main_v13 (F := Ideal) x0' x1' = Cert.Reference21Ideal.Read.val_main_v13 (F := Ideal) x0 x1 := by
  subst e0 e1; rfl

theorem algebraic : Cert.algebraic_Kernel21Ideal_Reference21Ideal (hKernel21Ideal := Cert.Kernel21Ideal.Gen.facts) (hReference21Ideal := Cert.Reference21Ideal.Gen.facts) := by
  intro m g m' g' _ hm
  refine ⟨fun c => (dats m 0 c).arrAt 2 cfg0.N, Cert.Kernel21Ideal.Value.run_blocks m g, ?_⟩
  refine (θ_run _ _ _).mono (fun r h c => ?_) (Cert.Reference21Ideal.Value.run m' g')
  obtain ⟨h0, rest⟩ := h c
  obtain ⟨a0, a1⟩ := hm c
  exact ⟨h0.trans ((Cert.Reference21Ideal.Read.val_main_v13_eq _ _).trans ((same a0 a1).trans (meet m c))), rest⟩

theorem frame_reference : Cert.quiescent_Reference21Ideal (hReference21Ideal := Cert.Reference21Ideal.Gen.facts) := fun m ρ _ =>
  (θ_run Cert.Reference21Ideal.defs _ _).mono (fun r h => ⟨fun c => (h c).2, sem_eq_zero_of_no_sems (by decide) r.2⟩)
    (Cert.Reference21Ideal.Value.run (F := Ideal) m ρ)

end Cert.Kernel21Ideal.Val
end
-- ==== Proof.Norm22.lean ====
/-
  The residual stream plus the normed output of a branch: the kernel's array is the reference's.
-/
module

public import proofs.«01_k».proof.Defs
public import proofs.«01_k».proof.Proof.Forward
public import proofs.«01_k».proof.Proof.Gen.Kernel22Ideal.Value
public import proofs.«01_k».proof.Proof.Gen.Reference22Ideal.Run
public import proofs.«01_k».proof.Proof.Gen.Reference22Ideal.Read
public import Idealize.ShloMosaic.Lib.KernelVsHost

@[expose] public section

set_option maxRecDepth 16384

noncomputable section

namespace Cert.Kernel22Ideal.Val

open Cert.Kernel22Ideal Cert.Kernel22Ideal.Gen Idealize.ShloMosaic Idealize.ShloMosaic.TcCoe Idealize.SL.Sem Cert.Gating Cert.Rms

variable (m : (ℓ : Loc nD τ sig) → Buf (Elt Ideal) ℓ) (c : Dev nD)

abbrev argX : (⟨2, ![8192, 1024]⟩ : Shape).Idx → EReal := m ((c : Thread nD τ).loc main_arg0)
abbrev argR : (⟨2, ![8192, 1024]⟩ : Shape).Idx → EReal := m ((c : Thread nD τ).loc main_arg1)
abbrev argG : (⟨1, ![1024]⟩ : Shape).Idx → EReal := m ((c : Thread nD τ).loc main_arg2)

theorem index : ∀ t : Fin cfg0.N, (win0_0.index t 0 = t.val ∧ win0_0.index t 1 = 0) ∧ (win0_1.index t 0 = t.val ∧ win0_1.index t 1 = 0) ∧ (win0_2.index t 0 = 0 ∧ win0_2.index t 1 = 0) ∧ (win0_3.index t 0 = t.val ∧ win0_3.index t 1 = 0) :=
  (by decide +kernel : ∀ t : Fin grid0.N, (win0_0.index t 0 = t.val ∧ win0_0.index t 1 = 0) ∧ (win0_1.index t 0 = t.val ∧ win0_1.index t 1 = 0) ∧ (win0_2.index t 0 = 0 ∧ win0_2.index t 1 = 0) ∧ (win0_3.index t 0 = t.val ∧ win0_3.index t 1 = 0))

theorem V_v0 : V m c main_v0 = shapeCast S1x1024 (argG m c) shapeCasts_S1024_S1x1024 := by
  unfold V; simp only [hostOps0, List.flatten_cons, List.flatten_nil, List.append_nil, List.cons_append, List.nil_append]
  after_results; rfl
theorem V_v0_at (z : Fin 1) (k : Fin 1024) : V m c main_v0 (ix2 z k) = argG m c (ix1 k) := by
  obtain rfl : z = 0 := Subsingleton.elim _ _
  rw [V_v0]; pointwise

abbrev b0 (t : Fin cfg0.N) : Vec Ideal S512x1024 .f32 := iblk m c 0 t
abbrev b1 (t : Fin cfg0.N) : Vec Ideal S512x1024 .f32 := iblk m c 1 t
abbrev b2 (t : Fin cfg0.N) : Vec Ideal S1x1024 .f32 := iblk m c 2 t

theorem b0_at (t : Fin cfg0.N) (r : Fin 512) (k : Fin 1024) (h : 512 * t.val + r.val < 8192) :
    b0 m c t (ix2 r k) = argX m c (ix2 ⟨512 * t.val + r.val, h⟩ k) := by
  unfold b0 iblk
  rw [View.read_apply]
  show V m c main_arg0 _ = _
  rw [V_main_arg0]
  refine Product.at2 (argX m c) _ _ _ ?_ ?_
  · show win0_0.index t 0 * 512 + 1 * r.val = 512 * t.val + r.val; rw [(index t).1.1]; omega
  · show win0_0.index t 1 * 1024 + 1 * k.val = k.val; rw [(index t).1.2]; omega
theorem b1_at (t : Fin cfg0.N) (r : Fin 512) (k : Fin 1024) (h : 512 * t.val + r.val < 8192) :
    b1 m c t (ix2 r k) = argR m c (ix2 ⟨512 * t.val + r.val, h⟩ k) := by
  unfold b1 iblk
  rw [View.read_apply]
  show V m c main_arg1 _ = _
  rw [V_main_arg1]
  refine Product.at2 (argR m c) _ _ _ ?_ ?_
  · show win0_1.index t 0 * 512 + 1 * r.val = 512 * t.val + r.val; rw [(index t).2.1.1]; omega
  · show win0_1.index t 1 * 1024 + 1 * k.val = k.val; rw [(index t).2.1.2]; omega
theorem b2_at (t : Fin cfg0.N) (z : Fin 1) (k : Fin 1024) : b2 m c t (ix2 z k) = argG m c (ix1 k) := by
  rw [← V_v0_at m c z]
  unfold b2 iblk
  rw [View.read_apply]
  refine Product.at2 (V m c main_v0) _ _ _ ?_ ?_
  · show win0_2.index t 0 * 1 + 1 * z.val = z.val; rw [(index t).2.2.1.1]; omega
  · show win0_2.index t 1 * 1024 + 1 * k.val = k.val; rw [(index t).2.2.1.2]; omega

theorem step_at (x0 x1 : Vec Ideal S512x1024 .f32) (x2 : Vec Ideal S1x1024 .f32) (r : Fin 512) (k : Fin 1024) :
    out0_3 x0 x1 x2 (ix2 r k) = row x0 r k + Rms.norm cRow (row x1 r) (row x2 0) k := by
  unfold out0_3 Rms.norm Rms.rs Rms.var row
  rw [View.canon_unit_zero Product.zero2, View.ld_unit_zero Product.zero2, View.ld_unit_zero Product.zero2, View.ld_unit_zero Product.zero2]
  pointwise [k0_pay1]

theorem reference_at (x0 x1 : (⟨2, ![8192, 1024]⟩ : Shape).Idx → EReal) (x2 : (⟨1, ![1024]⟩ : Shape).Idx → EReal) (r : Fin 8192) (k : Fin 1024) :
    Cert.Reference22Ideal.Read.val_main_v13 (F := Ideal) x0 x1 x2 (ix2 r k) = row x0 r k + Rms.norm cRow (row x1 r) (fun k => x2 (ix1 k)) k := by
  unfold Rms.norm Rms.rs Rms.var row
  open Cert.Reference22Ideal.Read in
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem tile_at (t : Fin cfg0.N) (r : Fin 512) (k : Fin 1024) (hr : 512 * t.val + r.val < 8192) :
    (dats m 0 c).arrAt 3 cfg0.N (ix2 ⟨512 * t.val + r.val, hr⟩ k : S8192x1024.Idx)
      = row (argX m c) ⟨512 * t.val + r.val, hr⟩ k + Rms.norm cRow (row (argR m c) ⟨512 * t.val + r.val, hr⟩) (fun k => argG m c (ix1 k)) k := by
  have e := congrFun (Value.blocks3 m c t (flush0_3 t)) (ix2 r k : S512x1024.Idx)
  rw [Value.flushed3 m c t, View.read_apply] at e
  refine Eq.trans (Product.at2 ((dats m 0 c).arrAt 3 cfg0.N) _ _ _ ?_ ?_).symm (e.trans ((step_at ..).trans ?_))
  · show win0_3.index t 0 * 512 + 1 * r.val = 512 * t.val + r.val; rw [(index t).2.2.2.1]; omega
  · show win0_3.index t 1 * 1024 + 1 * k.val = k.val; rw [(index t).2.2.2.2]; omega
  · rw [show row (b0 m c t) r = row (argX m c) ⟨512 * t.val + r.val, hr⟩ from funext fun j => b0_at m c t r j hr,
      show row (b1 m c t) r = row (argR m c) ⟨512 * t.val + r.val, hr⟩ from funext fun j => b1_at m c t r j hr,
      show row (b2 m c t) 0 = fun j => argG m c (ix1 j) from funext fun j => b2_at m c t 0 j]

theorem meet : Cert.Reference22Ideal.Read.val_main_v13 (F := Ideal) (argX m c) (argR m c) (argG m c) = (dats m 0 c).arrAt 3 cfg0.N :=
  Rms.rowTiles 512 16 (by decide) rfl _ _ fun t r k hr => (reference_at ..).trans (tile_at m c (t.cast N_0.symm) r k hr).symm

theorem same {x0 x0' x1 x1' : (⟨2, ![8192, 1024]⟩ : Shape).Idx → EReal} {x2 x2' : (⟨1, ![1024]⟩ : Shape).Idx → EReal} (e0 : x0' = x0) (e1 : x1' = x1) (e2 : x2' = x2) :
    Cert.Reference22Ideal.Read.val_main_v13 (F := Ideal) x0' x1' x2' = Cert.Reference22Ideal.Read.val_main_v13 (F := Ideal) x0 x1 x2 := by
  subst e0 e1 e2; rfl

theorem algebraic : Cert.algebraic_Kernel22Ideal_Reference22Ideal (hKernel22Ideal := Cert.Kernel22Ideal.Gen.facts) (hReference22Ideal := Cert.Reference22Ideal.Gen.facts) := by
  intro m g m' g' _ hm
  refine ⟨fun c => (dats m 0 c).arrAt 3 cfg0.N, Cert.Kernel22Ideal.Value.run_blocks m g, ?_⟩
  refine (θ_run _ _ _).mono (fun r h c => ?_) (Cert.Reference22Ideal.Value.run m' g')
  obtain ⟨h0, rest⟩ := h c
  obtain ⟨a0, a1, a2⟩ := hm c
  exact ⟨h0.trans ((Cert.Reference22Ideal.Read.val_main_v13_eq _ _ _).trans ((same a0 a1 a2).trans (meet m c))), rest⟩

theorem frame_reference : Cert.quiescent_Reference22Ideal (hReference22Ideal := Cert.Reference22Ideal.Gen.facts) := fun m ρ _ =>
  (θ_run Cert.Reference22Ideal.defs _ _).mono (fun r h => ⟨fun c => (h c).2, sem_eq_zero_of_no_sems (by decide) r.2⟩)
    (Cert.Reference22Ideal.Value.run (F := Ideal) m ρ)

end Cert.Kernel22Ideal.Val
end
-- ==== Proof.Merge23.lean ====
/-
  The gated merge of the three branches: the kernel's array is the reference's.
-/
module

public import proofs.«01_k».proof.Defs
public import proofs.«01_k».proof.Proof.Forward
public import proofs.«01_k».proof.Proof.Gen.Kernel23Ideal.Value
public import proofs.«01_k».proof.Proof.Gen.Reference23Ideal.Run
public import proofs.«01_k».proof.Proof.Gen.Reference23Ideal.Read
public import Idealize.ShloMosaic.Lib.KernelVsHost

@[expose] public section

set_option maxRecDepth 16384

noncomputable section

namespace Cert.Kernel23Ideal.Val

open Cert.Kernel23Ideal Cert.Kernel23Ideal.Gen Idealize.ShloMosaic Idealize.ShloMosaic.TcCoe Idealize.SL.Sem Cert.Gating

/-- The sum of three entries, each times the gate of its logit. -/
def merged (a b c x y z : EReal) : EReal := Ideal.logistic x * a + Ideal.logistic y * b + Ideal.logistic z * c

theorem pay_at (x0 x1 x2 : Vec Ideal S256x1024 .bf16) (x3 : Vec Ideal S256x3072 .f32) (r : Fin 256) (l : Fin 1024) :
    k0_pay1 x0 x1 x2 x3 (ix2 r l) = merged (x0 (ix2 r l)) (x1 (ix2 r l)) (x2 (ix2 r l))
      (x3 (ix2 r ⟨l.val, by omega⟩)) (x3 (ix2 r ⟨1024 + l.val, by omega⟩)) (x3 (ix2 r ⟨2048 + l.val, by omega⟩)) := by
  unfold merged
  pointwise [k0_pay1]
  try simp only [zero_add]

section
open Cert.Reference23Ideal.Read
variable (x0 x1 x2 : (⟨2, ![8192, 1024]⟩ : Shape).Idx → EReal) (x3 : (⟨2, ![8192, 8192]⟩ : Shape).Idx → EReal)
theorem gate_at (r : Fin 8192) (i : Fin 3) (l : Fin 1024) :
    val_main_v10 (F := Ideal) x3 (ix3 r i l) = Ideal.logistic (x3 (ix2 r ⟨3072 + (i.val * 1024 + l.val), by omega⟩)) := by
  unfold Ideal.logistic
  pointwise [val_main_v10, val_main_v9, val_main_v8, val_main_v7, val_main_v6, val_main_v5, val_main_v4, val_main_v3, val_main_cst, val_main_cst_0]
theorem part0_at (r : Fin 8192) (l : Fin 1024) : val_main_v14 (F := Ideal) x0 x1 x2 (ix3 r 0 l) = x0 (ix2 r l) := by
  pointwise [val_main_v14, val_main_v11, val_main_v0]
theorem part1_at (r : Fin 8192) (l : Fin 1024) : val_main_v14 (F := Ideal) x0 x1 x2 (ix3 r 1 l) = x1 (ix2 r l) := by
  pointwise [val_main_v14, val_main_v12, val_main_v1]
theorem part2_at (r : Fin 8192) (l : Fin 1024) : val_main_v14 (F := Ideal) x0 x1 x2 (ix3 r 2 l) = x2 (ix2 r l) := by
  pointwise [val_main_v14, val_main_v13, val_main_v2]
theorem reference_at (r : Fin 8192) (l : Fin 1024) : val_main_v17 (F := Ideal) x0 x1 x2 x3 (ix2 r l)
    = merged (x0 (ix2 r l)) (x1 (ix2 r l)) (x2 (ix2 r l))
      (x3 (ix2 r ⟨3072 + ((0 : Fin 3).val * 1024 + l.val), by have := (0 : Fin 3).isLt; omega⟩)) (x3 (ix2 r ⟨3072 + ((1 : Fin 3).val * 1024 + l.val), by have := (1 : Fin 3).isLt; omega⟩)) (x3 (ix2 r ⟨3072 + ((2 : Fin 3).val * 1024 + l.val), by have := (2 : Fin 3).isLt; omega⟩)) := by
  unfold merged
  rw [← part0_at x0 x1 x2, ← part1_at x0 x1 x2, ← part2_at x0 x1 x2, ← gate_at x3 r 0 l, ← gate_at x3 r 1 l, ← gate_at x3 r 2 l]
  pointwise [val_main_v17, val_main_v16, val_main_v15, val_main_cst_1, Fin.sum_univ_three]
end

variable (m : (ℓ : Loc nD τ sig) → Buf (Elt Ideal) ℓ) (c : Dev nD)

abbrev argA : (⟨2, ![8192, 1024]⟩ : Shape).Idx → EReal := m ((c : Thread nD τ).loc main_arg0)
abbrev argB : (⟨2, ![8192, 1024]⟩ : Shape).Idx → EReal := m ((c : Thread nD τ).loc main_arg1)
abbrev argC : (⟨2, ![8192, 1024]⟩ : Shape).Idx → EReal := m ((c : Thread nD τ).loc main_arg2)
abbrev argP : (⟨2, ![8192, 8192]⟩ : Shape).Idx → EReal := m ((c : Thread nD τ).loc main_arg3)

/-- Every window goes down the rows with the grid point, -/
theorem index_row : ∀ t : Fin cfg0.N, win0_0.index t 0 = t.val ∧ win0_1.index t 0 = t.val ∧ win0_2.index t 0 = t.val ∧ win0_3.index t 0 = t.val ∧ win0_4.index t 0 = t.val :=
  (by decide +kernel : ∀ t : Fin grid0.N, win0_0.index t 0 = t.val ∧ win0_1.index t 0 = t.val ∧ win0_2.index t 0 = t.val ∧ win0_3.index t 0 = t.val ∧ win0_4.index t 0 = t.val)
/-- and stays in its columns. -/
theorem index_col : ∀ t : Fin cfg0.N, win0_0.index t 1 = 0 ∧ win0_1.index t 1 = 0 ∧ win0_2.index t 1 = 0 ∧ win0_3.index t 1 = 1 ∧ win0_4.index t 1 = 0 :=
  (by decide +kernel : ∀ t : Fin grid0.N, win0_0.index t 1 = 0 ∧ win0_1.index t 1 = 0 ∧ win0_2.index t 1 = 0 ∧ win0_3.index t 1 = 1 ∧ win0_4.index t 1 = 0)

abbrev b0 (t : Fin cfg0.N) : Vec Ideal S256x1024 .bf16 := iblk m c 0 t
abbrev b1 (t : Fin cfg0.N) : Vec Ideal S256x1024 .bf16 := iblk m c 1 t
abbrev b2 (t : Fin cfg0.N) : Vec Ideal S256x1024 .bf16 := iblk m c 2 t
abbrev b3 (t : Fin cfg0.N) : Vec Ideal S256x3072 .f32 := X0_3 m c t

theorem b0_at (t : Fin cfg0.N) (r : Fin 256) (k : Fin 1024) (h : 256 * t.val + r.val < 8192) :
    b0 m c t (ix2 r k) = argA m c (ix2 ⟨256 * t.val + r.val, h⟩ k) := by
  unfold b0 iblk
  rw [View.read_apply]
  show V m c main_arg0 _ = _
  rw [V_main_arg0]
  refine Product.at2 (argA m c) _ _ _ ?_ ?_
  · show win0_0.index t 0 * 256 + 1 * r.val = 256 * t.val + r.val; rw [(index_row t).1]; omega
  · show win0_0.index t 1 * 1024 + 1 * k.val = k.val; rw [(index_col t).1]; omega
theorem b1_at (t : Fin cfg0.N) (r : Fin 256) (k : Fin 1024) (h : 256 * t.val + r.val < 8192) :
    b1 m c t (ix2 r k) = argB m c (ix2 ⟨256 * t.val + r.val, h⟩ k) := by
  unfold b1 iblk
  rw [View.read_apply]
  show V m c main_arg1 _ = _
  rw [V_main_arg1]
  refine Product.at2 (argB m c) _ _ _ ?_ ?_
  · show win0_1.index t 0 * 256 + 1 * r.val = 256 * t.val + r.val; rw [(index_row t).2.1]; omega
  · show win0_1.index t 1 * 1024 + 1 * k.val = k.val; rw [(index_col t).2.1]; omega
theorem b2_at (t : Fin cfg0.N) (r : Fin 256) (k : Fin 1024) (h : 256 * t.val + r.val < 8192) :
    b2 m c t (ix2 r k) = argC m c (ix2 ⟨256 * t.val + r.val, h⟩ k) := by
  unfold b2 iblk
  rw [View.read_apply]
  show V m c main_arg2 _ = _
  rw [V_main_arg2]
  refine Product.at2 (argC m c) _ _ _ ?_ ?_
  · show win0_2.index t 0 * 256 + 1 * r.val = 256 * t.val + r.val; rw [(index_row t).2.2.1]; omega
  · show win0_2.index t 1 * 1024 + 1 * k.val = k.val; rw [(index_col t).2.2.1]; omega
theorem b3_at (t : Fin cfg0.N) (r : Fin 256) (k : Fin 3072) (h : 256 * t.val + r.val < 8192) :
    b3 m c t (ix2 r k) = argP m c (ix2 ⟨256 * t.val + r.val, h⟩ ⟨3072 + k.val, by omega⟩) := by
  unfold b3 X0_3 Pipeline.Window.fill
  rw [dif_pos (moved0_3 t (ix2 r k : S256x3072.Idx))]
  unfold iblk
  rw [View.read_apply]
  show V m c main_arg3 _ = _
  rw [V_main_arg3]
  refine Product.at2 (argP m c) _ _ _ ?_ ?_
  · show win0_3.index t 0 * 256 + 1 * r.val = 256 * t.val + r.val; rw [(index_row t).2.2.2.1]; omega
  · show win0_3.index t 1 * 3072 + 1 * k.val = 3072 + k.val; rw [(index_col t).2.2.2.1]; omega

theorem out4 (t : Fin cfg0.N) : outsAt0 m c t = k0_pay1 (b0 m c t) (b1 m c t) (b2 m c t) (b3 m c t) := by
  unfold outsAt0 out0_A_4
  rw [View.read_writes_eq_canon _ _ _ (fun _ => cover0_A_4 ..)]
  unfold kernelRun0_A
  dsimp only
  sl_unfold_words
  rw [View.canon_unit_zero Product.zero2]
  simp only [View.readAt_eq_ld, (hs0_0 t).read_unread, (hs0_1 t).read_unread, (hs0_2 t).read_unread, (hs0_3 t).read_unread, View.ld_unit_zero (S := S256x1024) Product.zero2, View.ld_unit_zero (S := S256x3072) Product.zero2]

theorem tile_at (t : Fin cfg0.N) (r : Fin 256) (k : Fin 1024) (hr : 256 * t.val + r.val < 8192) :
    (dats m 0 c).arrAt 4 cfg0.N (ix2 ⟨256 * t.val + r.val, hr⟩ k : S8192x1024.Idx)
      = Cert.Reference23Ideal.Read.val_main_v17 (F := Ideal) (argA m c) (argB m c) (argC m c) (argP m c) (ix2 ⟨256 * t.val + r.val, hr⟩ k) := by
  have e := congrFun (Value.blocks4 m c t (flush0_4 t)) (ix2 r k : S256x1024.Idx)
  rw [Value.flushed4 m c t, out4 m c t, View.read_apply] at e
  refine Eq.trans (Product.at2 ((dats m 0 c).arrAt 4 cfg0.N) _ _ _ ?_ ?_).symm (e.trans ((pay_at ..).trans (Eq.trans ?_ (reference_at ..).symm)))
  · show win0_4.index t 0 * 256 + 1 * r.val = 256 * t.val + r.val; rw [(index_row t).2.2.2.2]; omega
  · show win0_4.index t 1 * 1024 + 1 * k.val = k.val; rw [(index_col t).2.2.2.2]; omega
  · rw [b0_at m c t r k hr, b1_at m c t r k hr, b2_at m c t r k hr, b3_at m c t r _ hr, b3_at m c t r _ hr, b3_at m c t r _ hr]
    simp only [Fin.val_zero, Fin.val_one, Fin.val_two, zero_mul, zero_add, one_mul, Nat.reduceMul]

theorem meet : Cert.Reference23Ideal.Read.val_main_v17 (F := Ideal) (argA m c) (argB m c) (argC m c) (argP m c) = (dats m 0 c).arrAt 4 cfg0.N :=
  Rms.rowTiles 256 32 (by decide) rfl _ _ fun t r k hr => (tile_at m c (t.cast N_0.symm) r k hr).symm

theorem same {x0 x0' x1 x1' x2 x2' : (⟨2, ![8192, 1024]⟩ : Shape).Idx → EReal} {x3 x3' : (⟨2, ![8192, 8192]⟩ : Shape).Idx → EReal}
    (e0 : x0' = x0) (e1 : x1' = x1) (e2 : x2' = x2) (e3 : x3' = x3) :
    Cert.Reference23Ideal.Read.val_main_v17 (F := Ideal) x0' x1' x2' x3' = Cert.Reference23Ideal.Read.val_main_v17 (F := Ideal) x0 x1 x2 x3 := by
  subst e0 e1 e2 e3; rfl

theorem algebraic : Cert.algebraic_Kernel23Ideal_Reference23Ideal (hKernel23Ideal := Cert.Kernel23Ideal.Gen.facts) (hReference23Ideal := Cert.Reference23Ideal.Gen.facts) := by
  intro m g m' g' _ hm
  refine ⟨fun c => (dats m 0 c).arrAt 4 cfg0.N, Cert.Kernel23Ideal.Value.run_blocks m g, ?_⟩
  refine (θ_run _ _ _).mono (fun r h c => ?_) (Cert.Reference23Ideal.Value.run m' g')
  obtain ⟨h0, rest⟩ := h c
  obtain ⟨a0, a1, a2, a3⟩ := hm c
  exact ⟨h0.trans ((Cert.Reference23Ideal.Read.val_main_v17_eq _ _ _ _).trans ((same a0 a1 a2 a3).trans (meet m c))), rest⟩

theorem frame_reference : Cert.quiescent_Reference23Ideal (hReference23Ideal := Cert.Reference23Ideal.Gen.facts) := fun m ρ _ =>
  (θ_run Cert.Reference23Ideal.defs _ _).mono (fun r h => ⟨fun c => (h c).2, sem_eq_zero_of_no_sems (by decide) r.2⟩)
    (Cert.Reference23Ideal.Value.run (F := Ideal) m ρ)

end Cert.Kernel23Ideal.Val
end
-- ==== Proof.Head24.lean ====
/-
  The gated norm of the heads: the kernel's array is the reference's.
-/
module

public import proofs.«01_k».proof.Defs
public import proofs.«01_k».proof.Proof.Forward
public import proofs.«01_k».proof.Proof.Gen.Kernel24Ideal.Value
public import proofs.«01_k».proof.Proof.Gen.Reference24Ideal.Run
public import proofs.«01_k».proof.Proof.Gen.Reference24Ideal.Read
public import Idealize.ShloMosaic.Lib.KernelVsHost

@[expose] public section

set_option maxRecDepth 16384

noncomputable section

namespace Cert.Kernel24Ideal.Val

open Cert.Kernel24Ideal Cert.Kernel24Ideal.Gen Idealize.ShloMosaic Idealize.ShloMosaic.TcCoe Idealize.SL.Sem Cert.Gating

/-- Head `h` of row `r` of an array whose rows are four heads of 128. -/
abbrev head {A : ℕ} (x : (⟨2, ![A, 512]⟩ : Shape).Idx → EReal) (r : Fin A) (h : Fin 4) (k : Fin 128) : EReal := x (ix2 r ⟨h.val * 128 + k.val, by omega⟩)

/-- One entry of a normed head, times its gate. -/
def gated (x z g : Fin 128 → EReal) (k : Fin 128) : EReal := Rms.norm Rms.cHead x g k * (z k * Ideal.logistic (z k))

theorem four (h : Fin 4) : h = 0 ∨ h = 1 ∨ h = 2 ∨ h = 3 := by omega
theorem step_at (x0 x1 : Vec Ideal S512x512 .f32) (x2 : Vec Ideal S1x128 .f32) (r : Fin 512) (h : Fin 4) (k : Fin 128) :
    out0_3 x0 x1 x2 (ix2 r ⟨h.val * 128 + k.val, by omega⟩) = gated (head x0 r h) (head x1 r h) (fun k => x2 (ix2 0 k)) k := by
  unfold out0_3 gated Rms.norm Rms.rs Rms.var head
  rw [View.canon_unit_zero Product.zero2]
  simp only [View.ld_unit_zero (S := S512x512) Product.zero2, View.ld_unit_zero (S := S1x128) Product.zero2]
  have e2 : 256 + k.val - 128 - 128 = k.val := by omega
  have e3 : 384 + k.val - 128 - 128 - 128 = k.val := by omega
  rcases four h with rfl | rfl | rfl | rfl <;>
  · pointwise [k0_pay1, k0_pay2, k0_pay3, k0_pay4, k0_pay5, k0_pay6, k0_pay7]
    try (split_ifs <;> first | (exfalso; omega) | ((try simp only [e2, e3]) <;> rfl))

section
open Cert.Reference24Ideal.Read
variable (x0 : (⟨2, ![8192, 512]⟩ : Shape).Idx → EReal) (x1 : (⟨2, ![8192, 8192]⟩ : Shape).Idx → EReal) (x2 : (⟨1, ![128]⟩ : Shape).Idx → EReal)
/-- Head `h` of the gate's logits, which lie in columns 6144 to 6655. -/
abbrev gateHead (r : Fin 8192) (h : Fin 4) (k : Fin 128) : EReal := x1 (ix2 r ⟨6144 + (h.val * 128 + k.val), by omega⟩)

theorem reference_at (r : Fin 8192) (h : Fin 4) (k : Fin 128) :
    val_main_v19 (F := Ideal) x0 x1 x2 (ix2 r ⟨h.val * 128 + k.val, by omega⟩) = gated (head x0 r h) (gateHead x1 r h) (fun k => x2 (ix1 k)) k := by
  unfold gated Rms.norm Rms.rs Rms.var head gateHead Ideal.logistic
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_call0_v0, val_main_call0_v1, val_main_call0_v2, val_main_call0_v3, val_main_call0_v4, val_main_call0_v5, val_main_call0_cst, val_main_call0_cst_0]
end

theorem head_cases (k : Fin 512) : ∃ (h : Fin 4) (l : Fin 128), k = ⟨h.val * 128 + l.val, by omega⟩ :=
  ⟨⟨k.val / 128, by omega⟩, ⟨k.val % 128, by omega⟩, Fin.ext (by dsimp only; omega)⟩

variable (m : (ℓ : Loc nD τ sig) → Buf (Elt Ideal) ℓ) (c : Dev nD)

abbrev argO : (⟨2, ![8192, 512]⟩ : Shape).Idx → EReal := m ((c : Thread nD τ).loc main_arg0)
abbrev argP : (⟨2, ![8192, 8192]⟩ : Shape).Idx → EReal := m ((c : Thread nD τ).loc main_arg1)
abbrev argG : (⟨1, ![128]⟩ : Shape).Idx → EReal := m ((c : Thread nD τ).loc main_arg2)

/-- The windows over rows go down them with the grid point, -/
theorem index_row : ∀ t : Fin cfg0.N, win0_0.index t 0 = t.val ∧ win0_1.index t 0 = t.val ∧ win0_3.index t 0 = t.val :=
  (by decide +kernel : ∀ t : Fin grid0.N, win0_0.index t 0 = t.val ∧ win0_1.index t 0 = t.val ∧ win0_3.index t 0 = t.val)
/-- and stay in their columns; -/
theorem index_col : ∀ t : Fin cfg0.N, win0_0.index t 1 = 0 ∧ win0_1.index t 1 = 12 ∧ win0_3.index t 1 = 0 :=
  (by decide +kernel : ∀ t : Fin grid0.N, win0_0.index t 1 = 0 ∧ win0_1.index t 1 = 12 ∧ win0_3.index t 1 = 0)
/-- the scale's window does not move. -/
theorem index2 : ∀ t : Fin cfg0.N, win0_2.index t 0 = 0 ∧ win0_2.index t 1 = 0 :=
  (by decide +kernel : ∀ t : Fin grid0.N, win0_2.index t 0 = 0 ∧ win0_2.index t 1 = 0)

theorem V_v0 : V m c main_v0 = shapeCast S1x128 (argG m c) shapeCasts_S128_S1x128 := by
  unfold V; simp only [hostOps0, List.flatten_cons, List.flatten_nil, List.append_nil, List.cons_append, List.nil_append]
  after_results; rfl

abbrev b0 (t : Fin cfg0.N) : Vec Ideal S512x512 .f32 := iblk m c 0 t
abbrev b1 (t : Fin cfg0.N) : Vec Ideal S512x512 .f32 := iblk m c 1 t
abbrev b2 (t : Fin cfg0.N) : Vec Ideal S1x128 .f32 := iblk m c 2 t

theorem b0_at (t : Fin cfg0.N) (r k : Fin 512) (h : 512 * t.val + r.val < 8192) :
    b0 m c t (ix2 r k) = argO m c (ix2 ⟨512 * t.val + r.val, h⟩ k) := by
  unfold b0 iblk
  rw [View.read_apply]
  show V m c main_arg0 _ = _
  rw [V_main_arg0]
  refine Product.at2 (argO m c) _ _ _ ?_ ?_
  · show win0_0.index t 0 * 512 + 1 * r.val = 512 * t.val + r.val; rw [(index_row t).1]; omega
  · show win0_0.index t 1 * 512 + 1 * k.val = k.val; rw [(index_col t).1]; omega
theorem b1_at (t : Fin cfg0.N) (r k : Fin 512) (h : 512 * t.val + r.val < 8192) :
    b1 m c t (ix2 r k) = argP m c (ix2 ⟨512 * t.val + r.val, h⟩ ⟨6144 + k.val, by omega⟩) := by
  unfold b1 iblk
  rw [View.read_apply]
  show V m c main_arg1 _ = _
  rw [V_main_arg1]
  refine Product.at2 (argP m c) _ _ _ ?_ ?_
  · show win0_1.index t 0 * 512 + 1 * r.val = 512 * t.val + r.val; rw [(index_row t).2.1]; omega
  · show win0_1.index t 1 * 512 + 1 * k.val = 6144 + k.val; rw [(index_col t).2.1]; omega
theorem b2_at (t : Fin cfg0.N) (z : Fin 1) (k : Fin 128) : b2 m c t (ix2 z k) = argG m c (ix1 k) := by
  obtain rfl : z = 0 := Subsingleton.elim _ _
  have e : V m c main_v0 (ix2 0 k : S1x128.Idx) = argG m c (ix1 k) := by rw [V_v0]; pointwise
  rw [← e]
  unfold b2 iblk
  rw [View.read_apply]
  refine Product.at2 (V m c main_v0) _ _ _ ?_ ?_
  · show win0_2.index t 0 * 1 + 1 * 0 = 0; rw [(index2 t).1]
  · show win0_2.index t 1 * 128 + 1 * k.val = k.val; rw [(index2 t).2]; omega

/-- The heads of a block's row. -/
theorem h0_eq (t : Fin cfg0.N) (r : Fin 512) (h : Fin 4) (hr : 512 * t.val + r.val < 8192) : head (b0 m c t) r h = head (argO m c) ⟨512 * t.val + r.val, hr⟩ h :=
  funext fun _ => b0_at m c t r _ hr
theorem h1_eq (t : Fin cfg0.N) (r : Fin 512) (h : Fin 4) (hr : 512 * t.val + r.val < 8192) : head (b1 m c t) r h = gateHead (argP m c) ⟨512 * t.val + r.val, hr⟩ h :=
  funext fun _ => b1_at m c t r _ hr
theorem h2_eq (t : Fin cfg0.N) : (fun k => b2 m c t (ix2 0 k)) = fun k => argG m c (ix1 k) := funext fun k => b2_at m c t 0 k

theorem meet : Cert.Reference24Ideal.Read.val_main_v19 (F := Ideal) (argO m c) (argP m c) (argG m c) = (dats m 0 c).arrAt 3 cfg0.N := by
  refine Rms.rowTiles 512 16 (by decide) rfl _ _ fun t' r k hr => ?_
  obtain ⟨t, rfl⟩ : ∃ t : Fin cfg0.N, t' = t.cast N_0 := ⟨t'.cast N_0.symm, rfl⟩
  obtain ⟨h, l, rfl⟩ := head_cases k
  have e := congrFun (Value.blocks3 m c t (flush0_3 t)) (ix2 r ⟨h.val * 128 + l.val, by omega⟩ : S512x512.Idx)
  rw [Value.flushed3 m c t, View.read_apply] at e
  refine (reference_at ..).trans (Eq.symm (Eq.trans (Product.at2 ((dats m 0 c).arrAt 3 cfg0.N) _ _ _ ?_ ?_).symm (e.trans ((step_at ..).trans ?_))))
  · show win0_3.index t 0 * 512 + 1 * r.val = 512 * t.val + r.val; rw [(index_row t).2.2]; omega
  · show win0_3.index t 1 * 512 + 1 * (h.val * 128 + l.val) = h.val * 128 + l.val; rw [(index_col t).2.2]; omega
  · show gated (head (b0 m c t) r h) (head (b1 m c t) r h) (fun k => b2 m c t (ix2 0 k)) l = _
    rw [h0_eq m c t r h hr, h1_eq m c t r h hr, h2_eq m c t]; rfl

theorem same {x0 x0' : (⟨2, ![8192, 512]⟩ : Shape).Idx → EReal} {x1 x1' : (⟨2, ![8192, 8192]⟩ : Shape).Idx → EReal} {x2 x2' : (⟨1, ![128]⟩ : Shape).Idx → EReal}
    (e0 : x0' = x0) (e1 : x1' = x1) (e2 : x2' = x2) :
    Cert.Reference24Ideal.Read.val_main_v19 (F := Ideal) x0' x1' x2' = Cert.Reference24Ideal.Read.val_main_v19 (F := Ideal) x0 x1 x2 := by
  subst e0 e1 e2; rfl

theorem algebraic : Cert.algebraic_Kernel24Ideal_Reference24Ideal (hKernel24Ideal := Cert.Kernel24Ideal.Gen.facts) (hReference24Ideal := Cert.Reference24Ideal.Gen.facts) := by
  intro m g m' g' _ hm
  refine ⟨fun c => (dats m 0 c).arrAt 3 cfg0.N, Cert.Kernel24Ideal.Value.run_blocks m g, ?_⟩
  refine (θ_run _ _ _).mono (fun r h c => ?_) (Cert.Reference24Ideal.Value.run m' g')
  obtain ⟨h0, rest⟩ := h c
  obtain ⟨a0, a1, a2⟩ := hm c
  exact ⟨h0.trans ((Cert.Reference24Ideal.Read.val_main_v19_eq _ _ _).trans ((same a0 a1 a2).trans (meet m c))), rest⟩

theorem frame_reference : Cert.quiescent_Reference24Ideal (hReference24Ideal := Cert.Reference24Ideal.Gen.facts) := fun m ρ _ =>
  (θ_run Cert.Reference24Ideal.defs _ _).mono (fun r h => ⟨fun c => (h c).2, sem_eq_zero_of_no_sems (by decide) r.2⟩)
    (Cert.Reference24Ideal.Value.run (F := Ideal) m ρ)

end Cert.Kernel24Ideal.Val
end
-- ==== Proof.Loss25.lean ====
/-
  The loss: the sum of the squared errors, and the error the gradient starts from. The kernel's two arrays are the reference's.
-/
module

public import proofs.«01_k».proof.Defs
public import proofs.«01_k».proof.Proof.Forward
public import proofs.«01_k».proof.Proof.Gen.Kernel25Ideal.Value
public import proofs.«01_k».proof.Proof.Gen.Reference25Ideal.Run
public import proofs.«01_k».proof.Proof.Gen.Reference25Ideal.Read
public import Idealize.ShloMosaic.Lib.KernelVsHost

@[expose] public section

set_option maxRecDepth 16384

noncomputable section

namespace Cert.Kernel25Ideal.Val

open Cert.Kernel25Ideal Cert.Kernel25Ideal.Gen Idealize.ShloMosaic Idealize.ShloMosaic.TcCoe Idealize.SL.Sem Cert.Gating

/-- A sum over a table is the sum over its rows of the sums along them. -/
theorem sum_table {a b : ℕ} (f : (⟨2, ![a, b]⟩ : Shape).Idx → EReal) : ∑ i, f i = ∑ r : Fin a, ∑ k : Fin b, f (ix2 r k) := by
  rw [← Fintype.sum_prod_type']
  refine Finset.sum_nbij' (fun i => (i 0, i 1)) (fun p => ix2 p.1 p.2) (fun _ _ => Finset.mem_univ _) (fun _ _ => Finset.mem_univ _)
    (fun i _ => ?_) (fun _ _ => rfl) fun i _ => congrArg f ?_
  all_goals funext a; match a with | ⟨0, _⟩ => rfl | ⟨1, _⟩ => rfl

/-- The squared error of a row, and one entry of the error scaled. -/
def sq {n : ℕ} (y t : Fin n → EReal) : EReal := ∑ k, (y k - t k) * (y k - t k)
def slope (y t : EReal) : EReal := (y - t) * Ideal.ofBits .f32 0x3A800000#32

variable (m : (ℓ : Loc nD τ sig) → Buf (Elt Ideal) ℓ) (c : Dev nD)

abbrev argY : (⟨2, ![8192, 1024]⟩ : Shape).Idx → EReal := m ((c : Thread nD τ).loc main_arg0)
abbrev argT : (⟨2, ![8192, 1024]⟩ : Shape).Idx → EReal := m ((c : Thread nD τ).loc main_arg1)

theorem index : ∀ t : Fin cfg0.N, (win0_0.index t 0 = t.val ∧ win0_0.index t 1 = 0) ∧ (win0_1.index t 0 = t.val ∧ win0_1.index t 1 = 0) ∧ (win0_3.index t 0 = t.val ∧ win0_3.index t 1 = 0) :=
  (by decide +kernel : ∀ t : Fin grid0.N, (win0_0.index t 0 = t.val ∧ win0_0.index t 1 = 0) ∧ (win0_1.index t 0 = t.val ∧ win0_1.index t 1 = 0) ∧ (win0_3.index t 0 = t.val ∧ win0_3.index t 1 = 0))

abbrev b0 (t : Fin cfg0.N) : Vec Ideal S512x1024 .f32 := iblk m c 0 t
abbrev b1 (t : Fin cfg0.N) : Vec Ideal S512x1024 .f32 := iblk m c 1 t

theorem b0_at (t : Fin cfg0.N) (r : Fin 512) (k : Fin 1024) (h : 512 * t.val + r.val < 8192) :
    b0 m c t (ix2 r k) = argY m c (ix2 ⟨512 * t.val + r.val, h⟩ k) := by
  unfold b0 iblk
  rw [View.read_apply]
  show V m c main_arg0 _ = _
  rw [V_main_arg0]
  refine Product.at2 (argY m c) _ _ _ ?_ ?_
  · show win0_0.index t 0 * 512 + 1 * r.val = 512 * t.val + r.val; rw [(index t).1.1]; omega
  · show win0_0.index t 1 * 1024 + 1 * k.val = k.val; rw [(index t).1.2]; omega
theorem b1_at (t : Fin cfg0.N) (r : Fin 512) (k : Fin 1024) (h : 512 * t.val + r.val < 8192) :
    b1 m c t (ix2 r k) = argT m c (ix2 ⟨512 * t.val + r.val, h⟩ k) := by
  unfold b1 iblk
  rw [View.read_apply]
  show V m c main_arg1 _ = _
  rw [V_main_arg1]
  refine Product.at2 (argT m c) _ _ _ ?_ ?_
  · show win0_1.index t 0 * 512 + 1 * r.val = 512 * t.val + r.val; rw [(index t).2.1.1]; omega
  · show win0_1.index t 1 * 1024 + 1 * k.val = k.val; rw [(index t).2.1.2]; omega

theorem out3 (t : Fin cfg0.N) : (outsAt0 m c t.val t.isLt).2 = k0_pay3 (b0 m c t) (b1 m c t) := by
  by_cases h0 : t.val % 16 = 0
  · rw [outsAt0_A m c t h0]
    dsimp only
    unfold out0_A_3
    rw [View.read_writes_eq_canon _ _ _ (fun _ => cover0_A_3 ..)]
    unfold kernelRun0_A
    dsimp only
    sl_unfold_words
    rw [View.canon_unit_zero Product.zero2]
    simp only [View.readAt_eq_ld, (hs0_0 t).read_unread, (hs0_1 t).read_unread, View.ld_unit_zero (S := S512x1024) Product.zero2, View.ld_unit_zero (S := S1x128) Product.zero2]
  · rw [outsAt0_B m c t h0]
    dsimp only
    unfold out0_B_3
    rw [View.read_writes_eq_canon _ _ _ (fun _ => cover0_B_3 ..)]
    unfold kernelRun0_B
    dsimp only
    sl_unfold_words
    rw [View.canon_unit_zero Product.zero2]
    simp only [View.readAt_eq_ld, (hs0_0 t).read_unread, (hs0_1 t).read_unread, View.ld_unit_zero (S := S512x1024) Product.zero2, View.ld_unit_zero (S := S1x128) Product.zero2]
theorem out2_A (t : Fin cfg0.N) (h0 : t.val % 16 = 0) :
    (outsAt0 m c t.val t.isLt).1 = k0_pay4 (b0 m c t) (b1 m c t) (k0_pay1 (F := Ideal)) := by
  rw [outsAt0_A m c t h0]
  dsimp only
  unfold out0_A_2
  rw [View.read_writes_eq_canon _ _ _ (fun _ => cover0_A_2 ..)]
  unfold kernelRun0_A
  dsimp only
  sl_unfold_words
  rw [View.canon_cons_unit_zero (S := S1x128) Product.zero2, View.readCov_unit_zero (S := S1x128) _ Product.zero2]
  simp only [View.readAt_eq_ld, (hs0_0 t).read_unread, (hs0_1 t).read_unread, View.ld_unit_zero (S := S512x1024) Product.zero2, View.ld_unit_zero (S := S1x128) Product.zero2]
theorem out2_B (t : Fin cfg0.N) (h0 : ¬t.val % 16 = 0) :
    (outsAt0 m c t.val t.isLt).1 = k0_pay4 (b0 m c t) (b1 m c t) (outsAt0 m c (t.val - 1) (Nat.lt_of_le_of_lt (Nat.sub_le _ _) t.isLt)).1 := by
  rw [outsAt0_B m c t h0]
  dsimp only
  unfold out0_B_2
  rw [View.read_writes_eq_canon _ _ _ (fun _ => cover0_B_2 ..)]
  unfold kernelRun0_B
  dsimp only
  sl_unfold_words
  rw [View.canon_unit_zero Product.zero2]
  simp only [View.readAt_eq_ld, (hs0_0 t).read_unread, (hs0_1 t).read_unread, (hs0_2 t).read_unread, View.ld_unit_zero (S := S512x1024) Product.zero2, View.ld_unit_zero (S := S1x128) Product.zero2]

theorem pay3_at (x0 x1 : Vec Ideal S512x1024 .f32) (r : Fin 512) (k : Fin 1024) : k0_pay3 x0 x1 (ix2 r k) = slope (x0 (ix2 r k)) (x1 (ix2 r k)) := by
  unfold slope
  pointwise [k0_pay3, k0_pay2]
theorem pay4_at (x0 x1 : Vec Ideal S512x1024 .f32) (o : Vec Ideal S1x128 .f32) (k : Fin 128) :
    k0_pay4 x0 x1 o (ix2 0 k) = o (ix2 0 k) + ∑ r : Fin 512, sq (Rms.row x0 r) (Rms.row x1 r) := by
  unfold sq Rms.row
  pointwise [k0_pay4, k0_pay2]
theorem pay1_at (k : Fin 128) : k0_pay1 (F := Ideal) (ix2 0 k) = 0 := by pointwise [k0_pay1]

section
open Cert.Reference25Ideal.Read
variable (x0 x1 : (⟨2, ![8192, 1024]⟩ : Shape).Idx → EReal)
theorem reference2_at (k : Fin 128) : val_main_v3 (F := Ideal) x0 x1 (ix2 0 k) = ∑ r : Fin 8192, sq (Rms.row x0 r) (Rms.row x1 r) := by
  rw [val_main_v3_apply, val_main_v2_apply, sum_table]
  unfold sq Rms.row
  pointwise [val_main_v1, val_main_v0, val_main_cst]
theorem reference3_at (r : Fin 8192) (k : Fin 1024) : val_main_v5 (F := Ideal) x0 x1 (ix2 r k) = slope (x0 (ix2 r k)) (x1 (ix2 r k)) := by
  unfold slope
  pointwise [val_main_v5, val_main_v4, val_main_v0, val_main_cst_0]
end

theorem tile3_at (t : Fin cfg0.N) (r : Fin 512) (k : Fin 1024) (hr : 512 * t.val + r.val < 8192) :
    (dats m 0 c).arrAt 3 cfg0.N (ix2 ⟨512 * t.val + r.val, hr⟩ k : S8192x1024.Idx)
      = slope (argY m c (ix2 ⟨512 * t.val + r.val, hr⟩ k)) (argT m c (ix2 ⟨512 * t.val + r.val, hr⟩ k)) := by
  have e := congrFun (Value.blocks3 m c t (flush0_3 t)) (ix2 r k : S512x1024.Idx)
  rw [Value.flushed3 m c t, out3 m c t, View.read_apply] at e
  refine Eq.trans (Product.at2 ((dats m 0 c).arrAt 3 cfg0.N) _ _ _ ?_ ?_).symm (e.trans ((pay3_at ..).trans ?_))
  · show win0_3.index t 0 * 512 + 1 * r.val = 512 * t.val + r.val; rw [(index t).2.2.1]; omega
  · show win0_3.index t 1 * 1024 + 1 * k.val = k.val; rw [(index t).2.2.2]; omega
  · rw [b0_at m c t r k hr, b1_at m c t r k hr]

theorem meet3 : Cert.Reference25Ideal.Read.val_main_v5 (F := Ideal) (argY m c) (argT m c) = (dats m 0 c).arrAt 3 cfg0.N :=
  Rms.rowTiles 512 16 (by decide) rfl _ _ fun t r k hr => (reference3_at ..).trans (tile3_at m c (t.cast N_0.symm) r k hr).symm

theorem lt16 (t : Fin cfg0.N) : t.val < 16 := lt_of_lt_of_eq t.isLt (show cfg0.N = 16 from N_0)
theorem h16 (n : ℕ) (h : n < 16) : n < cfg0.N := lt_of_lt_of_eq h (show cfg0.N = 16 from N_0).symm
def last : Fin cfg0.N := ⟨15, h16 15 (by decide)⟩

theorem last2 (k : Fin 128) : (outsAt0 m c last.val last.isLt).1 (ix2 0 k) = ∑ r : Fin 8192, sq (Rms.row (argY m c) r) (Rms.row (argT m c) r) := by
  refine Rms.total (fun n h => (outsAt0 m c n (h16 n h)).1 (ix2 0 k))
    (fun n h => ∑ r : Fin 512, sq (Rms.row (b0 m c ⟨n, h16 n h⟩) r) (Rms.row (b1 m c ⟨n, h16 n h⟩) r)) _ (fun h => ?_) (fun n h => ?_) fun n h => ?_
  · refine (congrFun (out2_A m c ⟨0, h16 0 h⟩ rfl) _).trans ((pay4_at ..).trans ?_)
    rw [pay1_at, zero_add]
  · exact (congrFun (out2_B m c ⟨n + 1, h16 _ h⟩ (by dsimp only; omega)) _).trans (pay4_at ..)
  · refine Finset.sum_congr rfl fun l _ => ?_
    have hr : 512 * n + l.val < 8192 := by omega
    rw [show Rms.row (b0 m c ⟨n, h16 n h⟩) l = Rms.row (argY m c) ⟨512 * n + l.val, hr⟩ from funext fun j => b0_at m c ⟨n, h16 n h⟩ l j hr,
      show Rms.row (b1 m c ⟨n, h16 n h⟩) l = Rms.row (argT m c) ⟨512 * n + l.val, hr⟩ from funext fun j => b1_at m c ⟨n, h16 n h⟩ l j hr]

/-- The array of the loss. -/
def res2 : Buf (Elt Ideal) ((c : Thread nD τ).loc main_v0_0) := Cert.Reference25Ideal.Read.val_main_v3 (F := Ideal) (argY m c) (argT m c)
theorem last2_eq : ((outsAt0 m c last.val last.isLt).1 : Vec Ideal S1x128 .f32) = res2 m c := by
  refine Product.ext2 _ _ fun z k => ?_
  obtain rfl : z = 0 := Subsingleton.elim _ _
  exact (last2 m c k).trans (reference2_at ..).symm

theorem flushed2_eq (t : Fin cfg0.N) (hf : (cfg0.win 2).flush t = true) :
    (dats m 0 c).flushed 2 t = ((cfg0.win 2).blk t).view.read (Elt Ideal) (res2 m c) := by
  have h3 : t.val = 15 := by have h := (flush0_2 t).mp hf; have := lt16 t; omega
  obtain rfl : t = last := Fin.ext h3
  show (cfg0.win 2).cut (grid0.coords last) ((dats m 0 c).after 2 last) = _
  rw [after0_2]
  have e : (outsAt0 m c last.val last.isLt).1 = res2 m c := last2_eq m c
  rw [e]
  have hz' : (fun a => win0_2.index last a * main_v0_0.ty.shape.size a) = fun _ => 0 := funext fun a => by fin_cases a <;> decide +kernel
  exact (Memref.read_access_unit_zero (Elt Ideal) main_v0_0 hz' (fun a => by rw [congrFun hz' a]; simp) (res2 m c)).symm
theorem meet2 : (dats m 0 c).arrAt 2 cfg0.N = res2 m c :=
  (dats m 0 c).arrAt_eq_of_cover 2 (res2 m c) (flushed2_eq m c) fun i =>
    ⟨last, (flush0_2 last).mpr rfl, by
      show i ∈ ((View.whole main_v0_0).slice (win0_2.rect last)).set
      rw [View.set_slice_whole, Rect.mem_set_unit]
      intro a
      have h0 : (i 0 : Nat) < 1 := (i 0).isLt
      have h1 : (i 1 : Nat) < 128 := (i 1).isLt
      match a with
      | ⟨0, _⟩ => show win0_2.index last 0 * win0_2.size 0 ≤ (i 0 : Nat) ∧ (i 0 : Nat) < win0_2.index last 0 * win0_2.size 0 + win0_2.xsize (grid0.coords last) 0
                  rw [show win0_2.index last 0 * win0_2.size 0 = 0 from by decide +kernel, show win0_2.xsize (grid0.coords last) 0 = 1 from by decide +kernel]; omega
      | ⟨1, _⟩ => show win0_2.index last 1 * win0_2.size 1 ≤ (i 1 : Nat) ∧ (i 1 : Nat) < win0_2.index last 1 * win0_2.size 1 + win0_2.xsize (grid0.coords last) 1
                  rw [show win0_2.index last 1 * win0_2.size 1 = 0 from by decide +kernel, show win0_2.xsize (grid0.coords last) 1 = 128 from by decide +kernel]; omega⟩

theorem same2 {x0 x0' x1 x1' : (⟨2, ![8192, 1024]⟩ : Shape).Idx → EReal} (e0 : x0' = x0) (e1 : x1' = x1) :
    Cert.Reference25Ideal.Read.val_main_v3 (F := Ideal) x0' x1' = Cert.Reference25Ideal.Read.val_main_v3 (F := Ideal) x0 x1 := by
  subst e0 e1; rfl
theorem same3 {x0 x0' x1 x1' : (⟨2, ![8192, 1024]⟩ : Shape).Idx → EReal} (e0 : x0' = x0) (e1 : x1' = x1) :
    Cert.Reference25Ideal.Read.val_main_v5 (F := Ideal) x0' x1' = Cert.Reference25Ideal.Read.val_main_v5 (F := Ideal) x0 x1 := by
  subst e0 e1; rfl

theorem algebraic : Cert.algebraic_Kernel25Ideal_Reference25Ideal (hKernel25Ideal := Cert.Kernel25Ideal.Gen.facts) (hReference25Ideal := Cert.Reference25Ideal.Gen.facts) := by
  intro m g m' g' _ hm
  refine ⟨fun c => (dats m 0 c).arrAt 2 cfg0.N, fun c => (dats m 0 c).arrAt 3 cfg0.N, Cert.Kernel25Ideal.Value.run_blocks m g, ?_⟩
  refine (θ_run _ _ _).mono (fun r h c => ?_) (Cert.Reference25Ideal.Value.run m' g')
  obtain ⟨h0, h1, rest⟩ := h c
  obtain ⟨a0, a1⟩ := hm c
  exact ⟨h0.trans ((Cert.Reference25Ideal.Read.val_main_v3_eq _ _).trans ((same2 a0 a1).trans (meet2 m c).symm)),
    h1.trans ((Cert.Reference25Ideal.Read.val_main_v5_eq _ _).trans ((same3 a0 a1).trans (meet3 m c))), rest⟩

theorem frame_reference : Cert.quiescent_Reference25Ideal (hReference25Ideal := Cert.Reference25Ideal.Gen.facts) := fun m ρ _ =>
  (θ_run Cert.Reference25Ideal.defs _ _).mono (fun r h => ⟨fun c => (h c).2.2, sem_eq_zero_of_no_sems (by decide) r.2⟩)
    (Cert.Reference25Ideal.Value.run (F := Ideal) m ρ)

end Cert.Kernel25Ideal.Val
end
-- ==== Proof.Adam.lean ====
/-
  One step of AdamW on one weight, over the extended reals, and arrays that agree block of rows by block of rows.
-/
module

public import proofs.«01_k».proof.Proof.Product

@[expose] public section

noncomputable section

namespace Cert.Adam

open Idealize.ShloMosaic Cert.Gating

/-- The new first moment from the gradient and the moment before. -/
def m1 (g m : EReal) : EReal := Ideal.ofBits .f32 0x3F666666#32 * m + Ideal.ofBits .f32 0x3DCCCCCD#32 * g
/-- The new second moment. -/
def m2 (g v : EReal) : EReal := Ideal.ofBits .f32 0x3F7FBE77#32 * v + Ideal.ofBits .f32 0x3A83126F#32 * (g * g)
/-- What is added to the weight: both moments are freed of their bias, and the weight decays. -/
def delta (w g m v : EReal) : EReal :=
  Ideal.ofBits .f32 0xBA83126F#32 * (Ideal.div (Ideal.div (m1 g m) (Ideal.ofBits .f32 0x3F26BD02#32))
      (Ideal.sqrt (Ideal.div (m2 g v) (Ideal.ofBits .f32 0x3C231ACC#32)) + Ideal.ofBits .f32 0x322BCC77#32)
    + Ideal.ofBits .f32 0x3C23D70A#32 * w)

section
variable {S : Shape} (w g m v : S.Idx → EReal)
/-- The step on whole arrays, entry by entry. -/
def M1 (i : S.Idx) : EReal := m1 (g i) (m i)
def M2 (i : S.Idx) : EReal := m2 (g i) (v i)
def Delta (i : S.Idx) : EReal := delta (w i) (g i) (m i) (v i)
end

/-- Two arrays are the same if every block of `ts` rows reads the same of both; `e t` places block `t`. -/
theorem of_blocks {M : Type} {A B : ℕ} (ts N : ℕ) (hts : 0 < ts) (hA : A = ts * N) (f g : (⟨2, ![A, B]⟩ : Shape).Idx → M)
    (e : Fin N → (⟨2, ![ts, B]⟩ : Shape).Idx → (⟨2, ![A, B]⟩ : Shape).Idx)
    (h0 : ∀ t i, (e t i 0).val = t.val * ts + 1 * (i 0).val) (h1 : ∀ t i, (e t i 1).val = 0 * B + 1 * (i 1).val)
    (h : ∀ t i, f (e t i) = g (e t i)) : f = g := by
  refine Product.ext2 f g fun r k => ?_
  have hr : r.val / ts < N := Nat.div_lt_of_lt_mul (lt_of_lt_of_eq r.isLt hA)
  have h' := h ⟨r.val / ts, hr⟩ (ix2 ⟨r.val % ts, Nat.mod_lt _ hts⟩ k)
  have e0 : (e ⟨r.val / ts, hr⟩ (ix2 ⟨r.val % ts, Nat.mod_lt _ hts⟩ k) 0).val = r.val := by
    rw [h0]; show r.val / ts * ts + 1 * (r.val % ts) = r.val; rw [one_mul]; exact Nat.div_add_mod' _ _
  have e1 : (e ⟨r.val / ts, hr⟩ (ix2 ⟨r.val % ts, Nat.mod_lt _ hts⟩ k) 1).val = k.val := by
    rw [h1]; show 0 * B + 1 * k.val = k.val; omega
  rwa [Product.at2 f _ r k e0 e1, Product.at2 g _ r k e0 e1] at h'

/-- The three results of the step, each known block of rows by block of rows. -/
theorem of_steps {A B : ℕ} (ts N : ℕ) (hts : 0 < ts) (hA : A = ts * N) (w g m v f4 f5 f6 : (⟨2, ![A, B]⟩ : Shape).Idx → EReal)
    (e4 e5 e6 : Fin N → (⟨2, ![ts, B]⟩ : Shape).Idx → (⟨2, ![A, B]⟩ : Shape).Idx)
    (h0 : ∀ t i, (e4 t i 0).val = t.val * ts + 1 * (i 0).val ∧ (e5 t i 0).val = t.val * ts + 1 * (i 0).val ∧ (e6 t i 0).val = t.val * ts + 1 * (i 0).val)
    (h1 : ∀ t i, (e4 t i 1).val = 0 * B + 1 * (i 1).val ∧ (e5 t i 1).val = 0 * B + 1 * (i 1).val ∧ (e6 t i 1).val = 0 * B + 1 * (i 1).val)
    (h4 : ∀ t i, f4 (e4 t i) = delta (w (e4 t i)) (g (e4 t i)) (m (e4 t i)) (v (e4 t i)))
    (h5 : ∀ t i, f5 (e5 t i) = m1 (g (e5 t i)) (m (e5 t i))) (h6 : ∀ t i, f6 (e6 t i) = m2 (g (e6 t i)) (v (e6 t i))) :
    f4 = Delta w g m v ∧ f5 = M1 g m ∧ f6 = M2 g v :=
  ⟨of_blocks ts N hts hA _ _ e4 (fun t i => (h0 t i).1) (fun t i => (h1 t i).1) h4,
    of_blocks ts N hts hA _ _ e5 (fun t i => (h0 t i).2.1) (fun t i => (h1 t i).2.1) h5,
    of_blocks ts N hts hA _ _ e6 (fun t i => (h0 t i).2.2) (fun t i => (h1 t i).2.2) h6⟩

end Cert.Adam
end
-- ==== Proof.Adam26.lean ====
/-
  AdamW on the input projection's weights: the kernel's three arrays are the reference's.
-/
module

public import proofs.«01_k».proof.Defs
public import proofs.«01_k».proof.Proof.Adam
public import proofs.«01_k».proof.Proof.Gen.Kernel26Ideal.Value
public import proofs.«01_k».proof.Proof.Gen.Reference26Ideal.Run
public import Idealize.ShloMosaic.Lib.KernelVsHost

@[expose] public section

set_option maxRecDepth 16384

noncomputable section

namespace Cert.Kernel26Ideal.Val

open Cert.Kernel26Ideal Cert.Kernel26Ideal.Gen Idealize.ShloMosaic Idealize.ShloMosaic.TcCoe Idealize.SL.Sem Cert.Gating

variable (m : (ℓ : Loc nD τ sig) → Buf (Elt Ideal) ℓ) (c : Dev nD)

/-- An argument as a table of rows. -/
abbrev rows (x : S4x1024x1922.Idx → EReal) : S4096x1922.Idx → EReal := shapeCast S4096x1922 x shapeCasts_S4x1024x1922_S4096x1922
abbrev argW : S4096x1922.Idx → EReal := rows (m ((c : Thread nD τ).loc main_arg0))
abbrev argG : S4096x1922.Idx → EReal := rows (m ((c : Thread nD τ).loc main_arg1))
abbrev argM : S4096x1922.Idx → EReal := rows (m ((c : Thread nD τ).loc main_arg2))
abbrev argV : S4096x1922.Idx → EReal := rows (m ((c : Thread nD τ).loc main_arg3))

theorem staged : V m c main_v0 = argW m c ∧ V m c main_v1 = argG m c ∧ V m c main_v2 = argM m c ∧ V m c main_v3 = argV m c := by
  unfold V; simp only [hostOps0, List.flatten_cons, List.flatten_nil, List.append_nil, List.cons_append, List.nil_append]
  refine ⟨?_, ?_, ?_, ?_⟩ <;> (after_results; rfl)

/-- The windows of the results go down the rows. -/
theorem index : ∀ t : Fin cfg0.N, (win0_4.index t 0 = t.val ∧ win0_4.index t 1 = 0) ∧ (win0_5.index t 0 = t.val ∧ win0_5.index t 1 = 0) ∧ (win0_6.index t 0 = t.val ∧ win0_6.index t 1 = 0) :=
  (by decide +kernel : ∀ t : Fin grid0.N, (win0_4.index t 0 = t.val ∧ win0_4.index t 1 = 0) ∧ (win0_5.index t 0 = t.val ∧ win0_5.index t 1 = 0) ∧ (win0_6.index t 0 = t.val ∧ win0_6.index t 1 = 0))

/-- What the body makes of its four blocks. -/
theorem step (x0 x1 x2 x3 : Vec Ideal S256x1922 .f32) :
    out0_4 x0 x1 x2 x3 = Adam.Delta x0 x1 x2 x3 ∧ out0_5 x0 x1 x2 x3 = Adam.M1 x1 x2 ∧ out0_6 x0 x1 x2 x3 = Adam.M2 x1 x3 := by
  unfold out0_4 out0_5 out0_6
  simp only [View.canon_unit_zero (S := S256x1922) Product.zero2, View.ld_unit_zero (S := S256x1922) Product.zero2, k0_pay4, k0_pay3, k0_pay2, k0_pay1, shapeCast_id]
  exact ⟨rfl, rfl, rfl⟩

/-- The three arrays at the end. -/
theorem arrays : (dats m 0 c).arrAt 4 cfg0.N = Adam.Delta (argW m c) (argG m c) (argM m c) (argV m c)
    ∧ (dats m 0 c).arrAt 5 cfg0.N = Adam.M1 (argG m c) (argM m c) ∧ (dats m 0 c).arrAt 6 cfg0.N = Adam.M2 (argG m c) (argV m c) := by
  obtain ⟨e0, e1, e2, e3⟩ := staged m c
  rw [← e0, ← e1, ← e2, ← e3]
  refine Adam.of_steps 256 16 (by decide) rfl _ _ _ _ _ _ _ (fun t => ((cfg0.win 4).blk (t.cast N_0.symm)).view.emb)
    (fun t => ((cfg0.win 5).blk (t.cast N_0.symm)).view.emb) (fun t => ((cfg0.win 6).blk (t.cast N_0.symm)).view.emb)
    (fun t i => ?_) (fun t i => ?_) (fun t i => ?_) (fun t i => ?_) (fun t i => ?_)
  · have a := index (t.cast N_0.symm)
    exact ⟨congrArg (· * 256 + 1 * (i 0).val) a.1.1, congrArg (· * 256 + 1 * (i 0).val) a.2.1.1, congrArg (· * 256 + 1 * (i 0).val) a.2.2.1⟩
  · have a := index (t.cast N_0.symm)
    exact ⟨congrArg (· * 1922 + 1 * (i 1).val) a.1.2, congrArg (· * 1922 + 1 * (i 1).val) a.2.1.2, congrArg (· * 1922 + 1 * (i 1).val) a.2.2.2⟩
  · have e := congrFun (Value.blocks4 m c (t.cast N_0.symm) (flush0_4 _)) i
    rw [Value.flushed4, View.read_apply, (step ..).1] at e; exact e
  · have e := congrFun (Value.blocks5 m c (t.cast N_0.symm) (flush0_5 _)) i
    rw [Value.flushed5, View.read_apply, (step ..).2.1] at e; exact e
  · have e := congrFun (Value.blocks6 m c (t.cast N_0.symm) (flush0_6 _)) i
    rw [Value.flushed6, View.read_apply, (step ..).2.2] at e; exact e

theorem algebraic : Cert.algebraic_Kernel26Ideal_Reference26Ideal (hKernel26Ideal := Cert.Kernel26Ideal.Gen.facts) (hReference26Ideal := Cert.Reference26Ideal.Gen.facts) := by
  intro m g m' g' _ hm
  refine ⟨fun c => (dats m 0 c).arrAt 4 cfg0.N, fun c => (dats m 0 c).arrAt 5 cfg0.N, fun c => (dats m 0 c).arrAt 6 cfg0.N,
    Cert.Kernel26Ideal.Value.run_blocks m g, ?_⟩
  refine (θ_run _ _ _).mono (fun r h c => ?_) (Cert.Reference26Ideal.Value.run m' g')
  obtain ⟨h0, h1, h2, rest⟩ := h c
  obtain ⟨a0, a1, a2, a3⟩ := hm c
  rw [a0, a1, a2, a3] at h0
  rw [a1, a2] at h1
  rw [a1, a3] at h2
  obtain ⟨k0, k1, k2⟩ := arrays m c
  exact ⟨h0.trans k0.symm, h1.trans k1.symm, h2.trans k2.symm, rest⟩

theorem frame_reference : Cert.quiescent_Reference26Ideal (hReference26Ideal := Cert.Reference26Ideal.Gen.facts) := fun m ρ _ =>
  (θ_run Cert.Reference26Ideal.defs _ _).mono (fun r h => ⟨fun c => (h c).2.2.2, sem_eq_zero_of_no_sems (by decide) r.2⟩)
    (Cert.Reference26Ideal.Value.run (F := Ideal) m ρ)

end Cert.Kernel26Ideal.Val
end
-- ==== Proof.Adam27.lean ====
/-
  AdamW on the branches' output weights: the kernel's three arrays are the reference's.
-/
module

public import proofs.«01_k».proof.Defs
public import proofs.«01_k».proof.Proof.Adam
public import proofs.«01_k».proof.Proof.Gen.Kernel27Ideal.Value
public import proofs.«01_k».proof.Proof.Gen.Reference27Ideal.Run
public import Idealize.ShloMosaic.Lib.KernelVsHost

@[expose] public section

set_option maxRecDepth 16384

noncomputable section

namespace Cert.Kernel27Ideal.Val

open Cert.Kernel27Ideal Cert.Kernel27Ideal.Gen Idealize.ShloMosaic Idealize.ShloMosaic.TcCoe Idealize.SL.Sem Cert.Gating

variable (m : (ℓ : Loc nD τ sig) → Buf (Elt Ideal) ℓ) (c : Dev nD)

/-- An argument as a table of rows. -/
abbrev rows (x : S4x3x512x256.Idx → EReal) : S6144x256.Idx → EReal := shapeCast S6144x256 x shapeCasts_S4x3x512x256_S6144x256
abbrev argW : S6144x256.Idx → EReal := rows (m ((c : Thread nD τ).loc main_arg0))
abbrev argG : S6144x256.Idx → EReal := rows (m ((c : Thread nD τ).loc main_arg1))
abbrev argM : S6144x256.Idx → EReal := rows (m ((c : Thread nD τ).loc main_arg2))
abbrev argV : S6144x256.Idx → EReal := rows (m ((c : Thread nD τ).loc main_arg3))

theorem staged : V m c main_v0 = argW m c ∧ V m c main_v1 = argG m c ∧ V m c main_v2 = argM m c ∧ V m c main_v3 = argV m c := by
  unfold V; simp only [hostOps0, List.flatten_cons, List.flatten_nil, List.append_nil, List.cons_append, List.nil_append]
  refine ⟨?_, ?_, ?_, ?_⟩ <;> (after_results; rfl)

/-- The windows of the results go down the rows. -/
theorem index : ∀ t : Fin cfg0.N, (win0_4.index t 0 = t.val ∧ win0_4.index t 1 = 0) ∧ (win0_5.index t 0 = t.val ∧ win0_5.index t 1 = 0) ∧ (win0_6.index t 0 = t.val ∧ win0_6.index t 1 = 0) :=
  (by decide +kernel : ∀ t : Fin grid0.N, (win0_4.index t 0 = t.val ∧ win0_4.index t 1 = 0) ∧ (win0_5.index t 0 = t.val ∧ win0_5.index t 1 = 0) ∧ (win0_6.index t 0 = t.val ∧ win0_6.index t 1 = 0))

/-- What the body makes of its four blocks. -/
theorem step (x0 x1 x2 x3 : Vec Ideal S512x256 .f32) :
    out0_4 x0 x1 x2 x3 = Adam.Delta x0 x1 x2 x3 ∧ out0_5 x0 x1 x2 x3 = Adam.M1 x1 x2 ∧ out0_6 x0 x1 x2 x3 = Adam.M2 x1 x3 := by
  unfold out0_4 out0_5 out0_6
  simp only [View.canon_unit_zero (S := S512x256) Product.zero2, View.ld_unit_zero (S := S512x256) Product.zero2, k0_pay4, k0_pay3, k0_pay2, k0_pay1, shapeCast_id]
  exact ⟨rfl, rfl, rfl⟩

/-- The three arrays at the end. -/
theorem arrays : (dats m 0 c).arrAt 4 cfg0.N = Adam.Delta (argW m c) (argG m c) (argM m c) (argV m c)
    ∧ (dats m 0 c).arrAt 5 cfg0.N = Adam.M1 (argG m c) (argM m c) ∧ (dats m 0 c).arrAt 6 cfg0.N = Adam.M2 (argG m c) (argV m c) := by
  obtain ⟨e0, e1, e2, e3⟩ := staged m c
  rw [← e0, ← e1, ← e2, ← e3]
  refine Adam.of_steps 512 12 (by decide) rfl _ _ _ _ _ _ _ (fun t => ((cfg0.win 4).blk (t.cast N_0.symm)).view.emb)
    (fun t => ((cfg0.win 5).blk (t.cast N_0.symm)).view.emb) (fun t => ((cfg0.win 6).blk (t.cast N_0.symm)).view.emb)
    (fun t i => ?_) (fun t i => ?_) (fun t i => ?_) (fun t i => ?_) (fun t i => ?_)
  · have a := index (t.cast N_0.symm)
    exact ⟨congrArg (· * 512 + 1 * (i 0).val) a.1.1, congrArg (· * 512 + 1 * (i 0).val) a.2.1.1, congrArg (· * 512 + 1 * (i 0).val) a.2.2.1⟩
  · have a := index (t.cast N_0.symm)
    exact ⟨congrArg (· * 256 + 1 * (i 1).val) a.1.2, congrArg (· * 256 + 1 * (i 1).val) a.2.1.2, congrArg (· * 256 + 1 * (i 1).val) a.2.2.2⟩
  · have e := congrFun (Value.blocks4 m c (t.cast N_0.symm) (flush0_4 _)) i
    rw [Value.flushed4, View.read_apply, (step ..).1] at e; exact e
  · have e := congrFun (Value.blocks5 m c (t.cast N_0.symm) (flush0_5 _)) i
    rw [Value.flushed5, View.read_apply, (step ..).2.1] at e; exact e
  · have e := congrFun (Value.blocks6 m c (t.cast N_0.symm) (flush0_6 _)) i
    rw [Value.flushed6, View.read_apply, (step ..).2.2] at e; exact e

theorem algebraic : Cert.algebraic_Kernel27Ideal_Reference27Ideal (hKernel27Ideal := Cert.Kernel27Ideal.Gen.facts) (hReference27Ideal := Cert.Reference27Ideal.Gen.facts) := by
  intro m g m' g' _ hm
  refine ⟨fun c => (dats m 0 c).arrAt 4 cfg0.N, fun c => (dats m 0 c).arrAt 5 cfg0.N, fun c => (dats m 0 c).arrAt 6 cfg0.N,
    Cert.Kernel27Ideal.Value.run_blocks m g, ?_⟩
  refine (θ_run _ _ _).mono (fun r h c => ?_) (Cert.Reference27Ideal.Value.run m' g')
  obtain ⟨h0, h1, h2, rest⟩ := h c
  obtain ⟨a0, a1, a2, a3⟩ := hm c
  rw [a0, a1, a2, a3] at h0
  rw [a1, a2] at h1
  rw [a1, a3] at h2
  obtain ⟨k0, k1, k2⟩ := arrays m c
  exact ⟨h0.trans k0.symm, h1.trans k1.symm, h2.trans k2.symm, rest⟩

theorem frame_reference : Cert.quiescent_Reference27Ideal (hReference27Ideal := Cert.Reference27Ideal.Gen.facts) := fun m ρ _ =>
  (θ_run Cert.Reference27Ideal.defs _ _).mono (fun r h => ⟨fun c => (h c).2.2.2, sem_eq_zero_of_no_sems (by decide) r.2⟩)
    (Cert.Reference27Ideal.Value.run (F := Ideal) m ρ)

end Cert.Kernel27Ideal.Val
end
-- ==== Proof.Adam28.lean ====
/-
  AdamW on one layer of the MLP's weights: the kernel's three arrays are the reference's.
-/
module

public import proofs.«01_k».proof.Defs
public import proofs.«01_k».proof.Proof.Adam
public import proofs.«01_k».proof.Proof.Gen.Kernel28Ideal.Value
public import proofs.«01_k».proof.Proof.Gen.Reference28Ideal.Run
public import Idealize.ShloMosaic.Lib.KernelVsHost

@[expose] public section

set_option maxRecDepth 16384

noncomputable section

namespace Cert.Kernel28Ideal.Val

open Cert.Kernel28Ideal Cert.Kernel28Ideal.Gen Idealize.ShloMosaic Idealize.ShloMosaic.TcCoe Idealize.SL.Sem Cert.Gating

variable (m : (ℓ : Loc nD τ sig) → Buf (Elt Ideal) ℓ) (c : Dev nD)

/-- An argument as a table of rows. -/
abbrev rows (x : S4x1024x1024.Idx → EReal) : S4096x1024.Idx → EReal := shapeCast S4096x1024 x shapeCasts_S4x1024x1024_S4096x1024
abbrev argW : S4096x1024.Idx → EReal := rows (m ((c : Thread nD τ).loc main_arg0))
abbrev argG : S4096x1024.Idx → EReal := rows (m ((c : Thread nD τ).loc main_arg1))
abbrev argM : S4096x1024.Idx → EReal := rows (m ((c : Thread nD τ).loc main_arg2))
abbrev argV : S4096x1024.Idx → EReal := rows (m ((c : Thread nD τ).loc main_arg3))

theorem staged : V m c main_v0 = argW m c ∧ V m c main_v1 = argG m c ∧ V m c main_v2 = argM m c ∧ V m c main_v3 = argV m c := by
  unfold V; simp only [hostOps0, List.flatten_cons, List.flatten_nil, List.append_nil, List.cons_append, List.nil_append]
  refine ⟨?_, ?_, ?_, ?_⟩ <;> (after_results; rfl)

/-- The windows of the results go down the rows. -/
theorem index : ∀ t : Fin cfg0.N, (win0_4.index t 0 = t.val ∧ win0_4.index t 1 = 0) ∧ (win0_5.index t 0 = t.val ∧ win0_5.index t 1 = 0) ∧ (win0_6.index t 0 = t.val ∧ win0_6.index t 1 = 0) :=
  (by decide +kernel : ∀ t : Fin grid0.N, (win0_4.index t 0 = t.val ∧ win0_4.index t 1 = 0) ∧ (win0_5.index t 0 = t.val ∧ win0_5.index t 1 = 0) ∧ (win0_6.index t 0 = t.val ∧ win0_6.index t 1 = 0))

/-- What the body makes of its four blocks. -/
theorem step (x0 x1 x2 x3 : Vec Ideal S512x1024 .f32) :
    out0_4 x0 x1 x2 x3 = Adam.Delta x0 x1 x2 x3 ∧ out0_5 x0 x1 x2 x3 = Adam.M1 x1 x2 ∧ out0_6 x0 x1 x2 x3 = Adam.M2 x1 x3 := by
  unfold out0_4 out0_5 out0_6
  simp only [View.canon_unit_zero (S := S512x1024) Product.zero2, View.ld_unit_zero (S := S512x1024) Product.zero2, k0_pay4, k0_pay3, k0_pay2, k0_pay1, shapeCast_id]
  exact ⟨rfl, rfl, rfl⟩

/-- The three arrays at the end. -/
theorem arrays : (dats m 0 c).arrAt 4 cfg0.N = Adam.Delta (argW m c) (argG m c) (argM m c) (argV m c)
    ∧ (dats m 0 c).arrAt 5 cfg0.N = Adam.M1 (argG m c) (argM m c) ∧ (dats m 0 c).arrAt 6 cfg0.N = Adam.M2 (argG m c) (argV m c) := by
  obtain ⟨e0, e1, e2, e3⟩ := staged m c
  rw [← e0, ← e1, ← e2, ← e3]
  refine Adam.of_steps 512 8 (by decide) rfl _ _ _ _ _ _ _ (fun t => ((cfg0.win 4).blk (t.cast N_0.symm)).view.emb)
    (fun t => ((cfg0.win 5).blk (t.cast N_0.symm)).view.emb) (fun t => ((cfg0.win 6).blk (t.cast N_0.symm)).view.emb)
    (fun t i => ?_) (fun t i => ?_) (fun t i => ?_) (fun t i => ?_) (fun t i => ?_)
  · have a := index (t.cast N_0.symm)
    exact ⟨congrArg (· * 512 + 1 * (i 0).val) a.1.1, congrArg (· * 512 + 1 * (i 0).val) a.2.1.1, congrArg (· * 512 + 1 * (i 0).val) a.2.2.1⟩
  · have a := index (t.cast N_0.symm)
    exact ⟨congrArg (· * 1024 + 1 * (i 1).val) a.1.2, congrArg (· * 1024 + 1 * (i 1).val) a.2.1.2, congrArg (· * 1024 + 1 * (i 1).val) a.2.2.2⟩
  · have e := congrFun (Value.blocks4 m c (t.cast N_0.symm) (flush0_4 _)) i
    rw [Value.flushed4, View.read_apply, (step ..).1] at e; exact e
  · have e := congrFun (Value.blocks5 m c (t.cast N_0.symm) (flush0_5 _)) i
    rw [Value.flushed5, View.read_apply, (step ..).2.1] at e; exact e
  · have e := congrFun (Value.blocks6 m c (t.cast N_0.symm) (flush0_6 _)) i
    rw [Value.flushed6, View.read_apply, (step ..).2.2] at e; exact e

theorem algebraic : Cert.algebraic_Kernel28Ideal_Reference28Ideal (hKernel28Ideal := Cert.Kernel28Ideal.Gen.facts) (hReference28Ideal := Cert.Reference28Ideal.Gen.facts) := by
  intro m g m' g' _ hm
  refine ⟨fun c => (dats m 0 c).arrAt 4 cfg0.N, fun c => (dats m 0 c).arrAt 5 cfg0.N, fun c => (dats m 0 c).arrAt 6 cfg0.N,
    Cert.Kernel28Ideal.Value.run_blocks m g, ?_⟩
  refine (θ_run _ _ _).mono (fun r h c => ?_) (Cert.Reference28Ideal.Value.run m' g')
  obtain ⟨h0, h1, h2, rest⟩ := h c
  obtain ⟨a0, a1, a2, a3⟩ := hm c
  rw [a0, a1, a2, a3] at h0
  rw [a1, a2] at h1
  rw [a1, a3] at h2
  obtain ⟨k0, k1, k2⟩ := arrays m c
  exact ⟨h0.trans k0.symm, h1.trans k1.symm, h2.trans k2.symm, rest⟩

theorem frame_reference : Cert.quiescent_Reference28Ideal (hReference28Ideal := Cert.Reference28Ideal.Gen.facts) := fun m ρ _ =>
  (θ_run Cert.Reference28Ideal.defs _ _).mono (fun r h => ⟨fun c => (h c).2.2.2, sem_eq_zero_of_no_sems (by decide) r.2⟩)
    (Cert.Reference28Ideal.Value.run (F := Ideal) m ρ)

end Cert.Kernel28Ideal.Val
end
-- ==== Proof.Adam29.lean ====
/-
  AdamW on the output projection's weights: the kernel's three arrays are the reference's.
-/
module

public import proofs.«01_k».proof.Defs
public import proofs.«01_k».proof.Proof.Adam
public import proofs.«01_k».proof.Proof.Gen.Kernel29Ideal.Value
public import proofs.«01_k».proof.Proof.Gen.Reference29Ideal.Run
public import Idealize.ShloMosaic.Lib.KernelVsHost

@[expose] public section

set_option maxRecDepth 16384

noncomputable section

namespace Cert.Kernel29Ideal.Val

open Cert.Kernel29Ideal Cert.Kernel29Ideal.Gen Idealize.ShloMosaic Idealize.ShloMosaic.TcCoe Idealize.SL.Sem Cert.Gating

variable (m : (ℓ : Loc nD τ sig) → Buf (Elt Ideal) ℓ) (c : Dev nD)

/-- An argument as a table of rows. -/
abbrev rows (x : S4x256x1024.Idx → EReal) : S1024x1024.Idx → EReal := shapeCast S1024x1024 x shapeCasts_S4x256x1024_S1024x1024
abbrev argW : S1024x1024.Idx → EReal := rows (m ((c : Thread nD τ).loc main_arg0))
abbrev argG : S1024x1024.Idx → EReal := rows (m ((c : Thread nD τ).loc main_arg1))
abbrev argM : S1024x1024.Idx → EReal := rows (m ((c : Thread nD τ).loc main_arg2))
abbrev argV : S1024x1024.Idx → EReal := rows (m ((c : Thread nD τ).loc main_arg3))

theorem staged : V m c main_v0 = argW m c ∧ V m c main_v1 = argG m c ∧ V m c main_v2 = argM m c ∧ V m c main_v3 = argV m c := by
  unfold V; simp only [hostOps0, List.flatten_cons, List.flatten_nil, List.append_nil, List.cons_append, List.nil_append]
  refine ⟨?_, ?_, ?_, ?_⟩ <;> (after_results; rfl)

/-- The windows of the results go down the rows. -/
theorem index : ∀ t : Fin cfg0.N, (win0_4.index t 0 = t.val ∧ win0_4.index t 1 = 0) ∧ (win0_5.index t 0 = t.val ∧ win0_5.index t 1 = 0) ∧ (win0_6.index t 0 = t.val ∧ win0_6.index t 1 = 0) :=
  (by decide +kernel : ∀ t : Fin grid0.N, (win0_4.index t 0 = t.val ∧ win0_4.index t 1 = 0) ∧ (win0_5.index t 0 = t.val ∧ win0_5.index t 1 = 0) ∧ (win0_6.index t 0 = t.val ∧ win0_6.index t 1 = 0))

/-- What the body makes of its four blocks. -/
theorem step (x0 x1 x2 x3 : Vec Ideal S512x1024 .f32) :
    out0_4 x0 x1 x2 x3 = Adam.Delta x0 x1 x2 x3 ∧ out0_5 x0 x1 x2 x3 = Adam.M1 x1 x2 ∧ out0_6 x0 x1 x2 x3 = Adam.M2 x1 x3 := by
  unfold out0_4 out0_5 out0_6
  simp only [View.canon_unit_zero (S := S512x1024) Product.zero2, View.ld_unit_zero (S := S512x1024) Product.zero2, k0_pay4, k0_pay3, k0_pay2, k0_pay1, shapeCast_id]
  exact ⟨rfl, rfl, rfl⟩

/-- The three arrays at the end. -/
theorem arrays : (dats m 0 c).arrAt 4 cfg0.N = Adam.Delta (argW m c) (argG m c) (argM m c) (argV m c)
    ∧ (dats m 0 c).arrAt 5 cfg0.N = Adam.M1 (argG m c) (argM m c) ∧ (dats m 0 c).arrAt 6 cfg0.N = Adam.M2 (argG m c) (argV m c) := by
  obtain ⟨e0, e1, e2, e3⟩ := staged m c
  rw [← e0, ← e1, ← e2, ← e3]
  refine Adam.of_steps 512 2 (by decide) rfl _ _ _ _ _ _ _ (fun t => ((cfg0.win 4).blk (t.cast N_0.symm)).view.emb)
    (fun t => ((cfg0.win 5).blk (t.cast N_0.symm)).view.emb) (fun t => ((cfg0.win 6).blk (t.cast N_0.symm)).view.emb)
    (fun t i => ?_) (fun t i => ?_) (fun t i => ?_) (fun t i => ?_) (fun t i => ?_)
  · have a := index (t.cast N_0.symm)
    exact ⟨congrArg (· * 512 + 1 * (i 0).val) a.1.1, congrArg (· * 512 + 1 * (i 0).val) a.2.1.1, congrArg (· * 512 + 1 * (i 0).val) a.2.2.1⟩
  · have a := index (t.cast N_0.symm)
    exact ⟨congrArg (· * 1024 + 1 * (i 1).val) a.1.2, congrArg (· * 1024 + 1 * (i 1).val) a.2.1.2, congrArg (· * 1024 + 1 * (i 1).val) a.2.2.2⟩
  · have e := congrFun (Value.blocks4 m c (t.cast N_0.symm) (flush0_4 _)) i
    rw [Value.flushed4, View.read_apply, (step ..).1] at e; exact e
  · have e := congrFun (Value.blocks5 m c (t.cast N_0.symm) (flush0_5 _)) i
    rw [Value.flushed5, View.read_apply, (step ..).2.1] at e; exact e
  · have e := congrFun (Value.blocks6 m c (t.cast N_0.symm) (flush0_6 _)) i
    rw [Value.flushed6, View.read_apply, (step ..).2.2] at e; exact e

theorem algebraic : Cert.algebraic_Kernel29Ideal_Reference29Ideal (hKernel29Ideal := Cert.Kernel29Ideal.Gen.facts) (hReference29Ideal := Cert.Reference29Ideal.Gen.facts) := by
  intro m g m' g' _ hm
  refine ⟨fun c => (dats m 0 c).arrAt 4 cfg0.N, fun c => (dats m 0 c).arrAt 5 cfg0.N, fun c => (dats m 0 c).arrAt 6 cfg0.N,
    Cert.Kernel29Ideal.Value.run_blocks m g, ?_⟩
  refine (θ_run _ _ _).mono (fun r h c => ?_) (Cert.Reference29Ideal.Value.run m' g')
  obtain ⟨h0, h1, h2, rest⟩ := h c
  obtain ⟨a0, a1, a2, a3⟩ := hm c
  rw [a0, a1, a2, a3] at h0
  rw [a1, a2] at h1
  rw [a1, a3] at h2
  obtain ⟨k0, k1, k2⟩ := arrays m c
  exact ⟨h0.trans k0.symm, h1.trans k1.symm, h2.trans k2.symm, rest⟩

theorem frame_reference : Cert.quiescent_Reference29Ideal (hReference29Ideal := Cert.Reference29Ideal.Gen.facts) := fun m ρ _ =>
  (θ_run Cert.Reference29Ideal.defs _ _).mono (fun r h => ⟨fun c => (h c).2.2.2, sem_eq_zero_of_no_sems (by decide) r.2⟩)
    (Cert.Reference29Ideal.Value.run (F := Ideal) m ρ)

end Cert.Kernel29Ideal.Val
end
-- ==== Proof.Adam30.lean ====
/-
  AdamW on the scales of the residual stream's norms: the kernel's three arrays are the reference's.
-/
module

public import proofs.«01_k».proof.Defs
public import proofs.«01_k».proof.Proof.Adam
public import proofs.«01_k».proof.Proof.Gen.Kernel30Ideal.Value
public import proofs.«01_k».proof.Proof.Gen.Reference30Ideal.Run
public import Idealize.ShloMosaic.Lib.KernelVsHost

@[expose] public section

set_option maxRecDepth 16384

noncomputable section

namespace Cert.Kernel30Ideal.Val

open Cert.Kernel30Ideal Cert.Kernel30Ideal.Gen Idealize.ShloMosaic Idealize.ShloMosaic.TcCoe Idealize.SL.Sem Cert.Gating

variable (m : (ℓ : Loc nD τ sig) → Buf (Elt Ideal) ℓ) (c : Dev nD)

/-- An argument as a table of rows. -/
abbrev rows (x : S4x4x256.Idx → EReal) : S16x256.Idx → EReal := shapeCast S16x256 x shapeCasts_S4x4x256_S16x256
abbrev argW : S16x256.Idx → EReal := rows (m ((c : Thread nD τ).loc main_arg0))
abbrev argG : S16x256.Idx → EReal := rows (m ((c : Thread nD τ).loc main_arg1))
abbrev argM : S16x256.Idx → EReal := rows (m ((c : Thread nD τ).loc main_arg2))
abbrev argV : S16x256.Idx → EReal := rows (m ((c : Thread nD τ).loc main_arg3))

theorem staged : V m c main_v0 = argW m c ∧ V m c main_v1 = argG m c ∧ V m c main_v2 = argM m c ∧ V m c main_v3 = argV m c := by
  unfold V; simp only [hostOps0, List.flatten_cons, List.flatten_nil, List.append_nil, List.cons_append, List.nil_append]
  refine ⟨?_, ?_, ?_, ?_⟩ <;> (after_results; rfl)

/-- The windows of the results go down the rows. -/
theorem index : ∀ t : Fin cfg0.N, (win0_4.index t 0 = t.val ∧ win0_4.index t 1 = 0) ∧ (win0_5.index t 0 = t.val ∧ win0_5.index t 1 = 0) ∧ (win0_6.index t 0 = t.val ∧ win0_6.index t 1 = 0) :=
  (by decide +kernel : ∀ t : Fin grid0.N, (win0_4.index t 0 = t.val ∧ win0_4.index t 1 = 0) ∧ (win0_5.index t 0 = t.val ∧ win0_5.index t 1 = 0) ∧ (win0_6.index t 0 = t.val ∧ win0_6.index t 1 = 0))

/-- What the body makes of its four blocks. -/
theorem step (x0 x1 x2 x3 : Vec Ideal S16x256 .f32) :
    out0_4 x0 x1 x2 x3 = Adam.Delta x0 x1 x2 x3 ∧ out0_5 x0 x1 x2 x3 = Adam.M1 x1 x2 ∧ out0_6 x0 x1 x2 x3 = Adam.M2 x1 x3 := by
  unfold out0_4 out0_5 out0_6
  simp only [View.canon_unit_zero (S := S16x256) Product.zero2, View.ld_unit_zero (S := S16x256) Product.zero2, k0_pay4, k0_pay3, k0_pay2, k0_pay1, shapeCast_id]
  exact ⟨rfl, rfl, rfl⟩

/-- The three arrays at the end. -/
theorem arrays : (dats m 0 c).arrAt 4 cfg0.N = Adam.Delta (argW m c) (argG m c) (argM m c) (argV m c)
    ∧ (dats m 0 c).arrAt 5 cfg0.N = Adam.M1 (argG m c) (argM m c) ∧ (dats m 0 c).arrAt 6 cfg0.N = Adam.M2 (argG m c) (argV m c) := by
  obtain ⟨e0, e1, e2, e3⟩ := staged m c
  rw [← e0, ← e1, ← e2, ← e3]
  refine Adam.of_steps 16 1 (by decide) rfl _ _ _ _ _ _ _ (fun t => ((cfg0.win 4).blk (t.cast N_0.symm)).view.emb)
    (fun t => ((cfg0.win 5).blk (t.cast N_0.symm)).view.emb) (fun t => ((cfg0.win 6).blk (t.cast N_0.symm)).view.emb)
    (fun t i => ?_) (fun t i => ?_) (fun t i => ?_) (fun t i => ?_) (fun t i => ?_)
  · have a := index (t.cast N_0.symm)
    exact ⟨congrArg (· * 16 + 1 * (i 0).val) a.1.1, congrArg (· * 16 + 1 * (i 0).val) a.2.1.1, congrArg (· * 16 + 1 * (i 0).val) a.2.2.1⟩
  · have a := index (t.cast N_0.symm)
    exact ⟨congrArg (· * 256 + 1 * (i 1).val) a.1.2, congrArg (· * 256 + 1 * (i 1).val) a.2.1.2, congrArg (· * 256 + 1 * (i 1).val) a.2.2.2⟩
  · have e := congrFun (Value.blocks4 m c (t.cast N_0.symm) (flush0_4 _)) i
    rw [Value.flushed4, View.read_apply, (step ..).1] at e; exact e
  · have e := congrFun (Value.blocks5 m c (t.cast N_0.symm) (flush0_5 _)) i
    rw [Value.flushed5, View.read_apply, (step ..).2.1] at e; exact e
  · have e := congrFun (Value.blocks6 m c (t.cast N_0.symm) (flush0_6 _)) i
    rw [Value.flushed6, View.read_apply, (step ..).2.2] at e; exact e

theorem algebraic : Cert.algebraic_Kernel30Ideal_Reference30Ideal (hKernel30Ideal := Cert.Kernel30Ideal.Gen.facts) (hReference30Ideal := Cert.Reference30Ideal.Gen.facts) := by
  intro m g m' g' _ hm
  refine ⟨fun c => (dats m 0 c).arrAt 4 cfg0.N, fun c => (dats m 0 c).arrAt 5 cfg0.N, fun c => (dats m 0 c).arrAt 6 cfg0.N,
    Cert.Kernel30Ideal.Value.run_blocks m g, ?_⟩
  refine (θ_run _ _ _).mono (fun r h c => ?_) (Cert.Reference30Ideal.Value.run m' g')
  obtain ⟨h0, h1, h2, rest⟩ := h c
  obtain ⟨a0, a1, a2, a3⟩ := hm c
  rw [a0, a1, a2, a3] at h0
  rw [a1, a2] at h1
  rw [a1, a3] at h2
  obtain ⟨k0, k1, k2⟩ := arrays m c
  exact ⟨h0.trans k0.symm, h1.trans k1.symm, h2.trans k2.symm, rest⟩

theorem frame_reference : Cert.quiescent_Reference30Ideal (hReference30Ideal := Cert.Reference30Ideal.Gen.facts) := fun m ρ _ =>
  (θ_run Cert.Reference30Ideal.defs _ _).mono (fun r h => ⟨fun c => (h c).2.2.2, sem_eq_zero_of_no_sems (by decide) r.2⟩)
    (Cert.Reference30Ideal.Value.run (F := Ideal) m ρ)

end Cert.Kernel30Ideal.Val
end
-- ==== Proof.Adam31.lean ====
/-
  AdamW on the input projection's biases: the kernel's three arrays are the reference's.
-/
module

public import proofs.«01_k».proof.Defs
public import proofs.«01_k».proof.Proof.Adam
public import proofs.«01_k».proof.Proof.Gen.Kernel31Ideal.Value
public import proofs.«01_k».proof.Proof.Gen.Reference31Ideal.Run
public import Idealize.ShloMosaic.Lib.KernelVsHost

@[expose] public section

set_option maxRecDepth 16384

noncomputable section

namespace Cert.Kernel31Ideal.Val

open Cert.Kernel31Ideal Cert.Kernel31Ideal.Gen Idealize.ShloMosaic Idealize.ShloMosaic.TcCoe Idealize.SL.Sem Cert.Gating

variable (m : (ℓ : Loc nD τ sig) → Buf (Elt Ideal) ℓ) (c : Dev nD)

abbrev argW : S4x7688.Idx → EReal := m ((c : Thread nD τ).loc main_arg0)
abbrev argG : S4x7688.Idx → EReal := m ((c : Thread nD τ).loc main_arg1)
abbrev argM : S4x7688.Idx → EReal := m ((c : Thread nD τ).loc main_arg2)
abbrev argV : S4x7688.Idx → EReal := m ((c : Thread nD τ).loc main_arg3)

theorem algebraic : Cert.algebraic_Kernel31Ideal_Reference31Ideal (hKernel31Ideal := Cert.Kernel31Ideal.Gen.facts) (hReference31Ideal := Cert.Reference31Ideal.Gen.facts) := by
  intro m g m' g' _ hm
  refine ⟨fun c => Adam.Delta (argW m c) (argG m c) (argM m c) (argV m c), fun c => Adam.M1 (argG m c) (argM m c),
    fun c => Adam.M2 (argG m c) (argV m c), Cert.Kernel31Ideal.Value.run m g, ?_⟩
  refine (θ_run _ _ _).mono (fun r h c => ?_) (Cert.Reference31Ideal.Value.run m' g')
  obtain ⟨h0, h1, h2, rest⟩ := h c
  obtain ⟨a0, a1, a2, a3⟩ := hm c
  rw [a0, a1, a2, a3] at h0
  rw [a1, a2] at h1
  rw [a1, a3] at h2
  exact ⟨h0, h1, h2, rest⟩

theorem frame_reference : Cert.quiescent_Reference31Ideal (hReference31Ideal := Cert.Reference31Ideal.Gen.facts) := fun m ρ _ =>
  (θ_run Cert.Reference31Ideal.defs _ _).mono (fun r h => ⟨fun c => (h c).2.2.2, sem_eq_zero_of_no_sems (by decide) r.2⟩)
    (Cert.Reference31Ideal.Value.run (F := Ideal) m ρ)

end Cert.Kernel31Ideal.Val
end
-- ==== Proof.Adam32.lean ====
/-
  AdamW on one of the gMLP's norm's two vectors: the kernel's three arrays are the reference's.
-/
module

public import proofs.«01_k».proof.Defs
public import proofs.«01_k».proof.Proof.Adam
public import proofs.«01_k».proof.Proof.Gen.Kernel32Ideal.Value
public import proofs.«01_k».proof.Proof.Gen.Reference32Ideal.Run
public import Idealize.ShloMosaic.Lib.KernelVsHost

@[expose] public section

set_option maxRecDepth 16384

noncomputable section

namespace Cert.Kernel32Ideal.Val

open Cert.Kernel32Ideal Cert.Kernel32Ideal.Gen Idealize.ShloMosaic Idealize.ShloMosaic.TcCoe Idealize.SL.Sem Cert.Gating

variable (m : (ℓ : Loc nD τ sig) → Buf (Elt Ideal) ℓ) (c : Dev nD)

abbrev argW : S4x512.Idx → EReal := m ((c : Thread nD τ).loc main_arg0)
abbrev argG : S4x512.Idx → EReal := m ((c : Thread nD τ).loc main_arg1)
abbrev argM : S4x512.Idx → EReal := m ((c : Thread nD τ).loc main_arg2)
abbrev argV : S4x512.Idx → EReal := m ((c : Thread nD τ).loc main_arg3)

theorem algebraic : Cert.algebraic_Kernel32Ideal_Reference32Ideal (hKernel32Ideal := Cert.Kernel32Ideal.Gen.facts) (hReference32Ideal := Cert.Reference32Ideal.Gen.facts) := by
  intro m g m' g' _ hm
  refine ⟨fun c => Adam.Delta (argW m c) (argG m c) (argM m c) (argV m c), fun c => Adam.M1 (argG m c) (argM m c),
    fun c => Adam.M2 (argG m c) (argV m c), Cert.Kernel32Ideal.Value.run m g, ?_⟩
  refine (θ_run _ _ _).mono (fun r h c => ?_) (Cert.Reference32Ideal.Value.run m' g')
  obtain ⟨h0, h1, h2, rest⟩ := h c
  obtain ⟨a0, a1, a2, a3⟩ := hm c
  rw [a0, a1, a2, a3] at h0
  rw [a1, a2] at h1
  rw [a1, a3] at h2
  exact ⟨h0, h1, h2, rest⟩

theorem frame_reference : Cert.quiescent_Reference32Ideal (hReference32Ideal := Cert.Reference32Ideal.Gen.facts) := fun m ρ _ =>
  (θ_run Cert.Reference32Ideal.defs _ _).mono (fun r h => ⟨fun c => (h c).2.2.2, sem_eq_zero_of_no_sems (by decide) r.2⟩)
    (Cert.Reference32Ideal.Value.run (F := Ideal) m ρ)

end Cert.Kernel32Ideal.Val
end
-- ==== Proof.Adam33.lean ====
/-
  AdamW on the spatial weights: the kernel's three arrays are the reference's.
-/
module

public import proofs.«01_k».proof.Defs
public import proofs.«01_k».proof.Proof.Adam
public import proofs.«01_k».proof.Proof.Gen.Kernel33Ideal.Value
public import proofs.«01_k».proof.Proof.Gen.Reference33Ideal.Run
public import Idealize.ShloMosaic.Lib.KernelVsHost

@[expose] public section

set_option maxRecDepth 16384

noncomputable section

namespace Cert.Kernel33Ideal.Val

open Cert.Kernel33Ideal Cert.Kernel33Ideal.Gen Idealize.ShloMosaic Idealize.ShloMosaic.TcCoe Idealize.SL.Sem Cert.Gating

variable (m : (ℓ : Loc nD τ sig) → Buf (Elt Ideal) ℓ) (c : Dev nD)

/-- An argument as a table of rows. -/
abbrev rows (x : S4x8x128x128.Idx → EReal) : S4096x128.Idx → EReal := shapeCast S4096x128 x shapeCasts_S4x8x128x128_S4096x128
abbrev argW : S4096x128.Idx → EReal := rows (m ((c : Thread nD τ).loc main_arg0))
abbrev argG : S4096x128.Idx → EReal := rows (m ((c : Thread nD τ).loc main_arg1))
abbrev argM : S4096x128.Idx → EReal := rows (m ((c : Thread nD τ).loc main_arg2))
abbrev argV : S4096x128.Idx → EReal := rows (m ((c : Thread nD τ).loc main_arg3))

theorem staged : V m c main_v0 = argW m c ∧ V m c main_v1 = argG m c ∧ V m c main_v2 = argM m c ∧ V m c main_v3 = argV m c := by
  unfold V; simp only [hostOps0, List.flatten_cons, List.flatten_nil, List.append_nil, List.cons_append, List.nil_append]
  refine ⟨?_, ?_, ?_, ?_⟩ <;> (after_results; rfl)

/-- The windows of the results go down the rows. -/
theorem index : ∀ t : Fin cfg0.N, (win0_4.index t 0 = t.val ∧ win0_4.index t 1 = 0) ∧ (win0_5.index t 0 = t.val ∧ win0_5.index t 1 = 0) ∧ (win0_6.index t 0 = t.val ∧ win0_6.index t 1 = 0) :=
  (by decide +kernel : ∀ t : Fin grid0.N, (win0_4.index t 0 = t.val ∧ win0_4.index t 1 = 0) ∧ (win0_5.index t 0 = t.val ∧ win0_5.index t 1 = 0) ∧ (win0_6.index t 0 = t.val ∧ win0_6.index t 1 = 0))

/-- What the body makes of its four blocks. -/
theorem step (x0 x1 x2 x3 : Vec Ideal S512x128 .f32) :
    out0_4 x0 x1 x2 x3 = Adam.Delta x0 x1 x2 x3 ∧ out0_5 x0 x1 x2 x3 = Adam.M1 x1 x2 ∧ out0_6 x0 x1 x2 x3 = Adam.M2 x1 x3 := by
  unfold out0_4 out0_5 out0_6
  simp only [View.canon_unit_zero (S := S512x128) Product.zero2, View.ld_unit_zero (S := S512x128) Product.zero2, k0_pay4, k0_pay3, k0_pay2, k0_pay1, shapeCast_id]
  exact ⟨rfl, rfl, rfl⟩

/-- The three arrays at the end. -/
theorem arrays : (dats m 0 c).arrAt 4 cfg0.N = Adam.Delta (argW m c) (argG m c) (argM m c) (argV m c)
    ∧ (dats m 0 c).arrAt 5 cfg0.N = Adam.M1 (argG m c) (argM m c) ∧ (dats m 0 c).arrAt 6 cfg0.N = Adam.M2 (argG m c) (argV m c) := by
  obtain ⟨e0, e1, e2, e3⟩ := staged m c
  rw [← e0, ← e1, ← e2, ← e3]
  refine Adam.of_steps 512 8 (by decide) rfl _ _ _ _ _ _ _ (fun t => ((cfg0.win 4).blk (t.cast N_0.symm)).view.emb)
    (fun t => ((cfg0.win 5).blk (t.cast N_0.symm)).view.emb) (fun t => ((cfg0.win 6).blk (t.cast N_0.symm)).view.emb)
    (fun t i => ?_) (fun t i => ?_) (fun t i => ?_) (fun t i => ?_) (fun t i => ?_)
  · have a := index (t.cast N_0.symm)
    exact ⟨congrArg (· * 512 + 1 * (i 0).val) a.1.1, congrArg (· * 512 + 1 * (i 0).val) a.2.1.1, congrArg (· * 512 + 1 * (i 0).val) a.2.2.1⟩
  · have a := index (t.cast N_0.symm)
    exact ⟨congrArg (· * 128 + 1 * (i 1).val) a.1.2, congrArg (· * 128 + 1 * (i 1).val) a.2.1.2, congrArg (· * 128 + 1 * (i 1).val) a.2.2.2⟩
  · have e := congrFun (Value.blocks4 m c (t.cast N_0.symm) (flush0_4 _)) i
    rw [Value.flushed4, View.read_apply, (step ..).1] at e; exact e
  · have e := congrFun (Value.blocks5 m c (t.cast N_0.symm) (flush0_5 _)) i
    rw [Value.flushed5, View.read_apply, (step ..).2.1] at e; exact e
  · have e := congrFun (Value.blocks6 m c (t.cast N_0.symm) (flush0_6 _)) i
    rw [Value.flushed6, View.read_apply, (step ..).2.2] at e; exact e

theorem algebraic : Cert.algebraic_Kernel33Ideal_Reference33Ideal (hKernel33Ideal := Cert.Kernel33Ideal.Gen.facts) (hReference33Ideal := Cert.Reference33Ideal.Gen.facts) := by
  intro m g m' g' _ hm
  refine ⟨fun c => (dats m 0 c).arrAt 4 cfg0.N, fun c => (dats m 0 c).arrAt 5 cfg0.N, fun c => (dats m 0 c).arrAt 6 cfg0.N,
    Cert.Kernel33Ideal.Value.run_blocks m g, ?_⟩
  refine (θ_run _ _ _).mono (fun r h c => ?_) (Cert.Reference33Ideal.Value.run m' g')
  obtain ⟨h0, h1, h2, rest⟩ := h c
  obtain ⟨a0, a1, a2, a3⟩ := hm c
  rw [a0, a1, a2, a3] at h0
  rw [a1, a2] at h1
  rw [a1, a3] at h2
  obtain ⟨k0, k1, k2⟩ := arrays m c
  exact ⟨h0.trans k0.symm, h1.trans k1.symm, h2.trans k2.symm, rest⟩

theorem frame_reference : Cert.quiescent_Reference33Ideal (hReference33Ideal := Cert.Reference33Ideal.Gen.facts) := fun m ρ _ =>
  (θ_run Cert.Reference33Ideal.defs _ _).mono (fun r h => ⟨fun c => (h c).2.2.2, sem_eq_zero_of_no_sems (by decide) r.2⟩)
    (Cert.Reference33Ideal.Value.run (F := Ideal) m ρ)

end Cert.Kernel33Ideal.Val
end
-- ==== Proof.Adam34.lean ====
/-
  AdamW on the spatial biases: the kernel's three arrays are the reference's.
-/
module

public import proofs.«01_k».proof.Defs
public import proofs.«01_k».proof.Proof.Adam
public import proofs.«01_k».proof.Proof.Gen.Kernel34Ideal.Value
public import proofs.«01_k».proof.Proof.Gen.Reference34Ideal.Run
public import Idealize.ShloMosaic.Lib.KernelVsHost

@[expose] public section

set_option maxRecDepth 16384

noncomputable section

namespace Cert.Kernel34Ideal.Val

open Cert.Kernel34Ideal Cert.Kernel34Ideal.Gen Idealize.ShloMosaic Idealize.ShloMosaic.TcCoe Idealize.SL.Sem Cert.Gating

variable (m : (ℓ : Loc nD τ sig) → Buf (Elt Ideal) ℓ) (c : Dev nD)

/-- An argument as a table of rows. -/
abbrev rows (x : S4x8x128.Idx → EReal) : S32x128.Idx → EReal := shapeCast S32x128 x shapeCasts_S4x8x128_S32x128
abbrev argW : S32x128.Idx → EReal := rows (m ((c : Thread nD τ).loc main_arg0))
abbrev argG : S32x128.Idx → EReal := rows (m ((c : Thread nD τ).loc main_arg1))
abbrev argM : S32x128.Idx → EReal := rows (m ((c : Thread nD τ).loc main_arg2))
abbrev argV : S32x128.Idx → EReal := rows (m ((c : Thread nD τ).loc main_arg3))

theorem staged : V m c main_v0 = argW m c ∧ V m c main_v1 = argG m c ∧ V m c main_v2 = argM m c ∧ V m c main_v3 = argV m c := by
  unfold V; simp only [hostOps0, List.flatten_cons, List.flatten_nil, List.append_nil, List.cons_append, List.nil_append]
  refine ⟨?_, ?_, ?_, ?_⟩ <;> (after_results; rfl)

/-- The windows of the results go down the rows. -/
theorem index : ∀ t : Fin cfg0.N, (win0_4.index t 0 = t.val ∧ win0_4.index t 1 = 0) ∧ (win0_5.index t 0 = t.val ∧ win0_5.index t 1 = 0) ∧ (win0_6.index t 0 = t.val ∧ win0_6.index t 1 = 0) :=
  (by decide +kernel : ∀ t : Fin grid0.N, (win0_4.index t 0 = t.val ∧ win0_4.index t 1 = 0) ∧ (win0_5.index t 0 = t.val ∧ win0_5.index t 1 = 0) ∧ (win0_6.index t 0 = t.val ∧ win0_6.index t 1 = 0))

/-- What the body makes of its four blocks. -/
theorem step (x0 x1 x2 x3 : Vec Ideal S32x128 .f32) :
    out0_4 x0 x1 x2 x3 = Adam.Delta x0 x1 x2 x3 ∧ out0_5 x0 x1 x2 x3 = Adam.M1 x1 x2 ∧ out0_6 x0 x1 x2 x3 = Adam.M2 x1 x3 := by
  unfold out0_4 out0_5 out0_6
  simp only [View.canon_unit_zero (S := S32x128) Product.zero2, View.ld_unit_zero (S := S32x128) Product.zero2, k0_pay4, k0_pay3, k0_pay2, k0_pay1, shapeCast_id]
  exact ⟨rfl, rfl, rfl⟩

/-- The three arrays at the end. -/
theorem arrays : (dats m 0 c).arrAt 4 cfg0.N = Adam.Delta (argW m c) (argG m c) (argM m c) (argV m c)
    ∧ (dats m 0 c).arrAt 5 cfg0.N = Adam.M1 (argG m c) (argM m c) ∧ (dats m 0 c).arrAt 6 cfg0.N = Adam.M2 (argG m c) (argV m c) := by
  obtain ⟨e0, e1, e2, e3⟩ := staged m c
  rw [← e0, ← e1, ← e2, ← e3]
  refine Adam.of_steps 32 1 (by decide) rfl _ _ _ _ _ _ _ (fun t => ((cfg0.win 4).blk (t.cast N_0.symm)).view.emb)
    (fun t => ((cfg0.win 5).blk (t.cast N_0.symm)).view.emb) (fun t => ((cfg0.win 6).blk (t.cast N_0.symm)).view.emb)
    (fun t i => ?_) (fun t i => ?_) (fun t i => ?_) (fun t i => ?_) (fun t i => ?_)
  · have a := index (t.cast N_0.symm)
    exact ⟨congrArg (· * 32 + 1 * (i 0).val) a.1.1, congrArg (· * 32 + 1 * (i 0).val) a.2.1.1, congrArg (· * 32 + 1 * (i 0).val) a.2.2.1⟩
  · have a := index (t.cast N_0.symm)
    exact ⟨congrArg (· * 128 + 1 * (i 1).val) a.1.2, congrArg (· * 128 + 1 * (i 1).val) a.2.1.2, congrArg (· * 128 + 1 * (i 1).val) a.2.2.2⟩
  · have e := congrFun (Value.blocks4 m c (t.cast N_0.symm) (flush0_4 _)) i
    rw [Value.flushed4, View.read_apply, (step ..).1] at e; exact e
  · have e := congrFun (Value.blocks5 m c (t.cast N_0.symm) (flush0_5 _)) i
    rw [Value.flushed5, View.read_apply, (step ..).2.1] at e; exact e
  · have e := congrFun (Value.blocks6 m c (t.cast N_0.symm) (flush0_6 _)) i
    rw [Value.flushed6, View.read_apply, (step ..).2.2] at e; exact e

theorem algebraic : Cert.algebraic_Kernel34Ideal_Reference34Ideal (hKernel34Ideal := Cert.Kernel34Ideal.Gen.facts) (hReference34Ideal := Cert.Reference34Ideal.Gen.facts) := by
  intro m g m' g' _ hm
  refine ⟨fun c => (dats m 0 c).arrAt 4 cfg0.N, fun c => (dats m 0 c).arrAt 5 cfg0.N, fun c => (dats m 0 c).arrAt 6 cfg0.N,
    Cert.Kernel34Ideal.Value.run_blocks m g, ?_⟩
  refine (θ_run _ _ _).mono (fun r h c => ?_) (Cert.Reference34Ideal.Value.run m' g')
  obtain ⟨h0, h1, h2, rest⟩ := h c
  obtain ⟨a0, a1, a2, a3⟩ := hm c
  rw [a0, a1, a2, a3] at h0
  rw [a1, a2] at h1
  rw [a1, a3] at h2
  obtain ⟨k0, k1, k2⟩ := arrays m c
  exact ⟨h0.trans k0.symm, h1.trans k1.symm, h2.trans k2.symm, rest⟩

theorem frame_reference : Cert.quiescent_Reference34Ideal (hReference34Ideal := Cert.Reference34Ideal.Gen.facts) := fun m ρ _ =>
  (θ_run Cert.Reference34Ideal.defs _ _).mono (fun r h => ⟨fun c => (h c).2.2.2, sem_eq_zero_of_no_sems (by decide) r.2⟩)
    (Cert.Reference34Ideal.Value.run (F := Ideal) m ρ)

end Cert.Kernel34Ideal.Val
end
-- ==== Proof.Adam35.lean ====
/-
  AdamW on the convolution's weights: the kernel's three arrays are the reference's.
-/
module

public import proofs.«01_k».proof.Defs
public import proofs.«01_k».proof.Proof.Adam
public import proofs.«01_k».proof.Proof.Gen.Kernel35Ideal.Value
public import proofs.«01_k».proof.Proof.Gen.Reference35Ideal.Run
public import Idealize.ShloMosaic.Lib.KernelVsHost

@[expose] public section

set_option maxRecDepth 16384

noncomputable section

namespace Cert.Kernel35Ideal.Val

open Cert.Kernel35Ideal Cert.Kernel35Ideal.Gen Idealize.ShloMosaic Idealize.ShloMosaic.TcCoe Idealize.SL.Sem Cert.Gating

variable (m : (ℓ : Loc nD τ sig) → Buf (Elt Ideal) ℓ) (c : Dev nD)

/-- An argument as a table of rows. -/
abbrev rows (x : S4x4x384.Idx → EReal) : S16x384.Idx → EReal := shapeCast S16x384 x shapeCasts_S4x4x384_S16x384
abbrev argW : S16x384.Idx → EReal := rows (m ((c : Thread nD τ).loc main_arg0))
abbrev argG : S16x384.Idx → EReal := rows (m ((c : Thread nD τ).loc main_arg1))
abbrev argM : S16x384.Idx → EReal := rows (m ((c : Thread nD τ).loc main_arg2))
abbrev argV : S16x384.Idx → EReal := rows (m ((c : Thread nD τ).loc main_arg3))

theorem staged : V m c main_v0 = argW m c ∧ V m c main_v1 = argG m c ∧ V m c main_v2 = argM m c ∧ V m c main_v3 = argV m c := by
  unfold V; simp only [hostOps0, List.flatten_cons, List.flatten_nil, List.append_nil, List.cons_append, List.nil_append]
  refine ⟨?_, ?_, ?_, ?_⟩ <;> (after_results; rfl)

/-- The windows of the results go down the rows. -/
theorem index : ∀ t : Fin cfg0.N, (win0_4.index t 0 = t.val ∧ win0_4.index t 1 = 0) ∧ (win0_5.index t 0 = t.val ∧ win0_5.index t 1 = 0) ∧ (win0_6.index t 0 = t.val ∧ win0_6.index t 1 = 0) :=
  (by decide +kernel : ∀ t : Fin grid0.N, (win0_4.index t 0 = t.val ∧ win0_4.index t 1 = 0) ∧ (win0_5.index t 0 = t.val ∧ win0_5.index t 1 = 0) ∧ (win0_6.index t 0 = t.val ∧ win0_6.index t 1 = 0))

/-- What the body makes of its four blocks. -/
theorem step (x0 x1 x2 x3 : Vec Ideal S16x384 .f32) :
    out0_4 x0 x1 x2 x3 = Adam.Delta x0 x1 x2 x3 ∧ out0_5 x0 x1 x2 x3 = Adam.M1 x1 x2 ∧ out0_6 x0 x1 x2 x3 = Adam.M2 x1 x3 := by
  unfold out0_4 out0_5 out0_6
  simp only [View.canon_unit_zero (S := S16x384) Product.zero2, View.ld_unit_zero (S := S16x384) Product.zero2, k0_pay4, k0_pay3, k0_pay2, k0_pay1, shapeCast_id]
  exact ⟨rfl, rfl, rfl⟩

/-- The three arrays at the end. -/
theorem arrays : (dats m 0 c).arrAt 4 cfg0.N = Adam.Delta (argW m c) (argG m c) (argM m c) (argV m c)
    ∧ (dats m 0 c).arrAt 5 cfg0.N = Adam.M1 (argG m c) (argM m c) ∧ (dats m 0 c).arrAt 6 cfg0.N = Adam.M2 (argG m c) (argV m c) := by
  obtain ⟨e0, e1, e2, e3⟩ := staged m c
  rw [← e0, ← e1, ← e2, ← e3]
  refine Adam.of_steps 16 1 (by decide) rfl _ _ _ _ _ _ _ (fun t => ((cfg0.win 4).blk (t.cast N_0.symm)).view.emb)
    (fun t => ((cfg0.win 5).blk (t.cast N_0.symm)).view.emb) (fun t => ((cfg0.win 6).blk (t.cast N_0.symm)).view.emb)
    (fun t i => ?_) (fun t i => ?_) (fun t i => ?_) (fun t i => ?_) (fun t i => ?_)
  · have a := index (t.cast N_0.symm)
    exact ⟨congrArg (· * 16 + 1 * (i 0).val) a.1.1, congrArg (· * 16 + 1 * (i 0).val) a.2.1.1, congrArg (· * 16 + 1 * (i 0).val) a.2.2.1⟩
  · have a := index (t.cast N_0.symm)
    exact ⟨congrArg (· * 384 + 1 * (i 1).val) a.1.2, congrArg (· * 384 + 1 * (i 1).val) a.2.1.2, congrArg (· * 384 + 1 * (i 1).val) a.2.2.2⟩
  · have e := congrFun (Value.blocks4 m c (t.cast N_0.symm) (flush0_4 _)) i
    rw [Value.flushed4, View.read_apply, (step ..).1] at e; exact e
  · have e := congrFun (Value.blocks5 m c (t.cast N_0.symm) (flush0_5 _)) i
    rw [Value.flushed5, View.read_apply, (step ..).2.1] at e; exact e
  · have e := congrFun (Value.blocks6 m c (t.cast N_0.symm) (flush0_6 _)) i
    rw [Value.flushed6, View.read_apply, (step ..).2.2] at e; exact e

theorem algebraic : Cert.algebraic_Kernel35Ideal_Reference35Ideal (hKernel35Ideal := Cert.Kernel35Ideal.Gen.facts) (hReference35Ideal := Cert.Reference35Ideal.Gen.facts) := by
  intro m g m' g' _ hm
  refine ⟨fun c => (dats m 0 c).arrAt 4 cfg0.N, fun c => (dats m 0 c).arrAt 5 cfg0.N, fun c => (dats m 0 c).arrAt 6 cfg0.N,
    Cert.Kernel35Ideal.Value.run_blocks m g, ?_⟩
  refine (θ_run _ _ _).mono (fun r h c => ?_) (Cert.Reference35Ideal.Value.run m' g')
  obtain ⟨h0, h1, h2, rest⟩ := h c
  obtain ⟨a0, a1, a2, a3⟩ := hm c
  rw [a0, a1, a2, a3] at h0
  rw [a1, a2] at h1
  rw [a1, a3] at h2
  obtain ⟨k0, k1, k2⟩ := arrays m c
  exact ⟨h0.trans k0.symm, h1.trans k1.symm, h2.trans k2.symm, rest⟩

theorem frame_reference : Cert.quiescent_Reference35Ideal (hReference35Ideal := Cert.Reference35Ideal.Gen.facts) := fun m ρ _ =>
  (θ_run Cert.Reference35Ideal.defs _ _).mono (fun r h => ⟨fun c => (h c).2.2.2, sem_eq_zero_of_no_sems (by decide) r.2⟩)
    (Cert.Reference35Ideal.Value.run (F := Ideal) m ρ)

end Cert.Kernel35Ideal.Val
end
-- ==== Proof.Adam36.lean ====
/-
  AdamW on the decay's logarithms: the kernel's three arrays are the reference's.
-/
module

public import proofs.«01_k».proof.Defs
public import proofs.«01_k».proof.Proof.Adam
public import proofs.«01_k».proof.Proof.Gen.Kernel36Ideal.Value
public import proofs.«01_k».proof.Proof.Gen.Reference36Ideal.Run
public import Idealize.ShloMosaic.Lib.KernelVsHost

@[expose] public section

set_option maxRecDepth 16384

noncomputable section

namespace Cert.Kernel36Ideal.Val

open Cert.Kernel36Ideal Cert.Kernel36Ideal.Gen Idealize.ShloMosaic Idealize.ShloMosaic.TcCoe Idealize.SL.Sem Cert.Gating

variable (m : (ℓ : Loc nD τ sig) → Buf (Elt Ideal) ℓ) (c : Dev nD)

abbrev argW : S4x4.Idx → EReal := m ((c : Thread nD τ).loc main_arg0)
abbrev argG : S4x4.Idx → EReal := m ((c : Thread nD τ).loc main_arg1)
abbrev argM : S4x4.Idx → EReal := m ((c : Thread nD τ).loc main_arg2)
abbrev argV : S4x4.Idx → EReal := m ((c : Thread nD τ).loc main_arg3)

theorem algebraic : Cert.algebraic_Kernel36Ideal_Reference36Ideal (hKernel36Ideal := Cert.Kernel36Ideal.Gen.facts) (hReference36Ideal := Cert.Reference36Ideal.Gen.facts) := by
  intro m g m' g' _ hm
  refine ⟨fun c => Adam.Delta (argW m c) (argG m c) (argM m c) (argV m c), fun c => Adam.M1 (argG m c) (argM m c),
    fun c => Adam.M2 (argG m c) (argV m c), Cert.Kernel36Ideal.Value.run m g, ?_⟩
  refine (θ_run _ _ _).mono (fun r h c => ?_) (Cert.Reference36Ideal.Value.run m' g')
  obtain ⟨h0, h1, h2, rest⟩ := h c
  obtain ⟨a0, a1, a2, a3⟩ := hm c
  rw [a0, a1, a2, a3] at h0
  rw [a1, a2] at h1
  rw [a1, a3] at h2
  exact ⟨h0, h1, h2, rest⟩

theorem frame_reference : Cert.quiescent_Reference36Ideal (hReference36Ideal := Cert.Reference36Ideal.Gen.facts) := fun m ρ _ =>
  (θ_run Cert.Reference36Ideal.defs _ _).mono (fun r h => ⟨fun c => (h c).2.2.2, sem_eq_zero_of_no_sems (by decide) r.2⟩)
    (Cert.Reference36Ideal.Value.run (F := Ideal) m ρ)

end Cert.Kernel36Ideal.Val
end
-- ==== Proof.Adam37.lean ====
/-
  AdamW on the scale of the heads' norm: the kernel's three arrays are the reference's.
-/
module

public import proofs.«01_k».proof.Defs
public import proofs.«01_k».proof.Proof.Adam
public import proofs.«01_k».proof.Proof.Gen.Kernel37Ideal.Value
public import proofs.«01_k».proof.Proof.Gen.Reference37Ideal.Run
public import Idealize.ShloMosaic.Lib.KernelVsHost

@[expose] public section

set_option maxRecDepth 16384

noncomputable section

namespace Cert.Kernel37Ideal.Val

open Cert.Kernel37Ideal Cert.Kernel37Ideal.Gen Idealize.ShloMosaic Idealize.ShloMosaic.TcCoe Idealize.SL.Sem Cert.Gating

variable (m : (ℓ : Loc nD τ sig) → Buf (Elt Ideal) ℓ) (c : Dev nD)

abbrev argW : S4x128.Idx → EReal := m ((c : Thread nD τ).loc main_arg0)
abbrev argG : S4x128.Idx → EReal := m ((c : Thread nD τ).loc main_arg1)
abbrev argM : S4x128.Idx → EReal := m ((c : Thread nD τ).loc main_arg2)
abbrev argV : S4x128.Idx → EReal := m ((c : Thread nD τ).loc main_arg3)

theorem algebraic : Cert.algebraic_Kernel37Ideal_Reference37Ideal (hKernel37Ideal := Cert.Kernel37Ideal.Gen.facts) (hReference37Ideal := Cert.Reference37Ideal.Gen.facts) := by
  intro m g m' g' _ hm
  refine ⟨fun c => Adam.Delta (argW m c) (argG m c) (argM m c) (argV m c), fun c => Adam.M1 (argG m c) (argM m c),
    fun c => Adam.M2 (argG m c) (argV m c), Cert.Kernel37Ideal.Value.run m g, ?_⟩
  refine (θ_run _ _ _).mono (fun r h c => ?_) (Cert.Reference37Ideal.Value.run m' g')
  obtain ⟨h0, h1, h2, rest⟩ := h c
  obtain ⟨a0, a1, a2, a3⟩ := hm c
  rw [a0, a1, a2, a3] at h0
  rw [a1, a2] at h1
  rw [a1, a3] at h2
  exact ⟨h0, h1, h2, rest⟩

theorem frame_reference : Cert.quiescent_Reference37Ideal (hReference37Ideal := Cert.Reference37Ideal.Gen.facts) := fun m ρ _ =>
  (θ_run Cert.Reference37Ideal.defs _ _).mono (fun r h => ⟨fun c => (h c).2.2.2, sem_eq_zero_of_no_sems (by decide) r.2⟩)
    (Cert.Reference37Ideal.Value.run (F := Ideal) m ρ)

end Cert.Kernel37Ideal.Val
end
-- ==== Proof.Gmlp38.lean ====
/-
  The gMLP gating unit, forward: the kernel's array is the reference's. A point's values are those the gradient's kernel
  recomputes, so what is proved of them there is used here.
-/
module

public import proofs.«01_k».proof.Defs
public import proofs.«01_k».proof.Proof.KPoint
public import proofs.«01_k».proof.Proof.RVal
public import proofs.«01_k».proof.Proof.Rms
public import proofs.«01_k».proof.Proof.Gen.Kernel38Ideal.Value
public import proofs.«01_k».proof.Proof.Gen.Reference38Ideal.Run
public import proofs.«01_k».proof.Proof.Gen.Reference38Ideal.Read
public import Idealize.ShloMosaic.Lib.KernelVsHost

@[expose] public section

set_option maxRecDepth 16384

noncomputable section

namespace Cert.Kernel38Ideal.Val

open Cert.Kernel38Ideal Cert.Kernel38Ideal.Gen Idealize.ShloMosaic Idealize.ShloMosaic.TcCoe Idealize.SL.Sem Cert.Gating
open Cert.KernelIdeal.Out (cA cB rV wM bM prow V21 V21_at V178 V178_at0 V178_at1)

variable (m : (ℓ : Loc nD τ sig) → Buf (Elt Ideal) ℓ) (c : Dev nD)

abbrev argP : (⟨2, ![8192, 8192]⟩ : Shape).Idx → EReal := m ((c : Thread nD τ).loc main_arg0)
abbrev argG : (⟨1, ![512]⟩ : Shape).Idx → EReal := m ((c : Thread nD τ).loc main_arg1)
abbrev argB : (⟨1, ![512]⟩ : Shape).Idx → EReal := m ((c : Thread nD τ).loc main_arg2)
abbrev argW : (⟨3, ![8, 128, 128]⟩ : Shape).Idx → EReal := m ((c : Thread nD τ).loc main_arg3)
abbrev argS : (⟨2, ![8, 128]⟩ : Shape).Idx → EReal := m ((c : Thread nD τ).loc main_arg4)

/-- The unit's output at position `t` of a chunk. -/
def unit (A B : Fin 128 → Fin 512 → EReal) (g b : Fin 512 → EReal) (w : Fin 8 → Fin 128 → Fin 128 → EReal) (bs : Fin 8 → Fin 128 → EReal)
    (t : Fin 128) (k : Fin 512) : EReal := gelu (A t k) * mix B g b w bs t k

/-! ## A grid point -/

section Point
variable (x0 : Vec Ideal S256x1024 .f32) (x1 x2 : Vec Ideal S1x512 .f32) (x3 : Vec Ideal S8x128x128 .f32) (x4 : Vec Ideal S128x128 .f32)

/-- Both kernels hold the same normed half. -/
theorem normed : k0_pay24 x0 x1 x2 x3 x4 = Cert.KernelIdeal.Out.V57 x0 x1 x2 x3 x4 (fun _ => 0) := by
  unfold k0_pay24
  rw [View.ld_unit_zero (S := S256x1024) Product.zero2, View.ld_unit_zero (S := S1x512) Product.zero2, View.ld_unit_zero (S := S1x512) Product.zero2]
  rfl
/-- Both kernels hold the same bias, spread over the channels. -/
theorem spread : k0_pay11 (k0_pay4 x4) = Cert.KernelIdeal.Out.V93 x0 x1 x2 x3 x4 (fun _ => 0) := rfl

theorem step : out0_5 x0 x1 x2 x3 x4 = fun i => V21 x0 x1 x2 x3 x4 (fun _ => 0) i * V178 x0 x1 x2 x3 x4 (fun _ => 0) i := by
  unfold out0_5
  rw [View.canon_unit_zero (S := S256x512) Product.zero2, View.ld_unit_zero (S := S128x128) Product.zero2, View.ld_unit_zero (S := S256x1024) Product.zero2,
    spread x0 x1 x2 x3 x4, normed]
  unfold k0_pay27 k0_pay26 k0_pay25
  rw [View.ld_unit_zero (S := S8x128x128) (by decide)]
  rfl

theorem step_at (h : Fin 2) (t : Fin 128) (k : Fin 512) :
    out0_5 x0 x1 x2 x3 x4 (ix2 (prow h t) k) = unit (cA x0 h) (cB x0 h) (rV x1) (rV x2) (wM x3) (bM x4) t k := by
  rw [step]
  unfold unit
  refine congrArg₂ (· * ·) (V21_at ..) ?_
  match h with
  | ⟨0, _⟩ => exact V178_at0 ..
  | ⟨1, _⟩ => exact V178_at1 ..
end Point

/-! ## The blocks of a point -/

theorem index : ∀ t : Fin cfg0.N, (win0_0.index t 0 = t.val ∧ win0_0.index t 1 = 2) ∧ (win0_1.index t 0 = 0 ∧ win0_1.index t 1 = 0) ∧ (win0_2.index t 0 = 0 ∧ win0_2.index t 1 = 0) ∧ (win0_3.index t 0 = 0 ∧ win0_3.index t 1 = 0 ∧ win0_3.index t 2 = 0) ∧ (win0_4.index t 0 = 0 ∧ win0_4.index t 1 = 0) ∧ (win0_5.index t 0 = t.val ∧ win0_5.index t 1 = 0) :=
  (by decide +kernel : ∀ t : Fin grid0.N, (win0_0.index t 0 = t.val ∧ win0_0.index t 1 = 2) ∧ (win0_1.index t 0 = 0 ∧ win0_1.index t 1 = 0) ∧ (win0_2.index t 0 = 0 ∧ win0_2.index t 1 = 0) ∧ (win0_3.index t 0 = 0 ∧ win0_3.index t 1 = 0 ∧ win0_3.index t 2 = 0) ∧ (win0_4.index t 0 = 0 ∧ win0_4.index t 1 = 0) ∧ (win0_5.index t 0 = t.val ∧ win0_5.index t 1 = 0))

theorem staged : V m c main_v0 = shapeCast S1x512 (argG m c) shapeCasts_S512_S1x512 ∧ V m c main_v1 = shapeCast S1x512 (argB m c) shapeCasts_S512_S1x512
    ∧ V m c main_v3 = pad S128x128 ![0, 0] ![0, 120] ![0, 0] (transpose S128x8 [1, 0] (argS m c) transposes_S8x128_S128x8_1_0)
      (sitofp (F := Ideal) .f32 (constantI S_ 32 0#32)) pads_S128x8_S128x128_000_01200 h_S_ := by
  unfold V; simp only [hostOps0, hostOps0_1, List.flatten_cons, List.flatten_nil, List.append_nil, List.cons_append, List.nil_append]
  refine ⟨?_, ?_, ?_⟩ <;> (after_results; rfl)

theorem lt32 (t : Fin cfg0.N) : t.val < 32 := lt_of_lt_of_eq t.isLt (show cfg0.N = 32 from N_0)

abbrev b0 (t : Fin cfg0.N) : Vec Ideal S256x1024 .f32 := iblk m c 0 t
abbrev b1 (t : Fin cfg0.N) : Vec Ideal S1x512 .f32 := iblk m c 1 t
abbrev b2 (t : Fin cfg0.N) : Vec Ideal S1x512 .f32 := iblk m c 2 t
abbrev b3 (t : Fin cfg0.N) : Vec Ideal S8x128x128 .f32 := iblk m c 3 t
abbrev b4 (t : Fin cfg0.N) : Vec Ideal S128x128 .f32 := iblk m c 4 t

/-- Chunk `h` of grid point `t`. -/
def chunk (t : Fin cfg0.N) (h : Fin 2) : Fin 64 := ⟨2 * t.val + h.val, by have := lt32 t; omega⟩

theorem b0_at (t : Fin cfg0.N) (h : Fin 2) (r : Fin 128) (k : Fin 1024) :
    b0 m c t (ix2 (prow h r) k) = argP m c (ix2 (pos (chunk t h) r) ⟨2048 + k.val, by omega⟩) := by
  unfold b0 iblk
  rw [View.read_apply]
  show V m c main_arg0 _ = _
  rw [V_main_arg0]
  refine Product.at2 (argP m c) _ _ _ ?_ ?_
  · show win0_0.index t 0 * 256 + 1 * (128 * h.val + r.val) = 128 * (2 * t.val + h.val) + r.val; rw [(index t).1.1]; omega
  · show win0_0.index t 1 * 1024 + 1 * k.val = 2048 + k.val; rw [(index t).1.2]; omega
theorem b1_at (t : Fin cfg0.N) (k : Fin 512) : b1 m c t (ix2 0 k) = argG m c (ix1 k) := by
  have e : b1 m c t (ix2 0 k) = V m c main_v0 (ix2 0 k) := by
    unfold b1 iblk
    rw [View.read_apply]
    refine Product.at2 (V m c main_v0) _ _ _ ?_ ?_
    · show win0_1.index t 0 * 1 + 1 * 0 = 0; rw [(index t).2.1.1]
    · show win0_1.index t 1 * 512 + 1 * k.val = k.val; rw [(index t).2.1.2]; omega
  rw [e, (staged m c).1]; pointwise
theorem b2_at (t : Fin cfg0.N) (k : Fin 512) : b2 m c t (ix2 0 k) = argB m c (ix1 k) := by
  have e : b2 m c t (ix2 0 k) = V m c main_v1 (ix2 0 k) := by
    unfold b2 iblk
    rw [View.read_apply]
    refine Product.at2 (V m c main_v1) _ _ _ ?_ ?_
    · show win0_2.index t 0 * 1 + 1 * 0 = 0; rw [(index t).2.2.1.1]
    · show win0_2.index t 1 * 512 + 1 * k.val = k.val; rw [(index t).2.2.1.2]; omega
  rw [e, (staged m c).2.1]; pointwise
theorem b3_at (t : Fin cfg0.N) (h : Fin 8) (r k : Fin 128) : b3 m c t (ix3 h r k) = argW m c (ix3 h r k) := by
  unfold b3 iblk
  rw [View.read_apply]
  show V m c main_arg3 _ = _
  rw [V_main_arg3]
  unfold argW
  congr 1
  funext a
  apply Fin.ext
  match a with
  | ⟨0, _⟩ => show win0_3.index t 0 * 8 + 1 * h.val = h.val; rw [(index t).2.2.2.1.1]; omega
  | ⟨1, _⟩ => show win0_3.index t 1 * 128 + 1 * r.val = r.val; rw [(index t).2.2.2.1.2.1]; omega
  | ⟨2, _⟩ => show win0_3.index t 2 * 128 + 1 * k.val = k.val; rw [(index t).2.2.2.1.2.2]; omega
theorem b4_at (t : Fin cfg0.N) (r : Fin 128) (h : Fin 8) : b4 m c t (ix2 r ⟨h.val, by omega⟩) = argS m c (ix2 h r) := by
  have e : b4 m c t (ix2 r ⟨h.val, by omega⟩) = V m c main_v3 (ix2 r ⟨h.val, by omega⟩) := by
    unfold b4 iblk
    rw [View.read_apply]
    refine Product.at2 (V m c main_v3) _ _ _ ?_ ?_
    · show win0_4.index t 0 * 128 + 1 * r.val = r.val; rw [(index t).2.2.2.2.1.1]; omega
    · show win0_4.index t 1 * 128 + 1 * h.val = h.val; rw [(index t).2.2.2.2.1.2]; omega
  rw [e, (staged m c).2.2]
  refine (pad_apply_of_inside _ _ _ _ _ _ _ _ (ix2 r h : S128x8.Idx) ?_).trans ?_
  · intro a; match a with
    | ⟨0, _⟩ => show r.val = 0 + r.val * (0 + 1); omega
    | ⟨1, _⟩ => show h.val = 0 + h.val * (0 + 1); omega
  · pointwise

/-- The unit on chunk `i` of the arguments. -/
def res (p : (⟨2, ![8192, 8192]⟩ : Shape).Idx → EReal) (g b : (⟨1, ![512]⟩ : Shape).Idx → EReal) (w : (⟨3, ![8, 128, 128]⟩ : Shape).Idx → EReal)
    (bs : (⟨2, ![8, 128]⟩ : Shape).Idx → EReal) (i : Fin 64) (t : Fin 128) (k : Fin 512) : EReal :=
  unit (wA p i) (wB p i) (wg g) (wg b) (ww w) (wbs bs) t k

theorem kernel_at (t : Fin cfg0.N) (h : Fin 2) (r : Fin 128) (k : Fin 512) :
    (dats m 0 c).arrAt 5 cfg0.N (ix2 (pos (chunk t h) r) k : S8192x512.Idx)
      = res (argP m c) (argG m c) (argB m c) (argW m c) (argS m c) (chunk t h) r k := by
  have e := congrFun (Value.blocks5 m c t (flush0_5 t)) (ix2 (prow h r) k : S256x512.Idx)
  rw [Value.flushed5 m c t, View.read_apply] at e
  refine Eq.trans (Product.at2 ((dats m 0 c).arrAt 5 cfg0.N) _ _ _ ?_ ?_).symm (e.trans ((step_at ..).trans ?_))
  · show win0_5.index t 0 * 256 + 1 * (128 * h.val + r.val) = 128 * (2 * t.val + h.val) + r.val; rw [(index t).2.2.2.2.2.1]; omega
  · show win0_5.index t 1 * 512 + 1 * k.val = k.val; rw [(index t).2.2.2.2.2.2]; omega
  · unfold res
    rw [show cA (b0 m c t) h = wA (argP m c) (chunk t h) from funext fun r => funext fun k => b0_at m c t h r ⟨k.val, by omega⟩,
      show cB (b0 m c t) h = wB (argP m c) (chunk t h) from funext fun r => funext fun k => by
        refine (b0_at m c t h r ⟨512 + k.val, by omega⟩).trans (Product.at2 (argP m c) _ _ _ rfl ?_)
        show 2048 + (512 + k.val) = 2560 + k.val; omega,
      show rV (b1 m c t) = wg (argG m c) from funext fun k => b1_at m c t k,
      show rV (b2 m c t) = wg (argB m c) from funext fun k => b2_at m c t k,
      show wM (b3 m c t) = ww (argW m c) from funext fun h => funext fun r => funext fun k => b3_at m c t h r k,
      show bM (b4 m c t) = wbs (argS m c) from funext fun h => funext fun r => b4_at m c t r h]

/-! ## The reference -/

section Reference
open Cert.Reference38Ideal.Read
variable (x0 : (⟨2, ![8192, 8192]⟩ : Shape).Idx → EReal) (x1 x2 : (⟨1, ![512]⟩ : Shape).Idx → EReal)
  (x3 : (⟨3, ![8, 128, 128]⟩ : Shape).Idx → EReal) (x4 : (⟨2, ![8, 128]⟩ : Shape).Idx → EReal)

theorem v9_at (r : Fin 8192) (k : Fin 512) : val_main_v9 (F := Ideal) x0 (ix2 r k) = gelu (x0 (ix2 r ⟨2048 + k.val, by omega⟩)) := by
  unfold gelu
  pointwise [val_main_v9, val_main_v3, val_main_v2, val_main_cst, val_main_v0, val_main_v8, val_main_v7, val_main_cst_1, val_main_v6, val_main_v5, val_main_v4, val_main_cst_0]
/-- Row `r` of the mixed half after gelu. -/
def R (r : Fin 8192) (k : Fin 512) : EReal := gelu (x0 (ix2 r ⟨2560 + k.val, by omega⟩))
theorem v17_at (r : Fin 8192) (k : Fin 512) : val_main_v17 (F := Ideal) x0 (ix2 r k) = R x0 r k := by
  unfold R gelu
  pointwise [val_main_v17, val_main_v11, val_main_v10, val_main_cst_2, val_main_v1, val_main_v16, val_main_v15, val_main_cst_4, val_main_v14, val_main_v13, val_main_v12, val_main_cst_3]
theorem v23_at (r : Fin 8192) (k : Fin 512) : val_main_v23 (F := Ideal) x0 (ix2 r k) = xc (R x0 r) k := by
  unfold xc mean
  pointwise [val_main_v23, val_main_v22, val_main_v21, val_main_v20, val_main_v19, val_main_v18, val_main_cst_5, val_main_cst_6, v17_at]
theorem v31_at (r : Fin 8192) : val_main_v31 (F := Ideal) x0 (ix2 r 0) = rs (R x0 r) := by
  unfold rs var
  pointwise [val_main_v31, val_main_v30, val_main_v29, val_main_v28, val_main_v27, val_main_v26, val_main_v25, val_main_v24, val_main_cst_7, val_main_cst_8, val_main_cst_9, v23_at]
theorem v33_at (r : Fin 8192) (k : Fin 512) : val_main_v33 (F := Ideal) x0 (ix2 r k) = xh (R x0 r) k := by
  unfold xh
  pointwise [val_main_v33, val_main_v32, v23_at, v31_at]
theorem v39_at (r : Fin 8192) (k : Fin 512) : val_main_v39 (F := Ideal) x0 x1 x2 (ix2 r k) = nv (R x0 r) (wg x1) (wg x2) k := by
  unfold nv wg
  pointwise [val_main_v39, val_main_v38, val_main_v37, val_main_v36, val_main_v35, val_main_v34, v33_at]
theorem v40_at (i : Fin 64) (t : Fin 128) (h : Fin 8) (l : Fin 64) : val_main_v40 (F := Ideal) x0 x1 x2 (ix4 i t h l)
    = nv (R x0 (pos i t)) (wg x1) (wg x2) (col h l) := by
  rw [← v39_at]
  pointwise [val_main_v40]
  congr 2
  · exact Fin.ext (by show i.val * 128 + t.val = 128 * i.val + t.val; omega)
  · exact Fin.ext (by show h.val * 64 + l.val = 64 * h.val + l.val; omega)
theorem v44_at (h : Fin 8) (t s : Fin 128) : val_main_v44 (F := Ideal) x3 (ix3 h t s) = cw (ww x3) h t s := by
  pointwise [val_main_v44, val_main_call1_v1, val_main_v43, val_main_v42, val_main_call0_v5, val_main_call0_c_0, val_main_call0_v4, val_main_call0_v3, val_main_call0_v2, val_main_call0_v1, val_main_call0_c, val_main_call0_v0, val_main_v41, val_main_c, val_main_call1_v2, val_main_call1_v0, val_main_c_10]
  rw [Cert.ReferenceIdeal.Val.causal_at, Cert.ReferenceIdeal.Val.select_ite, Cert.ReferenceIdeal.Val.sitofp_zero]; rfl
theorem v52_at (i : Fin 64) (t : Fin 128) (h : Fin 8) (l : Fin 64) : val_main_v52 (F := Ideal) x0 x1 x2 x3 x4 (ix2 (pos i t) (col h l))
    = mix (wB x0 i) (wg x1) (wg x2) (ww x3) (wbs x4) t (col h l) := by
  have e : val_main_v52 (F := Ideal) x0 x1 x2 x3 x4 (ix2 (pos i t) (col h l)) = val_main_v51 (F := Ideal) x0 x1 x2 x3 x4 (ix4 i t h l) := by
    pointwise [val_main_v52, pos, col]
  rw [e]
  unfold mix
  rw [grp_col]
  have e2 : val_main_v51 (F := Ideal) x0 x1 x2 x3 x4 (ix4 i t h l)
      = (∑ s, nv (R x0 (pos i s)) (wg x1) (wg x2) (col h l) * cw (ww x3) h t s) + x4 (ix2 h t) := by
    pointwise [val_main_v51, val_main_v46, val_main_v45, v40_at, v44_at, val_main_v50, val_main_v49, val_main_v48, val_main_v47]
  rw [e2]
  congr 1
  exact Finset.sum_congr rfl fun s _ => mul_comm _ _
theorem reference_at (i : Fin 64) (t : Fin 128) (h : Fin 8) (l : Fin 64) :
    val_main_v54 (F := Ideal) x0 x1 x2 x3 x4 (ix2 (pos i t) (col h l)) = res x0 x1 x2 x3 x4 i t (col h l) := by
  unfold res unit
  rw [← v52_at]
  pointwise [val_main_v54, val_main_v53, v9_at, wA]
end Reference

/-! ## The two meet -/

theorem meet : Cert.Reference38Ideal.Read.val_main_v54 (F := Ideal) (argP m c) (argG m c) (argB m c) (argW m c) (argS m c) = (dats m 0 c).arrAt 5 cfg0.N := by
  refine Product.ext2 _ _ fun r k => ?_
  obtain ⟨i, t, rfl⟩ : ∃ (i : Fin 64) (t : Fin 128), r = pos i t :=
    ⟨⟨r.val / 128, by omega⟩, ⟨r.val % 128, by omega⟩, Fin.ext (by show r.val = 128 * (r.val / 128) + r.val % 128; omega)⟩
  obtain ⟨h, l, rfl⟩ : ∃ (h : Fin 8) (l : Fin 64), k = col h l :=
    ⟨⟨k.val / 64, by omega⟩, ⟨k.val % 64, by omega⟩, Fin.ext (by show k.val = 64 * (k.val / 64) + k.val % 64; omega)⟩
  obtain ⟨n, b, rfl⟩ : ∃ (n : Fin cfg0.N) (b : Fin 2), i = chunk n b :=
    ⟨⟨i.val / 2, lt_of_lt_of_eq (show i.val / 2 < 32 by omega) (show cfg0.N = 32 from N_0).symm⟩, ⟨i.val % 2, by omega⟩,
      Fin.ext (by show i.val = 2 * (i.val / 2) + i.val % 2; omega)⟩
  exact (reference_at ..).trans (kernel_at m c n b t (col h l)).symm

theorem same {x0 x0' : (⟨2, ![8192, 8192]⟩ : Shape).Idx → EReal} {x1 x1' x2 x2' : (⟨1, ![512]⟩ : Shape).Idx → EReal}
    {x3 x3' : (⟨3, ![8, 128, 128]⟩ : Shape).Idx → EReal} {x4 x4' : (⟨2, ![8, 128]⟩ : Shape).Idx → EReal}
    (e0 : x0' = x0) (e1 : x1' = x1) (e2 : x2' = x2) (e3 : x3' = x3) (e4 : x4' = x4) :
    Cert.Reference38Ideal.Read.val_main_v54 (F := Ideal) x0' x1' x2' x3' x4' = Cert.Reference38Ideal.Read.val_main_v54 (F := Ideal) x0 x1 x2 x3 x4 := by
  subst e0 e1 e2 e3 e4; rfl

theorem algebraic : Cert.algebraic_Kernel38Ideal_Reference38Ideal (hKernel38Ideal := Cert.Kernel38Ideal.Gen.facts) (hReference38Ideal := Cert.Reference38Ideal.Gen.facts) := by
  intro m g m' g' _ hm
  refine ⟨fun c => (dats m 0 c).arrAt 5 cfg0.N, Cert.Kernel38Ideal.Value.run_blocks m g, ?_⟩
  refine (θ_run _ _ _).mono (fun r h c => ?_) (Cert.Reference38Ideal.Value.run m' g')
  obtain ⟨h0, rest⟩ := h c
  obtain ⟨a0, a1, a2, a3, a4⟩ := hm c
  exact ⟨h0.trans ((Cert.Reference38Ideal.Read.val_main_v54_eq _ _).trans ((same a0 a1 a2 a3 a4).trans (meet m c))), rest⟩

theorem frame_reference : Cert.quiescent_Reference38Ideal (hReference38Ideal := Cert.Reference38Ideal.Gen.facts) := fun m ρ _ =>
  (θ_run Cert.Reference38Ideal.defs _ _).mono (fun r h => ⟨fun c => (h c).2, sem_eq_zero_of_no_sems (by decide) r.2⟩)
    (Cert.Reference38Ideal.Value.run (F := Ideal) m ρ)

end Cert.Kernel38Ideal.Val
end
-- ==== Proof.Conv39.lean ====
/-
  The inputs of the delta rule: what they are, and the reference's entries.
-/
module

public import proofs.«01_k».proof.Defs
public import proofs.«01_k».proof.Proof.RVal
public import proofs.«01_k».proof.Proof.Forward
public import proofs.«01_k».proof.Proof.Rms
public import proofs.«01_k».proof.Proof.Gen.Kernel39Ideal.Value
public import proofs.«01_k».proof.Proof.Gen.Reference39Ideal.Run
public import proofs.«01_k».proof.Proof.Gen.Reference39Ideal.Read
public import Idealize.ShloMosaic.Lib.KernelVsHost

@[expose] public section

set_option maxRecDepth 16384

noncomputable section

namespace Cert.Kernel39Ideal.Val

open Cert.Kernel39Ideal Cert.Kernel39Ideal.Gen Idealize.ShloMosaic Idealize.ShloMosaic.TcCoe Idealize.SL.Sem Cert.Gating

def silu (x : EReal) : EReal := x * Ideal.logistic x
/-- The convolution's four products; `a d` is the entry `d` rows above. -/
def taps (w a : Fin 4 → EReal) : EReal := w 0 * a 3 + w 1 * a 2 + w 2 * a 1 + w 3 * a 0
abbrev eps : EReal := Ideal.ofBits .f32 0x358637BD#32
/-- A head divided by its length. -/
def unit (x : Fin 128 → EReal) (k : Fin 128) : EReal := x k * Ideal.rsqrt ((∑ l, x l * x l) + eps)
/-- The logarithm of one plus the exponential. -/
def softplus (y : EReal) : EReal := max y 0 + Ideal.log1p (Ideal.exp (-(FloatOps.absf (F := Ideal) (φ := FTy.f32) y : EReal)))
def decay (a y : EReal) : EReal := -Ideal.exp a * softplus y

/-- The entry `d` rows above row `r`; above the first row stand zeros. -/
def above (P : (⟨2, ![8192, 8192]⟩ : Shape).Idx → EReal) (r : Fin 8192) (k : Fin 1536) (d : Fin 4) : EReal :=
  if h : d.val ≤ r.val then P (ix2 ⟨r.val - d.val, by omega⟩ ⟨k.val, by omega⟩) else 0
/-- The convolution's output, activated. -/
def act (P : (⟨2, ![8192, 8192]⟩ : Shape).Idx → EReal) (W : (⟨2, ![4, 1536]⟩ : Shape).Idx → EReal) (r : Fin 8192) (k : Fin 1536) : EReal :=
  silu (taps (fun n => W (ix2 n k)) (above P r k))

theorem four (h : Fin 4) : h = 0 ∨ h = 1 ∨ h = 2 ∨ h = 3 := by omega
theorem head_cases (k : Fin 512) : ∃ (h : Fin 4) (l : Fin 128), k = ⟨h.val * 128 + l.val, by omega⟩ :=
  ⟨⟨k.val / 128, by omega⟩, ⟨k.val % 128, by omega⟩, Fin.ext (by dsimp only; omega)⟩

/-! ## The reference -/

section
open Cert.Reference39Ideal.Read
variable (x0 : (⟨2, ![8192, 8192]⟩ : Shape).Idx → EReal) (x1 : (⟨2, ![4, 1536]⟩ : Shape).Idx → EReal) (x2 x3 : (⟨1, ![4]⟩ : Shape).Idx → EReal)

theorem v2_at (r : Fin 8195) (k : Fin 1536) : val_main_v2 (F := Ideal) x0 (ix2 r k) = if h : r.val < 3 then 0 else x0 (ix2 ⟨r.val - 3, by omega⟩ ⟨k.val, by omega⟩) := by
  pointwise [val_main_v2, val_main_v1, val_main_v0, val_main_cst]
/-- Three rows of zeros stand before the array: row `r + s` of the two is row `r + s - 3` of the array. -/
theorem shifted (r : Fin 8192) (k : Fin 1536) (d : Fin 4) (s : ℕ) (e : s + d.val = 3) :
    val_main_v2 (F := Ideal) x0 (ix2 ⟨s + r.val, by omega⟩ k) = above x0 r k d := by
  rw [v2_at]; unfold above
  by_cases h : d.val ≤ r.val
  · rw [dif_pos h, dif_neg (by dsimp only; omega)]
    exact congrArg x0 (congrArg (ix2 · _) (Fin.ext (by dsimp only; omega)))
  · rw [dif_neg h, dif_pos (by dsimp only; omega)]
theorem v29_at (r : Fin 8192) (k : Fin 1536) : val_main_v29 (F := Ideal) x0 x1 (ix2 r k) = taps (fun n => x1 (ix2 n k)) (above x0 r k) := by
  unfold taps
  rw [← shifted x0 r k 3 0 rfl, ← shifted x0 r k 2 1 rfl, ← shifted x0 r k 1 2 rfl, ← shifted x0 r k 0 3 rfl]
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3]
theorem v30_at (r : Fin 8192) (k : Fin 1536) : val_main_v30 (F := Ideal) x0 x1 (ix2 r k) = act x0 x1 r k := by
  unfold act silu Ideal.logistic
  rw [← v29_at]
  pointwise [val_main_v30, val_main_call0_v0, val_main_call0_v1, val_main_call0_v2, val_main_call0_v3, val_main_call0_v4, val_main_call0_v5, val_main_call0_cst, val_main_call0_cst_0]
theorem q_ref (r : Fin 8192) (h : Fin 4) (l : Fin 128) : val_main_v41 (F := Ideal) x0 x1 (ix2 r ⟨h.val * 128 + l.val, by omega⟩)
    = unit (fun l => act x0 x1 r ⟨h.val * 128 + l.val, by omega⟩) l := by
  unfold unit
  simp only [← v30_at]
  pointwise [val_main_v41, val_main_v40, val_main_v39, val_main_v38, val_main_v37, val_main_v36, val_main_v35, val_main_v34, val_main_v33, val_main_v32, val_main_v31, val_main_cst_0, val_main_cst_1]
theorem k_ref (r : Fin 8192) (h : Fin 4) (l : Fin 128) : val_main_v52 (F := Ideal) x0 x1 (ix2 r ⟨h.val * 128 + l.val, by omega⟩)
    = unit (fun l => act x0 x1 r ⟨512 + (h.val * 128 + l.val), by omega⟩) l := by
  unfold unit
  simp only [← v30_at]
  pointwise [val_main_v52, val_main_v51, val_main_v50, val_main_v49, val_main_v48, val_main_v47, val_main_v46, val_main_v45, val_main_v44, val_main_v43, val_main_v42, val_main_cst_2, val_main_cst_3]
theorem v_ref (r : Fin 8192) (k : Fin 512) : val_main_v70 (F := Ideal) x0 x1 (ix2 r k) = act x0 x1 r ⟨1024 + k.val, by omega⟩ := by
  rw [← v30_at]
  pointwise [val_main_v70]
theorem beta_ref (r : Fin 8192) (h : Fin 4) (l : Fin 128) : val_main_v73 (F := Ideal) x0 (ix2 r ⟨h.val * 128 + l.val, by omega⟩)
    = Ideal.logistic (x0 (ix2 r ⟨1536 + h.val, by omega⟩)) := by
  unfold Ideal.logistic
  pointwise [val_main_v73, val_main_v72, val_main_v71, val_main_v59, val_main_v58, val_main_v57, val_main_v56, val_main_v55, val_main_v54, val_main_v53, val_main_cst_4, val_main_cst_5]
theorem v66_at (r : Fin 8192) (h : Fin 4) : val_main_v66 (F := Ideal) x0 x3 (ix2 r h) = softplus (x0 (ix2 r ⟨1540 + h.val, by omega⟩) + x3 (ix1 h)) := by
  unfold softplus
  have e : val_main_call1_v4 (F := Ideal) x0 x3 (ix2 r h) = 0#1 := by
    show Ideal.cmp .une _ _ = _
    simp [Ideal.cmp]
  have e' : val_main_v66 (F := Ideal) x0 x3 (ix2 r h) = val_main_call1_v11 (F := Ideal) x0 x3 (ix2 r h) := by
    show Scalar.select (val_main_call1_v4 (F := Ideal) x0 x3 (ix2 r h)) _ _ = _
    rw [e]; rfl
  rw [e']
  pointwise [val_main_call1_v11, val_main_call1_v10, val_main_call1_v9, val_main_call1_v8, val_main_call1_v7, val_main_call1_v3, val_main_call1_v2, val_main_call1_v1, val_main_call1_v0, val_main_call1_cst, val_main_v65, val_main_v64, val_main_v63, val_main_v62]
theorem g_ref (r : Fin 8192) (h : Fin 4) (l : Fin 128) : val_main_v76 (F := Ideal) x0 x2 x3 (ix2 r ⟨h.val * 128 + l.val, by omega⟩)
    = decay (x2 (ix1 h)) (x0 (ix2 r ⟨1540 + h.val, by omega⟩) + x3 (ix1 h)) := by
  unfold decay
  rw [← v66_at]
  pointwise [val_main_v76, val_main_v75, val_main_v74, val_main_v69, val_main_v68, val_main_v67, val_main_v61, val_main_v60]
end
end Cert.Kernel39Ideal.Val
end
-- ==== Proof.Step39.lean ====
/-
  The inputs of the delta rule: what one step of the kernel leaves.
-/
module

public import proofs.«01_k».proof.Proof.Conv39

@[expose] public section

set_option maxRecDepth 16384

noncomputable section

namespace Cert.Kernel39Ideal.Val

open Cert.Kernel39Ideal Cert.Kernel39Ideal.Gen Idealize.ShloMosaic Idealize.ShloMosaic.TcCoe Idealize.SL.Sem Cert.Gating

/-- Rows rolled down by `n` below eight rows of another array: the row `n` above, from the other array if need be. -/
theorem rolled (r : Fin 256) (n : ℕ) (hn : n ≤ 3) (f : Fin 8 → EReal) (g : Fin 256 → EReal) :
    (if h : (8 + r.val + 264 - n) % 264 < 8 then f ⟨(8 + r.val + 264 - n) % 264, h⟩ else g ⟨(8 + r.val + 264 - n) % 264 - 8, by omega⟩)
      = if h : n ≤ r.val then g ⟨r.val - n, by omega⟩ else f ⟨8 + r.val - n, by omega⟩ := by
  by_cases h : n ≤ r.val
  · rw [dif_pos h, dif_neg (by omega)]; exact congrArg g (Fin.ext (by dsimp only; omega))
  · rw [dif_neg h, dif_pos (by omega)]; exact congrArg f (Fin.ext (by dsimp only; omega))

/-- The entry `d` rows above row `r` of a block, out of the eight rows before the block if need be. -/
def back (i : grid0.Coords) (x0 : Vec Ideal S256x2048 .f32) (x1 : Vec Ideal S8x2048 .f32) (r : Fin 256) (k : Fin 1536) (d : Fin 4) : EReal :=
  if h : d.val ≤ r.val then x0 (ix2 ⟨r.val - d.val, by omega⟩ ⟨k.val, by omega⟩)
  else Scalar.select (Scalar.cmpi CmpIPredicate.eq (BitVec.ofNat 32 (i 0).val) 0#32) (0 : EReal) (x1 (ix2 ⟨8 + r.val - d.val, by omega⟩ ⟨k.val, by omega⟩))

theorem regroup (w0 w1 w2 w3 a0 a1 a2 a3 b0 b1 b2 b3 : EReal) (e0 : a0 = b0) (e1 : a1 = b1) (e2 : a2 = b2) (e3 : a3 = b3) :
    w3 * a0 + w0 * a3 + w1 * a2 + w2 * a1 = w0 * b3 + w1 * b2 + w2 * b1 + w3 * b0 := by
  subst e0 e1 e2 e3; ac_rfl

theorem pay4_at (i : grid0.Coords) (x0 : Vec Ideal S256x2048 .f32) (x1 : Vec Ideal S8x2048 .f32) (x2 : Vec Ideal S4x1536 .f32) (r : Fin 256) (k : Fin 1536) :
    k0_pay4 i x1 x2 x0 (ix2 r k) = silu (taps (fun n => x2 (ix2 n k)) (back i x0 x1 r k)) := by
  pointwise [k0_pay4]
  show silu _ = silu _
  refine congrArg silu (regroup _ _ _ _ _ _ _ _ _ _ _ _ ?_ ?_ ?_ ?_)
  · rfl
  · exact rolled r 1 (by omega) (fun a => Scalar.select (Scalar.cmpi CmpIPredicate.eq (BitVec.ofNat 32 (i 0).val) 0#32) (0 : EReal) (x1 (ix2 a ⟨k.val, by omega⟩))) (fun a => x0 (ix2 a ⟨k.val, by omega⟩))
  · exact rolled r 2 (by omega) (fun a => Scalar.select (Scalar.cmpi CmpIPredicate.eq (BitVec.ofNat 32 (i 0).val) 0#32) (0 : EReal) (x1 (ix2 a ⟨k.val, by omega⟩))) (fun a => x0 (ix2 a ⟨k.val, by omega⟩))
  · exact rolled r 3 (by omega) (fun a => Scalar.select (Scalar.cmpi CmpIPredicate.eq (BitVec.ofNat 32 (i 0).val) 0#32) (0 : EReal) (x1 (ix2 a ⟨k.val, by omega⟩))) (fun a => x0 (ix2 a ⟨k.val, by omega⟩))

/-- The head a column belongs to, as the program computes it. -/
abbrev column (k : Fin 512) : BitVec 32 :=
  Scalar.select
    (IntOp.andi
      (IntOp.cmpi CmpIPredicate.ne
        (IntOp.subi (BitVec.setWidth 32 (IntOp.cmpi CmpIPredicate.sgt (BitVec.ofNat 32 k.val) 0#32))
          (BitVec.setWidth 32 (IntOp.cmpi CmpIPredicate.slt (BitVec.ofNat 32 k.val) 0#32)))
        (Scalar.subi (Scalar.extui (Scalar.cmpi CmpIPredicate.sgt 128#32 0#32)) (Scalar.extui (Scalar.cmpi CmpIPredicate.slt 128#32 0#32))))
      (IntOp.cmpi CmpIPredicate.ne (IntOp.remsi ArithUnit.vector (BitVec.ofNat 32 k.val) 128#32) 0#32))
    (IntOp.subi (IntOp.divsi ArithUnit.vector (BitVec.ofNat 32 k.val) 128#32) 1#32)
    (IntOp.divsi ArithUnit.vector (BitVec.ofNat 32 k.val) 128#32)
theorem column_eq : ∀ k : Fin 512, column k = BitVec.ofNat 32 (k.val / 128) := by decide +kernel

/-- The entry of the 0/1 array that spreads column `h + n` over head `h`. -/
theorem spread_at (x : Fin 128) (h : Fin 4) (l : Fin 128) (n : Fin 5) :
    (FloatOps.sitofp FTy.f32 (BitVec.setWidth 32 (IntOp.cmpi CmpIPredicate.eq (BitVec.ofNat 32 x.val) (IntOp.addi (column ⟨h.val * 128 + l.val, by omega⟩) (BitVec.ofNat 32 n.val)))) : Ideal .f32)
      = if x = ⟨h.val + n.val, by omega⟩ then (1 : EReal) else 0 := by
  rw [column_eq, show (h.val * 128 + l.val) / 128 = h.val by omega]
  have e : ∀ (x : Fin 128) (h : Fin 4) (n : Fin 5), BitVec.setWidth 32 (IntOp.cmpi CmpIPredicate.eq (BitVec.ofNat 32 x.val) (IntOp.addi (BitVec.ofNat 32 h.val) (BitVec.ofNat 32 n.val)))
      = if x.val = h.val + n.val then 1#32 else 0#32 := by decide +kernel
  rw [e]
  by_cases hx : x.val = h.val + n.val
  · rw [if_pos hx, if_pos (Fin.ext hx)]; simp [FloatOps.sitofp]
  · rw [if_neg hx, if_neg (fun e => hx (congrArg Fin.val e))]; simp [FloatOps.sitofp]
theorem spread_sum (f : Fin 128 → EReal) (h : Fin 4) (l : Fin 128) (n : Fin 5) :
    (∑ x : Fin 128, f x * (FloatOps.sitofp FTy.f32 (BitVec.setWidth 32 (IntOp.cmpi CmpIPredicate.eq (BitVec.ofNat 32 x.val) (IntOp.addi (column ⟨h.val * 128 + l.val, by omega⟩) (BitVec.ofNat 32 n.val)))) : Ideal .f32))
      = f ⟨h.val + n.val, by omega⟩ := by
  rw [Finset.sum_eq_single (⟨h.val + n.val, by omega⟩ : Fin 128)]
  · rw [spread_at, if_pos rfl]; exact mul_one _
  · intro x _ hx; rw [spread_at, if_neg hx]; exact mul_zero _
  · intro hx; exact absurd (Finset.mem_univ _) hx

theorem beta_at (x0 : Vec Ideal S256x2048 .f32) (r : Fin 256) (h : Fin 4) (l : Fin 128) :
    k0_pay19 (k0_pay14 x0) (iota .tc S128x512 32 [0] iota_S128x512_d0_w32) (iota .tc S128x512 32 [1] iota_S128x512_d1_w32) 128#32 k0_pay16 k0_pay17 k0_pay18 (ix2 r ⟨h.val * 128 + l.val, by omega⟩)
      = Ideal.logistic (x0 (ix2 r ⟨1536 + h.val, by omega⟩)) := by
  pointwise [k0_pay19, k0_pay14, k0_pay13, k0_pay16, k0_pay17, k0_pay18]
  exact spread_sum (fun x => Ideal.logistic (x0 (ix2 r ⟨1536 + x.val, by omega⟩))) h l 0
theorem pay15_at (x0 : Vec Ideal S256x2048 .f32) (x3 x4 : Vec Ideal S1x128 .f32) (r : Fin 256) (k : Fin 128) :
    k0_pay15 (k0_pay2 x3) (k0_pay3 x4) x0 (ix2 r k) = decay (x3 (ix2 0 k)) (x0 (ix2 r ⟨1536 + k.val, by omega⟩) + x4 (ix2 0 k)) := by
  unfold decay softplus
  rw [← zero_sub (Ideal.exp (x3 (ix2 0 k))), ← zero_sub (FloatOps.absf (F := Ideal) (φ := FTy.f32) _ : EReal)]
  pointwise [k0_pay15, k0_pay13, k0_pay2, k0_pay3]
theorem g_at (x0 : Vec Ideal S256x2048 .f32) (x3 x4 : Vec Ideal S1x128 .f32) (r : Fin 256) (h : Fin 4) (l : Fin 128) :
    k0_pay1 (k0_pay15 (k0_pay2 x3) (k0_pay3 x4) x0) (iota .tc S128x512 32 [0] iota_S128x512_d0_w32) k0_pay20 k0_pay21 k0_pay22 (ix2 r ⟨h.val * 128 + l.val, by omega⟩)
      = decay (x3 (ix2 0 ⟨h.val + 4, by omega⟩)) (x0 (ix2 r ⟨1536 + (h.val + 4), by omega⟩) + x4 (ix2 0 ⟨h.val + 4, by omega⟩)) := by
  rw [← pay15_at]
  generalize k0_pay15 (F := Ideal) (k0_pay2 x3) (k0_pay3 x4) x0 = y
  pointwise [k0_pay1, k0_pay20, k0_pay21, k0_pay22]
  exact spread_sum (fun x => y (ix2 r x)) h l 4

/-- A head of one of the three parts of the activated block. -/
theorem q_at (i : grid0.Coords) (x0 : Vec Ideal S256x2048 .f32) (x1 : Vec Ideal S8x2048 .f32) (x2 : Vec Ideal S4x1536 .f32) (r : Fin 256) (h : Fin 4) (l : Fin 128) :
    k0_pay7 (k0_pay4 i x1 x2 x0) (k0_pay5 i x1 x2 x0) (k0_pay6 i x1 x2 x0) (ix2 r ⟨h.val * 128 + l.val, by omega⟩)
      = unit (fun l => k0_pay4 i x1 x2 x0 (ix2 r ⟨h.val * 128 + l.val, by omega⟩)) l := by
  unfold unit k0_pay7 k0_pay6 k0_pay5
  generalize k0_pay4 (F := Ideal) i x1 x2 x0 = y
  have e2 : 256 + l.val - 128 - 128 = l.val := by omega
  have e3 : 384 + l.val - 128 - 128 - 128 = l.val := by omega
  rcases four h with rfl | rfl | rfl | rfl <;>
  · pointwise
    try (split_ifs <;> first | (exfalso; omega) | ((try simp only [e2, e3]) <;> rfl))
theorem k_at (y : FVec Ideal S256x1536 .f32) (r : Fin 256) (h : Fin 4) (l : Fin 128) :
    k0_pay11 y (k0_pay8 y) (k0_pay9 y) (k0_pay10 y) (ix2 r ⟨h.val * 128 + l.val, by omega⟩)
      = unit (fun l => y (ix2 r ⟨512 + (h.val * 128 + l.val), by omega⟩)) l := by
  unfold unit k0_pay11 k0_pay10 k0_pay9 k0_pay8
  have e2 : 256 + l.val - 128 - 128 = l.val := by omega
  have e3 : 384 + l.val - 128 - 128 - 128 = l.val := by omega
  rcases four h with rfl | rfl | rfl | rfl <;>
  · pointwise
    try ((try split_ifs) <;> first | (exfalso; omega) | rfl | ((try simp only [e2, e3]) <;> (try simp only [← Nat.add_assoc, Nat.reduceAdd]) <;> rfl))
theorem v_at (y : FVec Ideal S256x1536 .f32) (r : Fin 256) (h : Fin 4) (l : Fin 128) :
    k0_pay12 y (ix2 r ⟨h.val * 128 + l.val, by omega⟩) = y (ix2 r ⟨1024 + (h.val * 128 + l.val), by omega⟩) := by
  have e2 : 256 + l.val - 128 - 128 = l.val := by omega
  have e3 : 384 + l.val - 128 - 128 - 128 = l.val := by omega
  rcases four h with rfl | rfl | rfl | rfl <;>
  · pointwise [k0_pay12]
    try ((try split_ifs) <;> first | (exfalso; omega) | rfl | ((try simp only [e2, e3]) <;> (try simp only [← Nat.add_assoc, Nat.reduceAdd]) <;> rfl))

/-! ## The five pieces of a step -/

section
variable (i : grid0.Coords) (x0 : Vec Ideal S256x2048 .f32) (x1 : Vec Ideal S8x2048 .f32) (x2 : Vec Ideal S4x1536 .f32) (x3 x4 : Vec Ideal S1x128 .f32) (r : Fin 256) (h : Fin 4) (l : Fin 128)

/-- The activated convolution of a block. -/
abbrev blockAct (k : Fin 1536) : EReal := silu (taps (fun n => x2 (ix2 n k)) (back i x0 x1 r k))

theorem step5 : out0_5 i x0 x1 x2 x3 x4 (ix2 r ⟨h.val * 128 + l.val, by omega⟩) = unit (fun l => blockAct i x0 x1 x2 r ⟨h.val * 128 + l.val, by omega⟩) l := by
  unfold out0_5 k0_pay23
  rw [View.canon_unit_zero Product.zero2]
  simp only [View.ld_unit_zero (S := S256x2048) Product.zero2, View.ld_unit_zero (S := S8x2048) Product.zero2, View.ld_unit_zero (S := S4x1536) Product.zero2]
  rw [q_at]
  exact congrArg (unit · l) (funext fun _ => pay4_at ..)
theorem step6 : out0_6 i x0 x1 x2 x3 x4 (ix2 r ⟨h.val * 128 + l.val, by omega⟩) = unit (fun l => blockAct i x0 x1 x2 r ⟨512 + (h.val * 128 + l.val), by omega⟩) l := by
  unfold out0_6 k0_pay23
  rw [View.canon_unit_zero Product.zero2]
  simp only [View.ld_unit_zero (S := S256x2048) Product.zero2, View.ld_unit_zero (S := S8x2048) Product.zero2, View.ld_unit_zero (S := S4x1536) Product.zero2]
  rw [k_at]
  exact congrArg (unit · l) (funext fun _ => pay4_at ..)
theorem step7 : out0_7 i x0 x1 x2 x3 x4 (ix2 r ⟨h.val * 128 + l.val, by omega⟩) = blockAct i x0 x1 x2 r ⟨1024 + (h.val * 128 + l.val), by omega⟩ := by
  unfold out0_7 k0_pay23
  rw [View.canon_unit_zero Product.zero2]
  simp only [View.ld_unit_zero (S := S256x2048) Product.zero2, View.ld_unit_zero (S := S8x2048) Product.zero2, View.ld_unit_zero (S := S4x1536) Product.zero2]
  rw [v_at]
  exact pay4_at ..
theorem step8 : out0_8 i x0 x1 x2 x3 x4 (ix2 r ⟨h.val * 128 + l.val, by omega⟩) = Ideal.logistic (x0 (ix2 r ⟨1536 + h.val, by omega⟩)) := by
  unfold out0_8
  rw [View.canon_unit_zero Product.zero2]
  simp only [View.ld_unit_zero (S := S256x2048) Product.zero2]
  exact beta_at ..
theorem step9 : out0_9 i x0 x1 x2 x3 x4 (ix2 r ⟨h.val * 128 + l.val, by omega⟩)
    = decay (x3 (ix2 0 ⟨h.val + 4, by omega⟩)) (x0 (ix2 r ⟨1536 + (h.val + 4), by omega⟩) + x4 (ix2 0 ⟨h.val + 4, by omega⟩)) := by
  unfold out0_9
  rw [View.canon_unit_zero Product.zero2]
  simp only [View.ld_unit_zero (S := S256x2048) Product.zero2, View.ld_unit_zero (S := S1x128) Product.zero2]
  exact g_at ..
end

end Cert.Kernel39Ideal.Val
end
-- ==== Proof.Meet39.lean ====
/-
  The inputs of the delta rule: the kernel's five arrays are the reference's.
-/
module

public import proofs.«01_k».proof.Proof.Step39

@[expose] public section

set_option maxRecDepth 16384

noncomputable section

namespace Cert.Kernel39Ideal.Val

open Cert.Kernel39Ideal Cert.Kernel39Ideal.Gen Idealize.ShloMosaic Idealize.ShloMosaic.TcCoe Idealize.SL.Sem Cert.Gating

variable (m : (ℓ : Loc nD τ sig) → Buf (Elt Ideal) ℓ) (c : Dev nD)

abbrev argP : (⟨2, ![8192, 8192]⟩ : Shape).Idx → EReal := m ((c : Thread nD τ).loc main_arg0)
abbrev argW : (⟨2, ![4, 1536]⟩ : Shape).Idx → EReal := m ((c : Thread nD τ).loc main_arg1)
abbrev argA : (⟨1, ![4]⟩ : Shape).Idx → EReal := m ((c : Thread nD τ).loc main_arg2)
abbrev argD : (⟨1, ![4]⟩ : Shape).Idx → EReal := m ((c : Thread nD τ).loc main_arg3)

/-! ## Where the windows stand -/

theorem index_in : ∀ t : Fin cfg0.N, (win0_0.index t 0 = t.val ∧ win0_0.index t 1 = 0) ∧ (win0_1.index t 0 = 32 * t.val - 1 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0) :=
  (by decide +kernel : ∀ t : Fin grid0.N, (win0_0.index t 0 = t.val ∧ win0_0.index t 1 = 0) ∧ (win0_1.index t 0 = 32 * t.val - 1 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0))
theorem index_row : ∀ t : Fin cfg0.N, win0_5.index t 0 = t.val ∧ win0_6.index t 0 = t.val ∧ win0_7.index t 0 = t.val ∧ win0_8.index t 0 = t.val ∧ win0_9.index t 0 = t.val :=
  (by decide +kernel : ∀ t : Fin grid0.N, win0_5.index t 0 = t.val ∧ win0_6.index t 0 = t.val ∧ win0_7.index t 0 = t.val ∧ win0_8.index t 0 = t.val ∧ win0_9.index t 0 = t.val)
theorem index_col : ∀ t : Fin cfg0.N, win0_5.index t 1 = 0 ∧ win0_6.index t 1 = 0 ∧ win0_7.index t 1 = 0 ∧ win0_8.index t 1 = 0 ∧ win0_9.index t 1 = 0 :=
  (by decide +kernel : ∀ t : Fin grid0.N, win0_5.index t 1 = 0 ∧ win0_6.index t 1 = 0 ∧ win0_7.index t 1 = 0 ∧ win0_8.index t 1 = 0 ∧ win0_9.index t 1 = 0)
/-- The program's question whether it is at the first point. -/
theorem first : ∀ t : Fin cfg0.N, Scalar.cmpi CmpIPredicate.eq (BitVec.ofNat 32 (grid0.coords t 0).val) 0#32 = if t.val = 0 then 1#1 else 0#1 :=
  (by decide +kernel : ∀ t : Fin grid0.N, Scalar.cmpi CmpIPredicate.eq (BitVec.ofNat 32 (grid0.coords t 0).val) 0#32 = if t.val = 0 then 1#1 else 0#1)

/-! ## The blocks -/

theorem staged : V m c main_v1 = shapeCast S1x128 (pad S128 ![4] ![120] ![0] (argA m c) (sitofp (F := Ideal) .f32 (constantI S_ 32 0#32)) pads_S4_S128_41200 h_S_) shapeCasts_S128_S1x128
    ∧ V m c main_v3 = shapeCast S1x128 (pad S128 ![4] ![120] ![0] (argD m c) (sitofp (F := Ideal) .f32 (constantI S_ 32 0#32)) pads_S4_S128_41200 h_S_) shapeCasts_S128_S1x128 := by
  unfold V; simp only [hostOps0, hostOps0_1, hostOps0_2, hostOps0_3, hostOps0_4, List.flatten_cons, List.flatten_nil, List.append_nil, List.cons_append, List.nil_append]
  refine ⟨?_, ?_⟩ <;> (after_results; rfl)
/-- The four values stand in columns 4 to 7. -/
theorem padded (x : Vec Ideal S4 .f32) (h : Fin 4) :
    shapeCast S1x128 (pad S128 ![4] ![120] ![0] x (sitofp (F := Ideal) .f32 (constantI S_ 32 0#32)) pads_S4_S128_41200 h_S_) shapeCasts_S128_S1x128 (ix2 0 ⟨h.val + 4, by omega⟩) = x (ix1 h) := by
  pointwise
  rw [dif_pos (by omega)]
  exact congrArg x (congrArg ix1 (Fin.ext (by dsimp only; omega)))

abbrev b0 (t : Fin cfg0.N) : Vec Ideal S256x2048 .f32 := iblk m c 0 t
abbrev b1 (t : Fin cfg0.N) : Vec Ideal S8x2048 .f32 := iblk m c 1 t
abbrev b2 (t : Fin cfg0.N) : Vec Ideal S4x1536 .f32 := iblk m c 2 t
abbrev b3 (t : Fin cfg0.N) : Vec Ideal S1x128 .f32 := iblk m c 3 t
abbrev b4 (t : Fin cfg0.N) : Vec Ideal S1x128 .f32 := iblk m c 4 t

theorem b0_at (t : Fin cfg0.N) (r : Fin 256) (k : Fin 2048) (n : Fin 8192) (h : n.val = 256 * t.val + r.val) :
    b0 m c t (ix2 r k) = argP m c (ix2 n ⟨k.val, by omega⟩) := by
  unfold b0 iblk
  rw [View.read_apply]
  show V m c main_arg0 _ = _
  rw [V_main_arg0]
  refine Product.at2 (argP m c) _ _ _ ?_ ?_
  · show win0_0.index t 0 * 256 + 1 * r.val = n.val; rw [(index_in t).1.1]; omega
  · show win0_0.index t 1 * 2048 + 1 * k.val = k.val; rw [(index_in t).1.2]; omega
/-- The eight rows before the block. -/
theorem b1_at (t : Fin cfg0.N) (ht : t.val ≠ 0) (r : Fin 8) (k : Fin 2048) (n : Fin 8192) (h : n.val + 8 = 256 * t.val + r.val) :
    b1 m c t (ix2 r k) = argP m c (ix2 n ⟨k.val, by omega⟩) := by
  unfold b1 iblk
  rw [View.read_apply]
  show V m c main_arg0 _ = _
  rw [V_main_arg0]
  refine Product.at2 (argP m c) _ _ _ ?_ ?_
  · show win0_1.index t 0 * 8 + 1 * r.val = n.val; rw [(index_in t).2.1.1]; omega
  · show win0_1.index t 1 * 2048 + 1 * k.val = k.val; rw [(index_in t).2.1.2]; omega
theorem b2_at (t : Fin cfg0.N) (r : Fin 4) (k : Fin 1536) : b2 m c t (ix2 r k) = argW m c (ix2 r k) := by
  unfold b2 iblk
  rw [View.read_apply]
  show V m c main_arg1 _ = _
  rw [V_main_arg1]
  refine Product.at2 (argW m c) _ _ _ ?_ ?_
  · show win0_2.index t 0 * 4 + 1 * r.val = r.val; rw [(index_in t).2.2.1.1]; omega
  · show win0_2.index t 1 * 1536 + 1 * k.val = k.val; rw [(index_in t).2.2.1.2]; omega
theorem b3_at (t : Fin cfg0.N) (h : Fin 4) : b3 m c t (ix2 0 ⟨h.val + 4, by omega⟩) = argA m c (ix1 h) := by
  refine Eq.trans ?_ ((congrFun (staged m c).1 _).trans (padded (argA m c) h))
  unfold b3 iblk
  rw [View.read_apply]
  refine Product.at2 (V m c main_v1) _ _ _ ?_ ?_
  · show win0_3.index t 0 * 1 + 1 * 0 = 0; rw [(index_in t).2.2.2.1.1]
  · show win0_3.index t 1 * 128 + 1 * (h.val + 4) = h.val + 4; rw [(index_in t).2.2.2.1.2]; omega
theorem b4_at (t : Fin cfg0.N) (h : Fin 4) : b4 m c t (ix2 0 ⟨h.val + 4, by omega⟩) = argD m c (ix1 h) := by
  refine Eq.trans ?_ ((congrFun (staged m c).2 _).trans (padded (argD m c) h))
  unfold b4 iblk
  rw [View.read_apply]
  refine Product.at2 (V m c main_v3) _ _ _ ?_ ?_
  · show win0_4.index t 0 * 1 + 1 * 0 = 0; rw [(index_in t).2.2.2.2.1]
  · show win0_4.index t 1 * 128 + 1 * (h.val + 4) = h.val + 4; rw [(index_in t).2.2.2.2.2]; omega

/-- Going back from a row of a block goes back from that row of the array. -/
theorem back_eq (t : Fin cfg0.N) (r : Fin 256) (k : Fin 1536) (h : 256 * t.val + r.val < 8192) :
    back (grid0.coords t) (b0 m c t) (b1 m c t) r k = above (argP m c) ⟨256 * t.val + r.val, h⟩ k := by
  funext d
  unfold back above
  by_cases hd : d.val ≤ r.val
  · rw [dif_pos hd, dif_pos (by dsimp only; omega)]
    exact b0_at m c t _ _ _ (by dsimp only; omega)
  · rw [dif_neg hd, first, Cert.ReferenceIdeal.Val.select_ite]
    by_cases ht : t.val = 0
    · rw [if_pos ht, dif_neg (by dsimp only; omega)]
    · rw [if_neg ht, dif_pos (by dsimp only; omega)]
      exact b1_at m c t ht _ _ _ (by dsimp only; omega)
theorem act_eq (t : Fin cfg0.N) (r : Fin 256) (k : Fin 1536) (h : 256 * t.val + r.val < 8192) :
    blockAct (grid0.coords t) (b0 m c t) (b1 m c t) (b2 m c t) r k = act (argP m c) (argW m c) ⟨256 * t.val + r.val, h⟩ k := by
  unfold blockAct act
  rw [back_eq m c t r k h, show (fun n => b2 m c t (ix2 n k)) = fun n => argW m c (ix2 n k) from funext fun n => b2_at m c t n k]

/-! ## The five arrays -/

/-- Two arrays are the same if they agree on each head of each row of each block. -/
theorem by_heads (f g : (⟨2, ![8192, 512]⟩ : Shape).Idx → EReal)
    (e : ∀ (t : Fin cfg0.N) (r : Fin 256) (h : Fin 4) (l : Fin 128) (hr : 256 * t.val + r.val < 8192),
      f (ix2 ⟨256 * t.val + r.val, hr⟩ ⟨h.val * 128 + l.val, by omega⟩) = g (ix2 ⟨256 * t.val + r.val, hr⟩ ⟨h.val * 128 + l.val, by omega⟩)) : f = g := by
  refine Rms.rowTiles 256 32 (by decide) rfl _ _ fun t' r k hr => ?_
  obtain ⟨t, rfl⟩ : ∃ t : Fin cfg0.N, t' = t.cast N_0 := ⟨t'.cast N_0.symm, rfl⟩
  obtain ⟨h, l, rfl⟩ := head_cases k
  exact e t r h l hr
/-- Where a block's entry stands in the array. -/
theorem place {t i j : ℕ} (hi : i = t) (hj : j = 0) (r k : ℕ) : i * 256 + 1 * r = 256 * t + r ∧ j * 512 + 1 * k = k := by subst hi hj; omega

theorem meet5 : Cert.Reference39Ideal.Read.val_main_v41 (F := Ideal) (argP m c) (argW m c) = (dats m 0 c).arrAt 5 cfg0.N := by
  refine by_heads _ _ fun t r h l hr => ?_
  have e := congrFun (Value.blocks5 m c t (flush0_5 t)) (ix2 r ⟨h.val * 128 + l.val, by omega⟩ : S256x512.Idx)
  rw [Value.flushed5 m c t, View.read_apply] at e
  refine (q_ref ..).trans (Eq.symm (Eq.trans (Product.at2 ((dats m 0 c).arrAt 5 cfg0.N) _ _ _ ?_ ?_).symm (e.trans ((step5 ..).trans ?_))))
  · exact (place (index_row t).1 (index_col t).1 r.val (h.val * 128 + l.val)).1
  · exact (place (index_row t).1 (index_col t).1 r.val (h.val * 128 + l.val)).2
  · exact congrArg (unit · l) (funext fun _ => act_eq m c t r _ hr)
theorem meet6 : Cert.Reference39Ideal.Read.val_main_v52 (F := Ideal) (argP m c) (argW m c) = (dats m 0 c).arrAt 6 cfg0.N := by
  refine by_heads _ _ fun t r h l hr => ?_
  have e := congrFun (Value.blocks6 m c t (flush0_6 t)) (ix2 r ⟨h.val * 128 + l.val, by omega⟩ : S256x512.Idx)
  rw [Value.flushed6 m c t, View.read_apply] at e
  refine (k_ref ..).trans (Eq.symm (Eq.trans (Product.at2 ((dats m 0 c).arrAt 6 cfg0.N) _ _ _ ?_ ?_).symm (e.trans ((step6 ..).trans ?_))))
  · exact (place (index_row t).2.1 (index_col t).2.1 r.val (h.val * 128 + l.val)).1
  · exact (place (index_row t).2.1 (index_col t).2.1 r.val (h.val * 128 + l.val)).2
  · exact congrArg (unit · l) (funext fun _ => act_eq m c t r _ hr)
theorem meet7 : Cert.Reference39Ideal.Read.val_main_v70 (F := Ideal) (argP m c) (argW m c) = (dats m 0 c).arrAt 7 cfg0.N := by
  refine by_heads _ _ fun t r h l hr => ?_
  have e := congrFun (Value.blocks7 m c t (flush0_7 t)) (ix2 r ⟨h.val * 128 + l.val, by omega⟩ : S256x512.Idx)
  rw [Value.flushed7 m c t, View.read_apply] at e
  refine (v_ref ..).trans (Eq.symm (Eq.trans (Product.at2 ((dats m 0 c).arrAt 7 cfg0.N) _ _ _ ?_ ?_).symm (e.trans ((step7 ..).trans ?_))))
  · exact (place (index_row t).2.2.1 (index_col t).2.2.1 r.val (h.val * 128 + l.val)).1
  · exact (place (index_row t).2.2.1 (index_col t).2.2.1 r.val (h.val * 128 + l.val)).2
  · exact act_eq m c t r _ hr
theorem meet8 : Cert.Reference39Ideal.Read.val_main_v73 (F := Ideal) (argP m c) = (dats m 0 c).arrAt 8 cfg0.N := by
  refine by_heads _ _ fun t r h l hr => ?_
  have e := congrFun (Value.blocks8 m c t (flush0_8 t)) (ix2 r ⟨h.val * 128 + l.val, by omega⟩ : S256x512.Idx)
  rw [Value.flushed8 m c t, View.read_apply] at e
  refine (beta_ref ..).trans (Eq.symm (Eq.trans (Product.at2 ((dats m 0 c).arrAt 8 cfg0.N) _ _ _ ?_ ?_).symm (e.trans ((step8 ..).trans ?_))))
  · exact (place (index_row t).2.2.2.1 (index_col t).2.2.2.1 r.val (h.val * 128 + l.val)).1
  · exact (place (index_row t).2.2.2.1 (index_col t).2.2.2.1 r.val (h.val * 128 + l.val)).2
  · exact congrArg Ideal.logistic (b0_at m c t r _ _ rfl)
theorem meet9 : Cert.Reference39Ideal.Read.val_main_v76 (F := Ideal) (argP m c) (argA m c) (argD m c) = (dats m 0 c).arrAt 9 cfg0.N := by
  refine by_heads _ _ fun t r h l hr => ?_
  have e := congrFun (Value.blocks9 m c t (flush0_9 t)) (ix2 r ⟨h.val * 128 + l.val, by omega⟩ : S256x512.Idx)
  rw [Value.flushed9 m c t, View.read_apply] at e
  refine (g_ref ..).trans (Eq.symm (Eq.trans (Product.at2 ((dats m 0 c).arrAt 9 cfg0.N) _ _ _ ?_ ?_).symm (e.trans ((step9 ..).trans ?_))))
  · exact (place (index_row t).2.2.2.2 (index_col t).2.2.2.2 r.val (h.val * 128 + l.val)).1
  · exact (place (index_row t).2.2.2.2 (index_col t).2.2.2.2 r.val (h.val * 128 + l.val)).2
  · show decay (b3 m c t (ix2 0 ⟨h.val + 4, by omega⟩)) (b0 m c t (ix2 r ⟨1536 + (h.val + 4), by omega⟩) + b4 m c t (ix2 0 ⟨h.val + 4, by omega⟩)) = _
    rw [b3_at, b4_at, b0_at m c t r _ ⟨256 * t.val + r.val, hr⟩ rfl]
    exact congrArg (fun j => decay (argA m c (ix1 h)) (argP m c (ix2 ⟨256 * t.val + r.val, hr⟩ j) + argD m c (ix1 h))) (Fin.ext (by dsimp only; omega))

theorem same {x0 x0' : (⟨2, ![8192, 8192]⟩ : Shape).Idx → EReal} {x1 x1' : (⟨2, ![4, 1536]⟩ : Shape).Idx → EReal} {x2 x2' x3 x3' : (⟨1, ![4]⟩ : Shape).Idx → EReal}
    (e0 : x0' = x0) (e1 : x1' = x1) (e2 : x2' = x2) (e3 : x3' = x3) :
    Cert.Reference39Ideal.Read.val_main_v41 (F := Ideal) x0' x1' = Cert.Reference39Ideal.Read.val_main_v41 (F := Ideal) x0 x1
    ∧ Cert.Reference39Ideal.Read.val_main_v52 (F := Ideal) x0' x1' = Cert.Reference39Ideal.Read.val_main_v52 (F := Ideal) x0 x1
    ∧ Cert.Reference39Ideal.Read.val_main_v70 (F := Ideal) x0' x1' = Cert.Reference39Ideal.Read.val_main_v70 (F := Ideal) x0 x1
    ∧ Cert.Reference39Ideal.Read.val_main_v73 (F := Ideal) x0' = Cert.Reference39Ideal.Read.val_main_v73 (F := Ideal) x0
    ∧ Cert.Reference39Ideal.Read.val_main_v76 (F := Ideal) x0' x2' x3' = Cert.Reference39Ideal.Read.val_main_v76 (F := Ideal) x0 x2 x3 := by
  subst e0 e1 e2 e3; exact ⟨rfl, rfl, rfl, rfl, rfl⟩

theorem algebraic : Cert.algebraic_Kernel39Ideal_Reference39Ideal (hKernel39Ideal := Cert.Kernel39Ideal.Gen.facts) (hReference39Ideal := Cert.Reference39Ideal.Gen.facts) := by
  intro m g m' g' _ hm
  refine ⟨fun c => (dats m 0 c).arrAt 5 cfg0.N, fun c => (dats m 0 c).arrAt 6 cfg0.N, fun c => (dats m 0 c).arrAt 7 cfg0.N, fun c => (dats m 0 c).arrAt 8 cfg0.N, fun c => (dats m 0 c).arrAt 9 cfg0.N,
    Cert.Kernel39Ideal.Value.run_blocks m g, ?_⟩
  refine (θ_run _ _ _).mono (fun r h c => ?_) (Cert.Reference39Ideal.Value.run m' g')
  obtain ⟨h0, h1, h2, h3, h4, rest⟩ := h c
  obtain ⟨a0, a1, a2, a3⟩ := hm c
  obtain ⟨s0, s1, s2, s3, s4⟩ := same a0 a1 a2 a3
  exact ⟨h0.trans ((Cert.Reference39Ideal.Read.val_main_v41_eq _ _).trans (s0.trans (meet5 m c))),
    h1.trans ((Cert.Reference39Ideal.Read.val_main_v52_eq _ _).trans (s1.trans (meet6 m c))),
    h2.trans ((Cert.Reference39Ideal.Read.val_main_v70_eq _ _).trans (s2.trans (meet7 m c))),
    h3.trans ((Cert.Reference39Ideal.Read.val_main_v73_eq _).trans (s3.trans (meet8 m c))),
    h4.trans ((Cert.Reference39Ideal.Read.val_main_v76_eq _ _ _).trans (s4.trans (meet9 m c))), rest⟩

theorem frame_reference : Cert.quiescent_Reference39Ideal (hReference39Ideal := Cert.Reference39Ideal.Gen.facts) := fun m ρ _ =>
  (θ_run Cert.Reference39Ideal.defs _ _).mono (fun r h => ⟨fun c => (h c).2.2.2.2.2, sem_eq_zero_of_no_sems (by decide) r.2⟩)
    (Cert.Reference39Ideal.Value.run (F := Ideal) m ρ)

end Cert.Kernel39Ideal.Val
end
-- ==== Proof.Sum40.lean ====
/-
  The four chips' gradients added up: the kernel's array is the reference's.
-/
module

public import proofs.«01_k».proof.Defs
public import proofs.«01_k».proof.Proof.Rms
public import proofs.«01_k».proof.Proof.Gen.Kernel40Ideal.Value
public import proofs.«01_k».proof.Proof.Gen.Reference40Ideal.Run
public import proofs.«01_k».proof.Proof.Gen.Reference40Ideal.Read
public import Idealize.ShloMosaic.Lib.KernelVsHost

@[expose] public section

set_option maxRecDepth 16384

noncomputable section

namespace Cert.Kernel40Ideal.Val

open Cert.Kernel40Ideal Cert.Kernel40Ideal.Gen Idealize.ShloMosaic Idealize.ShloMosaic.TcCoe Idealize.SL.Sem Cert.Gating

variable (m : (ℓ : Loc nD τ sig) → Buf (Elt Ideal) ℓ) (c : Dev nD)

abbrev argX : (⟨3, ![4, 9760, 1024]⟩ : Shape).Idx → EReal := m ((c : Thread nD τ).loc main_arg0)

/-- Every window goes down the rows with the grid point, -/
theorem index_row : ∀ t : Fin cfg0.N, win0_0.index t 0 = t.val ∧ win0_1.index t 0 = t.val ∧ win0_2.index t 0 = t.val ∧ win0_3.index t 0 = t.val ∧ win0_4.index t 0 = t.val :=
  (by decide +kernel : ∀ t : Fin grid0.N, win0_0.index t 0 = t.val ∧ win0_1.index t 0 = t.val ∧ win0_2.index t 0 = t.val ∧ win0_3.index t 0 = t.val ∧ win0_4.index t 0 = t.val)
/-- over all the columns. -/
theorem index_col : ∀ t : Fin cfg0.N, win0_0.index t 1 = 0 ∧ win0_1.index t 1 = 0 ∧ win0_2.index t 1 = 0 ∧ win0_3.index t 1 = 0 ∧ win0_4.index t 1 = 0 :=
  (by decide +kernel : ∀ t : Fin grid0.N, win0_0.index t 1 = 0 ∧ win0_1.index t 1 = 0 ∧ win0_2.index t 1 = 0 ∧ win0_3.index t 1 = 0 ∧ win0_4.index t 1 = 0)

/-- The array of each window is one chip's part of the argument. -/
theorem V_at (r : Fin 9760) (k : Fin 1024) : V m c main_v1 (ix2 r k) = argX m c (ix3 0 r k) ∧ V m c main_v3 (ix2 r k) = argX m c (ix3 1 r k)
    ∧ V m c main_v5 (ix2 r k) = argX m c (ix3 2 r k) ∧ V m c main_v7 (ix2 r k) = argX m c (ix3 3 r k) := by
  have e1 : V m c main_v1 = shapeCast S9760x1024 (extractStridedSlice S1x9760x1024 ![0, 0, 0] (argX m c) slices_S4x9760x1024_S1x9760x1024_0_0_0) shapeCasts_S1x9760x1024_S9760x1024 := by
    unfold V; simp only [hostOps0, List.flatten_cons, List.flatten_nil, List.append_nil, List.cons_append, List.nil_append]
    after_results; rfl
  have e3 : V m c main_v3 = shapeCast S9760x1024 (extractStridedSlice S1x9760x1024 ![1, 0, 0] (argX m c) slices_S4x9760x1024_S1x9760x1024_1_0_0) shapeCasts_S1x9760x1024_S9760x1024 := by
    unfold V; simp only [hostOps0, List.flatten_cons, List.flatten_nil, List.append_nil, List.cons_append, List.nil_append]
    after_results; rfl
  have e5 : V m c main_v5 = shapeCast S9760x1024 (extractStridedSlice S1x9760x1024 ![2, 0, 0] (argX m c) slices_S4x9760x1024_S1x9760x1024_2_0_0) shapeCasts_S1x9760x1024_S9760x1024 := by
    unfold V; simp only [hostOps0, List.flatten_cons, List.flatten_nil, List.append_nil, List.cons_append, List.nil_append]
    after_results; rfl
  have e7 : V m c main_v7 = shapeCast S9760x1024 (extractStridedSlice S1x9760x1024 ![3, 0, 0] (argX m c) slices_S4x9760x1024_S1x9760x1024_3_0_0) shapeCasts_S1x9760x1024_S9760x1024 := by
    unfold V; simp only [hostOps0, List.flatten_cons, List.flatten_nil, List.append_nil, List.cons_append, List.nil_append]
    after_results; rfl
  rw [e1, e3, e5, e7]
  refine ⟨?_, ?_, ?_, ?_⟩ <;> pointwise

abbrev b0 (t : Fin cfg0.N) : Vec Ideal S160x1024 .bf16 := iblk m c 0 t
abbrev b1 (t : Fin cfg0.N) : Vec Ideal S160x1024 .bf16 := iblk m c 1 t
abbrev b2 (t : Fin cfg0.N) : Vec Ideal S160x1024 .bf16 := iblk m c 2 t
abbrev b3 (t : Fin cfg0.N) : Vec Ideal S160x1024 .bf16 := iblk m c 3 t

/-- Where a block's entry stands in the array. -/
theorem place {t i j : ℕ} (hi : i = t) (hj : j = 0) (r k : ℕ) : i * 160 + 1 * r = 160 * t + r ∧ j * 1024 + 1 * k = k := by subst hi hj; omega

theorem b0_at (t : Fin cfg0.N) (r : Fin 160) (k : Fin 1024) (h : 160 * t.val + r.val < 9760) : b0 m c t (ix2 r k) = V m c main_v1 (ix2 ⟨160 * t.val + r.val, h⟩ k) := by
  unfold b0 iblk
  rw [View.read_apply]
  exact Product.at2 (V m c main_v1) _ _ _ (place (index_row t).1 (index_col t).1 r.val k.val).1 (place (index_row t).1 (index_col t).1 r.val k.val).2
theorem b1_at (t : Fin cfg0.N) (r : Fin 160) (k : Fin 1024) (h : 160 * t.val + r.val < 9760) : b1 m c t (ix2 r k) = V m c main_v3 (ix2 ⟨160 * t.val + r.val, h⟩ k) := by
  unfold b1 iblk
  rw [View.read_apply]
  exact Product.at2 (V m c main_v3) _ _ _ (place (index_row t).2.1 (index_col t).2.1 r.val k.val).1 (place (index_row t).2.1 (index_col t).2.1 r.val k.val).2
theorem b2_at (t : Fin cfg0.N) (r : Fin 160) (k : Fin 1024) (h : 160 * t.val + r.val < 9760) : b2 m c t (ix2 r k) = V m c main_v5 (ix2 ⟨160 * t.val + r.val, h⟩ k) := by
  unfold b2 iblk
  rw [View.read_apply]
  exact Product.at2 (V m c main_v5) _ _ _ (place (index_row t).2.2.1 (index_col t).2.2.1 r.val k.val).1 (place (index_row t).2.2.1 (index_col t).2.2.1 r.val k.val).2
theorem b3_at (t : Fin cfg0.N) (r : Fin 160) (k : Fin 1024) (h : 160 * t.val + r.val < 9760) : b3 m c t (ix2 r k) = V m c main_v7 (ix2 ⟨160 * t.val + r.val, h⟩ k) := by
  unfold b3 iblk
  rw [View.read_apply]
  exact Product.at2 (V m c main_v7) _ _ _ (place (index_row t).2.2.2.1 (index_col t).2.2.2.1 r.val k.val).1 (place (index_row t).2.2.2.1 (index_col t).2.2.2.1 r.val k.val).2

theorem step_at (x0 x1 x2 x3 : Vec Ideal S160x1024 .bf16) (r : Fin 160) (k : Fin 1024) :
    out0_4 x0 x1 x2 x3 (ix2 r k) = ((x0 (ix2 r k) + x1 (ix2 r k)) + x2 (ix2 r k)) + x3 (ix2 r k) := by
  unfold out0_4
  rw [View.canon_unit_zero Product.zero2]
  simp only [View.ld_unit_zero (S := S160x1024) Product.zero2]
  pointwise [k0_pay1]

theorem reference_at (x : (⟨3, ![4, 9760, 1024]⟩ : Shape).Idx → EReal) (r : Fin 9760) (k : Fin 1024) :
    Cert.Reference40Ideal.Read.val_main_v1 (F := Ideal) x (ix2 r k) = ((x (ix3 0 r k) + x (ix3 1 r k)) + x (ix3 2 r k)) + x (ix3 3 r k) := by
  open Cert.Reference40Ideal.Read in
  pointwise [val_main_v1, val_main_v0, val_main_cst]
  exact Fin.sum_univ_four _

theorem meet : Cert.Reference40Ideal.Read.val_main_v1 (F := Ideal) (argX m c) = (dats m 0 c).arrAt 4 cfg0.N := by
  refine Rms.rowTiles 160 61 (by decide) rfl _ _ fun t' r k hr => ?_
  obtain ⟨t, rfl⟩ : ∃ t : Fin cfg0.N, t' = t.cast N_0 := ⟨t'.cast N_0.symm, rfl⟩
  have e := congrFun (Value.blocks4 m c t (flush0_4 t)) (ix2 r k : S160x1024.Idx)
  rw [Value.flushed4 m c t, View.read_apply] at e
  obtain ⟨v0, v1, v2, v3⟩ := V_at m c ⟨160 * t.val + r.val, hr⟩ k
  refine (reference_at ..).trans (Eq.symm (Eq.trans (Product.at2 ((dats m 0 c).arrAt 4 cfg0.N) _ _ _ ?_ ?_).symm (e.trans ((step_at ..).trans ?_))))
  · exact (place (index_row t).2.2.2.2 (index_col t).2.2.2.2 r.val k.val).1
  · exact (place (index_row t).2.2.2.2 (index_col t).2.2.2.2 r.val k.val).2
  · show ((b0 m c t (ix2 r k) + b1 m c t (ix2 r k)) + b2 m c t (ix2 r k)) + b3 m c t (ix2 r k) = _
    rw [b0_at m c t r k hr, b1_at m c t r k hr, b2_at m c t r k hr, b3_at m c t r k hr, v0, v1, v2, v3]; rfl

theorem same {x x' : (⟨3, ![4, 9760, 1024]⟩ : Shape).Idx → EReal} (e : x' = x) :
    Cert.Reference40Ideal.Read.val_main_v1 (F := Ideal) x' = Cert.Reference40Ideal.Read.val_main_v1 (F := Ideal) x := by subst e; rfl

theorem algebraic : Cert.algebraic_Kernel40Ideal_Reference40Ideal (hKernel40Ideal := Cert.Kernel40Ideal.Gen.facts) (hReference40Ideal := Cert.Reference40Ideal.Gen.facts) := by
  intro m g m' g' _ hm
  refine ⟨fun c => (dats m 0 c).arrAt 4 cfg0.N, Cert.Kernel40Ideal.Value.run_blocks m g, ?_⟩
  refine (θ_run _ _ _).mono (fun r h c => ?_) (Cert.Reference40Ideal.Value.run m' g')
  obtain ⟨h0, rest⟩ := h c
  exact ⟨h0.trans ((Cert.Reference40Ideal.Read.val_main_v1_eq _).trans ((same (hm c)).trans (meet m c))), rest⟩

theorem frame_reference : Cert.quiescent_Reference40Ideal (hReference40Ideal := Cert.Reference40Ideal.Gen.facts) := fun m ρ _ =>
  (θ_run Cert.Reference40Ideal.defs _ _).mono (fun r h => ⟨fun c => (h c).2, sem_eq_zero_of_no_sems (by decide) r.2⟩)
    (Cert.Reference40Ideal.Value.run (F := Ideal) m ρ)

end Cert.Kernel40Ideal.Val
end
-- ==== Proof.lean ====
/-
  The claims about the gating gradient's kernel, about the products of the layer, forward and backward, about the norms and the merge, forward and
  backward, about the loss and about AdamW: the programs run to the end, leave their arguments unchanged and
  every semaphore counter at zero; each ideal kernel is its kernel's own text; and kernel and reference leave equal arrays.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel32
public import proofs.«01_k».proof.Proof.Gen.Kernel32.Frame
public import proofs.«01_k».proof.Proof.Gen.Kernel32Ideal
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import proofs.«01_k».proof.Proof.Gen.Kernel33
public import proofs.«01_k».proof.Proof.Gen.Kernel33.Frame
public import proofs.«01_k».proof.Proof.Gen.Kernel33Ideal
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import proofs.«01_k».proof.Proof.Gen.Kernel34
public import proofs.«01_k».proof.Proof.Gen.Kernel34.Frame
public import proofs.«01_k».proof.Proof.Gen.Kernel34Ideal
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Reference34Ideal.Read
public import proofs.«01_k».proof.Proof.Gen.Kernel35
public import proofs.«01_k».proof.Proof.Gen.Kernel35.Frame
public import proofs.«01_k».proof.Proof.Gen.Kernel35Ideal
public import proofs.«01_k».proof.Proof.Gen.Kernel35Ideal.Frame
public import proofs.«01_k».proof.Proof.Gen.Kernel35Ideal.Value
public import proofs.«01_k».proof.Proof.Gen.Reference35Ideal
public import proofs.«01_k».proof.Proof.Gen.Reference35Ideal.Run
public import proofs.«01_k».proof.Proof.Gen.Reference35Ideal.Read
public import proofs.«01_k».proof.Proof.Gen.Kernel36
public import proofs.«01_k».proof.Proof.Gen.Kernel36.Frame
public import proofs.«01_k».proof.Proof.Gen.Kernel36Ideal
public import proofs.«01_k».proof.Proof.Gen.Kernel36Ideal.Frame
public import proofs.«01_k».proof.Proof.Gen.Kernel36Ideal.Value
public import proofs.«01_k».proof.Proof.Gen.Reference36Ideal
public import proofs.«01_k».proof.Proof.Gen.Reference36Ideal.Run
public import proofs.«01_k».proof.Proof.Gen.Reference36Ideal.Read
public import proofs.«01_k».proof.Proof.Gen.Kernel37
public import proofs.«01_k».proof.Proof.Gen.Kernel37.Frame
public import proofs.«01_k».proof.Proof.Gen.Kernel37Ideal
public import proofs.«01_k».proof.Proof.Gen.Kernel37Ideal.Frame
public import proofs.«01_k».proof.Proof.Gen.Kernel37Ideal.Value
public import proofs.«01_k».proof.Proof.Gen.Reference37Ideal
public import proofs.«01_k».proof.Proof.Gen.Reference37Ideal.Run
public import proofs.«01_k».proof.Proof.Gen.Reference37Ideal.Read
public import proofs.«01_k».proof.Proof.Gen.Kernel38
public import proofs.«01_k».proof.Proof.Gen.Kernel38.Frame
public import proofs.«01_k».proof.Proof.Gen.Kernel38Ideal
public import proofs.«01_k».proof.Proof.Gen.Kernel38Ideal.Frame
public import proofs.«01_k».proof.Proof.Gen.Kernel38Ideal.Value
public import proofs.«01_k».proof.Proof.Gen.Reference38Ideal
public import proofs.«01_k».proof.Proof.Gen.Reference38Ideal.Run
public import proofs.«01_k».proof.Proof.Gen.Reference38Ideal.Read
public import proofs.«01_k».proof.Proof.Gen.Kernel39
public import proofs.«01_k».proof.Proof.Gen.Kernel39.Frame
public import proofs.«01_k».proof.Proof.Gen.Kernel39Ideal
public import proofs.«01_k».proof.Proof.Gen.Kernel39Ideal.Frame
public import proofs.«01_k».proof.Proof.Gen.Kernel39Ideal.Value
public import proofs.«01_k».proof.Proof.Gen.Reference39Ideal
public import proofs.«01_k».proof.Proof.Gen.Reference39Ideal.Run
public import proofs.«01_k».proof.Proof.Gen.Reference39Ideal.Read
public import proofs.«01_k».proof.Proof.Gen.Kernel40
public import proofs.«01_k».proof.Proof.Gen.Kernel40.Frame
public import proofs.«01_k».proof.Proof.Gen.Kernel40Ideal
public import proofs.«01_k».proof.Proof.Gen.Kernel40Ideal.Frame
public import proofs.«01_k».proof.Proof.Gen.Kernel40Ideal.Value
public import proofs.«01_k».proof.Proof.Gen.Reference40Ideal
public import proofs.«01_k».proof.Proof.Gen.Reference40Ideal.Run
public import proofs.«01_k».proof.Proof.Gen.Reference40Ideal.Read
public import proofs.«01_k».proof.Proof.Meet
public import proofs.«01_k».proof.Proof.Mm2
public import proofs.«01_k».proof.Proof.Mm3
public import proofs.«01_k».proof.Proof.Mm4
public import proofs.«01_k».proof.Proof.Mm5
public import proofs.«01_k».proof.Proof.Mm6
public import proofs.«01_k».proof.Proof.Mm7
public import proofs.«01_k».proof.Proof.Mm8
public import proofs.«01_k».proof.Proof.Mm9
public import proofs.«01_k».proof.Proof.Mm10
public import proofs.«01_k».proof.Proof.Mm11
public import proofs.«01_k».proof.Proof.Mm12
public import proofs.«01_k».proof.Proof.Mm13
public import proofs.«01_k».proof.Proof.Mm14
public import proofs.«01_k».proof.Proof.Mm15
public import proofs.«01_k».proof.Proof.Mm16
public import proofs.«01_k».proof.Proof.Norm17
public import proofs.«01_k».proof.Proof.Norm18
public import proofs.«01_k».proof.Proof.Merge19
public import proofs.«01_k».proof.Proof.Head20
public import proofs.«01_k».proof.Proof.Norm21
public import proofs.«01_k».proof.Proof.Norm22
public import proofs.«01_k».proof.Proof.Merge23
public import proofs.«01_k».proof.Proof.Head24
public import proofs.«01_k».proof.Proof.Loss25
public import proofs.«01_k».proof.Proof.Adam26
public import proofs.«01_k».proof.Proof.Adam27
public import proofs.«01_k».proof.Proof.Adam28
public import proofs.«01_k».proof.Proof.Adam29
public import proofs.«01_k».proof.Proof.Adam30
public import proofs.«01_k».proof.Proof.Adam31
public import proofs.«01_k».proof.Proof.Adam32
public import proofs.«01_k».proof.Proof.Adam33
public import proofs.«01_k».proof.Proof.Adam34
public import proofs.«01_k».proof.Proof.Adam35
public import proofs.«01_k».proof.Proof.Adam36
public import proofs.«01_k».proof.Proof.Adam37
public import proofs.«01_k».proof.Proof.Gmlp38
public import proofs.«01_k».proof.Proof.Meet39
public import proofs.«01_k».proof.Proof.Sum40
public import Idealize.ShloMosaic.Adequacy
public import Idealize.ShloMosaic.Init

@[expose] public section

noncomputable section

namespace Cert.Proof

open Idealize.ShloMosaic Idealize.SL.Sem

/-- The reference's frame: its run, with the values dropped. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Kernel37.Gen.facts, Cert.Kernel37Ideal.Gen.facts, Cert.Reference37Ideal.Gen.facts,
    Cert.Kernel38.Gen.facts, Cert.Kernel38Ideal.Gen.facts, Cert.Reference38Ideal.Gen.facts,
    Cert.Kernel39.Gen.facts, Cert.Kernel39Ideal.Gen.facts, Cert.Reference39Ideal.Gen.facts,
    Cert.Kernel40.Gen.facts, Cert.Kernel40Ideal.Gen.facts, Cert.Reference40Ideal.Gen.facts,
    fun m ρ _ => Cert.Kernel.Gen.frame m ρ, fun m ρ _ => Cert.KernelIdeal.Gen.frame m ρ, frame_reference,
    fun m ρ _ => Cert.Kernel2.Gen.frame m ρ, fun m ρ _ => Cert.Kernel2Ideal.Gen.frame m ρ, Cert.Kernel2Ideal.Val.frame_reference,
    fun m ρ _ => Cert.Kernel3.Gen.frame m ρ, fun m ρ _ => Cert.Kernel3Ideal.Gen.frame m ρ, Cert.Kernel3Ideal.Val.frame_reference,
    fun m ρ _ => Cert.Kernel4.Gen.frame m ρ, fun m ρ _ => Cert.Kernel4Ideal.Gen.frame m ρ, Cert.Kernel4Ideal.Val.frame_reference,
    fun m ρ _ => Cert.Kernel5.Gen.frame m ρ, fun m ρ _ => Cert.Kernel5Ideal.Gen.frame m ρ, Cert.Kernel5Ideal.Val.frame_reference,
    fun m ρ _ => Cert.Kernel6.Gen.frame m ρ, fun m ρ _ => Cert.Kernel6Ideal.Gen.frame m ρ, Cert.Kernel6Ideal.Val.frame_reference,
    fun m ρ _ => Cert.Kernel7.Gen.frame m ρ, fun m ρ _ => Cert.Kernel7Ideal.Gen.frame m ρ, Cert.Kernel7Ideal.Val.frame_reference,
    fun m ρ _ => Cert.Kernel8.Gen.frame m ρ, fun m ρ _ => Cert.Kernel8Ideal.Gen.frame m ρ, Cert.Kernel8Ideal.Val.frame_reference,
    fun m ρ _ => Cert.Kernel9.Gen.frame m ρ, fun m ρ _ => Cert.Kernel9Ideal.Gen.frame m ρ, Cert.Kernel9Ideal.Val.frame_reference,
    fun m ρ _ => Cert.Kernel10.Gen.frame m ρ, fun m ρ _ => Cert.Kernel10Ideal.Gen.frame m ρ, Cert.Kernel10Ideal.Val.frame_reference,
    fun m ρ _ => Cert.Kernel11.Gen.frame m ρ, fun m ρ _ => Cert.Kernel11Ideal.Gen.frame m ρ, Cert.Kernel11Ideal.Val.frame_reference,
    fun m ρ _ => Cert.Kernel12.Gen.frame m ρ, fun m ρ _ => Cert.Kernel12Ideal.Gen.frame m ρ, Cert.Kernel12Ideal.Val.frame_reference,
    fun m ρ _ => Cert.Kernel13.Gen.frame m ρ, fun m ρ _ => Cert.Kernel13Ideal.Gen.frame m ρ, Cert.Kernel13Ideal.Val.frame_reference,
    fun m ρ _ => Cert.Kernel14.Gen.frame m ρ, fun m ρ _ => Cert.Kernel14Ideal.Gen.frame m ρ, Cert.Kernel14Ideal.Val.frame_reference,
    fun m ρ _ => Cert.Kernel15.Gen.frame m ρ, fun m ρ _ => Cert.Kernel15Ideal.Gen.frame m ρ, Cert.Kernel15Ideal.Val.frame_reference,
    fun m ρ _ => Cert.Kernel16.Gen.frame m ρ, fun m ρ _ => Cert.Kernel16Ideal.Gen.frame m ρ, Cert.Kernel16Ideal.Val.frame_reference,
    fun m ρ _ => Cert.Kernel17.Gen.frame m ρ, fun m ρ _ => Cert.Kernel17Ideal.Gen.frame m ρ, Cert.Kernel17Ideal.Val.frame_reference,
    fun m ρ _ => Cert.Kernel18.Gen.frame m ρ, fun m ρ _ => Cert.Kernel18Ideal.Gen.frame m ρ, Cert.Kernel18Ideal.Val.frame_reference,
    fun m ρ _ => Cert.Kernel19.Gen.frame m ρ, fun m ρ _ => Cert.Kernel19Ideal.Gen.frame m ρ, Cert.Kernel19Ideal.Val.frame_reference,
    fun m ρ _ => Cert.Kernel20.Gen.frame m ρ, fun m ρ _ => Cert.Kernel20Ideal.Gen.frame m ρ, Cert.Kernel20Ideal.Val.frame_reference,
    fun m ρ _ => Cert.Kernel21.Gen.frame m ρ, fun m ρ _ => Cert.Kernel21Ideal.Gen.frame m ρ, Cert.Kernel21Ideal.Val.frame_reference,
    fun m ρ _ => Cert.Kernel22.Gen.frame m ρ, fun m ρ _ => Cert.Kernel22Ideal.Gen.frame m ρ, Cert.Kernel22Ideal.Val.frame_reference,
    fun m ρ _ => Cert.Kernel23.Gen.frame m ρ, fun m ρ _ => Cert.Kernel23Ideal.Gen.frame m ρ, Cert.Kernel23Ideal.Val.frame_reference,
    fun m ρ _ => Cert.Kernel24.Gen.frame m ρ, fun m ρ _ => Cert.Kernel24Ideal.Gen.frame m ρ, Cert.Kernel24Ideal.Val.frame_reference,
    fun m ρ _ => Cert.Kernel25.Gen.frame m ρ, fun m ρ _ => Cert.Kernel25Ideal.Gen.frame m ρ, Cert.Kernel25Ideal.Val.frame_reference,
    fun m ρ _ => Cert.Kernel26.Gen.frame m ρ, fun m ρ _ => Cert.Kernel26Ideal.Gen.frame m ρ, Cert.Kernel26Ideal.Val.frame_reference,
    fun m ρ _ => Cert.Kernel27.Gen.frame m ρ, fun m ρ _ => Cert.Kernel27Ideal.Gen.frame m ρ, Cert.Kernel27Ideal.Val.frame_reference,
    fun m ρ _ => Cert.Kernel28.Gen.frame m ρ, fun m ρ _ => Cert.Kernel28Ideal.Gen.frame m ρ, Cert.Kernel28Ideal.Val.frame_reference,
    fun m ρ _ => Cert.Kernel29.Gen.frame m ρ, fun m ρ _ => Cert.Kernel29Ideal.Gen.frame m ρ, Cert.Kernel29Ideal.Val.frame_reference,
    fun m ρ _ => Cert.Kernel30.Gen.frame m ρ, fun m ρ _ => Cert.Kernel30Ideal.Gen.frame m ρ, Cert.Kernel30Ideal.Val.frame_reference,
    fun m ρ _ => Cert.Kernel31.Gen.frame m ρ, fun m ρ _ => Cert.Kernel31Ideal.Gen.frame m ρ, Cert.Kernel31Ideal.Val.frame_reference,
    fun m ρ _ => Cert.Kernel32.Gen.frame m ρ, fun m ρ _ => Cert.Kernel32Ideal.Gen.frame m ρ, Cert.Kernel32Ideal.Val.frame_reference,
    fun m ρ _ => Cert.Kernel33.Gen.frame m ρ, fun m ρ _ => Cert.Kernel33Ideal.Gen.frame m ρ, Cert.Kernel33Ideal.Val.frame_reference,
    fun m ρ _ => Cert.Kernel34.Gen.frame m ρ, fun m ρ _ => Cert.Kernel34Ideal.Gen.frame m ρ, Cert.Kernel34Ideal.Val.frame_reference,
    fun m ρ _ => Cert.Kernel35.Gen.frame m ρ, fun m ρ _ => Cert.Kernel35Ideal.Gen.frame m ρ, Cert.Kernel35Ideal.Val.frame_reference,
    fun m ρ _ => Cert.Kernel36.Gen.frame m ρ, fun m ρ _ => Cert.Kernel36Ideal.Gen.frame m ρ, Cert.Kernel36Ideal.Val.frame_reference,
    fun m ρ _ => Cert.Kernel37.Gen.frame m ρ, fun m ρ _ => Cert.Kernel37Ideal.Gen.frame m ρ, Cert.Kernel37Ideal.Val.frame_reference,
    fun m ρ _ => Cert.Kernel38.Gen.frame m ρ, fun m ρ _ => Cert.Kernel38Ideal.Gen.frame m ρ, Cert.Kernel38Ideal.Val.frame_reference,
    fun m ρ _ => Cert.Kernel39.Gen.frame m ρ, fun m ρ _ => Cert.Kernel39Ideal.Gen.frame m ρ, Cert.Kernel39Ideal.Val.frame_reference,
    fun m ρ _ => Cert.Kernel40.Gen.frame m ρ, fun m ρ _ => Cert.Kernel40Ideal.Gen.frame m ρ, Cert.Kernel40Ideal.Val.frame_reference,
    trivial, Cert.Meet.algebraic, trivial, Cert.Kernel2Ideal.Val.algebraic, trivial, Cert.Kernel3Ideal.Val.algebraic, trivial, Cert.Kernel4Ideal.Val.algebraic, trivial, Cert.Kernel5Ideal.Val.algebraic, trivial, Cert.Kernel6Ideal.Val.algebraic, trivial, Cert.Kernel7Ideal.Val.algebraic, trivial, Cert.Kernel8Ideal.Val.algebraic, trivial, Cert.Kernel9Ideal.Val.algebraic, trivial, Cert.Kernel10Ideal.Val.algebraic, trivial, Cert.Kernel11Ideal.Val.algebraic, trivial, Cert.Kernel12Ideal.Val.algebraic, trivial, Cert.Kernel13Ideal.Val.algebraic, trivial, Cert.Kernel14Ideal.Val.algebraic, trivial, Cert.Kernel15Ideal.Val.algebraic, trivial, Cert.Kernel16Ideal.Val.algebraic,
    trivial, Cert.Kernel17Ideal.Val.algebraic,
    trivial, Cert.Kernel18Ideal.Val.algebraic,
    trivial, Cert.Kernel19Ideal.Val.algebraic,
    trivial, Cert.Kernel20Ideal.Val.algebraic,
    trivial, Cert.Kernel21Ideal.Val.algebraic,
    trivial, Cert.Kernel22Ideal.Val.algebraic,
    trivial, Cert.Kernel23Ideal.Val.algebraic,
    trivial, Cert.Kernel24Ideal.Val.algebraic,
    trivial, Cert.Kernel25Ideal.Val.algebraic,
    trivial, Cert.Kernel26Ideal.Val.algebraic,
    trivial, Cert.Kernel27Ideal.Val.algebraic,
    trivial, Cert.Kernel28Ideal.Val.algebraic,
    trivial, Cert.Kernel29Ideal.Val.algebraic,
    trivial, Cert.Kernel30Ideal.Val.algebraic,
    trivial, Cert.Kernel31Ideal.Val.algebraic,
    trivial, Cert.Kernel32Ideal.Val.algebraic,
    trivial, Cert.Kernel33Ideal.Val.algebraic,
    trivial, Cert.Kernel34Ideal.Val.algebraic,
    trivial, Cert.Kernel35Ideal.Val.algebraic,
    trivial, Cert.Kernel36Ideal.Val.algebraic,
    trivial, Cert.Kernel37Ideal.Val.algebraic,
    trivial, Cert.Kernel38Ideal.Val.algebraic,
    trivial, Cert.Kernel39Ideal.Val.algebraic,
    trivial, Cert.Kernel40Ideal.Val.algebraic⟩

end Cert.Proof

end
